-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDaKernel (m : (ℓ : Loc Cert.UpDaKernel.nD Cert.UpDaKernel.τ Cert.UpDaKernel.sig) → Buf (Elt Bits) ℓ) : Prop :=
  True

def Pre_UpDaKernelIdeal (m : (ℓ : Loc Cert.UpDaKernelIdeal.nD Cert.UpDaKernelIdeal.τ Cert.UpDaKernelIdeal.sig) → Buf (Elt Ideal) ℓ) : Prop :=
  True

def Pre_UpDaReferenceIdeal (m : (ℓ : Loc Cert.UpDaReferenceIdeal.nD Cert.UpDaReferenceIdeal.τ Cert.UpDaReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDaKernel (m : (ℓ : Loc Cert.DownDaKernel.nD Cert.DownDaKernel.τ Cert.DownDaKernel.sig) → Buf (Elt Bits) ℓ) : Prop :=
  True

def Pre_DownDaKernelIdeal (m : (ℓ : Loc Cert.DownDaKernelIdeal.nD Cert.DownDaKernelIdeal.τ Cert.DownDaKernelIdeal.sig) → Buf (Elt Ideal) ℓ) : Prop :=
  True

def Pre_DownDaReferenceIdeal (m : (ℓ : Loc Cert.DownDaReferenceIdeal.nD Cert.DownDaReferenceIdeal.τ Cert.DownDaReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDaKernel (m : (ℓ : Loc Cert.InDaKernel.nD Cert.InDaKernel.τ Cert.InDaKernel.sig) → Buf (Elt Bits) ℓ) : Prop :=
  True

def Pre_InDaKernelIdeal (m : (ℓ : Loc Cert.InDaKernelIdeal.nD Cert.InDaKernelIdeal.τ Cert.InDaKernelIdeal.sig) → Buf (Elt Ideal) ℓ) : Prop :=
  True

def Pre_InDaReferenceIdeal (m : (ℓ : Loc Cert.InDaReferenceIdeal.nD Cert.InDaReferenceIdeal.τ Cert.InDaReferenceIdeal.sig) → Buf (Elt Ideal) ℓ) : Prop :=
  True

def Pre_GatherKernel (m : (ℓ : Loc Cert.GatherKernel.nD Cert.GatherKernel.τ Cert.GatherKernel.sig) → Buf (Elt Bits) ℓ) : Prop :=
  True

def Pre_GatherKernelIdeal (m : (ℓ : Loc Cert.GatherKernelIdeal.nD Cert.GatherKernelIdeal.τ Cert.GatherKernelIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_ScatterKernel (m : (ℓ : Loc Cert.ScatterKernel.nD Cert.ScatterKernel.τ Cert.ScatterKernel.sig) → Buf (Elt Bits) ℓ) : Prop :=
  True

def Pre_ScatterKernelIdeal (m : (ℓ : Loc Cert.ScatterKernelIdeal.nD Cert.ScatterKernelIdeal.τ Cert.ScatterKernelIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_ScanUpKernel (m : (ℓ : Loc Cert.ScanUpKernel.nD Cert.ScanUpKernel.τ Cert.ScanUpKernel.sig) → Buf (Elt Bits) ℓ) : Prop :=
  True

def Pre_ScanUpKernelIdeal (m : (ℓ : Loc Cert.ScanUpKernelIdeal.nD Cert.ScanUpKernelIdeal.τ Cert.ScanUpKernelIdeal.sig) → Buf (Elt Ideal) ℓ) : Prop :=
  True

def Pre_ScanUpReferenceIdeal (m : (ℓ : Loc Cert.ScanUpReferenceIdeal.nD Cert.ScanUpReferenceIdeal.τ Cert.ScanUpReferenceIdeal.sig) → Buf (Elt Ideal) ℓ) : Prop :=
  True

def Pre_ScanDownKernel (m : (ℓ : Loc Cert.ScanDownKernel.nD Cert.ScanDownKernel.τ Cert.ScanDownKernel.sig) → Buf (Elt Bits) ℓ) : Prop :=
  True

def Pre_ScanDownKernelIdeal (m : (ℓ : Loc Cert.ScanDownKernelIdeal.nD Cert.ScanDownKernelIdeal.τ Cert.ScanDownKernelIdeal.sig) → Buf (Elt Ideal) ℓ) : Prop :=
  True

def Pre_ScanDownReferenceIdeal (m : (ℓ : Loc Cert.ScanDownReferenceIdeal.nD Cert.ScanDownReferenceIdeal.τ Cert.ScanDownReferenceIdeal.sig) → Buf (Elt Ideal) ℓ) : Prop :=
  True

def Pre_BackUpKernel (m : (ℓ : Loc Cert.BackUpKernel.nD Cert.BackUpKernel.τ Cert.BackUpKernel.sig) → Buf (Elt Bits) ℓ) : Prop :=
  True

def Pre_BackUpKernelIdeal (m : (ℓ : Loc Cert.BackUpKernelIdeal.nD Cert.BackUpKernelIdeal.τ Cert.BackUpKernelIdeal.sig) → Buf (Elt Ideal) ℓ) : Prop :=
  True

def Pre_BackUpReferenceIdeal (m : (ℓ : Loc Cert.BackUpReferenceIdeal.nD Cert.BackUpReferenceIdeal.τ Cert.BackUpReferenceIdeal.sig) → Buf (Elt Ideal) ℓ) : Prop :=
  True

def Pre_BackDownKernel (m : (ℓ : Loc Cert.BackDownKernel.nD Cert.BackDownKernel.τ Cert.BackDownKernel.sig) → Buf (Elt Bits) ℓ) : Prop :=
  True

def Pre_BackDownKernelIdeal (m : (ℓ : Loc Cert.BackDownKernelIdeal.nD Cert.BackDownKernelIdeal.τ Cert.BackDownKernelIdeal.sig) → Buf (Elt Ideal) ℓ) : Prop :=
  True

def Pre_BackDownReferenceIdeal (m : (ℓ : Loc Cert.BackDownReferenceIdeal.nD Cert.BackDownReferenceIdeal.τ Cert.BackDownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1)
      ∧ r.2.mem ((c.tc : Thread Cert.UpDwKernel.nD Cert.UpDwKernel.τ).loc Cert.UpDwKernel.main_arg2) = m ((c.tc : Thread Cert.UpDwKernel.nD Cert.UpDwKernel.τ).loc Cert.UpDwKernel.main_arg2))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
      ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_UpDaKernel [hUpDaKernel : Cert.UpDaKernel.Facts] : Prop :=
  ∀ (m : (ℓ : Loc Cert.UpDaKernel.nD Cert.UpDaKernel.τ Cert.UpDaKernel.sig) → Buf (Elt Bits) ℓ) (g : Dev Cert.UpDaKernel.nD → PrngReg), Pre_UpDaKernel m →
    θ_run (Cert.UpDaKernel.defs (F := Bits)) (onTc (τ := Cert.UpDaKernel.τ) (Cert.UpDaKernel.main (F := Bits))) ⟨m, fun _ => 0, g⟩ (fun r => (∀ c : Dev Cert.UpDaKernel.nD,
      r.2.mem ((c.tc : Thread Cert.UpDaKernel.nD Cert.UpDaKernel.τ).loc Cert.UpDaKernel.main_arg0) = m ((c.tc : Thread Cert.UpDaKernel.nD Cert.UpDaKernel.τ).loc Cert.UpDaKernel.main_arg0)
      ∧ r.2.mem ((c.tc : Thread Cert.UpDaKernel.nD Cert.UpDaKernel.τ).loc Cert.UpDaKernel.main_arg1) = m ((c.tc : Thread Cert.UpDaKernel.nD Cert.UpDaKernel.τ).loc Cert.UpDaKernel.main_arg1)
      ∧ r.2.mem ((c.tc : Thread Cert.UpDaKernel.nD Cert.UpDaKernel.τ).loc Cert.UpDaKernel.main_arg2) = m ((c.tc : Thread Cert.UpDaKernel.nD Cert.UpDaKernel.τ).loc Cert.UpDaKernel.main_arg2))
      ∧ r.2.sem = fun _ => 0)

def quiescent_UpDaKernelIdeal [hUpDaKernelIdeal : Cert.UpDaKernelIdeal.Facts] : Prop :=
  ∀ (m : (ℓ : Loc Cert.UpDaKernelIdeal.nD Cert.UpDaKernelIdeal.τ Cert.UpDaKernelIdeal.sig) → Buf (Elt Ideal) ℓ) (g : Dev Cert.UpDaKernelIdeal.nD → PrngReg), Pre_UpDaKernelIdeal m →
    θ_run (Cert.UpDaKernelIdeal.defs (F := Ideal)) (onTc (τ := Cert.UpDaKernelIdeal.τ) (Cert.UpDaKernelIdeal.main (F := Ideal))) ⟨m, fun _ => 0, g⟩ (fun r => (∀ c : Dev Cert.UpDaKernelIdeal.nD,
      r.2.mem ((c.tc : Thread Cert.UpDaKernelIdeal.nD Cert.UpDaKernelIdeal.τ).loc Cert.UpDaKernelIdeal.main_arg0) = m ((c.tc : Thread Cert.UpDaKernelIdeal.nD Cert.UpDaKernelIdeal.τ).loc Cert.UpDaKernelIdeal.main_arg0)
      ∧ r.2.mem ((c.tc : Thread Cert.UpDaKernelIdeal.nD Cert.UpDaKernelIdeal.τ).loc Cert.UpDaKernelIdeal.main_arg1) = m ((c.tc : Thread Cert.UpDaKernelIdeal.nD Cert.UpDaKernelIdeal.τ).loc Cert.UpDaKernelIdeal.main_arg1)
      ∧ r.2.mem ((c.tc : Thread Cert.UpDaKernelIdeal.nD Cert.UpDaKernelIdeal.τ).loc Cert.UpDaKernelIdeal.main_arg2) = m ((c.tc : Thread Cert.UpDaKernelIdeal.nD Cert.UpDaKernelIdeal.τ).loc Cert.UpDaKernelIdeal.main_arg2))
      ∧ r.2.sem = fun _ => 0)

def quiescent_UpDaReferenceIdeal [hUpDaReferenceIdeal : Cert.UpDaReferenceIdeal.Facts] : Prop :=
  ∀ (m : (ℓ : Loc Cert.UpDaReferenceIdeal.nD Cert.UpDaReferenceIdeal.τ Cert.UpDaReferenceIdeal.sig) → Buf (Elt Ideal) ℓ) (g : Dev Cert.UpDaReferenceIdeal.nD → PrngReg), Pre_UpDaReferenceIdeal m →
    θ_run (Cert.UpDaReferenceIdeal.defs (F := Ideal)) (onTc (τ := Cert.UpDaReferenceIdeal.τ) (Cert.UpDaReferenceIdeal.main (F := Ideal))) ⟨m, fun _ => 0, g⟩ (fun r => (∀ c : Dev Cert.UpDaReferenceIdeal.nD,
      r.2.mem ((c.tc : Thread Cert.UpDaReferenceIdeal.nD Cert.UpDaReferenceIdeal.τ).loc Cert.UpDaReferenceIdeal.main_arg0) = m ((c.tc : Thread Cert.UpDaReferenceIdeal.nD Cert.UpDaReferenceIdeal.τ).loc Cert.UpDaReferenceIdeal.main_arg0)
      ∧ r.2.mem ((c.tc : Thread Cert.UpDaReferenceIdeal.nD Cert.UpDaReferenceIdeal.τ).loc Cert.UpDaReferenceIdeal.main_arg1) = m ((c.tc : Thread Cert.UpDaReferenceIdeal.nD Cert.UpDaReferenceIdeal.τ).loc Cert.UpDaReferenceIdeal.main_arg1)
      ∧ r.2.mem ((c.tc : Thread Cert.UpDaReferenceIdeal.nD Cert.UpDaReferenceIdeal.τ).loc Cert.UpDaReferenceIdeal.main_arg2) = m ((c.tc : Thread Cert.UpDaReferenceIdeal.nD Cert.UpDaReferenceIdeal.τ).loc Cert.UpDaReferenceIdeal.main_arg2))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1)
      ∧ r.2.mem ((c.tc : Thread Cert.DownDwKernel.nD Cert.DownDwKernel.τ).loc Cert.DownDwKernel.main_arg2) = m ((c.tc : Thread Cert.DownDwKernel.nD Cert.DownDwKernel.τ).loc Cert.DownDwKernel.main_arg2))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
      ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_DownDaKernel [hDownDaKernel : Cert.DownDaKernel.Facts] : Prop :=
  ∀ (m : (ℓ : Loc Cert.DownDaKernel.nD Cert.DownDaKernel.τ Cert.DownDaKernel.sig) → Buf (Elt Bits) ℓ) (g : Dev Cert.DownDaKernel.nD → PrngReg), Pre_DownDaKernel m →
    θ_run (Cert.DownDaKernel.defs (F := Bits)) (onTc (τ := Cert.DownDaKernel.τ) (Cert.DownDaKernel.main (F := Bits))) ⟨m, fun _ => 0, g⟩ (fun r => (∀ c : Dev Cert.DownDaKernel.nD,
      r.2.mem ((c.tc : Thread Cert.DownDaKernel.nD Cert.DownDaKernel.τ).loc Cert.DownDaKernel.main_arg0) = m ((c.tc : Thread Cert.DownDaKernel.nD Cert.DownDaKernel.τ).loc Cert.DownDaKernel.main_arg0)
      ∧ r.2.mem ((c.tc : Thread Cert.DownDaKernel.nD Cert.DownDaKernel.τ).loc Cert.DownDaKernel.main_arg1) = m ((c.tc : Thread Cert.DownDaKernel.nD Cert.DownDaKernel.τ).loc Cert.DownDaKernel.main_arg1)
      ∧ r.2.mem ((c.tc : Thread Cert.DownDaKernel.nD Cert.DownDaKernel.τ).loc Cert.DownDaKernel.main_arg2) = m ((c.tc : Thread Cert.DownDaKernel.nD Cert.DownDaKernel.τ).loc Cert.DownDaKernel.main_arg2))
      ∧ r.2.sem = fun _ => 0)

def quiescent_DownDaKernelIdeal [hDownDaKernelIdeal : Cert.DownDaKernelIdeal.Facts] : Prop :=
  ∀ (m : (ℓ : Loc Cert.DownDaKernelIdeal.nD Cert.DownDaKernelIdeal.τ Cert.DownDaKernelIdeal.sig) → Buf (Elt Ideal) ℓ) (g : Dev Cert.DownDaKernelIdeal.nD → PrngReg), Pre_DownDaKernelIdeal m →
    θ_run (Cert.DownDaKernelIdeal.defs (F := Ideal)) (onTc (τ := Cert.DownDaKernelIdeal.τ) (Cert.DownDaKernelIdeal.main (F := Ideal))) ⟨m, fun _ => 0, g⟩ (fun r => (∀ c : Dev Cert.DownDaKernelIdeal.nD,
      r.2.mem ((c.tc : Thread Cert.DownDaKernelIdeal.nD Cert.DownDaKernelIdeal.τ).loc Cert.DownDaKernelIdeal.main_arg0) = m ((c.tc : Thread Cert.DownDaKernelIdeal.nD Cert.DownDaKernelIdeal.τ).loc Cert.DownDaKernelIdeal.main_arg0)
      ∧ r.2.mem ((c.tc : Thread Cert.DownDaKernelIdeal.nD Cert.DownDaKernelIdeal.τ).loc Cert.DownDaKernelIdeal.main_arg1) = m ((c.tc : Thread Cert.DownDaKernelIdeal.nD Cert.DownDaKernelIdeal.τ).loc Cert.DownDaKernelIdeal.main_arg1)
      ∧ r.2.mem ((c.tc : Thread Cert.DownDaKernelIdeal.nD Cert.DownDaKernelIdeal.τ).loc Cert.DownDaKernelIdeal.main_arg2) = m ((c.tc : Thread Cert.DownDaKernelIdeal.nD Cert.DownDaKernelIdeal.τ).loc Cert.DownDaKernelIdeal.main_arg2))
      ∧ r.2.sem = fun _ => 0)

def quiescent_DownDaReferenceIdeal [hDownDaReferenceIdeal : Cert.DownDaReferenceIdeal.Facts] : Prop :=
  ∀ (m : (ℓ : Loc Cert.DownDaReferenceIdeal.nD Cert.DownDaReferenceIdeal.τ Cert.DownDaReferenceIdeal.sig) → Buf (Elt Ideal) ℓ) (g : Dev Cert.DownDaReferenceIdeal.nD → PrngReg), Pre_DownDaReferenceIdeal m →
    θ_run (Cert.DownDaReferenceIdeal.defs (F := Ideal)) (onTc (τ := Cert.DownDaReferenceIdeal.τ) (Cert.DownDaReferenceIdeal.main (F := Ideal))) ⟨m, fun _ => 0, g⟩ (fun r => (∀ c : Dev Cert.DownDaReferenceIdeal.nD,
      r.2.mem ((c.tc : Thread Cert.DownDaReferenceIdeal.nD Cert.DownDaReferenceIdeal.τ).loc Cert.DownDaReferenceIdeal.main_arg0) = m ((c.tc : Thread Cert.DownDaReferenceIdeal.nD Cert.DownDaReferenceIdeal.τ).loc Cert.DownDaReferenceIdeal.main_arg0)
      ∧ r.2.mem ((c.tc : Thread Cert.DownDaReferenceIdeal.nD Cert.DownDaReferenceIdeal.τ).loc Cert.DownDaReferenceIdeal.main_arg1) = m ((c.tc : Thread Cert.DownDaReferenceIdeal.nD Cert.DownDaReferenceIdeal.τ).loc Cert.DownDaReferenceIdeal.main_arg1)
      ∧ r.2.mem ((c.tc : Thread Cert.DownDaReferenceIdeal.nD Cert.DownDaReferenceIdeal.τ).loc Cert.DownDaReferenceIdeal.main_arg2) = m ((c.tc : Thread Cert.DownDaReferenceIdeal.nD Cert.DownDaReferenceIdeal.τ).loc Cert.DownDaReferenceIdeal.main_arg2))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1)
      ∧ r.2.mem ((c.tc : Thread Cert.InDwKernel.nD Cert.InDwKernel.τ).loc Cert.InDwKernel.main_arg2) = m ((c.tc : Thread Cert.InDwKernel.nD Cert.InDwKernel.τ).loc Cert.InDwKernel.main_arg2))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1)
      ∧ r.2.mem ((c.tc : Thread Cert.InDwKernelIdeal.nD Cert.InDwKernelIdeal.τ).loc Cert.InDwKernelIdeal.main_arg2) = m ((c.tc : Thread Cert.InDwKernelIdeal.nD Cert.InDwKernelIdeal.τ).loc Cert.InDwKernelIdeal.main_arg2))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2))
      ∧ r.2.sem = fun _ => 0)

def quiescent_InDaKernel [hInDaKernel : Cert.InDaKernel.Facts] : Prop :=
  ∀ (m : (ℓ : Loc Cert.InDaKernel.nD Cert.InDaKernel.τ Cert.InDaKernel.sig) → Buf (Elt Bits) ℓ) (g : Dev Cert.InDaKernel.nD → PrngReg), Pre_InDaKernel m →
    θ_run (Cert.InDaKernel.defs (F := Bits)) (onTc (τ := Cert.InDaKernel.τ) (Cert.InDaKernel.main (F := Bits))) ⟨m, fun _ => 0, g⟩ (fun r => (∀ c : Dev Cert.InDaKernel.nD,
      r.2.mem ((c.tc : Thread Cert.InDaKernel.nD Cert.InDaKernel.τ).loc Cert.InDaKernel.main_arg0) = m ((c.tc : Thread Cert.InDaKernel.nD Cert.InDaKernel.τ).loc Cert.InDaKernel.main_arg0)
      ∧ r.2.mem ((c.tc : Thread Cert.InDaKernel.nD Cert.InDaKernel.τ).loc Cert.InDaKernel.main_arg1) = m ((c.tc : Thread Cert.InDaKernel.nD Cert.InDaKernel.τ).loc Cert.InDaKernel.main_arg1)
      ∧ r.2.mem ((c.tc : Thread Cert.InDaKernel.nD Cert.InDaKernel.τ).loc Cert.InDaKernel.main_arg2) = m ((c.tc : Thread Cert.InDaKernel.nD Cert.InDaKernel.τ).loc Cert.InDaKernel.main_arg2))
      ∧ r.2.sem = fun _ => 0)

def quiescent_InDaKernelIdeal [hInDaKernelIdeal : Cert.InDaKernelIdeal.Facts] : Prop :=
  ∀ (m : (ℓ : Loc Cert.InDaKernelIdeal.nD Cert.InDaKernelIdeal.τ Cert.InDaKernelIdeal.sig) → Buf (Elt Ideal) ℓ) (g : Dev Cert.InDaKernelIdeal.nD → PrngReg), Pre_InDaKernelIdeal m →
    θ_run (Cert.InDaKernelIdeal.defs (F := Ideal)) (onTc (τ := Cert.InDaKernelIdeal.τ) (Cert.InDaKernelIdeal.main (F := Ideal))) ⟨m, fun _ => 0, g⟩ (fun r => (∀ c : Dev Cert.InDaKernelIdeal.nD,
      r.2.mem ((c.tc : Thread Cert.InDaKernelIdeal.nD Cert.InDaKernelIdeal.τ).loc Cert.InDaKernelIdeal.main_arg0) = m ((c.tc : Thread Cert.InDaKernelIdeal.nD Cert.InDaKernelIdeal.τ).loc Cert.InDaKernelIdeal.main_arg0)
      ∧ r.2.mem ((c.tc : Thread Cert.InDaKernelIdeal.nD Cert.InDaKernelIdeal.τ).loc Cert.InDaKernelIdeal.main_arg1) = m ((c.tc : Thread Cert.InDaKernelIdeal.nD Cert.InDaKernelIdeal.τ).loc Cert.InDaKernelIdeal.main_arg1)
      ∧ r.2.mem ((c.tc : Thread Cert.InDaKernelIdeal.nD Cert.InDaKernelIdeal.τ).loc Cert.InDaKernelIdeal.main_arg2) = m ((c.tc : Thread Cert.InDaKernelIdeal.nD Cert.InDaKernelIdeal.τ).loc Cert.InDaKernelIdeal.main_arg2))
      ∧ r.2.sem = fun _ => 0)

def quiescent_InDaReferenceIdeal [hInDaReferenceIdeal : Cert.InDaReferenceIdeal.Facts] : Prop :=
  ∀ (m : (ℓ : Loc Cert.InDaReferenceIdeal.nD Cert.InDaReferenceIdeal.τ Cert.InDaReferenceIdeal.sig) → Buf (Elt Ideal) ℓ) (g : Dev Cert.InDaReferenceIdeal.nD → PrngReg), Pre_InDaReferenceIdeal m →
    θ_run (Cert.InDaReferenceIdeal.defs (F := Ideal)) (onTc (τ := Cert.InDaReferenceIdeal.τ) (Cert.InDaReferenceIdeal.main (F := Ideal))) ⟨m, fun _ => 0, g⟩ (fun r => (∀ c : Dev Cert.InDaReferenceIdeal.nD,
      r.2.mem ((c.tc : Thread Cert.InDaReferenceIdeal.nD Cert.InDaReferenceIdeal.τ).loc Cert.InDaReferenceIdeal.main_arg0) = m ((c.tc : Thread Cert.InDaReferenceIdeal.nD Cert.InDaReferenceIdeal.τ).loc Cert.InDaReferenceIdeal.main_arg0)
      ∧ r.2.mem ((c.tc : Thread Cert.InDaReferenceIdeal.nD Cert.InDaReferenceIdeal.τ).loc Cert.InDaReferenceIdeal.main_arg1) = m ((c.tc : Thread Cert.InDaReferenceIdeal.nD Cert.InDaReferenceIdeal.τ).loc Cert.InDaReferenceIdeal.main_arg1)
      ∧ r.2.mem ((c.tc : Thread Cert.InDaReferenceIdeal.nD Cert.InDaReferenceIdeal.τ).loc Cert.InDaReferenceIdeal.main_arg2) = m ((c.tc : Thread Cert.InDaReferenceIdeal.nD Cert.InDaReferenceIdeal.τ).loc Cert.InDaReferenceIdeal.main_arg2))
      ∧ r.2.sem = fun _ => 0)

def quiescent_GatherKernel [hGatherKernel : Cert.GatherKernel.Facts] : Prop :=
  ∀ (m : (ℓ : Loc Cert.GatherKernel.nD Cert.GatherKernel.τ Cert.GatherKernel.sig) → Buf (Elt Bits) ℓ) (g : Dev Cert.GatherKernel.nD → PrngReg), Pre_GatherKernel m →
    θ_run (Cert.GatherKernel.defs (F := Bits)) (onTc (τ := Cert.GatherKernel.τ) (Cert.GatherKernel.main (F := Bits))) ⟨m, fun _ => 0, g⟩ (fun r => (∀ c : Dev Cert.GatherKernel.nD,
      r.2.mem ((c.tc : Thread Cert.GatherKernel.nD Cert.GatherKernel.τ).loc Cert.GatherKernel.main_arg0) = m ((c.tc : Thread Cert.GatherKernel.nD Cert.GatherKernel.τ).loc Cert.GatherKernel.main_arg0))
      ∧ r.2.sem = fun _ => 0)

def quiescent_GatherKernelIdeal [hGatherKernelIdeal : Cert.GatherKernelIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg), Pre_GatherKernelIdeal m →
    θ_run (Cert.GatherKernelIdeal.defs (F := Ideal)) (onTc (τ := Cert.GatherKernelIdeal.τ) (Cert.GatherKernelIdeal.main (F := Ideal))) ⟨m, fun _ => 0, g⟩ (fun r => (∀ c : Dev Cert.GatherKernelIdeal.nD,
      r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_ScatterKernel [hScatterKernel : Cert.ScatterKernel.Facts] : Prop :=
  ∀ (m : (ℓ : Loc Cert.ScatterKernel.nD Cert.ScatterKernel.τ Cert.ScatterKernel.sig) → Buf (Elt Bits) ℓ) (g : Dev Cert.ScatterKernel.nD → PrngReg), Pre_ScatterKernel m →
    θ_run (Cert.ScatterKernel.defs (F := Bits)) (onTc (τ := Cert.ScatterKernel.τ) (Cert.ScatterKernel.main (F := Bits))) ⟨m, fun _ => 0, g⟩ (fun r => (∀ c : Dev Cert.ScatterKernel.nD,
      r.2.mem ((c.tc : Thread Cert.ScatterKernel.nD Cert.ScatterKernel.τ).loc Cert.ScatterKernel.main_arg0) = m ((c.tc : Thread Cert.ScatterKernel.nD Cert.ScatterKernel.τ).loc Cert.ScatterKernel.main_arg0))
      ∧ r.2.sem = fun _ => 0)

def quiescent_ScatterKernelIdeal [hScatterKernelIdeal : Cert.ScatterKernelIdeal.Facts] : Prop :=
  ∀ (m : (ℓ : Loc Cert.ScatterKernelIdeal.nD Cert.ScatterKernelIdeal.τ Cert.ScatterKernelIdeal.sig) → Buf (Elt Ideal) ℓ) (g : Dev Cert.ScatterKernelIdeal.nD → PrngReg), Pre_ScatterKernelIdeal m →
    θ_run (Cert.ScatterKernelIdeal.defs (F := Ideal)) (onTc (τ := Cert.ScatterKernelIdeal.τ) (Cert.ScatterKernelIdeal.main (F := Ideal))) ⟨m, fun _ => 0, g⟩ (fun r => (∀ c : Dev Cert.ScatterKernelIdeal.nD,
      r.2.mem ((c.tc : Thread Cert.ScatterKernelIdeal.nD Cert.ScatterKernelIdeal.τ).loc Cert.ScatterKernelIdeal.main_arg0) = m ((c.tc : Thread Cert.ScatterKernelIdeal.nD Cert.ScatterKernelIdeal.τ).loc Cert.ScatterKernelIdeal.main_arg0))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_ScanUpKernel [hScanUpKernel : Cert.ScanUpKernel.Facts] : Prop :=
  ∀ (m : (ℓ : Loc Cert.ScanUpKernel.nD Cert.ScanUpKernel.τ Cert.ScanUpKernel.sig) → Buf (Elt Bits) ℓ) (g : Dev Cert.ScanUpKernel.nD → PrngReg), Pre_ScanUpKernel m →
    θ_run (Cert.ScanUpKernel.defs (F := Bits)) (onTc (τ := Cert.ScanUpKernel.τ) (Cert.ScanUpKernel.main (F := Bits))) ⟨m, fun _ => 0, g⟩ (fun r => (∀ c : Dev Cert.ScanUpKernel.nD,
      r.2.mem ((c.tc : Thread Cert.ScanUpKernel.nD Cert.ScanUpKernel.τ).loc Cert.ScanUpKernel.main_arg0) = m ((c.tc : Thread Cert.ScanUpKernel.nD Cert.ScanUpKernel.τ).loc Cert.ScanUpKernel.main_arg0)
      ∧ r.2.mem ((c.tc : Thread Cert.ScanUpKernel.nD Cert.ScanUpKernel.τ).loc Cert.ScanUpKernel.main_arg1) = m ((c.tc : Thread Cert.ScanUpKernel.nD Cert.ScanUpKernel.τ).loc Cert.ScanUpKernel.main_arg1)
      ∧ r.2.mem ((c.tc : Thread Cert.ScanUpKernel.nD Cert.ScanUpKernel.τ).loc Cert.ScanUpKernel.main_arg2) = m ((c.tc : Thread Cert.ScanUpKernel.nD Cert.ScanUpKernel.τ).loc Cert.ScanUpKernel.main_arg2)
      ∧ r.2.mem ((c.tc : Thread Cert.ScanUpKernel.nD Cert.ScanUpKernel.τ).loc Cert.ScanUpKernel.main_arg3) = m ((c.tc : Thread Cert.ScanUpKernel.nD Cert.ScanUpKernel.τ).loc Cert.ScanUpKernel.main_arg3)
      ∧ r.2.mem ((c.tc : Thread Cert.ScanUpKernel.nD Cert.ScanUpKernel.τ).loc Cert.ScanUpKernel.main_arg4) = m ((c.tc : Thread Cert.ScanUpKernel.nD Cert.ScanUpKernel.τ).loc Cert.ScanUpKernel.main_arg4)
      ∧ r.2.mem ((c.tc : Thread Cert.ScanUpKernel.nD Cert.ScanUpKernel.τ).loc Cert.ScanUpKernel.main_arg5) = m ((c.tc : Thread Cert.ScanUpKernel.nD Cert.ScanUpKernel.τ).loc Cert.ScanUpKernel.main_arg5)
      ∧ r.2.mem ((c.tc : Thread Cert.ScanUpKernel.nD Cert.ScanUpKernel.τ).loc Cert.ScanUpKernel.main_arg6) = m ((c.tc : Thread Cert.ScanUpKernel.nD Cert.ScanUpKernel.τ).loc Cert.ScanUpKernel.main_arg6)
      ∧ r.2.mem ((c.tc : Thread Cert.ScanUpKernel.nD Cert.ScanUpKernel.τ).loc Cert.ScanUpKernel.main_arg7) = m ((c.tc : Thread Cert.ScanUpKernel.nD Cert.ScanUpKernel.τ).loc Cert.ScanUpKernel.main_arg7))
      ∧ r.2.sem = fun _ => 0)

def quiescent_ScanUpKernelIdeal [hScanUpKernelIdeal : Cert.ScanUpKernelIdeal.Facts] : Prop :=
  ∀ (m : (ℓ : Loc Cert.ScanUpKernelIdeal.nD Cert.ScanUpKernelIdeal.τ Cert.ScanUpKernelIdeal.sig) → Buf (Elt Ideal) ℓ) (g : Dev Cert.ScanUpKernelIdeal.nD → PrngReg), Pre_ScanUpKernelIdeal m →
    θ_run (Cert.ScanUpKernelIdeal.defs (F := Ideal)) (onTc (τ := Cert.ScanUpKernelIdeal.τ) (Cert.ScanUpKernelIdeal.main (F := Ideal))) ⟨m, fun _ => 0, g⟩ (fun r => (∀ c : Dev Cert.ScanUpKernelIdeal.nD,
      r.2.mem ((c.tc : Thread Cert.ScanUpKernelIdeal.nD Cert.ScanUpKernelIdeal.τ).loc Cert.ScanUpKernelIdeal.main_arg0) = m ((c.tc : Thread Cert.ScanUpKernelIdeal.nD Cert.ScanUpKernelIdeal.τ).loc Cert.ScanUpKernelIdeal.main_arg0)
      ∧ r.2.mem ((c.tc : Thread Cert.ScanUpKernelIdeal.nD Cert.ScanUpKernelIdeal.τ).loc Cert.ScanUpKernelIdeal.main_arg1) = m ((c.tc : Thread Cert.ScanUpKernelIdeal.nD Cert.ScanUpKernelIdeal.τ).loc Cert.ScanUpKernelIdeal.main_arg1)
      ∧ r.2.mem ((c.tc : Thread Cert.ScanUpKernelIdeal.nD Cert.ScanUpKernelIdeal.τ).loc Cert.ScanUpKernelIdeal.main_arg2) = m ((c.tc : Thread Cert.ScanUpKernelIdeal.nD Cert.ScanUpKernelIdeal.τ).loc Cert.ScanUpKernelIdeal.main_arg2)
      ∧ r.2.mem ((c.tc : Thread Cert.ScanUpKernelIdeal.nD Cert.ScanUpKernelIdeal.τ).loc Cert.ScanUpKernelIdeal.main_arg3) = m ((c.tc : Thread Cert.ScanUpKernelIdeal.nD Cert.ScanUpKernelIdeal.τ).loc Cert.ScanUpKernelIdeal.main_arg3)
      ∧ r.2.mem ((c.tc : Thread Cert.ScanUpKernelIdeal.nD Cert.ScanUpKernelIdeal.τ).loc Cert.ScanUpKernelIdeal.main_arg4) = m ((c.tc : Thread Cert.ScanUpKernelIdeal.nD Cert.ScanUpKernelIdeal.τ).loc Cert.ScanUpKernelIdeal.main_arg4)
      ∧ r.2.mem ((c.tc : Thread Cert.ScanUpKernelIdeal.nD Cert.ScanUpKernelIdeal.τ).loc Cert.ScanUpKernelIdeal.main_arg5) = m ((c.tc : Thread Cert.ScanUpKernelIdeal.nD Cert.ScanUpKernelIdeal.τ).loc Cert.ScanUpKernelIdeal.main_arg5)
      ∧ r.2.mem ((c.tc : Thread Cert.ScanUpKernelIdeal.nD Cert.ScanUpKernelIdeal.τ).loc Cert.ScanUpKernelIdeal.main_arg6) = m ((c.tc : Thread Cert.ScanUpKernelIdeal.nD Cert.ScanUpKernelIdeal.τ).loc Cert.ScanUpKernelIdeal.main_arg6)
      ∧ r.2.mem ((c.tc : Thread Cert.ScanUpKernelIdeal.nD Cert.ScanUpKernelIdeal.τ).loc Cert.ScanUpKernelIdeal.main_arg7) = m ((c.tc : Thread Cert.ScanUpKernelIdeal.nD Cert.ScanUpKernelIdeal.τ).loc Cert.ScanUpKernelIdeal.main_arg7))
      ∧ r.2.sem = fun _ => 0)

def quiescent_ScanUpReferenceIdeal [hScanUpReferenceIdeal : Cert.ScanUpReferenceIdeal.Facts] : Prop :=
  ∀ (m : (ℓ : Loc Cert.ScanUpReferenceIdeal.nD Cert.ScanUpReferenceIdeal.τ Cert.ScanUpReferenceIdeal.sig) → Buf (Elt Ideal) ℓ) (g : Dev Cert.ScanUpReferenceIdeal.nD → PrngReg), Pre_ScanUpReferenceIdeal m →
    θ_run (Cert.ScanUpReferenceIdeal.defs (F := Ideal)) (onTc (τ := Cert.ScanUpReferenceIdeal.τ) (Cert.ScanUpReferenceIdeal.main (F := Ideal))) ⟨m, fun _ => 0, g⟩ (fun r => (∀ c : Dev Cert.ScanUpReferenceIdeal.nD,
      r.2.mem ((c.tc : Thread Cert.ScanUpReferenceIdeal.nD Cert.ScanUpReferenceIdeal.τ).loc Cert.ScanUpReferenceIdeal.main_arg0) = m ((c.tc : Thread Cert.ScanUpReferenceIdeal.nD Cert.ScanUpReferenceIdeal.τ).loc Cert.ScanUpReferenceIdeal.main_arg0)
      ∧ r.2.mem ((c.tc : Thread Cert.ScanUpReferenceIdeal.nD Cert.ScanUpReferenceIdeal.τ).loc Cert.ScanUpReferenceIdeal.main_arg1) = m ((c.tc : Thread Cert.ScanUpReferenceIdeal.nD Cert.ScanUpReferenceIdeal.τ).loc Cert.ScanUpReferenceIdeal.main_arg1)
      ∧ r.2.mem ((c.tc : Thread Cert.ScanUpReferenceIdeal.nD Cert.ScanUpReferenceIdeal.τ).loc Cert.ScanUpReferenceIdeal.main_arg2) = m ((c.tc : Thread Cert.ScanUpReferenceIdeal.nD Cert.ScanUpReferenceIdeal.τ).loc Cert.ScanUpReferenceIdeal.main_arg2)
      ∧ r.2.mem ((c.tc : Thread Cert.ScanUpReferenceIdeal.nD Cert.ScanUpReferenceIdeal.τ).loc Cert.ScanUpReferenceIdeal.main_arg3) = m ((c.tc : Thread Cert.ScanUpReferenceIdeal.nD Cert.ScanUpReferenceIdeal.τ).loc Cert.ScanUpReferenceIdeal.main_arg3)
      ∧ r.2.mem ((c.tc : Thread Cert.ScanUpReferenceIdeal.nD Cert.ScanUpReferenceIdeal.τ).loc Cert.ScanUpReferenceIdeal.main_arg4) = m ((c.tc : Thread Cert.ScanUpReferenceIdeal.nD Cert.ScanUpReferenceIdeal.τ).loc Cert.ScanUpReferenceIdeal.main_arg4)
      ∧ r.2.mem ((c.tc : Thread Cert.ScanUpReferenceIdeal.nD Cert.ScanUpReferenceIdeal.τ).loc Cert.ScanUpReferenceIdeal.main_arg5) = m ((c.tc : Thread Cert.ScanUpReferenceIdeal.nD Cert.ScanUpReferenceIdeal.τ).loc Cert.ScanUpReferenceIdeal.main_arg5)
      ∧ r.2.mem ((c.tc : Thread Cert.ScanUpReferenceIdeal.nD Cert.ScanUpReferenceIdeal.τ).loc Cert.ScanUpReferenceIdeal.main_arg6) = m ((c.tc : Thread Cert.ScanUpReferenceIdeal.nD Cert.ScanUpReferenceIdeal.τ).loc Cert.ScanUpReferenceIdeal.main_arg6)
      ∧ r.2.mem ((c.tc : Thread Cert.ScanUpReferenceIdeal.nD Cert.ScanUpReferenceIdeal.τ).loc Cert.ScanUpReferenceIdeal.main_arg7) = m ((c.tc : Thread Cert.ScanUpReferenceIdeal.nD Cert.ScanUpReferenceIdeal.τ).loc Cert.ScanUpReferenceIdeal.main_arg7))
      ∧ r.2.sem = fun _ => 0)

def quiescent_ScanDownKernel [hScanDownKernel : Cert.ScanDownKernel.Facts] : Prop :=
  ∀ (m : (ℓ : Loc Cert.ScanDownKernel.nD Cert.ScanDownKernel.τ Cert.ScanDownKernel.sig) → Buf (Elt Bits) ℓ) (g : Dev Cert.ScanDownKernel.nD → PrngReg), Pre_ScanDownKernel m →
    θ_run (Cert.ScanDownKernel.defs (F := Bits)) (onTc (τ := Cert.ScanDownKernel.τ) (Cert.ScanDownKernel.main (F := Bits))) ⟨m, fun _ => 0, g⟩ (fun r => (∀ c : Dev Cert.ScanDownKernel.nD,
      r.2.mem ((c.tc : Thread Cert.ScanDownKernel.nD Cert.ScanDownKernel.τ).loc Cert.ScanDownKernel.main_arg0) = m ((c.tc : Thread Cert.ScanDownKernel.nD Cert.ScanDownKernel.τ).loc Cert.ScanDownKernel.main_arg0)
      ∧ r.2.mem ((c.tc : Thread Cert.ScanDownKernel.nD Cert.ScanDownKernel.τ).loc Cert.ScanDownKernel.main_arg1) = m ((c.tc : Thread Cert.ScanDownKernel.nD Cert.ScanDownKernel.τ).loc Cert.ScanDownKernel.main_arg1)
      ∧ r.2.mem ((c.tc : Thread Cert.ScanDownKernel.nD Cert.ScanDownKernel.τ).loc Cert.ScanDownKernel.main_arg2) = m ((c.tc : Thread Cert.ScanDownKernel.nD Cert.ScanDownKernel.τ).loc Cert.ScanDownKernel.main_arg2)
      ∧ r.2.mem ((c.tc : Thread Cert.ScanDownKernel.nD Cert.ScanDownKernel.τ).loc Cert.ScanDownKernel.main_arg3) = m ((c.tc : Thread Cert.ScanDownKernel.nD Cert.ScanDownKernel.τ).loc Cert.ScanDownKernel.main_arg3)
      ∧ r.2.mem ((c.tc : Thread Cert.ScanDownKernel.nD Cert.ScanDownKernel.τ).loc Cert.ScanDownKernel.main_arg4) = m ((c.tc : Thread Cert.ScanDownKernel.nD Cert.ScanDownKernel.τ).loc Cert.ScanDownKernel.main_arg4)
      ∧ r.2.mem ((c.tc : Thread Cert.ScanDownKernel.nD Cert.ScanDownKernel.τ).loc Cert.ScanDownKernel.main_arg5) = m ((c.tc : Thread Cert.ScanDownKernel.nD Cert.ScanDownKernel.τ).loc Cert.ScanDownKernel.main_arg5)
      ∧ r.2.mem ((c.tc : Thread Cert.ScanDownKernel.nD Cert.ScanDownKernel.τ).loc Cert.ScanDownKernel.main_arg6) = m ((c.tc : Thread Cert.ScanDownKernel.nD Cert.ScanDownKernel.τ).loc Cert.ScanDownKernel.main_arg6)
      ∧ r.2.mem ((c.tc : Thread Cert.ScanDownKernel.nD Cert.ScanDownKernel.τ).loc Cert.ScanDownKernel.main_arg7) = m ((c.tc : Thread Cert.ScanDownKernel.nD Cert.ScanDownKernel.τ).loc Cert.ScanDownKernel.main_arg7))
      ∧ r.2.sem = fun _ => 0)

def quiescent_ScanDownKernelIdeal [hScanDownKernelIdeal : Cert.ScanDownKernelIdeal.Facts] : Prop :=
  ∀ (m : (ℓ : Loc Cert.ScanDownKernelIdeal.nD Cert.ScanDownKernelIdeal.τ Cert.ScanDownKernelIdeal.sig) → Buf (Elt Ideal) ℓ) (g : Dev Cert.ScanDownKernelIdeal.nD → PrngReg), Pre_ScanDownKernelIdeal m →
    θ_run (Cert.ScanDownKernelIdeal.defs (F := Ideal)) (onTc (τ := Cert.ScanDownKernelIdeal.τ) (Cert.ScanDownKernelIdeal.main (F := Ideal))) ⟨m, fun _ => 0, g⟩ (fun r => (∀ c : Dev Cert.ScanDownKernelIdeal.nD,
      r.2.mem ((c.tc : Thread Cert.ScanDownKernelIdeal.nD Cert.ScanDownKernelIdeal.τ).loc Cert.ScanDownKernelIdeal.main_arg0) = m ((c.tc : Thread Cert.ScanDownKernelIdeal.nD Cert.ScanDownKernelIdeal.τ).loc Cert.ScanDownKernelIdeal.main_arg0)
      ∧ r.2.mem ((c.tc : Thread Cert.ScanDownKernelIdeal.nD Cert.ScanDownKernelIdeal.τ).loc Cert.ScanDownKernelIdeal.main_arg1) = m ((c.tc : Thread Cert.ScanDownKernelIdeal.nD Cert.ScanDownKernelIdeal.τ).loc Cert.ScanDownKernelIdeal.main_arg1)
      ∧ r.2.mem ((c.tc : Thread Cert.ScanDownKernelIdeal.nD Cert.ScanDownKernelIdeal.τ).loc Cert.ScanDownKernelIdeal.main_arg2) = m ((c.tc : Thread Cert.ScanDownKernelIdeal.nD Cert.ScanDownKernelIdeal.τ).loc Cert.ScanDownKernelIdeal.main_arg2)
      ∧ r.2.mem ((c.tc : Thread Cert.ScanDownKernelIdeal.nD Cert.ScanDownKernelIdeal.τ).loc Cert.ScanDownKernelIdeal.main_arg3) = m ((c.tc : Thread Cert.ScanDownKernelIdeal.nD Cert.ScanDownKernelIdeal.τ).loc Cert.ScanDownKernelIdeal.main_arg3)
      ∧ r.2.mem ((c.tc : Thread Cert.ScanDownKernelIdeal.nD Cert.ScanDownKernelIdeal.τ).loc Cert.ScanDownKernelIdeal.main_arg4) = m ((c.tc : Thread Cert.ScanDownKernelIdeal.nD Cert.ScanDownKernelIdeal.τ).loc Cert.ScanDownKernelIdeal.main_arg4)
      ∧ r.2.mem ((c.tc : Thread Cert.ScanDownKernelIdeal.nD Cert.ScanDownKernelIdeal.τ).loc Cert.ScanDownKernelIdeal.main_arg5) = m ((c.tc : Thread Cert.ScanDownKernelIdeal.nD Cert.ScanDownKernelIdeal.τ).loc Cert.ScanDownKernelIdeal.main_arg5)
      ∧ r.2.mem ((c.tc : Thread Cert.ScanDownKernelIdeal.nD Cert.ScanDownKernelIdeal.τ).loc Cert.ScanDownKernelIdeal.main_arg6) = m ((c.tc : Thread Cert.ScanDownKernelIdeal.nD Cert.ScanDownKernelIdeal.τ).loc Cert.ScanDownKernelIdeal.main_arg6)
      ∧ r.2.mem ((c.tc : Thread Cert.ScanDownKernelIdeal.nD Cert.ScanDownKernelIdeal.τ).loc Cert.ScanDownKernelIdeal.main_arg7) = m ((c.tc : Thread Cert.ScanDownKernelIdeal.nD Cert.ScanDownKernelIdeal.τ).loc Cert.ScanDownKernelIdeal.main_arg7))
      ∧ r.2.sem = fun _ => 0)

def quiescent_ScanDownReferenceIdeal [hScanDownReferenceIdeal : Cert.ScanDownReferenceIdeal.Facts] : Prop :=
  ∀ (m : (ℓ : Loc Cert.ScanDownReferenceIdeal.nD Cert.ScanDownReferenceIdeal.τ Cert.ScanDownReferenceIdeal.sig) → Buf (Elt Ideal) ℓ) (g : Dev Cert.ScanDownReferenceIdeal.nD → PrngReg), Pre_ScanDownReferenceIdeal m →
    θ_run (Cert.ScanDownReferenceIdeal.defs (F := Ideal)) (onTc (τ := Cert.ScanDownReferenceIdeal.τ) (Cert.ScanDownReferenceIdeal.main (F := Ideal))) ⟨m, fun _ => 0, g⟩ (fun r => (∀ c : Dev Cert.ScanDownReferenceIdeal.nD,
      r.2.mem ((c.tc : Thread Cert.ScanDownReferenceIdeal.nD Cert.ScanDownReferenceIdeal.τ).loc Cert.ScanDownReferenceIdeal.main_arg0) = m ((c.tc : Thread Cert.ScanDownReferenceIdeal.nD Cert.ScanDownReferenceIdeal.τ).loc Cert.ScanDownReferenceIdeal.main_arg0)
      ∧ r.2.mem ((c.tc : Thread Cert.ScanDownReferenceIdeal.nD Cert.ScanDownReferenceIdeal.τ).loc Cert.ScanDownReferenceIdeal.main_arg1) = m ((c.tc : Thread Cert.ScanDownReferenceIdeal.nD Cert.ScanDownReferenceIdeal.τ).loc Cert.ScanDownReferenceIdeal.main_arg1)
      ∧ r.2.mem ((c.tc : Thread Cert.ScanDownReferenceIdeal.nD Cert.ScanDownReferenceIdeal.τ).loc Cert.ScanDownReferenceIdeal.main_arg2) = m ((c.tc : Thread Cert.ScanDownReferenceIdeal.nD Cert.ScanDownReferenceIdeal.τ).loc Cert.ScanDownReferenceIdeal.main_arg2)
      ∧ r.2.mem ((c.tc : Thread Cert.ScanDownReferenceIdeal.nD Cert.ScanDownReferenceIdeal.τ).loc Cert.ScanDownReferenceIdeal.main_arg3) = m ((c.tc : Thread Cert.ScanDownReferenceIdeal.nD Cert.ScanDownReferenceIdeal.τ).loc Cert.ScanDownReferenceIdeal.main_arg3)
      ∧ r.2.mem ((c.tc : Thread Cert.ScanDownReferenceIdeal.nD Cert.ScanDownReferenceIdeal.τ).loc Cert.ScanDownReferenceIdeal.main_arg4) = m ((c.tc : Thread Cert.ScanDownReferenceIdeal.nD Cert.ScanDownReferenceIdeal.τ).loc Cert.ScanDownReferenceIdeal.main_arg4)
      ∧ r.2.mem ((c.tc : Thread Cert.ScanDownReferenceIdeal.nD Cert.ScanDownReferenceIdeal.τ).loc Cert.ScanDownReferenceIdeal.main_arg5) = m ((c.tc : Thread Cert.ScanDownReferenceIdeal.nD Cert.ScanDownReferenceIdeal.τ).loc Cert.ScanDownReferenceIdeal.main_arg5)
      ∧ r.2.mem ((c.tc : Thread Cert.ScanDownReferenceIdeal.nD Cert.ScanDownReferenceIdeal.τ).loc Cert.ScanDownReferenceIdeal.main_arg6) = m ((c.tc : Thread Cert.ScanDownReferenceIdeal.nD Cert.ScanDownReferenceIdeal.τ).loc Cert.ScanDownReferenceIdeal.main_arg6)
      ∧ r.2.mem ((c.tc : Thread Cert.ScanDownReferenceIdeal.nD Cert.ScanDownReferenceIdeal.τ).loc Cert.ScanDownReferenceIdeal.main_arg7) = m ((c.tc : Thread Cert.ScanDownReferenceIdeal.nD Cert.ScanDownReferenceIdeal.τ).loc Cert.ScanDownReferenceIdeal.main_arg7))
      ∧ r.2.sem = fun _ => 0)

def quiescent_BackUpKernel [hBackUpKernel : Cert.BackUpKernel.Facts] : Prop :=
  ∀ (m : (ℓ : Loc Cert.BackUpKernel.nD Cert.BackUpKernel.τ Cert.BackUpKernel.sig) → Buf (Elt Bits) ℓ) (g : Dev Cert.BackUpKernel.nD → PrngReg), Pre_BackUpKernel m →
    θ_run (Cert.BackUpKernel.defs (F := Bits)) (onTc (τ := Cert.BackUpKernel.τ) (Cert.BackUpKernel.main (F := Bits))) ⟨m, fun _ => 0, g⟩ (fun r => (∀ c : Dev Cert.BackUpKernel.nD,
      r.2.mem ((c.tc : Thread Cert.BackUpKernel.nD Cert.BackUpKernel.τ).loc Cert.BackUpKernel.main_arg0) = m ((c.tc : Thread Cert.BackUpKernel.nD Cert.BackUpKernel.τ).loc Cert.BackUpKernel.main_arg0)
      ∧ r.2.mem ((c.tc : Thread Cert.BackUpKernel.nD Cert.BackUpKernel.τ).loc Cert.BackUpKernel.main_arg1) = m ((c.tc : Thread Cert.BackUpKernel.nD Cert.BackUpKernel.τ).loc Cert.BackUpKernel.main_arg1)
      ∧ r.2.mem ((c.tc : Thread Cert.BackUpKernel.nD Cert.BackUpKernel.τ).loc Cert.BackUpKernel.main_arg2) = m ((c.tc : Thread Cert.BackUpKernel.nD Cert.BackUpKernel.τ).loc Cert.BackUpKernel.main_arg2)
      ∧ r.2.mem ((c.tc : Thread Cert.BackUpKernel.nD Cert.BackUpKernel.τ).loc Cert.BackUpKernel.main_arg3) = m ((c.tc : Thread Cert.BackUpKernel.nD Cert.BackUpKernel.τ).loc Cert.BackUpKernel.main_arg3)
      ∧ r.2.mem ((c.tc : Thread Cert.BackUpKernel.nD Cert.BackUpKernel.τ).loc Cert.BackUpKernel.main_arg4) = m ((c.tc : Thread Cert.BackUpKernel.nD Cert.BackUpKernel.τ).loc Cert.BackUpKernel.main_arg4)
      ∧ r.2.mem ((c.tc : Thread Cert.BackUpKernel.nD Cert.BackUpKernel.τ).loc Cert.BackUpKernel.main_arg5) = m ((c.tc : Thread Cert.BackUpKernel.nD Cert.BackUpKernel.τ).loc Cert.BackUpKernel.main_arg5)
      ∧ r.2.mem ((c.tc : Thread Cert.BackUpKernel.nD Cert.BackUpKernel.τ).loc Cert.BackUpKernel.main_arg6) = m ((c.tc : Thread Cert.BackUpKernel.nD Cert.BackUpKernel.τ).loc Cert.BackUpKernel.main_arg6)
      ∧ r.2.mem ((c.tc : Thread Cert.BackUpKernel.nD Cert.BackUpKernel.τ).loc Cert.BackUpKernel.main_arg7) = m ((c.tc : Thread Cert.BackUpKernel.nD Cert.BackUpKernel.τ).loc Cert.BackUpKernel.main_arg7)
      ∧ r.2.mem ((c.tc : Thread Cert.BackUpKernel.nD Cert.BackUpKernel.τ).loc Cert.BackUpKernel.main_arg8) = m ((c.tc : Thread Cert.BackUpKernel.nD Cert.BackUpKernel.τ).loc Cert.BackUpKernel.main_arg8)
      ∧ r.2.mem ((c.tc : Thread Cert.BackUpKernel.nD Cert.BackUpKernel.τ).loc Cert.BackUpKernel.main_arg9) = m ((c.tc : Thread Cert.BackUpKernel.nD Cert.BackUpKernel.τ).loc Cert.BackUpKernel.main_arg9)
      ∧ r.2.mem ((c.tc : Thread Cert.BackUpKernel.nD Cert.BackUpKernel.τ).loc Cert.BackUpKernel.main_arg10) = m ((c.tc : Thread Cert.BackUpKernel.nD Cert.BackUpKernel.τ).loc Cert.BackUpKernel.main_arg10))
      ∧ r.2.sem = fun _ => 0)

def quiescent_BackUpKernelIdeal [hBackUpKernelIdeal : Cert.BackUpKernelIdeal.Facts] : Prop :=
  ∀ (m : (ℓ : Loc Cert.BackUpKernelIdeal.nD Cert.BackUpKernelIdeal.τ Cert.BackUpKernelIdeal.sig) → Buf (Elt Ideal) ℓ) (g : Dev Cert.BackUpKernelIdeal.nD → PrngReg), Pre_BackUpKernelIdeal m →
    θ_run (Cert.BackUpKernelIdeal.defs (F := Ideal)) (onTc (τ := Cert.BackUpKernelIdeal.τ) (Cert.BackUpKernelIdeal.main (F := Ideal))) ⟨m, fun _ => 0, g⟩ (fun r => (∀ c : Dev Cert.BackUpKernelIdeal.nD,
      r.2.mem ((c.tc : Thread Cert.BackUpKernelIdeal.nD Cert.BackUpKernelIdeal.τ).loc Cert.BackUpKernelIdeal.main_arg0) = m ((c.tc : Thread Cert.BackUpKernelIdeal.nD Cert.BackUpKernelIdeal.τ).loc Cert.BackUpKernelIdeal.main_arg0)
      ∧ r.2.mem ((c.tc : Thread Cert.BackUpKernelIdeal.nD Cert.BackUpKernelIdeal.τ).loc Cert.BackUpKernelIdeal.main_arg1) = m ((c.tc : Thread Cert.BackUpKernelIdeal.nD Cert.BackUpKernelIdeal.τ).loc Cert.BackUpKernelIdeal.main_arg1)
      ∧ r.2.mem ((c.tc : Thread Cert.BackUpKernelIdeal.nD Cert.BackUpKernelIdeal.τ).loc Cert.BackUpKernelIdeal.main_arg2) = m ((c.tc : Thread Cert.BackUpKernelIdeal.nD Cert.BackUpKernelIdeal.τ).loc Cert.BackUpKernelIdeal.main_arg2)
      ∧ r.2.mem ((c.tc : Thread Cert.BackUpKernelIdeal.nD Cert.BackUpKernelIdeal.τ).loc Cert.BackUpKernelIdeal.main_arg3) = m ((c.tc : Thread Cert.BackUpKernelIdeal.nD Cert.BackUpKernelIdeal.τ).loc Cert.BackUpKernelIdeal.main_arg3)
      ∧ r.2.mem ((c.tc : Thread Cert.BackUpKernelIdeal.nD Cert.BackUpKernelIdeal.τ).loc Cert.BackUpKernelIdeal.main_arg4) = m ((c.tc : Thread Cert.BackUpKernelIdeal.nD Cert.BackUpKernelIdeal.τ).loc Cert.BackUpKernelIdeal.main_arg4)
      ∧ r.2.mem ((c.tc : Thread Cert.BackUpKernelIdeal.nD Cert.BackUpKernelIdeal.τ).loc Cert.BackUpKernelIdeal.main_arg5) = m ((c.tc : Thread Cert.BackUpKernelIdeal.nD Cert.BackUpKernelIdeal.τ).loc Cert.BackUpKernelIdeal.main_arg5)
      ∧ r.2.mem ((c.tc : Thread Cert.BackUpKernelIdeal.nD Cert.BackUpKernelIdeal.τ).loc Cert.BackUpKernelIdeal.main_arg6) = m ((c.tc : Thread Cert.BackUpKernelIdeal.nD Cert.BackUpKernelIdeal.τ).loc Cert.BackUpKernelIdeal.main_arg6)
      ∧ r.2.mem ((c.tc : Thread Cert.BackUpKernelIdeal.nD Cert.BackUpKernelIdeal.τ).loc Cert.BackUpKernelIdeal.main_arg7) = m ((c.tc : Thread Cert.BackUpKernelIdeal.nD Cert.BackUpKernelIdeal.τ).loc Cert.BackUpKernelIdeal.main_arg7)
      ∧ r.2.mem ((c.tc : Thread Cert.BackUpKernelIdeal.nD Cert.BackUpKernelIdeal.τ).loc Cert.BackUpKernelIdeal.main_arg8) = m ((c.tc : Thread Cert.BackUpKernelIdeal.nD Cert.BackUpKernelIdeal.τ).loc Cert.BackUpKernelIdeal.main_arg8)
      ∧ r.2.mem ((c.tc : Thread Cert.BackUpKernelIdeal.nD Cert.BackUpKernelIdeal.τ).loc Cert.BackUpKernelIdeal.main_arg9) = m ((c.tc : Thread Cert.BackUpKernelIdeal.nD Cert.BackUpKernelIdeal.τ).loc Cert.BackUpKernelIdeal.main_arg9)
      ∧ r.2.mem ((c.tc : Thread Cert.BackUpKernelIdeal.nD Cert.BackUpKernelIdeal.τ).loc Cert.BackUpKernelIdeal.main_arg10) = m ((c.tc : Thread Cert.BackUpKernelIdeal.nD Cert.BackUpKernelIdeal.τ).loc Cert.BackUpKernelIdeal.main_arg10))
      ∧ r.2.sem = fun _ => 0)

def quiescent_BackUpReferenceIdeal [hBackUpReferenceIdeal : Cert.BackUpReferenceIdeal.Facts] : Prop :=
  ∀ (m : (ℓ : Loc Cert.BackUpReferenceIdeal.nD Cert.BackUpReferenceIdeal.τ Cert.BackUpReferenceIdeal.sig) → Buf (Elt Ideal) ℓ) (g : Dev Cert.BackUpReferenceIdeal.nD → PrngReg), Pre_BackUpReferenceIdeal m →
    θ_run (Cert.BackUpReferenceIdeal.defs (F := Ideal)) (onTc (τ := Cert.BackUpReferenceIdeal.τ) (Cert.BackUpReferenceIdeal.main (F := Ideal))) ⟨m, fun _ => 0, g⟩ (fun r => (∀ c : Dev Cert.BackUpReferenceIdeal.nD,
      r.2.mem ((c.tc : Thread Cert.BackUpReferenceIdeal.nD Cert.BackUpReferenceIdeal.τ).loc Cert.BackUpReferenceIdeal.main_arg0) = m ((c.tc : Thread Cert.BackUpReferenceIdeal.nD Cert.BackUpReferenceIdeal.τ).loc Cert.BackUpReferenceIdeal.main_arg0)
      ∧ r.2.mem ((c.tc : Thread Cert.BackUpReferenceIdeal.nD Cert.BackUpReferenceIdeal.τ).loc Cert.BackUpReferenceIdeal.main_arg1) = m ((c.tc : Thread Cert.BackUpReferenceIdeal.nD Cert.BackUpReferenceIdeal.τ).loc Cert.BackUpReferenceIdeal.main_arg1)
      ∧ r.2.mem ((c.tc : Thread Cert.BackUpReferenceIdeal.nD Cert.BackUpReferenceIdeal.τ).loc Cert.BackUpReferenceIdeal.main_arg2) = m ((c.tc : Thread Cert.BackUpReferenceIdeal.nD Cert.BackUpReferenceIdeal.τ).loc Cert.BackUpReferenceIdeal.main_arg2)
      ∧ r.2.mem ((c.tc : Thread Cert.BackUpReferenceIdeal.nD Cert.BackUpReferenceIdeal.τ).loc Cert.BackUpReferenceIdeal.main_arg3) = m ((c.tc : Thread Cert.BackUpReferenceIdeal.nD Cert.BackUpReferenceIdeal.τ).loc Cert.BackUpReferenceIdeal.main_arg3)
      ∧ r.2.mem ((c.tc : Thread Cert.BackUpReferenceIdeal.nD Cert.BackUpReferenceIdeal.τ).loc Cert.BackUpReferenceIdeal.main_arg4) = m ((c.tc : Thread Cert.BackUpReferenceIdeal.nD Cert.BackUpReferenceIdeal.τ).loc Cert.BackUpReferenceIdeal.main_arg4)
      ∧ r.2.mem ((c.tc : Thread Cert.BackUpReferenceIdeal.nD Cert.BackUpReferenceIdeal.τ).loc Cert.BackUpReferenceIdeal.main_arg5) = m ((c.tc : Thread Cert.BackUpReferenceIdeal.nD Cert.BackUpReferenceIdeal.τ).loc Cert.BackUpReferenceIdeal.main_arg5)
      ∧ r.2.mem ((c.tc : Thread Cert.BackUpReferenceIdeal.nD Cert.BackUpReferenceIdeal.τ).loc Cert.BackUpReferenceIdeal.main_arg6) = m ((c.tc : Thread Cert.BackUpReferenceIdeal.nD Cert.BackUpReferenceIdeal.τ).loc Cert.BackUpReferenceIdeal.main_arg6)
      ∧ r.2.mem ((c.tc : Thread Cert.BackUpReferenceIdeal.nD Cert.BackUpReferenceIdeal.τ).loc Cert.BackUpReferenceIdeal.main_arg7) = m ((c.tc : Thread Cert.BackUpReferenceIdeal.nD Cert.BackUpReferenceIdeal.τ).loc Cert.BackUpReferenceIdeal.main_arg7)
      ∧ r.2.mem ((c.tc : Thread Cert.BackUpReferenceIdeal.nD Cert.BackUpReferenceIdeal.τ).loc Cert.BackUpReferenceIdeal.main_arg8) = m ((c.tc : Thread Cert.BackUpReferenceIdeal.nD Cert.BackUpReferenceIdeal.τ).loc Cert.BackUpReferenceIdeal.main_arg8)
      ∧ r.2.mem ((c.tc : Thread Cert.BackUpReferenceIdeal.nD Cert.BackUpReferenceIdeal.τ).loc Cert.BackUpReferenceIdeal.main_arg9) = m ((c.tc : Thread Cert.BackUpReferenceIdeal.nD Cert.BackUpReferenceIdeal.τ).loc Cert.BackUpReferenceIdeal.main_arg9)
      ∧ r.2.mem ((c.tc : Thread Cert.BackUpReferenceIdeal.nD Cert.BackUpReferenceIdeal.τ).loc Cert.BackUpReferenceIdeal.main_arg10) = m ((c.tc : Thread Cert.BackUpReferenceIdeal.nD Cert.BackUpReferenceIdeal.τ).loc Cert.BackUpReferenceIdeal.main_arg10))
      ∧ r.2.sem = fun _ => 0)

def quiescent_BackDownKernel [hBackDownKernel : Cert.BackDownKernel.Facts] : Prop :=
  ∀ (m : (ℓ : Loc Cert.BackDownKernel.nD Cert.BackDownKernel.τ Cert.BackDownKernel.sig) → Buf (Elt Bits) ℓ) (g : Dev Cert.BackDownKernel.nD → PrngReg), Pre_BackDownKernel m →
    θ_run (Cert.BackDownKernel.defs (F := Bits)) (onTc (τ := Cert.BackDownKernel.τ) (Cert.BackDownKernel.main (F := Bits))) ⟨m, fun _ => 0, g⟩ (fun r => (∀ c : Dev Cert.BackDownKernel.nD,
      r.2.mem ((c.tc : Thread Cert.BackDownKernel.nD Cert.BackDownKernel.τ).loc Cert.BackDownKernel.main_arg0) = m ((c.tc : Thread Cert.BackDownKernel.nD Cert.BackDownKernel.τ).loc Cert.BackDownKernel.main_arg0)
      ∧ r.2.mem ((c.tc : Thread Cert.BackDownKernel.nD Cert.BackDownKernel.τ).loc Cert.BackDownKernel.main_arg1) = m ((c.tc : Thread Cert.BackDownKernel.nD Cert.BackDownKernel.τ).loc Cert.BackDownKernel.main_arg1)
      ∧ r.2.mem ((c.tc : Thread Cert.BackDownKernel.nD Cert.BackDownKernel.τ).loc Cert.BackDownKernel.main_arg2) = m ((c.tc : Thread Cert.BackDownKernel.nD Cert.BackDownKernel.τ).loc Cert.BackDownKernel.main_arg2)
      ∧ r.2.mem ((c.tc : Thread Cert.BackDownKernel.nD Cert.BackDownKernel.τ).loc Cert.BackDownKernel.main_arg3) = m ((c.tc : Thread Cert.BackDownKernel.nD Cert.BackDownKernel.τ).loc Cert.BackDownKernel.main_arg3)
      ∧ r.2.mem ((c.tc : Thread Cert.BackDownKernel.nD Cert.BackDownKernel.τ).loc Cert.BackDownKernel.main_arg4) = m ((c.tc : Thread Cert.BackDownKernel.nD Cert.BackDownKernel.τ).loc Cert.BackDownKernel.main_arg4)
      ∧ r.2.mem ((c.tc : Thread Cert.BackDownKernel.nD Cert.BackDownKernel.τ).loc Cert.BackDownKernel.main_arg5) = m ((c.tc : Thread Cert.BackDownKernel.nD Cert.BackDownKernel.τ).loc Cert.BackDownKernel.main_arg5)
      ∧ r.2.mem ((c.tc : Thread Cert.BackDownKernel.nD Cert.BackDownKernel.τ).loc Cert.BackDownKernel.main_arg6) = m ((c.tc : Thread Cert.BackDownKernel.nD Cert.BackDownKernel.τ).loc Cert.BackDownKernel.main_arg6)
      ∧ r.2.mem ((c.tc : Thread Cert.BackDownKernel.nD Cert.BackDownKernel.τ).loc Cert.BackDownKernel.main_arg7) = m ((c.tc : Thread Cert.BackDownKernel.nD Cert.BackDownKernel.τ).loc Cert.BackDownKernel.main_arg7)
      ∧ r.2.mem ((c.tc : Thread Cert.BackDownKernel.nD Cert.BackDownKernel.τ).loc Cert.BackDownKernel.main_arg8) = m ((c.tc : Thread Cert.BackDownKernel.nD Cert.BackDownKernel.τ).loc Cert.BackDownKernel.main_arg8)
      ∧ r.2.mem ((c.tc : Thread Cert.BackDownKernel.nD Cert.BackDownKernel.τ).loc Cert.BackDownKernel.main_arg9) = m ((c.tc : Thread Cert.BackDownKernel.nD Cert.BackDownKernel.τ).loc Cert.BackDownKernel.main_arg9)
      ∧ r.2.mem ((c.tc : Thread Cert.BackDownKernel.nD Cert.BackDownKernel.τ).loc Cert.BackDownKernel.main_arg10) = m ((c.tc : Thread Cert.BackDownKernel.nD Cert.BackDownKernel.τ).loc Cert.BackDownKernel.main_arg10))
      ∧ r.2.sem = fun _ => 0)

def quiescent_BackDownKernelIdeal [hBackDownKernelIdeal : Cert.BackDownKernelIdeal.Facts] : Prop :=
  ∀ (m : (ℓ : Loc Cert.BackDownKernelIdeal.nD Cert.BackDownKernelIdeal.τ Cert.BackDownKernelIdeal.sig) → Buf (Elt Ideal) ℓ) (g : Dev Cert.BackDownKernelIdeal.nD → PrngReg), Pre_BackDownKernelIdeal m →
    θ_run (Cert.BackDownKernelIdeal.defs (F := Ideal)) (onTc (τ := Cert.BackDownKernelIdeal.τ) (Cert.BackDownKernelIdeal.main (F := Ideal))) ⟨m, fun _ => 0, g⟩ (fun r => (∀ c : Dev Cert.BackDownKernelIdeal.nD,
      r.2.mem ((c.tc : Thread Cert.BackDownKernelIdeal.nD Cert.BackDownKernelIdeal.τ).loc Cert.BackDownKernelIdeal.main_arg0) = m ((c.tc : Thread Cert.BackDownKernelIdeal.nD Cert.BackDownKernelIdeal.τ).loc Cert.BackDownKernelIdeal.main_arg0)
      ∧ r.2.mem ((c.tc : Thread Cert.BackDownKernelIdeal.nD Cert.BackDownKernelIdeal.τ).loc Cert.BackDownKernelIdeal.main_arg1) = m ((c.tc : Thread Cert.BackDownKernelIdeal.nD Cert.BackDownKernelIdeal.τ).loc Cert.BackDownKernelIdeal.main_arg1)
      ∧ r.2.mem ((c.tc : Thread Cert.BackDownKernelIdeal.nD Cert.BackDownKernelIdeal.τ).loc Cert.BackDownKernelIdeal.main_arg2) = m ((c.tc : Thread Cert.BackDownKernelIdeal.nD Cert.BackDownKernelIdeal.τ).loc Cert.BackDownKernelIdeal.main_arg2)
      ∧ r.2.mem ((c.tc : Thread Cert.BackDownKernelIdeal.nD Cert.BackDownKernelIdeal.τ).loc Cert.BackDownKernelIdeal.main_arg3) = m ((c.tc : Thread Cert.BackDownKernelIdeal.nD Cert.BackDownKernelIdeal.τ).loc Cert.BackDownKernelIdeal.main_arg3)
      ∧ r.2.mem ((c.tc : Thread Cert.BackDownKernelIdeal.nD Cert.BackDownKernelIdeal.τ).loc Cert.BackDownKernelIdeal.main_arg4) = m ((c.tc : Thread Cert.BackDownKernelIdeal.nD Cert.BackDownKernelIdeal.τ).loc Cert.BackDownKernelIdeal.main_arg4)
      ∧ r.2.mem ((c.tc : Thread Cert.BackDownKernelIdeal.nD Cert.BackDownKernelIdeal.τ).loc Cert.BackDownKernelIdeal.main_arg5) = m ((c.tc : Thread Cert.BackDownKernelIdeal.nD Cert.BackDownKernelIdeal.τ).loc Cert.BackDownKernelIdeal.main_arg5)
      ∧ r.2.mem ((c.tc : Thread Cert.BackDownKernelIdeal.nD Cert.BackDownKernelIdeal.τ).loc Cert.BackDownKernelIdeal.main_arg6) = m ((c.tc : Thread Cert.BackDownKernelIdeal.nD Cert.BackDownKernelIdeal.τ).loc Cert.BackDownKernelIdeal.main_arg6)
      ∧ r.2.mem ((c.tc : Thread Cert.BackDownKernelIdeal.nD Cert.BackDownKernelIdeal.τ).loc Cert.BackDownKernelIdeal.main_arg7) = m ((c.tc : Thread Cert.BackDownKernelIdeal.nD Cert.BackDownKernelIdeal.τ).loc Cert.BackDownKernelIdeal.main_arg7)
      ∧ r.2.mem ((c.tc : Thread Cert.BackDownKernelIdeal.nD Cert.BackDownKernelIdeal.τ).loc Cert.BackDownKernelIdeal.main_arg8) = m ((c.tc : Thread Cert.BackDownKernelIdeal.nD Cert.BackDownKernelIdeal.τ).loc Cert.BackDownKernelIdeal.main_arg8)
      ∧ r.2.mem ((c.tc : Thread Cert.BackDownKernelIdeal.nD Cert.BackDownKernelIdeal.τ).loc Cert.BackDownKernelIdeal.main_arg9) = m ((c.tc : Thread Cert.BackDownKernelIdeal.nD Cert.BackDownKernelIdeal.τ).loc Cert.BackDownKernelIdeal.main_arg9)
      ∧ r.2.mem ((c.tc : Thread Cert.BackDownKernelIdeal.nD Cert.BackDownKernelIdeal.τ).loc Cert.BackDownKernelIdeal.main_arg10) = m ((c.tc : Thread Cert.BackDownKernelIdeal.nD Cert.BackDownKernelIdeal.τ).loc Cert.BackDownKernelIdeal.main_arg10))
      ∧ r.2.sem = fun _ => 0)

def quiescent_BackDownReferenceIdeal [hBackDownReferenceIdeal : Cert.BackDownReferenceIdeal.Facts] : Prop :=
  ∀ (m : (ℓ : Loc Cert.BackDownReferenceIdeal.nD Cert.BackDownReferenceIdeal.τ Cert.BackDownReferenceIdeal.sig) → Buf (Elt Ideal) ℓ) (g : Dev Cert.BackDownReferenceIdeal.nD → PrngReg), Pre_BackDownReferenceIdeal m →
    θ_run (Cert.BackDownReferenceIdeal.defs (F := Ideal)) (onTc (τ := Cert.BackDownReferenceIdeal.τ) (Cert.BackDownReferenceIdeal.main (F := Ideal))) ⟨m, fun _ => 0, g⟩ (fun r => (∀ c : Dev Cert.BackDownReferenceIdeal.nD,
      r.2.mem ((c.tc : Thread Cert.BackDownReferenceIdeal.nD Cert.BackDownReferenceIdeal.τ).loc Cert.BackDownReferenceIdeal.main_arg0) = m ((c.tc : Thread Cert.BackDownReferenceIdeal.nD Cert.BackDownReferenceIdeal.τ).loc Cert.BackDownReferenceIdeal.main_arg0)
      ∧ r.2.mem ((c.tc : Thread Cert.BackDownReferenceIdeal.nD Cert.BackDownReferenceIdeal.τ).loc Cert.BackDownReferenceIdeal.main_arg1) = m ((c.tc : Thread Cert.BackDownReferenceIdeal.nD Cert.BackDownReferenceIdeal.τ).loc Cert.BackDownReferenceIdeal.main_arg1)
      ∧ r.2.mem ((c.tc : Thread Cert.BackDownReferenceIdeal.nD Cert.BackDownReferenceIdeal.τ).loc Cert.BackDownReferenceIdeal.main_arg2) = m ((c.tc : Thread Cert.BackDownReferenceIdeal.nD Cert.BackDownReferenceIdeal.τ).loc Cert.BackDownReferenceIdeal.main_arg2)
      ∧ r.2.mem ((c.tc : Thread Cert.BackDownReferenceIdeal.nD Cert.BackDownReferenceIdeal.τ).loc Cert.BackDownReferenceIdeal.main_arg3) = m ((c.tc : Thread Cert.BackDownReferenceIdeal.nD Cert.BackDownReferenceIdeal.τ).loc Cert.BackDownReferenceIdeal.main_arg3)
      ∧ r.2.mem ((c.tc : Thread Cert.BackDownReferenceIdeal.nD Cert.BackDownReferenceIdeal.τ).loc Cert.BackDownReferenceIdeal.main_arg4) = m ((c.tc : Thread Cert.BackDownReferenceIdeal.nD Cert.BackDownReferenceIdeal.τ).loc Cert.BackDownReferenceIdeal.main_arg4)
      ∧ r.2.mem ((c.tc : Thread Cert.BackDownReferenceIdeal.nD Cert.BackDownReferenceIdeal.τ).loc Cert.BackDownReferenceIdeal.main_arg5) = m ((c.tc : Thread Cert.BackDownReferenceIdeal.nD Cert.BackDownReferenceIdeal.τ).loc Cert.BackDownReferenceIdeal.main_arg5)
      ∧ r.2.mem ((c.tc : Thread Cert.BackDownReferenceIdeal.nD Cert.BackDownReferenceIdeal.τ).loc Cert.BackDownReferenceIdeal.main_arg6) = m ((c.tc : Thread Cert.BackDownReferenceIdeal.nD Cert.BackDownReferenceIdeal.τ).loc Cert.BackDownReferenceIdeal.main_arg6)
      ∧ r.2.mem ((c.tc : Thread Cert.BackDownReferenceIdeal.nD Cert.BackDownReferenceIdeal.τ).loc Cert.BackDownReferenceIdeal.main_arg7) = m ((c.tc : Thread Cert.BackDownReferenceIdeal.nD Cert.BackDownReferenceIdeal.τ).loc Cert.BackDownReferenceIdeal.main_arg7)
      ∧ r.2.mem ((c.tc : Thread Cert.BackDownReferenceIdeal.nD Cert.BackDownReferenceIdeal.τ).loc Cert.BackDownReferenceIdeal.main_arg8) = m ((c.tc : Thread Cert.BackDownReferenceIdeal.nD Cert.BackDownReferenceIdeal.τ).loc Cert.BackDownReferenceIdeal.main_arg8)
      ∧ r.2.mem ((c.tc : Thread Cert.BackDownReferenceIdeal.nD Cert.BackDownReferenceIdeal.τ).loc Cert.BackDownReferenceIdeal.main_arg9) = m ((c.tc : Thread Cert.BackDownReferenceIdeal.nD Cert.BackDownReferenceIdeal.τ).loc Cert.BackDownReferenceIdeal.main_arg9)
      ∧ r.2.mem ((c.tc : Thread Cert.BackDownReferenceIdeal.nD Cert.BackDownReferenceIdeal.τ).loc Cert.BackDownReferenceIdeal.main_arg10) = m ((c.tc : Thread Cert.BackDownReferenceIdeal.nD Cert.BackDownReferenceIdeal.τ).loc Cert.BackDownReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4352, 2048]⟩ ⟨2, ![34816, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1408]⟩ ⟨2, ![2048, 11264]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v5)) (v1 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4352, 11264]⟩ ⟨2, ![34816, 11264]⟩ 0 8 c v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_v7) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m ((c.tc : Thread Cert.InKernelIdeal.nD Cert.InKernelIdeal.τ).loc Cert.InKernelIdeal.main_arg0) = Layout.block ⟨2, ![4352, 2048]⟩ ⟨2, ![34816, 2048]⟩ 0 8 c (m' (((0 : Dev Cert.InReferenceIdeal.nD).tc : Thread Cert.InReferenceIdeal.nD Cert.InReferenceIdeal.τ).loc Cert.InReferenceIdeal.main_arg0))
      ∧ m ((c.tc : Thread Cert.InKernelIdeal.nD Cert.InKernelIdeal.τ).loc Cert.InKernelIdeal.main_arg1) = m' (((0 : Dev Cert.InReferenceIdeal.nD).tc : Thread Cert.InReferenceIdeal.nD Cert.InReferenceIdeal.τ).loc Cert.InReferenceIdeal.main_arg1)
      ∧ m ((c.tc : Thread Cert.InKernelIdeal.nD Cert.InKernelIdeal.τ).loc Cert.InKernelIdeal.main_arg2) = Layout.block ⟨2, ![256, 2048]⟩ ⟨2, ![2048, 2048]⟩ 0 8 c (m' (((0 : Dev Cert.InReferenceIdeal.nD).tc : Thread Cert.InReferenceIdeal.nD Cert.InReferenceIdeal.τ).loc Cert.InReferenceIdeal.main_arg2))) →
    ∃ (v0 : Buf (Elt Ideal) (((0 : Dev Cert.InReferenceIdeal.nD).tc : Thread Cert.InReferenceIdeal.nD Cert.InReferenceIdeal.τ).loc Cert.InReferenceIdeal.main_v2)) (v1 : Buf (Elt Ideal) (((0 : Dev Cert.InReferenceIdeal.nD).tc : Thread Cert.InReferenceIdeal.nD Cert.InReferenceIdeal.τ).loc Cert.InReferenceIdeal.main_v3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v1_0) = Layout.block ⟨2, ![4352, 2048]⟩ ⟨2, ![34816, 2048]⟩ 0 8 c v0
          ∧ r.2.mem ((c.tc : Thread Cert.InKernelIdeal.nD Cert.InKernelIdeal.τ).loc Cert.InKernelIdeal.main_v1_1) = v1
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r =>
          r.2.mem (((0 : Dev Cert.InReferenceIdeal.nD).tc : Thread Cert.InReferenceIdeal.nD Cert.InReferenceIdeal.τ).loc Cert.InReferenceIdeal.main_v2) = v0
          ∧ r.2.mem (((0 : Dev Cert.InReferenceIdeal.nD).tc : Thread Cert.InReferenceIdeal.nD Cert.InReferenceIdeal.τ).loc Cert.InReferenceIdeal.main_v3) = v1
          ∧ r.2.mem (((0 : Dev Cert.InReferenceIdeal.nD).tc : Thread Cert.InReferenceIdeal.nD Cert.InReferenceIdeal.τ).loc Cert.InReferenceIdeal.main_arg0) = m' (((0 : Dev Cert.InReferenceIdeal.nD).tc : Thread Cert.InReferenceIdeal.nD Cert.InReferenceIdeal.τ).loc Cert.InReferenceIdeal.main_arg0)
          ∧ r.2.mem (((0 : Dev Cert.InReferenceIdeal.nD).tc : Thread Cert.InReferenceIdeal.nD Cert.InReferenceIdeal.τ).loc Cert.InReferenceIdeal.main_arg1) = m' (((0 : Dev Cert.InReferenceIdeal.nD).tc : Thread Cert.InReferenceIdeal.nD Cert.InReferenceIdeal.τ).loc Cert.InReferenceIdeal.main_arg1)
          ∧ r.2.mem (((0 : Dev Cert.InReferenceIdeal.nD).tc : Thread Cert.InReferenceIdeal.nD Cert.InReferenceIdeal.τ).loc Cert.InReferenceIdeal.main_arg2) = m' (((0 : Dev Cert.InReferenceIdeal.nD).tc : Thread Cert.InReferenceIdeal.nD Cert.InReferenceIdeal.τ).loc Cert.InReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m ((c.tc : Thread Cert.DownKernelIdeal.nD Cert.DownKernelIdeal.τ).loc Cert.DownKernelIdeal.main_arg0) = Layout.block ⟨2, ![4352, 5632]⟩ ⟨2, ![34816, 5632]⟩ 0 8 c (m' (((0 : Dev Cert.DownReferenceIdeal.nD).tc : Thread Cert.DownReferenceIdeal.nD Cert.DownReferenceIdeal.τ).loc Cert.DownReferenceIdeal.main_arg0))
      ∧ m ((c.tc : Thread Cert.DownKernelIdeal.nD Cert.DownKernelIdeal.τ).loc Cert.DownKernelIdeal.main_arg1) = m' (((0 : Dev Cert.DownReferenceIdeal.nD).tc : Thread Cert.DownReferenceIdeal.nD Cert.DownReferenceIdeal.τ).loc Cert.DownReferenceIdeal.main_arg1)
      ∧ m ((c.tc : Thread Cert.DownKernelIdeal.nD Cert.DownKernelIdeal.τ).loc Cert.DownKernelIdeal.main_arg2) = Layout.block ⟨2, ![704, 2048]⟩ ⟨2, ![5632, 2048]⟩ 0 8 c (m' (((0 : Dev Cert.DownReferenceIdeal.nD).tc : Thread Cert.DownReferenceIdeal.nD Cert.DownReferenceIdeal.τ).loc Cert.DownReferenceIdeal.main_arg2))) →
    ∃ (v0 : Buf (Elt Ideal) (((0 : Dev Cert.DownReferenceIdeal.nD).tc : Thread Cert.DownReferenceIdeal.nD Cert.DownReferenceIdeal.τ).loc Cert.DownReferenceIdeal.main_v2)) (v1 : Buf (Elt Ideal) (((0 : Dev Cert.DownReferenceIdeal.nD).tc : Thread Cert.DownReferenceIdeal.nD Cert.DownReferenceIdeal.τ).loc Cert.DownReferenceIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1_0) = Layout.block ⟨2, ![4352, 2048]⟩ ⟨2, ![34816, 2048]⟩ 0 8 c v0
          ∧ r.2.mem ((c.tc : Thread Cert.DownKernelIdeal.nD Cert.DownKernelIdeal.τ).loc Cert.DownKernelIdeal.main_v1_1) = v1
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r =>
          r.2.mem (((0 : Dev Cert.DownReferenceIdeal.nD).tc : Thread Cert.DownReferenceIdeal.nD Cert.DownReferenceIdeal.τ).loc Cert.DownReferenceIdeal.main_v2) = v0
          ∧ r.2.mem (((0 : Dev Cert.DownReferenceIdeal.nD).tc : Thread Cert.DownReferenceIdeal.nD Cert.DownReferenceIdeal.τ).loc Cert.DownReferenceIdeal.main_v3) = v1
          ∧ r.2.mem (((0 : Dev Cert.DownReferenceIdeal.nD).tc : Thread Cert.DownReferenceIdeal.nD Cert.DownReferenceIdeal.τ).loc Cert.DownReferenceIdeal.main_arg0) = m' (((0 : Dev Cert.DownReferenceIdeal.nD).tc : Thread Cert.DownReferenceIdeal.nD Cert.DownReferenceIdeal.τ).loc Cert.DownReferenceIdeal.main_arg0)
          ∧ r.2.mem (((0 : Dev Cert.DownReferenceIdeal.nD).tc : Thread Cert.DownReferenceIdeal.nD Cert.DownReferenceIdeal.τ).loc Cert.DownReferenceIdeal.main_arg1) = m' (((0 : Dev Cert.DownReferenceIdeal.nD).tc : Thread Cert.DownReferenceIdeal.nD Cert.DownReferenceIdeal.τ).loc Cert.DownReferenceIdeal.main_arg1)
          ∧ r.2.mem (((0 : Dev Cert.DownReferenceIdeal.nD).tc : Thread Cert.DownReferenceIdeal.nD Cert.DownReferenceIdeal.τ).loc Cert.DownReferenceIdeal.main_arg2) = m' (((0 : Dev Cert.DownReferenceIdeal.nD).tc : Thread Cert.DownReferenceIdeal.nD Cert.DownReferenceIdeal.τ).loc Cert.DownReferenceIdeal.main_arg2))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m ((c.tc : Thread Cert.UpDwKernelIdeal.nD Cert.UpDwKernelIdeal.τ).loc Cert.UpDwKernelIdeal.main_arg0) = Layout.block ⟨2, ![2048, 4352]⟩ ⟨2, ![16384, 4352]⟩ 0 8 c (m' (((0 : Dev Cert.UpDwReferenceIdeal.nD).tc : Thread Cert.UpDwReferenceIdeal.nD Cert.UpDwReferenceIdeal.τ).loc Cert.UpDwReferenceIdeal.main_arg0))
      ∧ m ((c.tc : Thread Cert.UpDwKernelIdeal.nD Cert.UpDwKernelIdeal.τ).loc Cert.UpDwKernelIdeal.main_arg1) = Layout.block ⟨2, ![4352, 11264]⟩ ⟨2, ![34816, 11264]⟩ 0 8 c (m' (((0 : Dev Cert.UpDwReferenceIdeal.nD).tc : Thread Cert.UpDwReferenceIdeal.nD Cert.UpDwReferenceIdeal.τ).loc Cert.UpDwReferenceIdeal.main_arg1))
      ∧ m ((c.tc : Thread Cert.UpDwKernelIdeal.nD Cert.UpDwKernelIdeal.τ).loc Cert.UpDwKernelIdeal.main_arg2) = Layout.block ⟨3, ![8, 2048, 1408]⟩ ⟨3, ![64, 2048, 1408]⟩ 0 8 c (m' (((0 : Dev Cert.UpDwReferenceIdeal.nD).tc : Thread Cert.UpDwReferenceIdeal.nD Cert.UpDwReferenceIdeal.τ).loc Cert.UpDwReferenceIdeal.main_arg2))) →
    ∃ (v0 : Buf (Elt Ideal) (((0 : Dev Cert.UpDwReferenceIdeal.nD).tc : Thread Cert.UpDwReferenceIdeal.nD Cert.UpDwReferenceIdeal.τ).loc Cert.UpDwReferenceIdeal.main_v7)) (v1 : Buf (Elt Ideal) (((0 : Dev Cert.UpDwReferenceIdeal.nD).tc : Thread Cert.UpDwReferenceIdeal.nD Cert.UpDwReferenceIdeal.τ).loc Cert.UpDwReferenceIdeal.main_v15)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v1_0) = Layout.block ⟨3, ![8, 2048, 1408]⟩ ⟨3, ![64, 2048, 1408]⟩ 0 8 c v0
          ∧ r.2.mem ((c.tc : Thread Cert.UpDwKernelIdeal.nD Cert.UpDwKernelIdeal.τ).loc Cert.UpDwKernelIdeal.main_v1_1) = Layout.block ⟨3, ![8, 1024, 1408]⟩ ⟨3, ![64, 1024, 1408]⟩ 0 8 c v1
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
          ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r =>
          r.2.mem (((0 : Dev Cert.UpDwReferenceIdeal.nD).tc : Thread Cert.UpDwReferenceIdeal.nD Cert.UpDwReferenceIdeal.τ).loc Cert.UpDwReferenceIdeal.main_v7) = v0
          ∧ r.2.mem (((0 : Dev Cert.UpDwReferenceIdeal.nD).tc : Thread Cert.UpDwReferenceIdeal.nD Cert.UpDwReferenceIdeal.τ).loc Cert.UpDwReferenceIdeal.main_v15) = v1
          ∧ r.2.mem (((0 : Dev Cert.UpDwReferenceIdeal.nD).tc : Thread Cert.UpDwReferenceIdeal.nD Cert.UpDwReferenceIdeal.τ).loc Cert.UpDwReferenceIdeal.main_arg0) = m' (((0 : Dev Cert.UpDwReferenceIdeal.nD).tc : Thread Cert.UpDwReferenceIdeal.nD Cert.UpDwReferenceIdeal.τ).loc Cert.UpDwReferenceIdeal.main_arg0)
          ∧ r.2.mem (((0 : Dev Cert.UpDwReferenceIdeal.nD).tc : Thread Cert.UpDwReferenceIdeal.nD Cert.UpDwReferenceIdeal.τ).loc Cert.UpDwReferenceIdeal.main_arg1) = m' (((0 : Dev Cert.UpDwReferenceIdeal.nD).tc : Thread Cert.UpDwReferenceIdeal.nD Cert.UpDwReferenceIdeal.τ).loc Cert.UpDwReferenceIdeal.main_arg1)
          ∧ r.2.mem (((0 : Dev Cert.UpDwReferenceIdeal.nD).tc : Thread Cert.UpDwReferenceIdeal.nD Cert.UpDwReferenceIdeal.τ).loc Cert.UpDwReferenceIdeal.main_arg2) = m' (((0 : Dev Cert.UpDwReferenceIdeal.nD).tc : Thread Cert.UpDwReferenceIdeal.nD Cert.UpDwReferenceIdeal.τ).loc Cert.UpDwReferenceIdeal.main_arg2))

def preserves_UpDaKernel_UpDaKernelIdeal : Prop :=
  True

def algebraic_UpDaKernelIdeal_UpDaReferenceIdeal [hUpDaKernelIdeal : Cert.UpDaKernelIdeal.Facts] [hUpDaReferenceIdeal : Cert.UpDaReferenceIdeal.Facts] : Prop :=
  ∀ (m : (ℓ : Loc Cert.UpDaKernelIdeal.nD Cert.UpDaKernelIdeal.τ Cert.UpDaKernelIdeal.sig) → Buf (Elt Ideal) ℓ) (g : Dev Cert.UpDaKernelIdeal.nD → PrngReg)
    (m' : (ℓ : Loc Cert.UpDaReferenceIdeal.nD Cert.UpDaReferenceIdeal.τ Cert.UpDaReferenceIdeal.sig) → Buf (Elt Ideal) ℓ) (g' : Dev Cert.UpDaReferenceIdeal.nD → PrngReg), Pre_UpDaKernelIdeal m →
    (∀ c : Dev Cert.UpDaKernelIdeal.nD,
      m ((c.tc : Thread Cert.UpDaKernelIdeal.nD Cert.UpDaKernelIdeal.τ).loc Cert.UpDaKernelIdeal.main_arg0) = Layout.block ⟨2, ![4352, 11264]⟩ ⟨2, ![34816, 11264]⟩ 0 8 c (m' (((0 : Dev Cert.UpDaReferenceIdeal.nD).tc : Thread Cert.UpDaReferenceIdeal.nD Cert.UpDaReferenceIdeal.τ).loc Cert.UpDaReferenceIdeal.main_arg0))
      ∧ m ((c.tc : Thread Cert.UpDaKernelIdeal.nD Cert.UpDaKernelIdeal.τ).loc Cert.UpDaKernelIdeal.main_arg1) = m' (((0 : Dev Cert.UpDaReferenceIdeal.nD).tc : Thread Cert.UpDaReferenceIdeal.nD Cert.UpDaReferenceIdeal.τ).loc Cert.UpDaReferenceIdeal.main_arg1)
      ∧ m ((c.tc : Thread Cert.UpDaKernelIdeal.nD Cert.UpDaKernelIdeal.τ).loc Cert.UpDaKernelIdeal.main_arg2) = Layout.block ⟨3, ![8, 2048, 1408]⟩ ⟨3, ![64, 2048, 1408]⟩ 0 8 c (m' (((0 : Dev Cert.UpDaReferenceIdeal.nD).tc : Thread Cert.UpDaReferenceIdeal.nD Cert.UpDaReferenceIdeal.τ).loc Cert.UpDaReferenceIdeal.main_arg2))) →
    ∃ (v0 : Buf (Elt Ideal) (((0 : Dev Cert.UpDaReferenceIdeal.nD).tc : Thread Cert.UpDaReferenceIdeal.nD Cert.UpDaReferenceIdeal.τ).loc Cert.UpDaReferenceIdeal.main_v6)) (v1 : Buf (Elt Ideal) (((0 : Dev Cert.UpDaReferenceIdeal.nD).tc : Thread Cert.UpDaReferenceIdeal.nD Cert.UpDaReferenceIdeal.τ).loc Cert.UpDaReferenceIdeal.main_v14)),
      θ_run (Cert.UpDaKernelIdeal.defs (F := Ideal)) (onTc (τ := Cert.UpDaKernelIdeal.τ) (Cert.UpDaKernelIdeal.main (F := Ideal))) ⟨m, fun _ => 0, g⟩ (fun r => ∀ c : Dev Cert.UpDaKernelIdeal.nD,
          r.2.mem ((c.tc : Thread Cert.UpDaKernelIdeal.nD Cert.UpDaKernelIdeal.τ).loc Cert.UpDaKernelIdeal.main_v1_0) = Layout.block ⟨2, ![4352, 2048]⟩ ⟨2, ![34816, 2048]⟩ 0 8 c v0
          ∧ r.2.mem ((c.tc : Thread Cert.UpDaKernelIdeal.nD Cert.UpDaKernelIdeal.τ).loc Cert.UpDaKernelIdeal.main_v1_1) = Layout.block ⟨3, ![8, 1024, 1408]⟩ ⟨3, ![64, 1024, 1408]⟩ 0 8 c v1
          ∧ r.2.mem ((c.tc : Thread Cert.UpDaKernelIdeal.nD Cert.UpDaKernelIdeal.τ).loc Cert.UpDaKernelIdeal.main_arg0) = m ((c.tc : Thread Cert.UpDaKernelIdeal.nD Cert.UpDaKernelIdeal.τ).loc Cert.UpDaKernelIdeal.main_arg0)
          ∧ r.2.mem ((c.tc : Thread Cert.UpDaKernelIdeal.nD Cert.UpDaKernelIdeal.τ).loc Cert.UpDaKernelIdeal.main_arg1) = m ((c.tc : Thread Cert.UpDaKernelIdeal.nD Cert.UpDaKernelIdeal.τ).loc Cert.UpDaKernelIdeal.main_arg1)
          ∧ r.2.mem ((c.tc : Thread Cert.UpDaKernelIdeal.nD Cert.UpDaKernelIdeal.τ).loc Cert.UpDaKernelIdeal.main_arg2) = m ((c.tc : Thread Cert.UpDaKernelIdeal.nD Cert.UpDaKernelIdeal.τ).loc Cert.UpDaKernelIdeal.main_arg2))
      ∧ θ_run (Cert.UpDaReferenceIdeal.defs (F := Ideal)) (onTc (τ := Cert.UpDaReferenceIdeal.τ) (Cert.UpDaReferenceIdeal.main (F := Ideal))) ⟨m', fun _ => 0, g'⟩ (fun r =>
          r.2.mem (((0 : Dev Cert.UpDaReferenceIdeal.nD).tc : Thread Cert.UpDaReferenceIdeal.nD Cert.UpDaReferenceIdeal.τ).loc Cert.UpDaReferenceIdeal.main_v6) = v0
          ∧ r.2.mem (((0 : Dev Cert.UpDaReferenceIdeal.nD).tc : Thread Cert.UpDaReferenceIdeal.nD Cert.UpDaReferenceIdeal.τ).loc Cert.UpDaReferenceIdeal.main_v14) = v1
          ∧ r.2.mem (((0 : Dev Cert.UpDaReferenceIdeal.nD).tc : Thread Cert.UpDaReferenceIdeal.nD Cert.UpDaReferenceIdeal.τ).loc Cert.UpDaReferenceIdeal.main_arg0) = m' (((0 : Dev Cert.UpDaReferenceIdeal.nD).tc : Thread Cert.UpDaReferenceIdeal.nD Cert.UpDaReferenceIdeal.τ).loc Cert.UpDaReferenceIdeal.main_arg0)
          ∧ r.2.mem (((0 : Dev Cert.UpDaReferenceIdeal.nD).tc : Thread Cert.UpDaReferenceIdeal.nD Cert.UpDaReferenceIdeal.τ).loc Cert.UpDaReferenceIdeal.main_arg1) = m' (((0 : Dev Cert.UpDaReferenceIdeal.nD).tc : Thread Cert.UpDaReferenceIdeal.nD Cert.UpDaReferenceIdeal.τ).loc Cert.UpDaReferenceIdeal.main_arg1)
          ∧ r.2.mem (((0 : Dev Cert.UpDaReferenceIdeal.nD).tc : Thread Cert.UpDaReferenceIdeal.nD Cert.UpDaReferenceIdeal.τ).loc Cert.UpDaReferenceIdeal.main_arg2) = m' (((0 : Dev Cert.UpDaReferenceIdeal.nD).tc : Thread Cert.UpDaReferenceIdeal.nD Cert.UpDaReferenceIdeal.τ).loc Cert.UpDaReferenceIdeal.main_arg2))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m ((c.tc : Thread Cert.DownDwKernelIdeal.nD Cert.DownDwKernelIdeal.τ).loc Cert.DownDwKernelIdeal.main_arg0) = Layout.block ⟨2, ![5632, 4352]⟩ ⟨2, ![45056, 4352]⟩ 0 8 c (m' (((0 : Dev Cert.DownDwReferenceIdeal.nD).tc : Thread Cert.DownDwReferenceIdeal.nD Cert.DownDwReferenceIdeal.τ).loc Cert.DownDwReferenceIdeal.main_arg0))
      ∧ m ((c.tc : Thread Cert.DownDwKernelIdeal.nD Cert.DownDwKernelIdeal.τ).loc Cert.DownDwKernelIdeal.main_arg1) = Layout.block ⟨2, ![4352, 2048]⟩ ⟨2, ![34816, 2048]⟩ 0 8 c (m' (((0 : Dev Cert.DownDwReferenceIdeal.nD).tc : Thread Cert.DownDwReferenceIdeal.nD Cert.DownDwReferenceIdeal.τ).loc Cert.DownDwReferenceIdeal.main_arg1))
      ∧ m ((c.tc : Thread Cert.DownDwKernelIdeal.nD Cert.DownDwKernelIdeal.τ).loc Cert.DownDwKernelIdeal.main_arg2) = Layout.block ⟨3, ![8, 704, 2048]⟩ ⟨3, ![64, 704, 2048]⟩ 0 8 c (m' (((0 : Dev Cert.DownDwReferenceIdeal.nD).tc : Thread Cert.DownDwReferenceIdeal.nD Cert.DownDwReferenceIdeal.τ).loc Cert.DownDwReferenceIdeal.main_arg2))) →
    ∃ (v0 : Buf (Elt Ideal) (((0 : Dev Cert.DownDwReferenceIdeal.nD).tc : Thread Cert.DownDwReferenceIdeal.nD Cert.DownDwReferenceIdeal.τ).loc Cert.DownDwReferenceIdeal.main_v7)) (v1 : Buf (Elt Ideal) (((0 : Dev Cert.DownDwReferenceIdeal.nD).tc : Thread Cert.DownDwReferenceIdeal.nD Cert.DownDwReferenceIdeal.τ).loc Cert.DownDwReferenceIdeal.main_v15)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v1_0) = Layout.block ⟨2, ![5632, 2048]⟩ ⟨2, ![45056, 2048]⟩ 0 8 c v0
          ∧ r.2.mem ((c.tc : Thread Cert.DownDwKernelIdeal.nD Cert.DownDwKernelIdeal.τ).loc Cert.DownDwKernelIdeal.main_v1_1) = Layout.block ⟨3, ![8, 352, 2048]⟩ ⟨3, ![64, 352, 2048]⟩ 0 8 c v1
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
          ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r =>
          r.2.mem (((0 : Dev Cert.DownDwReferenceIdeal.nD).tc : Thread Cert.DownDwReferenceIdeal.nD Cert.DownDwReferenceIdeal.τ).loc Cert.DownDwReferenceIdeal.main_v7) = v0
          ∧ r.2.mem (((0 : Dev Cert.DownDwReferenceIdeal.nD).tc : Thread Cert.DownDwReferenceIdeal.nD Cert.DownDwReferenceIdeal.τ).loc Cert.DownDwReferenceIdeal.main_v15) = v1
          ∧ r.2.mem (((0 : Dev Cert.DownDwReferenceIdeal.nD).tc : Thread Cert.DownDwReferenceIdeal.nD Cert.DownDwReferenceIdeal.τ).loc Cert.DownDwReferenceIdeal.main_arg0) = m' (((0 : Dev Cert.DownDwReferenceIdeal.nD).tc : Thread Cert.DownDwReferenceIdeal.nD Cert.DownDwReferenceIdeal.τ).loc Cert.DownDwReferenceIdeal.main_arg0)
          ∧ r.2.mem (((0 : Dev Cert.DownDwReferenceIdeal.nD).tc : Thread Cert.DownDwReferenceIdeal.nD Cert.DownDwReferenceIdeal.τ).loc Cert.DownDwReferenceIdeal.main_arg1) = m' (((0 : Dev Cert.DownDwReferenceIdeal.nD).tc : Thread Cert.DownDwReferenceIdeal.nD Cert.DownDwReferenceIdeal.τ).loc Cert.DownDwReferenceIdeal.main_arg1)
          ∧ r.2.mem (((0 : Dev Cert.DownDwReferenceIdeal.nD).tc : Thread Cert.DownDwReferenceIdeal.nD Cert.DownDwReferenceIdeal.τ).loc Cert.DownDwReferenceIdeal.main_arg2) = m' (((0 : Dev Cert.DownDwReferenceIdeal.nD).tc : Thread Cert.DownDwReferenceIdeal.nD Cert.DownDwReferenceIdeal.τ).loc Cert.DownDwReferenceIdeal.main_arg2))

def preserves_DownDaKernel_DownDaKernelIdeal : Prop :=
  True

def algebraic_DownDaKernelIdeal_DownDaReferenceIdeal [hDownDaKernelIdeal : Cert.DownDaKernelIdeal.Facts] [hDownDaReferenceIdeal : Cert.DownDaReferenceIdeal.Facts] : Prop :=
  ∀ (m : (ℓ : Loc Cert.DownDaKernelIdeal.nD Cert.DownDaKernelIdeal.τ Cert.DownDaKernelIdeal.sig) → Buf (Elt Ideal) ℓ) (g : Dev Cert.DownDaKernelIdeal.nD → PrngReg)
    (m' : (ℓ : Loc Cert.DownDaReferenceIdeal.nD Cert.DownDaReferenceIdeal.τ Cert.DownDaReferenceIdeal.sig) → Buf (Elt Ideal) ℓ) (g' : Dev Cert.DownDaReferenceIdeal.nD → PrngReg), Pre_DownDaKernelIdeal m →
    (∀ c : Dev Cert.DownDaKernelIdeal.nD,
      m ((c.tc : Thread Cert.DownDaKernelIdeal.nD Cert.DownDaKernelIdeal.τ).loc Cert.DownDaKernelIdeal.main_arg0) = Layout.block ⟨2, ![4352, 2048]⟩ ⟨2, ![34816, 2048]⟩ 0 8 c (m' (((0 : Dev Cert.DownDaReferenceIdeal.nD).tc : Thread Cert.DownDaReferenceIdeal.nD Cert.DownDaReferenceIdeal.τ).loc Cert.DownDaReferenceIdeal.main_arg0))
      ∧ m ((c.tc : Thread Cert.DownDaKernelIdeal.nD Cert.DownDaKernelIdeal.τ).loc Cert.DownDaKernelIdeal.main_arg1) = m' (((0 : Dev Cert.DownDaReferenceIdeal.nD).tc : Thread Cert.DownDaReferenceIdeal.nD Cert.DownDaReferenceIdeal.τ).loc Cert.DownDaReferenceIdeal.main_arg1)
      ∧ m ((c.tc : Thread Cert.DownDaKernelIdeal.nD Cert.DownDaKernelIdeal.τ).loc Cert.DownDaKernelIdeal.main_arg2) = Layout.block ⟨3, ![8, 704, 2048]⟩ ⟨3, ![64, 704, 2048]⟩ 0 8 c (m' (((0 : Dev Cert.DownDaReferenceIdeal.nD).tc : Thread Cert.DownDaReferenceIdeal.nD Cert.DownDaReferenceIdeal.τ).loc Cert.DownDaReferenceIdeal.main_arg2))) →
    ∃ (v0 : Buf (Elt Ideal) (((0 : Dev Cert.DownDaReferenceIdeal.nD).tc : Thread Cert.DownDaReferenceIdeal.nD Cert.DownDaReferenceIdeal.τ).loc Cert.DownDaReferenceIdeal.main_v5)) (v1 : Buf (Elt Ideal) (((0 : Dev Cert.DownDaReferenceIdeal.nD).tc : Thread Cert.DownDaReferenceIdeal.nD Cert.DownDaReferenceIdeal.τ).loc Cert.DownDaReferenceIdeal.main_v13)),
      θ_run (Cert.DownDaKernelIdeal.defs (F := Ideal)) (onTc (τ := Cert.DownDaKernelIdeal.τ) (Cert.DownDaKernelIdeal.main (F := Ideal))) ⟨m, fun _ => 0, g⟩ (fun r => ∀ c : Dev Cert.DownDaKernelIdeal.nD,
          r.2.mem ((c.tc : Thread Cert.DownDaKernelIdeal.nD Cert.DownDaKernelIdeal.τ).loc Cert.DownDaKernelIdeal.main_v1_0) = Layout.block ⟨2, ![4352, 5632]⟩ ⟨2, ![34816, 5632]⟩ 0 8 c v0
          ∧ r.2.mem ((c.tc : Thread Cert.DownDaKernelIdeal.nD Cert.DownDaKernelIdeal.τ).loc Cert.DownDaKernelIdeal.main_v1_1) = Layout.block ⟨3, ![8, 352, 2048]⟩ ⟨3, ![64, 352, 2048]⟩ 0 8 c v1
          ∧ r.2.mem ((c.tc : Thread Cert.DownDaKernelIdeal.nD Cert.DownDaKernelIdeal.τ).loc Cert.DownDaKernelIdeal.main_arg0) = m ((c.tc : Thread Cert.DownDaKernelIdeal.nD Cert.DownDaKernelIdeal.τ).loc Cert.DownDaKernelIdeal.main_arg0)
          ∧ r.2.mem ((c.tc : Thread Cert.DownDaKernelIdeal.nD Cert.DownDaKernelIdeal.τ).loc Cert.DownDaKernelIdeal.main_arg1) = m ((c.tc : Thread Cert.DownDaKernelIdeal.nD Cert.DownDaKernelIdeal.τ).loc Cert.DownDaKernelIdeal.main_arg1)
          ∧ r.2.mem ((c.tc : Thread Cert.DownDaKernelIdeal.nD Cert.DownDaKernelIdeal.τ).loc Cert.DownDaKernelIdeal.main_arg2) = m ((c.tc : Thread Cert.DownDaKernelIdeal.nD Cert.DownDaKernelIdeal.τ).loc Cert.DownDaKernelIdeal.main_arg2))
      ∧ θ_run (Cert.DownDaReferenceIdeal.defs (F := Ideal)) (onTc (τ := Cert.DownDaReferenceIdeal.τ) (Cert.DownDaReferenceIdeal.main (F := Ideal))) ⟨m', fun _ => 0, g'⟩ (fun r =>
          r.2.mem (((0 : Dev Cert.DownDaReferenceIdeal.nD).tc : Thread Cert.DownDaReferenceIdeal.nD Cert.DownDaReferenceIdeal.τ).loc Cert.DownDaReferenceIdeal.main_v5) = v0
          ∧ r.2.mem (((0 : Dev Cert.DownDaReferenceIdeal.nD).tc : Thread Cert.DownDaReferenceIdeal.nD Cert.DownDaReferenceIdeal.τ).loc Cert.DownDaReferenceIdeal.main_v13) = v1
          ∧ r.2.mem (((0 : Dev Cert.DownDaReferenceIdeal.nD).tc : Thread Cert.DownDaReferenceIdeal.nD Cert.DownDaReferenceIdeal.τ).loc Cert.DownDaReferenceIdeal.main_arg0) = m' (((0 : Dev Cert.DownDaReferenceIdeal.nD).tc : Thread Cert.DownDaReferenceIdeal.nD Cert.DownDaReferenceIdeal.τ).loc Cert.DownDaReferenceIdeal.main_arg0)
          ∧ r.2.mem (((0 : Dev Cert.DownDaReferenceIdeal.nD).tc : Thread Cert.DownDaReferenceIdeal.nD Cert.DownDaReferenceIdeal.τ).loc Cert.DownDaReferenceIdeal.main_arg1) = m' (((0 : Dev Cert.DownDaReferenceIdeal.nD).tc : Thread Cert.DownDaReferenceIdeal.nD Cert.DownDaReferenceIdeal.τ).loc Cert.DownDaReferenceIdeal.main_arg1)
          ∧ r.2.mem (((0 : Dev Cert.DownDaReferenceIdeal.nD).tc : Thread Cert.DownDaReferenceIdeal.nD Cert.DownDaReferenceIdeal.τ).loc Cert.DownDaReferenceIdeal.main_arg2) = m' (((0 : Dev Cert.DownDaReferenceIdeal.nD).tc : Thread Cert.DownDaReferenceIdeal.nD Cert.DownDaReferenceIdeal.τ).loc Cert.DownDaReferenceIdeal.main_arg2))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m ((c.tc : Thread Cert.InDwKernelIdeal.nD Cert.InDwKernelIdeal.τ).loc Cert.InDwKernelIdeal.main_arg0) = Layout.block ⟨2, ![2048, 4352]⟩ ⟨2, ![16384, 4352]⟩ 0 8 c (m' (((0 : Dev Cert.InDwReferenceIdeal.nD).tc : Thread Cert.InDwReferenceIdeal.nD Cert.InDwReferenceIdeal.τ).loc Cert.InDwReferenceIdeal.main_arg0))
      ∧ m ((c.tc : Thread Cert.InDwKernelIdeal.nD Cert.InDwKernelIdeal.τ).loc Cert.InDwKernelIdeal.main_arg1) = Layout.block ⟨2, ![4352, 2048]⟩ ⟨2, ![34816, 2048]⟩ 0 8 c (m' (((0 : Dev Cert.InDwReferenceIdeal.nD).tc : Thread Cert.InDwReferenceIdeal.nD Cert.InDwReferenceIdeal.τ).loc Cert.InDwReferenceIdeal.main_arg1))
      ∧ m ((c.tc : Thread Cert.InDwKernelIdeal.nD Cert.InDwKernelIdeal.τ).loc Cert.InDwKernelIdeal.main_arg2) = Layout.block ⟨3, ![8, 256, 2048]⟩ ⟨3, ![64, 256, 2048]⟩ 0 8 c (m' (((0 : Dev Cert.InDwReferenceIdeal.nD).tc : Thread Cert.InDwReferenceIdeal.nD Cert.InDwReferenceIdeal.τ).loc Cert.InDwReferenceIdeal.main_arg2))) →
    ∃ (v0 : Buf (Elt Ideal) (((0 : Dev Cert.InDwReferenceIdeal.nD).tc : Thread Cert.InDwReferenceIdeal.nD Cert.InDwReferenceIdeal.τ).loc Cert.InDwReferenceIdeal.main_v7)) (v1 : Buf (Elt Ideal) (((0 : Dev Cert.InDwReferenceIdeal.nD).tc : Thread Cert.InDwReferenceIdeal.nD Cert.InDwReferenceIdeal.τ).loc Cert.InDwReferenceIdeal.main_v15)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v1_0) = Layout.block ⟨2, ![2048, 2048]⟩ ⟨2, ![16384, 2048]⟩ 0 8 c v0
          ∧ r.2.mem ((c.tc : Thread Cert.InDwKernelIdeal.nD Cert.InDwKernelIdeal.τ).loc Cert.InDwKernelIdeal.main_v1_1) = Layout.block ⟨3, ![8, 128, 2048]⟩ ⟨3, ![64, 128, 2048]⟩ 0 8 c v1
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1)
          ∧ r.2.mem ((c.tc : Thread Cert.InDwKernelIdeal.nD Cert.InDwKernelIdeal.τ).loc Cert.InDwKernelIdeal.main_arg2) = m ((c.tc : Thread Cert.InDwKernelIdeal.nD Cert.InDwKernelIdeal.τ).loc Cert.InDwKernelIdeal.main_arg2))
      ∧ θ_run (Cert.InDwReferenceIdeal.defs (F := Ideal)) (onTc (τ := Cert.InDwReferenceIdeal.τ) (Cert.InDwReferenceIdeal.main (F := Ideal))) ⟨m', fun _ => 0, g'⟩ (fun r =>
          r.2.mem (((0 : Dev Cert.InDwReferenceIdeal.nD).tc : Thread Cert.InDwReferenceIdeal.nD Cert.InDwReferenceIdeal.τ).loc Cert.InDwReferenceIdeal.main_v7) = v0
          ∧ r.2.mem (((0 : Dev Cert.InDwReferenceIdeal.nD).tc : Thread Cert.InDwReferenceIdeal.nD Cert.InDwReferenceIdeal.τ).loc Cert.InDwReferenceIdeal.main_v15) = v1
          ∧ r.2.mem (((0 : Dev Cert.InDwReferenceIdeal.nD).tc : Thread Cert.InDwReferenceIdeal.nD Cert.InDwReferenceIdeal.τ).loc Cert.InDwReferenceIdeal.main_arg0) = m' (((0 : Dev Cert.InDwReferenceIdeal.nD).tc : Thread Cert.InDwReferenceIdeal.nD Cert.InDwReferenceIdeal.τ).loc Cert.InDwReferenceIdeal.main_arg0)
          ∧ r.2.mem (((0 : Dev Cert.InDwReferenceIdeal.nD).tc : Thread Cert.InDwReferenceIdeal.nD Cert.InDwReferenceIdeal.τ).loc Cert.InDwReferenceIdeal.main_arg1) = m' (((0 : Dev Cert.InDwReferenceIdeal.nD).tc : Thread Cert.InDwReferenceIdeal.nD Cert.InDwReferenceIdeal.τ).loc Cert.InDwReferenceIdeal.main_arg1)
          ∧ r.2.mem (((0 : Dev Cert.InDwReferenceIdeal.nD).tc : Thread Cert.InDwReferenceIdeal.nD Cert.InDwReferenceIdeal.τ).loc Cert.InDwReferenceIdeal.main_arg2) = m' (((0 : Dev Cert.InDwReferenceIdeal.nD).tc : Thread Cert.InDwReferenceIdeal.nD Cert.InDwReferenceIdeal.τ).loc Cert.InDwReferenceIdeal.main_arg2))

def preserves_InDaKernel_InDaKernelIdeal : Prop :=
  True

def algebraic_InDaKernelIdeal_InDaReferenceIdeal [hInDaKernelIdeal : Cert.InDaKernelIdeal.Facts] [hInDaReferenceIdeal : Cert.InDaReferenceIdeal.Facts] : Prop :=
  ∀ (m : (ℓ : Loc Cert.InDaKernelIdeal.nD Cert.InDaKernelIdeal.τ Cert.InDaKernelIdeal.sig) → Buf (Elt Ideal) ℓ) (g : Dev Cert.InDaKernelIdeal.nD → PrngReg)
    (m' : (ℓ : Loc Cert.InDaReferenceIdeal.nD Cert.InDaReferenceIdeal.τ Cert.InDaReferenceIdeal.sig) → Buf (Elt Ideal) ℓ) (g' : Dev Cert.InDaReferenceIdeal.nD → PrngReg), Pre_InDaKernelIdeal m →
    (∀ c : Dev Cert.InDaKernelIdeal.nD,
      m ((c.tc : Thread Cert.InDaKernelIdeal.nD Cert.InDaKernelIdeal.τ).loc Cert.InDaKernelIdeal.main_arg0) = Layout.block ⟨2, ![4352, 2048]⟩ ⟨2, ![34816, 2048]⟩ 0 8 c (m' (((0 : Dev Cert.InDaReferenceIdeal.nD).tc : Thread Cert.InDaReferenceIdeal.nD Cert.InDaReferenceIdeal.τ).loc Cert.InDaReferenceIdeal.main_arg0))
      ∧ m ((c.tc : Thread Cert.InDaKernelIdeal.nD Cert.InDaKernelIdeal.τ).loc Cert.InDaKernelIdeal.main_arg1) = m' (((0 : Dev Cert.InDaReferenceIdeal.nD).tc : Thread Cert.InDaReferenceIdeal.nD Cert.InDaReferenceIdeal.τ).loc Cert.InDaReferenceIdeal.main_arg1)
      ∧ m ((c.tc : Thread Cert.InDaKernelIdeal.nD Cert.InDaKernelIdeal.τ).loc Cert.InDaKernelIdeal.main_arg2) = Layout.block ⟨3, ![8, 256, 2048]⟩ ⟨3, ![64, 256, 2048]⟩ 0 8 c (m' (((0 : Dev Cert.InDaReferenceIdeal.nD).tc : Thread Cert.InDaReferenceIdeal.nD Cert.InDaReferenceIdeal.τ).loc Cert.InDaReferenceIdeal.main_arg2))) →
    ∃ (v0 : Buf (Elt Ideal) (((0 : Dev Cert.InDaReferenceIdeal.nD).tc : Thread Cert.InDaReferenceIdeal.nD Cert.InDaReferenceIdeal.τ).loc Cert.InDaReferenceIdeal.main_v5)) (v1 : Buf (Elt Ideal) (((0 : Dev Cert.InDaReferenceIdeal.nD).tc : Thread Cert.InDaReferenceIdeal.nD Cert.InDaReferenceIdeal.τ).loc Cert.InDaReferenceIdeal.main_v13)),
      θ_run (Cert.InDaKernelIdeal.defs (F := Ideal)) (onTc (τ := Cert.InDaKernelIdeal.τ) (Cert.InDaKernelIdeal.main (F := Ideal))) ⟨m, fun _ => 0, g⟩ (fun r => ∀ c : Dev Cert.InDaKernelIdeal.nD,
          r.2.mem ((c.tc : Thread Cert.InDaKernelIdeal.nD Cert.InDaKernelIdeal.τ).loc Cert.InDaKernelIdeal.main_v1_0) = Layout.block ⟨2, ![4352, 2048]⟩ ⟨2, ![34816, 2048]⟩ 0 8 c v0
          ∧ r.2.mem ((c.tc : Thread Cert.InDaKernelIdeal.nD Cert.InDaKernelIdeal.τ).loc Cert.InDaKernelIdeal.main_v1_1) = Layout.block ⟨3, ![8, 128, 2048]⟩ ⟨3, ![64, 128, 2048]⟩ 0 8 c v1
          ∧ r.2.mem ((c.tc : Thread Cert.InDaKernelIdeal.nD Cert.InDaKernelIdeal.τ).loc Cert.InDaKernelIdeal.main_arg0) = m ((c.tc : Thread Cert.InDaKernelIdeal.nD Cert.InDaKernelIdeal.τ).loc Cert.InDaKernelIdeal.main_arg0)
          ∧ r.2.mem ((c.tc : Thread Cert.InDaKernelIdeal.nD Cert.InDaKernelIdeal.τ).loc Cert.InDaKernelIdeal.main_arg1) = m ((c.tc : Thread Cert.InDaKernelIdeal.nD Cert.InDaKernelIdeal.τ).loc Cert.InDaKernelIdeal.main_arg1)
          ∧ r.2.mem ((c.tc : Thread Cert.InDaKernelIdeal.nD Cert.InDaKernelIdeal.τ).loc Cert.InDaKernelIdeal.main_arg2) = m ((c.tc : Thread Cert.InDaKernelIdeal.nD Cert.InDaKernelIdeal.τ).loc Cert.InDaKernelIdeal.main_arg2))
      ∧ θ_run (Cert.InDaReferenceIdeal.defs (F := Ideal)) (onTc (τ := Cert.InDaReferenceIdeal.τ) (Cert.InDaReferenceIdeal.main (F := Ideal))) ⟨m', fun _ => 0, g'⟩ (fun r =>
          r.2.mem (((0 : Dev Cert.InDaReferenceIdeal.nD).tc : Thread Cert.InDaReferenceIdeal.nD Cert.InDaReferenceIdeal.τ).loc Cert.InDaReferenceIdeal.main_v5) = v0
          ∧ r.2.mem (((0 : Dev Cert.InDaReferenceIdeal.nD).tc : Thread Cert.InDaReferenceIdeal.nD Cert.InDaReferenceIdeal.τ).loc Cert.InDaReferenceIdeal.main_v13) = v1
          ∧ r.2.mem (((0 : Dev Cert.InDaReferenceIdeal.nD).tc : Thread Cert.InDaReferenceIdeal.nD Cert.InDaReferenceIdeal.τ).loc Cert.InDaReferenceIdeal.main_arg0) = m' (((0 : Dev Cert.InDaReferenceIdeal.nD).tc : Thread Cert.InDaReferenceIdeal.nD Cert.InDaReferenceIdeal.τ).loc Cert.InDaReferenceIdeal.main_arg0)
          ∧ r.2.mem (((0 : Dev Cert.InDaReferenceIdeal.nD).tc : Thread Cert.InDaReferenceIdeal.nD Cert.InDaReferenceIdeal.τ).loc Cert.InDaReferenceIdeal.main_arg1) = m' (((0 : Dev Cert.InDaReferenceIdeal.nD).tc : Thread Cert.InDaReferenceIdeal.nD Cert.InDaReferenceIdeal.τ).loc Cert.InDaReferenceIdeal.main_arg1)
          ∧ r.2.mem (((0 : Dev Cert.InDaReferenceIdeal.nD).tc : Thread Cert.InDaReferenceIdeal.nD Cert.InDaReferenceIdeal.τ).loc Cert.InDaReferenceIdeal.main_arg2) = m' (((0 : Dev Cert.InDaReferenceIdeal.nD).tc : Thread Cert.InDaReferenceIdeal.nD Cert.InDaReferenceIdeal.τ).loc Cert.InDaReferenceIdeal.main_arg2))

def preserves_GatherKernel_GatherKernelIdeal : Prop :=
  True

def algebraic_GatherKernelIdeal_GatherReferenceIdeal [hGatherKernelIdeal : Cert.GatherKernelIdeal.Facts] [hGatherReferenceIdeal : Cert.GatherReferenceIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherKernelIdeal m →
    (∀ c : Dev Cert.GatherKernelIdeal.nD,
      m ((c.tc : Thread Cert.GatherKernelIdeal.nD Cert.GatherKernelIdeal.τ).loc Cert.GatherKernelIdeal.main_arg0) = Layout.block ⟨2, ![256, 2048]⟩ ⟨2, ![2048, 2048]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherKernelIdeal.defs (F := Ideal)) (onTc (τ := Cert.GatherKernelIdeal.τ) (Cert.GatherKernelIdeal.main (F := Ideal))) ⟨m, fun _ => 0, g⟩ (fun r => ∀ c : Dev Cert.GatherKernelIdeal.nD,
          r.2.mem ((c.tc : Thread Cert.GatherKernelIdeal.nD Cert.GatherKernelIdeal.τ).loc Cert.GatherKernelIdeal.main_v1) = v0
          ∧ r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def preserves_ScatterKernel_ScatterKernelIdeal : Prop :=
  True

def algebraic_ScatterKernelIdeal_ScatterReferenceIdeal [hScatterKernelIdeal : Cert.ScatterKernelIdeal.Facts] [hScatterReferenceIdeal : Cert.ScatterReferenceIdeal.Facts] : Prop :=
  ∀ (m : (ℓ : Loc Cert.ScatterKernelIdeal.nD Cert.ScatterKernelIdeal.τ Cert.ScatterKernelIdeal.sig) → Buf (Elt Ideal) ℓ) (g : Dev Cert.ScatterKernelIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterKernelIdeal m →
    (∀ c : Dev Cert.ScatterKernelIdeal.nD,
      m ((c.tc : Thread Cert.ScatterKernelIdeal.nD Cert.ScatterKernelIdeal.τ).loc Cert.ScatterKernelIdeal.main_arg0) = Layout.block ⟨3, ![8, 256, 2048]⟩ ⟨3, ![64, 256, 2048]⟩ 0 8 c (m' (((0 : Dev Cert.ScatterReferenceIdeal.nD).tc : Thread Cert.ScatterReferenceIdeal.nD Cert.ScatterReferenceIdeal.τ).loc Cert.ScatterReferenceIdeal.main_arg0))) →
    ∃ (v0 : Buf (Elt Ideal) (((0 : Dev Cert.ScatterReferenceIdeal.nD).tc : Thread Cert.ScatterReferenceIdeal.nD Cert.ScatterReferenceIdeal.τ).loc Cert.ScatterReferenceIdeal.main_v6)),
      θ_run (Cert.ScatterKernelIdeal.defs (F := Ideal)) (onTc (τ := Cert.ScatterKernelIdeal.τ) (Cert.ScatterKernelIdeal.main (F := Ideal))) ⟨m, fun _ => 0, g⟩ (fun r => ∀ c : Dev Cert.ScatterKernelIdeal.nD,
          r.2.mem ((c.tc : Thread Cert.ScatterKernelIdeal.nD Cert.ScatterKernelIdeal.τ).loc Cert.ScatterKernelIdeal.main_v1) = Layout.block ⟨3, ![8, 256, 2048]⟩ ⟨3, ![64, 256, 2048]⟩ 0 8 c v0
          ∧ r.2.mem ((c.tc : Thread Cert.ScatterKernelIdeal.nD Cert.ScatterKernelIdeal.τ).loc Cert.ScatterKernelIdeal.main_arg0) = m ((c.tc : Thread Cert.ScatterKernelIdeal.nD Cert.ScatterKernelIdeal.τ).loc Cert.ScatterKernelIdeal.main_arg0))
      ∧ θ_run (Cert.ScatterReferenceIdeal.defs (F := Ideal)) (onTc (τ := Cert.ScatterReferenceIdeal.τ) (Cert.ScatterReferenceIdeal.main (F := Ideal))) ⟨m', fun _ => 0, g'⟩ (fun r =>
          r.2.mem (((0 : Dev Cert.ScatterReferenceIdeal.nD).tc : Thread Cert.ScatterReferenceIdeal.nD Cert.ScatterReferenceIdeal.τ).loc Cert.ScatterReferenceIdeal.main_v6) = v0
          ∧ r.2.mem (((0 : Dev Cert.ScatterReferenceIdeal.nD).tc : Thread Cert.ScatterReferenceIdeal.nD Cert.ScatterReferenceIdeal.τ).loc Cert.ScatterReferenceIdeal.main_arg0) = m' (((0 : Dev Cert.ScatterReferenceIdeal.nD).tc : Thread Cert.ScatterReferenceIdeal.nD Cert.ScatterReferenceIdeal.τ).loc Cert.ScatterReferenceIdeal.main_arg0))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_ScanUpKernel_ScanUpKernelIdeal : Prop :=
  True

def algebraic_ScanUpKernelIdeal_ScanUpReferenceIdeal [hScanUpKernelIdeal : Cert.ScanUpKernelIdeal.Facts] [hScanUpReferenceIdeal : Cert.ScanUpReferenceIdeal.Facts] : Prop :=
  ∀ (m : (ℓ : Loc Cert.ScanUpKernelIdeal.nD Cert.ScanUpKernelIdeal.τ Cert.ScanUpKernelIdeal.sig) → Buf (Elt Ideal) ℓ) (g : Dev Cert.ScanUpKernelIdeal.nD → PrngReg)
    (m' : (ℓ : Loc Cert.ScanUpReferenceIdeal.nD Cert.ScanUpReferenceIdeal.τ Cert.ScanUpReferenceIdeal.sig) → Buf (Elt Ideal) ℓ) (g' : Dev Cert.ScanUpReferenceIdeal.nD → PrngReg), Pre_ScanUpKernelIdeal m →
    (∀ c : Dev Cert.ScanUpKernelIdeal.nD,
      m ((c.tc : Thread Cert.ScanUpKernelIdeal.nD Cert.ScanUpKernelIdeal.τ).loc Cert.ScanUpKernelIdeal.main_arg0) = Layout.block ⟨2, ![4352, 512]⟩ ⟨2, ![34816, 512]⟩ 0 8 c (m' (((0 : Dev Cert.ScanUpReferenceIdeal.nD).tc : Thread Cert.ScanUpReferenceIdeal.nD Cert.ScanUpReferenceIdeal.τ).loc Cert.ScanUpReferenceIdeal.main_arg0))
      ∧ m ((c.tc : Thread Cert.ScanUpKernelIdeal.nD Cert.ScanUpKernelIdeal.τ).loc Cert.ScanUpKernelIdeal.main_arg1) = m' (((0 : Dev Cert.ScanUpReferenceIdeal.nD).tc : Thread Cert.ScanUpReferenceIdeal.nD Cert.ScanUpReferenceIdeal.τ).loc Cert.ScanUpReferenceIdeal.main_arg1)
      ∧ m ((c.tc : Thread Cert.ScanUpKernelIdeal.nD Cert.ScanUpKernelIdeal.τ).loc Cert.ScanUpKernelIdeal.main_arg2) = m' (((0 : Dev Cert.ScanUpReferenceIdeal.nD).tc : Thread Cert.ScanUpReferenceIdeal.nD Cert.ScanUpReferenceIdeal.τ).loc Cert.ScanUpReferenceIdeal.main_arg2)
      ∧ m ((c.tc : Thread Cert.ScanUpKernelIdeal.nD Cert.ScanUpKernelIdeal.τ).loc Cert.ScanUpKernelIdeal.main_arg3) = m' (((0 : Dev Cert.ScanUpReferenceIdeal.nD).tc : Thread Cert.ScanUpReferenceIdeal.nD Cert.ScanUpReferenceIdeal.τ).loc Cert.ScanUpReferenceIdeal.main_arg3)
      ∧ m ((c.tc : Thread Cert.ScanUpKernelIdeal.nD Cert.ScanUpKernelIdeal.τ).loc Cert.ScanUpKernelIdeal.main_arg4) = m' (((0 : Dev Cert.ScanUpReferenceIdeal.nD).tc : Thread Cert.ScanUpReferenceIdeal.nD Cert.ScanUpReferenceIdeal.τ).loc Cert.ScanUpReferenceIdeal.main_arg4)
      ∧ m ((c.tc : Thread Cert.ScanUpKernelIdeal.nD Cert.ScanUpKernelIdeal.τ).loc Cert.ScanUpKernelIdeal.main_arg5) = m' (((0 : Dev Cert.ScanUpReferenceIdeal.nD).tc : Thread Cert.ScanUpReferenceIdeal.nD Cert.ScanUpReferenceIdeal.τ).loc Cert.ScanUpReferenceIdeal.main_arg5)
      ∧ m ((c.tc : Thread Cert.ScanUpKernelIdeal.nD Cert.ScanUpKernelIdeal.τ).loc Cert.ScanUpKernelIdeal.main_arg6) = m' (((0 : Dev Cert.ScanUpReferenceIdeal.nD).tc : Thread Cert.ScanUpReferenceIdeal.nD Cert.ScanUpReferenceIdeal.τ).loc Cert.ScanUpReferenceIdeal.main_arg6)
      ∧ m ((c.tc : Thread Cert.ScanUpKernelIdeal.nD Cert.ScanUpKernelIdeal.τ).loc Cert.ScanUpKernelIdeal.main_arg7) = Layout.block ⟨2, ![2048, 1408]⟩ ⟨2, ![2048, 11264]⟩ 1 8 c (m' (((0 : Dev Cert.ScanUpReferenceIdeal.nD).tc : Thread Cert.ScanUpReferenceIdeal.nD Cert.ScanUpReferenceIdeal.τ).loc Cert.ScanUpReferenceIdeal.main_arg7))) →
    ∃ (v0 : Buf (Elt Ideal) (((0 : Dev Cert.ScanUpReferenceIdeal.nD).tc : Thread Cert.ScanUpReferenceIdeal.nD Cert.ScanUpReferenceIdeal.τ).loc Cert.ScanUpReferenceIdeal.main_v1)),
      θ_run (Cert.ScanUpKernelIdeal.defs (F := Ideal)) (onTc (τ := Cert.ScanUpKernelIdeal.τ) (Cert.ScanUpKernelIdeal.main (F := Ideal))) ⟨m, fun _ => 0, g⟩ (fun r => ∀ c : Dev Cert.ScanUpKernelIdeal.nD,
          r.2.mem ((c.tc : Thread Cert.ScanUpKernelIdeal.nD Cert.ScanUpKernelIdeal.τ).loc Cert.ScanUpKernelIdeal.main_v1_3) = v0
          ∧ r.2.mem ((c.tc : Thread Cert.ScanUpKernelIdeal.nD Cert.ScanUpKernelIdeal.τ).loc Cert.ScanUpKernelIdeal.main_arg0) = m ((c.tc : Thread Cert.ScanUpKernelIdeal.nD Cert.ScanUpKernelIdeal.τ).loc Cert.ScanUpKernelIdeal.main_arg0)
          ∧ r.2.mem ((c.tc : Thread Cert.ScanUpKernelIdeal.nD Cert.ScanUpKernelIdeal.τ).loc Cert.ScanUpKernelIdeal.main_arg1) = m ((c.tc : Thread Cert.ScanUpKernelIdeal.nD Cert.ScanUpKernelIdeal.τ).loc Cert.ScanUpKernelIdeal.main_arg1)
          ∧ r.2.mem ((c.tc : Thread Cert.ScanUpKernelIdeal.nD Cert.ScanUpKernelIdeal.τ).loc Cert.ScanUpKernelIdeal.main_arg2) = m ((c.tc : Thread Cert.ScanUpKernelIdeal.nD Cert.ScanUpKernelIdeal.τ).loc Cert.ScanUpKernelIdeal.main_arg2)
          ∧ r.2.mem ((c.tc : Thread Cert.ScanUpKernelIdeal.nD Cert.ScanUpKernelIdeal.τ).loc Cert.ScanUpKernelIdeal.main_arg3) = m ((c.tc : Thread Cert.ScanUpKernelIdeal.nD Cert.ScanUpKernelIdeal.τ).loc Cert.ScanUpKernelIdeal.main_arg3)
          ∧ r.2.mem ((c.tc : Thread Cert.ScanUpKernelIdeal.nD Cert.ScanUpKernelIdeal.τ).loc Cert.ScanUpKernelIdeal.main_arg4) = m ((c.tc : Thread Cert.ScanUpKernelIdeal.nD Cert.ScanUpKernelIdeal.τ).loc Cert.ScanUpKernelIdeal.main_arg4)
          ∧ r.2.mem ((c.tc : Thread Cert.ScanUpKernelIdeal.nD Cert.ScanUpKernelIdeal.τ).loc Cert.ScanUpKernelIdeal.main_arg5) = m ((c.tc : Thread Cert.ScanUpKernelIdeal.nD Cert.ScanUpKernelIdeal.τ).loc Cert.ScanUpKernelIdeal.main_arg5)
          ∧ r.2.mem ((c.tc : Thread Cert.ScanUpKernelIdeal.nD Cert.ScanUpKernelIdeal.τ).loc Cert.ScanUpKernelIdeal.main_arg6) = m ((c.tc : Thread Cert.ScanUpKernelIdeal.nD Cert.ScanUpKernelIdeal.τ).loc Cert.ScanUpKernelIdeal.main_arg6)
          ∧ r.2.mem ((c.tc : Thread Cert.ScanUpKernelIdeal.nD Cert.ScanUpKernelIdeal.τ).loc Cert.ScanUpKernelIdeal.main_arg7) = m ((c.tc : Thread Cert.ScanUpKernelIdeal.nD Cert.ScanUpKernelIdeal.τ).loc Cert.ScanUpKernelIdeal.main_arg7))
      ∧ θ_run (Cert.ScanUpReferenceIdeal.defs (F := Ideal)) (onTc (τ := Cert.ScanUpReferenceIdeal.τ) (Cert.ScanUpReferenceIdeal.main (F := Ideal))) ⟨m', fun _ => 0, g'⟩ (fun r =>
          r.2.mem (((0 : Dev Cert.ScanUpReferenceIdeal.nD).tc : Thread Cert.ScanUpReferenceIdeal.nD Cert.ScanUpReferenceIdeal.τ).loc Cert.ScanUpReferenceIdeal.main_v1) = v0
          ∧ r.2.mem (((0 : Dev Cert.ScanUpReferenceIdeal.nD).tc : Thread Cert.ScanUpReferenceIdeal.nD Cert.ScanUpReferenceIdeal.τ).loc Cert.ScanUpReferenceIdeal.main_arg0) = m' (((0 : Dev Cert.ScanUpReferenceIdeal.nD).tc : Thread Cert.ScanUpReferenceIdeal.nD Cert.ScanUpReferenceIdeal.τ).loc Cert.ScanUpReferenceIdeal.main_arg0)
          ∧ r.2.mem (((0 : Dev Cert.ScanUpReferenceIdeal.nD).tc : Thread Cert.ScanUpReferenceIdeal.nD Cert.ScanUpReferenceIdeal.τ).loc Cert.ScanUpReferenceIdeal.main_arg1) = m' (((0 : Dev Cert.ScanUpReferenceIdeal.nD).tc : Thread Cert.ScanUpReferenceIdeal.nD Cert.ScanUpReferenceIdeal.τ).loc Cert.ScanUpReferenceIdeal.main_arg1)
          ∧ r.2.mem (((0 : Dev Cert.ScanUpReferenceIdeal.nD).tc : Thread Cert.ScanUpReferenceIdeal.nD Cert.ScanUpReferenceIdeal.τ).loc Cert.ScanUpReferenceIdeal.main_arg2) = m' (((0 : Dev Cert.ScanUpReferenceIdeal.nD).tc : Thread Cert.ScanUpReferenceIdeal.nD Cert.ScanUpReferenceIdeal.τ).loc Cert.ScanUpReferenceIdeal.main_arg2)
          ∧ r.2.mem (((0 : Dev Cert.ScanUpReferenceIdeal.nD).tc : Thread Cert.ScanUpReferenceIdeal.nD Cert.ScanUpReferenceIdeal.τ).loc Cert.ScanUpReferenceIdeal.main_arg3) = m' (((0 : Dev Cert.ScanUpReferenceIdeal.nD).tc : Thread Cert.ScanUpReferenceIdeal.nD Cert.ScanUpReferenceIdeal.τ).loc Cert.ScanUpReferenceIdeal.main_arg3)
          ∧ r.2.mem (((0 : Dev Cert.ScanUpReferenceIdeal.nD).tc : Thread Cert.ScanUpReferenceIdeal.nD Cert.ScanUpReferenceIdeal.τ).loc Cert.ScanUpReferenceIdeal.main_arg4) = m' (((0 : Dev Cert.ScanUpReferenceIdeal.nD).tc : Thread Cert.ScanUpReferenceIdeal.nD Cert.ScanUpReferenceIdeal.τ).loc Cert.ScanUpReferenceIdeal.main_arg4)
          ∧ r.2.mem (((0 : Dev Cert.ScanUpReferenceIdeal.nD).tc : Thread Cert.ScanUpReferenceIdeal.nD Cert.ScanUpReferenceIdeal.τ).loc Cert.ScanUpReferenceIdeal.main_arg5) = m' (((0 : Dev Cert.ScanUpReferenceIdeal.nD).tc : Thread Cert.ScanUpReferenceIdeal.nD Cert.ScanUpReferenceIdeal.τ).loc Cert.ScanUpReferenceIdeal.main_arg5)
          ∧ r.2.mem (((0 : Dev Cert.ScanUpReferenceIdeal.nD).tc : Thread Cert.ScanUpReferenceIdeal.nD Cert.ScanUpReferenceIdeal.τ).loc Cert.ScanUpReferenceIdeal.main_arg6) = m' (((0 : Dev Cert.ScanUpReferenceIdeal.nD).tc : Thread Cert.ScanUpReferenceIdeal.nD Cert.ScanUpReferenceIdeal.τ).loc Cert.ScanUpReferenceIdeal.main_arg6)
          ∧ r.2.mem (((0 : Dev Cert.ScanUpReferenceIdeal.nD).tc : Thread Cert.ScanUpReferenceIdeal.nD Cert.ScanUpReferenceIdeal.τ).loc Cert.ScanUpReferenceIdeal.main_arg7) = m' (((0 : Dev Cert.ScanUpReferenceIdeal.nD).tc : Thread Cert.ScanUpReferenceIdeal.nD Cert.ScanUpReferenceIdeal.τ).loc Cert.ScanUpReferenceIdeal.main_arg7))

def preserves_ScanDownKernel_ScanDownKernelIdeal : Prop :=
  True

def algebraic_ScanDownKernelIdeal_ScanDownReferenceIdeal [hScanDownKernelIdeal : Cert.ScanDownKernelIdeal.Facts] [hScanDownReferenceIdeal : Cert.ScanDownReferenceIdeal.Facts] : Prop :=
  ∀ (m : (ℓ : Loc Cert.ScanDownKernelIdeal.nD Cert.ScanDownKernelIdeal.τ Cert.ScanDownKernelIdeal.sig) → Buf (Elt Ideal) ℓ) (g : Dev Cert.ScanDownKernelIdeal.nD → PrngReg)
    (m' : (ℓ : Loc Cert.ScanDownReferenceIdeal.nD Cert.ScanDownReferenceIdeal.τ Cert.ScanDownReferenceIdeal.sig) → Buf (Elt Ideal) ℓ) (g' : Dev Cert.ScanDownReferenceIdeal.nD → PrngReg), Pre_ScanDownKernelIdeal m →
    (∀ c : Dev Cert.ScanDownKernelIdeal.nD,
      m ((c.tc : Thread Cert.ScanDownKernelIdeal.nD Cert.ScanDownKernelIdeal.τ).loc Cert.ScanDownKernelIdeal.main_arg0) = Layout.block ⟨2, ![4352, 512]⟩ ⟨2, ![34816, 512]⟩ 0 8 c (m' (((0 : Dev Cert.ScanDownReferenceIdeal.nD).tc : Thread Cert.ScanDownReferenceIdeal.nD Cert.ScanDownReferenceIdeal.τ).loc Cert.ScanDownReferenceIdeal.main_arg0))
      ∧ m ((c.tc : Thread Cert.ScanDownKernelIdeal.nD Cert.ScanDownKernelIdeal.τ).loc Cert.ScanDownKernelIdeal.main_arg1) = m' (((0 : Dev Cert.ScanDownReferenceIdeal.nD).tc : Thread Cert.ScanDownReferenceIdeal.nD Cert.ScanDownReferenceIdeal.τ).loc Cert.ScanDownReferenceIdeal.main_arg1)
      ∧ m ((c.tc : Thread Cert.ScanDownKernelIdeal.nD Cert.ScanDownKernelIdeal.τ).loc Cert.ScanDownKernelIdeal.main_arg2) = m' (((0 : Dev Cert.ScanDownReferenceIdeal.nD).tc : Thread Cert.ScanDownReferenceIdeal.nD Cert.ScanDownReferenceIdeal.τ).loc Cert.ScanDownReferenceIdeal.main_arg2)
      ∧ m ((c.tc : Thread Cert.ScanDownKernelIdeal.nD Cert.ScanDownKernelIdeal.τ).loc Cert.ScanDownKernelIdeal.main_arg3) = m' (((0 : Dev Cert.ScanDownReferenceIdeal.nD).tc : Thread Cert.ScanDownReferenceIdeal.nD Cert.ScanDownReferenceIdeal.τ).loc Cert.ScanDownReferenceIdeal.main_arg3)
      ∧ m ((c.tc : Thread Cert.ScanDownKernelIdeal.nD Cert.ScanDownKernelIdeal.τ).loc Cert.ScanDownKernelIdeal.main_arg4) = m' (((0 : Dev Cert.ScanDownReferenceIdeal.nD).tc : Thread Cert.ScanDownReferenceIdeal.nD Cert.ScanDownReferenceIdeal.τ).loc Cert.ScanDownReferenceIdeal.main_arg4)
      ∧ m ((c.tc : Thread Cert.ScanDownKernelIdeal.nD Cert.ScanDownKernelIdeal.τ).loc Cert.ScanDownKernelIdeal.main_arg5) = m' (((0 : Dev Cert.ScanDownReferenceIdeal.nD).tc : Thread Cert.ScanDownReferenceIdeal.nD Cert.ScanDownReferenceIdeal.τ).loc Cert.ScanDownReferenceIdeal.main_arg5)
      ∧ m ((c.tc : Thread Cert.ScanDownKernelIdeal.nD Cert.ScanDownKernelIdeal.τ).loc Cert.ScanDownKernelIdeal.main_arg6) = m' (((0 : Dev Cert.ScanDownReferenceIdeal.nD).tc : Thread Cert.ScanDownReferenceIdeal.nD Cert.ScanDownReferenceIdeal.τ).loc Cert.ScanDownReferenceIdeal.main_arg6)
      ∧ m ((c.tc : Thread Cert.ScanDownKernelIdeal.nD Cert.ScanDownKernelIdeal.τ).loc Cert.ScanDownKernelIdeal.main_arg7) = Layout.block ⟨2, ![704, 2048]⟩ ⟨2, ![5632, 2048]⟩ 0 8 c (m' (((0 : Dev Cert.ScanDownReferenceIdeal.nD).tc : Thread Cert.ScanDownReferenceIdeal.nD Cert.ScanDownReferenceIdeal.τ).loc Cert.ScanDownReferenceIdeal.main_arg7))) →
    ∃ (v0 : Buf (Elt Ideal) (((0 : Dev Cert.ScanDownReferenceIdeal.nD).tc : Thread Cert.ScanDownReferenceIdeal.nD Cert.ScanDownReferenceIdeal.τ).loc Cert.ScanDownReferenceIdeal.main_v0)),
      θ_run (Cert.ScanDownKernelIdeal.defs (F := Ideal)) (onTc (τ := Cert.ScanDownKernelIdeal.τ) (Cert.ScanDownKernelIdeal.main (F := Ideal))) ⟨m, fun _ => 0, g⟩ (fun r => ∀ c : Dev Cert.ScanDownKernelIdeal.nD,
          r.2.mem ((c.tc : Thread Cert.ScanDownKernelIdeal.nD Cert.ScanDownKernelIdeal.τ).loc Cert.ScanDownKernelIdeal.main_v1_3) = v0
          ∧ r.2.mem ((c.tc : Thread Cert.ScanDownKernelIdeal.nD Cert.ScanDownKernelIdeal.τ).loc Cert.ScanDownKernelIdeal.main_arg0) = m ((c.tc : Thread Cert.ScanDownKernelIdeal.nD Cert.ScanDownKernelIdeal.τ).loc Cert.ScanDownKernelIdeal.main_arg0)
          ∧ r.2.mem ((c.tc : Thread Cert.ScanDownKernelIdeal.nD Cert.ScanDownKernelIdeal.τ).loc Cert.ScanDownKernelIdeal.main_arg1) = m ((c.tc : Thread Cert.ScanDownKernelIdeal.nD Cert.ScanDownKernelIdeal.τ).loc Cert.ScanDownKernelIdeal.main_arg1)
          ∧ r.2.mem ((c.tc : Thread Cert.ScanDownKernelIdeal.nD Cert.ScanDownKernelIdeal.τ).loc Cert.ScanDownKernelIdeal.main_arg2) = m ((c.tc : Thread Cert.ScanDownKernelIdeal.nD Cert.ScanDownKernelIdeal.τ).loc Cert.ScanDownKernelIdeal.main_arg2)
          ∧ r.2.mem ((c.tc : Thread Cert.ScanDownKernelIdeal.nD Cert.ScanDownKernelIdeal.τ).loc Cert.ScanDownKernelIdeal.main_arg3) = m ((c.tc : Thread Cert.ScanDownKernelIdeal.nD Cert.ScanDownKernelIdeal.τ).loc Cert.ScanDownKernelIdeal.main_arg3)
          ∧ r.2.mem ((c.tc : Thread Cert.ScanDownKernelIdeal.nD Cert.ScanDownKernelIdeal.τ).loc Cert.ScanDownKernelIdeal.main_arg4) = m ((c.tc : Thread Cert.ScanDownKernelIdeal.nD Cert.ScanDownKernelIdeal.τ).loc Cert.ScanDownKernelIdeal.main_arg4)
          ∧ r.2.mem ((c.tc : Thread Cert.ScanDownKernelIdeal.nD Cert.ScanDownKernelIdeal.τ).loc Cert.ScanDownKernelIdeal.main_arg5) = m ((c.tc : Thread Cert.ScanDownKernelIdeal.nD Cert.ScanDownKernelIdeal.τ).loc Cert.ScanDownKernelIdeal.main_arg5)
          ∧ r.2.mem ((c.tc : Thread Cert.ScanDownKernelIdeal.nD Cert.ScanDownKernelIdeal.τ).loc Cert.ScanDownKernelIdeal.main_arg6) = m ((c.tc : Thread Cert.ScanDownKernelIdeal.nD Cert.ScanDownKernelIdeal.τ).loc Cert.ScanDownKernelIdeal.main_arg6)
          ∧ r.2.mem ((c.tc : Thread Cert.ScanDownKernelIdeal.nD Cert.ScanDownKernelIdeal.τ).loc Cert.ScanDownKernelIdeal.main_arg7) = m ((c.tc : Thread Cert.ScanDownKernelIdeal.nD Cert.ScanDownKernelIdeal.τ).loc Cert.ScanDownKernelIdeal.main_arg7))
      ∧ θ_run (Cert.ScanDownReferenceIdeal.defs (F := Ideal)) (onTc (τ := Cert.ScanDownReferenceIdeal.τ) (Cert.ScanDownReferenceIdeal.main (F := Ideal))) ⟨m', fun _ => 0, g'⟩ (fun r =>
          r.2.mem (((0 : Dev Cert.ScanDownReferenceIdeal.nD).tc : Thread Cert.ScanDownReferenceIdeal.nD Cert.ScanDownReferenceIdeal.τ).loc Cert.ScanDownReferenceIdeal.main_v0) = v0
          ∧ r.2.mem (((0 : Dev Cert.ScanDownReferenceIdeal.nD).tc : Thread Cert.ScanDownReferenceIdeal.nD Cert.ScanDownReferenceIdeal.τ).loc Cert.ScanDownReferenceIdeal.main_arg0) = m' (((0 : Dev Cert.ScanDownReferenceIdeal.nD).tc : Thread Cert.ScanDownReferenceIdeal.nD Cert.ScanDownReferenceIdeal.τ).loc Cert.ScanDownReferenceIdeal.main_arg0)
          ∧ r.2.mem (((0 : Dev Cert.ScanDownReferenceIdeal.nD).tc : Thread Cert.ScanDownReferenceIdeal.nD Cert.ScanDownReferenceIdeal.τ).loc Cert.ScanDownReferenceIdeal.main_arg1) = m' (((0 : Dev Cert.ScanDownReferenceIdeal.nD).tc : Thread Cert.ScanDownReferenceIdeal.nD Cert.ScanDownReferenceIdeal.τ).loc Cert.ScanDownReferenceIdeal.main_arg1)
          ∧ r.2.mem (((0 : Dev Cert.ScanDownReferenceIdeal.nD).tc : Thread Cert.ScanDownReferenceIdeal.nD Cert.ScanDownReferenceIdeal.τ).loc Cert.ScanDownReferenceIdeal.main_arg2) = m' (((0 : Dev Cert.ScanDownReferenceIdeal.nD).tc : Thread Cert.ScanDownReferenceIdeal.nD Cert.ScanDownReferenceIdeal.τ).loc Cert.ScanDownReferenceIdeal.main_arg2)
          ∧ r.2.mem (((0 : Dev Cert.ScanDownReferenceIdeal.nD).tc : Thread Cert.ScanDownReferenceIdeal.nD Cert.ScanDownReferenceIdeal.τ).loc Cert.ScanDownReferenceIdeal.main_arg3) = m' (((0 : Dev Cert.ScanDownReferenceIdeal.nD).tc : Thread Cert.ScanDownReferenceIdeal.nD Cert.ScanDownReferenceIdeal.τ).loc Cert.ScanDownReferenceIdeal.main_arg3)
          ∧ r.2.mem (((0 : Dev Cert.ScanDownReferenceIdeal.nD).tc : Thread Cert.ScanDownReferenceIdeal.nD Cert.ScanDownReferenceIdeal.τ).loc Cert.ScanDownReferenceIdeal.main_arg4) = m' (((0 : Dev Cert.ScanDownReferenceIdeal.nD).tc : Thread Cert.ScanDownReferenceIdeal.nD Cert.ScanDownReferenceIdeal.τ).loc Cert.ScanDownReferenceIdeal.main_arg4)
          ∧ r.2.mem (((0 : Dev Cert.ScanDownReferenceIdeal.nD).tc : Thread Cert.ScanDownReferenceIdeal.nD Cert.ScanDownReferenceIdeal.τ).loc Cert.ScanDownReferenceIdeal.main_arg5) = m' (((0 : Dev Cert.ScanDownReferenceIdeal.nD).tc : Thread Cert.ScanDownReferenceIdeal.nD Cert.ScanDownReferenceIdeal.τ).loc Cert.ScanDownReferenceIdeal.main_arg5)
          ∧ r.2.mem (((0 : Dev Cert.ScanDownReferenceIdeal.nD).tc : Thread Cert.ScanDownReferenceIdeal.nD Cert.ScanDownReferenceIdeal.τ).loc Cert.ScanDownReferenceIdeal.main_arg6) = m' (((0 : Dev Cert.ScanDownReferenceIdeal.nD).tc : Thread Cert.ScanDownReferenceIdeal.nD Cert.ScanDownReferenceIdeal.τ).loc Cert.ScanDownReferenceIdeal.main_arg6)
          ∧ r.2.mem (((0 : Dev Cert.ScanDownReferenceIdeal.nD).tc : Thread Cert.ScanDownReferenceIdeal.nD Cert.ScanDownReferenceIdeal.τ).loc Cert.ScanDownReferenceIdeal.main_arg7) = m' (((0 : Dev Cert.ScanDownReferenceIdeal.nD).tc : Thread Cert.ScanDownReferenceIdeal.nD Cert.ScanDownReferenceIdeal.τ).loc Cert.ScanDownReferenceIdeal.main_arg7))

def preserves_BackUpKernel_BackUpKernelIdeal : Prop :=
  True

def algebraic_BackUpKernelIdeal_BackUpReferenceIdeal [hBackUpKernelIdeal : Cert.BackUpKernelIdeal.Facts] [hBackUpReferenceIdeal : Cert.BackUpReferenceIdeal.Facts] : Prop :=
  ∀ (m : (ℓ : Loc Cert.BackUpKernelIdeal.nD Cert.BackUpKernelIdeal.τ Cert.BackUpKernelIdeal.sig) → Buf (Elt Ideal) ℓ) (g : Dev Cert.BackUpKernelIdeal.nD → PrngReg)
    (m' : (ℓ : Loc Cert.BackUpReferenceIdeal.nD Cert.BackUpReferenceIdeal.τ Cert.BackUpReferenceIdeal.sig) → Buf (Elt Ideal) ℓ) (g' : Dev Cert.BackUpReferenceIdeal.nD → PrngReg), Pre_BackUpKernelIdeal m →
    (∀ c : Dev Cert.BackUpKernelIdeal.nD,
      m ((c.tc : Thread Cert.BackUpKernelIdeal.nD Cert.BackUpKernelIdeal.τ).loc Cert.BackUpKernelIdeal.main_arg0) = Layout.block ⟨2, ![4352, 512]⟩ ⟨2, ![34816, 512]⟩ 0 8 c (m' (((0 : Dev Cert.BackUpReferenceIdeal.nD).tc : Thread Cert.BackUpReferenceIdeal.nD Cert.BackUpReferenceIdeal.τ).loc Cert.BackUpReferenceIdeal.main_arg0))
      ∧ m ((c.tc : Thread Cert.BackUpKernelIdeal.nD Cert.BackUpKernelIdeal.τ).loc Cert.BackUpKernelIdeal.main_arg1) = Layout.block ⟨2, ![4352, 512]⟩ ⟨2, ![34816, 512]⟩ 0 8 c (m' (((0 : Dev Cert.BackUpReferenceIdeal.nD).tc : Thread Cert.BackUpReferenceIdeal.nD Cert.BackUpReferenceIdeal.τ).loc Cert.BackUpReferenceIdeal.main_arg1))
      ∧ m ((c.tc : Thread Cert.BackUpKernelIdeal.nD Cert.BackUpKernelIdeal.τ).loc Cert.BackUpKernelIdeal.main_arg2) = Layout.block ⟨2, ![4352, 2048]⟩ ⟨2, ![34816, 2048]⟩ 0 8 c (m' (((0 : Dev Cert.BackUpReferenceIdeal.nD).tc : Thread Cert.BackUpReferenceIdeal.nD Cert.BackUpReferenceIdeal.τ).loc Cert.BackUpReferenceIdeal.main_arg2))
      ∧ m ((c.tc : Thread Cert.BackUpKernelIdeal.nD Cert.BackUpKernelIdeal.τ).loc Cert.BackUpKernelIdeal.main_arg3) = Layout.block ⟨2, ![4352, 2048]⟩ ⟨2, ![34816, 2048]⟩ 0 8 c (m' (((0 : Dev Cert.BackUpReferenceIdeal.nD).tc : Thread Cert.BackUpReferenceIdeal.nD Cert.BackUpReferenceIdeal.τ).loc Cert.BackUpReferenceIdeal.main_arg3))
      ∧ m ((c.tc : Thread Cert.BackUpKernelIdeal.nD Cert.BackUpKernelIdeal.τ).loc Cert.BackUpKernelIdeal.main_arg4) = m' (((0 : Dev Cert.BackUpReferenceIdeal.nD).tc : Thread Cert.BackUpReferenceIdeal.nD Cert.BackUpReferenceIdeal.τ).loc Cert.BackUpReferenceIdeal.main_arg4)
      ∧ m ((c.tc : Thread Cert.BackUpKernelIdeal.nD Cert.BackUpKernelIdeal.τ).loc Cert.BackUpKernelIdeal.main_arg5) = m' (((0 : Dev Cert.BackUpReferenceIdeal.nD).tc : Thread Cert.BackUpReferenceIdeal.nD Cert.BackUpReferenceIdeal.τ).loc Cert.BackUpReferenceIdeal.main_arg5)
      ∧ m ((c.tc : Thread Cert.BackUpKernelIdeal.nD Cert.BackUpKernelIdeal.τ).loc Cert.BackUpKernelIdeal.main_arg6) = m' (((0 : Dev Cert.BackUpReferenceIdeal.nD).tc : Thread Cert.BackUpReferenceIdeal.nD Cert.BackUpReferenceIdeal.τ).loc Cert.BackUpReferenceIdeal.main_arg6)
      ∧ m ((c.tc : Thread Cert.BackUpKernelIdeal.nD Cert.BackUpKernelIdeal.τ).loc Cert.BackUpKernelIdeal.main_arg7) = m' (((0 : Dev Cert.BackUpReferenceIdeal.nD).tc : Thread Cert.BackUpReferenceIdeal.nD Cert.BackUpReferenceIdeal.τ).loc Cert.BackUpReferenceIdeal.main_arg7)
      ∧ m ((c.tc : Thread Cert.BackUpKernelIdeal.nD Cert.BackUpKernelIdeal.τ).loc Cert.BackUpKernelIdeal.main_arg8) = m' (((0 : Dev Cert.BackUpReferenceIdeal.nD).tc : Thread Cert.BackUpReferenceIdeal.nD Cert.BackUpReferenceIdeal.τ).loc Cert.BackUpReferenceIdeal.main_arg8)
      ∧ m ((c.tc : Thread Cert.BackUpKernelIdeal.nD Cert.BackUpKernelIdeal.τ).loc Cert.BackUpKernelIdeal.main_arg9) = m' (((0 : Dev Cert.BackUpReferenceIdeal.nD).tc : Thread Cert.BackUpReferenceIdeal.nD Cert.BackUpReferenceIdeal.τ).loc Cert.BackUpReferenceIdeal.main_arg9)
      ∧ m ((c.tc : Thread Cert.BackUpKernelIdeal.nD Cert.BackUpKernelIdeal.τ).loc Cert.BackUpKernelIdeal.main_arg10) = Layout.block ⟨3, ![8, 2048, 1408]⟩ ⟨3, ![64, 2048, 1408]⟩ 0 8 c (m' (((0 : Dev Cert.BackUpReferenceIdeal.nD).tc : Thread Cert.BackUpReferenceIdeal.nD Cert.BackUpReferenceIdeal.τ).loc Cert.BackUpReferenceIdeal.main_arg10))) →
    ∃ (v0 : Buf (Elt Ideal) (((0 : Dev Cert.BackUpReferenceIdeal.nD).tc : Thread Cert.BackUpReferenceIdeal.nD Cert.BackUpReferenceIdeal.τ).loc Cert.BackUpReferenceIdeal.main_v6)),
      θ_run (Cert.BackUpKernelIdeal.defs (F := Ideal)) (onTc (τ := Cert.BackUpKernelIdeal.τ) (Cert.BackUpKernelIdeal.main (F := Ideal))) ⟨m, fun _ => 0, g⟩ (fun r => ∀ c : Dev Cert.BackUpKernelIdeal.nD,
          r.2.mem ((c.tc : Thread Cert.BackUpKernelIdeal.nD Cert.BackUpKernelIdeal.τ).loc Cert.BackUpKernelIdeal.main_v1_7) = Layout.block ⟨3, ![8, 2048, 1408]⟩ ⟨3, ![64, 2048, 1408]⟩ 0 8 c v0
          ∧ r.2.mem ((c.tc : Thread Cert.BackUpKernelIdeal.nD Cert.BackUpKernelIdeal.τ).loc Cert.BackUpKernelIdeal.main_arg0) = m ((c.tc : Thread Cert.BackUpKernelIdeal.nD Cert.BackUpKernelIdeal.τ).loc Cert.BackUpKernelIdeal.main_arg0)
          ∧ r.2.mem ((c.tc : Thread Cert.BackUpKernelIdeal.nD Cert.BackUpKernelIdeal.τ).loc Cert.BackUpKernelIdeal.main_arg1) = m ((c.tc : Thread Cert.BackUpKernelIdeal.nD Cert.BackUpKernelIdeal.τ).loc Cert.BackUpKernelIdeal.main_arg1)
          ∧ r.2.mem ((c.tc : Thread Cert.BackUpKernelIdeal.nD Cert.BackUpKernelIdeal.τ).loc Cert.BackUpKernelIdeal.main_arg2) = m ((c.tc : Thread Cert.BackUpKernelIdeal.nD Cert.BackUpKernelIdeal.τ).loc Cert.BackUpKernelIdeal.main_arg2)
          ∧ r.2.mem ((c.tc : Thread Cert.BackUpKernelIdeal.nD Cert.BackUpKernelIdeal.τ).loc Cert.BackUpKernelIdeal.main_arg3) = m ((c.tc : Thread Cert.BackUpKernelIdeal.nD Cert.BackUpKernelIdeal.τ).loc Cert.BackUpKernelIdeal.main_arg3)
          ∧ r.2.mem ((c.tc : Thread Cert.BackUpKernelIdeal.nD Cert.BackUpKernelIdeal.τ).loc Cert.BackUpKernelIdeal.main_arg4) = m ((c.tc : Thread Cert.BackUpKernelIdeal.nD Cert.BackUpKernelIdeal.τ).loc Cert.BackUpKernelIdeal.main_arg4)
          ∧ r.2.mem ((c.tc : Thread Cert.BackUpKernelIdeal.nD Cert.BackUpKernelIdeal.τ).loc Cert.BackUpKernelIdeal.main_arg5) = m ((c.tc : Thread Cert.BackUpKernelIdeal.nD Cert.BackUpKernelIdeal.τ).loc Cert.BackUpKernelIdeal.main_arg5)
          ∧ r.2.mem ((c.tc : Thread Cert.BackUpKernelIdeal.nD Cert.BackUpKernelIdeal.τ).loc Cert.BackUpKernelIdeal.main_arg6) = m ((c.tc : Thread Cert.BackUpKernelIdeal.nD Cert.BackUpKernelIdeal.τ).loc Cert.BackUpKernelIdeal.main_arg6)
          ∧ r.2.mem ((c.tc : Thread Cert.BackUpKernelIdeal.nD Cert.BackUpKernelIdeal.τ).loc Cert.BackUpKernelIdeal.main_arg7) = m ((c.tc : Thread Cert.BackUpKernelIdeal.nD Cert.BackUpKernelIdeal.τ).loc Cert.BackUpKernelIdeal.main_arg7)
          ∧ r.2.mem ((c.tc : Thread Cert.BackUpKernelIdeal.nD Cert.BackUpKernelIdeal.τ).loc Cert.BackUpKernelIdeal.main_arg8) = m ((c.tc : Thread Cert.BackUpKernelIdeal.nD Cert.BackUpKernelIdeal.τ).loc Cert.BackUpKernelIdeal.main_arg8)
          ∧ r.2.mem ((c.tc : Thread Cert.BackUpKernelIdeal.nD Cert.BackUpKernelIdeal.τ).loc Cert.BackUpKernelIdeal.main_arg9) = m ((c.tc : Thread Cert.BackUpKernelIdeal.nD Cert.BackUpKernelIdeal.τ).loc Cert.BackUpKernelIdeal.main_arg9)
          ∧ r.2.mem ((c.tc : Thread Cert.BackUpKernelIdeal.nD Cert.BackUpKernelIdeal.τ).loc Cert.BackUpKernelIdeal.main_arg10) = m ((c.tc : Thread Cert.BackUpKernelIdeal.nD Cert.BackUpKernelIdeal.τ).loc Cert.BackUpKernelIdeal.main_arg10))
      ∧ θ_run (Cert.BackUpReferenceIdeal.defs (F := Ideal)) (onTc (τ := Cert.BackUpReferenceIdeal.τ) (Cert.BackUpReferenceIdeal.main (F := Ideal))) ⟨m', fun _ => 0, g'⟩ (fun r =>
          r.2.mem (((0 : Dev Cert.BackUpReferenceIdeal.nD).tc : Thread Cert.BackUpReferenceIdeal.nD Cert.BackUpReferenceIdeal.τ).loc Cert.BackUpReferenceIdeal.main_v6) = v0
          ∧ r.2.mem (((0 : Dev Cert.BackUpReferenceIdeal.nD).tc : Thread Cert.BackUpReferenceIdeal.nD Cert.BackUpReferenceIdeal.τ).loc Cert.BackUpReferenceIdeal.main_arg0) = m' (((0 : Dev Cert.BackUpReferenceIdeal.nD).tc : Thread Cert.BackUpReferenceIdeal.nD Cert.BackUpReferenceIdeal.τ).loc Cert.BackUpReferenceIdeal.main_arg0)
          ∧ r.2.mem (((0 : Dev Cert.BackUpReferenceIdeal.nD).tc : Thread Cert.BackUpReferenceIdeal.nD Cert.BackUpReferenceIdeal.τ).loc Cert.BackUpReferenceIdeal.main_arg1) = m' (((0 : Dev Cert.BackUpReferenceIdeal.nD).tc : Thread Cert.BackUpReferenceIdeal.nD Cert.BackUpReferenceIdeal.τ).loc Cert.BackUpReferenceIdeal.main_arg1)
          ∧ r.2.mem (((0 : Dev Cert.BackUpReferenceIdeal.nD).tc : Thread Cert.BackUpReferenceIdeal.nD Cert.BackUpReferenceIdeal.τ).loc Cert.BackUpReferenceIdeal.main_arg2) = m' (((0 : Dev Cert.BackUpReferenceIdeal.nD).tc : Thread Cert.BackUpReferenceIdeal.nD Cert.BackUpReferenceIdeal.τ).loc Cert.BackUpReferenceIdeal.main_arg2)
          ∧ r.2.mem (((0 : Dev Cert.BackUpReferenceIdeal.nD).tc : Thread Cert.BackUpReferenceIdeal.nD Cert.BackUpReferenceIdeal.τ).loc Cert.BackUpReferenceIdeal.main_arg3) = m' (((0 : Dev Cert.BackUpReferenceIdeal.nD).tc : Thread Cert.BackUpReferenceIdeal.nD Cert.BackUpReferenceIdeal.τ).loc Cert.BackUpReferenceIdeal.main_arg3)
          ∧ r.2.mem (((0 : Dev Cert.BackUpReferenceIdeal.nD).tc : Thread Cert.BackUpReferenceIdeal.nD Cert.BackUpReferenceIdeal.τ).loc Cert.BackUpReferenceIdeal.main_arg4) = m' (((0 : Dev Cert.BackUpReferenceIdeal.nD).tc : Thread Cert.BackUpReferenceIdeal.nD Cert.BackUpReferenceIdeal.τ).loc Cert.BackUpReferenceIdeal.main_arg4)
          ∧ r.2.mem (((0 : Dev Cert.BackUpReferenceIdeal.nD).tc : Thread Cert.BackUpReferenceIdeal.nD Cert.BackUpReferenceIdeal.τ).loc Cert.BackUpReferenceIdeal.main_arg5) = m' (((0 : Dev Cert.BackUpReferenceIdeal.nD).tc : Thread Cert.BackUpReferenceIdeal.nD Cert.BackUpReferenceIdeal.τ).loc Cert.BackUpReferenceIdeal.main_arg5)
          ∧ r.2.mem (((0 : Dev Cert.BackUpReferenceIdeal.nD).tc : Thread Cert.BackUpReferenceIdeal.nD Cert.BackUpReferenceIdeal.τ).loc Cert.BackUpReferenceIdeal.main_arg6) = m' (((0 : Dev Cert.BackUpReferenceIdeal.nD).tc : Thread Cert.BackUpReferenceIdeal.nD Cert.BackUpReferenceIdeal.τ).loc Cert.BackUpReferenceIdeal.main_arg6)
          ∧ r.2.mem (((0 : Dev Cert.BackUpReferenceIdeal.nD).tc : Thread Cert.BackUpReferenceIdeal.nD Cert.BackUpReferenceIdeal.τ).loc Cert.BackUpReferenceIdeal.main_arg7) = m' (((0 : Dev Cert.BackUpReferenceIdeal.nD).tc : Thread Cert.BackUpReferenceIdeal.nD Cert.BackUpReferenceIdeal.τ).loc Cert.BackUpReferenceIdeal.main_arg7)
          ∧ r.2.mem (((0 : Dev Cert.BackUpReferenceIdeal.nD).tc : Thread Cert.BackUpReferenceIdeal.nD Cert.BackUpReferenceIdeal.τ).loc Cert.BackUpReferenceIdeal.main_arg8) = m' (((0 : Dev Cert.BackUpReferenceIdeal.nD).tc : Thread Cert.BackUpReferenceIdeal.nD Cert.BackUpReferenceIdeal.τ).loc Cert.BackUpReferenceIdeal.main_arg8)
          ∧ r.2.mem (((0 : Dev Cert.BackUpReferenceIdeal.nD).tc : Thread Cert.BackUpReferenceIdeal.nD Cert.BackUpReferenceIdeal.τ).loc Cert.BackUpReferenceIdeal.main_arg9) = m' (((0 : Dev Cert.BackUpReferenceIdeal.nD).tc : Thread Cert.BackUpReferenceIdeal.nD Cert.BackUpReferenceIdeal.τ).loc Cert.BackUpReferenceIdeal.main_arg9)
          ∧ r.2.mem (((0 : Dev Cert.BackUpReferenceIdeal.nD).tc : Thread Cert.BackUpReferenceIdeal.nD Cert.BackUpReferenceIdeal.τ).loc Cert.BackUpReferenceIdeal.main_arg10) = m' (((0 : Dev Cert.BackUpReferenceIdeal.nD).tc : Thread Cert.BackUpReferenceIdeal.nD Cert.BackUpReferenceIdeal.τ).loc Cert.BackUpReferenceIdeal.main_arg10))

def preserves_BackDownKernel_BackDownKernelIdeal : Prop :=
  True

def algebraic_BackDownKernelIdeal_BackDownReferenceIdeal [hBackDownKernelIdeal : Cert.BackDownKernelIdeal.Facts] [hBackDownReferenceIdeal : Cert.BackDownReferenceIdeal.Facts] : Prop :=
  ∀ (m : (ℓ : Loc Cert.BackDownKernelIdeal.nD Cert.BackDownKernelIdeal.τ Cert.BackDownKernelIdeal.sig) → Buf (Elt Ideal) ℓ) (g : Dev Cert.BackDownKernelIdeal.nD → PrngReg)
    (m' : (ℓ : Loc Cert.BackDownReferenceIdeal.nD Cert.BackDownReferenceIdeal.τ Cert.BackDownReferenceIdeal.sig) → Buf (Elt Ideal) ℓ) (g' : Dev Cert.BackDownReferenceIdeal.nD → PrngReg), Pre_BackDownKernelIdeal m →
    (∀ c : Dev Cert.BackDownKernelIdeal.nD,
      m ((c.tc : Thread Cert.BackDownKernelIdeal.nD Cert.BackDownKernelIdeal.τ).loc Cert.BackDownKernelIdeal.main_arg0) = Layout.block ⟨2, ![4352, 512]⟩ ⟨2, ![34816, 512]⟩ 0 8 c (m' (((0 : Dev Cert.BackDownReferenceIdeal.nD).tc : Thread Cert.BackDownReferenceIdeal.nD Cert.BackDownReferenceIdeal.τ).loc Cert.BackDownReferenceIdeal.main_arg0))
      ∧ m ((c.tc : Thread Cert.BackDownKernelIdeal.nD Cert.BackDownKernelIdeal.τ).loc Cert.BackDownKernelIdeal.main_arg1) = Layout.block ⟨2, ![4352, 512]⟩ ⟨2, ![34816, 512]⟩ 0 8 c (m' (((0 : Dev Cert.BackDownReferenceIdeal.nD).tc : Thread Cert.BackDownReferenceIdeal.nD Cert.BackDownReferenceIdeal.τ).loc Cert.BackDownReferenceIdeal.main_arg1))
      ∧ m ((c.tc : Thread Cert.BackDownKernelIdeal.nD Cert.BackDownKernelIdeal.τ).loc Cert.BackDownKernelIdeal.main_arg2) = Layout.block ⟨2, ![4352, 2048]⟩ ⟨2, ![34816, 2048]⟩ 0 8 c (m' (((0 : Dev Cert.BackDownReferenceIdeal.nD).tc : Thread Cert.BackDownReferenceIdeal.nD Cert.BackDownReferenceIdeal.τ).loc Cert.BackDownReferenceIdeal.main_arg2))
      ∧ m ((c.tc : Thread Cert.BackDownKernelIdeal.nD Cert.BackDownKernelIdeal.τ).loc Cert.BackDownKernelIdeal.main_arg3) = Layout.block ⟨2, ![4352, 2048]⟩ ⟨2, ![34816, 2048]⟩ 0 8 c (m' (((0 : Dev Cert.BackDownReferenceIdeal.nD).tc : Thread Cert.BackDownReferenceIdeal.nD Cert.BackDownReferenceIdeal.τ).loc Cert.BackDownReferenceIdeal.main_arg3))
      ∧ m ((c.tc : Thread Cert.BackDownKernelIdeal.nD Cert.BackDownKernelIdeal.τ).loc Cert.BackDownKernelIdeal.main_arg4) = m' (((0 : Dev Cert.BackDownReferenceIdeal.nD).tc : Thread Cert.BackDownReferenceIdeal.nD Cert.BackDownReferenceIdeal.τ).loc Cert.BackDownReferenceIdeal.main_arg4)
      ∧ m ((c.tc : Thread Cert.BackDownKernelIdeal.nD Cert.BackDownKernelIdeal.τ).loc Cert.BackDownKernelIdeal.main_arg5) = m' (((0 : Dev Cert.BackDownReferenceIdeal.nD).tc : Thread Cert.BackDownReferenceIdeal.nD Cert.BackDownReferenceIdeal.τ).loc Cert.BackDownReferenceIdeal.main_arg5)
      ∧ m ((c.tc : Thread Cert.BackDownKernelIdeal.nD Cert.BackDownKernelIdeal.τ).loc Cert.BackDownKernelIdeal.main_arg6) = m' (((0 : Dev Cert.BackDownReferenceIdeal.nD).tc : Thread Cert.BackDownReferenceIdeal.nD Cert.BackDownReferenceIdeal.τ).loc Cert.BackDownReferenceIdeal.main_arg6)
      ∧ m ((c.tc : Thread Cert.BackDownKernelIdeal.nD Cert.BackDownKernelIdeal.τ).loc Cert.BackDownKernelIdeal.main_arg7) = m' (((0 : Dev Cert.BackDownReferenceIdeal.nD).tc : Thread Cert.BackDownReferenceIdeal.nD Cert.BackDownReferenceIdeal.τ).loc Cert.BackDownReferenceIdeal.main_arg7)
      ∧ m ((c.tc : Thread Cert.BackDownKernelIdeal.nD Cert.BackDownKernelIdeal.τ).loc Cert.BackDownKernelIdeal.main_arg8) = m' (((0 : Dev Cert.BackDownReferenceIdeal.nD).tc : Thread Cert.BackDownReferenceIdeal.nD Cert.BackDownReferenceIdeal.τ).loc Cert.BackDownReferenceIdeal.main_arg8)
      ∧ m ((c.tc : Thread Cert.BackDownKernelIdeal.nD Cert.BackDownKernelIdeal.τ).loc Cert.BackDownKernelIdeal.main_arg9) = m' (((0 : Dev Cert.BackDownReferenceIdeal.nD).tc : Thread Cert.BackDownReferenceIdeal.nD Cert.BackDownReferenceIdeal.τ).loc Cert.BackDownReferenceIdeal.main_arg9)
      ∧ m ((c.tc : Thread Cert.BackDownKernelIdeal.nD Cert.BackDownKernelIdeal.τ).loc Cert.BackDownKernelIdeal.main_arg10) = Layout.block ⟨3, ![8, 704, 2048]⟩ ⟨3, ![64, 704, 2048]⟩ 0 8 c (m' (((0 : Dev Cert.BackDownReferenceIdeal.nD).tc : Thread Cert.BackDownReferenceIdeal.nD Cert.BackDownReferenceIdeal.τ).loc Cert.BackDownReferenceIdeal.main_arg10))) →
    ∃ (v0 : Buf (Elt Ideal) (((0 : Dev Cert.BackDownReferenceIdeal.nD).tc : Thread Cert.BackDownReferenceIdeal.nD Cert.BackDownReferenceIdeal.τ).loc Cert.BackDownReferenceIdeal.main_v6)),
      θ_run (Cert.BackDownKernelIdeal.defs (F := Ideal)) (onTc (τ := Cert.BackDownKernelIdeal.τ) (Cert.BackDownKernelIdeal.main (F := Ideal))) ⟨m, fun _ => 0, g⟩ (fun r => ∀ c : Dev Cert.BackDownKernelIdeal.nD,
          r.2.mem ((c.tc : Thread Cert.BackDownKernelIdeal.nD Cert.BackDownKernelIdeal.τ).loc Cert.BackDownKernelIdeal.main_v1_7) = Layout.block ⟨3, ![8, 704, 2048]⟩ ⟨3, ![64, 704, 2048]⟩ 0 8 c v0
          ∧ r.2.mem ((c.tc : Thread Cert.BackDownKernelIdeal.nD Cert.BackDownKernelIdeal.τ).loc Cert.BackDownKernelIdeal.main_arg0) = m ((c.tc : Thread Cert.BackDownKernelIdeal.nD Cert.BackDownKernelIdeal.τ).loc Cert.BackDownKernelIdeal.main_arg0)
          ∧ r.2.mem ((c.tc : Thread Cert.BackDownKernelIdeal.nD Cert.BackDownKernelIdeal.τ).loc Cert.BackDownKernelIdeal.main_arg1) = m ((c.tc : Thread Cert.BackDownKernelIdeal.nD Cert.BackDownKernelIdeal.τ).loc Cert.BackDownKernelIdeal.main_arg1)
          ∧ r.2.mem ((c.tc : Thread Cert.BackDownKernelIdeal.nD Cert.BackDownKernelIdeal.τ).loc Cert.BackDownKernelIdeal.main_arg2) = m ((c.tc : Thread Cert.BackDownKernelIdeal.nD Cert.BackDownKernelIdeal.τ).loc Cert.BackDownKernelIdeal.main_arg2)
          ∧ r.2.mem ((c.tc : Thread Cert.BackDownKernelIdeal.nD Cert.BackDownKernelIdeal.τ).loc Cert.BackDownKernelIdeal.main_arg3) = m ((c.tc : Thread Cert.BackDownKernelIdeal.nD Cert.BackDownKernelIdeal.τ).loc Cert.BackDownKernelIdeal.main_arg3)
          ∧ r.2.mem ((c.tc : Thread Cert.BackDownKernelIdeal.nD Cert.BackDownKernelIdeal.τ).loc Cert.BackDownKernelIdeal.main_arg4) = m ((c.tc : Thread Cert.BackDownKernelIdeal.nD Cert.BackDownKernelIdeal.τ).loc Cert.BackDownKernelIdeal.main_arg4)
          ∧ r.2.mem ((c.tc : Thread Cert.BackDownKernelIdeal.nD Cert.BackDownKernelIdeal.τ).loc Cert.BackDownKernelIdeal.main_arg5) = m ((c.tc : Thread Cert.BackDownKernelIdeal.nD Cert.BackDownKernelIdeal.τ).loc Cert.BackDownKernelIdeal.main_arg5)
          ∧ r.2.mem ((c.tc : Thread Cert.BackDownKernelIdeal.nD Cert.BackDownKernelIdeal.τ).loc Cert.BackDownKernelIdeal.main_arg6) = m ((c.tc : Thread Cert.BackDownKernelIdeal.nD Cert.BackDownKernelIdeal.τ).loc Cert.BackDownKernelIdeal.main_arg6)
          ∧ r.2.mem ((c.tc : Thread Cert.BackDownKernelIdeal.nD Cert.BackDownKernelIdeal.τ).loc Cert.BackDownKernelIdeal.main_arg7) = m ((c.tc : Thread Cert.BackDownKernelIdeal.nD Cert.BackDownKernelIdeal.τ).loc Cert.BackDownKernelIdeal.main_arg7)
          ∧ r.2.mem ((c.tc : Thread Cert.BackDownKernelIdeal.nD Cert.BackDownKernelIdeal.τ).loc Cert.BackDownKernelIdeal.main_arg8) = m ((c.tc : Thread Cert.BackDownKernelIdeal.nD Cert.BackDownKernelIdeal.τ).loc Cert.BackDownKernelIdeal.main_arg8)
          ∧ r.2.mem ((c.tc : Thread Cert.BackDownKernelIdeal.nD Cert.BackDownKernelIdeal.τ).loc Cert.BackDownKernelIdeal.main_arg9) = m ((c.tc : Thread Cert.BackDownKernelIdeal.nD Cert.BackDownKernelIdeal.τ).loc Cert.BackDownKernelIdeal.main_arg9)
          ∧ r.2.mem ((c.tc : Thread Cert.BackDownKernelIdeal.nD Cert.BackDownKernelIdeal.τ).loc Cert.BackDownKernelIdeal.main_arg10) = m ((c.tc : Thread Cert.BackDownKernelIdeal.nD Cert.BackDownKernelIdeal.τ).loc Cert.BackDownKernelIdeal.main_arg10))
      ∧ θ_run (Cert.BackDownReferenceIdeal.defs (F := Ideal)) (onTc (τ := Cert.BackDownReferenceIdeal.τ) (Cert.BackDownReferenceIdeal.main (F := Ideal))) ⟨m', fun _ => 0, g'⟩ (fun r =>
          r.2.mem (((0 : Dev Cert.BackDownReferenceIdeal.nD).tc : Thread Cert.BackDownReferenceIdeal.nD Cert.BackDownReferenceIdeal.τ).loc Cert.BackDownReferenceIdeal.main_v6) = v0
          ∧ r.2.mem (((0 : Dev Cert.BackDownReferenceIdeal.nD).tc : Thread Cert.BackDownReferenceIdeal.nD Cert.BackDownReferenceIdeal.τ).loc Cert.BackDownReferenceIdeal.main_arg0) = m' (((0 : Dev Cert.BackDownReferenceIdeal.nD).tc : Thread Cert.BackDownReferenceIdeal.nD Cert.BackDownReferenceIdeal.τ).loc Cert.BackDownReferenceIdeal.main_arg0)
          ∧ r.2.mem (((0 : Dev Cert.BackDownReferenceIdeal.nD).tc : Thread Cert.BackDownReferenceIdeal.nD Cert.BackDownReferenceIdeal.τ).loc Cert.BackDownReferenceIdeal.main_arg1) = m' (((0 : Dev Cert.BackDownReferenceIdeal.nD).tc : Thread Cert.BackDownReferenceIdeal.nD Cert.BackDownReferenceIdeal.τ).loc Cert.BackDownReferenceIdeal.main_arg1)
          ∧ r.2.mem (((0 : Dev Cert.BackDownReferenceIdeal.nD).tc : Thread Cert.BackDownReferenceIdeal.nD Cert.BackDownReferenceIdeal.τ).loc Cert.BackDownReferenceIdeal.main_arg2) = m' (((0 : Dev Cert.BackDownReferenceIdeal.nD).tc : Thread Cert.BackDownReferenceIdeal.nD Cert.BackDownReferenceIdeal.τ).loc Cert.BackDownReferenceIdeal.main_arg2)
          ∧ r.2.mem (((0 : Dev Cert.BackDownReferenceIdeal.nD).tc : Thread Cert.BackDownReferenceIdeal.nD Cert.BackDownReferenceIdeal.τ).loc Cert.BackDownReferenceIdeal.main_arg3) = m' (((0 : Dev Cert.BackDownReferenceIdeal.nD).tc : Thread Cert.BackDownReferenceIdeal.nD Cert.BackDownReferenceIdeal.τ).loc Cert.BackDownReferenceIdeal.main_arg3)
          ∧ r.2.mem (((0 : Dev Cert.BackDownReferenceIdeal.nD).tc : Thread Cert.BackDownReferenceIdeal.nD Cert.BackDownReferenceIdeal.τ).loc Cert.BackDownReferenceIdeal.main_arg4) = m' (((0 : Dev Cert.BackDownReferenceIdeal.nD).tc : Thread Cert.BackDownReferenceIdeal.nD Cert.BackDownReferenceIdeal.τ).loc Cert.BackDownReferenceIdeal.main_arg4)
          ∧ r.2.mem (((0 : Dev Cert.BackDownReferenceIdeal.nD).tc : Thread Cert.BackDownReferenceIdeal.nD Cert.BackDownReferenceIdeal.τ).loc Cert.BackDownReferenceIdeal.main_arg5) = m' (((0 : Dev Cert.BackDownReferenceIdeal.nD).tc : Thread Cert.BackDownReferenceIdeal.nD Cert.BackDownReferenceIdeal.τ).loc Cert.BackDownReferenceIdeal.main_arg5)
          ∧ r.2.mem (((0 : Dev Cert.BackDownReferenceIdeal.nD).tc : Thread Cert.BackDownReferenceIdeal.nD Cert.BackDownReferenceIdeal.τ).loc Cert.BackDownReferenceIdeal.main_arg6) = m' (((0 : Dev Cert.BackDownReferenceIdeal.nD).tc : Thread Cert.BackDownReferenceIdeal.nD Cert.BackDownReferenceIdeal.τ).loc Cert.BackDownReferenceIdeal.main_arg6)
          ∧ r.2.mem (((0 : Dev Cert.BackDownReferenceIdeal.nD).tc : Thread Cert.BackDownReferenceIdeal.nD Cert.BackDownReferenceIdeal.τ).loc Cert.BackDownReferenceIdeal.main_arg7) = m' (((0 : Dev Cert.BackDownReferenceIdeal.nD).tc : Thread Cert.BackDownReferenceIdeal.nD Cert.BackDownReferenceIdeal.τ).loc Cert.BackDownReferenceIdeal.main_arg7)
          ∧ r.2.mem (((0 : Dev Cert.BackDownReferenceIdeal.nD).tc : Thread Cert.BackDownReferenceIdeal.nD Cert.BackDownReferenceIdeal.τ).loc Cert.BackDownReferenceIdeal.main_arg8) = m' (((0 : Dev Cert.BackDownReferenceIdeal.nD).tc : Thread Cert.BackDownReferenceIdeal.nD Cert.BackDownReferenceIdeal.τ).loc Cert.BackDownReferenceIdeal.main_arg8)
          ∧ r.2.mem (((0 : Dev Cert.BackDownReferenceIdeal.nD).tc : Thread Cert.BackDownReferenceIdeal.nD Cert.BackDownReferenceIdeal.τ).loc Cert.BackDownReferenceIdeal.main_arg9) = m' (((0 : Dev Cert.BackDownReferenceIdeal.nD).tc : Thread Cert.BackDownReferenceIdeal.nD Cert.BackDownReferenceIdeal.τ).loc Cert.BackDownReferenceIdeal.main_arg9)
          ∧ r.2.mem (((0 : Dev Cert.BackDownReferenceIdeal.nD).tc : Thread Cert.BackDownReferenceIdeal.nD Cert.BackDownReferenceIdeal.τ).loc Cert.BackDownReferenceIdeal.main_arg10) = m' (((0 : Dev Cert.BackDownReferenceIdeal.nD).tc : Thread Cert.BackDownReferenceIdeal.nD Cert.BackDownReferenceIdeal.τ).loc Cert.BackDownReferenceIdeal.main_arg10))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hDownKernel : Cert.DownKernel.Facts) (hDownKernelIdeal : Cert.DownKernelIdeal.Facts) (hDownReferenceIdeal : Cert.DownReferenceIdeal.Facts) (hUpDwKernel : Cert.UpDwKernel.Facts) (hUpDwKernelIdeal : Cert.UpDwKernelIdeal.Facts) (hUpDwReferenceIdeal : Cert.UpDwReferenceIdeal.Facts) (hUpDaKernel : Cert.UpDaKernel.Facts) (hUpDaKernelIdeal : Cert.UpDaKernelIdeal.Facts) (hUpDaReferenceIdeal : Cert.UpDaReferenceIdeal.Facts) (hDownDwKernel : Cert.DownDwKernel.Facts) (hDownDwKernelIdeal : Cert.DownDwKernelIdeal.Facts) (hDownDwReferenceIdeal : Cert.DownDwReferenceIdeal.Facts) (hDownDaKernel : Cert.DownDaKernel.Facts) (hDownDaKernelIdeal : Cert.DownDaKernelIdeal.Facts) (hDownDaReferenceIdeal : Cert.DownDaReferenceIdeal.Facts) (hInDwKernel : Cert.InDwKernel.Facts) (hInDwKernelIdeal : Cert.InDwKernelIdeal.Facts) (hInDwReferenceIdeal : Cert.InDwReferenceIdeal.Facts) (hInDaKernel : Cert.InDaKernel.Facts) (hInDaKernelIdeal : Cert.InDaKernelIdeal.Facts) (hInDaReferenceIdeal : Cert.InDaReferenceIdeal.Facts) (hGatherKernel : Cert.GatherKernel.Facts) (hGatherKernelIdeal : Cert.GatherKernelIdeal.Facts) (hGatherReferenceIdeal : Cert.GatherReferenceIdeal.Facts) (hScatterKernel : Cert.ScatterKernel.Facts) (hScatterKernelIdeal : Cert.ScatterKernelIdeal.Facts) (hScatterReferenceIdeal : Cert.ScatterReferenceIdeal.Facts) (hAdamInKernel : Cert.AdamInKernel.Facts) (hAdamInKernelIdeal : Cert.AdamInKernelIdeal.Facts) (hAdamInReferenceIdeal : Cert.AdamInReferenceIdeal.Facts) (hScanUpKernel : Cert.ScanUpKernel.Facts) (hScanUpKernelIdeal : Cert.ScanUpKernelIdeal.Facts) (hScanUpReferenceIdeal : Cert.ScanUpReferenceIdeal.Facts) (hScanDownKernel : Cert.ScanDownKernel.Facts) (hScanDownKernelIdeal : Cert.ScanDownKernelIdeal.Facts) (hScanDownReferenceIdeal : Cert.ScanDownReferenceIdeal.Facts) (hBackUpKernel : Cert.BackUpKernel.Facts) (hBackUpKernelIdeal : Cert.BackUpKernelIdeal.Facts) (hBackUpReferenceIdeal : Cert.BackUpReferenceIdeal.Facts) (hBackDownKernel : Cert.BackDownKernel.Facts) (hBackDownKernelIdeal : Cert.BackDownKernelIdeal.Facts) (hBackDownReferenceIdeal : Cert.BackDownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_UpDaKernel (hUpDaKernel := hUpDaKernel)
    ∧ quiescent_UpDaKernelIdeal (hUpDaKernelIdeal := hUpDaKernelIdeal)
    ∧ quiescent_UpDaReferenceIdeal (hUpDaReferenceIdeal := hUpDaReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_DownDaKernel (hDownDaKernel := hDownDaKernel)
    ∧ quiescent_DownDaKernelIdeal (hDownDaKernelIdeal := hDownDaKernelIdeal)
    ∧ quiescent_DownDaReferenceIdeal (hDownDaReferenceIdeal := hDownDaReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_InDaKernel (hInDaKernel := hInDaKernel)
    ∧ quiescent_InDaKernelIdeal (hInDaKernelIdeal := hInDaKernelIdeal)
    ∧ quiescent_InDaReferenceIdeal (hInDaReferenceIdeal := hInDaReferenceIdeal)
    ∧ quiescent_GatherKernel (hGatherKernel := hGatherKernel)
    ∧ quiescent_GatherKernelIdeal (hGatherKernelIdeal := hGatherKernelIdeal)
    ∧ quiescent_GatherReferenceIdeal (hGatherReferenceIdeal := hGatherReferenceIdeal)
    ∧ quiescent_ScatterKernel (hScatterKernel := hScatterKernel)
    ∧ quiescent_ScatterKernelIdeal (hScatterKernelIdeal := hScatterKernelIdeal)
    ∧ quiescent_ScatterReferenceIdeal (hScatterReferenceIdeal := hScatterReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_ScanUpKernel (hScanUpKernel := hScanUpKernel)
    ∧ quiescent_ScanUpKernelIdeal (hScanUpKernelIdeal := hScanUpKernelIdeal)
    ∧ quiescent_ScanUpReferenceIdeal (hScanUpReferenceIdeal := hScanUpReferenceIdeal)
    ∧ quiescent_ScanDownKernel (hScanDownKernel := hScanDownKernel)
    ∧ quiescent_ScanDownKernelIdeal (hScanDownKernelIdeal := hScanDownKernelIdeal)
    ∧ quiescent_ScanDownReferenceIdeal (hScanDownReferenceIdeal := hScanDownReferenceIdeal)
    ∧ quiescent_BackUpKernel (hBackUpKernel := hBackUpKernel)
    ∧ quiescent_BackUpKernelIdeal (hBackUpKernelIdeal := hBackUpKernelIdeal)
    ∧ quiescent_BackUpReferenceIdeal (hBackUpReferenceIdeal := hBackUpReferenceIdeal)
    ∧ quiescent_BackDownKernel (hBackDownKernel := hBackDownKernel)
    ∧ quiescent_BackDownKernelIdeal (hBackDownKernelIdeal := hBackDownKernelIdeal)
    ∧ quiescent_BackDownReferenceIdeal (hBackDownReferenceIdeal := hBackDownReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_DownKernel_DownKernelIdeal
    ∧ algebraic_DownKernelIdeal_DownReferenceIdeal (hDownKernelIdeal := hDownKernelIdeal) (hDownReferenceIdeal := hDownReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_UpDaKernel_UpDaKernelIdeal
    ∧ algebraic_UpDaKernelIdeal_UpDaReferenceIdeal (hUpDaKernelIdeal := hUpDaKernelIdeal) (hUpDaReferenceIdeal := hUpDaReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_DownDaKernel_DownDaKernelIdeal
    ∧ algebraic_DownDaKernelIdeal_DownDaReferenceIdeal (hDownDaKernelIdeal := hDownDaKernelIdeal) (hDownDaReferenceIdeal := hDownDaReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_InDaKernel_InDaKernelIdeal
    ∧ algebraic_InDaKernelIdeal_InDaReferenceIdeal (hInDaKernelIdeal := hInDaKernelIdeal) (hInDaReferenceIdeal := hInDaReferenceIdeal)
    ∧ preserves_GatherKernel_GatherKernelIdeal
    ∧ algebraic_GatherKernelIdeal_GatherReferenceIdeal (hGatherKernelIdeal := hGatherKernelIdeal) (hGatherReferenceIdeal := hGatherReferenceIdeal)
    ∧ preserves_ScatterKernel_ScatterKernelIdeal
    ∧ algebraic_ScatterKernelIdeal_ScatterReferenceIdeal (hScatterKernelIdeal := hScatterKernelIdeal) (hScatterReferenceIdeal := hScatterReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_ScanUpKernel_ScanUpKernelIdeal
    ∧ algebraic_ScanUpKernelIdeal_ScanUpReferenceIdeal (hScanUpKernelIdeal := hScanUpKernelIdeal) (hScanUpReferenceIdeal := hScanUpReferenceIdeal)
    ∧ preserves_ScanDownKernel_ScanDownKernelIdeal
    ∧ algebraic_ScanDownKernelIdeal_ScanDownReferenceIdeal (hScanDownKernelIdeal := hScanDownKernelIdeal) (hScanDownReferenceIdeal := hScanDownReferenceIdeal)
    ∧ preserves_BackUpKernel_BackUpKernelIdeal
    ∧ algebraic_BackUpKernelIdeal_BackUpReferenceIdeal (hBackUpKernelIdeal := hBackUpKernelIdeal) (hBackUpReferenceIdeal := hBackUpReferenceIdeal)
    ∧ preserves_BackDownKernel_BackDownKernelIdeal
    ∧ algebraic_BackDownKernelIdeal_BackDownReferenceIdeal (hBackDownKernelIdeal := hBackDownKernelIdeal) (hBackDownReferenceIdeal := hBackDownReferenceIdeal)
-- ==== Kernel.lean ====
abbrev S4352x2048 : Shape := ⟨2, ![4352, 2048]⟩
abbrev S8x2048x1408 : Shape := ⟨3, ![8, 2048, 1408]⟩
abbrev S2048x1408 : Shape := ⟨2, ![2048, 1408]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S7 : Shape := ⟨1, ![7]⟩
abbrev S_ : Shape := ⟨0, ![]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S2048x1408, .bf16⟩
  | .hbm, ⟨3, _⟩ => ⟨S4352x11264, .bf16⟩
  | .hbm, ⟨4, _⟩ => ⟨S8x2048x1408, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .bf16⟩
  | .local _ .vmem, ⟨5, _⟩ => ⟨S1088x1408, .bf16⟩
  | .local _ .vmem, ⟨6, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 8, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_31 : BitVec 32 := 0#32
  let v63 : BitVec 1 := Scalar.cmpi .eq v4 c0_i32_31
  let v64 : BitVec 32 := Scalar.extui v63
  let c0_i32_39 : BitVec 32 := 0#32
  let v65 : BitVec 1 := Scalar.cmpi .ne v64 c0_i32_39
  v65

def k0_off1 (d5 : Dev nD) : Fin 3 → Nat :=
  let c4_i32_9 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_9 v7
  let c2_i32_10 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_10 v10
  let v21 : BitVec 32 := Scalar.addi v19 v20
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v22 : BitVec 32 := Scalar.addi v21 v13
  let c0_i32_59 : BitVec 32 := 0#32
  let c0_i32_60 : BitVec 32 := 0#32
  ![v22.toNat, 0, 0]
def k0_dev1 (d5 : Dev nD) : Nat :=
  let c0_i32_62 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_61 : BitVec 32 := 4#32
  let v78 : BitVec 32 := Scalar.muli v7 c4_i32_61
  let v79 : BitVec 32 := Scalar.addi c0_i32_62 v78
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_63 : BitVec 32 := 2#32
  let v80 : BitVec 32 := Scalar.muli v10 c2_i32_63
  let v81 : BitVec 32 := Scalar.addi v79 v80
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_64 : BitVec 32 := 1#32
  let v82 : BitVec 32 := Scalar.muli v14 c1_i32_64
  let v83 : BitVec 32 := Scalar.addi v81 v82
  v83.toNat
def k0_dev2 (d5 : Dev nD) : Nat :=
  let c0_i32_68 : BitVec 32 := 0#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let c4_i32_67 : BitVec 32 := 4#32
  let v90 : BitVec 32 := Scalar.muli v15 c4_i32_67
  let v91 : BitVec 32 := Scalar.addi c0_i32_68 v90
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_69 : BitVec 32 := 2#32
  let v92 : BitVec 32 := Scalar.muli v10 c2_i32_69
  let v93 : BitVec 32 := Scalar.addi v91 v92
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_70 : BitVec 32 := 1#32
  let v94 : BitVec 32 := Scalar.muli v13 c1_i32_70
  let v95 : BitVec 32 := Scalar.addi v93 v94
  v95.toNat
def k0_dev3 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_73 : BitVec 32 := 4#32
  let v102 : BitVec 32 := Scalar.muli v7 c4_i32_73
  let v103 : BitVec 32 := Scalar.addi c0_i32_74 v102
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let c2_i32_75 : BitVec 32 := 2#32
  let v104 : BitVec 32 := Scalar.muli v16 c2_i32_75
  let v105 : BitVec 32 := Scalar.addi v103 v104
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_76 : BitVec 32 := 1#32
  let v106 : BitVec 32 := Scalar.muli v13 c1_i32_76
  let v107 : BitVec 32 := Scalar.addi v105 v106
  v107.toNat
def k0_dev4 (d5 : Dev nD) : Nat :=
  let c0_i32_80 : BitVec 32 := 0#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let c4_i32_79 : BitVec 32 := 4#32
  let v114 : BitVec 32 := Scalar.muli v17 c4_i32_79
  let v115 : BitVec 32 := Scalar.addi c0_i32_80 v114
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let c2_i32_81 : BitVec 32 := 2#32
  let v116 : BitVec 32 := Scalar.muli v18 c2_i32_81
  let v117 : BitVec 32 := Scalar.addi v115 v116
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_82 : BitVec 32 := 1#32
  let v118 : BitVec 32 := Scalar.muli v13 c1_i32_82
  let v119 : BitVec 32 := Scalar.addi v117 v118
  v119.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c31_i32 : BitVec 32 := 31#32
  let v73 : BitVec 1 := Scalar.cmpi .eq v4 c31_i32
  let v74 : BitVec 32 := Scalar.extui v73
  let c0_i32_58 : BitVec 32 := 0#32
  let v75 : BitVec 1 := Scalar.cmpi .ne v74 c0_i32_58
  v75

def k0_off2 (d5 : Dev nD) : Fin 3 → Nat :=
  let c4_i32_61 : BitVec 32 := 4#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let v80 : BitVec 32 := Scalar.muli c4_i32_61 v15
  let c2_i32_62 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v81 : BitVec 32 := Scalar.muli c2_i32_62 v10
  let v82 : BitVec 32 := Scalar.addi v80 v81
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v83 : BitVec 32 := Scalar.addi v82 v13
  let c0_i32_69 : BitVec 32 := 0#32
  let c0_i32_70 : BitVec 32 := 0#32
  ![v83.toNat, 0, 0]
def k0_dev5 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_73 : BitVec 32 := 4#32
  let v96 : BitVec 32 := Scalar.muli v7 c4_i32_73
  let v97 : BitVec 32 := Scalar.addi c0_i32_74 v96
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_75 : BitVec 32 := 2#32
  let v98 : BitVec 32 := Scalar.muli v10 c2_i32_75
  let v99 : BitVec 32 := Scalar.addi v97 v98
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_76 : BitVec 32 := 1#32
  let v100 : BitVec 32 := Scalar.muli v14 c1_i32_76
  let v101 : BitVec 32 := Scalar.addi v99 v100
  v101.toNat
def k0_off3 (d5 : Dev nD) : Fin 3 → Nat :=
  let c4_i32_83 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v114 : BitVec 32 := Scalar.muli c4_i32_83 v7
  let c2_i32_84 : BitVec 32 := 2#32
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let v115 : BitVec 32 := Scalar.muli c2_i32_84 v16
  let v116 : BitVec 32 := Scalar.addi v114 v115
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v117 : BitVec 32 := Scalar.addi v116 v13
  let c0_i32_91 : BitVec 32 := 0#32
  let c0_i32_92 : BitVec 32 := 0#32
  ![v117.toNat, 0, 0]
def k0_dev6 (d5 : Dev nD) : Nat :=
  let c0_i32_96 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_95 : BitVec 32 := 4#32
  let v130 : BitVec 32 := Scalar.muli v7 c4_i32_95
  let v131 : BitVec 32 := Scalar.addi c0_i32_96 v130
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_97 : BitVec 32 := 2#32
  let v132 : BitVec 32 := Scalar.muli v10 c2_i32_97
  let v133 : BitVec 32 := Scalar.addi v131 v132
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_98 : BitVec 32 := 1#32
  let v134 : BitVec 32 := Scalar.muli v14 c1_i32_98
  let v135 : BitVec 32 := Scalar.addi v133 v134
  v135.toNat
def k0_off4 (d5 : Dev nD) : Fin 3 → Nat :=
  let c4_i32_105 : BitVec 32 := 4#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let v148 : BitVec 32 := Scalar.muli c4_i32_105 v17
  let c2_i32_106 : BitVec 32 := 2#32
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let v149 : BitVec 32 := Scalar.muli c2_i32_106 v18
  let v150 : BitVec 32 := Scalar.addi v148 v149
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v151 : BitVec 32 := Scalar.addi v150 v13
  let c0_i32_113 : BitVec 32 := 0#32
  let c0_i32_114 : BitVec 32 := 0#32
  ![v151.toNat, 0, 0]
def k0_dev7 (d5 : Dev nD) : Nat :=
  let c0_i32_118 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_117 : BitVec 32 := 4#32
  let v164 : BitVec 32 := Scalar.muli v7 c4_i32_117
  let v165 : BitVec 32 := Scalar.addi c0_i32_118 v164
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_119 : BitVec 32 := 2#32
  let v166 : BitVec 32 := Scalar.muli v10 c2_i32_119
  let v167 : BitVec 32 := Scalar.addi v165 v166
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_120 : BitVec 32 := 1#32
  let v168 : BitVec 32 := Scalar.muli v14 c1_i32_120
  let v169 : BitVec 32 := Scalar.addi v167 v168
  v169.toNat
def k0_off5 (d5 : Dev nD) : Fin 3 → Nat :=
  let c4_i32_127 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v182 : BitVec 32 := Scalar.muli c4_i32_127 v7
  let c2_i32_128 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v183 : BitVec 32 := Scalar.muli c2_i32_128 v10
  let v184 : BitVec 32 := Scalar.addi v182 v183
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let v185 : BitVec 32 := Scalar.addi v184 v14
  let c0_i32_135 : BitVec 32 := 0#32
  let c0_i32_136 : BitVec 32 := 0#32
  ![v185.toNat, 0, 0]
def k0_off6 (d5 : Dev nD) : Fin 3 → Nat :=
  let c4_i32_142 : BitVec 32 := 4#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let v203 : BitVec 32 := Scalar.muli c4_i32_142 v15
  let c2_i32_143 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v204 : BitVec 32 := Scalar.muli c2_i32_143 v10
  let v205 : BitVec 32 := Scalar.addi v203 v204
  let c1_i32_139 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v198 : BitVec 32 := Scalar.subi c1_i32_139 v13
  let v206 : BitVec 32 := Scalar.addi v205 v198
  let c0_i32_150 : BitVec 32 := 0#32
  let c0_i32_151 : BitVec 32 := 0#32
  ![v206.toNat, 0, 0]
def k0_off7 (d5 : Dev nD) : Fin 3 → Nat :=
  let c4_i32_157 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v224 : BitVec 32 := Scalar.muli c4_i32_157 v7
  let c2_i32_158 : BitVec 32 := 2#32
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let v225 : BitVec 32 := Scalar.muli c2_i32_158 v16
  let v226 : BitVec 32 := Scalar.addi v224 v225
  let c1_i32_154 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v219 : BitVec 32 := Scalar.subi c1_i32_154 v13
  let v227 : BitVec 32 := Scalar.addi v226 v219
  let c0_i32_165 : BitVec 32 := 0#32
  let c0_i32_166 : BitVec 32 := 0#32
  ![v227.toNat, 0, 0]
def k0_off8 (d5 : Dev nD) : Fin 3 → Nat :=
  let c4_i32_172 : BitVec 32 := 4#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let v245 : BitVec 32 := Scalar.muli c4_i32_172 v17
  let c2_i32_173 : BitVec 32 := 2#32
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let v246 : BitVec 32 := Scalar.muli c2_i32_173 v18
  let v247 : BitVec 32 := Scalar.addi v245 v246
  let c1_i32_169 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v240 : BitVec 32 := Scalar.subi c1_i32_169 v13
  let v248 : BitVec 32 := Scalar.addi v247 v240
  let c0_i32_180 : BitVec 32 := 0#32
  let c0_i32_181 : BitVec 32 := 0#32
  ![v248.toNat, 0, 0]
def k0_off9 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v23 : BitVec 32 := Scalar.muli c4_i32_11 v7
  let c2_i32_12 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v24 : BitVec 32 := Scalar.muli c2_i32_12 v10
  let v25 : BitVec 32 := Scalar.addi v23 v24
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v26 : BitVec 32 := Scalar.addi v25 v13
  let c0_i32_185 : BitVec 32 := 0#32
  let c0_i32_186 : BitVec 32 := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelIdeal.lean ====
abbrev S4352x2048 : Shape := ⟨2, ![4352, 2048]⟩
abbrev S8x2048x1408 : Shape := ⟨3, ![8, 2048, 1408]⟩
abbrev S2048x1408 : Shape := ⟨2, ![2048, 1408]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S7 : Shape := ⟨1, ![7]⟩
abbrev S_ : Shape := ⟨0, ![]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S2048x1408, .bf16⟩
  | .hbm, ⟨3, _⟩ => ⟨S4352x11264, .bf16⟩
  | .hbm, ⟨4, _⟩ => ⟨S8x2048x1408, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .bf16⟩
  | .local _ .vmem, ⟨5, _⟩ => ⟨S1088x1408, .bf16⟩
  | .local _ .vmem, ⟨6, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 8, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_31 : BitVec 32 := 0#32
  let v63 : BitVec 1 := Scalar.cmpi .eq v4 c0_i32_31
  let v64 : BitVec 32 := Scalar.extui v63
  let c0_i32_39 : BitVec 32 := 0#32
  let v65 : BitVec 1 := Scalar.cmpi .ne v64 c0_i32_39
  v65

def k0_off1 (d5 : Dev nD) : Fin 3 → Nat :=
  let c4_i32_9 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_9 v7
  let c2_i32_10 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_10 v10
  let v21 : BitVec 32 := Scalar.addi v19 v20
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v22 : BitVec 32 := Scalar.addi v21 v13
  let c0_i32_59 : BitVec 32 := 0#32
  let c0_i32_60 : BitVec 32 := 0#32
  ![v22.toNat, 0, 0]
def k0_dev1 (d5 : Dev nD) : Nat :=
  let c0_i32_62 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_61 : BitVec 32 := 4#32
  let v78 : BitVec 32 := Scalar.muli v7 c4_i32_61
  let v79 : BitVec 32 := Scalar.addi c0_i32_62 v78
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_63 : BitVec 32 := 2#32
  let v80 : BitVec 32 := Scalar.muli v10 c2_i32_63
  let v81 : BitVec 32 := Scalar.addi v79 v80
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_64 : BitVec 32 := 1#32
  let v82 : BitVec 32 := Scalar.muli v14 c1_i32_64
  let v83 : BitVec 32 := Scalar.addi v81 v82
  v83.toNat
def k0_dev2 (d5 : Dev nD) : Nat :=
  let c0_i32_68 : BitVec 32 := 0#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let c4_i32_67 : BitVec 32 := 4#32
  let v90 : BitVec 32 := Scalar.muli v15 c4_i32_67
  let v91 : BitVec 32 := Scalar.addi c0_i32_68 v90
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_69 : BitVec 32 := 2#32
  let v92 : BitVec 32 := Scalar.muli v10 c2_i32_69
  let v93 : BitVec 32 := Scalar.addi v91 v92
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_70 : BitVec 32 := 1#32
  let v94 : BitVec 32 := Scalar.muli v13 c1_i32_70
  let v95 : BitVec 32 := Scalar.addi v93 v94
  v95.toNat
def k0_dev3 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_73 : BitVec 32 := 4#32
  let v102 : BitVec 32 := Scalar.muli v7 c4_i32_73
  let v103 : BitVec 32 := Scalar.addi c0_i32_74 v102
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let c2_i32_75 : BitVec 32 := 2#32
  let v104 : BitVec 32 := Scalar.muli v16 c2_i32_75
  let v105 : BitVec 32 := Scalar.addi v103 v104
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_76 : BitVec 32 := 1#32
  let v106 : BitVec 32 := Scalar.muli v13 c1_i32_76
  let v107 : BitVec 32 := Scalar.addi v105 v106
  v107.toNat
def k0_dev4 (d5 : Dev nD) : Nat :=
  let c0_i32_80 : BitVec 32 := 0#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let c4_i32_79 : BitVec 32 := 4#32
  let v114 : BitVec 32 := Scalar.muli v17 c4_i32_79
  let v115 : BitVec 32 := Scalar.addi c0_i32_80 v114
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let c2_i32_81 : BitVec 32 := 2#32
  let v116 : BitVec 32 := Scalar.muli v18 c2_i32_81
  let v117 : BitVec 32 := Scalar.addi v115 v116
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_82 : BitVec 32 := 1#32
  let v118 : BitVec 32 := Scalar.muli v13 c1_i32_82
  let v119 : BitVec 32 := Scalar.addi v117 v118
  v119.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c31_i32 : BitVec 32 := 31#32
  let v73 : BitVec 1 := Scalar.cmpi .eq v4 c31_i32
  let v74 : BitVec 32 := Scalar.extui v73
  let c0_i32_58 : BitVec 32 := 0#32
  let v75 : BitVec 1 := Scalar.cmpi .ne v74 c0_i32_58
  v75

def k0_off2 (d5 : Dev nD) : Fin 3 → Nat :=
  let c4_i32_61 : BitVec 32 := 4#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let v80 : BitVec 32 := Scalar.muli c4_i32_61 v15
  let c2_i32_62 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v81 : BitVec 32 := Scalar.muli c2_i32_62 v10
  let v82 : BitVec 32 := Scalar.addi v80 v81
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v83 : BitVec 32 := Scalar.addi v82 v13
  let c0_i32_69 : BitVec 32 := 0#32
  let c0_i32_70 : BitVec 32 := 0#32
  ![v83.toNat, 0, 0]
def k0_dev5 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_73 : BitVec 32 := 4#32
  let v96 : BitVec 32 := Scalar.muli v7 c4_i32_73
  let v97 : BitVec 32 := Scalar.addi c0_i32_74 v96
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_75 : BitVec 32 := 2#32
  let v98 : BitVec 32 := Scalar.muli v10 c2_i32_75
  let v99 : BitVec 32 := Scalar.addi v97 v98
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_76 : BitVec 32 := 1#32
  let v100 : BitVec 32 := Scalar.muli v14 c1_i32_76
  let v101 : BitVec 32 := Scalar.addi v99 v100
  v101.toNat
def k0_off3 (d5 : Dev nD) : Fin 3 → Nat :=
  let c4_i32_83 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v114 : BitVec 32 := Scalar.muli c4_i32_83 v7
  let c2_i32_84 : BitVec 32 := 2#32
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let v115 : BitVec 32 := Scalar.muli c2_i32_84 v16
  let v116 : BitVec 32 := Scalar.addi v114 v115
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v117 : BitVec 32 := Scalar.addi v116 v13
  let c0_i32_91 : BitVec 32 := 0#32
  let c0_i32_92 : BitVec 32 := 0#32
  ![v117.toNat, 0, 0]
def k0_dev6 (d5 : Dev nD) : Nat :=
  let c0_i32_96 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_95 : BitVec 32 := 4#32
  let v130 : BitVec 32 := Scalar.muli v7 c4_i32_95
  let v131 : BitVec 32 := Scalar.addi c0_i32_96 v130
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_97 : BitVec 32 := 2#32
  let v132 : BitVec 32 := Scalar.muli v10 c2_i32_97
  let v133 : BitVec 32 := Scalar.addi v131 v132
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_98 : BitVec 32 := 1#32
  let v134 : BitVec 32 := Scalar.muli v14 c1_i32_98
  let v135 : BitVec 32 := Scalar.addi v133 v134
  v135.toNat
def k0_off4 (d5 : Dev nD) : Fin 3 → Nat :=
  let c4_i32_105 : BitVec 32 := 4#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let v148 : BitVec 32 := Scalar.muli c4_i32_105 v17
  let c2_i32_106 : BitVec 32 := 2#32
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let v149 : BitVec 32 := Scalar.muli c2_i32_106 v18
  let v150 : BitVec 32 := Scalar.addi v148 v149
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v151 : BitVec 32 := Scalar.addi v150 v13
  let c0_i32_113 : BitVec 32 := 0#32
  let c0_i32_114 : BitVec 32 := 0#32
  ![v151.toNat, 0, 0]
def k0_dev7 (d5 : Dev nD) : Nat :=
  let c0_i32_118 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_117 : BitVec 32 := 4#32
  let v164 : BitVec 32 := Scalar.muli v7 c4_i32_117
  let v165 : BitVec 32 := Scalar.addi c0_i32_118 v164
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_119 : BitVec 32 := 2#32
  let v166 : BitVec 32 := Scalar.muli v10 c2_i32_119
  let v167 : BitVec 32 := Scalar.addi v165 v166
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let c1_i32_120 : BitVec 32 := 1#32
  let v168 : BitVec 32 := Scalar.muli v14 c1_i32_120
  let v169 : BitVec 32 := Scalar.addi v167 v168
  v169.toNat
def k0_off5 (d5 : Dev nD) : Fin 3 → Nat :=
  let c4_i32_127 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v182 : BitVec 32 := Scalar.muli c4_i32_127 v7
  let c2_i32_128 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v183 : BitVec 32 := Scalar.muli c2_i32_128 v10
  let v184 : BitVec 32 := Scalar.addi v182 v183
  let c1_i32_4 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v14 : BitVec 32 := Scalar.subi c1_i32_4 v13
  let v185 : BitVec 32 := Scalar.addi v184 v14
  let c0_i32_135 : BitVec 32 := 0#32
  let c0_i32_136 : BitVec 32 := 0#32
  ![v185.toNat, 0, 0]
def k0_off6 (d5 : Dev nD) : Fin 3 → Nat :=
  let c4_i32_142 : BitVec 32 := 4#32
  let c1_i32_5 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v15 : BitVec 32 := Scalar.subi c1_i32_5 v7
  let v203 : BitVec 32 := Scalar.muli c4_i32_142 v15
  let c2_i32_143 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v204 : BitVec 32 := Scalar.muli c2_i32_143 v10
  let v205 : BitVec 32 := Scalar.addi v203 v204
  let c1_i32_139 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v198 : BitVec 32 := Scalar.subi c1_i32_139 v13
  let v206 : BitVec 32 := Scalar.addi v205 v198
  let c0_i32_150 : BitVec 32 := 0#32
  let c0_i32_151 : BitVec 32 := 0#32
  ![v206.toNat, 0, 0]
def k0_off7 (d5 : Dev nD) : Fin 3 → Nat :=
  let c4_i32_157 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v224 : BitVec 32 := Scalar.muli c4_i32_157 v7
  let c2_i32_158 : BitVec 32 := 2#32
  let c1_i32_6 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v16 : BitVec 32 := Scalar.subi c1_i32_6 v10
  let v225 : BitVec 32 := Scalar.muli c2_i32_158 v16
  let v226 : BitVec 32 := Scalar.addi v224 v225
  let c1_i32_154 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v219 : BitVec 32 := Scalar.subi c1_i32_154 v13
  let v227 : BitVec 32 := Scalar.addi v226 v219
  let c0_i32_165 : BitVec 32 := 0#32
  let c0_i32_166 : BitVec 32 := 0#32
  ![v227.toNat, 0, 0]
def k0_off8 (d5 : Dev nD) : Fin 3 → Nat :=
  let c4_i32_172 : BitVec 32 := 4#32
  let c1_i32_7 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v17 : BitVec 32 := Scalar.subi c1_i32_7 v7
  let v245 : BitVec 32 := Scalar.muli c4_i32_172 v17
  let c2_i32_173 : BitVec 32 := 2#32
  let c1_i32_8 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v18 : BitVec 32 := Scalar.subi c1_i32_8 v10
  let v246 : BitVec 32 := Scalar.muli c2_i32_173 v18
  let v247 : BitVec 32 := Scalar.addi v245 v246
  let c1_i32_169 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v240 : BitVec 32 := Scalar.subi c1_i32_169 v13
  let v248 : BitVec 32 := Scalar.addi v247 v240
  let c0_i32_180 : BitVec 32 := 0#32
  let c0_i32_181 : BitVec 32 := 0#32
  ![v248.toNat, 0, 0]
def k0_off9 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v23 : BitVec 32 := Scalar.muli c4_i32_11 v7
  let c2_i32_12 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v24 : BitVec 32 := Scalar.muli c2_i32_12 v10
  let v25 : BitVec 32 := Scalar.addi v23 v24
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v26 : BitVec 32 := Scalar.addi v25 v13
  let c0_i32_185 : BitVec 32 := 0#32
  let c0_i32_186 : BitVec 32 := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S34816x2048 : Shape := ⟨2, ![34816, 2048]⟩
abbrev S8x2048x1408 : Shape := ⟨3, ![8, 2048, 1408]⟩
abbrev S2048x11264 : Shape := ⟨2, ![2048, 11264]⟩
abbrev S2048x8x1408 : Shape := ⟨3, ![2048, 8, 1408]⟩
abbrev S34816x11264 : Shape := ⟨2, ![34816, 11264]⟩

abbrev nBuf : Space → Nat
  | .hbm => 11
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S8x2048x1408, .bf16⟩
  | .hbm, ⟨2, _⟩ => ⟨S2048x11264, .bf16⟩
  | .hbm, ⟨3, _⟩ => ⟨S2048x8x1408, .bf16⟩
  | .hbm, ⟨4, _⟩ => ⟨S2048x11264, .bf16⟩
  | .hbm, ⟨5, _⟩ => ⟨S34816x2048, .f32⟩
  | .hbm, ⟨6, _⟩ => ⟨S2048x11264, .f32⟩
  | .hbm, ⟨7, _⟩ => ⟨S34816x11264, .f32⟩
  | .hbm, ⟨8, _⟩ => ⟨S34816x11264, .bf16⟩
  | .hbm, ⟨9, _⟩ => ⟨S2048x8x1408, .bf16⟩
  | .hbm, ⟨10, _⟩ => ⟨S8x2048x1408, .bf16⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InKernel.lean ====
abbrev S4352x2048 : Shape := ⟨2, ![4352, 2048]⟩
abbrev S2048x2048 : Shape := ⟨2, ![2048, 2048]⟩
abbrev S256x2048 : Shape := ⟨2, ![256, 2048]⟩
abbrev S8x256x2048 : Shape := ⟨3, ![8, 256, 2048]⟩
abbrev S1088x2048 : Shape := ⟨2, ![1088, 2048]⟩
abbrev S2048x1024 : Shape := ⟨2, ![2048, 1024]⟩
abbrev S1088x1024 : Shape := ⟨2, ![1088, 1024]⟩
abbrev S7 : Shape := ⟨1, ![7]⟩
abbrev S_ : Shape := ⟨0, ![]⟩
abbrev S1x256x2048 : Shape := ⟨3, ![1, 256, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S256x2048, .bf16⟩
  | .hbm, ⟨3, _⟩ => ⟨S4352x2048, .f32⟩
  | .hbm, ⟨4, _⟩ => ⟨S8x256x2048, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_32 : BitVec 32 := 0#32
  let v63 : BitVec 1 := Scalar.cmpi .eq v4 c0_i32_32
  let v64 : BitVec 32 := Scalar.extui v63
  let c0_i32_40 : BitVec 32 := 0#32
  let v65 : BitVec 1 := Scalar.cmpi .ne v64 c0_i32_40
  v65

def k0_off1 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_10 v7
  let c2_i32_11 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_11 v10
  let v21 : BitVec 32 := Scalar.addi v19 v20
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v22 : BitVec 32 := Scalar.addi v21 v13
  let c0_i32_59 : BitVec 32 := 0#32
  let c0_i32_60 : BitVec 32 := 0#32
  ![v22.toNat, 0, 0]
def k0_dev1 (d5 : Dev nD) : Nat :=
  let c0_i32_62 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_61 : BitVec 32 := 4#32
  let v77 : BitVec 32 := Scalar.muli v7 c4_i32_61
  let v78 : BitVec 32 := Scalar.addi c0_i32_62 v77
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_63 : BitVec 32 := 2#32
  let v79 : BitVec 32 := Scalar.muli v10 c2_i32_63
  let v80 : BitVec 32 := Scalar.addi v78 v79
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_64 : BitVec 32 := 1#32
  let v81 : BitVec 32 := Scalar.muli v14 c1_i32_64
  let v82 : BitVec 32 := Scalar.addi v80 v81
  v82.toNat
def k0_dev2 (d5 : Dev nD) : Nat :=
  let c0_i32_68 : BitVec 32 := 0#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let c4_i32_67 : BitVec 32 := 4#32
  let v89 : BitVec 32 := Scalar.muli v15 c4_i32_67
  let v90 : BitVec 32 := Scalar.addi c0_i32_68 v89
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_69 : BitVec 32 := 2#32
  let v91 : BitVec 32 := Scalar.muli v10 c2_i32_69
  let v92 : BitVec 32 := Scalar.addi v90 v91
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_70 : BitVec 32 := 1#32
  let v93 : BitVec 32 := Scalar.muli v13 c1_i32_70
  let v94 : BitVec 32 := Scalar.addi v92 v93
  v94.toNat
def k0_dev3 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_73 : BitVec 32 := 4#32
  let v101 : BitVec 32 := Scalar.muli v7 c4_i32_73
  let v102 : BitVec 32 := Scalar.addi c0_i32_74 v101
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let c2_i32_75 : BitVec 32 := 2#32
  let v103 : BitVec 32 := Scalar.muli v16 c2_i32_75
  let v104 : BitVec 32 := Scalar.addi v102 v103
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_76 : BitVec 32 := 1#32
  let v105 : BitVec 32 := Scalar.muli v13 c1_i32_76
  let v106 : BitVec 32 := Scalar.addi v104 v105
  v106.toNat
def k0_dev4 (d5 : Dev nD) : Nat :=
  let c0_i32_80 : BitVec 32 := 0#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let c4_i32_79 : BitVec 32 := 4#32
  let v113 : BitVec 32 := Scalar.muli v17 c4_i32_79
  let v114 : BitVec 32 := Scalar.addi c0_i32_80 v113
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let c2_i32_81 : BitVec 32 := 2#32
  let v115 : BitVec 32 := Scalar.muli v18 c2_i32_81
  let v116 : BitVec 32 := Scalar.addi v114 v115
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_82 : BitVec 32 := 1#32
  let v117 : BitVec 32 := Scalar.muli v13 c1_i32_82
  let v118 : BitVec 32 := Scalar.addi v116 v117
  v118.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c7_i32 : BitVec 32 := 7#32
  let v72 : BitVec 1 := Scalar.cmpi .eq v4 c7_i32
  let v73 : BitVec 32 := Scalar.extui v72
  let c0_i32_58 : BitVec 32 := 0#32
  let v74 : BitVec 1 := Scalar.cmpi .ne v73 c0_i32_58
  v74

def k0_off2 (d5 : Dev nD) : Fin 3 → Nat :=
  let c4_i32_61 : BitVec 32 := 4#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let v79 : BitVec 32 := Scalar.muli c4_i32_61 v15
  let c2_i32_62 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v80 : BitVec 32 := Scalar.muli c2_i32_62 v10
  let v81 : BitVec 32 := Scalar.addi v79 v80
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v82 : BitVec 32 := Scalar.addi v81 v13
  let c0_i32_69 : BitVec 32 := 0#32
  let c0_i32_70 : BitVec 32 := 0#32
  ![v82.toNat, 0, 0]
def k0_dev5 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_73 : BitVec 32 := 4#32
  let v95 : BitVec 32 := Scalar.muli v7 c4_i32_73
  let v96 : BitVec 32 := Scalar.addi c0_i32_74 v95
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_75 : BitVec 32 := 2#32
  let v97 : BitVec 32 := Scalar.muli v10 c2_i32_75
  let v98 : BitVec 32 := Scalar.addi v96 v97
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_76 : BitVec 32 := 1#32
  let v99 : BitVec 32 := Scalar.muli v14 c1_i32_76
  let v100 : BitVec 32 := Scalar.addi v98 v99
  v100.toNat
def k0_off3 (d5 : Dev nD) : Fin 3 → Nat :=
  let c4_i32_83 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v113 : BitVec 32 := Scalar.muli c4_i32_83 v7
  let c2_i32_84 : BitVec 32 := 2#32
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let v114 : BitVec 32 := Scalar.muli c2_i32_84 v16
  let v115 : BitVec 32 := Scalar.addi v113 v114
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v116 : BitVec 32 := Scalar.addi v115 v13
  let c0_i32_91 : BitVec 32 := 0#32
  let c0_i32_92 : BitVec 32 := 0#32
  ![v116.toNat, 0, 0]
def k0_dev6 (d5 : Dev nD) : Nat :=
  let c0_i32_96 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_95 : BitVec 32 := 4#32
  let v129 : BitVec 32 := Scalar.muli v7 c4_i32_95
  let v130 : BitVec 32 := Scalar.addi c0_i32_96 v129
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_97 : BitVec 32 := 2#32
  let v131 : BitVec 32 := Scalar.muli v10 c2_i32_97
  let v132 : BitVec 32 := Scalar.addi v130 v131
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_98 : BitVec 32 := 1#32
  let v133 : BitVec 32 := Scalar.muli v14 c1_i32_98
  let v134 : BitVec 32 := Scalar.addi v132 v133
  v134.toNat
def k0_off4 (d5 : Dev nD) : Fin 3 → Nat :=
  let c4_i32_105 : BitVec 32 := 4#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let v147 : BitVec 32 := Scalar.muli c4_i32_105 v17
  let c2_i32_106 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let v148 : BitVec 32 := Scalar.muli c2_i32_106 v18
  let v149 : BitVec 32 := Scalar.addi v147 v148
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v150 : BitVec 32 := Scalar.addi v149 v13
  let c0_i32_113 : BitVec 32 := 0#32
  let c0_i32_114 : BitVec 32 := 0#32
  ![v150.toNat, 0, 0]
def k0_dev7 (d5 : Dev nD) : Nat :=
  let c0_i32_118 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_117 : BitVec 32 := 4#32
  let v163 : BitVec 32 := Scalar.muli v7 c4_i32_117
  let v164 : BitVec 32 := Scalar.addi c0_i32_118 v163
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_119 : BitVec 32 := 2#32
  let v165 : BitVec 32 := Scalar.muli v10 c2_i32_119
  let v166 : BitVec 32 := Scalar.addi v164 v165
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_120 : BitVec 32 := 1#32
  let v167 : BitVec 32 := Scalar.muli v14 c1_i32_120
  let v168 : BitVec 32 := Scalar.addi v166 v167
  v168.toNat
def k0_off5 (d5 : Dev nD) : Fin 3 → Nat :=
  let c4_i32_127 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v181 : BitVec 32 := Scalar.muli c4_i32_127 v7
  let c2_i32_128 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v182 : BitVec 32 := Scalar.muli c2_i32_128 v10
  let v183 : BitVec 32 := Scalar.addi v181 v182
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let v184 : BitVec 32 := Scalar.addi v183 v14
  let c0_i32_135 : BitVec 32 := 0#32
  let c0_i32_136 : BitVec 32 := 0#32
  ![v184.toNat, 0, 0]
def k0_off6 (d5 : Dev nD) : Fin 3 → Nat :=
  let c4_i32_142 : BitVec 32 := 4#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let v202 : BitVec 32 := Scalar.muli c4_i32_142 v15
  let c2_i32_143 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v203 : BitVec 32 := Scalar.muli c2_i32_143 v10
  let v204 : BitVec 32 := Scalar.addi v202 v203
  let c1_i32_139 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v197 : BitVec 32 := Scalar.subi c1_i32_139 v13
  let v205 : BitVec 32 := Scalar.addi v204 v197
  let c0_i32_150 : BitVec 32 := 0#32
  let c0_i32_151 : BitVec 32 := 0#32
  ![v205.toNat, 0, 0]
def k0_off7 (d5 : Dev nD) : Fin 3 → Nat :=
  let c4_i32_157 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v223 : BitVec 32 := Scalar.muli c4_i32_157 v7
  let c2_i32_158 : BitVec 32 := 2#32
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let v224 : BitVec 32 := Scalar.muli c2_i32_158 v16
  let v225 : BitVec 32 := Scalar.addi v223 v224
  let c1_i32_154 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v218 : BitVec 32 := Scalar.subi c1_i32_154 v13
  let v226 : BitVec 32 := Scalar.addi v225 v218
  let c0_i32_165 : BitVec 32 := 0#32
  let c0_i32_166 : BitVec 32 := 0#32
  ![v226.toNat, 0, 0]
def k0_off8 (d5 : Dev nD) : Fin 3 → Nat :=
  let c4_i32_172 : BitVec 32 := 4#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let v244 : BitVec 32 := Scalar.muli c4_i32_172 v17
  let c2_i32_173 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let v245 : BitVec 32 := Scalar.muli c2_i32_173 v18
  let v246 : BitVec 32 := Scalar.addi v244 v245
  let c1_i32_169 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v239 : BitVec 32 := Scalar.subi c1_i32_169 v13
  let v247 : BitVec 32 := Scalar.addi v246 v239
  let c0_i32_180 : BitVec 32 := 0#32
  let c0_i32_181 : BitVec 32 := 0#32
  ![v247.toNat, 0, 0]
def k0_off9 (d5 : Dev nD) : Fin 3 → Nat :=
  let c4_i32_12 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v23 : BitVec 32 := Scalar.muli c4_i32_12 v7
  let c2_i32_13 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v24 : BitVec 32 := Scalar.muli c2_i32_13 v10
  let v25 : BitVec 32 := Scalar.addi v23 v24
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v26 : BitVec 32 := Scalar.addi v25 v13
  let c0_i32_185 : BitVec 32 := 0#32
  let c0_i32_186 : BitVec 32 := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKernelIdeal.lean ====
abbrev S4352x2048 : Shape := ⟨2, ![4352, 2048]⟩
abbrev S2048x2048 : Shape := ⟨2, ![2048, 2048]⟩
abbrev S256x2048 : Shape := ⟨2, ![256, 2048]⟩
abbrev S8x256x2048 : Shape := ⟨3, ![8, 256, 2048]⟩
abbrev S1088x2048 : Shape := ⟨2, ![1088, 2048]⟩
abbrev S2048x1024 : Shape := ⟨2, ![2048, 1024]⟩
abbrev S1088x1024 : Shape := ⟨2, ![1088, 1024]⟩
abbrev S7 : Shape := ⟨1, ![7]⟩
abbrev S_ : Shape := ⟨0, ![]⟩
abbrev S1x256x2048 : Shape := ⟨3, ![1, 256, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S256x2048, .bf16⟩
  | .hbm, ⟨3, _⟩ => ⟨S4352x2048, .f32⟩
  | .hbm, ⟨4, _⟩ => ⟨S8x256x2048, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_32 : BitVec 32 := 0#32
  let v63 : BitVec 1 := Scalar.cmpi .eq v4 c0_i32_32
  let v64 : BitVec 32 := Scalar.extui v63
  let c0_i32_40 : BitVec 32 := 0#32
  let v65 : BitVec 1 := Scalar.cmpi .ne v64 c0_i32_40
  v65

def k0_off1 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_10 v7
  let c2_i32_11 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_11 v10
  let v21 : BitVec 32 := Scalar.addi v19 v20
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v22 : BitVec 32 := Scalar.addi v21 v13
  let c0_i32_59 : BitVec 32 := 0#32
  let c0_i32_60 : BitVec 32 := 0#32
  ![v22.toNat, 0, 0]
def k0_dev1 (d5 : Dev nD) : Nat :=
  let c0_i32_62 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_61 : BitVec 32 := 4#32
  let v77 : BitVec 32 := Scalar.muli v7 c4_i32_61
  let v78 : BitVec 32 := Scalar.addi c0_i32_62 v77
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_63 : BitVec 32 := 2#32
  let v79 : BitVec 32 := Scalar.muli v10 c2_i32_63
  let v80 : BitVec 32 := Scalar.addi v78 v79
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_64 : BitVec 32 := 1#32
  let v81 : BitVec 32 := Scalar.muli v14 c1_i32_64
  let v82 : BitVec 32 := Scalar.addi v80 v81
  v82.toNat
def k0_dev2 (d5 : Dev nD) : Nat :=
  let c0_i32_68 : BitVec 32 := 0#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let c4_i32_67 : BitVec 32 := 4#32
  let v89 : BitVec 32 := Scalar.muli v15 c4_i32_67
  let v90 : BitVec 32 := Scalar.addi c0_i32_68 v89
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_69 : BitVec 32 := 2#32
  let v91 : BitVec 32 := Scalar.muli v10 c2_i32_69
  let v92 : BitVec 32 := Scalar.addi v90 v91
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_70 : BitVec 32 := 1#32
  let v93 : BitVec 32 := Scalar.muli v13 c1_i32_70
  let v94 : BitVec 32 := Scalar.addi v92 v93
  v94.toNat
def k0_dev3 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_73 : BitVec 32 := 4#32
  let v101 : BitVec 32 := Scalar.muli v7 c4_i32_73
  let v102 : BitVec 32 := Scalar.addi c0_i32_74 v101
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let c2_i32_75 : BitVec 32 := 2#32
  let v103 : BitVec 32 := Scalar.muli v16 c2_i32_75
  let v104 : BitVec 32 := Scalar.addi v102 v103
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_76 : BitVec 32 := 1#32
  let v105 : BitVec 32 := Scalar.muli v13 c1_i32_76
  let v106 : BitVec 32 := Scalar.addi v104 v105
  v106.toNat
def k0_dev4 (d5 : Dev nD) : Nat :=
  let c0_i32_80 : BitVec 32 := 0#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let c4_i32_79 : BitVec 32 := 4#32
  let v113 : BitVec 32 := Scalar.muli v17 c4_i32_79
  let v114 : BitVec 32 := Scalar.addi c0_i32_80 v113
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let c2_i32_81 : BitVec 32 := 2#32
  let v115 : BitVec 32 := Scalar.muli v18 c2_i32_81
  let v116 : BitVec 32 := Scalar.addi v114 v115
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_82 : BitVec 32 := 1#32
  let v117 : BitVec 32 := Scalar.muli v13 c1_i32_82
  let v118 : BitVec 32 := Scalar.addi v116 v117
  v118.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c7_i32 : BitVec 32 := 7#32
  let v72 : BitVec 1 := Scalar.cmpi .eq v4 c7_i32
  let v73 : BitVec 32 := Scalar.extui v72
  let c0_i32_58 : BitVec 32 := 0#32
  let v74 : BitVec 1 := Scalar.cmpi .ne v73 c0_i32_58
  v74

def k0_off2 (d5 : Dev nD) : Fin 3 → Nat :=
  let c4_i32_61 : BitVec 32 := 4#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let v79 : BitVec 32 := Scalar.muli c4_i32_61 v15
  let c2_i32_62 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v80 : BitVec 32 := Scalar.muli c2_i32_62 v10
  let v81 : BitVec 32 := Scalar.addi v79 v80
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v82 : BitVec 32 := Scalar.addi v81 v13
  let c0_i32_69 : BitVec 32 := 0#32
  let c0_i32_70 : BitVec 32 := 0#32
  ![v82.toNat, 0, 0]
def k0_dev5 (d5 : Dev nD) : Nat :=
  let c0_i32_74 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_73 : BitVec 32 := 4#32
  let v95 : BitVec 32 := Scalar.muli v7 c4_i32_73
  let v96 : BitVec 32 := Scalar.addi c0_i32_74 v95
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_75 : BitVec 32 := 2#32
  let v97 : BitVec 32 := Scalar.muli v10 c2_i32_75
  let v98 : BitVec 32 := Scalar.addi v96 v97
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_76 : BitVec 32 := 1#32
  let v99 : BitVec 32 := Scalar.muli v14 c1_i32_76
  let v100 : BitVec 32 := Scalar.addi v98 v99
  v100.toNat
def k0_off3 (d5 : Dev nD) : Fin 3 → Nat :=
  let c4_i32_83 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v113 : BitVec 32 := Scalar.muli c4_i32_83 v7
  let c2_i32_84 : BitVec 32 := 2#32
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let v114 : BitVec 32 := Scalar.muli c2_i32_84 v16
  let v115 : BitVec 32 := Scalar.addi v113 v114
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v116 : BitVec 32 := Scalar.addi v115 v13
  let c0_i32_91 : BitVec 32 := 0#32
  let c0_i32_92 : BitVec 32 := 0#32
  ![v116.toNat, 0, 0]
def k0_dev6 (d5 : Dev nD) : Nat :=
  let c0_i32_96 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_95 : BitVec 32 := 4#32
  let v129 : BitVec 32 := Scalar.muli v7 c4_i32_95
  let v130 : BitVec 32 := Scalar.addi c0_i32_96 v129
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_97 : BitVec 32 := 2#32
  let v131 : BitVec 32 := Scalar.muli v10 c2_i32_97
  let v132 : BitVec 32 := Scalar.addi v130 v131
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_98 : BitVec 32 := 1#32
  let v133 : BitVec 32 := Scalar.muli v14 c1_i32_98
  let v134 : BitVec 32 := Scalar.addi v132 v133
  v134.toNat
def k0_off4 (d5 : Dev nD) : Fin 3 → Nat :=
  let c4_i32_105 : BitVec 32 := 4#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let v147 : BitVec 32 := Scalar.muli c4_i32_105 v17
  let c2_i32_106 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let v148 : BitVec 32 := Scalar.muli c2_i32_106 v18
  let v149 : BitVec 32 := Scalar.addi v147 v148
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v150 : BitVec 32 := Scalar.addi v149 v13
  let c0_i32_113 : BitVec 32 := 0#32
  let c0_i32_114 : BitVec 32 := 0#32
  ![v150.toNat, 0, 0]
def k0_dev7 (d5 : Dev nD) : Nat :=
  let c0_i32_118 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_117 : BitVec 32 := 4#32
  let v163 : BitVec 32 := Scalar.muli v7 c4_i32_117
  let v164 : BitVec 32 := Scalar.addi c0_i32_118 v163
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_119 : BitVec 32 := 2#32
  let v165 : BitVec 32 := Scalar.muli v10 c2_i32_119
  let v166 : BitVec 32 := Scalar.addi v164 v165
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let c1_i32_120 : BitVec 32 := 1#32
  let v167 : BitVec 32 := Scalar.muli v14 c1_i32_120
  let v168 : BitVec 32 := Scalar.addi v166 v167
  v168.toNat
def k0_off5 (d5 : Dev nD) : Fin 3 → Nat :=
  let c4_i32_127 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v181 : BitVec 32 := Scalar.muli c4_i32_127 v7
  let c2_i32_128 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v182 : BitVec 32 := Scalar.muli c2_i32_128 v10
  let v183 : BitVec 32 := Scalar.addi v181 v182
  let c1_i32_5 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v14 : BitVec 32 := Scalar.subi c1_i32_5 v13
  let v184 : BitVec 32 := Scalar.addi v183 v14
  let c0_i32_135 : BitVec 32 := 0#32
  let c0_i32_136 : BitVec 32 := 0#32
  ![v184.toNat, 0, 0]
def k0_off6 (d5 : Dev nD) : Fin 3 → Nat :=
  let c4_i32_142 : BitVec 32 := 4#32
  let c1_i32_6 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v15 : BitVec 32 := Scalar.subi c1_i32_6 v7
  let v202 : BitVec 32 := Scalar.muli c4_i32_142 v15
  let c2_i32_143 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v203 : BitVec 32 := Scalar.muli c2_i32_143 v10
  let v204 : BitVec 32 := Scalar.addi v202 v203
  let c1_i32_139 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v197 : BitVec 32 := Scalar.subi c1_i32_139 v13
  let v205 : BitVec 32 := Scalar.addi v204 v197
  let c0_i32_150 : BitVec 32 := 0#32
  let c0_i32_151 : BitVec 32 := 0#32
  ![v205.toNat, 0, 0]
def k0_off7 (d5 : Dev nD) : Fin 3 → Nat :=
  let c4_i32_157 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v223 : BitVec 32 := Scalar.muli c4_i32_157 v7
  let c2_i32_158 : BitVec 32 := 2#32
  let c1_i32_7 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v16 : BitVec 32 := Scalar.subi c1_i32_7 v10
  let v224 : BitVec 32 := Scalar.muli c2_i32_158 v16
  let v225 : BitVec 32 := Scalar.addi v223 v224
  let c1_i32_154 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v218 : BitVec 32 := Scalar.subi c1_i32_154 v13
  let v226 : BitVec 32 := Scalar.addi v225 v218
  let c0_i32_165 : BitVec 32 := 0#32
  let c0_i32_166 : BitVec 32 := 0#32
  ![v226.toNat, 0, 0]
def k0_off8 (d5 : Dev nD) : Fin 3 → Nat :=
  let c4_i32_172 : BitVec 32 := 4#32
  let c1_i32_8 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v17 : BitVec 32 := Scalar.subi c1_i32_8 v7
  let v244 : BitVec 32 := Scalar.muli c4_i32_172 v17
  let c2_i32_173 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v18 : BitVec 32 := Scalar.subi c1_i32_9 v10
  let v245 : BitVec 32 := Scalar.muli c2_i32_173 v18
  let v246 : BitVec 32 := Scalar.addi v244 v245
  let c1_i32_169 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v239 : BitVec 32 := Scalar.subi c1_i32_169 v13
  let v247 : BitVec 32 := Scalar.addi v246 v239
  let c0_i32_180 : BitVec 32 := 0#32
  let c0_i32_181 : BitVec 32 := 0#32
  ![v247.toNat, 0, 0]
def k0_off9 (d5 : Dev nD) : Fin 3 → Nat :=
  let c4_i32_12 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v23 : BitVec 32 := Scalar.muli c4_i32_12 v7
  let c2_i32_13 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v24 : BitVec 32 := Scalar.muli c2_i32_13 v10
  let v25 : BitVec 32 := Scalar.addi v23 v24
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v26 : BitVec 32 := Scalar.addi v25 v13
  let c0_i32_185 : BitVec 32 := 0#32
  let c0_i32_186 : BitVec 32 := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S34816x2048 : Shape := ⟨2, ![34816, 2048]⟩
abbrev S2048x2048 : Shape := ⟨2, ![2048, 2048]⟩
abbrev S8x256x2048 : Shape := ⟨3, ![8, 256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S2048x2048, .bf16⟩
  | .hbm, ⟨2, _⟩ => ⟨S2048x2048, .bf16⟩
  | .hbm, ⟨3, _⟩ => ⟨S34816x2048, .f32⟩
  | .hbm, ⟨4, _⟩ => ⟨S2048x2048, .f32⟩
  | .hbm, ⟨5, _⟩ => ⟨S34816x2048, .f32⟩
  | .hbm, ⟨6, _⟩ => ⟨S8x256x2048, .bf16⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownKernel.lean ====
abbrev S4352x5632 : Shape := ⟨2, ![4352, 5632]⟩
abbrev S5632x2048 : Shape := ⟨2, ![5632, 2048]⟩
abbrev S704x2048 : Shape := ⟨2, ![704, 2048]⟩
abbrev S4352x2048 : Shape := ⟨2, ![4352, 2048]⟩
abbrev S8x704x2048 : Shape := ⟨3, ![8, 704, 2048]⟩
abbrev S1088x1408 : Shape := ⟨2, ![1088, 1408]⟩
abbrev S1408x1024 : Shape := ⟨2, ![1408, 1024]⟩
abbrev S1088x1024 : Shape := ⟨2, ![1088, 1024]⟩
abbrev S7 : Shape := ⟨1, ![7]⟩
abbrev S_ : Shape := ⟨0, ![]⟩
abbrev S1x704x2048 : Shape := ⟨3, ![1, 704, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S704x2048, .bf16⟩
  | .hbm, ⟨3, _⟩ => ⟨S4352x2048, .f32⟩
  | .hbm, ⟨4, _⟩ => ⟨S8x704x2048, .bf16⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 4], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c4_i32 : BitVec 32 := 4#32
  let v3 : BitVec 32 := Scalar.muli v2 c4_i32
  let arg2 : BitVec 32 := BitVec.ofNat 32 (i 2).val
  let v4 : BitVec 32 := Scalar.addi v3 arg2
  let c0_i32_32 : BitVec 32 := 0#32
  let v63 : BitVec 1 := Scalar.cmpi .eq v4 c0_i32_32
  let v64 : BitVec 32 := Scalar.extui v63
  let c0_i32_40 : BitVec 32 := 0#32
  let v65 : BitVec 1 := Scalar.cmpi .ne v64 c0_i32_40
  v65

def k0_off1 (d5 : Dev nD) : Fin 3 → Nat :=
  let c4_i32_10 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v19 : BitVec 32 := Scalar.muli c4_i32_10 v7
  let c2_i32_11 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_11 v10
  let v21 : BitVec 32 := Scalar.addi v19 v20
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v22 : BitVec 32 := Scalar.addi v21 v13
  let c0_i32_63 : BitVec 32 := 0#32
  let c0_i32_64 : BitVec 32 := 0#32
  ![v22.toNat, 0, 0]
def k0_dev1 (d5 : Dev nD) : Nat :=
  let c0_i32_66 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_65 : BitVec 32 := 4#32
  let v85 : BitVec 32 := Scalar.muli v7 c4_i32_65
  let v86 : BitVec 32 := Scalar.addi c0_i32_66 v85
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_67 : BitVec 32 := 2#32
  let v87 : BitVec 32 := Scalar.muli v10 c2_i32_67
  let v88 : BitVec 32 := Scalar.addi v86 v87
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_68 : BitVec 32 := 1#32
  let v89 : BitVec 32 := Scalar.muli v14 c1_i32_68
  let v90 : BitVec 32 := Scalar.addi v88 v89
  v90.toNat
def k0_dev2 (d5 : Dev nD) : Nat :=
  let c0_i32_72 : BitVec 32 := 0#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let c4_i32_71 : BitVec 32 := 4#32
  let v97 : BitVec 32 := Scalar.muli v15 c4_i32_71
  let v98 : BitVec 32 := Scalar.addi c0_i32_72 v97
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_73 : BitVec 32 := 2#32
  let v99 : BitVec 32 := Scalar.muli v10 c2_i32_73
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_74 : BitVec 32 := 1#32
  let v101 : BitVec 32 := Scalar.muli v13 c1_i32_74
  let v102 : BitVec 32 := Scalar.addi v100 v101
  v102.toNat
def k0_dev3 (d5 : Dev nD) : Nat :=
  let c0_i32_78 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_77 : BitVec 32 := 4#32
  let v109 : BitVec 32 := Scalar.muli v7 c4_i32_77
  let v110 : BitVec 32 := Scalar.addi c0_i32_78 v109
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let c2_i32_79 : BitVec 32 := 2#32
  let v111 : BitVec 32 := Scalar.muli v16 c2_i32_79
  let v112 : BitVec 32 := Scalar.addi v110 v111
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_80 : BitVec 32 := 1#32
  let v113 : BitVec 32 := Scalar.muli v13 c1_i32_80
  let v114 : BitVec 32 := Scalar.addi v112 v113
  v114.toNat
def k0_dev4 (d5 : Dev nD) : Nat :=
  let c0_i32_84 : BitVec 32 := 0#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let c4_i32_83 : BitVec 32 := 4#32
  let v121 : BitVec 32 := Scalar.muli v17 c4_i32_83
  let v122 : BitVec 32 := Scalar.addi c0_i32_84 v121
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let c2_i32_85 : BitVec 32 := 2#32
  let v123 : BitVec 32 := Scalar.muli v18 c2_i32_85
  let v124 : BitVec 32 := Scalar.addi v122 v123
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_86 : BitVec 32 := 1#32
  let v125 : BitVec 32 := Scalar.muli v13 c1_i32_86
  let v126 : BitVec 32 := Scalar.addi v124 v125
  v126.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c4_i32 : BitVec 32 := 4#32
  let v3 : BitVec 32 := Scalar.muli v2 c4_i32
  let arg2 : BitVec 32 := BitVec.ofNat 32 (i 2).val
  let v4 : BitVec 32 := Scalar.addi v3 arg2
  let c31_i32 : BitVec 32 := 31#32
  let v80 : BitVec 1 := Scalar.cmpi .eq v4 c31_i32
  let v81 : BitVec 32 := Scalar.extui v80
  let c0_i32_62 : BitVec 32 := 0#32
  let v82 : BitVec 1 := Scalar.cmpi .ne v81 c0_i32_62
  v82

def k0_off2 (d5 : Dev nD) : Fin 3 → Nat :=
  let c4_i32_65 : BitVec 32 := 4#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let v87 : BitVec 32 := Scalar.muli c4_i32_65 v15
  let c2_i32_66 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v88 : BitVec 32 := Scalar.muli c2_i32_66 v10
  let v89 : BitVec 32 := Scalar.addi v87 v88
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v90 : BitVec 32 := Scalar.addi v89 v13
  let c0_i32_73 : BitVec 32 := 0#32
  let c0_i32_74 : BitVec 32 := 0#32
  ![v90.toNat, 0, 0]
def k0_dev5 (d5 : Dev nD) : Nat :=
  let c0_i32_78 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_77 : BitVec 32 := 4#32
  let v103 : BitVec 32 := Scalar.muli v7 c4_i32_77
  let v104 : BitVec 32 := Scalar.addi c0_i32_78 v103
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_79 : BitVec 32 := 2#32
  let v105 : BitVec 32 := Scalar.muli v10 c2_i32_79
  let v106 : BitVec 32 := Scalar.addi v104 v105
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_80 : BitVec 32 := 1#32
  let v107 : BitVec 32 := Scalar.muli v14 c1_i32_80
  let v108 : BitVec 32 := Scalar.addi v106 v107
  v108.toNat
def k0_off3 (d5 : Dev nD) : Fin 3 → Nat :=
  let c4_i32_87 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v121 : BitVec 32 := Scalar.muli c4_i32_87 v7
  let c2_i32_88 : BitVec 32 := 2#32
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let v122 : BitVec 32 := Scalar.muli c2_i32_88 v16
  let v123 : BitVec 32 := Scalar.addi v121 v122
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v124 : BitVec 32 := Scalar.addi v123 v13
  let c0_i32_95 : BitVec 32 := 0#32
  let c0_i32_96 : BitVec 32 := 0#32
  ![v124.toNat, 0, 0]
def k0_dev6 (d5 : Dev nD) : Nat :=
  let c0_i32_100 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_99 : BitVec 32 := 4#32
  let v137 : BitVec 32 := Scalar.muli v7 c4_i32_99
  let v138 : BitVec 32 := Scalar.addi c0_i32_100 v137
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_101 : BitVec 32 := 2#32
  let v139 : BitVec 32 := Scalar.muli v10 c2_i32_101
  let v140 : BitVec 32 := Scalar.addi v138 v139
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_102 : BitVec 32 := 1#32
  let v141 : BitVec 32 := Scalar.muli v14 c1_i32_102
  let v142 : BitVec 32 := Scalar.addi v140 v141
  v142.toNat
def k0_off4 (d5 : Dev nD) : Fin 3 → Nat :=
  let c4_i32_109 : BitVec 32 := 4#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let v155 : BitVec 32 := Scalar.muli c4_i32_109 v17
  let c2_i32_110 : BitVec 32 := 2#32
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let v156 : BitVec 32 := Scalar.muli c2_i32_110 v18
  let v157 : BitVec 32 := Scalar.addi v155 v156
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v158 : BitVec 32 := Scalar.addi v157 v13
  let c0_i32_117 : BitVec 32 := 0#32
  let c0_i32_118 : BitVec 32 := 0#32
  ![v158.toNat, 0, 0]
def k0_dev7 (d5 : Dev nD) : Nat :=
  let c0_i32_122 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_121 : BitVec 32 := 4#32
  let v171 : BitVec 32 := Scalar.muli v7 c4_i32_121
  let v172 : BitVec 32 := Scalar.addi c0_i32_122 v171
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_123 : BitVec 32 := 2#32
  let v173 : BitVec 32 := Scalar.muli v10 c2_i32_123
  let v174 : BitVec 32 := Scalar.addi v172 v173
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_124 : BitVec 32 := 1#32
  let v175 : BitVec 32 := Scalar.muli v14 c1_i32_124
  let v176 : BitVec 32 := Scalar.addi v174 v175
  v176.toNat
def k0_off5 (d5 : Dev nD) : Fin 3 → Nat :=
  let c4_i32_131 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v189 : BitVec 32 := Scalar.muli c4_i32_131 v7
  let c2_i32_132 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v190 : BitVec 32 := Scalar.muli c2_i32_132 v10
  let v191 : BitVec 32 := Scalar.addi v189 v190
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let v192 : BitVec 32 := Scalar.addi v191 v14
  let c0_i32_139 : BitVec 32 := 0#32
  let c0_i32_140 : BitVec 32 := 0#32
  ![v192.toNat, 0, 0]
def k0_off6 (d5 : Dev nD) : Fin 3 → Nat :=
  let c4_i32_146 : BitVec 32 := 4#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let v210 : BitVec 32 := Scalar.muli c4_i32_146 v15
  let c2_i32_147 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v211 : BitVec 32 := Scalar.muli c2_i32_147 v10
  let v212 : BitVec 32 := Scalar.addi v210 v211
  let c1_i32_143 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v205 : BitVec 32 := Scalar.subi c1_i32_143 v13
  let v213 : BitVec 32 := Scalar.addi v212 v205
  let c0_i32_154 : BitVec 32 := 0#32
  let c0_i32_155 : BitVec 32 := 0#32
  ![v213.toNat, 0, 0]
def k0_off7 (d5 : Dev nD) : Fin 3 → Nat :=
  let c4_i32_161 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v231 : BitVec 32 := Scalar.muli c4_i32_161 v7
  let c2_i32_162 : BitVec 32 := 2#32
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let v232 : BitVec 32 := Scalar.muli c2_i32_162 v16
  let v233 : BitVec 32 := Scalar.addi v231 v232
  let c1_i32_158 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v226 : BitVec 32 := Scalar.subi c1_i32_158 v13
  let v234 : BitVec 32 := Scalar.addi v233 v226
  let c0_i32_169 : BitVec 32 := 0#32
  let c0_i32_170 : BitVec 32 := 0#32
  ![v234.toNat, 0, 0]
def k0_off8 (d5 : Dev nD) : Fin 3 → Nat :=
  let c4_i32_176 : BitVec 32 := 4#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let v252 : BitVec 32 := Scalar.muli c4_i32_176 v17
  let c2_i32_177 : BitVec 32 := 2#32
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let v253 : BitVec 32 := Scalar.muli c2_i32_177 v18
  let v254 : BitVec 32 := Scalar.addi v252 v253
  let c1_i32_173 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v247 : BitVec 32 := Scalar.subi c1_i32_173 v13
  let v255 : BitVec 32 := Scalar.addi v254 v247
  let c0_i32_184 : BitVec 32 := 0#32
  let c0_i32_185 : BitVec 32 := 0#32
  ![v255.toNat, 0, 0]
def k0_off9 (d5 : Dev nD) : Fin 3 → Nat :=
  let c4_i32_12 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v23 : BitVec 32 := Scalar.muli c4_i32_12 v7
  let c2_i32_13 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v24 : BitVec 32 := Scalar.muli c2_i32_13 v10
  let v25 : BitVec 32 := Scalar.addi v23 v24
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v26 : BitVec 32 := Scalar.addi v25 v13
  let c0_i32_189 : BitVec 32 := 0#32
  let c0_i32_190 : BitVec 32 := 0#32
  ![v26.toNat, 0, 0]
def k0_cond4 (i : grid0.Coords) : BitVec 1 :=
  let arg2 : BitVec 32 := BitVec.ofNat 32 (i 2).val
  let c3_i32_48 : BitVec 32 := 3#32
  let v77 : BitVec 1 := Scalar.cmpi .eq arg2 c3_i32_48
  let v78 : BitVec 32 := Scalar.extui v77
  let c0_i32_49 : BitVec 32 := 0#32
  let v79 : BitVec 1 := Scalar.cmpi .ne v78 c0_i32_49
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownKernelIdeal.lean ====
abbrev S4352x5632 : Shape := ⟨2, ![4352, 5632]⟩
abbrev S5632x2048 : Shape := ⟨2, ![5632, 2048]⟩
abbrev S704x2048 : Shape := ⟨2, ![704, 2048]⟩
abbrev S4352x2048 : Shape := ⟨2, ![4352, 2048]⟩
abbrev S8x704x2048 : Shape := ⟨3, ![8, 704, 2048]⟩
abbrev S1088x1408 : Shape := ⟨2, ![1088, 1408]⟩
abbrev S1408x1024 : Shape := ⟨2, ![1408, 1024]⟩
abbrev S1088x1024 : Shape := ⟨2, ![1088, 1024]⟩
abbrev S7 : Shape := ⟨1, ![7]⟩
abbrev S_ : Shape := ⟨0, ![]⟩
abbrev S1x704x2048 : Shape := ⟨3, ![1, 704, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S704x2048, .bf16⟩
  | .hbm, ⟨3, _⟩ => ⟨S4352x2048, .f32⟩
  | .hbm, ⟨4, _⟩ => ⟨S8x704x2048, .bf16⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 4], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c4_i32 : BitVec 32 := 4#32
  let v3 : BitVec 32 := Scalar.muli v2 c4_i32
  let arg2 : BitVec 32 := BitVec.ofNat 32 (i 2).val
  let v4 : BitVec 32 := Scalar.addi v3 arg2
  let c0_i32_32 : BitVec 32 := 0#32
  let v63 : BitVec 1 := Scalar.cmpi .eq v4 c0_i32_32
  let v64 : BitVec 32 := Scalar.extui v63
  let c0_i32_40 : BitVec 32 := 0#32
  let v65 : BitVec 1 := Scalar.cmpi .ne v64 c0_i32_40
  v65

def k0_off1 (d5 : Dev nD) : Fin 3 → Nat :=
  let c4_i32_10 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v19 : BitVec 32 := Scalar.muli c4_i32_10 v7
  let c2_i32_11 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_11 v10
  let v21 : BitVec 32 := Scalar.addi v19 v20
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v22 : BitVec 32 := Scalar.addi v21 v13
  let c0_i32_63 : BitVec 32 := 0#32
  let c0_i32_64 : BitVec 32 := 0#32
  ![v22.toNat, 0, 0]
def k0_dev1 (d5 : Dev nD) : Nat :=
  let c0_i32_66 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_65 : BitVec 32 := 4#32
  let v85 : BitVec 32 := Scalar.muli v7 c4_i32_65
  let v86 : BitVec 32 := Scalar.addi c0_i32_66 v85
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_67 : BitVec 32 := 2#32
  let v87 : BitVec 32 := Scalar.muli v10 c2_i32_67
  let v88 : BitVec 32 := Scalar.addi v86 v87
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_68 : BitVec 32 := 1#32
  let v89 : BitVec 32 := Scalar.muli v14 c1_i32_68
  let v90 : BitVec 32 := Scalar.addi v88 v89
  v90.toNat
def k0_dev2 (d5 : Dev nD) : Nat :=
  let c0_i32_72 : BitVec 32 := 0#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let c4_i32_71 : BitVec 32 := 4#32
  let v97 : BitVec 32 := Scalar.muli v15 c4_i32_71
  let v98 : BitVec 32 := Scalar.addi c0_i32_72 v97
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_73 : BitVec 32 := 2#32
  let v99 : BitVec 32 := Scalar.muli v10 c2_i32_73
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_74 : BitVec 32 := 1#32
  let v101 : BitVec 32 := Scalar.muli v13 c1_i32_74
  let v102 : BitVec 32 := Scalar.addi v100 v101
  v102.toNat
def k0_dev3 (d5 : Dev nD) : Nat :=
  let c0_i32_78 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_77 : BitVec 32 := 4#32
  let v109 : BitVec 32 := Scalar.muli v7 c4_i32_77
  let v110 : BitVec 32 := Scalar.addi c0_i32_78 v109
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let c2_i32_79 : BitVec 32 := 2#32
  let v111 : BitVec 32 := Scalar.muli v16 c2_i32_79
  let v112 : BitVec 32 := Scalar.addi v110 v111
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_80 : BitVec 32 := 1#32
  let v113 : BitVec 32 := Scalar.muli v13 c1_i32_80
  let v114 : BitVec 32 := Scalar.addi v112 v113
  v114.toNat
def k0_dev4 (d5 : Dev nD) : Nat :=
  let c0_i32_84 : BitVec 32 := 0#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let c4_i32_83 : BitVec 32 := 4#32
  let v121 : BitVec 32 := Scalar.muli v17 c4_i32_83
  let v122 : BitVec 32 := Scalar.addi c0_i32_84 v121
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let c2_i32_85 : BitVec 32 := 2#32
  let v123 : BitVec 32 := Scalar.muli v18 c2_i32_85
  let v124 : BitVec 32 := Scalar.addi v122 v123
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_86 : BitVec 32 := 1#32
  let v125 : BitVec 32 := Scalar.muli v13 c1_i32_86
  let v126 : BitVec 32 := Scalar.addi v124 v125
  v126.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c4_i32 : BitVec 32 := 4#32
  let v3 : BitVec 32 := Scalar.muli v2 c4_i32
  let arg2 : BitVec 32 := BitVec.ofNat 32 (i 2).val
  let v4 : BitVec 32 := Scalar.addi v3 arg2
  let c31_i32 : BitVec 32 := 31#32
  let v80 : BitVec 1 := Scalar.cmpi .eq v4 c31_i32
  let v81 : BitVec 32 := Scalar.extui v80
  let c0_i32_62 : BitVec 32 := 0#32
  let v82 : BitVec 1 := Scalar.cmpi .ne v81 c0_i32_62
  v82

def k0_off2 (d5 : Dev nD) : Fin 3 → Nat :=
  let c4_i32_65 : BitVec 32 := 4#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let v87 : BitVec 32 := Scalar.muli c4_i32_65 v15
  let c2_i32_66 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v88 : BitVec 32 := Scalar.muli c2_i32_66 v10
  let v89 : BitVec 32 := Scalar.addi v87 v88
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v90 : BitVec 32 := Scalar.addi v89 v13
  let c0_i32_73 : BitVec 32 := 0#32
  let c0_i32_74 : BitVec 32 := 0#32
  ![v90.toNat, 0, 0]
def k0_dev5 (d5 : Dev nD) : Nat :=
  let c0_i32_78 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_77 : BitVec 32 := 4#32
  let v103 : BitVec 32 := Scalar.muli v7 c4_i32_77
  let v104 : BitVec 32 := Scalar.addi c0_i32_78 v103
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_79 : BitVec 32 := 2#32
  let v105 : BitVec 32 := Scalar.muli v10 c2_i32_79
  let v106 : BitVec 32 := Scalar.addi v104 v105
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_80 : BitVec 32 := 1#32
  let v107 : BitVec 32 := Scalar.muli v14 c1_i32_80
  let v108 : BitVec 32 := Scalar.addi v106 v107
  v108.toNat
def k0_off3 (d5 : Dev nD) : Fin 3 → Nat :=
  let c4_i32_87 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v121 : BitVec 32 := Scalar.muli c4_i32_87 v7
  let c2_i32_88 : BitVec 32 := 2#32
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let v122 : BitVec 32 := Scalar.muli c2_i32_88 v16
  let v123 : BitVec 32 := Scalar.addi v121 v122
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v124 : BitVec 32 := Scalar.addi v123 v13
  let c0_i32_95 : BitVec 32 := 0#32
  let c0_i32_96 : BitVec 32 := 0#32
  ![v124.toNat, 0, 0]
def k0_dev6 (d5 : Dev nD) : Nat :=
  let c0_i32_100 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_99 : BitVec 32 := 4#32
  let v137 : BitVec 32 := Scalar.muli v7 c4_i32_99
  let v138 : BitVec 32 := Scalar.addi c0_i32_100 v137
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_101 : BitVec 32 := 2#32
  let v139 : BitVec 32 := Scalar.muli v10 c2_i32_101
  let v140 : BitVec 32 := Scalar.addi v138 v139
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_102 : BitVec 32 := 1#32
  let v141 : BitVec 32 := Scalar.muli v14 c1_i32_102
  let v142 : BitVec 32 := Scalar.addi v140 v141
  v142.toNat
def k0_off4 (d5 : Dev nD) : Fin 3 → Nat :=
  let c4_i32_109 : BitVec 32 := 4#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let v155 : BitVec 32 := Scalar.muli c4_i32_109 v17
  let c2_i32_110 : BitVec 32 := 2#32
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let v156 : BitVec 32 := Scalar.muli c2_i32_110 v18
  let v157 : BitVec 32 := Scalar.addi v155 v156
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v158 : BitVec 32 := Scalar.addi v157 v13
  let c0_i32_117 : BitVec 32 := 0#32
  let c0_i32_118 : BitVec 32 := 0#32
  ![v158.toNat, 0, 0]
def k0_dev7 (d5 : Dev nD) : Nat :=
  let c0_i32_122 : BitVec 32 := 0#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let c4_i32_121 : BitVec 32 := 4#32
  let v171 : BitVec 32 := Scalar.muli v7 c4_i32_121
  let v172 : BitVec 32 := Scalar.addi c0_i32_122 v171
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_123 : BitVec 32 := 2#32
  let v173 : BitVec 32 := Scalar.muli v10 c2_i32_123
  let v174 : BitVec 32 := Scalar.addi v172 v173
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let c1_i32_124 : BitVec 32 := 1#32
  let v175 : BitVec 32 := Scalar.muli v14 c1_i32_124
  let v176 : BitVec 32 := Scalar.addi v174 v175
  v176.toNat
def k0_off5 (d5 : Dev nD) : Fin 3 → Nat :=
  let c4_i32_131 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v189 : BitVec 32 := Scalar.muli c4_i32_131 v7
  let c2_i32_132 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v190 : BitVec 32 := Scalar.muli c2_i32_132 v10
  let v191 : BitVec 32 := Scalar.addi v189 v190
  let c1_i32_5 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v14 : BitVec 32 := Scalar.subi c1_i32_5 v13
  let v192 : BitVec 32 := Scalar.addi v191 v14
  let c0_i32_139 : BitVec 32 := 0#32
  let c0_i32_140 : BitVec 32 := 0#32
  ![v192.toNat, 0, 0]
def k0_off6 (d5 : Dev nD) : Fin 3 → Nat :=
  let c4_i32_146 : BitVec 32 := 4#32
  let c1_i32_6 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v15 : BitVec 32 := Scalar.subi c1_i32_6 v7
  let v210 : BitVec 32 := Scalar.muli c4_i32_146 v15
  let c2_i32_147 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v211 : BitVec 32 := Scalar.muli c2_i32_147 v10
  let v212 : BitVec 32 := Scalar.addi v210 v211
  let c1_i32_143 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v205 : BitVec 32 := Scalar.subi c1_i32_143 v13
  let v213 : BitVec 32 := Scalar.addi v212 v205
  let c0_i32_154 : BitVec 32 := 0#32
  let c0_i32_155 : BitVec 32 := 0#32
  ![v213.toNat, 0, 0]
def k0_off7 (d5 : Dev nD) : Fin 3 → Nat :=
  let c4_i32_161 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v231 : BitVec 32 := Scalar.muli c4_i32_161 v7
  let c2_i32_162 : BitVec 32 := 2#32
  let c1_i32_7 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v16 : BitVec 32 := Scalar.subi c1_i32_7 v10
  let v232 : BitVec 32 := Scalar.muli c2_i32_162 v16
  let v233 : BitVec 32 := Scalar.addi v231 v232
  let c1_i32_158 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v226 : BitVec 32 := Scalar.subi c1_i32_158 v13
  let v234 : BitVec 32 := Scalar.addi v233 v226
  let c0_i32_169 : BitVec 32 := 0#32
  let c0_i32_170 : BitVec 32 := 0#32
  ![v234.toNat, 0, 0]
def k0_off8 (d5 : Dev nD) : Fin 3 → Nat :=
  let c4_i32_176 : BitVec 32 := 4#32
  let c1_i32_8 : BitVec 32 := 1#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v17 : BitVec 32 := Scalar.subi c1_i32_8 v7
  let v252 : BitVec 32 := Scalar.muli c4_i32_176 v17
  let c2_i32_177 : BitVec 32 := 2#32
  let c1_i32_9 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v18 : BitVec 32 := Scalar.subi c1_i32_9 v10
  let v253 : BitVec 32 := Scalar.muli c2_i32_177 v18
  let v254 : BitVec 32 := Scalar.addi v252 v253
  let c1_i32_173 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v247 : BitVec 32 := Scalar.subi c1_i32_173 v13
  let v255 : BitVec 32 := Scalar.addi v254 v247
  let c0_i32_184 : BitVec 32 := 0#32
  let c0_i32_185 : BitVec 32 := 0#32
  ![v255.toNat, 0, 0]
def k0_off9 (d5 : Dev nD) : Fin 3 → Nat :=
  let c4_i32_12 : BitVec 32 := 4#32
  let v5 : BitVec 32 := Dev.word d5
  let c4_i32_1 : BitVec 32 := 4#32
  let v6 : BitVec 32 := Scalar.divsi v5 c4_i32_1
  let c2_i32_0 : BitVec 32 := 2#32
  let v7 : BitVec 32 := Scalar.remsi v6 c2_i32_0
  let v23 : BitVec 32 := Scalar.muli c4_i32_12 v7
  let c2_i32_13 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v24 : BitVec 32 := Scalar.muli c2_i32_13 v10
  let v25 : BitVec 32 := Scalar.addi v23 v24
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v26 : BitVec 32 := Scalar.addi v25 v13
  let c0_i32_189 : BitVec 32 := 0#32
  let c0_i32_190 : BitVec 32 := 0#32
  ![v26.toNat, 0, 0]
def k0_cond4 (i : grid0.Coords) : BitVec 1 :=
  let arg2 : BitVec 32 := BitVec.ofNat 32 (i 2).val
  let c3_i32_48 : BitVec 32 := 3#32
  let v77 : BitVec 1 := Scalar.cmpi .eq arg2 c3_i32_48
  let v78 : BitVec 32 := Scalar.extui v77
  let c0_i32_49 : BitVec 32 := 0#32
  let v79 : BitVec 1 := Scalar.cmpi .ne v78 c0_i32_49
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S34816x5632 : Shape := ⟨2, ![34816, 5632]⟩
abbrev S5632x2048 : Shape := ⟨2, ![5632, 2048]⟩
abbrev S34816x2048 : Shape := ⟨2, ![34816, 2048]⟩
abbrev S8x704x2048 : Shape := ⟨3, ![8, 704, 2048]⟩

abbrev nBuf : Space → Nat
  | .hbm => 7
  | .vmem => 0
  | .smem => 0
  | _ => 0

abbrev bufTy : (tb : Table) → Fin (tcTables nBuf tb) → BufTy
  | .hbm, ⟨0, _⟩ => ⟨S34816x5632, .bf16⟩
  | .hbm, ⟨1, _⟩ => ⟨S5632x2048, .bf16⟩
  | .hbm, ⟨2, _⟩ => ⟨S5632x2048, .bf16⟩
  | .hbm, ⟨3, _⟩ => ⟨S34816x5632, .f32⟩
  | .hbm, ⟨4, _⟩ => ⟨S5632x2048, .f32⟩
  | .hbm, ⟨5, _⟩ => ⟨S34816x2048, .f32⟩
  | .hbm, ⟨6, _⟩ => ⟨S8x704x2048, .bf16⟩
  | _, _ => ⟨S34816x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDwKernel.lean ====
abbrev S2048x4352 : Shape := ⟨2, ![2048, 4352]⟩
abbrev S4352x11264 : Shape := ⟨2, ![4352, 11264]⟩
abbrev S8x2048x1408 : Shape := ⟨3, ![8, 2048, 1408]⟩
abbrev S8x1024x1408 : Shape := ⟨3, ![8, 1024, 1408]⟩
abbrev S1024x2176 : Shape := ⟨2, ![1024, 2176]⟩
abbrev S2176x1408 : Shape := ⟨2, ![2176, 1408]⟩
abbrev S1x1024x1408 : Shape := ⟨3, ![1, 1024, 1408]⟩
abbrev S1024x1408 : Shape := ⟨2, ![1024, 1408]⟩
abbrev S7 : Shape := ⟨1, ![7]⟩
abbrev S_ : Shape := ⟨0, ![]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x4352, .bf16⟩
  | .hbm, ⟨1, _⟩ => ⟨S4352x11264, .bf16⟩
  | .hbm, ⟨2, _⟩ => ⟨S8x2048x1408, .bf16⟩
  | .hbm, ⟨3, _⟩ => ⟨S8x2048x1408, .bf16⟩
  | .hbm, ⟨4, _⟩ => ⟨S8x1024x1408, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 8, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c0_i32_86 : BitVec 32 := 0#32
  let c0_i32_87 : BitVec 32 := 0#32
  ![v17.toNat, 0, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c0_i32_94 : BitVec 32 := 0#32
  let c0_i32_95 : BitVec 32 := 0#32
  ![v22.toNat, 0, 0]
def k0_dev1 (d5 : Dev nD) : Nat :=
  let c0_i32_89 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_88 : BitVec 32 := 4#32
  let v82 : BitVec 32 := Scalar.muli v7 c4_i32_88
  let v83 : BitVec 32 := Scalar.addi c0_i32_89 v82
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_90 : BitVec 32 := 2#32
  let v84 : BitVec 32 := Scalar.muli v10 c2_i32_90
  let v85 : BitVec 32 := Scalar.addi v83 v84
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let c1_i32_91 : BitVec 32 := 1#32
  let v86 : BitVec 32 := Scalar.muli v18 c1_i32_91
  let v87 : BitVec 32 := Scalar.addi v85 v86
  v87.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c0_i32_102 : BitVec 32 := 0#32
  let c0_i32_103 : BitVec 32 := 0#32
  ![v27.toNat, 0, 0]
def k0_dev2 (d5 : Dev nD) : Nat :=
  let c0_i32_97 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_96 : BitVec 32 := 4#32
  let v96 : BitVec 32 := Scalar.muli v7 c4_i32_96
  let v97 : BitVec 32 := Scalar.addi c0_i32_97 v96
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let c2_i32_98 : BitVec 32 := 2#32
  let v98 : BitVec 32 := Scalar.muli v23 c2_i32_98
  let v99 : BitVec 32 := Scalar.addi v97 v98
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_99 : BitVec 32 := 1#32
  let v100 : BitVec 32 := Scalar.muli v13 c1_i32_99
  let v101 : BitVec 32 := Scalar.addi v99 v100
  v101.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c0_i32_110 : BitVec 32 := 0#32
  let c0_i32_111 : BitVec 32 := 0#32
  ![v33.toNat, 0, 0]
def k0_dev3 (d5 : Dev nD) : Nat :=
  let c0_i32_105 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_104 : BitVec 32 := 4#32
  let v110 : BitVec 32 := Scalar.muli v7 c4_i32_104
  let v111 : BitVec 32 := Scalar.addi c0_i32_105 v110
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let c2_i32_106 : BitVec 32 := 2#32
  let v112 : BitVec 32 := Scalar.muli v28 c2_i32_106
  let v113 : BitVec 32 := Scalar.addi v111 v112
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let c1_i32_107 : BitVec 32 := 1#32
  let v114 : BitVec 32 := Scalar.muli v29 c1_i32_107
  let v115 : BitVec 32 := Scalar.addi v113 v114
  v115.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c0_i32_118 : BitVec 32 := 0#32
  let c0_i32_119 : BitVec 32 := 0#32
  ![v38.toNat, 0, 0]
def k0_dev4 (d5 : Dev nD) : Nat :=
  let c0_i32_113 : BitVec 32 := 0#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let c4_i32_112 : BitVec 32 := 4#32
  let v124 : BitVec 32 := Scalar.muli v34 c4_i32_112
  let v125 : BitVec 32 := Scalar.addi c0_i32_113 v124
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_114 : BitVec 32 := 2#32
  let v126 : BitVec 32 := Scalar.muli v10 c2_i32_114
  let v127 : BitVec 32 := Scalar.addi v125 v126
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_115 : BitVec 32 := 1#32
  let v128 : BitVec 32 := Scalar.muli v13 c1_i32_115
  let v129 : BitVec 32 := Scalar.addi v127 v128
  v129.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c0_i32_126 : BitVec 32 := 0#32
  let c0_i32_127 : BitVec 32 := 0#32
  ![v44.toNat, 0, 0]
def k0_dev5 (d5 : Dev nD) : Nat :=
  let c0_i32_121 : BitVec 32 := 0#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let c4_i32_120 : BitVec 32 := 4#32
  let v138 : BitVec 32 := Scalar.muli v39 c4_i32_120
  let v139 : BitVec 32 := Scalar.addi c0_i32_121 v138
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_122 : BitVec 32 := 2#32
  let v140 : BitVec 32 := Scalar.muli v10 c2_i32_122
  let v141 : BitVec 32 := Scalar.addi v139 v140
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let c1_i32_123 : BitVec 32 := 1#32
  let v142 : BitVec 32 := Scalar.muli v40 c1_i32_123
  let v143 : BitVec 32 := Scalar.addi v141 v142
  v143.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c0_i32_134 : BitVec 32 := 0#32
  let c0_i32_135 : BitVec 32 := 0#32
  ![v50.toNat, 0, 0]
def k0_dev6 (d5 : Dev nD) : Nat :=
  let c0_i32_129 : BitVec 32 := 0#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let c4_i32_128 : BitVec 32 := 4#32
  let v152 : BitVec 32 := Scalar.muli v45 c4_i32_128
  let v153 : BitVec 32 := Scalar.addi c0_i32_129 v152
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let c2_i32_130 : BitVec 32 := 2#32
  let v154 : BitVec 32 := Scalar.muli v46 c2_i32_130
  let v155 : BitVec 32 := Scalar.addi v153 v154
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_131 : BitVec 32 := 1#32
  let v156 : BitVec 32 := Scalar.muli v13 c1_i32_131
  let v157 : BitVec 32 := Scalar.addi v155 v156
  v157.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c0_i32_142 : BitVec 32 := 0#32
  let c0_i32_143 : BitVec 32 := 0#32
  ![v57.toNat, 0, 0]
def k0_dev7 (d5 : Dev nD) : Nat :=
  let c0_i32_137 : BitVec 32 := 0#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let c4_i32_136 : BitVec 32 := 4#32
  let v166 : BitVec 32 := Scalar.muli v51 c4_i32_136
  let v167 : BitVec 32 := Scalar.addi c0_i32_137 v166
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let c2_i32_138 : BitVec 32 := 2#32
  let v168 : BitVec 32 := Scalar.muli v52 c2_i32_138
  let v169 : BitVec 32 := Scalar.addi v167 v168
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let c1_i32_139 : BitVec 32 := 1#32
  let v170 : BitVec 32 := Scalar.muli v53 c1_i32_139
  let v171 : BitVec 32 := Scalar.addi v169 v170
  v171.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c31_i32 : BitVec 32 := 31#32
  let v75 : BitVec 1 := Scalar.cmpi .eq v4 c31_i32
  let v76 : BitVec 32 := Scalar.extui v75
  let c0_i32_83 : BitVec 32 := 0#32
  let v77 : BitVec 1 := Scalar.cmpi .ne v76 c0_i32_83
  v77

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c0_i32_85 : BitVec 32 := 0#32
  let c0_i32_86 : BitVec 32 := 0#32
  ![v22.toNat, 0, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c0_i32_98 : BitVec 32 := 0#32
  let c0_i32_99 : BitVec 32 := 0#32
  ![v27.toNat, 0, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c0_i32_111 : BitVec 32 := 0#32
  let c0_i32_112 : BitVec 32 := 0#32
  ![v33.toNat, 0, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c0_i32_124 : BitVec 32 := 0#32
  let c0_i32_125 : BitVec 32 := 0#32
  ![v38.toNat, 0, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c0_i32_137 : BitVec 32 := 0#32
  let c0_i32_138 : BitVec 32 := 0#32
  ![v44.toNat, 0, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c0_i32_150 : BitVec 32 := 0#32
  let c0_i32_151 : BitVec 32 := 0#32
  ![v50.toNat, 0, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c0_i32_163 : BitVec 32 := 0#32
  let c0_i32_164 : BitVec 32 := 0#32
  ![v57.toNat, 0, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c0_i32_177 : BitVec 32 := 0#32
  let c0_i32_178 : BitVec 32 := 0#32
  ![v17.toNat, 0, 0]
def k0_cond4 (i : grid0.Coords) : BitVec 1 :=
  let arg2 : BitVec 32 := BitVec.ofNat 32 (i 2).val
  let c1_i32_59 : BitVec 32 := 1#32
  let v72 : BitVec 1 := Scalar.cmpi .eq arg2 c1_i32_59
  let v73 : BitVec 32 := Scalar.extui v72
  let c0_i32_60 : BitVec 32 := 0#32
  let v74 : BitVec 1 := Scalar.cmpi .ne v73 c0_i32_60
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwKernelIdeal.lean ====
abbrev S2048x4352 : Shape := ⟨2, ![2048, 4352]⟩
abbrev S4352x11264 : Shape := ⟨2, ![4352, 11264]⟩
abbrev S8x2048x1408 : Shape := ⟨3, ![8, 2048, 1408]⟩
abbrev S8x1024x1408 : Shape := ⟨3, ![8, 1024, 1408]⟩
abbrev S1024x2176 : Shape := ⟨2, ![1024, 2176]⟩
abbrev S2176x1408 : Shape := ⟨2, ![2176, 1408]⟩
abbrev S1x1024x1408 : Shape := ⟨3, ![1, 1024, 1408]⟩
abbrev S1024x1408 : Shape := ⟨2, ![1024, 1408]⟩
abbrev S7 : Shape := ⟨1, ![7]⟩
abbrev S_ : Shape := ⟨0, ![]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x4352, .bf16⟩
  | .hbm, ⟨1, _⟩ => ⟨S4352x11264, .bf16⟩
  | .hbm, ⟨2, _⟩ => ⟨S8x2048x1408, .bf16⟩
  | .hbm, ⟨3, _⟩ => ⟨S8x2048x1408, .bf16⟩
  | .hbm, ⟨4, _⟩ => ⟨S8x1024x1408, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 8, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c0_i32_86 : BitVec 32 := 0#32
  let c0_i32_87 : BitVec 32 := 0#32
  ![v17.toNat, 0, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c0_i32_94 : BitVec 32 := 0#32
  let c0_i32_95 : BitVec 32 := 0#32
  ![v22.toNat, 0, 0]
def k0_dev1 (d5 : Dev nD) : Nat :=
  let c0_i32_89 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_88 : BitVec 32 := 4#32
  let v82 : BitVec 32 := Scalar.muli v7 c4_i32_88
  let v83 : BitVec 32 := Scalar.addi c0_i32_89 v82
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_90 : BitVec 32 := 2#32
  let v84 : BitVec 32 := Scalar.muli v10 c2_i32_90
  let v85 : BitVec 32 := Scalar.addi v83 v84
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let c1_i32_91 : BitVec 32 := 1#32
  let v86 : BitVec 32 := Scalar.muli v18 c1_i32_91
  let v87 : BitVec 32 := Scalar.addi v85 v86
  v87.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c0_i32_102 : BitVec 32 := 0#32
  let c0_i32_103 : BitVec 32 := 0#32
  ![v27.toNat, 0, 0]
def k0_dev2 (d5 : Dev nD) : Nat :=
  let c0_i32_97 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_96 : BitVec 32 := 4#32
  let v96 : BitVec 32 := Scalar.muli v7 c4_i32_96
  let v97 : BitVec 32 := Scalar.addi c0_i32_97 v96
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let c2_i32_98 : BitVec 32 := 2#32
  let v98 : BitVec 32 := Scalar.muli v23 c2_i32_98
  let v99 : BitVec 32 := Scalar.addi v97 v98
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_99 : BitVec 32 := 1#32
  let v100 : BitVec 32 := Scalar.muli v13 c1_i32_99
  let v101 : BitVec 32 := Scalar.addi v99 v100
  v101.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c0_i32_110 : BitVec 32 := 0#32
  let c0_i32_111 : BitVec 32 := 0#32
  ![v33.toNat, 0, 0]
def k0_dev3 (d5 : Dev nD) : Nat :=
  let c0_i32_105 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_104 : BitVec 32 := 4#32
  let v110 : BitVec 32 := Scalar.muli v7 c4_i32_104
  let v111 : BitVec 32 := Scalar.addi c0_i32_105 v110
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let c2_i32_106 : BitVec 32 := 2#32
  let v112 : BitVec 32 := Scalar.muli v28 c2_i32_106
  let v113 : BitVec 32 := Scalar.addi v111 v112
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let c1_i32_107 : BitVec 32 := 1#32
  let v114 : BitVec 32 := Scalar.muli v29 c1_i32_107
  let v115 : BitVec 32 := Scalar.addi v113 v114
  v115.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c0_i32_118 : BitVec 32 := 0#32
  let c0_i32_119 : BitVec 32 := 0#32
  ![v38.toNat, 0, 0]
def k0_dev4 (d5 : Dev nD) : Nat :=
  let c0_i32_113 : BitVec 32 := 0#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let c4_i32_112 : BitVec 32 := 4#32
  let v124 : BitVec 32 := Scalar.muli v34 c4_i32_112
  let v125 : BitVec 32 := Scalar.addi c0_i32_113 v124
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_114 : BitVec 32 := 2#32
  let v126 : BitVec 32 := Scalar.muli v10 c2_i32_114
  let v127 : BitVec 32 := Scalar.addi v125 v126
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_115 : BitVec 32 := 1#32
  let v128 : BitVec 32 := Scalar.muli v13 c1_i32_115
  let v129 : BitVec 32 := Scalar.addi v127 v128
  v129.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c0_i32_126 : BitVec 32 := 0#32
  let c0_i32_127 : BitVec 32 := 0#32
  ![v44.toNat, 0, 0]
def k0_dev5 (d5 : Dev nD) : Nat :=
  let c0_i32_121 : BitVec 32 := 0#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let c4_i32_120 : BitVec 32 := 4#32
  let v138 : BitVec 32 := Scalar.muli v39 c4_i32_120
  let v139 : BitVec 32 := Scalar.addi c0_i32_121 v138
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_122 : BitVec 32 := 2#32
  let v140 : BitVec 32 := Scalar.muli v10 c2_i32_122
  let v141 : BitVec 32 := Scalar.addi v139 v140
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let c1_i32_123 : BitVec 32 := 1#32
  let v142 : BitVec 32 := Scalar.muli v40 c1_i32_123
  let v143 : BitVec 32 := Scalar.addi v141 v142
  v143.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c0_i32_134 : BitVec 32 := 0#32
  let c0_i32_135 : BitVec 32 := 0#32
  ![v50.toNat, 0, 0]
def k0_dev6 (d5 : Dev nD) : Nat :=
  let c0_i32_129 : BitVec 32 := 0#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let c4_i32_128 : BitVec 32 := 4#32
  let v152 : BitVec 32 := Scalar.muli v45 c4_i32_128
  let v153 : BitVec 32 := Scalar.addi c0_i32_129 v152
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let c2_i32_130 : BitVec 32 := 2#32
  let v154 : BitVec 32 := Scalar.muli v46 c2_i32_130
  let v155 : BitVec 32 := Scalar.addi v153 v154
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_131 : BitVec 32 := 1#32
  let v156 : BitVec 32 := Scalar.muli v13 c1_i32_131
  let v157 : BitVec 32 := Scalar.addi v155 v156
  v157.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c0_i32_142 : BitVec 32 := 0#32
  let c0_i32_143 : BitVec 32 := 0#32
  ![v57.toNat, 0, 0]
def k0_dev7 (d5 : Dev nD) : Nat :=
  let c0_i32_137 : BitVec 32 := 0#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let c4_i32_136 : BitVec 32 := 4#32
  let v166 : BitVec 32 := Scalar.muli v51 c4_i32_136
  let v167 : BitVec 32 := Scalar.addi c0_i32_137 v166
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let c2_i32_138 : BitVec 32 := 2#32
  let v168 : BitVec 32 := Scalar.muli v52 c2_i32_138
  let v169 : BitVec 32 := Scalar.addi v167 v168
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let c1_i32_139 : BitVec 32 := 1#32
  let v170 : BitVec 32 := Scalar.muli v53 c1_i32_139
  let v171 : BitVec 32 := Scalar.addi v169 v170
  v171.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c2_i32 : BitVec 32 := 2#32
  let v3 : BitVec 32 := Scalar.muli v2 c2_i32
  let arg2 : BitVec 32 := BitVec.ofNat 32 (i 2).val
  let v4 : BitVec 32 := Scalar.addi v3 arg2
  let c31_i32 : BitVec 32 := 31#32
  let v75 : BitVec 1 := Scalar.cmpi .eq v4 c31_i32
  let v76 : BitVec 32 := Scalar.extui v75
  let c0_i32_83 : BitVec 32 := 0#32
  let v77 : BitVec 1 := Scalar.cmpi .ne v76 c0_i32_83
  v77

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c0_i32_85 : BitVec 32 := 0#32
  let c0_i32_86 : BitVec 32 := 0#32
  ![v22.toNat, 0, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c0_i32_98 : BitVec 32 := 0#32
  let c0_i32_99 : BitVec 32 := 0#32
  ![v27.toNat, 0, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c0_i32_111 : BitVec 32 := 0#32
  let c0_i32_112 : BitVec 32 := 0#32
  ![v33.toNat, 0, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c0_i32_124 : BitVec 32 := 0#32
  let c0_i32_125 : BitVec 32 := 0#32
  ![v38.toNat, 0, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c0_i32_137 : BitVec 32 := 0#32
  let c0_i32_138 : BitVec 32 := 0#32
  ![v44.toNat, 0, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c0_i32_150 : BitVec 32 := 0#32
  let c0_i32_151 : BitVec 32 := 0#32
  ![v50.toNat, 0, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c0_i32_163 : BitVec 32 := 0#32
  let c0_i32_164 : BitVec 32 := 0#32
  ![v57.toNat, 0, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c0_i32_177 : BitVec 32 := 0#32
  let c0_i32_178 : BitVec 32 := 0#32
  ![v17.toNat, 0, 0]
def k0_cond4 (i : grid0.Coords) : BitVec 1 :=
  let arg2 : BitVec 32 := BitVec.ofNat 32 (i 2).val
  let c1_i32_59 : BitVec 32 := 1#32
  let v72 : BitVec 1 := Scalar.cmpi .eq arg2 c1_i32_59
  let v73 : BitVec 32 := Scalar.extui v72
  let c0_i32_60 : BitVec 32 := 0#32
  let v74 : BitVec 1 := Scalar.cmpi .ne v73 c0_i32_60
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S16384x4352 : Shape := ⟨2, ![16384, 4352]⟩
abbrev S34816x11264 : Shape := ⟨2, ![34816, 11264]⟩
abbrev S64x2048x1408 : Shape := ⟨3, ![64, 2048, 1408]⟩
abbrev S64 : Shape := ⟨1, ![64]⟩
abbrev S8x2048x4352 : Shape := ⟨3, ![8, 2048, 4352]⟩
abbrev S8x4352x8x1408 : Shape := ⟨4, ![8, 4352, 8, 1408]⟩
abbrev S8x8x1408x2048 : Shape := ⟨4, ![8, 8, 1408, 2048]⟩
abbrev S8x8x2048x1408 : Shape := ⟨4, ![8, 8, 2048, 1408]⟩
abbrev S64x1024x1408 : Shape := ⟨3, ![64, 1024, 1408]⟩
abbrev S_ : Shape := ⟨0, ![]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4352, .bf16⟩
  | .hbm, ⟨1, _⟩ => ⟨S34816x11264, .bf16⟩
  | .hbm, ⟨2, _⟩ => ⟨S64x2048x1408, .bf16⟩
  | .hbm, ⟨3, _⟩ => ⟨S64, .i32⟩
  | .hbm, ⟨4, _⟩ => ⟨S16384x4352, .f32⟩
  | .hbm, ⟨5, _⟩ => ⟨S8x2048x4352, .f32⟩
  | .hbm, ⟨6, _⟩ => ⟨S34816x11264, .f32⟩
  | .hbm, ⟨7, _⟩ => ⟨S8x4352x8x1408, .f32⟩
  | .hbm, ⟨8, _⟩ => ⟨S8x8x1408x2048, .f32⟩
  | .hbm, ⟨9, _⟩ => ⟨S8x8x2048x1408, .f32⟩
  | .hbm, ⟨10, _⟩ => ⟨S8x8x2048x1408, .bf16⟩
  | .hbm, ⟨11, _⟩ => ⟨S64x2048x1408, .bf16⟩
  | .hbm, ⟨12, _⟩ => ⟨S64x1024x1408, .bf16⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x1024x1408, .bf16⟩
  | _, _ => ⟨S16384x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== UpDaKernel.lean ====
abbrev S4352x11264 : Shape := ⟨2, ![4352, 11264]⟩
abbrev S8x2048x1408 : Shape := ⟨3, ![8, 2048, 1408]⟩
abbrev S4352x2048 : Shape := ⟨2, ![4352, 2048]⟩
abbrev S8x1024x1408 : Shape := ⟨3, ![8, 1024, 1408]⟩
abbrev S1088x1408 : Shape := ⟨2, ![1088, 1408]⟩
abbrev S1x1024x1408 : Shape := ⟨3, ![1, 1024, 1408]⟩
abbrev S1088x1024 : Shape := ⟨2, ![1088, 1024]⟩
abbrev S7 : Shape := ⟨1, ![7]⟩
abbrev S_ : Shape := ⟨0, ![]⟩
abbrev S1024x1408 : Shape := ⟨2, ![1024, 1408]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S8x2048x1408, .bf16⟩
  | .hbm, ⟨3, _⟩ => ⟨S4352x2048, .bf16⟩
  | .hbm, ⟨4, _⟩ => ⟨S8x1024x1408, .bf16⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 8], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c1024_i32 : BitVec 32 := 1024#32
  let c0_i32_87 : BitVec 32 := 0#32
  ![v17.toNat, 1024, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c1024_i32_94 : BitVec 32 := 1024#32
  let c0_i32_95 : BitVec 32 := 0#32
  ![v22.toNat, 1024, 0]
def k0_dev1 (d5 : Dev nD) : Nat :=
  let c0_i32_89 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_88 : BitVec 32 := 4#32
  let v82 : BitVec 32 := Scalar.muli v7 c4_i32_88
  let v83 : BitVec 32 := Scalar.addi c0_i32_89 v82
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_90 : BitVec 32 := 2#32
  let v84 : BitVec 32 := Scalar.muli v10 c2_i32_90
  let v85 : BitVec 32 := Scalar.addi v83 v84
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let c1_i32_91 : BitVec 32 := 1#32
  let v86 : BitVec 32 := Scalar.muli v18 c1_i32_91
  let v87 : BitVec 32 := Scalar.addi v85 v86
  v87.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c1024_i32_102 : BitVec 32 := 1024#32
  let c0_i32_103 : BitVec 32 := 0#32
  ![v27.toNat, 1024, 0]
def k0_dev2 (d5 : Dev nD) : Nat :=
  let c0_i32_97 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_96 : BitVec 32 := 4#32
  let v96 : BitVec 32 := Scalar.muli v7 c4_i32_96
  let v97 : BitVec 32 := Scalar.addi c0_i32_97 v96
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let c2_i32_98 : BitVec 32 := 2#32
  let v98 : BitVec 32 := Scalar.muli v23 c2_i32_98
  let v99 : BitVec 32 := Scalar.addi v97 v98
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_99 : BitVec 32 := 1#32
  let v100 : BitVec 32 := Scalar.muli v13 c1_i32_99
  let v101 : BitVec 32 := Scalar.addi v99 v100
  v101.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c1024_i32_110 : BitVec 32 := 1024#32
  let c0_i32_111 : BitVec 32 := 0#32
  ![v33.toNat, 1024, 0]
def k0_dev3 (d5 : Dev nD) : Nat :=
  let c0_i32_105 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_104 : BitVec 32 := 4#32
  let v110 : BitVec 32 := Scalar.muli v7 c4_i32_104
  let v111 : BitVec 32 := Scalar.addi c0_i32_105 v110
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let c2_i32_106 : BitVec 32 := 2#32
  let v112 : BitVec 32 := Scalar.muli v28 c2_i32_106
  let v113 : BitVec 32 := Scalar.addi v111 v112
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let c1_i32_107 : BitVec 32 := 1#32
  let v114 : BitVec 32 := Scalar.muli v29 c1_i32_107
  let v115 : BitVec 32 := Scalar.addi v113 v114
  v115.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c1024_i32_118 : BitVec 32 := 1024#32
  let c0_i32_119 : BitVec 32 := 0#32
  ![v38.toNat, 1024, 0]
def k0_dev4 (d5 : Dev nD) : Nat :=
  let c0_i32_113 : BitVec 32 := 0#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let c4_i32_112 : BitVec 32 := 4#32
  let v124 : BitVec 32 := Scalar.muli v34 c4_i32_112
  let v125 : BitVec 32 := Scalar.addi c0_i32_113 v124
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_114 : BitVec 32 := 2#32
  let v126 : BitVec 32 := Scalar.muli v10 c2_i32_114
  let v127 : BitVec 32 := Scalar.addi v125 v126
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_115 : BitVec 32 := 1#32
  let v128 : BitVec 32 := Scalar.muli v13 c1_i32_115
  let v129 : BitVec 32 := Scalar.addi v127 v128
  v129.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c1024_i32_126 : BitVec 32 := 1024#32
  let c0_i32_127 : BitVec 32 := 0#32
  ![v44.toNat, 1024, 0]
def k0_dev5 (d5 : Dev nD) : Nat :=
  let c0_i32_121 : BitVec 32 := 0#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let c4_i32_120 : BitVec 32 := 4#32
  let v138 : BitVec 32 := Scalar.muli v39 c4_i32_120
  let v139 : BitVec 32 := Scalar.addi c0_i32_121 v138
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_122 : BitVec 32 := 2#32
  let v140 : BitVec 32 := Scalar.muli v10 c2_i32_122
  let v141 : BitVec 32 := Scalar.addi v139 v140
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let c1_i32_123 : BitVec 32 := 1#32
  let v142 : BitVec 32 := Scalar.muli v40 c1_i32_123
  let v143 : BitVec 32 := Scalar.addi v141 v142
  v143.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c1024_i32_134 : BitVec 32 := 1024#32
  let c0_i32_135 : BitVec 32 := 0#32
  ![v50.toNat, 1024, 0]
def k0_dev6 (d5 : Dev nD) : Nat :=
  let c0_i32_129 : BitVec 32 := 0#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let c4_i32_128 : BitVec 32 := 4#32
  let v152 : BitVec 32 := Scalar.muli v45 c4_i32_128
  let v153 : BitVec 32 := Scalar.addi c0_i32_129 v152
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let c2_i32_130 : BitVec 32 := 2#32
  let v154 : BitVec 32 := Scalar.muli v46 c2_i32_130
  let v155 : BitVec 32 := Scalar.addi v153 v154
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_131 : BitVec 32 := 1#32
  let v156 : BitVec 32 := Scalar.muli v13 c1_i32_131
  let v157 : BitVec 32 := Scalar.addi v155 v156
  v157.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c1024_i32_142 : BitVec 32 := 1024#32
  let c0_i32_143 : BitVec 32 := 0#32
  ![v57.toNat, 1024, 0]
def k0_dev7 (d5 : Dev nD) : Nat :=
  let c0_i32_137 : BitVec 32 := 0#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let c4_i32_136 : BitVec 32 := 4#32
  let v166 : BitVec 32 := Scalar.muli v51 c4_i32_136
  let v167 : BitVec 32 := Scalar.addi c0_i32_137 v166
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let c2_i32_138 : BitVec 32 := 2#32
  let v168 : BitVec 32 := Scalar.muli v52 c2_i32_138
  let v169 : BitVec 32 := Scalar.addi v167 v168
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let c1_i32_139 : BitVec 32 := 1#32
  let v170 : BitVec 32 := Scalar.muli v53 c1_i32_139
  let v171 : BitVec 32 := Scalar.addi v169 v170
  v171.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c63_i32 : BitVec 32 := 63#32
  let v75 : BitVec 1 := Scalar.cmpi .eq v4 c63_i32
  let v76 : BitVec 32 := Scalar.extui v75
  let c0_i32_84 : BitVec 32 := 0#32
  let v77 : BitVec 1 := Scalar.cmpi .ne v76 c0_i32_84
  v77

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c1024_i32 : BitVec 32 := 1024#32
  let c0_i32_86 : BitVec 32 := 0#32
  ![v22.toNat, 1024, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c1024_i32_98 : BitVec 32 := 1024#32
  let c0_i32_99 : BitVec 32 := 0#32
  ![v27.toNat, 1024, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c1024_i32_111 : BitVec 32 := 1024#32
  let c0_i32_112 : BitVec 32 := 0#32
  ![v33.toNat, 1024, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c1024_i32_124 : BitVec 32 := 1024#32
  let c0_i32_125 : BitVec 32 := 0#32
  ![v38.toNat, 1024, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c1024_i32_137 : BitVec 32 := 1024#32
  let c0_i32_138 : BitVec 32 := 0#32
  ![v44.toNat, 1024, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c1024_i32_150 : BitVec 32 := 1024#32
  let c0_i32_151 : BitVec 32 := 0#32
  ![v50.toNat, 1024, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c1024_i32_163 : BitVec 32 := 1024#32
  let c0_i32_164 : BitVec 32 := 0#32
  ![v57.toNat, 1024, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c1024_i32_177 : BitVec 32 := 1024#32
  let c0_i32_178 : BitVec 32 := 0#32
  ![v17.toNat, 1024, 0]
def k0_cond4 (i : grid0.Coords) : BitVec 1 :=
  let arg2 : BitVec 32 := BitVec.ofNat 32 (i 2).val
  let c7_i32_60 : BitVec 32 := 7#32
  let v72 : BitVec 1 := Scalar.cmpi .eq arg2 c7_i32_60
  let v73 : BitVec 32 := Scalar.extui v72
  let c0_i32_61 : BitVec 32 := 0#32
  let v74 : BitVec 1 := Scalar.cmpi .ne v73 c0_i32_61
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaKernelIdeal.lean ====
abbrev S4352x11264 : Shape := ⟨2, ![4352, 11264]⟩
abbrev S8x2048x1408 : Shape := ⟨3, ![8, 2048, 1408]⟩
abbrev S4352x2048 : Shape := ⟨2, ![4352, 2048]⟩
abbrev S8x1024x1408 : Shape := ⟨3, ![8, 1024, 1408]⟩
abbrev S1088x1408 : Shape := ⟨2, ![1088, 1408]⟩
abbrev S1x1024x1408 : Shape := ⟨3, ![1, 1024, 1408]⟩
abbrev S1088x1024 : Shape := ⟨2, ![1088, 1024]⟩
abbrev S7 : Shape := ⟨1, ![7]⟩
abbrev S_ : Shape := ⟨0, ![]⟩
abbrev S1024x1408 : Shape := ⟨2, ![1024, 1408]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S8x2048x1408, .bf16⟩
  | .hbm, ⟨3, _⟩ => ⟨S4352x2048, .bf16⟩
  | .hbm, ⟨4, _⟩ => ⟨S8x1024x1408, .bf16⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 8], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c1024_i32 : BitVec 32 := 1024#32
  let c0_i32_87 : BitVec 32 := 0#32
  ![v17.toNat, 1024, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c1024_i32_94 : BitVec 32 := 1024#32
  let c0_i32_95 : BitVec 32 := 0#32
  ![v22.toNat, 1024, 0]
def k0_dev1 (d5 : Dev nD) : Nat :=
  let c0_i32_89 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_88 : BitVec 32 := 4#32
  let v82 : BitVec 32 := Scalar.muli v7 c4_i32_88
  let v83 : BitVec 32 := Scalar.addi c0_i32_89 v82
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_90 : BitVec 32 := 2#32
  let v84 : BitVec 32 := Scalar.muli v10 c2_i32_90
  let v85 : BitVec 32 := Scalar.addi v83 v84
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let c1_i32_91 : BitVec 32 := 1#32
  let v86 : BitVec 32 := Scalar.muli v18 c1_i32_91
  let v87 : BitVec 32 := Scalar.addi v85 v86
  v87.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c1024_i32_102 : BitVec 32 := 1024#32
  let c0_i32_103 : BitVec 32 := 0#32
  ![v27.toNat, 1024, 0]
def k0_dev2 (d5 : Dev nD) : Nat :=
  let c0_i32_97 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_96 : BitVec 32 := 4#32
  let v96 : BitVec 32 := Scalar.muli v7 c4_i32_96
  let v97 : BitVec 32 := Scalar.addi c0_i32_97 v96
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let c2_i32_98 : BitVec 32 := 2#32
  let v98 : BitVec 32 := Scalar.muli v23 c2_i32_98
  let v99 : BitVec 32 := Scalar.addi v97 v98
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_99 : BitVec 32 := 1#32
  let v100 : BitVec 32 := Scalar.muli v13 c1_i32_99
  let v101 : BitVec 32 := Scalar.addi v99 v100
  v101.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c1024_i32_110 : BitVec 32 := 1024#32
  let c0_i32_111 : BitVec 32 := 0#32
  ![v33.toNat, 1024, 0]
def k0_dev3 (d5 : Dev nD) : Nat :=
  let c0_i32_105 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_104 : BitVec 32 := 4#32
  let v110 : BitVec 32 := Scalar.muli v7 c4_i32_104
  let v111 : BitVec 32 := Scalar.addi c0_i32_105 v110
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let c2_i32_106 : BitVec 32 := 2#32
  let v112 : BitVec 32 := Scalar.muli v28 c2_i32_106
  let v113 : BitVec 32 := Scalar.addi v111 v112
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let c1_i32_107 : BitVec 32 := 1#32
  let v114 : BitVec 32 := Scalar.muli v29 c1_i32_107
  let v115 : BitVec 32 := Scalar.addi v113 v114
  v115.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c1024_i32_118 : BitVec 32 := 1024#32
  let c0_i32_119 : BitVec 32 := 0#32
  ![v38.toNat, 1024, 0]
def k0_dev4 (d5 : Dev nD) : Nat :=
  let c0_i32_113 : BitVec 32 := 0#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let c4_i32_112 : BitVec 32 := 4#32
  let v124 : BitVec 32 := Scalar.muli v34 c4_i32_112
  let v125 : BitVec 32 := Scalar.addi c0_i32_113 v124
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_114 : BitVec 32 := 2#32
  let v126 : BitVec 32 := Scalar.muli v10 c2_i32_114
  let v127 : BitVec 32 := Scalar.addi v125 v126
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_115 : BitVec 32 := 1#32
  let v128 : BitVec 32 := Scalar.muli v13 c1_i32_115
  let v129 : BitVec 32 := Scalar.addi v127 v128
  v129.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c1024_i32_126 : BitVec 32 := 1024#32
  let c0_i32_127 : BitVec 32 := 0#32
  ![v44.toNat, 1024, 0]
def k0_dev5 (d5 : Dev nD) : Nat :=
  let c0_i32_121 : BitVec 32 := 0#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let c4_i32_120 : BitVec 32 := 4#32
  let v138 : BitVec 32 := Scalar.muli v39 c4_i32_120
  let v139 : BitVec 32 := Scalar.addi c0_i32_121 v138
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_122 : BitVec 32 := 2#32
  let v140 : BitVec 32 := Scalar.muli v10 c2_i32_122
  let v141 : BitVec 32 := Scalar.addi v139 v140
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let c1_i32_123 : BitVec 32 := 1#32
  let v142 : BitVec 32 := Scalar.muli v40 c1_i32_123
  let v143 : BitVec 32 := Scalar.addi v141 v142
  v143.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c1024_i32_134 : BitVec 32 := 1024#32
  let c0_i32_135 : BitVec 32 := 0#32
  ![v50.toNat, 1024, 0]
def k0_dev6 (d5 : Dev nD) : Nat :=
  let c0_i32_129 : BitVec 32 := 0#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let c4_i32_128 : BitVec 32 := 4#32
  let v152 : BitVec 32 := Scalar.muli v45 c4_i32_128
  let v153 : BitVec 32 := Scalar.addi c0_i32_129 v152
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let c2_i32_130 : BitVec 32 := 2#32
  let v154 : BitVec 32 := Scalar.muli v46 c2_i32_130
  let v155 : BitVec 32 := Scalar.addi v153 v154
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let c1_i32_131 : BitVec 32 := 1#32
  let v156 : BitVec 32 := Scalar.muli v13 c1_i32_131
  let v157 : BitVec 32 := Scalar.addi v155 v156
  v157.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c1024_i32_142 : BitVec 32 := 1024#32
  let c0_i32_143 : BitVec 32 := 0#32
  ![v57.toNat, 1024, 0]
def k0_dev7 (d5 : Dev nD) : Nat :=
  let c0_i32_137 : BitVec 32 := 0#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let c4_i32_136 : BitVec 32 := 4#32
  let v166 : BitVec 32 := Scalar.muli v51 c4_i32_136
  let v167 : BitVec 32 := Scalar.addi c0_i32_137 v166
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let c2_i32_138 : BitVec 32 := 2#32
  let v168 : BitVec 32 := Scalar.muli v52 c2_i32_138
  let v169 : BitVec 32 := Scalar.addi v167 v168
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let c1_i32_139 : BitVec 32 := 1#32
  let v170 : BitVec 32 := Scalar.muli v53 c1_i32_139
  let v171 : BitVec 32 := Scalar.addi v169 v170
  v171.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c63_i32 : BitVec 32 := 63#32
  let v75 : BitVec 1 := Scalar.cmpi .eq v4 c63_i32
  let v76 : BitVec 32 := Scalar.extui v75
  let c0_i32_84 : BitVec 32 := 0#32
  let v77 : BitVec 1 := Scalar.cmpi .ne v76 c0_i32_84
  v77

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_7 v7
  let c2_i32_8 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_8 v10
  let v21 : BitVec 32 := Scalar.addi v19 v20
  let c1_i32_6 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v18 : BitVec 32 := Scalar.subi c1_i32_6 v13
  let v22 : BitVec 32 := Scalar.addi v21 v18
  let c1024_i32 : BitVec 32 := 1024#32
  let c0_i32_86 : BitVec 32 := 0#32
  ![v22.toNat, 1024, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_10 v7
  let c2_i32_11 : BitVec 32 := 2#32
  let c1_i32_9 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_9 v10
  let v25 : BitVec 32 := Scalar.muli c2_i32_11 v23
  let v26 : BitVec 32 := Scalar.addi v24 v25
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v27 : BitVec 32 := Scalar.addi v26 v13
  let c1024_i32_98 : BitVec 32 := 1024#32
  let c0_i32_99 : BitVec 32 := 0#32
  ![v27.toNat, 1024, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_14 v7
  let c2_i32_15 : BitVec 32 := 2#32
  let c1_i32_12 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v29 : BitVec 32 := Scalar.subi c1_i32_13 v13
  let v33 : BitVec 32 := Scalar.addi v32 v29
  let c1024_i32_111 : BitVec 32 := 1024#32
  let c0_i32_112 : BitVec 32 := 0#32
  ![v33.toNat, 1024, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_16 v7
  let v35 : BitVec 32 := Scalar.muli c4_i32_17 v34
  let c2_i32_18 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_18 v10
  let v37 : BitVec 32 := Scalar.addi v35 v36
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v38 : BitVec 32 := Scalar.addi v37 v13
  let c1024_i32_124 : BitVec 32 := 1024#32
  let c0_i32_125 : BitVec 32 := 0#32
  ![v38.toNat, 1024, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_19 v7
  let v41 : BitVec 32 := Scalar.muli c4_i32_21 v39
  let c2_i32_22 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_22 v10
  let v43 : BitVec 32 := Scalar.addi v41 v42
  let c1_i32_20 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v40 : BitVec 32 := Scalar.subi c1_i32_20 v13
  let v44 : BitVec 32 := Scalar.addi v43 v40
  let c1024_i32_137 : BitVec 32 := 1024#32
  let c0_i32_138 : BitVec 32 := 0#32
  ![v44.toNat, 1024, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_24 v10
  let v48 : BitVec 32 := Scalar.muli c2_i32_26 v46
  let v49 : BitVec 32 := Scalar.addi v47 v48
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v50 : BitVec 32 := Scalar.addi v49 v13
  let c1024_i32_150 : BitVec 32 := 1024#32
  let c0_i32_151 : BitVec 32 := 0#32
  ![v50.toNat, 1024, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v53 : BitVec 32 := Scalar.subi c1_i32_29 v13
  let v57 : BitVec 32 := Scalar.addi v56 v53
  let c1024_i32_163 : BitVec 32 := 1024#32
  let c0_i32_164 : BitVec 32 := 0#32
  ![v57.toNat, 1024, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_4 v7
  let c2_i32_5 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_5 v10
  let v16 : BitVec 32 := Scalar.addi v14 v15
  let v11 : BitVec 32 := Dev.word d5
  let c1_i32 : BitVec 32 := 1#32
  let v12 : BitVec 32 := Scalar.divsi v11 c1_i32
  let c2_i32_3 : BitVec 32 := 2#32
  let v13 : BitVec 32 := Scalar.remsi v12 c2_i32_3
  let v17 : BitVec 32 := Scalar.addi v16 v13
  let c1024_i32_177 : BitVec 32 := 1024#32
  let c0_i32_178 : BitVec 32 := 0#32
  ![v17.toNat, 1024, 0]
def k0_cond4 (i : grid0.Coords) : BitVec 1 :=
  let arg2 : BitVec 32 := BitVec.ofNat 32 (i 2).val
  let c7_i32_60 : BitVec 32 := 7#32
  let v72 : BitVec 1 := Scalar.cmpi .eq arg2 c7_i32_60
  let v73 : BitVec 32 := Scalar.extui v72
  let c0_i32_61 : BitVec 32 := 0#32
  let v74 : BitVec 1 := Scalar.cmpi .ne v73 c0_i32_61
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaReferenceIdeal.lean ====
abbrev S34816x11264 : Shape := ⟨2, ![34816, 11264]⟩
abbrev S8x2048x1408 : Shape := ⟨3, ![8, 2048, 1408]⟩
abbrev S64x2048x1408 : Shape := ⟨3, ![64, 2048, 1408]⟩
abbrev S64 : Shape := ⟨1, ![64]⟩
abbrev S2048x8x1408 : Shape := ⟨3, ![2048, 8, 1408]⟩
abbrev S2048x11264 : Shape := ⟨2, ![2048, 11264]⟩
abbrev S11264x2048 : Shape := ⟨2, ![11264, 2048]⟩
abbrev S34816x2048 : Shape := ⟨2, ![34816, 2048]⟩
abbrev S64x1024x1408 : Shape := ⟨3, ![64, 1024, 1408]⟩
abbrev S_ : Shape := ⟨0, ![]⟩
abbrev S64x1 : Shape := ⟨2, ![64, 1]⟩

abbrev nBuf : Space → Nat
  | .hbm => 21
  | .vmem => 0
  | .smem => 0
  | _ => 0

abbrev bufTy : (tb : Table) → Fin (tcTables nBuf tb) → BufTy
  | .hbm, ⟨0, _⟩ => ⟨S34816x11264, .bf16⟩
  | .hbm, ⟨1, _⟩ => ⟨S8x2048x1408, .bf16⟩
  | .hbm, ⟨2, _⟩ => ⟨S64x2048x1408, .bf16⟩
  | .hbm, ⟨3, _⟩ => ⟨S64, .i32⟩
  | .hbm, ⟨4, _⟩ => ⟨S2048x8x1408, .bf16⟩
  | .hbm, ⟨5, _⟩ => ⟨S2048x11264, .bf16⟩
  | .hbm, ⟨6, _⟩ => ⟨S34816x11264, .f32⟩
  | .hbm, ⟨7, _⟩ => ⟨S2048x11264, .f32⟩
  | .hbm, ⟨8, _⟩ => ⟨S11264x2048, .f32⟩
  | .hbm, ⟨9, _⟩ => ⟨S34816x2048, .f32⟩
  | .hbm, ⟨10, _⟩ => ⟨S34816x2048, .bf16⟩
  | .hbm, ⟨11, _⟩ => ⟨S64x1024x1408, .bf16⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x1024x1408, .bf16⟩
  | _, _ => ⟨S34816x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DownDwKernel.lean ====
abbrev S5632x4352 : Shape := ⟨2, ![5632, 4352]⟩
abbrev S4352x2048 : Shape := ⟨2, ![4352, 2048]⟩
abbrev S8x704x2048 : Shape := ⟨3, ![8, 704, 2048]⟩
abbrev S5632x2048 : Shape := ⟨2, ![5632, 2048]⟩
abbrev S8x352x2048 : Shape := ⟨3, ![8, 352, 2048]⟩
abbrev S1408x2176 : Shape := ⟨2, ![1408, 2176]⟩
abbrev S2176x1024 : Shape := ⟨2, ![2176, 1024]⟩
abbrev S1408x1024 : Shape := ⟨2, ![1408, 1024]⟩
abbrev S7 : Shape := ⟨1, ![7]⟩
abbrev S_ : Shape := ⟨0, ![]⟩
abbrev S1x352x2048 : Shape := ⟨3, ![1, 352, 2048]⟩
abbrev S352x2048 : Shape := ⟨2, ![352, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S5632x4352, .bf16⟩
  | .hbm, ⟨1, _⟩ => ⟨S4352x2048, .f32⟩
  | .hbm, ⟨2, _⟩ => ⟨S8x704x2048, .bf16⟩
  | .hbm, ⟨3, _⟩ => ⟨S5632x2048, .bf16⟩
  | .hbm, ⟨4, _⟩ => ⟨S8x352x2048, .bf16⟩
  | .local _ .vmem, ⟨0, _⟩ => ⟨S1408x2176, .bf16⟩
  | .local _ .vmem, ⟨1, _⟩ => ⟨S1408x2176, .bf16⟩
  | .local _ .vmem, ⟨2, _⟩ => ⟨S2176x1024, .f32⟩
  | .local _ .vmem, ⟨3, _⟩ => ⟨S2176x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S5632x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_87 : BitVec 32 := 0#32
  let c0_i32_88 : BitVec 32 := 0#32
  ![v17.toNat, 0, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_95 : BitVec 32 := 0#32
  let c0_i32_96 : BitVec 32 := 0#32
  ![v22.toNat, 0, 0]
def k0_dev1 (d5 : Dev nD) : Nat :=
  let c0_i32_90 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_89 : BitVec 32 := 4#32
  let v83 : BitVec 32 := Scalar.muli v7 c4_i32_89
  let v84 : BitVec 32 := Scalar.addi c0_i32_90 v83
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_91 : BitVec 32 := 2#32
  let v85 : BitVec 32 := Scalar.muli v10 c2_i32_91
  let v86 : BitVec 32 := Scalar.addi v84 v85
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let c1_i32_92 : BitVec 32 := 1#32
  let v87 : BitVec 32 := Scalar.muli v18 c1_i32_92
  let v88 : BitVec 32 := Scalar.addi v86 v87
  v88.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_103 : BitVec 32 := 0#32
  let c0_i32_104 : BitVec 32 := 0#32
  ![v27.toNat, 0, 0]
def k0_dev2 (d5 : Dev nD) : Nat :=
  let c0_i32_98 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_97 : BitVec 32 := 4#32
  let v97 : BitVec 32 := Scalar.muli v7 c4_i32_97
  let v98 : BitVec 32 := Scalar.addi c0_i32_98 v97
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let c2_i32_99 : BitVec 32 := 2#32
  let v99 : BitVec 32 := Scalar.muli v23 c2_i32_99
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_100 : BitVec 32 := 1#32
  let v101 : BitVec 32 := Scalar.muli v13 c1_i32_100
  let v102 : BitVec 32 := Scalar.addi v100 v101
  v102.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_111 : BitVec 32 := 0#32
  let c0_i32_112 : BitVec 32 := 0#32
  ![v33.toNat, 0, 0]
def k0_dev3 (d5 : Dev nD) : Nat :=
  let c0_i32_106 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_105 : BitVec 32 := 4#32
  let v111 : BitVec 32 := Scalar.muli v7 c4_i32_105
  let v112 : BitVec 32 := Scalar.addi c0_i32_106 v111
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let c2_i32_107 : BitVec 32 := 2#32
  let v113 : BitVec 32 := Scalar.muli v28 c2_i32_107
  let v114 : BitVec 32 := Scalar.addi v112 v113
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let c1_i32_108 : BitVec 32 := 1#32
  let v115 : BitVec 32 := Scalar.muli v29 c1_i32_108
  let v116 : BitVec 32 := Scalar.addi v114 v115
  v116.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_119 : BitVec 32 := 0#32
  let c0_i32_120 : BitVec 32 := 0#32
  ![v38.toNat, 0, 0]
def k0_dev4 (d5 : Dev nD) : Nat :=
  let c0_i32_114 : BitVec 32 := 0#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let c4_i32_113 : BitVec 32 := 4#32
  let v125 : BitVec 32 := Scalar.muli v34 c4_i32_113
  let v126 : BitVec 32 := Scalar.addi c0_i32_114 v125
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_115 : BitVec 32 := 2#32
  let v127 : BitVec 32 := Scalar.muli v10 c2_i32_115
  let v128 : BitVec 32 := Scalar.addi v126 v127
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_116 : BitVec 32 := 1#32
  let v129 : BitVec 32 := Scalar.muli v13 c1_i32_116
  let v130 : BitVec 32 := Scalar.addi v128 v129
  v130.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_127 : BitVec 32 := 0#32
  let c0_i32_128 : BitVec 32 := 0#32
  ![v44.toNat, 0, 0]
def k0_dev5 (d5 : Dev nD) : Nat :=
  let c0_i32_122 : BitVec 32 := 0#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let c4_i32_121 : BitVec 32 := 4#32
  let v139 : BitVec 32 := Scalar.muli v39 c4_i32_121
  let v140 : BitVec 32 := Scalar.addi c0_i32_122 v139
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_123 : BitVec 32 := 2#32
  let v141 : BitVec 32 := Scalar.muli v10 c2_i32_123
  let v142 : BitVec 32 := Scalar.addi v140 v141
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let c1_i32_124 : BitVec 32 := 1#32
  let v143 : BitVec 32 := Scalar.muli v40 c1_i32_124
  let v144 : BitVec 32 := Scalar.addi v142 v143
  v144.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_135 : BitVec 32 := 0#32
  let c0_i32_136 : BitVec 32 := 0#32
  ![v50.toNat, 0, 0]
def k0_dev6 (d5 : Dev nD) : Nat :=
  let c0_i32_130 : BitVec 32 := 0#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let c4_i32_129 : BitVec 32 := 4#32
  let v153 : BitVec 32 := Scalar.muli v45 c4_i32_129
  let v154 : BitVec 32 := Scalar.addi c0_i32_130 v153
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let c2_i32_131 : BitVec 32 := 2#32
  let v155 : BitVec 32 := Scalar.muli v46 c2_i32_131
  let v156 : BitVec 32 := Scalar.addi v154 v155
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_132 : BitVec 32 := 1#32
  let v157 : BitVec 32 := Scalar.muli v13 c1_i32_132
  let v158 : BitVec 32 := Scalar.addi v156 v157
  v158.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_143 : BitVec 32 := 0#32
  let c0_i32_144 : BitVec 32 := 0#32
  ![v57.toNat, 0, 0]
def k0_dev7 (d5 : Dev nD) : Nat :=
  let c0_i32_138 : BitVec 32 := 0#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let c4_i32_137 : BitVec 32 := 4#32
  let v167 : BitVec 32 := Scalar.muli v51 c4_i32_137
  let v168 : BitVec 32 := Scalar.addi c0_i32_138 v167
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let c2_i32_139 : BitVec 32 := 2#32
  let v169 : BitVec 32 := Scalar.muli v52 c2_i32_139
  let v170 : BitVec 32 := Scalar.addi v168 v169
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let c1_i32_140 : BitVec 32 := 1#32
  let v171 : BitVec 32 := Scalar.muli v53 c1_i32_140
  let v172 : BitVec 32 := Scalar.addi v170 v171
  v172.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c15_i32 : BitVec 32 := 15#32
  let v76 : BitVec 1 := Scalar.cmpi .eq v4 c15_i32
  let v77 : BitVec 32 := Scalar.extui v76
  let c0_i32_84 : BitVec 32 := 0#32
  let v78 : BitVec 1 := Scalar.cmpi .ne v77 c0_i32_84
  v78

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_86 : BitVec 32 := 0#32
  let c0_i32_87 : BitVec 32 := 0#32
  ![v22.toNat, 0, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_99 : BitVec 32 := 0#32
  let c0_i32_100 : BitVec 32 := 0#32
  ![v27.toNat, 0, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_112 : BitVec 32 := 0#32
  let c0_i32_113 : BitVec 32 := 0#32
  ![v33.toNat, 0, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_125 : BitVec 32 := 0#32
  let c0_i32_126 : BitVec 32 := 0#32
  ![v38.toNat, 0, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_138 : BitVec 32 := 0#32
  let c0_i32_139 : BitVec 32 := 0#32
  ![v44.toNat, 0, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_151 : BitVec 32 := 0#32
  let c0_i32_152 : BitVec 32 := 0#32
  ![v50.toNat, 0, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_164 : BitVec 32 := 0#32
  let c0_i32_165 : BitVec 32 := 0#32
  ![v57.toNat, 0, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_178 : BitVec 32 := 0#32
  let c0_i32_179 : BitVec 32 := 0#32
  ![v17.toNat, 0, 0]
def k0_cond4 (i : grid0.Coords) : BitVec 1 :=
  let arg2 : BitVec 32 := BitVec.ofNat 32 (i 2).val
  let c1_i32_60 : BitVec 32 := 1#32
  let v73 : BitVec 1 := Scalar.cmpi .eq arg2 c1_i32_60
  let v74 : BitVec 32 := Scalar.extui v73
  let c0_i32_61 : BitVec 32 := 0#32
  let v75 : BitVec 1 := Scalar.cmpi .ne v74 c0_i32_61
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwKernelIdeal.lean ====
abbrev S5632x4352 : Shape := ⟨2, ![5632, 4352]⟩
abbrev S4352x2048 : Shape := ⟨2, ![4352, 2048]⟩
abbrev S8x704x2048 : Shape := ⟨3, ![8, 704, 2048]⟩
abbrev S5632x2048 : Shape := ⟨2, ![5632, 2048]⟩
abbrev S8x352x2048 : Shape := ⟨3, ![8, 352, 2048]⟩
abbrev S1408x2176 : Shape := ⟨2, ![1408, 2176]⟩
abbrev S2176x1024 : Shape := ⟨2, ![2176, 1024]⟩
abbrev S1408x1024 : Shape := ⟨2, ![1408, 1024]⟩
abbrev S7 : Shape := ⟨1, ![7]⟩
abbrev S_ : Shape := ⟨0, ![]⟩
abbrev S1x352x2048 : Shape := ⟨3, ![1, 352, 2048]⟩
abbrev S352x2048 : Shape := ⟨2, ![352, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S5632x4352, .bf16⟩
  | .hbm, ⟨1, _⟩ => ⟨S4352x2048, .f32⟩
  | .hbm, ⟨2, _⟩ => ⟨S8x704x2048, .bf16⟩
  | .hbm, ⟨3, _⟩ => ⟨S5632x2048, .bf16⟩
  | .hbm, ⟨4, _⟩ => ⟨S8x352x2048, .bf16⟩
  | .local _ .vmem, ⟨0, _⟩ => ⟨S1408x2176, .bf16⟩
  | .local _ .vmem, ⟨1, _⟩ => ⟨S1408x2176, .bf16⟩
  | .local _ .vmem, ⟨2, _⟩ => ⟨S2176x1024, .f32⟩
  | .local _ .vmem, ⟨3, _⟩ => ⟨S2176x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S5632x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_87 : BitVec 32 := 0#32
  let c0_i32_88 : BitVec 32 := 0#32
  ![v17.toNat, 0, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_95 : BitVec 32 := 0#32
  let c0_i32_96 : BitVec 32 := 0#32
  ![v22.toNat, 0, 0]
def k0_dev1 (d5 : Dev nD) : Nat :=
  let c0_i32_90 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_89 : BitVec 32 := 4#32
  let v83 : BitVec 32 := Scalar.muli v7 c4_i32_89
  let v84 : BitVec 32 := Scalar.addi c0_i32_90 v83
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_91 : BitVec 32 := 2#32
  let v85 : BitVec 32 := Scalar.muli v10 c2_i32_91
  let v86 : BitVec 32 := Scalar.addi v84 v85
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let c1_i32_92 : BitVec 32 := 1#32
  let v87 : BitVec 32 := Scalar.muli v18 c1_i32_92
  let v88 : BitVec 32 := Scalar.addi v86 v87
  v88.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_103 : BitVec 32 := 0#32
  let c0_i32_104 : BitVec 32 := 0#32
  ![v27.toNat, 0, 0]
def k0_dev2 (d5 : Dev nD) : Nat :=
  let c0_i32_98 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_97 : BitVec 32 := 4#32
  let v97 : BitVec 32 := Scalar.muli v7 c4_i32_97
  let v98 : BitVec 32 := Scalar.addi c0_i32_98 v97
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let c2_i32_99 : BitVec 32 := 2#32
  let v99 : BitVec 32 := Scalar.muli v23 c2_i32_99
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_100 : BitVec 32 := 1#32
  let v101 : BitVec 32 := Scalar.muli v13 c1_i32_100
  let v102 : BitVec 32 := Scalar.addi v100 v101
  v102.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_111 : BitVec 32 := 0#32
  let c0_i32_112 : BitVec 32 := 0#32
  ![v33.toNat, 0, 0]
def k0_dev3 (d5 : Dev nD) : Nat :=
  let c0_i32_106 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_105 : BitVec 32 := 4#32
  let v111 : BitVec 32 := Scalar.muli v7 c4_i32_105
  let v112 : BitVec 32 := Scalar.addi c0_i32_106 v111
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let c2_i32_107 : BitVec 32 := 2#32
  let v113 : BitVec 32 := Scalar.muli v28 c2_i32_107
  let v114 : BitVec 32 := Scalar.addi v112 v113
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let c1_i32_108 : BitVec 32 := 1#32
  let v115 : BitVec 32 := Scalar.muli v29 c1_i32_108
  let v116 : BitVec 32 := Scalar.addi v114 v115
  v116.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_119 : BitVec 32 := 0#32
  let c0_i32_120 : BitVec 32 := 0#32
  ![v38.toNat, 0, 0]
def k0_dev4 (d5 : Dev nD) : Nat :=
  let c0_i32_114 : BitVec 32 := 0#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let c4_i32_113 : BitVec 32 := 4#32
  let v125 : BitVec 32 := Scalar.muli v34 c4_i32_113
  let v126 : BitVec 32 := Scalar.addi c0_i32_114 v125
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_115 : BitVec 32 := 2#32
  let v127 : BitVec 32 := Scalar.muli v10 c2_i32_115
  let v128 : BitVec 32 := Scalar.addi v126 v127
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_116 : BitVec 32 := 1#32
  let v129 : BitVec 32 := Scalar.muli v13 c1_i32_116
  let v130 : BitVec 32 := Scalar.addi v128 v129
  v130.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_127 : BitVec 32 := 0#32
  let c0_i32_128 : BitVec 32 := 0#32
  ![v44.toNat, 0, 0]
def k0_dev5 (d5 : Dev nD) : Nat :=
  let c0_i32_122 : BitVec 32 := 0#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let c4_i32_121 : BitVec 32 := 4#32
  let v139 : BitVec 32 := Scalar.muli v39 c4_i32_121
  let v140 : BitVec 32 := Scalar.addi c0_i32_122 v139
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_123 : BitVec 32 := 2#32
  let v141 : BitVec 32 := Scalar.muli v10 c2_i32_123
  let v142 : BitVec 32 := Scalar.addi v140 v141
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let c1_i32_124 : BitVec 32 := 1#32
  let v143 : BitVec 32 := Scalar.muli v40 c1_i32_124
  let v144 : BitVec 32 := Scalar.addi v142 v143
  v144.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_135 : BitVec 32 := 0#32
  let c0_i32_136 : BitVec 32 := 0#32
  ![v50.toNat, 0, 0]
def k0_dev6 (d5 : Dev nD) : Nat :=
  let c0_i32_130 : BitVec 32 := 0#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let c4_i32_129 : BitVec 32 := 4#32
  let v153 : BitVec 32 := Scalar.muli v45 c4_i32_129
  let v154 : BitVec 32 := Scalar.addi c0_i32_130 v153
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let c2_i32_131 : BitVec 32 := 2#32
  let v155 : BitVec 32 := Scalar.muli v46 c2_i32_131
  let v156 : BitVec 32 := Scalar.addi v154 v155
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_132 : BitVec 32 := 1#32
  let v157 : BitVec 32 := Scalar.muli v13 c1_i32_132
  let v158 : BitVec 32 := Scalar.addi v156 v157
  v158.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_143 : BitVec 32 := 0#32
  let c0_i32_144 : BitVec 32 := 0#32
  ![v57.toNat, 0, 0]
def k0_dev7 (d5 : Dev nD) : Nat :=
  let c0_i32_138 : BitVec 32 := 0#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let c4_i32_137 : BitVec 32 := 4#32
  let v167 : BitVec 32 := Scalar.muli v51 c4_i32_137
  let v168 : BitVec 32 := Scalar.addi c0_i32_138 v167
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let c2_i32_139 : BitVec 32 := 2#32
  let v169 : BitVec 32 := Scalar.muli v52 c2_i32_139
  let v170 : BitVec 32 := Scalar.addi v168 v169
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let c1_i32_140 : BitVec 32 := 1#32
  let v171 : BitVec 32 := Scalar.muli v53 c1_i32_140
  let v172 : BitVec 32 := Scalar.addi v170 v171
  v172.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c15_i32 : BitVec 32 := 15#32
  let v76 : BitVec 1 := Scalar.cmpi .eq v4 c15_i32
  let v77 : BitVec 32 := Scalar.extui v76
  let c0_i32_84 : BitVec 32 := 0#32
  let v78 : BitVec 1 := Scalar.cmpi .ne v77 c0_i32_84
  v78

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_86 : BitVec 32 := 0#32
  let c0_i32_87 : BitVec 32 := 0#32
  ![v22.toNat, 0, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_99 : BitVec 32 := 0#32
  let c0_i32_100 : BitVec 32 := 0#32
  ![v27.toNat, 0, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_112 : BitVec 32 := 0#32
  let c0_i32_113 : BitVec 32 := 0#32
  ![v33.toNat, 0, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_125 : BitVec 32 := 0#32
  let c0_i32_126 : BitVec 32 := 0#32
  ![v38.toNat, 0, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_138 : BitVec 32 := 0#32
  let c0_i32_139 : BitVec 32 := 0#32
  ![v44.toNat, 0, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_151 : BitVec 32 := 0#32
  let c0_i32_152 : BitVec 32 := 0#32
  ![v50.toNat, 0, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_164 : BitVec 32 := 0#32
  let c0_i32_165 : BitVec 32 := 0#32
  ![v57.toNat, 0, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_178 : BitVec 32 := 0#32
  let c0_i32_179 : BitVec 32 := 0#32
  ![v17.toNat, 0, 0]
def k0_cond4 (i : grid0.Coords) : BitVec 1 :=
  let arg2 : BitVec 32 := BitVec.ofNat 32 (i 2).val
  let c1_i32_60 : BitVec 32 := 1#32
  let v73 : BitVec 1 := Scalar.cmpi .eq arg2 c1_i32_60
  let v74 : BitVec 32 := Scalar.extui v73
  let c0_i32_61 : BitVec 32 := 0#32
  let v75 : BitVec 1 := Scalar.cmpi .ne v74 c0_i32_61
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S45056x4352 : Shape := ⟨2, ![45056, 4352]⟩
abbrev S34816x2048 : Shape := ⟨2, ![34816, 2048]⟩
abbrev S64x704x2048 : Shape := ⟨3, ![64, 704, 2048]⟩
abbrev S64 : Shape := ⟨1, ![64]⟩
abbrev S8x5632x4352 : Shape := ⟨3, ![8, 5632, 4352]⟩
abbrev S8x4352x2048 : Shape := ⟨3, ![8, 4352, 2048]⟩
abbrev S8x5632x2048 : Shape := ⟨3, ![8, 5632, 2048]⟩
abbrev S45056x2048 : Shape := ⟨2, ![45056, 2048]⟩
abbrev S64x352x2048 : Shape := ⟨3, ![64, 352, 2048]⟩
abbrev S_ : Shape := ⟨0, ![]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S45056x4352, .bf16⟩
  | .hbm, ⟨1, _⟩ => ⟨S34816x2048, .f32⟩
  | .hbm, ⟨2, _⟩ => ⟨S64x704x2048, .bf16⟩
  | .hbm, ⟨3, _⟩ => ⟨S64, .i32⟩
  | .hbm, ⟨4, _⟩ => ⟨S45056x4352, .f32⟩
  | .hbm, ⟨5, _⟩ => ⟨S8x5632x4352, .f32⟩
  | .hbm, ⟨6, _⟩ => ⟨S34816x2048, .bf16⟩
  | .hbm, ⟨7, _⟩ => ⟨S34816x2048, .f32⟩
  | .hbm, ⟨8, _⟩ => ⟨S8x4352x2048, .f32⟩
  | .hbm, ⟨9, _⟩ => ⟨S8x5632x2048, .f32⟩
  | .hbm, ⟨10, _⟩ => ⟨S8x5632x2048, .bf16⟩
  | .hbm, ⟨11, _⟩ => ⟨S45056x2048, .bf16⟩
  | .hbm, ⟨12, _⟩ => ⟨S64x352x2048, .bf16⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x352x2048, .bf16⟩
  | _, _ => ⟨S45056x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DownDaKernel.lean ====
abbrev S4352x2048 : Shape := ⟨2, ![4352, 2048]⟩
abbrev S5632x2048 : Shape := ⟨2, ![5632, 2048]⟩
abbrev S8x704x2048 : Shape := ⟨3, ![8, 704, 2048]⟩
abbrev S4352x5632 : Shape := ⟨2, ![4352, 5632]⟩
abbrev S8x352x2048 : Shape := ⟨3, ![8, 352, 2048]⟩
abbrev S1088x2048 : Shape := ⟨2, ![1088, 2048]⟩
abbrev S512x2048 : Shape := ⟨2, ![512, 2048]⟩
abbrev S1088x512 : Shape := ⟨2, ![1088, 512]⟩
abbrev S7 : Shape := ⟨1, ![7]⟩
abbrev S_ : Shape := ⟨0, ![]⟩
abbrev S1x352x2048 : Shape := ⟨3, ![1, 352, 2048]⟩
abbrev S352x2048 : Shape := ⟨2, ![352, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S5632x2048, .bf16⟩
  | .hbm, ⟨2, _⟩ => ⟨S8x704x2048, .bf16⟩
  | .hbm, ⟨3, _⟩ => ⟨S4352x5632, .bf16⟩
  | .hbm, ⟨4, _⟩ => ⟨S8x352x2048, .bf16⟩
  | .local _ .vmem, ⟨0, _⟩ => ⟨S1088x2048, .f32⟩
  | .local _ .vmem, ⟨1, _⟩ => ⟨S1088x2048, .f32⟩
  | .local _ .vmem, ⟨2, _⟩ => ⟨S512x2048, .bf16⟩
  | .local _ .vmem, ⟨3, _⟩ => ⟨S512x2048, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 11, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c11_i32 : BitVec 32 := 11#32
  let v1 : BitVec 32 := Scalar.muli v0 c11_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v14 : BitVec 32 := Scalar.muli c4_i32_4 v7
  let c2_i32_5 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v15 : BitVec 32 := Scalar.muli c2_i32_5 v10
  let v16 : BitVec 32 := Scalar.addi v14 v15
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v17 : BitVec 32 := Scalar.addi v16 v13
  let c352_i32 : BitVec 32 := 352#32
  let c0_i32_82 : BitVec 32 := 0#32
  ![v17.toNat, 352, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_7 v7
  let c2_i32_8 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_8 v10
  let v21 : BitVec 32 := Scalar.addi v19 v20
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let v22 : BitVec 32 := Scalar.addi v21 v18
  let c352_i32_89 : BitVec 32 := 352#32
  let c0_i32_90 : BitVec 32 := 0#32
  ![v22.toNat, 352, 0]
def k0_dev1 (d5 : Dev nD) : Nat :=
  let c0_i32_84 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_83 : BitVec 32 := 4#32
  let v76 : BitVec 32 := Scalar.muli v7 c4_i32_83
  let v77 : BitVec 32 := Scalar.addi c0_i32_84 v76
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_85 : BitVec 32 := 2#32
  let v78 : BitVec 32 := Scalar.muli v10 c2_i32_85
  let v79 : BitVec 32 := Scalar.addi v77 v78
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let c1_i32_86 : BitVec 32 := 1#32
  let v80 : BitVec 32 := Scalar.muli v18 c1_i32_86
  let v81 : BitVec 32 := Scalar.addi v79 v80
  v81.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v24 : BitVec 32 := Scalar.muli c4_i32_10 v7
  let c2_i32_11 : BitVec 32 := 2#32
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let v25 : BitVec 32 := Scalar.muli c2_i32_11 v23
  let v26 : BitVec 32 := Scalar.addi v24 v25
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v27 : BitVec 32 := Scalar.addi v26 v13
  let c352_i32_97 : BitVec 32 := 352#32
  let c0_i32_98 : BitVec 32 := 0#32
  ![v27.toNat, 352, 0]
def k0_dev2 (d5 : Dev nD) : Nat :=
  let c0_i32_92 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_91 : BitVec 32 := 4#32
  let v90 : BitVec 32 := Scalar.muli v7 c4_i32_91
  let v91 : BitVec 32 := Scalar.addi c0_i32_92 v90
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let c2_i32_93 : BitVec 32 := 2#32
  let v92 : BitVec 32 := Scalar.muli v23 c2_i32_93
  let v93 : BitVec 32 := Scalar.addi v91 v92
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_94 : BitVec 32 := 1#32
  let v94 : BitVec 32 := Scalar.muli v13 c1_i32_94
  let v95 : BitVec 32 := Scalar.addi v93 v94
  v95.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v30 : BitVec 32 := Scalar.muli c4_i32_14 v7
  let c2_i32_15 : BitVec 32 := 2#32
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let v33 : BitVec 32 := Scalar.addi v32 v29
  let c352_i32_105 : BitVec 32 := 352#32
  let c0_i32_106 : BitVec 32 := 0#32
  ![v33.toNat, 352, 0]
def k0_dev3 (d5 : Dev nD) : Nat :=
  let c0_i32_100 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_99 : BitVec 32 := 4#32
  let v104 : BitVec 32 := Scalar.muli v7 c4_i32_99
  let v105 : BitVec 32 := Scalar.addi c0_i32_100 v104
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let c2_i32_101 : BitVec 32 := 2#32
  let v106 : BitVec 32 := Scalar.muli v28 c2_i32_101
  let v107 : BitVec 32 := Scalar.addi v105 v106
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let c1_i32_102 : BitVec 32 := 1#32
  let v108 : BitVec 32 := Scalar.muli v29 c1_i32_102
  let v109 : BitVec 32 := Scalar.addi v107 v108
  v109.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let v35 : BitVec 32 := Scalar.muli c4_i32_17 v34
  let c2_i32_18 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v36 : BitVec 32 := Scalar.muli c2_i32_18 v10
  let v37 : BitVec 32 := Scalar.addi v35 v36
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v38 : BitVec 32 := Scalar.addi v37 v13
  let c352_i32_113 : BitVec 32 := 352#32
  let c0_i32_114 : BitVec 32 := 0#32
  ![v38.toNat, 352, 0]
def k0_dev4 (d5 : Dev nD) : Nat :=
  let c0_i32_108 : BitVec 32 := 0#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let c4_i32_107 : BitVec 32 := 4#32
  let v118 : BitVec 32 := Scalar.muli v34 c4_i32_107
  let v119 : BitVec 32 := Scalar.addi c0_i32_108 v118
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_109 : BitVec 32 := 2#32
  let v120 : BitVec 32 := Scalar.muli v10 c2_i32_109
  let v121 : BitVec 32 := Scalar.addi v119 v120
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_110 : BitVec 32 := 1#32
  let v122 : BitVec 32 := Scalar.muli v13 c1_i32_110
  let v123 : BitVec 32 := Scalar.addi v121 v122
  v123.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let v41 : BitVec 32 := Scalar.muli c4_i32_21 v39
  let c2_i32_22 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v42 : BitVec 32 := Scalar.muli c2_i32_22 v10
  let v43 : BitVec 32 := Scalar.addi v41 v42
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let v44 : BitVec 32 := Scalar.addi v43 v40
  let c352_i32_121 : BitVec 32 := 352#32
  let c0_i32_122 : BitVec 32 := 0#32
  ![v44.toNat, 352, 0]
def k0_dev5 (d5 : Dev nD) : Nat :=
  let c0_i32_116 : BitVec 32 := 0#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let c4_i32_115 : BitVec 32 := 4#32
  let v132 : BitVec 32 := Scalar.muli v39 c4_i32_115
  let v133 : BitVec 32 := Scalar.addi c0_i32_116 v132
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_117 : BitVec 32 := 2#32
  let v134 : BitVec 32 := Scalar.muli v10 c2_i32_117
  let v135 : BitVec 32 := Scalar.addi v133 v134
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let c1_i32_118 : BitVec 32 := 1#32
  let v136 : BitVec 32 := Scalar.muli v40 c1_i32_118
  let v137 : BitVec 32 := Scalar.addi v135 v136
  v137.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let v48 : BitVec 32 := Scalar.muli c2_i32_26 v46
  let v49 : BitVec 32 := Scalar.addi v47 v48
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v50 : BitVec 32 := Scalar.addi v49 v13
  let c352_i32_129 : BitVec 32 := 352#32
  let c0_i32_130 : BitVec 32 := 0#32
  ![v50.toNat, 352, 0]
def k0_dev6 (d5 : Dev nD) : Nat :=
  let c0_i32_124 : BitVec 32 := 0#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let c4_i32_123 : BitVec 32 := 4#32
  let v146 : BitVec 32 := Scalar.muli v45 c4_i32_123
  let v147 : BitVec 32 := Scalar.addi c0_i32_124 v146
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let c2_i32_125 : BitVec 32 := 2#32
  let v148 : BitVec 32 := Scalar.muli v46 c2_i32_125
  let v149 : BitVec 32 := Scalar.addi v147 v148
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_126 : BitVec 32 := 1#32
  let v150 : BitVec 32 := Scalar.muli v13 c1_i32_126
  let v151 : BitVec 32 := Scalar.addi v149 v150
  v151.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let v57 : BitVec 32 := Scalar.addi v56 v53
  let c352_i32_137 : BitVec 32 := 352#32
  let c0_i32_138 : BitVec 32 := 0#32
  ![v57.toNat, 352, 0]
def k0_dev7 (d5 : Dev nD) : Nat :=
  let c0_i32_132 : BitVec 32 := 0#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let c4_i32_131 : BitVec 32 := 4#32
  let v160 : BitVec 32 := Scalar.muli v51 c4_i32_131
  let v161 : BitVec 32 := Scalar.addi c0_i32_132 v160
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let c2_i32_133 : BitVec 32 := 2#32
  let v162 : BitVec 32 := Scalar.muli v52 c2_i32_133
  let v163 : BitVec 32 := Scalar.addi v161 v162
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let c1_i32_134 : BitVec 32 := 1#32
  let v164 : BitVec 32 := Scalar.muli v53 c1_i32_134
  let v165 : BitVec 32 := Scalar.addi v163 v164
  v165.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c11_i32 : BitVec 32 := 11#32
  let v1 : BitVec 32 := Scalar.muli v0 c11_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c43_i32 : BitVec 32 := 43#32
  let v69 : BitVec 1 := Scalar.cmpi .eq v4 c43_i32
  let v70 : BitVec 32 := Scalar.extui v69
  let c0_i32_79 : BitVec 32 := 0#32
  let v71 : BitVec 1 := Scalar.cmpi .ne v70 c0_i32_79
  v71

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_7 v7
  let c2_i32_8 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_8 v10
  let v21 : BitVec 32 := Scalar.addi v19 v20
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let v22 : BitVec 32 := Scalar.addi v21 v18
  let c352_i32 : BitVec 32 := 352#32
  let c0_i32_81 : BitVec 32 := 0#32
  ![v22.toNat, 352, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v24 : BitVec 32 := Scalar.muli c4_i32_10 v7
  let c2_i32_11 : BitVec 32 := 2#32
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let v25 : BitVec 32 := Scalar.muli c2_i32_11 v23
  let v26 : BitVec 32 := Scalar.addi v24 v25
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v27 : BitVec 32 := Scalar.addi v26 v13
  let c352_i32_93 : BitVec 32 := 352#32
  let c0_i32_94 : BitVec 32 := 0#32
  ![v27.toNat, 352, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v30 : BitVec 32 := Scalar.muli c4_i32_14 v7
  let c2_i32_15 : BitVec 32 := 2#32
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let v33 : BitVec 32 := Scalar.addi v32 v29
  let c352_i32_106 : BitVec 32 := 352#32
  let c0_i32_107 : BitVec 32 := 0#32
  ![v33.toNat, 352, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let v35 : BitVec 32 := Scalar.muli c4_i32_17 v34
  let c2_i32_18 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v36 : BitVec 32 := Scalar.muli c2_i32_18 v10
  let v37 : BitVec 32 := Scalar.addi v35 v36
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v38 : BitVec 32 := Scalar.addi v37 v13
  let c352_i32_119 : BitVec 32 := 352#32
  let c0_i32_120 : BitVec 32 := 0#32
  ![v38.toNat, 352, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let v41 : BitVec 32 := Scalar.muli c4_i32_21 v39
  let c2_i32_22 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v42 : BitVec 32 := Scalar.muli c2_i32_22 v10
  let v43 : BitVec 32 := Scalar.addi v41 v42
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let v44 : BitVec 32 := Scalar.addi v43 v40
  let c352_i32_132 : BitVec 32 := 352#32
  let c0_i32_133 : BitVec 32 := 0#32
  ![v44.toNat, 352, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let v48 : BitVec 32 := Scalar.muli c2_i32_26 v46
  let v49 : BitVec 32 := Scalar.addi v47 v48
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v50 : BitVec 32 := Scalar.addi v49 v13
  let c352_i32_145 : BitVec 32 := 352#32
  let c0_i32_146 : BitVec 32 := 0#32
  ![v50.toNat, 352, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let v57 : BitVec 32 := Scalar.addi v56 v53
  let c352_i32_158 : BitVec 32 := 352#32
  let c0_i32_159 : BitVec 32 := 0#32
  ![v57.toNat, 352, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v14 : BitVec 32 := Scalar.muli c4_i32_4 v7
  let c2_i32_5 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v15 : BitVec 32 := Scalar.muli c2_i32_5 v10
  let v16 : BitVec 32 := Scalar.addi v14 v15
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v17 : BitVec 32 := Scalar.addi v16 v13
  let c352_i32_172 : BitVec 32 := 352#32
  let c0_i32_173 : BitVec 32 := 0#32
  ![v17.toNat, 352, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaKernelIdeal.lean ====
abbrev S4352x2048 : Shape := ⟨2, ![4352, 2048]⟩
abbrev S5632x2048 : Shape := ⟨2, ![5632, 2048]⟩
abbrev S8x704x2048 : Shape := ⟨3, ![8, 704, 2048]⟩
abbrev S4352x5632 : Shape := ⟨2, ![4352, 5632]⟩
abbrev S8x352x2048 : Shape := ⟨3, ![8, 352, 2048]⟩
abbrev S1088x2048 : Shape := ⟨2, ![1088, 2048]⟩
abbrev S512x2048 : Shape := ⟨2, ![512, 2048]⟩
abbrev S1088x512 : Shape := ⟨2, ![1088, 512]⟩
abbrev S7 : Shape := ⟨1, ![7]⟩
abbrev S_ : Shape := ⟨0, ![]⟩
abbrev S1x352x2048 : Shape := ⟨3, ![1, 352, 2048]⟩
abbrev S352x2048 : Shape := ⟨2, ![352, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S5632x2048, .bf16⟩
  | .hbm, ⟨2, _⟩ => ⟨S8x704x2048, .bf16⟩
  | .hbm, ⟨3, _⟩ => ⟨S4352x5632, .bf16⟩
  | .hbm, ⟨4, _⟩ => ⟨S8x352x2048, .bf16⟩
  | .local _ .vmem, ⟨0, _⟩ => ⟨S1088x2048, .f32⟩
  | .local _ .vmem, ⟨1, _⟩ => ⟨S1088x2048, .f32⟩
  | .local _ .vmem, ⟨2, _⟩ => ⟨S512x2048, .bf16⟩
  | .local _ .vmem, ⟨3, _⟩ => ⟨S512x2048, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 11, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c11_i32 : BitVec 32 := 11#32
  let v1 : BitVec 32 := Scalar.muli v0 c11_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_32 : BitVec 32 := 0#32
  let v58 : BitVec 1 := Scalar.cmpi .eq v4 c0_i32_32
  let v59 : BitVec 32 := Scalar.extui v58
  let c0_i32_51 : BitVec 32 := 0#32
  let v60 : BitVec 1 := Scalar.cmpi .ne v59 c0_i32_51
  v60

def k0_off1 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v14 : BitVec 32 := Scalar.muli c4_i32_4 v7
  let c2_i32_5 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v15 : BitVec 32 := Scalar.muli c2_i32_5 v10
  let v16 : BitVec 32 := Scalar.addi v14 v15
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v17 : BitVec 32 := Scalar.addi v16 v13
  let c352_i32 : BitVec 32 := 352#32
  let c0_i32_82 : BitVec 32 := 0#32
  ![v17.toNat, 352, 0]
def k0_off2 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_7 v7
  let c2_i32_8 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_8 v10
  let v21 : BitVec 32 := Scalar.addi v19 v20
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let v22 : BitVec 32 := Scalar.addi v21 v18
  let c352_i32_89 : BitVec 32 := 352#32
  let c0_i32_90 : BitVec 32 := 0#32
  ![v22.toNat, 352, 0]
def k0_dev1 (d5 : Dev nD) : Nat :=
  let c0_i32_84 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_83 : BitVec 32 := 4#32
  let v76 : BitVec 32 := Scalar.muli v7 c4_i32_83
  let v77 : BitVec 32 := Scalar.addi c0_i32_84 v76
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_85 : BitVec 32 := 2#32
  let v78 : BitVec 32 := Scalar.muli v10 c2_i32_85
  let v79 : BitVec 32 := Scalar.addi v77 v78
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let c1_i32_86 : BitVec 32 := 1#32
  let v80 : BitVec 32 := Scalar.muli v18 c1_i32_86
  let v81 : BitVec 32 := Scalar.addi v79 v80
  v81.toNat
def k0_off3 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v24 : BitVec 32 := Scalar.muli c4_i32_10 v7
  let c2_i32_11 : BitVec 32 := 2#32
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let v25 : BitVec 32 := Scalar.muli c2_i32_11 v23
  let v26 : BitVec 32 := Scalar.addi v24 v25
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v27 : BitVec 32 := Scalar.addi v26 v13
  let c352_i32_97 : BitVec 32 := 352#32
  let c0_i32_98 : BitVec 32 := 0#32
  ![v27.toNat, 352, 0]
def k0_dev2 (d5 : Dev nD) : Nat :=
  let c0_i32_92 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_91 : BitVec 32 := 4#32
  let v90 : BitVec 32 := Scalar.muli v7 c4_i32_91
  let v91 : BitVec 32 := Scalar.addi c0_i32_92 v90
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let c2_i32_93 : BitVec 32 := 2#32
  let v92 : BitVec 32 := Scalar.muli v23 c2_i32_93
  let v93 : BitVec 32 := Scalar.addi v91 v92
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_94 : BitVec 32 := 1#32
  let v94 : BitVec 32 := Scalar.muli v13 c1_i32_94
  let v95 : BitVec 32 := Scalar.addi v93 v94
  v95.toNat
def k0_off4 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v30 : BitVec 32 := Scalar.muli c4_i32_14 v7
  let c2_i32_15 : BitVec 32 := 2#32
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let v33 : BitVec 32 := Scalar.addi v32 v29
  let c352_i32_105 : BitVec 32 := 352#32
  let c0_i32_106 : BitVec 32 := 0#32
  ![v33.toNat, 352, 0]
def k0_dev3 (d5 : Dev nD) : Nat :=
  let c0_i32_100 : BitVec 32 := 0#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let c4_i32_99 : BitVec 32 := 4#32
  let v104 : BitVec 32 := Scalar.muli v7 c4_i32_99
  let v105 : BitVec 32 := Scalar.addi c0_i32_100 v104
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let c2_i32_101 : BitVec 32 := 2#32
  let v106 : BitVec 32 := Scalar.muli v28 c2_i32_101
  let v107 : BitVec 32 := Scalar.addi v105 v106
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let c1_i32_102 : BitVec 32 := 1#32
  let v108 : BitVec 32 := Scalar.muli v29 c1_i32_102
  let v109 : BitVec 32 := Scalar.addi v107 v108
  v109.toNat
def k0_off5 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let v35 : BitVec 32 := Scalar.muli c4_i32_17 v34
  let c2_i32_18 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v36 : BitVec 32 := Scalar.muli c2_i32_18 v10
  let v37 : BitVec 32 := Scalar.addi v35 v36
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v38 : BitVec 32 := Scalar.addi v37 v13
  let c352_i32_113 : BitVec 32 := 352#32
  let c0_i32_114 : BitVec 32 := 0#32
  ![v38.toNat, 352, 0]
def k0_dev4 (d5 : Dev nD) : Nat :=
  let c0_i32_108 : BitVec 32 := 0#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let c4_i32_107 : BitVec 32 := 4#32
  let v118 : BitVec 32 := Scalar.muli v34 c4_i32_107
  let v119 : BitVec 32 := Scalar.addi c0_i32_108 v118
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_109 : BitVec 32 := 2#32
  let v120 : BitVec 32 := Scalar.muli v10 c2_i32_109
  let v121 : BitVec 32 := Scalar.addi v119 v120
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_110 : BitVec 32 := 1#32
  let v122 : BitVec 32 := Scalar.muli v13 c1_i32_110
  let v123 : BitVec 32 := Scalar.addi v121 v122
  v123.toNat
def k0_off6 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let v41 : BitVec 32 := Scalar.muli c4_i32_21 v39
  let c2_i32_22 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v42 : BitVec 32 := Scalar.muli c2_i32_22 v10
  let v43 : BitVec 32 := Scalar.addi v41 v42
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let v44 : BitVec 32 := Scalar.addi v43 v40
  let c352_i32_121 : BitVec 32 := 352#32
  let c0_i32_122 : BitVec 32 := 0#32
  ![v44.toNat, 352, 0]
def k0_dev5 (d5 : Dev nD) : Nat :=
  let c0_i32_116 : BitVec 32 := 0#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let c4_i32_115 : BitVec 32 := 4#32
  let v132 : BitVec 32 := Scalar.muli v39 c4_i32_115
  let v133 : BitVec 32 := Scalar.addi c0_i32_116 v132
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let c2_i32_117 : BitVec 32 := 2#32
  let v134 : BitVec 32 := Scalar.muli v10 c2_i32_117
  let v135 : BitVec 32 := Scalar.addi v133 v134
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let c1_i32_118 : BitVec 32 := 1#32
  let v136 : BitVec 32 := Scalar.muli v40 c1_i32_118
  let v137 : BitVec 32 := Scalar.addi v135 v136
  v137.toNat
def k0_off7 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let v48 : BitVec 32 := Scalar.muli c2_i32_26 v46
  let v49 : BitVec 32 := Scalar.addi v47 v48
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v50 : BitVec 32 := Scalar.addi v49 v13
  let c352_i32_129 : BitVec 32 := 352#32
  let c0_i32_130 : BitVec 32 := 0#32
  ![v50.toNat, 352, 0]
def k0_dev6 (d5 : Dev nD) : Nat :=
  let c0_i32_124 : BitVec 32 := 0#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let c4_i32_123 : BitVec 32 := 4#32
  let v146 : BitVec 32 := Scalar.muli v45 c4_i32_123
  let v147 : BitVec 32 := Scalar.addi c0_i32_124 v146
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let c2_i32_125 : BitVec 32 := 2#32
  let v148 : BitVec 32 := Scalar.muli v46 c2_i32_125
  let v149 : BitVec 32 := Scalar.addi v147 v148
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let c1_i32_126 : BitVec 32 := 1#32
  let v150 : BitVec 32 := Scalar.muli v13 c1_i32_126
  let v151 : BitVec 32 := Scalar.addi v149 v150
  v151.toNat
def k0_off8 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let v57 : BitVec 32 := Scalar.addi v56 v53
  let c352_i32_137 : BitVec 32 := 352#32
  let c0_i32_138 : BitVec 32 := 0#32
  ![v57.toNat, 352, 0]
def k0_dev7 (d5 : Dev nD) : Nat :=
  let c0_i32_132 : BitVec 32 := 0#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let c4_i32_131 : BitVec 32 := 4#32
  let v160 : BitVec 32 := Scalar.muli v51 c4_i32_131
  let v161 : BitVec 32 := Scalar.addi c0_i32_132 v160
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let c2_i32_133 : BitVec 32 := 2#32
  let v162 : BitVec 32 := Scalar.muli v52 c2_i32_133
  let v163 : BitVec 32 := Scalar.addi v161 v162
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let c1_i32_134 : BitVec 32 := 1#32
  let v164 : BitVec 32 := Scalar.muli v53 c1_i32_134
  let v165 : BitVec 32 := Scalar.addi v163 v164
  v165.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c11_i32 : BitVec 32 := 11#32
  let v1 : BitVec 32 := Scalar.muli v0 c11_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c43_i32 : BitVec 32 := 43#32
  let v69 : BitVec 1 := Scalar.cmpi .eq v4 c43_i32
  let v70 : BitVec 32 := Scalar.extui v69
  let c0_i32_79 : BitVec 32 := 0#32
  let v71 : BitVec 1 := Scalar.cmpi .ne v70 c0_i32_79
  v71

def k0_off9 (d5 : Dev nD) : Fin 3 → Nat :=
  let c4_i32_7 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v19 : BitVec 32 := Scalar.muli c4_i32_7 v7
  let c2_i32_8 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v20 : BitVec 32 := Scalar.muli c2_i32_8 v10
  let v21 : BitVec 32 := Scalar.addi v19 v20
  let c1_i32_6 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v18 : BitVec 32 := Scalar.subi c1_i32_6 v13
  let v22 : BitVec 32 := Scalar.addi v21 v18
  let c352_i32 : BitVec 32 := 352#32
  let c0_i32_81 : BitVec 32 := 0#32
  ![v22.toNat, 352, 0]
def k0_off10 (d5 : Dev nD) : Fin 3 → Nat :=
  let c4_i32_10 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v24 : BitVec 32 := Scalar.muli c4_i32_10 v7
  let c2_i32_11 : BitVec 32 := 2#32
  let c1_i32_9 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v23 : BitVec 32 := Scalar.subi c1_i32_9 v10
  let v25 : BitVec 32 := Scalar.muli c2_i32_11 v23
  let v26 : BitVec 32 := Scalar.addi v24 v25
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v27 : BitVec 32 := Scalar.addi v26 v13
  let c352_i32_93 : BitVec 32 := 352#32
  let c0_i32_94 : BitVec 32 := 0#32
  ![v27.toNat, 352, 0]
def k0_off11 (d5 : Dev nD) : Fin 3 → Nat :=
  let c4_i32_14 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v30 : BitVec 32 := Scalar.muli c4_i32_14 v7
  let c2_i32_15 : BitVec 32 := 2#32
  let c1_i32_12 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v28 : BitVec 32 := Scalar.subi c1_i32_12 v10
  let v31 : BitVec 32 := Scalar.muli c2_i32_15 v28
  let v32 : BitVec 32 := Scalar.addi v30 v31
  let c1_i32_13 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v29 : BitVec 32 := Scalar.subi c1_i32_13 v13
  let v33 : BitVec 32 := Scalar.addi v32 v29
  let c352_i32_106 : BitVec 32 := 352#32
  let c0_i32_107 : BitVec 32 := 0#32
  ![v33.toNat, 352, 0]
def k0_off12 (d5 : Dev nD) : Fin 3 → Nat :=
  let c4_i32_17 : BitVec 32 := 4#32
  let c1_i32_16 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v34 : BitVec 32 := Scalar.subi c1_i32_16 v7
  let v35 : BitVec 32 := Scalar.muli c4_i32_17 v34
  let c2_i32_18 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v36 : BitVec 32 := Scalar.muli c2_i32_18 v10
  let v37 : BitVec 32 := Scalar.addi v35 v36
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v38 : BitVec 32 := Scalar.addi v37 v13
  let c352_i32_119 : BitVec 32 := 352#32
  let c0_i32_120 : BitVec 32 := 0#32
  ![v38.toNat, 352, 0]
def k0_off13 (d5 : Dev nD) : Fin 3 → Nat :=
  let c4_i32_21 : BitVec 32 := 4#32
  let c1_i32_19 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v39 : BitVec 32 := Scalar.subi c1_i32_19 v7
  let v41 : BitVec 32 := Scalar.muli c4_i32_21 v39
  let c2_i32_22 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v42 : BitVec 32 := Scalar.muli c2_i32_22 v10
  let v43 : BitVec 32 := Scalar.addi v41 v42
  let c1_i32_20 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v40 : BitVec 32 := Scalar.subi c1_i32_20 v13
  let v44 : BitVec 32 := Scalar.addi v43 v40
  let c352_i32_132 : BitVec 32 := 352#32
  let c0_i32_133 : BitVec 32 := 0#32
  ![v44.toNat, 352, 0]
def k0_off14 (d5 : Dev nD) : Fin 3 → Nat :=
  let c4_i32_25 : BitVec 32 := 4#32
  let c1_i32_23 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v45 : BitVec 32 := Scalar.subi c1_i32_23 v7
  let v47 : BitVec 32 := Scalar.muli c4_i32_25 v45
  let c2_i32_26 : BitVec 32 := 2#32
  let c1_i32_24 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v46 : BitVec 32 := Scalar.subi c1_i32_24 v10
  let v48 : BitVec 32 := Scalar.muli c2_i32_26 v46
  let v49 : BitVec 32 := Scalar.addi v47 v48
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v50 : BitVec 32 := Scalar.addi v49 v13
  let c352_i32_145 : BitVec 32 := 352#32
  let c0_i32_146 : BitVec 32 := 0#32
  ![v50.toNat, 352, 0]
def k0_off15 (d5 : Dev nD) : Fin 3 → Nat :=
  let c4_i32_30 : BitVec 32 := 4#32
  let c1_i32_27 : BitVec 32 := 1#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v51 : BitVec 32 := Scalar.subi c1_i32_27 v7
  let v54 : BitVec 32 := Scalar.muli c4_i32_30 v51
  let c2_i32_31 : BitVec 32 := 2#32
  let c1_i32_28 : BitVec 32 := 1#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v52 : BitVec 32 := Scalar.subi c1_i32_28 v10
  let v55 : BitVec 32 := Scalar.muli c2_i32_31 v52
  let v56 : BitVec 32 := Scalar.addi v54 v55
  let c1_i32_29 : BitVec 32 := 1#32
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v53 : BitVec 32 := Scalar.subi c1_i32_29 v13
  let v57 : BitVec 32 := Scalar.addi v56 v53
  let c352_i32_158 : BitVec 32 := 352#32
  let c0_i32_159 : BitVec 32 := 0#32
  ![v57.toNat, 352, 0]
def k0_off16 (d5 : Dev nD) : Fin 3 → Nat :=
  let c4_i32_4 : BitVec 32 := 4#32
  let v5 : BitVec 32 := Dev.word d5
  let c4_i32 : BitVec 32 := 4#32
  let v6 : BitVec 32 := Scalar.divsi v5 c4_i32
  let c2_i32 : BitVec 32 := 2#32
  let v7 : BitVec 32 := Scalar.remsi v6 c2_i32
  let v14 : BitVec 32 := Scalar.muli c4_i32_4 v7
  let c2_i32_5 : BitVec 32 := 2#32
  let v8 : BitVec 32 := Dev.word d5
  let c2_i32_1 : BitVec 32 := 2#32
  let v9 : BitVec 32 := Scalar.divsi v8 c2_i32_1
  let c2_i32_0 : BitVec 32 := 2#32
  let v10 : BitVec 32 := Scalar.remsi v9 c2_i32_0
  let v15 : BitVec 32 := Scalar.muli c2_i32_5 v10
  let v16 : BitVec 32 := Scalar.addi v14 v15
  let v11 : BitVec 32 := Dev.word d5
  let c1_i32_3 : BitVec 32 := 1#32
  let v12 : BitVec 32 := Scalar.divsi v11 c1_i32_3
  let c2_i32_2 : BitVec 32 := 2#32
  let v13 : BitVec 32 := Scalar.remsi v12 c2_i32_2
  let v17 : BitVec 32 := Scalar.addi v16 v13
  let c352_i32_172 : BitVec 32 := 352#32
  let c0_i32_173 : BitVec 32 := 0#32
  ![v17.toNat, 352, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaReferenceIdeal.lean ====
abbrev S34816x2048 : Shape := ⟨2, ![34816, 2048]⟩
abbrev S5632x2048 : Shape := ⟨2, ![5632, 2048]⟩
abbrev S64x704x2048 : Shape := ⟨3, ![64, 704, 2048]⟩
abbrev S64 : Shape := ⟨1, ![64]⟩
abbrev S2048x5632 : Shape := ⟨2, ![2048, 5632]⟩
abbrev S34816x5632 : Shape := ⟨2, ![34816, 5632]⟩
abbrev S64x352x2048 : Shape := ⟨3, ![64, 352, 2048]⟩
abbrev S_ : Shape := ⟨0, ![]⟩
abbrev S64x1 : Shape := ⟨2, ![64, 1]⟩

abbrev nBuf : Space → Nat
  | .hbm => 20
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S5632x2048, .bf16⟩
  | .hbm, ⟨2, _⟩ => ⟨S64x704x2048, .bf16⟩
  | .hbm, ⟨3, _⟩ => ⟨S64, .i32⟩
  | .hbm, ⟨4, _⟩ => ⟨S34816x2048, .bf16⟩
  | .hbm, ⟨5, _⟩ => ⟨S34816x2048, .f32⟩
  | .hbm, ⟨6, _⟩ => ⟨S5632x2048, .f32⟩
  | .hbm, ⟨7, _⟩ => ⟨S2048x5632, .f32⟩
  | .hbm, ⟨8, _⟩ => ⟨S34816x5632, .f32⟩
  | .hbm, ⟨9, _⟩ => ⟨S34816x5632, .bf16⟩
  | .hbm, ⟨10, _⟩ => ⟨S64x352x2048, .bf16⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64x352x2048, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InDwKernel.lean ====
abbrev S2048x4352 : Shape := ⟨2, ![2048, 4352]⟩
abbrev S4352x2048 : Shape := ⟨2, ![4352, 2048]⟩
abbrev S8x256x2048 : Shape := ⟨3, ![8, 256, 2048]⟩
abbrev S2048x2048 : Shape := ⟨2, ![2048, 2048]⟩
abbrev S8x128x2048 : Shape := ⟨3, ![8, 128, 2048]⟩
abbrev S1024x2176 : Shape := ⟨2, ![1024, 2176]⟩
abbrev S2176x1024 : Shape := ⟨2, ![2176, 1024]⟩
abbrev S1024x1024 : Shape := ⟨2, ![1024, 1024]⟩
abbrev S7 : Shape := ⟨1, ![7]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x4352, .bf16⟩
  | .hbm, ⟨1, _⟩ => ⟨S4352x2048, .f32⟩
  | .hbm, ⟨2, _⟩ => ⟨S8x256x2048, .bf16⟩
  | .hbm, ⟨3, _⟩ => ⟨S2048x2048, .bf16⟩
  | .hbm, ⟨4, _⟩ => ⟨S8x128x2048, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 2, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_88 : BitVec 32 := 0#32
  let c0_i32_89 : BitVec 32 := 0#32
  ![v17.toNat, 0, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_96 : BitVec 32 := 0#32
  let c0_i32_97 : BitVec 32 := 0#32
  ![v22.toNat, 0, 0]
def k0_dev1 (d5 : Dev nD) : Nat :=
  let c0_i32_91 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_90 : BitVec 32 := 4#32
  let v83 : BitVec 32 := Scalar.muli v7 c4_i32_90
  let v84 : BitVec 32 := Scalar.addi c0_i32_91 v83
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_92 : BitVec 32 := 2#32
  let v85 : BitVec 32 := Scalar.muli v10 c2_i32_92
  let v86 : BitVec 32 := Scalar.addi v84 v85
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let c1_i32_93 : BitVec 32 := 1#32
  let v87 : BitVec 32 := Scalar.muli v18 c1_i32_93
  let v88 : BitVec 32 := Scalar.addi v86 v87
  v88.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_104 : BitVec 32 := 0#32
  let c0_i32_105 : BitVec 32 := 0#32
  ![v27.toNat, 0, 0]
def k0_dev2 (d5 : Dev nD) : Nat :=
  let c0_i32_99 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_98 : BitVec 32 := 4#32
  let v97 : BitVec 32 := Scalar.muli v7 c4_i32_98
  let v98 : BitVec 32 := Scalar.addi c0_i32_99 v97
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let c2_i32_100 : BitVec 32 := 2#32
  let v99 : BitVec 32 := Scalar.muli v23 c2_i32_100
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_101 : BitVec 32 := 1#32
  let v101 : BitVec 32 := Scalar.muli v13 c1_i32_101
  let v102 : BitVec 32 := Scalar.addi v100 v101
  v102.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_112 : BitVec 32 := 0#32
  let c0_i32_113 : BitVec 32 := 0#32
  ![v33.toNat, 0, 0]
def k0_dev3 (d5 : Dev nD) : Nat :=
  let c0_i32_107 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_106 : BitVec 32 := 4#32
  let v111 : BitVec 32 := Scalar.muli v7 c4_i32_106
  let v112 : BitVec 32 := Scalar.addi c0_i32_107 v111
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let c2_i32_108 : BitVec 32 := 2#32
  let v113 : BitVec 32 := Scalar.muli v28 c2_i32_108
  let v114 : BitVec 32 := Scalar.addi v112 v113
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let c1_i32_109 : BitVec 32 := 1#32
  let v115 : BitVec 32 := Scalar.muli v29 c1_i32_109
  let v116 : BitVec 32 := Scalar.addi v114 v115
  v116.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_120 : BitVec 32 := 0#32
  let c0_i32_121 : BitVec 32 := 0#32
  ![v38.toNat, 0, 0]
def k0_dev4 (d5 : Dev nD) : Nat :=
  let c0_i32_115 : BitVec 32 := 0#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let c4_i32_114 : BitVec 32 := 4#32
  let v125 : BitVec 32 := Scalar.muli v34 c4_i32_114
  let v126 : BitVec 32 := Scalar.addi c0_i32_115 v125
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_116 : BitVec 32 := 2#32
  let v127 : BitVec 32 := Scalar.muli v10 c2_i32_116
  let v128 : BitVec 32 := Scalar.addi v126 v127
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_117 : BitVec 32 := 1#32
  let v129 : BitVec 32 := Scalar.muli v13 c1_i32_117
  let v130 : BitVec 32 := Scalar.addi v128 v129
  v130.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_128 : BitVec 32 := 0#32
  let c0_i32_129 : BitVec 32 := 0#32
  ![v44.toNat, 0, 0]
def k0_dev5 (d5 : Dev nD) : Nat :=
  let c0_i32_123 : BitVec 32 := 0#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let c4_i32_122 : BitVec 32 := 4#32
  let v139 : BitVec 32 := Scalar.muli v39 c4_i32_122
  let v140 : BitVec 32 := Scalar.addi c0_i32_123 v139
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_124 : BitVec 32 := 2#32
  let v141 : BitVec 32 := Scalar.muli v10 c2_i32_124
  let v142 : BitVec 32 := Scalar.addi v140 v141
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let c1_i32_125 : BitVec 32 := 1#32
  let v143 : BitVec 32 := Scalar.muli v40 c1_i32_125
  let v144 : BitVec 32 := Scalar.addi v142 v143
  v144.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_136 : BitVec 32 := 0#32
  let c0_i32_137 : BitVec 32 := 0#32
  ![v50.toNat, 0, 0]
def k0_dev6 (d5 : Dev nD) : Nat :=
  let c0_i32_131 : BitVec 32 := 0#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let c4_i32_130 : BitVec 32 := 4#32
  let v153 : BitVec 32 := Scalar.muli v45 c4_i32_130
  let v154 : BitVec 32 := Scalar.addi c0_i32_131 v153
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let c2_i32_132 : BitVec 32 := 2#32
  let v155 : BitVec 32 := Scalar.muli v46 c2_i32_132
  let v156 : BitVec 32 := Scalar.addi v154 v155
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_133 : BitVec 32 := 1#32
  let v157 : BitVec 32 := Scalar.muli v13 c1_i32_133
  let v158 : BitVec 32 := Scalar.addi v156 v157
  v158.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_144 : BitVec 32 := 0#32
  let c0_i32_145 : BitVec 32 := 0#32
  ![v57.toNat, 0, 0]
def k0_dev7 (d5 : Dev nD) : Nat :=
  let c0_i32_139 : BitVec 32 := 0#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let c4_i32_138 : BitVec 32 := 4#32
  let v167 : BitVec 32 := Scalar.muli v51 c4_i32_138
  let v168 : BitVec 32 := Scalar.addi c0_i32_139 v167
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let c2_i32_140 : BitVec 32 := 2#32
  let v169 : BitVec 32 := Scalar.muli v52 c2_i32_140
  let v170 : BitVec 32 := Scalar.addi v168 v169
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let c1_i32_141 : BitVec 32 := 1#32
  let v171 : BitVec 32 := Scalar.muli v53 c1_i32_141
  let v172 : BitVec 32 := Scalar.addi v170 v171
  v172.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c7_i32_62 : BitVec 32 := 7#32
  let v76 : BitVec 1 := Scalar.cmpi .eq v4 c7_i32_62
  let v77 : BitVec 32 := Scalar.extui v76
  let c0_i32_85 : BitVec 32 := 0#32
  let v78 : BitVec 1 := Scalar.cmpi .ne v77 c0_i32_85
  v78

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_87 : BitVec 32 := 0#32
  let c0_i32_88 : BitVec 32 := 0#32
  ![v22.toNat, 0, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_100 : BitVec 32 := 0#32
  let c0_i32_101 : BitVec 32 := 0#32
  ![v27.toNat, 0, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_113 : BitVec 32 := 0#32
  let c0_i32_114 : BitVec 32 := 0#32
  ![v33.toNat, 0, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_126 : BitVec 32 := 0#32
  let c0_i32_127 : BitVec 32 := 0#32
  ![v38.toNat, 0, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_139 : BitVec 32 := 0#32
  let c0_i32_140 : BitVec 32 := 0#32
  ![v44.toNat, 0, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_152 : BitVec 32 := 0#32
  let c0_i32_153 : BitVec 32 := 0#32
  ![v50.toNat, 0, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_165 : BitVec 32 := 0#32
  let c0_i32_166 : BitVec 32 := 0#32
  ![v57.toNat, 0, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_179 : BitVec 32 := 0#32
  let c0_i32_180 : BitVec 32 := 0#32
  ![v17.toNat, 0, 0]
def k0_cond4 (i : grid0.Coords) : BitVec 1 :=
  let arg2 : BitVec 32 := BitVec.ofNat 32 (i 2).val
  let c1_i32_60 : BitVec 32 := 1#32
  let v73 : BitVec 1 := Scalar.cmpi .eq arg2 c1_i32_60
  let v74 : BitVec 32 := Scalar.extui v73
  let c0_i32_61 : BitVec 32 := 0#32
  let v75 : BitVec 1 := Scalar.cmpi .ne v74 c0_i32_61
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwKernelIdeal.lean ====
abbrev S2048x4352 : Shape := ⟨2, ![2048, 4352]⟩
abbrev S4352x2048 : Shape := ⟨2, ![4352, 2048]⟩
abbrev S8x256x2048 : Shape := ⟨3, ![8, 256, 2048]⟩
abbrev S2048x2048 : Shape := ⟨2, ![2048, 2048]⟩
abbrev S8x128x2048 : Shape := ⟨3, ![8, 128, 2048]⟩
abbrev S1024x2176 : Shape := ⟨2, ![1024, 2176]⟩
abbrev S2176x1024 : Shape := ⟨2, ![2176, 1024]⟩
abbrev S1024x1024 : Shape := ⟨2, ![1024, 1024]⟩
abbrev S7 : Shape := ⟨1, ![7]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x4352, .bf16⟩
  | .hbm, ⟨1, _⟩ => ⟨S4352x2048, .f32⟩
  | .hbm, ⟨2, _⟩ => ⟨S8x256x2048, .bf16⟩
  | .hbm, ⟨3, _⟩ => ⟨S2048x2048, .bf16⟩
  | .hbm, ⟨4, _⟩ => ⟨S8x128x2048, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 2, 2], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_88 : BitVec 32 := 0#32
  let c0_i32_89 : BitVec 32 := 0#32
  ![v17.toNat, 0, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_96 : BitVec 32 := 0#32
  let c0_i32_97 : BitVec 32 := 0#32
  ![v22.toNat, 0, 0]
def k0_dev1 (d5 : Dev nD) : Nat :=
  let c0_i32_91 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_90 : BitVec 32 := 4#32
  let v83 : BitVec 32 := Scalar.muli v7 c4_i32_90
  let v84 : BitVec 32 := Scalar.addi c0_i32_91 v83
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_92 : BitVec 32 := 2#32
  let v85 : BitVec 32 := Scalar.muli v10 c2_i32_92
  let v86 : BitVec 32 := Scalar.addi v84 v85
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let c1_i32_93 : BitVec 32 := 1#32
  let v87 : BitVec 32 := Scalar.muli v18 c1_i32_93
  let v88 : BitVec 32 := Scalar.addi v86 v87
  v88.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_104 : BitVec 32 := 0#32
  let c0_i32_105 : BitVec 32 := 0#32
  ![v27.toNat, 0, 0]
def k0_dev2 (d5 : Dev nD) : Nat :=
  let c0_i32_99 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_98 : BitVec 32 := 4#32
  let v97 : BitVec 32 := Scalar.muli v7 c4_i32_98
  let v98 : BitVec 32 := Scalar.addi c0_i32_99 v97
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let c2_i32_100 : BitVec 32 := 2#32
  let v99 : BitVec 32 := Scalar.muli v23 c2_i32_100
  let v100 : BitVec 32 := Scalar.addi v98 v99
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_101 : BitVec 32 := 1#32
  let v101 : BitVec 32 := Scalar.muli v13 c1_i32_101
  let v102 : BitVec 32 := Scalar.addi v100 v101
  v102.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_112 : BitVec 32 := 0#32
  let c0_i32_113 : BitVec 32 := 0#32
  ![v33.toNat, 0, 0]
def k0_dev3 (d5 : Dev nD) : Nat :=
  let c0_i32_107 : BitVec 32 := 0#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let c4_i32_106 : BitVec 32 := 4#32
  let v111 : BitVec 32 := Scalar.muli v7 c4_i32_106
  let v112 : BitVec 32 := Scalar.addi c0_i32_107 v111
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let c2_i32_108 : BitVec 32 := 2#32
  let v113 : BitVec 32 := Scalar.muli v28 c2_i32_108
  let v114 : BitVec 32 := Scalar.addi v112 v113
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let c1_i32_109 : BitVec 32 := 1#32
  let v115 : BitVec 32 := Scalar.muli v29 c1_i32_109
  let v116 : BitVec 32 := Scalar.addi v114 v115
  v116.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_120 : BitVec 32 := 0#32
  let c0_i32_121 : BitVec 32 := 0#32
  ![v38.toNat, 0, 0]
def k0_dev4 (d5 : Dev nD) : Nat :=
  let c0_i32_115 : BitVec 32 := 0#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let c4_i32_114 : BitVec 32 := 4#32
  let v125 : BitVec 32 := Scalar.muli v34 c4_i32_114
  let v126 : BitVec 32 := Scalar.addi c0_i32_115 v125
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_116 : BitVec 32 := 2#32
  let v127 : BitVec 32 := Scalar.muli v10 c2_i32_116
  let v128 : BitVec 32 := Scalar.addi v126 v127
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_117 : BitVec 32 := 1#32
  let v129 : BitVec 32 := Scalar.muli v13 c1_i32_117
  let v130 : BitVec 32 := Scalar.addi v128 v129
  v130.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_128 : BitVec 32 := 0#32
  let c0_i32_129 : BitVec 32 := 0#32
  ![v44.toNat, 0, 0]
def k0_dev5 (d5 : Dev nD) : Nat :=
  let c0_i32_123 : BitVec 32 := 0#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let c4_i32_122 : BitVec 32 := 4#32
  let v139 : BitVec 32 := Scalar.muli v39 c4_i32_122
  let v140 : BitVec 32 := Scalar.addi c0_i32_123 v139
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let c2_i32_124 : BitVec 32 := 2#32
  let v141 : BitVec 32 := Scalar.muli v10 c2_i32_124
  let v142 : BitVec 32 := Scalar.addi v140 v141
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let c1_i32_125 : BitVec 32 := 1#32
  let v143 : BitVec 32 := Scalar.muli v40 c1_i32_125
  let v144 : BitVec 32 := Scalar.addi v142 v143
  v144.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_136 : BitVec 32 := 0#32
  let c0_i32_137 : BitVec 32 := 0#32
  ![v50.toNat, 0, 0]
def k0_dev6 (d5 : Dev nD) : Nat :=
  let c0_i32_131 : BitVec 32 := 0#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let c4_i32_130 : BitVec 32 := 4#32
  let v153 : BitVec 32 := Scalar.muli v45 c4_i32_130
  let v154 : BitVec 32 := Scalar.addi c0_i32_131 v153
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let c2_i32_132 : BitVec 32 := 2#32
  let v155 : BitVec 32 := Scalar.muli v46 c2_i32_132
  let v156 : BitVec 32 := Scalar.addi v154 v155
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let c1_i32_133 : BitVec 32 := 1#32
  let v157 : BitVec 32 := Scalar.muli v13 c1_i32_133
  let v158 : BitVec 32 := Scalar.addi v156 v157
  v158.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_144 : BitVec 32 := 0#32
  let c0_i32_145 : BitVec 32 := 0#32
  ![v57.toNat, 0, 0]
def k0_dev7 (d5 : Dev nD) : Nat :=
  let c0_i32_139 : BitVec 32 := 0#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let c4_i32_138 : BitVec 32 := 4#32
  let v167 : BitVec 32 := Scalar.muli v51 c4_i32_138
  let v168 : BitVec 32 := Scalar.addi c0_i32_139 v167
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let c2_i32_140 : BitVec 32 := 2#32
  let v169 : BitVec 32 := Scalar.muli v52 c2_i32_140
  let v170 : BitVec 32 := Scalar.addi v168 v169
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let c1_i32_141 : BitVec 32 := 1#32
  let v171 : BitVec 32 := Scalar.muli v53 c1_i32_141
  let v172 : BitVec 32 := Scalar.addi v170 v171
  v172.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c2_i32_0 : BitVec 32 := 2#32
  let v3 : BitVec 32 := Scalar.muli v2 c2_i32_0
  let arg2 : BitVec 32 := BitVec.ofNat 32 (i 2).val
  let v4 : BitVec 32 := Scalar.addi v3 arg2
  let c7_i32_62 : BitVec 32 := 7#32
  let v76 : BitVec 1 := Scalar.cmpi .eq v4 c7_i32_62
  let v77 : BitVec 32 := Scalar.extui v76
  let c0_i32_85 : BitVec 32 := 0#32
  let v78 : BitVec 1 := Scalar.cmpi .ne v77 c0_i32_85
  v78

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v19 : BitVec 32 := Scalar.muli c4_i32_8 v7
  let c2_i32_9 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v20 : BitVec 32 := Scalar.muli c2_i32_9 v10
  let v21 : BitVec 32 := Scalar.addi v19 v20
  let c1_i32_7 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v18 : BitVec 32 := Scalar.subi c1_i32_7 v13
  let v22 : BitVec 32 := Scalar.addi v21 v18
  let c0_i32_87 : BitVec 32 := 0#32
  let c0_i32_88 : BitVec 32 := 0#32
  ![v22.toNat, 0, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v24 : BitVec 32 := Scalar.muli c4_i32_11 v7
  let c2_i32_12 : BitVec 32 := 2#32
  let c1_i32_10 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v23 : BitVec 32 := Scalar.subi c1_i32_10 v10
  let v25 : BitVec 32 := Scalar.muli c2_i32_12 v23
  let v26 : BitVec 32 := Scalar.addi v24 v25
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v27 : BitVec 32 := Scalar.addi v26 v13
  let c0_i32_100 : BitVec 32 := 0#32
  let c0_i32_101 : BitVec 32 := 0#32
  ![v27.toNat, 0, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v30 : BitVec 32 := Scalar.muli c4_i32_15 v7
  let c2_i32_16 : BitVec 32 := 2#32
  let c1_i32_13 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v29 : BitVec 32 := Scalar.subi c1_i32_14 v13
  let v33 : BitVec 32 := Scalar.addi v32 v29
  let c0_i32_113 : BitVec 32 := 0#32
  let c0_i32_114 : BitVec 32 := 0#32
  ![v33.toNat, 0, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v34 : BitVec 32 := Scalar.subi c1_i32_17 v7
  let v35 : BitVec 32 := Scalar.muli c4_i32_18 v34
  let c2_i32_19 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v36 : BitVec 32 := Scalar.muli c2_i32_19 v10
  let v37 : BitVec 32 := Scalar.addi v35 v36
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v38 : BitVec 32 := Scalar.addi v37 v13
  let c0_i32_126 : BitVec 32 := 0#32
  let c0_i32_127 : BitVec 32 := 0#32
  ![v38.toNat, 0, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v39 : BitVec 32 := Scalar.subi c1_i32_20 v7
  let v41 : BitVec 32 := Scalar.muli c4_i32_22 v39
  let c2_i32_23 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v42 : BitVec 32 := Scalar.muli c2_i32_23 v10
  let v43 : BitVec 32 := Scalar.addi v41 v42
  let c1_i32_21 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v40 : BitVec 32 := Scalar.subi c1_i32_21 v13
  let v44 : BitVec 32 := Scalar.addi v43 v40
  let c0_i32_139 : BitVec 32 := 0#32
  let c0_i32_140 : BitVec 32 := 0#32
  ![v44.toNat, 0, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v46 : BitVec 32 := Scalar.subi c1_i32_25 v10
  let v48 : BitVec 32 := Scalar.muli c2_i32_27 v46
  let v49 : BitVec 32 := Scalar.addi v47 v48
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v50 : BitVec 32 := Scalar.addi v49 v13
  let c0_i32_152 : BitVec 32 := 0#32
  let c0_i32_153 : BitVec 32 := 0#32
  ![v50.toNat, 0, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v53 : BitVec 32 := Scalar.subi c1_i32_30 v13
  let v57 : BitVec 32 := Scalar.addi v56 v53
  let c0_i32_165 : BitVec 32 := 0#32
  let c0_i32_166 : BitVec 32 := 0#32
  ![v57.toNat, 0, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_1 : BitVec 32 := 2#32
  let v7 : BitVec 32 := Scalar.remsi v6 c2_i32_1
  let v14 : BitVec 32 := Scalar.muli c4_i32_5 v7
  let c2_i32_6 : BitVec 32 := 2#32
  let v8 : BitVec 32 := Dev.word d5
  let c2_i32_3 : BitVec 32 := 2#32
  let v9 : BitVec 32 := Scalar.divsi v8 c2_i32_3
  let c2_i32_2 : BitVec 32 := 2#32
  let v10 : BitVec 32 := Scalar.remsi v9 c2_i32_2
  let v15 : BitVec 32 := Scalar.muli c2_i32_6 v10
  let v16 : BitVec 32 := Scalar.addi v14 v15
  let v11 : BitVec 32 := Dev.word d5
  let c1_i32 : BitVec 32 := 1#32
  let v12 : BitVec 32 := Scalar.divsi v11 c1_i32
  let c2_i32_4 : BitVec 32 := 2#32
  let v13 : BitVec 32 := Scalar.remsi v12 c2_i32_4
  let v17 : BitVec 32 := Scalar.addi v16 v13
  let c0_i32_179 : BitVec 32 := 0#32
  let c0_i32_180 : BitVec 32 := 0#32
  ![v17.toNat, 0, 0]
def k0_cond4 (i : grid0.Coords) : BitVec 1 :=
  let arg2 : BitVec 32 := BitVec.ofNat 32 (i 2).val
  let c1_i32_60 : BitVec 32 := 1#32
  let v73 : BitVec 1 := Scalar.cmpi .eq arg2 c1_i32_60
  let v74 : BitVec 32 := Scalar.extui v73
  let c0_i32_61 : BitVec 32 := 0#32
  let v75 : BitVec 1 := Scalar.cmpi .ne v74 c0_i32_61
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S16384x4352 : Shape := ⟨2, ![16384, 4352]⟩
abbrev S34816x2048 : Shape := ⟨2, ![34816, 2048]⟩
abbrev S64x256x2048 : Shape := ⟨3, ![64, 256, 2048]⟩
abbrev S64 : Shape := ⟨1, ![64]⟩
abbrev S8x2048x4352 : Shape := ⟨3, ![8, 2048, 4352]⟩
abbrev S8x4352x2048 : Shape := ⟨3, ![8, 4352, 2048]⟩
abbrev S8x2048x2048 : Shape := ⟨3, ![8, 2048, 2048]⟩
abbrev S16384x2048 : Shape := ⟨2, ![16384, 2048]⟩
abbrev S64x128x2048 : Shape := ⟨3, ![64, 128, 2048]⟩
abbrev S_ : Shape := ⟨0, ![]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4352, .bf16⟩
  | .hbm, ⟨1, _⟩ => ⟨S34816x2048, .f32⟩
  | .hbm, ⟨2, _⟩ => ⟨S64x256x2048, .bf16⟩
  | .hbm, ⟨3, _⟩ => ⟨S64, .i32⟩
  | .hbm, ⟨4, _⟩ => ⟨S16384x4352, .f32⟩
  | .hbm, ⟨5, _⟩ => ⟨S8x2048x4352, .f32⟩
  | .hbm, ⟨6, _⟩ => ⟨S34816x2048, .bf16⟩
  | .hbm, ⟨7, _⟩ => ⟨S34816x2048, .f32⟩
  | .hbm, ⟨8, _⟩ => ⟨S8x4352x2048, .f32⟩
  | .hbm, ⟨9, _⟩ => ⟨S8x2048x2048, .f32⟩
  | .hbm, ⟨10, _⟩ => ⟨S8x2048x2048, .bf16⟩
  | .hbm, ⟨11, _⟩ => ⟨S16384x2048, .bf16⟩
  | .hbm, ⟨12, _⟩ => ⟨S64x128x2048, .bf16⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128x2048, .bf16⟩
  | _, _ => ⟨S16384x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InDaKernel.lean ====
abbrev S4352x2048 : Shape := ⟨2, ![4352, 2048]⟩
abbrev S2048x2048 : Shape := ⟨2, ![2048, 2048]⟩
abbrev S8x256x2048 : Shape := ⟨3, ![8, 256, 2048]⟩
abbrev S8x128x2048 : Shape := ⟨3, ![8, 128, 2048]⟩
abbrev S1088x2048 : Shape := ⟨2, ![1088, 2048]⟩
abbrev S1024x2048 : Shape := ⟨2, ![1024, 2048]⟩
abbrev S1088x1024 : Shape := ⟨2, ![1088, 1024]⟩
abbrev S7 : Shape := ⟨1, ![7]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x2048, .bf16⟩
  | .hbm, ⟨2, _⟩ => ⟨S8x256x2048, .bf16⟩
  | .hbm, ⟨3, _⟩ => ⟨S4352x2048, .bf16⟩
  | .hbm, ⟨4, _⟩ => ⟨S8x128x2048, .bf16⟩
  | .local _ .vmem, ⟨0, _⟩ => ⟨S1088x2048, .f32⟩
  | .local _ .vmem, ⟨1, _⟩ => ⟨S1088x2048, .f32⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_5 v7
  let c2_i32_6 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_6 v10
  let v16 : BitVec 32 := Scalar.addi v14 v15
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v17 : BitVec 32 := Scalar.addi v16 v13
  let c128_i32 : BitVec 32 := 128#32
  let c0_i32_84 : BitVec 32 := 0#32
  ![v17.toNat, 128, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_8 v7
  let c2_i32_9 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_9 v10
  let v21 : BitVec 32 := Scalar.addi v19 v20
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let v22 : BitVec 32 := Scalar.addi v21 v18
  let c128_i32_91 : BitVec 32 := 128#32
  let c0_i32_92 : BitVec 32 := 0#32
  ![v22.toNat, 128, 0]
def k0_dev1 (d5 : Dev nD) : Nat :=
  let c0_i32_86 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_85 : BitVec 32 := 4#32
  let v76 : BitVec 32 := Scalar.muli v7 c4_i32_85
  let v77 : BitVec 32 := Scalar.addi c0_i32_86 v76
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_87 : BitVec 32 := 2#32
  let v78 : BitVec 32 := Scalar.muli v10 c2_i32_87
  let v79 : BitVec 32 := Scalar.addi v77 v78
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let c1_i32_88 : BitVec 32 := 1#32
  let v80 : BitVec 32 := Scalar.muli v18 c1_i32_88
  let v81 : BitVec 32 := Scalar.addi v79 v80
  v81.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_11 v7
  let c2_i32_12 : BitVec 32 := 2#32
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let v25 : BitVec 32 := Scalar.muli c2_i32_12 v23
  let v26 : BitVec 32 := Scalar.addi v24 v25
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v27 : BitVec 32 := Scalar.addi v26 v13
  let c128_i32_99 : BitVec 32 := 128#32
  let c0_i32_100 : BitVec 32 := 0#32
  ![v27.toNat, 128, 0]
def k0_dev2 (d5 : Dev nD) : Nat :=
  let c0_i32_94 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_93 : BitVec 32 := 4#32
  let v90 : BitVec 32 := Scalar.muli v7 c4_i32_93
  let v91 : BitVec 32 := Scalar.addi c0_i32_94 v90
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let c2_i32_95 : BitVec 32 := 2#32
  let v92 : BitVec 32 := Scalar.muli v23 c2_i32_95
  let v93 : BitVec 32 := Scalar.addi v91 v92
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_96 : BitVec 32 := 1#32
  let v94 : BitVec 32 := Scalar.muli v13 c1_i32_96
  let v95 : BitVec 32 := Scalar.addi v93 v94
  v95.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_15 v7
  let c2_i32_16 : BitVec 32 := 2#32
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let v33 : BitVec 32 := Scalar.addi v32 v29
  let c128_i32_107 : BitVec 32 := 128#32
  let c0_i32_108 : BitVec 32 := 0#32
  ![v33.toNat, 128, 0]
def k0_dev3 (d5 : Dev nD) : Nat :=
  let c0_i32_102 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_101 : BitVec 32 := 4#32
  let v104 : BitVec 32 := Scalar.muli v7 c4_i32_101
  let v105 : BitVec 32 := Scalar.addi c0_i32_102 v104
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let c2_i32_103 : BitVec 32 := 2#32
  let v106 : BitVec 32 := Scalar.muli v28 c2_i32_103
  let v107 : BitVec 32 := Scalar.addi v105 v106
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let c1_i32_104 : BitVec 32 := 1#32
  let v108 : BitVec 32 := Scalar.muli v29 c1_i32_104
  let v109 : BitVec 32 := Scalar.addi v107 v108
  v109.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let v35 : BitVec 32 := Scalar.muli c4_i32_18 v34
  let c2_i32_19 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_19 v10
  let v37 : BitVec 32 := Scalar.addi v35 v36
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v38 : BitVec 32 := Scalar.addi v37 v13
  let c128_i32_115 : BitVec 32 := 128#32
  let c0_i32_116 : BitVec 32 := 0#32
  ![v38.toNat, 128, 0]
def k0_dev4 (d5 : Dev nD) : Nat :=
  let c0_i32_110 : BitVec 32 := 0#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let c4_i32_109 : BitVec 32 := 4#32
  let v118 : BitVec 32 := Scalar.muli v34 c4_i32_109
  let v119 : BitVec 32 := Scalar.addi c0_i32_110 v118
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_111 : BitVec 32 := 2#32
  let v120 : BitVec 32 := Scalar.muli v10 c2_i32_111
  let v121 : BitVec 32 := Scalar.addi v119 v120
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_112 : BitVec 32 := 1#32
  let v122 : BitVec 32 := Scalar.muli v13 c1_i32_112
  let v123 : BitVec 32 := Scalar.addi v121 v122
  v123.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let v41 : BitVec 32 := Scalar.muli c4_i32_22 v39
  let c2_i32_23 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_23 v10
  let v43 : BitVec 32 := Scalar.addi v41 v42
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let v44 : BitVec 32 := Scalar.addi v43 v40
  let c128_i32_123 : BitVec 32 := 128#32
  let c0_i32_124 : BitVec 32 := 0#32
  ![v44.toNat, 128, 0]
def k0_dev5 (d5 : Dev nD) : Nat :=
  let c0_i32_118 : BitVec 32 := 0#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let c4_i32_117 : BitVec 32 := 4#32
  let v132 : BitVec 32 := Scalar.muli v39 c4_i32_117
  let v133 : BitVec 32 := Scalar.addi c0_i32_118 v132
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_119 : BitVec 32 := 2#32
  let v134 : BitVec 32 := Scalar.muli v10 c2_i32_119
  let v135 : BitVec 32 := Scalar.addi v133 v134
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let c1_i32_120 : BitVec 32 := 1#32
  let v136 : BitVec 32 := Scalar.muli v40 c1_i32_120
  let v137 : BitVec 32 := Scalar.addi v135 v136
  v137.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let v48 : BitVec 32 := Scalar.muli c2_i32_27 v46
  let v49 : BitVec 32 := Scalar.addi v47 v48
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v50 : BitVec 32 := Scalar.addi v49 v13
  let c128_i32_131 : BitVec 32 := 128#32
  let c0_i32_132 : BitVec 32 := 0#32
  ![v50.toNat, 128, 0]
def k0_dev6 (d5 : Dev nD) : Nat :=
  let c0_i32_126 : BitVec 32 := 0#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let c4_i32_125 : BitVec 32 := 4#32
  let v146 : BitVec 32 := Scalar.muli v45 c4_i32_125
  let v147 : BitVec 32 := Scalar.addi c0_i32_126 v146
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let c2_i32_127 : BitVec 32 := 2#32
  let v148 : BitVec 32 := Scalar.muli v46 c2_i32_127
  let v149 : BitVec 32 := Scalar.addi v147 v148
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_128 : BitVec 32 := 1#32
  let v150 : BitVec 32 := Scalar.muli v13 c1_i32_128
  let v151 : BitVec 32 := Scalar.addi v149 v150
  v151.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let v57 : BitVec 32 := Scalar.addi v56 v53
  let c128_i32_139 : BitVec 32 := 128#32
  let c0_i32_140 : BitVec 32 := 0#32
  ![v57.toNat, 128, 0]
def k0_dev7 (d5 : Dev nD) : Nat :=
  let c0_i32_134 : BitVec 32 := 0#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let c4_i32_133 : BitVec 32 := 4#32
  let v160 : BitVec 32 := Scalar.muli v51 c4_i32_133
  let v161 : BitVec 32 := Scalar.addi c0_i32_134 v160
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let c2_i32_135 : BitVec 32 := 2#32
  let v162 : BitVec 32 := Scalar.muli v52 c2_i32_135
  let v163 : BitVec 32 := Scalar.addi v161 v162
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let c1_i32_136 : BitVec 32 := 1#32
  let v164 : BitVec 32 := Scalar.muli v53 c1_i32_136
  let v165 : BitVec 32 := Scalar.addi v163 v164
  v165.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c7_i32_58 : BitVec 32 := 7#32
  let v69 : BitVec 1 := Scalar.cmpi .eq v4 c7_i32_58
  let v70 : BitVec 32 := Scalar.extui v69
  let c0_i32_81 : BitVec 32 := 0#32
  let v71 : BitVec 1 := Scalar.cmpi .ne v70 c0_i32_81
  v71

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_8 v7
  let c2_i32_9 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_9 v10
  let v21 : BitVec 32 := Scalar.addi v19 v20
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let v22 : BitVec 32 := Scalar.addi v21 v18
  let c128_i32 : BitVec 32 := 128#32
  let c0_i32_83 : BitVec 32 := 0#32
  ![v22.toNat, 128, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_11 v7
  let c2_i32_12 : BitVec 32 := 2#32
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let v25 : BitVec 32 := Scalar.muli c2_i32_12 v23
  let v26 : BitVec 32 := Scalar.addi v24 v25
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v27 : BitVec 32 := Scalar.addi v26 v13
  let c128_i32_95 : BitVec 32 := 128#32
  let c0_i32_96 : BitVec 32 := 0#32
  ![v27.toNat, 128, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_15 v7
  let c2_i32_16 : BitVec 32 := 2#32
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let v33 : BitVec 32 := Scalar.addi v32 v29
  let c128_i32_108 : BitVec 32 := 128#32
  let c0_i32_109 : BitVec 32 := 0#32
  ![v33.toNat, 128, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let v35 : BitVec 32 := Scalar.muli c4_i32_18 v34
  let c2_i32_19 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_19 v10
  let v37 : BitVec 32 := Scalar.addi v35 v36
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v38 : BitVec 32 := Scalar.addi v37 v13
  let c128_i32_121 : BitVec 32 := 128#32
  let c0_i32_122 : BitVec 32 := 0#32
  ![v38.toNat, 128, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let v41 : BitVec 32 := Scalar.muli c4_i32_22 v39
  let c2_i32_23 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_23 v10
  let v43 : BitVec 32 := Scalar.addi v41 v42
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let v44 : BitVec 32 := Scalar.addi v43 v40
  let c128_i32_134 : BitVec 32 := 128#32
  let c0_i32_135 : BitVec 32 := 0#32
  ![v44.toNat, 128, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let v48 : BitVec 32 := Scalar.muli c2_i32_27 v46
  let v49 : BitVec 32 := Scalar.addi v47 v48
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v50 : BitVec 32 := Scalar.addi v49 v13
  let c128_i32_147 : BitVec 32 := 128#32
  let c0_i32_148 : BitVec 32 := 0#32
  ![v50.toNat, 128, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let v57 : BitVec 32 := Scalar.addi v56 v53
  let c128_i32_160 : BitVec 32 := 128#32
  let c0_i32_161 : BitVec 32 := 0#32
  ![v57.toNat, 128, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_5 v7
  let c2_i32_6 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_6 v10
  let v16 : BitVec 32 := Scalar.addi v14 v15
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v17 : BitVec 32 := Scalar.addi v16 v13
  let c128_i32_174 : BitVec 32 := 128#32
  let c0_i32_175 : BitVec 32 := 0#32
  ![v17.toNat, 128, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaKernelIdeal.lean ====
abbrev S4352x2048 : Shape := ⟨2, ![4352, 2048]⟩
abbrev S2048x2048 : Shape := ⟨2, ![2048, 2048]⟩
abbrev S8x256x2048 : Shape := ⟨3, ![8, 256, 2048]⟩
abbrev S8x128x2048 : Shape := ⟨3, ![8, 128, 2048]⟩
abbrev S1088x2048 : Shape := ⟨2, ![1088, 2048]⟩
abbrev S1024x2048 : Shape := ⟨2, ![1024, 2048]⟩
abbrev S1088x1024 : Shape := ⟨2, ![1088, 1024]⟩
abbrev S7 : Shape := ⟨1, ![7]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x2048, .bf16⟩
  | .hbm, ⟨2, _⟩ => ⟨S8x256x2048, .bf16⟩
  | .hbm, ⟨3, _⟩ => ⟨S4352x2048, .bf16⟩
  | .hbm, ⟨4, _⟩ => ⟨S8x128x2048, .bf16⟩
  | .local _ .vmem, ⟨0, _⟩ => ⟨S1088x2048, .f32⟩
  | .local _ .vmem, ⟨1, _⟩ => ⟨S1088x2048, .f32⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 2, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_33 : BitVec 32 := 0#32
  let v58 : BitVec 1 := Scalar.cmpi .eq v4 c0_i32_33
  let v59 : BitVec 32 := Scalar.extui v58
  let c0_i32_52 : BitVec 32 := 0#32
  let v60 : BitVec 1 := Scalar.cmpi .ne v59 c0_i32_52
  v60

def k0_off1 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_5 v7
  let c2_i32_6 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_6 v10
  let v16 : BitVec 32 := Scalar.addi v14 v15
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v17 : BitVec 32 := Scalar.addi v16 v13
  let c128_i32 : BitVec 32 := 128#32
  let c0_i32_84 : BitVec 32 := 0#32
  ![v17.toNat, 128, 0]
def k0_off2 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_8 v7
  let c2_i32_9 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_9 v10
  let v21 : BitVec 32 := Scalar.addi v19 v20
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let v22 : BitVec 32 := Scalar.addi v21 v18
  let c128_i32_91 : BitVec 32 := 128#32
  let c0_i32_92 : BitVec 32 := 0#32
  ![v22.toNat, 128, 0]
def k0_dev1 (d5 : Dev nD) : Nat :=
  let c0_i32_86 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_85 : BitVec 32 := 4#32
  let v76 : BitVec 32 := Scalar.muli v7 c4_i32_85
  let v77 : BitVec 32 := Scalar.addi c0_i32_86 v76
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_87 : BitVec 32 := 2#32
  let v78 : BitVec 32 := Scalar.muli v10 c2_i32_87
  let v79 : BitVec 32 := Scalar.addi v77 v78
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let c1_i32_88 : BitVec 32 := 1#32
  let v80 : BitVec 32 := Scalar.muli v18 c1_i32_88
  let v81 : BitVec 32 := Scalar.addi v79 v80
  v81.toNat
def k0_off3 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_11 v7
  let c2_i32_12 : BitVec 32 := 2#32
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let v25 : BitVec 32 := Scalar.muli c2_i32_12 v23
  let v26 : BitVec 32 := Scalar.addi v24 v25
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v27 : BitVec 32 := Scalar.addi v26 v13
  let c128_i32_99 : BitVec 32 := 128#32
  let c0_i32_100 : BitVec 32 := 0#32
  ![v27.toNat, 128, 0]
def k0_dev2 (d5 : Dev nD) : Nat :=
  let c0_i32_94 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_93 : BitVec 32 := 4#32
  let v90 : BitVec 32 := Scalar.muli v7 c4_i32_93
  let v91 : BitVec 32 := Scalar.addi c0_i32_94 v90
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let c2_i32_95 : BitVec 32 := 2#32
  let v92 : BitVec 32 := Scalar.muli v23 c2_i32_95
  let v93 : BitVec 32 := Scalar.addi v91 v92
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_96 : BitVec 32 := 1#32
  let v94 : BitVec 32 := Scalar.muli v13 c1_i32_96
  let v95 : BitVec 32 := Scalar.addi v93 v94
  v95.toNat
def k0_off4 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_15 v7
  let c2_i32_16 : BitVec 32 := 2#32
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let v33 : BitVec 32 := Scalar.addi v32 v29
  let c128_i32_107 : BitVec 32 := 128#32
  let c0_i32_108 : BitVec 32 := 0#32
  ![v33.toNat, 128, 0]
def k0_dev3 (d5 : Dev nD) : Nat :=
  let c0_i32_102 : BitVec 32 := 0#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let c4_i32_101 : BitVec 32 := 4#32
  let v104 : BitVec 32 := Scalar.muli v7 c4_i32_101
  let v105 : BitVec 32 := Scalar.addi c0_i32_102 v104
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let c2_i32_103 : BitVec 32 := 2#32
  let v106 : BitVec 32 := Scalar.muli v28 c2_i32_103
  let v107 : BitVec 32 := Scalar.addi v105 v106
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let c1_i32_104 : BitVec 32 := 1#32
  let v108 : BitVec 32 := Scalar.muli v29 c1_i32_104
  let v109 : BitVec 32 := Scalar.addi v107 v108
  v109.toNat
def k0_off5 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let v35 : BitVec 32 := Scalar.muli c4_i32_18 v34
  let c2_i32_19 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_19 v10
  let v37 : BitVec 32 := Scalar.addi v35 v36
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v38 : BitVec 32 := Scalar.addi v37 v13
  let c128_i32_115 : BitVec 32 := 128#32
  let c0_i32_116 : BitVec 32 := 0#32
  ![v38.toNat, 128, 0]
def k0_dev4 (d5 : Dev nD) : Nat :=
  let c0_i32_110 : BitVec 32 := 0#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let c4_i32_109 : BitVec 32 := 4#32
  let v118 : BitVec 32 := Scalar.muli v34 c4_i32_109
  let v119 : BitVec 32 := Scalar.addi c0_i32_110 v118
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_111 : BitVec 32 := 2#32
  let v120 : BitVec 32 := Scalar.muli v10 c2_i32_111
  let v121 : BitVec 32 := Scalar.addi v119 v120
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_112 : BitVec 32 := 1#32
  let v122 : BitVec 32 := Scalar.muli v13 c1_i32_112
  let v123 : BitVec 32 := Scalar.addi v121 v122
  v123.toNat
def k0_off6 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let v41 : BitVec 32 := Scalar.muli c4_i32_22 v39
  let c2_i32_23 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_23 v10
  let v43 : BitVec 32 := Scalar.addi v41 v42
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let v44 : BitVec 32 := Scalar.addi v43 v40
  let c128_i32_123 : BitVec 32 := 128#32
  let c0_i32_124 : BitVec 32 := 0#32
  ![v44.toNat, 128, 0]
def k0_dev5 (d5 : Dev nD) : Nat :=
  let c0_i32_118 : BitVec 32 := 0#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let c4_i32_117 : BitVec 32 := 4#32
  let v132 : BitVec 32 := Scalar.muli v39 c4_i32_117
  let v133 : BitVec 32 := Scalar.addi c0_i32_118 v132
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let c2_i32_119 : BitVec 32 := 2#32
  let v134 : BitVec 32 := Scalar.muli v10 c2_i32_119
  let v135 : BitVec 32 := Scalar.addi v133 v134
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let c1_i32_120 : BitVec 32 := 1#32
  let v136 : BitVec 32 := Scalar.muli v40 c1_i32_120
  let v137 : BitVec 32 := Scalar.addi v135 v136
  v137.toNat
def k0_off7 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let v48 : BitVec 32 := Scalar.muli c2_i32_27 v46
  let v49 : BitVec 32 := Scalar.addi v47 v48
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v50 : BitVec 32 := Scalar.addi v49 v13
  let c128_i32_131 : BitVec 32 := 128#32
  let c0_i32_132 : BitVec 32 := 0#32
  ![v50.toNat, 128, 0]
def k0_dev6 (d5 : Dev nD) : Nat :=
  let c0_i32_126 : BitVec 32 := 0#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let c4_i32_125 : BitVec 32 := 4#32
  let v146 : BitVec 32 := Scalar.muli v45 c4_i32_125
  let v147 : BitVec 32 := Scalar.addi c0_i32_126 v146
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let c2_i32_127 : BitVec 32 := 2#32
  let v148 : BitVec 32 := Scalar.muli v46 c2_i32_127
  let v149 : BitVec 32 := Scalar.addi v147 v148
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let c1_i32_128 : BitVec 32 := 1#32
  let v150 : BitVec 32 := Scalar.muli v13 c1_i32_128
  let v151 : BitVec 32 := Scalar.addi v149 v150
  v151.toNat
def k0_off8 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let v57 : BitVec 32 := Scalar.addi v56 v53
  let c128_i32_139 : BitVec 32 := 128#32
  let c0_i32_140 : BitVec 32 := 0#32
  ![v57.toNat, 128, 0]
def k0_dev7 (d5 : Dev nD) : Nat :=
  let c0_i32_134 : BitVec 32 := 0#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let c4_i32_133 : BitVec 32 := 4#32
  let v160 : BitVec 32 := Scalar.muli v51 c4_i32_133
  let v161 : BitVec 32 := Scalar.addi c0_i32_134 v160
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let c2_i32_135 : BitVec 32 := 2#32
  let v162 : BitVec 32 := Scalar.muli v52 c2_i32_135
  let v163 : BitVec 32 := Scalar.addi v161 v162
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let c1_i32_136 : BitVec 32 := 1#32
  let v164 : BitVec 32 := Scalar.muli v53 c1_i32_136
  let v165 : BitVec 32 := Scalar.addi v163 v164
  v165.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c2_i32 : BitVec 32 := 2#32
  let v1 : BitVec 32 := Scalar.muli v0 c2_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c7_i32_58 : BitVec 32 := 7#32
  let v69 : BitVec 1 := Scalar.cmpi .eq v4 c7_i32_58
  let v70 : BitVec 32 := Scalar.extui v69
  let c0_i32_81 : BitVec 32 := 0#32
  let v71 : BitVec 1 := Scalar.cmpi .ne v70 c0_i32_81
  v71

def k0_off9 (d5 : Dev nD) : Fin 3 → Nat :=
  let c4_i32_8 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v19 : BitVec 32 := Scalar.muli c4_i32_8 v7
  let c2_i32_9 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v20 : BitVec 32 := Scalar.muli c2_i32_9 v10
  let v21 : BitVec 32 := Scalar.addi v19 v20
  let c1_i32_7 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v18 : BitVec 32 := Scalar.subi c1_i32_7 v13
  let v22 : BitVec 32 := Scalar.addi v21 v18
  let c128_i32 : BitVec 32 := 128#32
  let c0_i32_83 : BitVec 32 := 0#32
  ![v22.toNat, 128, 0]
def k0_off10 (d5 : Dev nD) : Fin 3 → Nat :=
  let c4_i32_11 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v24 : BitVec 32 := Scalar.muli c4_i32_11 v7
  let c2_i32_12 : BitVec 32 := 2#32
  let c1_i32_10 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v23 : BitVec 32 := Scalar.subi c1_i32_10 v10
  let v25 : BitVec 32 := Scalar.muli c2_i32_12 v23
  let v26 : BitVec 32 := Scalar.addi v24 v25
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v27 : BitVec 32 := Scalar.addi v26 v13
  let c128_i32_95 : BitVec 32 := 128#32
  let c0_i32_96 : BitVec 32 := 0#32
  ![v27.toNat, 128, 0]
def k0_off11 (d5 : Dev nD) : Fin 3 → Nat :=
  let c4_i32_15 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v30 : BitVec 32 := Scalar.muli c4_i32_15 v7
  let c2_i32_16 : BitVec 32 := 2#32
  let c1_i32_13 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v28 : BitVec 32 := Scalar.subi c1_i32_13 v10
  let v31 : BitVec 32 := Scalar.muli c2_i32_16 v28
  let v32 : BitVec 32 := Scalar.addi v30 v31
  let c1_i32_14 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v29 : BitVec 32 := Scalar.subi c1_i32_14 v13
  let v33 : BitVec 32 := Scalar.addi v32 v29
  let c128_i32_108 : BitVec 32 := 128#32
  let c0_i32_109 : BitVec 32 := 0#32
  ![v33.toNat, 128, 0]
def k0_off12 (d5 : Dev nD) : Fin 3 → Nat :=
  let c4_i32_18 : BitVec 32 := 4#32
  let c1_i32_17 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v34 : BitVec 32 := Scalar.subi c1_i32_17 v7
  let v35 : BitVec 32 := Scalar.muli c4_i32_18 v34
  let c2_i32_19 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v36 : BitVec 32 := Scalar.muli c2_i32_19 v10
  let v37 : BitVec 32 := Scalar.addi v35 v36
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v38 : BitVec 32 := Scalar.addi v37 v13
  let c128_i32_121 : BitVec 32 := 128#32
  let c0_i32_122 : BitVec 32 := 0#32
  ![v38.toNat, 128, 0]
def k0_off13 (d5 : Dev nD) : Fin 3 → Nat :=
  let c4_i32_22 : BitVec 32 := 4#32
  let c1_i32_20 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v39 : BitVec 32 := Scalar.subi c1_i32_20 v7
  let v41 : BitVec 32 := Scalar.muli c4_i32_22 v39
  let c2_i32_23 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v42 : BitVec 32 := Scalar.muli c2_i32_23 v10
  let v43 : BitVec 32 := Scalar.addi v41 v42
  let c1_i32_21 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v40 : BitVec 32 := Scalar.subi c1_i32_21 v13
  let v44 : BitVec 32 := Scalar.addi v43 v40
  let c128_i32_134 : BitVec 32 := 128#32
  let c0_i32_135 : BitVec 32 := 0#32
  ![v44.toNat, 128, 0]
def k0_off14 (d5 : Dev nD) : Fin 3 → Nat :=
  let c4_i32_26 : BitVec 32 := 4#32
  let c1_i32_24 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v45 : BitVec 32 := Scalar.subi c1_i32_24 v7
  let v47 : BitVec 32 := Scalar.muli c4_i32_26 v45
  let c2_i32_27 : BitVec 32 := 2#32
  let c1_i32_25 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v46 : BitVec 32 := Scalar.subi c1_i32_25 v10
  let v48 : BitVec 32 := Scalar.muli c2_i32_27 v46
  let v49 : BitVec 32 := Scalar.addi v47 v48
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v50 : BitVec 32 := Scalar.addi v49 v13
  let c128_i32_147 : BitVec 32 := 128#32
  let c0_i32_148 : BitVec 32 := 0#32
  ![v50.toNat, 128, 0]
def k0_off15 (d5 : Dev nD) : Fin 3 → Nat :=
  let c4_i32_31 : BitVec 32 := 4#32
  let c1_i32_28 : BitVec 32 := 1#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v51 : BitVec 32 := Scalar.subi c1_i32_28 v7
  let v54 : BitVec 32 := Scalar.muli c4_i32_31 v51
  let c2_i32_32 : BitVec 32 := 2#32
  let c1_i32_29 : BitVec 32 := 1#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v52 : BitVec 32 := Scalar.subi c1_i32_29 v10
  let v55 : BitVec 32 := Scalar.muli c2_i32_32 v52
  let v56 : BitVec 32 := Scalar.addi v54 v55
  let c1_i32_30 : BitVec 32 := 1#32
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v53 : BitVec 32 := Scalar.subi c1_i32_30 v13
  let v57 : BitVec 32 := Scalar.addi v56 v53
  let c128_i32_160 : BitVec 32 := 128#32
  let c0_i32_161 : BitVec 32 := 0#32
  ![v57.toNat, 128, 0]
def k0_off16 (d5 : Dev nD) : Fin 3 → Nat :=
  let c4_i32_5 : BitVec 32 := 4#32
  let v5 : BitVec 32 := Dev.word d5
  let c4_i32 : BitVec 32 := 4#32
  let v6 : BitVec 32 := Scalar.divsi v5 c4_i32
  let c2_i32_0 : BitVec 32 := 2#32
  let v7 : BitVec 32 := Scalar.remsi v6 c2_i32_0
  let v14 : BitVec 32 := Scalar.muli c4_i32_5 v7
  let c2_i32_6 : BitVec 32 := 2#32
  let v8 : BitVec 32 := Dev.word d5
  let c2_i32_2 : BitVec 32 := 2#32
  let v9 : BitVec 32 := Scalar.divsi v8 c2_i32_2
  let c2_i32_1 : BitVec 32 := 2#32
  let v10 : BitVec 32 := Scalar.remsi v9 c2_i32_1
  let v15 : BitVec 32 := Scalar.muli c2_i32_6 v10
  let v16 : BitVec 32 := Scalar.addi v14 v15
  let v11 : BitVec 32 := Dev.word d5
  let c1_i32_4 : BitVec 32 := 1#32
  let v12 : BitVec 32 := Scalar.divsi v11 c1_i32_4
  let c2_i32_3 : BitVec 32 := 2#32
  let v13 : BitVec 32 := Scalar.remsi v12 c2_i32_3
  let v17 : BitVec 32 := Scalar.addi v16 v13
  let c128_i32_174 : BitVec 32 := 128#32
  let c0_i32_175 : BitVec 32 := 0#32
  ![v17.toNat, 128, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaReferenceIdeal.lean ====
abbrev S34816x2048 : Shape := ⟨2, ![34816, 2048]⟩
abbrev S2048x2048 : Shape := ⟨2, ![2048, 2048]⟩
abbrev S64x256x2048 : Shape := ⟨3, ![64, 256, 2048]⟩
abbrev S64 : Shape := ⟨1, ![64]⟩
abbrev S64x128x2048 : Shape := ⟨3, ![64, 128, 2048]⟩
abbrev S_ : Shape := ⟨0, ![]⟩
abbrev S64x1 : Shape := ⟨2, ![64, 1]⟩

abbrev nBuf : Space → Nat
  | .hbm => 20
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S2048x2048, .bf16⟩
  | .hbm, ⟨2, _⟩ => ⟨S64x256x2048, .bf16⟩
  | .hbm, ⟨3, _⟩ => ⟨S64, .i32⟩
  | .hbm, ⟨4, _⟩ => ⟨S34816x2048, .bf16⟩
  | .hbm, ⟨5, _⟩ => ⟨S34816x2048, .f32⟩
  | .hbm, ⟨6, _⟩ => ⟨S2048x2048, .f32⟩
  | .hbm, ⟨7, _⟩ => ⟨S2048x2048, .f32⟩
  | .hbm, ⟨8, _⟩ => ⟨S34816x2048, .f32⟩
  | .hbm, ⟨9, _⟩ => ⟨S34816x2048, .bf16⟩
  | .hbm, ⟨10, _⟩ => ⟨S64x128x2048, .bf16⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64x128x2048, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GatherKernel.lean ====
abbrev S256x2048 : Shape := ⟨2, ![256, 2048]⟩
abbrev S8x256x2048 : Shape := ⟨3, ![8, 256, 2048]⟩
abbrev S7 : Shape := ⟨1, ![7]⟩
abbrev S_ : Shape := ⟨0, ![]⟩
abbrev S1x256x2048 : Shape := ⟨3, ![1, 256, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_30 : BitVec 32 := 0#32
  ![v17.toNat, 0, 0]
def k0_dev1 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v60 : BitVec 32 := Scalar.muli v2 c4_i32_33
  let v61 : BitVec 32 := Scalar.addi c0_i32_34 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v62 : BitVec 32 := Scalar.muli v5 c2_i32_35
  let v63 : BitVec 32 := Scalar.addi v61 v62
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v64 : BitVec 32 := Scalar.muli v9 c1_i32_36
  let v65 : BitVec 32 := Scalar.addi v63 v64
  v65.toNat
def k0_dev2 (d0 : Dev nD) : Nat :=
  let c0_i32_42 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_41 : BitVec 32 := 4#32
  let v72 : BitVec 32 := Scalar.muli v10 c4_i32_41
  let v73 : BitVec 32 := Scalar.addi c0_i32_42 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v74 : BitVec 32 := Scalar.muli v5 c2_i32_43
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v76 : BitVec 32 := Scalar.muli v8 c1_i32_44
  let v77 : BitVec 32 := Scalar.addi v75 v76
  v77.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v84 : BitVec 32 := Scalar.muli v2 c4_i32_49
  let v85 : BitVec 32 := Scalar.addi c0_i32_50 v84
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_51 : BitVec 32 := 2#32
  let v86 : BitVec 32 := Scalar.muli v11 c2_i32_51
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v88 : BitVec 32 := Scalar.muli v8 c1_i32_52
  let v89 : BitVec 32 := Scalar.addi v87 v88
  v89.toNat
def k0_dev4 (d0 : Dev nD) : Nat :=
  let c0_i32_57 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_56 : BitVec 32 := 4#32
  let v96 : BitVec 32 := Scalar.muli v12 c4_i32_56
  let v97 : BitVec 32 := Scalar.addi c0_i32_57 v96
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_58 : BitVec 32 := 2#32
  let v98 : BitVec 32 := Scalar.muli v13 c2_i32_58
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v100 : BitVec 32 := Scalar.muli v8 c1_i32_59
  let v101 : BitVec 32 := Scalar.addi v99 v100
  v101.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherKernelIdeal.lean ====
abbrev S256x2048 : Shape := ⟨2, ![256, 2048]⟩
abbrev S8x256x2048 : Shape := ⟨3, ![8, 256, 2048]⟩
abbrev S7 : Shape := ⟨1, ![7]⟩
abbrev S_ : Shape := ⟨0, ![]⟩
abbrev S1x256x2048 : Shape := ⟨3, ![1, 256, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_30 : BitVec 32 := 0#32
  ![v17.toNat, 0, 0]
def k0_dev1 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v60 : BitVec 32 := Scalar.muli v2 c4_i32_33
  let v61 : BitVec 32 := Scalar.addi c0_i32_34 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v62 : BitVec 32 := Scalar.muli v5 c2_i32_35
  let v63 : BitVec 32 := Scalar.addi v61 v62
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v64 : BitVec 32 := Scalar.muli v9 c1_i32_36
  let v65 : BitVec 32 := Scalar.addi v63 v64
  v65.toNat
def k0_dev2 (d0 : Dev nD) : Nat :=
  let c0_i32_42 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_41 : BitVec 32 := 4#32
  let v72 : BitVec 32 := Scalar.muli v10 c4_i32_41
  let v73 : BitVec 32 := Scalar.addi c0_i32_42 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v74 : BitVec 32 := Scalar.muli v5 c2_i32_43
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v76 : BitVec 32 := Scalar.muli v8 c1_i32_44
  let v77 : BitVec 32 := Scalar.addi v75 v76
  v77.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v84 : BitVec 32 := Scalar.muli v2 c4_i32_49
  let v85 : BitVec 32 := Scalar.addi c0_i32_50 v84
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_51 : BitVec 32 := 2#32
  let v86 : BitVec 32 := Scalar.muli v11 c2_i32_51
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v88 : BitVec 32 := Scalar.muli v8 c1_i32_52
  let v89 : BitVec 32 := Scalar.addi v87 v88
  v89.toNat
def k0_dev4 (d0 : Dev nD) : Nat :=
  let c0_i32_57 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_56 : BitVec 32 := 4#32
  let v96 : BitVec 32 := Scalar.muli v12 c4_i32_56
  let v97 : BitVec 32 := Scalar.addi c0_i32_57 v96
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_58 : BitVec 32 := 2#32
  let v98 : BitVec 32 := Scalar.muli v13 c2_i32_58
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v100 : BitVec 32 := Scalar.muli v8 c1_i32_59
  let v101 : BitVec 32 := Scalar.addi v99 v100
  v101.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherReferenceIdeal.lean ====
abbrev S2048x2048 : Shape := ⟨2, ![2048, 2048]⟩
abbrev S8x256x2048 : Shape := ⟨3, ![8, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ScatterKernel.lean ====
abbrev S8x256x2048 : Shape := ⟨3, ![8, 256, 2048]⟩
abbrev S7 : Shape := ⟨1, ![7]⟩
abbrev S_ : Shape := ⟨0, ![]⟩
abbrev S1x256x2048 : Shape := ⟨3, ![1, 256, 2048]⟩
abbrev S256x2048 : Shape := ⟨2, ![256, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_33 : BitVec 32 := 0#32
  let c0_i32_34 : BitVec 32 := 0#32
  ![v12.toNat, 0, 0]
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_44 : BitVec 32 := 0#32
  let c0_i32_45 : BitVec 32 := 0#32
  ![v17.toNat, 0, 0]
def k0_dev1 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v57 : BitVec 32 := Scalar.muli v2 c4_i32_38
  let v58 : BitVec 32 := Scalar.addi c0_i32_39 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v59 : BitVec 32 := Scalar.muli v5 c2_i32_40
  let v60 : BitVec 32 := Scalar.addi v58 v59
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_41 : BitVec 32 := 1#32
  let v61 : BitVec 32 := Scalar.muli v13 c1_i32_41
  let v62 : BitVec 32 := Scalar.addi v60 v61
  v62.toNat
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_55 : BitVec 32 := 0#32
  let c0_i32_56 : BitVec 32 := 0#32
  ![v22.toNat, 0, 0]
def k0_dev2 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v71 : BitVec 32 := Scalar.muli v2 c4_i32_49
  let v72 : BitVec 32 := Scalar.addi c0_i32_50 v71
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_51 : BitVec 32 := 2#32
  let v73 : BitVec 32 := Scalar.muli v18 c2_i32_51
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v75 : BitVec 32 := Scalar.muli v8 c1_i32_52
  let v76 : BitVec 32 := Scalar.addi v74 v75
  v76.toNat
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_65 : BitVec 32 := 0#32
  let c0_i32_66 : BitVec 32 := 0#32
  ![v28.toNat, 0, 0]
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v85 : BitVec 32 := Scalar.muli v2 c4_i32_59
  let v86 : BitVec 32 := Scalar.addi c0_i32_60 v85
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_61 : BitVec 32 := 2#32
  let v87 : BitVec 32 := Scalar.muli v23 c2_i32_61
  let v88 : BitVec 32 := Scalar.addi v86 v87
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_62 : BitVec 32 := 1#32
  let v89 : BitVec 32 := Scalar.muli v24 c1_i32_62
  let v90 : BitVec 32 := Scalar.addi v88 v89
  v90.toNat
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_76 : BitVec 32 := 0#32
  let c0_i32_77 : BitVec 32 := 0#32
  ![v33.toNat, 0, 0]
def k0_dev4 (d0 : Dev nD) : Nat :=
  let c0_i32_71 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_70 : BitVec 32 := 4#32
  let v99 : BitVec 32 := Scalar.muli v29 c4_i32_70
  let v100 : BitVec 32 := Scalar.addi c0_i32_71 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v101 : BitVec 32 := Scalar.muli v5 c2_i32_72
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v103 : BitVec 32 := Scalar.muli v8 c1_i32_73
  let v104 : BitVec 32 := Scalar.addi v102 v103
  v104.toNat
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_86 : BitVec 32 := 0#32
  let c0_i32_87 : BitVec 32 := 0#32
  ![v39.toNat, 0, 0]
def k0_dev5 (d0 : Dev nD) : Nat :=
  let c0_i32_81 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_80 : BitVec 32 := 4#32
  let v113 : BitVec 32 := Scalar.muli v34 c4_i32_80
  let v114 : BitVec 32 := Scalar.addi c0_i32_81 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v115 : BitVec 32 := Scalar.muli v5 c2_i32_82
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_83 : BitVec 32 := 1#32
  let v117 : BitVec 32 := Scalar.muli v35 c1_i32_83
  let v118 : BitVec 32 := Scalar.addi v116 v117
  v118.toNat
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_96 : BitVec 32 := 0#32
  let c0_i32_97 : BitVec 32 := 0#32
  ![v45.toNat, 0, 0]
def k0_dev6 (d0 : Dev nD) : Nat :=
  let c0_i32_91 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_90 : BitVec 32 := 4#32
  let v127 : BitVec 32 := Scalar.muli v40 c4_i32_90
  let v128 : BitVec 32 := Scalar.addi c0_i32_91 v127
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_92 : BitVec 32 := 2#32
  let v129 : BitVec 32 := Scalar.muli v41 c2_i32_92
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v131 : BitVec 32 := Scalar.muli v8 c1_i32_93
  let v132 : BitVec 32 := Scalar.addi v130 v131
  v132.toNat
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_106 : BitVec 32 := 0#32
  let c0_i32_107 : BitVec 32 := 0#32
  ![v52.toNat, 0, 0]
def k0_dev7 (d0 : Dev nD) : Nat :=
  let c0_i32_101 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_100 : BitVec 32 := 4#32
  let v141 : BitVec 32 := Scalar.muli v46 c4_i32_100
  let v142 : BitVec 32 := Scalar.addi c0_i32_101 v141
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_102 : BitVec 32 := 2#32
  let v143 : BitVec 32 := Scalar.muli v47 c2_i32_102
  let v144 : BitVec 32 := Scalar.addi v142 v143
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_103 : BitVec 32 := 1#32
  let v145 : BitVec 32 := Scalar.muli v48 c1_i32_103
  let v146 : BitVec 32 := Scalar.addi v144 v145
  v146.toNat
-- ==== ScatterKernelIdeal.lean ====
abbrev S8x256x2048 : Shape := ⟨3, ![8, 256, 2048]⟩
abbrev S7 : Shape := ⟨1, ![7]⟩
abbrev S_ : Shape := ⟨0, ![]⟩
abbrev S1x256x2048 : Shape := ⟨3, ![1, 256, 2048]⟩
abbrev S256x2048 : Shape := ⟨2, ![256, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_33 : BitVec 32 := 0#32
  let c0_i32_34 : BitVec 32 := 0#32
  ![v12.toNat, 0, 0]
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_44 : BitVec 32 := 0#32
  let c0_i32_45 : BitVec 32 := 0#32
  ![v17.toNat, 0, 0]
def k0_dev1 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v57 : BitVec 32 := Scalar.muli v2 c4_i32_38
  let v58 : BitVec 32 := Scalar.addi c0_i32_39 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v59 : BitVec 32 := Scalar.muli v5 c2_i32_40
  let v60 : BitVec 32 := Scalar.addi v58 v59
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_41 : BitVec 32 := 1#32
  let v61 : BitVec 32 := Scalar.muli v13 c1_i32_41
  let v62 : BitVec 32 := Scalar.addi v60 v61
  v62.toNat
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_55 : BitVec 32 := 0#32
  let c0_i32_56 : BitVec 32 := 0#32
  ![v22.toNat, 0, 0]
def k0_dev2 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v71 : BitVec 32 := Scalar.muli v2 c4_i32_49
  let v72 : BitVec 32 := Scalar.addi c0_i32_50 v71
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_51 : BitVec 32 := 2#32
  let v73 : BitVec 32 := Scalar.muli v18 c2_i32_51
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v75 : BitVec 32 := Scalar.muli v8 c1_i32_52
  let v76 : BitVec 32 := Scalar.addi v74 v75
  v76.toNat
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_65 : BitVec 32 := 0#32
  let c0_i32_66 : BitVec 32 := 0#32
  ![v28.toNat, 0, 0]
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v85 : BitVec 32 := Scalar.muli v2 c4_i32_59
  let v86 : BitVec 32 := Scalar.addi c0_i32_60 v85
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_61 : BitVec 32 := 2#32
  let v87 : BitVec 32 := Scalar.muli v23 c2_i32_61
  let v88 : BitVec 32 := Scalar.addi v86 v87
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_62 : BitVec 32 := 1#32
  let v89 : BitVec 32 := Scalar.muli v24 c1_i32_62
  let v90 : BitVec 32 := Scalar.addi v88 v89
  v90.toNat
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_76 : BitVec 32 := 0#32
  let c0_i32_77 : BitVec 32 := 0#32
  ![v33.toNat, 0, 0]
def k0_dev4 (d0 : Dev nD) : Nat :=
  let c0_i32_71 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_70 : BitVec 32 := 4#32
  let v99 : BitVec 32 := Scalar.muli v29 c4_i32_70
  let v100 : BitVec 32 := Scalar.addi c0_i32_71 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v101 : BitVec 32 := Scalar.muli v5 c2_i32_72
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v103 : BitVec 32 := Scalar.muli v8 c1_i32_73
  let v104 : BitVec 32 := Scalar.addi v102 v103
  v104.toNat
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_86 : BitVec 32 := 0#32
  let c0_i32_87 : BitVec 32 := 0#32
  ![v39.toNat, 0, 0]
def k0_dev5 (d0 : Dev nD) : Nat :=
  let c0_i32_81 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_80 : BitVec 32 := 4#32
  let v113 : BitVec 32 := Scalar.muli v34 c4_i32_80
  let v114 : BitVec 32 := Scalar.addi c0_i32_81 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v115 : BitVec 32 := Scalar.muli v5 c2_i32_82
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_83 : BitVec 32 := 1#32
  let v117 : BitVec 32 := Scalar.muli v35 c1_i32_83
  let v118 : BitVec 32 := Scalar.addi v116 v117
  v118.toNat
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_96 : BitVec 32 := 0#32
  let c0_i32_97 : BitVec 32 := 0#32
  ![v45.toNat, 0, 0]
def k0_dev6 (d0 : Dev nD) : Nat :=
  let c0_i32_91 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_90 : BitVec 32 := 4#32
  let v127 : BitVec 32 := Scalar.muli v40 c4_i32_90
  let v128 : BitVec 32 := Scalar.addi c0_i32_91 v127
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_92 : BitVec 32 := 2#32
  let v129 : BitVec 32 := Scalar.muli v41 c2_i32_92
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v131 : BitVec 32 := Scalar.muli v8 c1_i32_93
  let v132 : BitVec 32 := Scalar.addi v130 v131
  v132.toNat
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_106 : BitVec 32 := 0#32
  let c0_i32_107 : BitVec 32 := 0#32
  ![v52.toNat, 0, 0]
def k0_dev7 (d0 : Dev nD) : Nat :=
  let c0_i32_101 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_100 : BitVec 32 := 4#32
  let v141 : BitVec 32 := Scalar.muli v46 c4_i32_100
  let v142 : BitVec 32 := Scalar.addi c0_i32_101 v141
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_102 : BitVec 32 := 2#32
  let v143 : BitVec 32 := Scalar.muli v47 c2_i32_102
  let v144 : BitVec 32 := Scalar.addi v142 v143
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_103 : BitVec 32 := 1#32
  let v145 : BitVec 32 := Scalar.muli v48 c1_i32_103
  let v146 : BitVec 32 := Scalar.addi v144 v145
  v146.toNat
-- ==== ScatterReferenceIdeal.lean ====
abbrev S64x256x2048 : Shape := ⟨3, ![64, 256, 2048]⟩
abbrev S64 : Shape := ⟨1, ![64]⟩
abbrev S_ : Shape := ⟨0, ![]⟩
abbrev S64x1 : Shape := ⟨2, ![64, 1]⟩

abbrev nBuf : Space → Nat
  | .hbm => 11
  | .vmem => 0
  | .smem => 0
  | _ => 0

abbrev bufTy : (tb : Table) → Fin (tcTables nBuf tb) → BufTy
  | .hbm, ⟨0, _⟩ => ⟨S64x256x2048, .bf16⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S64x256x2048, .bf16⟩
  | _, _ => ⟨S64x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamInKernel.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ScanUpKernel.lean ====
abbrev S4352x512 : Shape := ⟨2, ![4352, 512]⟩
abbrev S1x2048 : Shape := ⟨2, ![1, 2048]⟩
abbrev S4x128x512 : Shape := ⟨3, ![4, 128, 512]⟩
abbrev S4x512x128 : Shape := ⟨3, ![4, 512, 128]⟩
abbrev S2048x1408 : Shape := ⟨2, ![2048, 1408]⟩
abbrev S4352x2048 : Shape := ⟨2, ![4352, 2048]⟩
abbrev S8x2048x1408 : Shape := ⟨3, ![8, 2048, 1408]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S256x512 : Shape := ⟨2, ![256, 512]⟩
abbrev S7 : Shape := ⟨1, ![7]⟩
abbrev S_ : Shape := ⟨0, ![]⟩
abbrev S1x2048x1408 : Shape := ⟨3, ![1, 2048, 1408]⟩
abbrev S1 : Shape := ⟨1, ![1]⟩
abbrev S8x512 : Shape := ⟨2, ![8, 512]⟩
abbrev S128x512 : Shape := ⟨2, ![128, 512]⟩
abbrev S512x128 : Shape := ⟨2, ![512, 128]⟩
abbrev S256x128 : Shape := ⟨2, ![256, 128]⟩

abbrev nBuf : Space → Nat
  | .hbm => 12
  | .vmem => 22
  | .smem => 0
  | _ => 0

abbrev bufTy : (tb : Table) → Fin (tcTables nBuf tb) → BufTy
  | .hbm, ⟨0, _⟩ => ⟨S4352x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S2048x1408, .bf16⟩
  | .hbm, ⟨8, _⟩ => ⟨S4352x512, .f32⟩
  | .hbm, ⟨9, _⟩ => ⟨S4352x2048, .bf16⟩
  | .hbm, ⟨10, _⟩ => ⟨S4352x2048, .bf16⟩
  | .hbm, ⟨11, _⟩ => ⟨S8x2048x1408, .bf16⟩
  | .local _ .vmem, ⟨0, _⟩ => ⟨S4352x128, .f32⟩
  | .local _ .vmem, ⟨1, _⟩ => ⟨S4352x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S4352x128, .f32⟩
  | .local _ .vmem, ⟨15, _⟩ => ⟨S4352x128, .f32⟩
  | .local _ .vmem, ⟨16, _⟩ => ⟨S4352x512, .bf16⟩
  | .local _ .vmem, ⟨17, _⟩ => ⟨S4352x512, .bf16⟩
  | .local _ .vmem, ⟨18, _⟩ => ⟨S4352x512, .bf16⟩
  | .local _ .vmem, ⟨19, _⟩ => ⟨S4352x512, .bf16⟩
  | .local _ .vmem, ⟨20, _⟩ => ⟨S256x512, .f32⟩
  | .local _ .vmem, ⟨21, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_30 : BitVec 32 := 0#32
  let v59 : BitVec 1 := Scalar.cmpi .eq v0 c0_i32_30
  let v60 : BitVec 32 := Scalar.extui v59
  let c0_i32_38 : BitVec 32 := 0#32
  let v61 : BitVec 1 := Scalar.cmpi .ne v60 c0_i32_38
  v61

def k0_off1 (d1 : Dev nD) : Fin 3 → Nat :=
  let c4_i32_8 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_8 v3
  let c2_i32_9 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_9 v6
  let v17 : BitVec 32 := Scalar.addi v15 v16
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v18 : BitVec 32 := Scalar.addi v17 v9
  let c0_i32_98 : BitVec 32 := 0#32
  let c0_i32_99 : BitVec 32 := 0#32
  ![v18.toNat, 0, 0]
def k0_dev1 (d1 : Dev nD) : Nat :=
  let c0_i32_101 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_100 : BitVec 32 := 4#32
  let v214 : BitVec 32 := Scalar.muli v3 c4_i32_100
  let v215 : BitVec 32 := Scalar.addi c0_i32_101 v214
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_102 : BitVec 32 := 2#32
  let v216 : BitVec 32 := Scalar.muli v6 c2_i32_102
  let v217 : BitVec 32 := Scalar.addi v215 v216
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_103 : BitVec 32 := 1#32
  let v218 : BitVec 32 := Scalar.muli v10 c1_i32_103
  let v219 : BitVec 32 := Scalar.addi v217 v218
  v219.toNat
def k0_dev2 (d1 : Dev nD) : Nat :=
  let c0_i32_107 : BitVec 32 := 0#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let c4_i32_106 : BitVec 32 := 4#32
  let v226 : BitVec 32 := Scalar.muli v11 c4_i32_106
  let v227 : BitVec 32 := Scalar.addi c0_i32_107 v226
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_108 : BitVec 32 := 2#32
  let v228 : BitVec 32 := Scalar.muli v6 c2_i32_108
  let v229 : BitVec 32 := Scalar.addi v227 v228
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_109 : BitVec 32 := 1#32
  let v230 : BitVec 32 := Scalar.muli v9 c1_i32_109
  let v231 : BitVec 32 := Scalar.addi v229 v230
  v231.toNat
def k0_dev3 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v238 : BitVec 32 := Scalar.muli v3 c4_i32_112
  let v239 : BitVec 32 := Scalar.addi c0_i32_113 v238
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let c2_i32_114 : BitVec 32 := 2#32
  let v240 : BitVec 32 := Scalar.muli v12 c2_i32_114
  let v241 : BitVec 32 := Scalar.addi v239 v240
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_115 : BitVec 32 := 1#32
  let v242 : BitVec 32 := Scalar.muli v9 c1_i32_115
  let v243 : BitVec 32 := Scalar.addi v241 v242
  v243.toNat
def k0_dev4 (d1 : Dev nD) : Nat :=
  let c0_i32_119 : BitVec 32 := 0#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let c4_i32_118 : BitVec 32 := 4#32
  let v250 : BitVec 32 := Scalar.muli v13 c4_i32_118
  let v251 : BitVec 32 := Scalar.addi c0_i32_119 v250
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let c2_i32_120 : BitVec 32 := 2#32
  let v252 : BitVec 32 := Scalar.muli v14 c2_i32_120
  let v253 : BitVec 32 := Scalar.addi v251 v252
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_121 : BitVec 32 := 1#32
  let v254 : BitVec 32 := Scalar.muli v9 c1_i32_121
  let v255 : BitVec 32 := Scalar.addi v253 v254
  v255.toNat
@[reducible] def k0_t1_loop : Scf.Loop 32 :=
  let c0_i32_79 : BitVec 32 := 0#32
  let c17_i32 : BitVec 32 := 17#32
  let v207 : BitVec 32 := Scalar.addi c0_i32_79 c17_i32
  let c1_i32_80 : BitVec 32 := 1#32
  ⟨c0_i32_79, v207, c1_i32_80⟩
def k0_mult1 (k0_t1 : Fin k0_t1_loop.trips) : BitVec 32 :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  v212
def k0_off2 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  let v213 : BitVec 32 := v212
  let v214 : Index := Scalar.indexCast v213
  let c0_98 : Index := 0#32
  ![v214.toNat, 0]
@[reducible] def k0_t2_loop : Scf.Loop 32 :=
  let c0_i32_105 : BitVec 32 := 0#32
  let c32_i32 : BitVec 32 := 32#32
  let v226 : BitVec 32 := Scalar.addi c0_i32_105 c32_i32
  let c1_i32_106 : BitVec 32 := 1#32
  ⟨c0_i32_105, v226, c1_i32_106⟩
def k0_mult2 (k0_t2 : Fin k0_t2_loop.trips) : BitVec 32 :=
  let c0_i32_117 : BitVec 32 := 0#32
  let c0_i32_105 : BitVec 32 := 0#32
  let c1_i32_106 : BitVec 32 := 1#32
  let arg21 : BitVec 32 := Scf.iv c0_i32_105 c1_i32_106 k0_t2
  let c8_i32 : BitVec 32 := 8#32
  let v241 : BitVec 32 := Scalar.muli arg21 c8_i32
  let v242 : BitVec 32 := Scalar.addi c0_i32_117 v241
  v242
def k0_off3 (k0_t2 : Fin k0_t2_loop.trips) : Fin 2 → Nat :=
  let c0_i32_117 : BitVec 32 := 0#32
  let c0_i32_105 : BitVec 32 := 0#32
  let c1_i32_106 : BitVec 32 := 1#32
  let arg21 : BitVec 32 := Scf.iv c0_i32_105 c1_i32_106 k0_t2
  let c8_i32 : BitVec 32 := 8#32
  let v241 : BitVec 32 := Scalar.muli arg21 c8_i32
  let v242 : BitVec 32 := Scalar.addi c0_i32_117 v241
  let v243 : BitVec 32 := v242
  let v244 : Index := Scalar.indexCast v243
  let c0_118 : Index := 0#32
  ![v244.toNat, 0]
def k0_off4 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  let v213 : BitVec 32 := v212
  let v232 : Index := Scalar.indexCast v213
  let c0_112 : Index := 0#32
  ![v232.toNat, 0]
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_82 : BitVec 32 := 3#32
  let v209 : BitVec 1 := Scalar.cmpi .eq v0 c3_i32_82
  let v210 : BitVec 32 := Scalar.extui v209
  let c0_i32_97 : BitVec 32 := 0#32
  let v211 : BitVec 1 := Scalar.cmpi .ne v210 c0_i32_97
  v211

def k0_off5 (d1 : Dev nD) : Fin 3 → Nat :=
  let c4_i32_100 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v216 : BitVec 32 := Scalar.muli c4_i32_100 v11
  let c2_i32_101 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v217 : BitVec 32 := Scalar.muli c2_i32_101 v6
  let v218 : BitVec 32 := Scalar.addi v216 v217
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v219 : BitVec 32 := Scalar.addi v218 v9
  let c0_i32_108 : BitVec 32 := 0#32
  let c0_i32_109 : BitVec 32 := 0#32
  ![v219.toNat, 0, 0]
def k0_dev5 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v232 : BitVec 32 := Scalar.muli v3 c4_i32_112
  let v233 : BitVec 32 := Scalar.addi c0_i32_113 v232
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_114 : BitVec 32 := 2#32
  let v234 : BitVec 32 := Scalar.muli v6 c2_i32_114
  let v235 : BitVec 32 := Scalar.addi v233 v234
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_115 : BitVec 32 := 1#32
  let v236 : BitVec 32 := Scalar.muli v10 c1_i32_115
  let v237 : BitVec 32 := Scalar.addi v235 v236
  v237.toNat
def k0_off6 (d1 : Dev nD) : Fin 3 → Nat :=
  let c4_i32_122 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v250 : BitVec 32 := Scalar.muli c4_i32_122 v3
  let c2_i32_123 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v251 : BitVec 32 := Scalar.muli c2_i32_123 v12
  let v252 : BitVec 32 := Scalar.addi v250 v251
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v253 : BitVec 32 := Scalar.addi v252 v9
  let c0_i32_130 : BitVec 32 := 0#32
  let c0_i32_131 : BitVec 32 := 0#32
  ![v253.toNat, 0, 0]
def k0_dev6 (d1 : Dev nD) : Nat :=
  let c0_i32_135 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_134 : BitVec 32 := 4#32
  let v266 : BitVec 32 := Scalar.muli v3 c4_i32_134
  let v267 : BitVec 32 := Scalar.addi c0_i32_135 v266
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_136 : BitVec 32 := 2#32
  let v268 : BitVec 32 := Scalar.muli v6 c2_i32_136
  let v269 : BitVec 32 := Scalar.addi v267 v268
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_137 : BitVec 32 := 1#32
  let v270 : BitVec 32 := Scalar.muli v10 c1_i32_137
  let v271 : BitVec 32 := Scalar.addi v269 v270
  v271.toNat
def k0_off7 (d1 : Dev nD) : Fin 3 → Nat :=
  let c4_i32_144 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v284 : BitVec 32 := Scalar.muli c4_i32_144 v13
  let c2_i32_145 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v285 : BitVec 32 := Scalar.muli c2_i32_145 v14
  let v286 : BitVec 32 := Scalar.addi v284 v285
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v287 : BitVec 32 := Scalar.addi v286 v9
  let c0_i32_152 : BitVec 32 := 0#32
  let c0_i32_153 : BitVec 32 := 0#32
  ![v287.toNat, 0, 0]
def k0_dev7 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v300 : BitVec 32 := Scalar.muli v3 c4_i32_156
  let v301 : BitVec 32 := Scalar.addi c0_i32_157 v300
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_158 : BitVec 32 := 2#32
  let v302 : BitVec 32 := Scalar.muli v6 c2_i32_158
  let v303 : BitVec 32 := Scalar.addi v301 v302
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_159 : BitVec 32 := 1#32
  let v304 : BitVec 32 := Scalar.muli v10 c1_i32_159
  let v305 : BitVec 32 := Scalar.addi v303 v304
  v305.toNat
def k0_off8 (d1 : Dev nD) : Fin 3 → Nat :=
  let c4_i32_166 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v318 : BitVec 32 := Scalar.muli c4_i32_166 v3
  let c2_i32_167 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v319 : BitVec 32 := Scalar.muli c2_i32_167 v6
  let v320 : BitVec 32 := Scalar.addi v318 v319
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let v321 : BitVec 32 := Scalar.addi v320 v10
  let c0_i32_174 : BitVec 32 := 0#32
  let c0_i32_175 : BitVec 32 := 0#32
  ![v321.toNat, 0, 0]
def k0_off9 (d1 : Dev nD) : Fin 3 → Nat :=
  let c4_i32_181 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v339 : BitVec 32 := Scalar.muli c4_i32_181 v11
  let c2_i32_182 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v340 : BitVec 32 := Scalar.muli c2_i32_182 v6
  let v341 : BitVec 32 := Scalar.addi v339 v340
  let c1_i32_178 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v334 : BitVec 32 := Scalar.subi c1_i32_178 v9
  let v342 : BitVec 32 := Scalar.addi v341 v334
  let c0_i32_189 : BitVec 32 := 0#32
  let c0_i32_190 : BitVec 32 := 0#32
  ![v342.toNat, 0, 0]
def k0_off10 (d1 : Dev nD) : Fin 3 → Nat :=
  let c4_i32_196 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v360 : BitVec 32 := Scalar.muli c4_i32_196 v3
  let c2_i32_197 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v361 : BitVec 32 := Scalar.muli c2_i32_197 v12
  let v362 : BitVec 32 := Scalar.addi v360 v361
  let c1_i32_193 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v355 : BitVec 32 := Scalar.subi c1_i32_193 v9
  let v363 : BitVec 32 := Scalar.addi v362 v355
  let c0_i32_204 : BitVec 32 := 0#32
  let c0_i32_205 : BitVec 32 := 0#32
  ![v363.toNat, 0, 0]
def k0_off11 (d1 : Dev nD) : Fin 3 → Nat :=
  let c4_i32_211 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v381 : BitVec 32 := Scalar.muli c4_i32_211 v13
  let c2_i32_212 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v382 : BitVec 32 := Scalar.muli c2_i32_212 v14
  let v383 : BitVec 32 := Scalar.addi v381 v382
  let c1_i32_208 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v376 : BitVec 32 := Scalar.subi c1_i32_208 v9
  let v384 : BitVec 32 := Scalar.addi v383 v376
  let c0_i32_219 : BitVec 32 := 0#32
  let c0_i32_220 : BitVec 32 := 0#32
  ![v384.toNat, 0, 0]
def k0_off12 (d1 : Dev nD) : Fin 3 → Nat :=
  let c4_i32_10 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v19 : BitVec 32 := Scalar.muli c4_i32_10 v3
  let c2_i32_11 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v20 : BitVec 32 := Scalar.muli c2_i32_11 v6
  let v21 : BitVec 32 := Scalar.addi v19 v20
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v22 : BitVec 32 := Scalar.addi v21 v9
  let c0_i32_224 : BitVec 32 := 0#32
  let c0_i32_225 : BitVec 32 := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanUpKernelIdeal.lean ====
abbrev S4352x512 : Shape := ⟨2, ![4352, 512]⟩
abbrev S1x2048 : Shape := ⟨2, ![1, 2048]⟩
abbrev S4x128x512 : Shape := ⟨3, ![4, 128, 512]⟩
abbrev S4x512x128 : Shape := ⟨3, ![4, 512, 128]⟩
abbrev S2048x1408 : Shape := ⟨2, ![2048, 1408]⟩
abbrev S4352x2048 : Shape := ⟨2, ![4352, 2048]⟩
abbrev S8x2048x1408 : Shape := ⟨3, ![8, 2048, 1408]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S256x512 : Shape := ⟨2, ![256, 512]⟩
abbrev S7 : Shape := ⟨1, ![7]⟩
abbrev S_ : Shape := ⟨0, ![]⟩
abbrev S1x2048x1408 : Shape := ⟨3, ![1, 2048, 1408]⟩
abbrev S1 : Shape := ⟨1, ![1]⟩
abbrev S8x512 : Shape := ⟨2, ![8, 512]⟩
abbrev S128x512 : Shape := ⟨2, ![128, 512]⟩
abbrev S512x128 : Shape := ⟨2, ![512, 128]⟩
abbrev S256x128 : Shape := ⟨2, ![256, 128]⟩

abbrev nBuf : Space → Nat
  | .hbm => 12
  | .vmem => 22
  | .smem => 0
  | _ => 0

abbrev bufTy : (tb : Table) → Fin (tcTables nBuf tb) → BufTy
  | .hbm, ⟨0, _⟩ => ⟨S4352x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S2048x1408, .bf16⟩
  | .hbm, ⟨8, _⟩ => ⟨S4352x512, .f32⟩
  | .hbm, ⟨9, _⟩ => ⟨S4352x2048, .bf16⟩
  | .hbm, ⟨10, _⟩ => ⟨S4352x2048, .bf16⟩
  | .hbm, ⟨11, _⟩ => ⟨S8x2048x1408, .bf16⟩
  | .local _ .vmem, ⟨0, _⟩ => ⟨S4352x128, .f32⟩
  | .local _ .vmem, ⟨1, _⟩ => ⟨S4352x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S4352x128, .f32⟩
  | .local _ .vmem, ⟨15, _⟩ => ⟨S4352x128, .f32⟩
  | .local _ .vmem, ⟨16, _⟩ => ⟨S4352x512, .bf16⟩
  | .local _ .vmem, ⟨17, _⟩ => ⟨S4352x512, .bf16⟩
  | .local _ .vmem, ⟨18, _⟩ => ⟨S4352x512, .bf16⟩
  | .local _ .vmem, ⟨19, _⟩ => ⟨S4352x512, .bf16⟩
  | .local _ .vmem, ⟨20, _⟩ => ⟨S256x512, .f32⟩
  | .local _ .vmem, ⟨21, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_30 : BitVec 32 := 0#32
  let v59 : BitVec 1 := Scalar.cmpi .eq v0 c0_i32_30
  let v60 : BitVec 32 := Scalar.extui v59
  let c0_i32_38 : BitVec 32 := 0#32
  let v61 : BitVec 1 := Scalar.cmpi .ne v60 c0_i32_38
  v61

def k0_off1 (d1 : Dev nD) : Fin 3 → Nat :=
  let c4_i32_8 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_8 v3
  let c2_i32_9 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_9 v6
  let v17 : BitVec 32 := Scalar.addi v15 v16
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v18 : BitVec 32 := Scalar.addi v17 v9
  let c0_i32_98 : BitVec 32 := 0#32
  let c0_i32_99 : BitVec 32 := 0#32
  ![v18.toNat, 0, 0]
def k0_dev1 (d1 : Dev nD) : Nat :=
  let c0_i32_101 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_100 : BitVec 32 := 4#32
  let v214 : BitVec 32 := Scalar.muli v3 c4_i32_100
  let v215 : BitVec 32 := Scalar.addi c0_i32_101 v214
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_102 : BitVec 32 := 2#32
  let v216 : BitVec 32 := Scalar.muli v6 c2_i32_102
  let v217 : BitVec 32 := Scalar.addi v215 v216
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_103 : BitVec 32 := 1#32
  let v218 : BitVec 32 := Scalar.muli v10 c1_i32_103
  let v219 : BitVec 32 := Scalar.addi v217 v218
  v219.toNat
def k0_dev2 (d1 : Dev nD) : Nat :=
  let c0_i32_107 : BitVec 32 := 0#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let c4_i32_106 : BitVec 32 := 4#32
  let v226 : BitVec 32 := Scalar.muli v11 c4_i32_106
  let v227 : BitVec 32 := Scalar.addi c0_i32_107 v226
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_108 : BitVec 32 := 2#32
  let v228 : BitVec 32 := Scalar.muli v6 c2_i32_108
  let v229 : BitVec 32 := Scalar.addi v227 v228
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_109 : BitVec 32 := 1#32
  let v230 : BitVec 32 := Scalar.muli v9 c1_i32_109
  let v231 : BitVec 32 := Scalar.addi v229 v230
  v231.toNat
def k0_dev3 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v238 : BitVec 32 := Scalar.muli v3 c4_i32_112
  let v239 : BitVec 32 := Scalar.addi c0_i32_113 v238
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let c2_i32_114 : BitVec 32 := 2#32
  let v240 : BitVec 32 := Scalar.muli v12 c2_i32_114
  let v241 : BitVec 32 := Scalar.addi v239 v240
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_115 : BitVec 32 := 1#32
  let v242 : BitVec 32 := Scalar.muli v9 c1_i32_115
  let v243 : BitVec 32 := Scalar.addi v241 v242
  v243.toNat
def k0_dev4 (d1 : Dev nD) : Nat :=
  let c0_i32_119 : BitVec 32 := 0#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let c4_i32_118 : BitVec 32 := 4#32
  let v250 : BitVec 32 := Scalar.muli v13 c4_i32_118
  let v251 : BitVec 32 := Scalar.addi c0_i32_119 v250
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let c2_i32_120 : BitVec 32 := 2#32
  let v252 : BitVec 32 := Scalar.muli v14 c2_i32_120
  let v253 : BitVec 32 := Scalar.addi v251 v252
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_121 : BitVec 32 := 1#32
  let v254 : BitVec 32 := Scalar.muli v9 c1_i32_121
  let v255 : BitVec 32 := Scalar.addi v253 v254
  v255.toNat
@[reducible] def k0_t1_loop : Scf.Loop 32 :=
  let c0_i32_79 : BitVec 32 := 0#32
  let c17_i32 : BitVec 32 := 17#32
  let v207 : BitVec 32 := Scalar.addi c0_i32_79 c17_i32
  let c1_i32_80 : BitVec 32 := 1#32
  ⟨c0_i32_79, v207, c1_i32_80⟩
def k0_mult1 (k0_t1 : Fin k0_t1_loop.trips) : BitVec 32 :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  v212
def k0_off2 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  let v213 : BitVec 32 := v212
  let v214 : Index := Scalar.indexCast v213
  let c0_98 : Index := 0#32
  ![v214.toNat, 0]
@[reducible] def k0_t2_loop : Scf.Loop 32 :=
  let c0_i32_105 : BitVec 32 := 0#32
  let c32_i32 : BitVec 32 := 32#32
  let v226 : BitVec 32 := Scalar.addi c0_i32_105 c32_i32
  let c1_i32_106 : BitVec 32 := 1#32
  ⟨c0_i32_105, v226, c1_i32_106⟩
def k0_mult2 (k0_t2 : Fin k0_t2_loop.trips) : BitVec 32 :=
  let c0_i32_117 : BitVec 32 := 0#32
  let c0_i32_105 : BitVec 32 := 0#32
  let c1_i32_106 : BitVec 32 := 1#32
  let arg21 : BitVec 32 := Scf.iv c0_i32_105 c1_i32_106 k0_t2
  let c8_i32 : BitVec 32 := 8#32
  let v241 : BitVec 32 := Scalar.muli arg21 c8_i32
  let v242 : BitVec 32 := Scalar.addi c0_i32_117 v241
  v242
def k0_off3 (k0_t2 : Fin k0_t2_loop.trips) : Fin 2 → Nat :=
  let c0_i32_117 : BitVec 32 := 0#32
  let c0_i32_105 : BitVec 32 := 0#32
  let c1_i32_106 : BitVec 32 := 1#32
  let arg21 : BitVec 32 := Scf.iv c0_i32_105 c1_i32_106 k0_t2
  let c8_i32 : BitVec 32 := 8#32
  let v241 : BitVec 32 := Scalar.muli arg21 c8_i32
  let v242 : BitVec 32 := Scalar.addi c0_i32_117 v241
  let v243 : BitVec 32 := v242
  let v244 : Index := Scalar.indexCast v243
  let c0_118 : Index := 0#32
  ![v244.toNat, 0]
def k0_off4 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c256_i32 : BitVec 32 := 256#32
  let v212 : BitVec 32 := Scalar.muli arg18 c256_i32
  let v213 : BitVec 32 := v212
  let v232 : Index := Scalar.indexCast v213
  let c0_112 : Index := 0#32
  ![v232.toNat, 0]
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_82 : BitVec 32 := 3#32
  let v209 : BitVec 1 := Scalar.cmpi .eq v0 c3_i32_82
  let v210 : BitVec 32 := Scalar.extui v209
  let c0_i32_97 : BitVec 32 := 0#32
  let v211 : BitVec 1 := Scalar.cmpi .ne v210 c0_i32_97
  v211

def k0_off5 (d1 : Dev nD) : Fin 3 → Nat :=
  let c4_i32_100 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v216 : BitVec 32 := Scalar.muli c4_i32_100 v11
  let c2_i32_101 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v217 : BitVec 32 := Scalar.muli c2_i32_101 v6
  let v218 : BitVec 32 := Scalar.addi v216 v217
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v219 : BitVec 32 := Scalar.addi v218 v9
  let c0_i32_108 : BitVec 32 := 0#32
  let c0_i32_109 : BitVec 32 := 0#32
  ![v219.toNat, 0, 0]
def k0_dev5 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v232 : BitVec 32 := Scalar.muli v3 c4_i32_112
  let v233 : BitVec 32 := Scalar.addi c0_i32_113 v232
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_114 : BitVec 32 := 2#32
  let v234 : BitVec 32 := Scalar.muli v6 c2_i32_114
  let v235 : BitVec 32 := Scalar.addi v233 v234
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_115 : BitVec 32 := 1#32
  let v236 : BitVec 32 := Scalar.muli v10 c1_i32_115
  let v237 : BitVec 32 := Scalar.addi v235 v236
  v237.toNat
def k0_off6 (d1 : Dev nD) : Fin 3 → Nat :=
  let c4_i32_122 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v250 : BitVec 32 := Scalar.muli c4_i32_122 v3
  let c2_i32_123 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v251 : BitVec 32 := Scalar.muli c2_i32_123 v12
  let v252 : BitVec 32 := Scalar.addi v250 v251
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v253 : BitVec 32 := Scalar.addi v252 v9
  let c0_i32_130 : BitVec 32 := 0#32
  let c0_i32_131 : BitVec 32 := 0#32
  ![v253.toNat, 0, 0]
def k0_dev6 (d1 : Dev nD) : Nat :=
  let c0_i32_135 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_134 : BitVec 32 := 4#32
  let v266 : BitVec 32 := Scalar.muli v3 c4_i32_134
  let v267 : BitVec 32 := Scalar.addi c0_i32_135 v266
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_136 : BitVec 32 := 2#32
  let v268 : BitVec 32 := Scalar.muli v6 c2_i32_136
  let v269 : BitVec 32 := Scalar.addi v267 v268
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_137 : BitVec 32 := 1#32
  let v270 : BitVec 32 := Scalar.muli v10 c1_i32_137
  let v271 : BitVec 32 := Scalar.addi v269 v270
  v271.toNat
def k0_off7 (d1 : Dev nD) : Fin 3 → Nat :=
  let c4_i32_144 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v284 : BitVec 32 := Scalar.muli c4_i32_144 v13
  let c2_i32_145 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v285 : BitVec 32 := Scalar.muli c2_i32_145 v14
  let v286 : BitVec 32 := Scalar.addi v284 v285
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v287 : BitVec 32 := Scalar.addi v286 v9
  let c0_i32_152 : BitVec 32 := 0#32
  let c0_i32_153 : BitVec 32 := 0#32
  ![v287.toNat, 0, 0]
def k0_dev7 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v300 : BitVec 32 := Scalar.muli v3 c4_i32_156
  let v301 : BitVec 32 := Scalar.addi c0_i32_157 v300
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_158 : BitVec 32 := 2#32
  let v302 : BitVec 32 := Scalar.muli v6 c2_i32_158
  let v303 : BitVec 32 := Scalar.addi v301 v302
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_159 : BitVec 32 := 1#32
  let v304 : BitVec 32 := Scalar.muli v10 c1_i32_159
  let v305 : BitVec 32 := Scalar.addi v303 v304
  v305.toNat
def k0_off8 (d1 : Dev nD) : Fin 3 → Nat :=
  let c4_i32_166 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v318 : BitVec 32 := Scalar.muli c4_i32_166 v3
  let c2_i32_167 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v319 : BitVec 32 := Scalar.muli c2_i32_167 v6
  let v320 : BitVec 32 := Scalar.addi v318 v319
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let v321 : BitVec 32 := Scalar.addi v320 v10
  let c0_i32_174 : BitVec 32 := 0#32
  let c0_i32_175 : BitVec 32 := 0#32
  ![v321.toNat, 0, 0]
def k0_off9 (d1 : Dev nD) : Fin 3 → Nat :=
  let c4_i32_181 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v339 : BitVec 32 := Scalar.muli c4_i32_181 v11
  let c2_i32_182 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v340 : BitVec 32 := Scalar.muli c2_i32_182 v6
  let v341 : BitVec 32 := Scalar.addi v339 v340
  let c1_i32_178 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v334 : BitVec 32 := Scalar.subi c1_i32_178 v9
  let v342 : BitVec 32 := Scalar.addi v341 v334
  let c0_i32_189 : BitVec 32 := 0#32
  let c0_i32_190 : BitVec 32 := 0#32
  ![v342.toNat, 0, 0]
def k0_off10 (d1 : Dev nD) : Fin 3 → Nat :=
  let c4_i32_196 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v360 : BitVec 32 := Scalar.muli c4_i32_196 v3
  let c2_i32_197 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v361 : BitVec 32 := Scalar.muli c2_i32_197 v12
  let v362 : BitVec 32 := Scalar.addi v360 v361
  let c1_i32_193 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v355 : BitVec 32 := Scalar.subi c1_i32_193 v9
  let v363 : BitVec 32 := Scalar.addi v362 v355
  let c0_i32_204 : BitVec 32 := 0#32
  let c0_i32_205 : BitVec 32 := 0#32
  ![v363.toNat, 0, 0]
def k0_off11 (d1 : Dev nD) : Fin 3 → Nat :=
  let c4_i32_211 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v381 : BitVec 32 := Scalar.muli c4_i32_211 v13
  let c2_i32_212 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v382 : BitVec 32 := Scalar.muli c2_i32_212 v14
  let v383 : BitVec 32 := Scalar.addi v381 v382
  let c1_i32_208 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v376 : BitVec 32 := Scalar.subi c1_i32_208 v9
  let v384 : BitVec 32 := Scalar.addi v383 v376
  let c0_i32_219 : BitVec 32 := 0#32
  let c0_i32_220 : BitVec 32 := 0#32
  ![v384.toNat, 0, 0]
def k0_off12 (d1 : Dev nD) : Fin 3 → Nat :=
  let c4_i32_10 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v19 : BitVec 32 := Scalar.muli c4_i32_10 v3
  let c2_i32_11 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v20 : BitVec 32 := Scalar.muli c2_i32_11 v6
  let v21 : BitVec 32 := Scalar.addi v19 v20
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v22 : BitVec 32 := Scalar.addi v21 v9
  let c0_i32_224 : BitVec 32 := 0#32
  let c0_i32_225 : BitVec 32 := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanUpReferenceIdeal.lean ====
abbrev S34816x512 : Shape := ⟨2, ![34816, 512]⟩
abbrev S1x2048 : Shape := ⟨2, ![1, 2048]⟩
abbrev S4x128x512 : Shape := ⟨3, ![4, 128, 512]⟩
abbrev S4x512x128 : Shape := ⟨3, ![4, 512, 128]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S34816x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S2048x11264, .bf16⟩
  | .hbm, ⟨8, _⟩ => ⟨S2048x8x1408, .bf16⟩
  | .hbm, ⟨9, _⟩ => ⟨S8x2048x1408, .bf16⟩
  | _, _ => ⟨S34816x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩

abbrev nD : Nat := 1
abbrev τ : Topo := Topo.v7x

variable {F : FTy → Type} [FloatOps F]
-- ==== ScanDownKernel.lean ====
abbrev S4352x512 : Shape := ⟨2, ![4352, 512]⟩
abbrev S1x2048 : Shape := ⟨2, ![1, 2048]⟩
abbrev S4x128x512 : Shape := ⟨3, ![4, 128, 512]⟩
abbrev S4x512x128 : Shape := ⟨3, ![4, 512, 128]⟩
abbrev S704x2048 : Shape := ⟨2, ![704, 2048]⟩
abbrev S4352x2048 : Shape := ⟨2, ![4352, 2048]⟩
abbrev S8x704x2048 : Shape := ⟨3, ![8, 704, 2048]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S256x512 : Shape := ⟨2, ![256, 512]⟩
abbrev S7 : Shape := ⟨1, ![7]⟩
abbrev S_ : Shape := ⟨0, ![]⟩
abbrev S1x704x2048 : Shape := ⟨3, ![1, 704, 2048]⟩
abbrev S1 : Shape := ⟨1, ![1]⟩
abbrev S8x512 : Shape := ⟨2, ![8, 512]⟩
abbrev S128x512 : Shape := ⟨2, ![128, 512]⟩
abbrev S512x128 : Shape := ⟨2, ![512, 128]⟩
abbrev S256x128 : Shape := ⟨2, ![256, 128]⟩

abbrev nBuf : Space → Nat
  | .hbm => 12
  | .vmem => 22
  | .smem => 0
  | _ => 0

abbrev bufTy : (tb : Table) → Fin (tcTables nBuf tb) → BufTy
  | .hbm, ⟨0, _⟩ => ⟨S4352x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S704x2048, .bf16⟩
  | .hbm, ⟨8, _⟩ => ⟨S4352x512, .f32⟩
  | .hbm, ⟨9, _⟩ => ⟨S4352x2048, .bf16⟩
  | .hbm, ⟨10, _⟩ => ⟨S4352x2048, .bf16⟩
  | .hbm, ⟨11, _⟩ => ⟨S8x704x2048, .bf16⟩
  | .local _ .vmem, ⟨0, _⟩ => ⟨S4352x128, .f32⟩
  | .local _ .vmem, ⟨1, _⟩ => ⟨S4352x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S4352x128, .f32⟩
  | .local _ .vmem, ⟨15, _⟩ => ⟨S4352x128, .f32⟩
  | .local _ .vmem, ⟨16, _⟩ => ⟨S4352x512, .bf16⟩
  | .local _ .vmem, ⟨17, _⟩ => ⟨S4352x512, .bf16⟩
  | .local _ .vmem, ⟨18, _⟩ => ⟨S4352x512, .bf16⟩
  | .local _ .vmem, ⟨19, _⟩ => ⟨S4352x512, .bf16⟩
  | .local _ .vmem, ⟨20, _⟩ => ⟨S256x512, .f32⟩
  | .local _ .vmem, ⟨21, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_30 : BitVec 32 := 0#32
  let v59 : BitVec 1 := Scalar.cmpi .eq v0 c0_i32_30
  let v60 : BitVec 32 := Scalar.extui v59
  let c0_i32_38 : BitVec 32 := 0#32
  let v61 : BitVec 1 := Scalar.cmpi .ne v60 c0_i32_38
  v61

def k0_off1 (d1 : Dev nD) : Fin 3 → Nat :=
  let c4_i32_8 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_8 v3
  let c2_i32_9 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_9 v6
  let v17 : BitVec 32 := Scalar.addi v15 v16
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v18 : BitVec 32 := Scalar.addi v17 v9
  let c0_i32_98 : BitVec 32 := 0#32
  let c0_i32_99 : BitVec 32 := 0#32
  ![v18.toNat, 0, 0]
def k0_dev1 (d1 : Dev nD) : Nat :=
  let c0_i32_101 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_100 : BitVec 32 := 4#32
  let v214 : BitVec 32 := Scalar.muli v3 c4_i32_100
  let v215 : BitVec 32 := Scalar.addi c0_i32_101 v214
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_102 : BitVec 32 := 2#32
  let v216 : BitVec 32 := Scalar.muli v6 c2_i32_102
  let v217 : BitVec 32 := Scalar.addi v215 v216
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_103 : BitVec 32 := 1#32
  let v218 : BitVec 32 := Scalar.muli v10 c1_i32_103
  let v219 : BitVec 32 := Scalar.addi v217 v218
  v219.toNat
def k0_dev2 (d1 : Dev nD) : Nat :=
  let c0_i32_107 : BitVec 32 := 0#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let c4_i32_106 : BitVec 32 := 4#32
  let v226 : BitVec 32 := Scalar.muli v11 c4_i32_106
  let v227 : BitVec 32 := Scalar.addi c0_i32_107 v226
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_108 : BitVec 32 := 2#32
  let v228 : BitVec 32 := Scalar.muli v6 c2_i32_108
  let v229 : BitVec 32 := Scalar.addi v227 v228
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_109 : BitVec 32 := 1#32
  let v230 : BitVec 32 := Scalar.muli v9 c1_i32_109
  let v231 : BitVec 32 := Scalar.addi v229 v230
  v231.toNat
def k0_dev3 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v238 : BitVec 32 := Scalar.muli v3 c4_i32_112
  let v239 : BitVec 32 := Scalar.addi c0_i32_113 v238
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let c2_i32_114 : BitVec 32 := 2#32
  let v240 : BitVec 32 := Scalar.muli v12 c2_i32_114
  let v241 : BitVec 32 := Scalar.addi v239 v240
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_115 : BitVec 32 := 1#32
  let v242 : BitVec 32 := Scalar.muli v9 c1_i32_115
  let v243 : BitVec 32 := Scalar.addi v241 v242
  v243.toNat
def k0_dev4 (d1 : Dev nD) : Nat :=
  let c0_i32_119 : BitVec 32 := 0#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let c4_i32_118 : BitVec 32 := 4#32
  let v250 : BitVec 32 := Scalar.muli v13 c4_i32_118
  let v251 : BitVec 32 := Scalar.addi c0_i32_119 v250
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let c2_i32_120 : BitVec 32 := 2#32
  let v252 : BitVec 32 := Scalar.muli v14 c2_i32_120
  let v253 : BitVec 32 := Scalar.addi v251 v252
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_121 : BitVec 32 := 1#32
  let v254 : BitVec 32 := Scalar.muli v9 c1_i32_121
  let v255 : BitVec 32 := Scalar.addi v253 v254
  v255.toNat
@[reducible] def k0_t1_loop : Scf.Loop 32 :=
  let c0_i32_79 : BitVec 32 := 0#32
  let c17_i32 : BitVec 32 := 17#32
  let v207 : BitVec 32 := Scalar.addi c0_i32_79 c17_i32
  let c1_i32_80 : BitVec 32 := 1#32
  ⟨c0_i32_79, v207, c1_i32_80⟩
def k0_mult1 (k0_t1 : Fin k0_t1_loop.trips) : BitVec 32 :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  v215
def k0_off2 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  let v216 : BitVec 32 := v215
  let v217 : Index := Scalar.indexCast v216
  let c0_101 : Index := 0#32
  ![v217.toNat, 0]
@[reducible] def k0_t2_loop : Scf.Loop 32 :=
  let c0_i32_108 : BitVec 32 := 0#32
  let c32_i32 : BitVec 32 := 32#32
  let v229 : BitVec 32 := Scalar.addi c0_i32_108 c32_i32
  let c1_i32_109 : BitVec 32 := 1#32
  ⟨c0_i32_108, v229, c1_i32_109⟩
def k0_mult2 (k0_t2 : Fin k0_t2_loop.trips) : BitVec 32 :=
  let c0_i32_120 : BitVec 32 := 0#32
  let c31_i32 : BitVec 32 := 31#32
  let c0_i32_108 : BitVec 32 := 0#32
  let c1_i32_109 : BitVec 32 := 1#32
  let arg21 : BitVec 32 := Scf.iv c0_i32_108 c1_i32_109 k0_t2
  let v244 : BitVec 32 := Scalar.subi c31_i32 arg21
  let c8_i32 : BitVec 32 := 8#32
  let v245 : BitVec 32 := Scalar.muli v244 c8_i32
  let v246 : BitVec 32 := Scalar.addi c0_i32_120 v245
  v246
def k0_off3 (k0_t2 : Fin k0_t2_loop.trips) : Fin 2 → Nat :=
  let c0_i32_120 : BitVec 32 := 0#32
  let c31_i32 : BitVec 32 := 31#32
  let c0_i32_108 : BitVec 32 := 0#32
  let c1_i32_109 : BitVec 32 := 1#32
  let arg21 : BitVec 32 := Scf.iv c0_i32_108 c1_i32_109 k0_t2
  let v244 : BitVec 32 := Scalar.subi c31_i32 arg21
  let c8_i32 : BitVec 32 := 8#32
  let v245 : BitVec 32 := Scalar.muli v244 c8_i32
  let v246 : BitVec 32 := Scalar.addi c0_i32_120 v245
  let v247 : BitVec 32 := v246
  let v248 : Index := Scalar.indexCast v247
  let c0_121 : Index := 0#32
  ![v248.toNat, 0]
def k0_off4 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  let v216 : BitVec 32 := v215
  let v235 : Index := Scalar.indexCast v216
  let c0_115 : Index := 0#32
  ![v235.toNat, 0]
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_82 : BitVec 32 := 3#32
  let v209 : BitVec 1 := Scalar.cmpi .eq v0 c3_i32_82
  let v210 : BitVec 32 := Scalar.extui v209
  let c0_i32_97 : BitVec 32 := 0#32
  let v211 : BitVec 1 := Scalar.cmpi .ne v210 c0_i32_97
  v211

def k0_off5 (d1 : Dev nD) : Fin 3 → Nat :=
  let c4_i32_100 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v216 : BitVec 32 := Scalar.muli c4_i32_100 v11
  let c2_i32_101 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v217 : BitVec 32 := Scalar.muli c2_i32_101 v6
  let v218 : BitVec 32 := Scalar.addi v216 v217
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v219 : BitVec 32 := Scalar.addi v218 v9
  let c0_i32_108 : BitVec 32 := 0#32
  let c0_i32_109 : BitVec 32 := 0#32
  ![v219.toNat, 0, 0]
def k0_dev5 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v232 : BitVec 32 := Scalar.muli v3 c4_i32_112
  let v233 : BitVec 32 := Scalar.addi c0_i32_113 v232
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_114 : BitVec 32 := 2#32
  let v234 : BitVec 32 := Scalar.muli v6 c2_i32_114
  let v235 : BitVec 32 := Scalar.addi v233 v234
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_115 : BitVec 32 := 1#32
  let v236 : BitVec 32 := Scalar.muli v10 c1_i32_115
  let v237 : BitVec 32 := Scalar.addi v235 v236
  v237.toNat
def k0_off6 (d1 : Dev nD) : Fin 3 → Nat :=
  let c4_i32_122 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v250 : BitVec 32 := Scalar.muli c4_i32_122 v3
  let c2_i32_123 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v251 : BitVec 32 := Scalar.muli c2_i32_123 v12
  let v252 : BitVec 32 := Scalar.addi v250 v251
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v253 : BitVec 32 := Scalar.addi v252 v9
  let c0_i32_130 : BitVec 32 := 0#32
  let c0_i32_131 : BitVec 32 := 0#32
  ![v253.toNat, 0, 0]
def k0_dev6 (d1 : Dev nD) : Nat :=
  let c0_i32_135 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_134 : BitVec 32 := 4#32
  let v266 : BitVec 32 := Scalar.muli v3 c4_i32_134
  let v267 : BitVec 32 := Scalar.addi c0_i32_135 v266
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_136 : BitVec 32 := 2#32
  let v268 : BitVec 32 := Scalar.muli v6 c2_i32_136
  let v269 : BitVec 32 := Scalar.addi v267 v268
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_137 : BitVec 32 := 1#32
  let v270 : BitVec 32 := Scalar.muli v10 c1_i32_137
  let v271 : BitVec 32 := Scalar.addi v269 v270
  v271.toNat
def k0_off7 (d1 : Dev nD) : Fin 3 → Nat :=
  let c4_i32_144 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v284 : BitVec 32 := Scalar.muli c4_i32_144 v13
  let c2_i32_145 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v285 : BitVec 32 := Scalar.muli c2_i32_145 v14
  let v286 : BitVec 32 := Scalar.addi v284 v285
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v287 : BitVec 32 := Scalar.addi v286 v9
  let c0_i32_152 : BitVec 32 := 0#32
  let c0_i32_153 : BitVec 32 := 0#32
  ![v287.toNat, 0, 0]
def k0_dev7 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v300 : BitVec 32 := Scalar.muli v3 c4_i32_156
  let v301 : BitVec 32 := Scalar.addi c0_i32_157 v300
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_158 : BitVec 32 := 2#32
  let v302 : BitVec 32 := Scalar.muli v6 c2_i32_158
  let v303 : BitVec 32 := Scalar.addi v301 v302
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_159 : BitVec 32 := 1#32
  let v304 : BitVec 32 := Scalar.muli v10 c1_i32_159
  let v305 : BitVec 32 := Scalar.addi v303 v304
  v305.toNat
def k0_off8 (d1 : Dev nD) : Fin 3 → Nat :=
  let c4_i32_166 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v318 : BitVec 32 := Scalar.muli c4_i32_166 v3
  let c2_i32_167 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v319 : BitVec 32 := Scalar.muli c2_i32_167 v6
  let v320 : BitVec 32 := Scalar.addi v318 v319
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let v321 : BitVec 32 := Scalar.addi v320 v10
  let c0_i32_174 : BitVec 32 := 0#32
  let c0_i32_175 : BitVec 32 := 0#32
  ![v321.toNat, 0, 0]
def k0_off9 (d1 : Dev nD) : Fin 3 → Nat :=
  let c4_i32_181 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v339 : BitVec 32 := Scalar.muli c4_i32_181 v11
  let c2_i32_182 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v340 : BitVec 32 := Scalar.muli c2_i32_182 v6
  let v341 : BitVec 32 := Scalar.addi v339 v340
  let c1_i32_178 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v334 : BitVec 32 := Scalar.subi c1_i32_178 v9
  let v342 : BitVec 32 := Scalar.addi v341 v334
  let c0_i32_189 : BitVec 32 := 0#32
  let c0_i32_190 : BitVec 32 := 0#32
  ![v342.toNat, 0, 0]
def k0_off10 (d1 : Dev nD) : Fin 3 → Nat :=
  let c4_i32_196 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v360 : BitVec 32 := Scalar.muli c4_i32_196 v3
  let c2_i32_197 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v361 : BitVec 32 := Scalar.muli c2_i32_197 v12
  let v362 : BitVec 32 := Scalar.addi v360 v361
  let c1_i32_193 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v355 : BitVec 32 := Scalar.subi c1_i32_193 v9
  let v363 : BitVec 32 := Scalar.addi v362 v355
  let c0_i32_204 : BitVec 32 := 0#32
  let c0_i32_205 : BitVec 32 := 0#32
  ![v363.toNat, 0, 0]
def k0_off11 (d1 : Dev nD) : Fin 3 → Nat :=
  let c4_i32_211 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v381 : BitVec 32 := Scalar.muli c4_i32_211 v13
  let c2_i32_212 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v382 : BitVec 32 := Scalar.muli c2_i32_212 v14
  let v383 : BitVec 32 := Scalar.addi v381 v382
  let c1_i32_208 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v376 : BitVec 32 := Scalar.subi c1_i32_208 v9
  let v384 : BitVec 32 := Scalar.addi v383 v376
  let c0_i32_219 : BitVec 32 := 0#32
  let c0_i32_220 : BitVec 32 := 0#32
  ![v384.toNat, 0, 0]
def k0_off12 (d1 : Dev nD) : Fin 3 → Nat :=
  let c4_i32_10 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v19 : BitVec 32 := Scalar.muli c4_i32_10 v3
  let c2_i32_11 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v20 : BitVec 32 := Scalar.muli c2_i32_11 v6
  let v21 : BitVec 32 := Scalar.addi v19 v20
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v22 : BitVec 32 := Scalar.addi v21 v9
  let c0_i32_224 : BitVec 32 := 0#32
  let c0_i32_225 : BitVec 32 := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanDownKernelIdeal.lean ====
abbrev S4352x512 : Shape := ⟨2, ![4352, 512]⟩
abbrev S1x2048 : Shape := ⟨2, ![1, 2048]⟩
abbrev S4x128x512 : Shape := ⟨3, ![4, 128, 512]⟩
abbrev S4x512x128 : Shape := ⟨3, ![4, 512, 128]⟩
abbrev S704x2048 : Shape := ⟨2, ![704, 2048]⟩
abbrev S4352x2048 : Shape := ⟨2, ![4352, 2048]⟩
abbrev S8x704x2048 : Shape := ⟨3, ![8, 704, 2048]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S256x512 : Shape := ⟨2, ![256, 512]⟩
abbrev S7 : Shape := ⟨1, ![7]⟩
abbrev S_ : Shape := ⟨0, ![]⟩
abbrev S1x704x2048 : Shape := ⟨3, ![1, 704, 2048]⟩
abbrev S1 : Shape := ⟨1, ![1]⟩
abbrev S8x512 : Shape := ⟨2, ![8, 512]⟩
abbrev S128x512 : Shape := ⟨2, ![128, 512]⟩
abbrev S512x128 : Shape := ⟨2, ![512, 128]⟩
abbrev S256x128 : Shape := ⟨2, ![256, 128]⟩

abbrev nBuf : Space → Nat
  | .hbm => 12
  | .vmem => 22
  | .smem => 0
  | _ => 0

abbrev bufTy : (tb : Table) → Fin (tcTables nBuf tb) → BufTy
  | .hbm, ⟨0, _⟩ => ⟨S4352x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S704x2048, .bf16⟩
  | .hbm, ⟨8, _⟩ => ⟨S4352x512, .f32⟩
  | .hbm, ⟨9, _⟩ => ⟨S4352x2048, .bf16⟩
  | .hbm, ⟨10, _⟩ => ⟨S4352x2048, .bf16⟩
  | .hbm, ⟨11, _⟩ => ⟨S8x704x2048, .bf16⟩
  | .local _ .vmem, ⟨0, _⟩ => ⟨S4352x128, .f32⟩
  | .local _ .vmem, ⟨1, _⟩ => ⟨S4352x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S4352x128, .f32⟩
  | .local _ .vmem, ⟨15, _⟩ => ⟨S4352x128, .f32⟩
  | .local _ .vmem, ⟨16, _⟩ => ⟨S4352x512, .bf16⟩
  | .local _ .vmem, ⟨17, _⟩ => ⟨S4352x512, .bf16⟩
  | .local _ .vmem, ⟨18, _⟩ => ⟨S4352x512, .bf16⟩
  | .local _ .vmem, ⟨19, _⟩ => ⟨S4352x512, .bf16⟩
  | .local _ .vmem, ⟨20, _⟩ => ⟨S256x512, .f32⟩
  | .local _ .vmem, ⟨21, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_30 : BitVec 32 := 0#32
  let v59 : BitVec 1 := Scalar.cmpi .eq v0 c0_i32_30
  let v60 : BitVec 32 := Scalar.extui v59
  let c0_i32_38 : BitVec 32 := 0#32
  let v61 : BitVec 1 := Scalar.cmpi .ne v60 c0_i32_38
  v61

def k0_off1 (d1 : Dev nD) : Fin 3 → Nat :=
  let c4_i32_8 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_8 v3
  let c2_i32_9 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_9 v6
  let v17 : BitVec 32 := Scalar.addi v15 v16
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v18 : BitVec 32 := Scalar.addi v17 v9
  let c0_i32_98 : BitVec 32 := 0#32
  let c0_i32_99 : BitVec 32 := 0#32
  ![v18.toNat, 0, 0]
def k0_dev1 (d1 : Dev nD) : Nat :=
  let c0_i32_101 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_100 : BitVec 32 := 4#32
  let v214 : BitVec 32 := Scalar.muli v3 c4_i32_100
  let v215 : BitVec 32 := Scalar.addi c0_i32_101 v214
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_102 : BitVec 32 := 2#32
  let v216 : BitVec 32 := Scalar.muli v6 c2_i32_102
  let v217 : BitVec 32 := Scalar.addi v215 v216
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_103 : BitVec 32 := 1#32
  let v218 : BitVec 32 := Scalar.muli v10 c1_i32_103
  let v219 : BitVec 32 := Scalar.addi v217 v218
  v219.toNat
def k0_dev2 (d1 : Dev nD) : Nat :=
  let c0_i32_107 : BitVec 32 := 0#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let c4_i32_106 : BitVec 32 := 4#32
  let v226 : BitVec 32 := Scalar.muli v11 c4_i32_106
  let v227 : BitVec 32 := Scalar.addi c0_i32_107 v226
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_108 : BitVec 32 := 2#32
  let v228 : BitVec 32 := Scalar.muli v6 c2_i32_108
  let v229 : BitVec 32 := Scalar.addi v227 v228
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_109 : BitVec 32 := 1#32
  let v230 : BitVec 32 := Scalar.muli v9 c1_i32_109
  let v231 : BitVec 32 := Scalar.addi v229 v230
  v231.toNat
def k0_dev3 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v238 : BitVec 32 := Scalar.muli v3 c4_i32_112
  let v239 : BitVec 32 := Scalar.addi c0_i32_113 v238
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let c2_i32_114 : BitVec 32 := 2#32
  let v240 : BitVec 32 := Scalar.muli v12 c2_i32_114
  let v241 : BitVec 32 := Scalar.addi v239 v240
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_115 : BitVec 32 := 1#32
  let v242 : BitVec 32 := Scalar.muli v9 c1_i32_115
  let v243 : BitVec 32 := Scalar.addi v241 v242
  v243.toNat
def k0_dev4 (d1 : Dev nD) : Nat :=
  let c0_i32_119 : BitVec 32 := 0#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let c4_i32_118 : BitVec 32 := 4#32
  let v250 : BitVec 32 := Scalar.muli v13 c4_i32_118
  let v251 : BitVec 32 := Scalar.addi c0_i32_119 v250
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let c2_i32_120 : BitVec 32 := 2#32
  let v252 : BitVec 32 := Scalar.muli v14 c2_i32_120
  let v253 : BitVec 32 := Scalar.addi v251 v252
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_121 : BitVec 32 := 1#32
  let v254 : BitVec 32 := Scalar.muli v9 c1_i32_121
  let v255 : BitVec 32 := Scalar.addi v253 v254
  v255.toNat
@[reducible] def k0_t1_loop : Scf.Loop 32 :=
  let c0_i32_79 : BitVec 32 := 0#32
  let c17_i32 : BitVec 32 := 17#32
  let v207 : BitVec 32 := Scalar.addi c0_i32_79 c17_i32
  let c1_i32_80 : BitVec 32 := 1#32
  ⟨c0_i32_79, v207, c1_i32_80⟩
def k0_mult1 (k0_t1 : Fin k0_t1_loop.trips) : BitVec 32 :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  v215
def k0_off2 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  let v216 : BitVec 32 := v215
  let v217 : Index := Scalar.indexCast v216
  let c0_101 : Index := 0#32
  ![v217.toNat, 0]
@[reducible] def k0_t2_loop : Scf.Loop 32 :=
  let c0_i32_108 : BitVec 32 := 0#32
  let c32_i32 : BitVec 32 := 32#32
  let v229 : BitVec 32 := Scalar.addi c0_i32_108 c32_i32
  let c1_i32_109 : BitVec 32 := 1#32
  ⟨c0_i32_108, v229, c1_i32_109⟩
def k0_mult2 (k0_t2 : Fin k0_t2_loop.trips) : BitVec 32 :=
  let c0_i32_120 : BitVec 32 := 0#32
  let c31_i32 : BitVec 32 := 31#32
  let c0_i32_108 : BitVec 32 := 0#32
  let c1_i32_109 : BitVec 32 := 1#32
  let arg21 : BitVec 32 := Scf.iv c0_i32_108 c1_i32_109 k0_t2
  let v244 : BitVec 32 := Scalar.subi c31_i32 arg21
  let c8_i32 : BitVec 32 := 8#32
  let v245 : BitVec 32 := Scalar.muli v244 c8_i32
  let v246 : BitVec 32 := Scalar.addi c0_i32_120 v245
  v246
def k0_off3 (k0_t2 : Fin k0_t2_loop.trips) : Fin 2 → Nat :=
  let c0_i32_120 : BitVec 32 := 0#32
  let c31_i32 : BitVec 32 := 31#32
  let c0_i32_108 : BitVec 32 := 0#32
  let c1_i32_109 : BitVec 32 := 1#32
  let arg21 : BitVec 32 := Scf.iv c0_i32_108 c1_i32_109 k0_t2
  let v244 : BitVec 32 := Scalar.subi c31_i32 arg21
  let c8_i32 : BitVec 32 := 8#32
  let v245 : BitVec 32 := Scalar.muli v244 c8_i32
  let v246 : BitVec 32 := Scalar.addi c0_i32_120 v245
  let v247 : BitVec 32 := v246
  let v248 : Index := Scalar.indexCast v247
  let c0_121 : Index := 0#32
  ![v248.toNat, 0]
def k0_off4 (k0_t1 : Fin k0_t1_loop.trips) : Fin 2 → Nat :=
  let c0_i32_79 : BitVec 32 := 0#32
  let c1_i32_80 : BitVec 32 := 1#32
  let arg18 : BitVec 32 := Scf.iv c0_i32_79 c1_i32_80 k0_t1
  let c0_i32_98 : BitVec 32 := 0#32
  let v212 : BitVec 1 := Scalar.cmpi .eq arg18 c0_i32_98
  let c0_i32_100 : BitVec 32 := 0#32
  let c17_i32_99 : BitVec 32 := 17#32
  let v213 : BitVec 32 := Scalar.subi c17_i32_99 arg18
  let v214 : BitVec 32 := Scalar.select v212 c0_i32_100 v213
  let c256_i32 : BitVec 32 := 256#32
  let v215 : BitVec 32 := Scalar.muli v214 c256_i32
  let v216 : BitVec 32 := v215
  let v235 : Index := Scalar.indexCast v216
  let c0_115 : Index := 0#32
  ![v235.toNat, 0]
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_82 : BitVec 32 := 3#32
  let v209 : BitVec 1 := Scalar.cmpi .eq v0 c3_i32_82
  let v210 : BitVec 32 := Scalar.extui v209
  let c0_i32_97 : BitVec 32 := 0#32
  let v211 : BitVec 1 := Scalar.cmpi .ne v210 c0_i32_97
  v211

def k0_off5 (d1 : Dev nD) : Fin 3 → Nat :=
  let c4_i32_100 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v216 : BitVec 32 := Scalar.muli c4_i32_100 v11
  let c2_i32_101 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v217 : BitVec 32 := Scalar.muli c2_i32_101 v6
  let v218 : BitVec 32 := Scalar.addi v216 v217
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v219 : BitVec 32 := Scalar.addi v218 v9
  let c0_i32_108 : BitVec 32 := 0#32
  let c0_i32_109 : BitVec 32 := 0#32
  ![v219.toNat, 0, 0]
def k0_dev5 (d1 : Dev nD) : Nat :=
  let c0_i32_113 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_112 : BitVec 32 := 4#32
  let v232 : BitVec 32 := Scalar.muli v3 c4_i32_112
  let v233 : BitVec 32 := Scalar.addi c0_i32_113 v232
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_114 : BitVec 32 := 2#32
  let v234 : BitVec 32 := Scalar.muli v6 c2_i32_114
  let v235 : BitVec 32 := Scalar.addi v233 v234
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_115 : BitVec 32 := 1#32
  let v236 : BitVec 32 := Scalar.muli v10 c1_i32_115
  let v237 : BitVec 32 := Scalar.addi v235 v236
  v237.toNat
def k0_off6 (d1 : Dev nD) : Fin 3 → Nat :=
  let c4_i32_122 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v250 : BitVec 32 := Scalar.muli c4_i32_122 v3
  let c2_i32_123 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v251 : BitVec 32 := Scalar.muli c2_i32_123 v12
  let v252 : BitVec 32 := Scalar.addi v250 v251
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v253 : BitVec 32 := Scalar.addi v252 v9
  let c0_i32_130 : BitVec 32 := 0#32
  let c0_i32_131 : BitVec 32 := 0#32
  ![v253.toNat, 0, 0]
def k0_dev6 (d1 : Dev nD) : Nat :=
  let c0_i32_135 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_134 : BitVec 32 := 4#32
  let v266 : BitVec 32 := Scalar.muli v3 c4_i32_134
  let v267 : BitVec 32 := Scalar.addi c0_i32_135 v266
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_136 : BitVec 32 := 2#32
  let v268 : BitVec 32 := Scalar.muli v6 c2_i32_136
  let v269 : BitVec 32 := Scalar.addi v267 v268
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_137 : BitVec 32 := 1#32
  let v270 : BitVec 32 := Scalar.muli v10 c1_i32_137
  let v271 : BitVec 32 := Scalar.addi v269 v270
  v271.toNat
def k0_off7 (d1 : Dev nD) : Fin 3 → Nat :=
  let c4_i32_144 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v284 : BitVec 32 := Scalar.muli c4_i32_144 v13
  let c2_i32_145 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v285 : BitVec 32 := Scalar.muli c2_i32_145 v14
  let v286 : BitVec 32 := Scalar.addi v284 v285
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v287 : BitVec 32 := Scalar.addi v286 v9
  let c0_i32_152 : BitVec 32 := 0#32
  let c0_i32_153 : BitVec 32 := 0#32
  ![v287.toNat, 0, 0]
def k0_dev7 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v300 : BitVec 32 := Scalar.muli v3 c4_i32_156
  let v301 : BitVec 32 := Scalar.addi c0_i32_157 v300
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_158 : BitVec 32 := 2#32
  let v302 : BitVec 32 := Scalar.muli v6 c2_i32_158
  let v303 : BitVec 32 := Scalar.addi v301 v302
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let c1_i32_159 : BitVec 32 := 1#32
  let v304 : BitVec 32 := Scalar.muli v10 c1_i32_159
  let v305 : BitVec 32 := Scalar.addi v303 v304
  v305.toNat
def k0_off8 (d1 : Dev nD) : Fin 3 → Nat :=
  let c4_i32_166 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v318 : BitVec 32 := Scalar.muli c4_i32_166 v3
  let c2_i32_167 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v319 : BitVec 32 := Scalar.muli c2_i32_167 v6
  let v320 : BitVec 32 := Scalar.addi v318 v319
  let c1_i32_3 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v10 : BitVec 32 := Scalar.subi c1_i32_3 v9
  let v321 : BitVec 32 := Scalar.addi v320 v10
  let c0_i32_174 : BitVec 32 := 0#32
  let c0_i32_175 : BitVec 32 := 0#32
  ![v321.toNat, 0, 0]
def k0_off9 (d1 : Dev nD) : Fin 3 → Nat :=
  let c4_i32_181 : BitVec 32 := 4#32
  let c1_i32_4 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v11 : BitVec 32 := Scalar.subi c1_i32_4 v3
  let v339 : BitVec 32 := Scalar.muli c4_i32_181 v11
  let c2_i32_182 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v340 : BitVec 32 := Scalar.muli c2_i32_182 v6
  let v341 : BitVec 32 := Scalar.addi v339 v340
  let c1_i32_178 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v334 : BitVec 32 := Scalar.subi c1_i32_178 v9
  let v342 : BitVec 32 := Scalar.addi v341 v334
  let c0_i32_189 : BitVec 32 := 0#32
  let c0_i32_190 : BitVec 32 := 0#32
  ![v342.toNat, 0, 0]
def k0_off10 (d1 : Dev nD) : Fin 3 → Nat :=
  let c4_i32_196 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v360 : BitVec 32 := Scalar.muli c4_i32_196 v3
  let c2_i32_197 : BitVec 32 := 2#32
  let c1_i32_5 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v12 : BitVec 32 := Scalar.subi c1_i32_5 v6
  let v361 : BitVec 32 := Scalar.muli c2_i32_197 v12
  let v362 : BitVec 32 := Scalar.addi v360 v361
  let c1_i32_193 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v355 : BitVec 32 := Scalar.subi c1_i32_193 v9
  let v363 : BitVec 32 := Scalar.addi v362 v355
  let c0_i32_204 : BitVec 32 := 0#32
  let c0_i32_205 : BitVec 32 := 0#32
  ![v363.toNat, 0, 0]
def k0_off11 (d1 : Dev nD) : Fin 3 → Nat :=
  let c4_i32_211 : BitVec 32 := 4#32
  let c1_i32_6 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v13 : BitVec 32 := Scalar.subi c1_i32_6 v3
  let v381 : BitVec 32 := Scalar.muli c4_i32_211 v13
  let c2_i32_212 : BitVec 32 := 2#32
  let c1_i32_7 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v14 : BitVec 32 := Scalar.subi c1_i32_7 v6
  let v382 : BitVec 32 := Scalar.muli c2_i32_212 v14
  let v383 : BitVec 32 := Scalar.addi v381 v382
  let c1_i32_208 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v376 : BitVec 32 := Scalar.subi c1_i32_208 v9
  let v384 : BitVec 32 := Scalar.addi v383 v376
  let c0_i32_219 : BitVec 32 := 0#32
  let c0_i32_220 : BitVec 32 := 0#32
  ![v384.toNat, 0, 0]
def k0_off12 (d1 : Dev nD) : Fin 3 → Nat :=
  let c4_i32_10 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v19 : BitVec 32 := Scalar.muli c4_i32_10 v3
  let c2_i32_11 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v20 : BitVec 32 := Scalar.muli c2_i32_11 v6
  let v21 : BitVec 32 := Scalar.addi v19 v20
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v22 : BitVec 32 := Scalar.addi v21 v9
  let c0_i32_224 : BitVec 32 := 0#32
  let c0_i32_225 : BitVec 32 := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanDownReferenceIdeal.lean ====
abbrev S34816x512 : Shape := ⟨2, ![34816, 512]⟩
abbrev S1x2048 : Shape := ⟨2, ![1, 2048]⟩
abbrev S4x128x512 : Shape := ⟨3, ![4, 128, 512]⟩
abbrev S4x512x128 : Shape := ⟨3, ![4, 512, 128]⟩
abbrev S5632x2048 : Shape := ⟨2, ![5632, 2048]⟩
abbrev S8x704x2048 : Shape := ⟨3, ![8, 704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S34816x512, .f32⟩
  | .hbm, ⟨1, _⟩ => ⟨S1x2048, .f32⟩
  | .hbm, ⟨2, _⟩ => ⟨S1x2048, .f32⟩
  | .hbm, ⟨3, _⟩ => ⟨S4x128x512, .f32⟩
  | .hbm, ⟨4, _⟩ => ⟨S4x128x512, .f32⟩
  | .hbm, ⟨5, _⟩ => ⟨S4x512x128, .f32⟩
  | .hbm, ⟨6, _⟩ => ⟨S4x512x128, .f32⟩
  | .hbm, ⟨7, _⟩ => ⟨S5632x2048, .bf16⟩
  | .hbm, ⟨8, _⟩ => ⟨S8x704x2048, .bf16⟩
  | _, _ => ⟨S34816x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩

abbrev nD : Nat := 1
abbrev τ : Topo := Topo.v7x

variable {F : FTy → Type} [FloatOps F]
-- ==== BackUpKernel.lean ====
abbrev S4352x512 : Shape := ⟨2, ![4352, 512]⟩
abbrev S4352x2048 : Shape := ⟨2, ![4352, 2048]⟩
abbrev S1x2048 : Shape := ⟨2, ![1, 2048]⟩
abbrev S4x128x512 : Shape := ⟨3, ![4, 128, 512]⟩
abbrev S4x512x128 : Shape := ⟨3, ![4, 512, 128]⟩
abbrev S8x2048x1408 : Shape := ⟨3, ![8, 2048, 1408]⟩
abbrev S8x2048 : Shape := ⟨2, ![8, 2048]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S8x512 : Shape := ⟨2, ![8, 512]⟩
abbrev S256x512 : Shape := ⟨2, ![256, 512]⟩
abbrev S7 : Shape := ⟨1, ![7]⟩
abbrev S_ : Shape := ⟨0, ![]⟩
abbrev S1x2048x1408 : Shape := ⟨3, ![1, 2048, 1408]⟩
abbrev S2048x1408 : Shape := ⟨2, ![2048, 1408]⟩
abbrev S1 : Shape := ⟨1, ![1]⟩
abbrev S128x512 : Shape := ⟨2, ![128, 512]⟩
abbrev S512x128 : Shape := ⟨2, ![512, 128]⟩
abbrev S256x128 : Shape := ⟨2, ![256, 128]⟩
abbrev S128x256 : Shape := ⟨2, ![128, 256]⟩

abbrev nBuf : Space → Nat
  | .hbm => 19
  | .vmem => 38
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x2048, .bf16⟩
  | .hbm, ⟨3, _⟩ => ⟨S4352x2048, .bf16⟩
  | .hbm, ⟨4, _⟩ => ⟨S1x2048, .f32⟩
  | .hbm, ⟨5, _⟩ => ⟨S1x2048, .f32⟩
  | .hbm, ⟨6, _⟩ => ⟨S4x128x512, .f32⟩
  | .hbm, ⟨7, _⟩ => ⟨S4x128x512, .f32⟩
  | .hbm, ⟨8, _⟩ => ⟨S4x512x128, .f32⟩
  | .hbm, ⟨9, _⟩ => ⟨S4x512x128, .f32⟩
  | .hbm, ⟨10, _⟩ => ⟨S8x2048x1408, .bf16⟩
  | .hbm, ⟨11, _⟩ => ⟨S4352x512, .f32⟩
  | .hbm, ⟨12, _⟩ => ⟨S8x2048, .f32⟩
  | .hbm, ⟨13, _⟩ => ⟨S8x2048, .f32⟩
  | .hbm, ⟨14, _⟩ => ⟨S4x128x512, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S8x2048x1408, .bf16⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S4352x512, .bf16⟩
  | .local _ .vmem, ⟨5, _⟩ => ⟨S4352x512, .bf16⟩
  | .local _ .vmem, ⟨6, _⟩ => ⟨S4352x512, .bf16⟩
  | .local _ .vmem, ⟨7, _⟩ => ⟨S4352x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S4352x128, .f32⟩
  | .local _ .vmem, ⟨21, _⟩ => ⟨S4352x128, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_31 : BitVec 32 := 0#32
  let v54 : BitVec 1 := Scalar.cmpi .eq v0 c0_i32_31
  let v55 : BitVec 32 := Scalar.extui v54
  let c0_i32_50 : BitVec 32 := 0#32
  let v56 : BitVec 1 := Scalar.cmpi .ne v55 c0_i32_50
  v56

def k0_off1 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_146 : BitVec 32 := 0#32
  let c0_i32_147 : BitVec 32 := 0#32
  ![v13.toNat, 0, 0]
def k0_off2 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_154 : BitVec 32 := 0#32
  let c0_i32_155 : BitVec 32 := 0#32
  ![v18.toNat, 0, 0]
def k0_dev1 (d1 : Dev nD) : Nat :=
  let c0_i32_149 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_148 : BitVec 32 := 4#32
  let v233 : BitVec 32 := Scalar.muli v3 c4_i32_148
  let v234 : BitVec 32 := Scalar.addi c0_i32_149 v233
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_150 : BitVec 32 := 2#32
  let v235 : BitVec 32 := Scalar.muli v6 c2_i32_150
  let v236 : BitVec 32 := Scalar.addi v234 v235
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let c1_i32_151 : BitVec 32 := 1#32
  let v237 : BitVec 32 := Scalar.muli v14 c1_i32_151
  let v238 : BitVec 32 := Scalar.addi v236 v237
  v238.toNat
def k0_off3 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_162 : BitVec 32 := 0#32
  let c0_i32_163 : BitVec 32 := 0#32
  ![v23.toNat, 0, 0]
def k0_dev2 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v247 : BitVec 32 := Scalar.muli v3 c4_i32_156
  let v248 : BitVec 32 := Scalar.addi c0_i32_157 v247
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let c2_i32_158 : BitVec 32 := 2#32
  let v249 : BitVec 32 := Scalar.muli v19 c2_i32_158
  let v250 : BitVec 32 := Scalar.addi v248 v249
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_159 : BitVec 32 := 1#32
  let v251 : BitVec 32 := Scalar.muli v9 c1_i32_159
  let v252 : BitVec 32 := Scalar.addi v250 v251
  v252.toNat
def k0_off4 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_170 : BitVec 32 := 0#32
  let c0_i32_171 : BitVec 32 := 0#32
  ![v29.toNat, 0, 0]
def k0_dev3 (d1 : Dev nD) : Nat :=
  let c0_i32_165 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_164 : BitVec 32 := 4#32
  let v261 : BitVec 32 := Scalar.muli v3 c4_i32_164
  let v262 : BitVec 32 := Scalar.addi c0_i32_165 v261
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let c2_i32_166 : BitVec 32 := 2#32
  let v263 : BitVec 32 := Scalar.muli v24 c2_i32_166
  let v264 : BitVec 32 := Scalar.addi v262 v263
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let c1_i32_167 : BitVec 32 := 1#32
  let v265 : BitVec 32 := Scalar.muli v25 c1_i32_167
  let v266 : BitVec 32 := Scalar.addi v264 v265
  v266.toNat
def k0_off5 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_178 : BitVec 32 := 0#32
  let c0_i32_179 : BitVec 32 := 0#32
  ![v34.toNat, 0, 0]
def k0_dev4 (d1 : Dev nD) : Nat :=
  let c0_i32_173 : BitVec 32 := 0#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let c4_i32_172 : BitVec 32 := 4#32
  let v275 : BitVec 32 := Scalar.muli v30 c4_i32_172
  let v276 : BitVec 32 := Scalar.addi c0_i32_173 v275
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_174 : BitVec 32 := 2#32
  let v277 : BitVec 32 := Scalar.muli v6 c2_i32_174
  let v278 : BitVec 32 := Scalar.addi v276 v277
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_175 : BitVec 32 := 1#32
  let v279 : BitVec 32 := Scalar.muli v9 c1_i32_175
  let v280 : BitVec 32 := Scalar.addi v278 v279
  v280.toNat
def k0_off6 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_186 : BitVec 32 := 0#32
  let c0_i32_187 : BitVec 32 := 0#32
  ![v40.toNat, 0, 0]
def k0_dev5 (d1 : Dev nD) : Nat :=
  let c0_i32_181 : BitVec 32 := 0#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let c4_i32_180 : BitVec 32 := 4#32
  let v289 : BitVec 32 := Scalar.muli v35 c4_i32_180
  let v290 : BitVec 32 := Scalar.addi c0_i32_181 v289
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_182 : BitVec 32 := 2#32
  let v291 : BitVec 32 := Scalar.muli v6 c2_i32_182
  let v292 : BitVec 32 := Scalar.addi v290 v291
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let c1_i32_183 : BitVec 32 := 1#32
  let v293 : BitVec 32 := Scalar.muli v36 c1_i32_183
  let v294 : BitVec 32 := Scalar.addi v292 v293
  v294.toNat
def k0_off7 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_194 : BitVec 32 := 0#32
  let c0_i32_195 : BitVec 32 := 0#32
  ![v46.toNat, 0, 0]
def k0_dev6 (d1 : Dev nD) : Nat :=
  let c0_i32_189 : BitVec 32 := 0#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let c4_i32_188 : BitVec 32 := 4#32
  let v303 : BitVec 32 := Scalar.muli v41 c4_i32_188
  let v304 : BitVec 32 := Scalar.addi c0_i32_189 v303
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let c2_i32_190 : BitVec 32 := 2#32
  let v305 : BitVec 32 := Scalar.muli v42 c2_i32_190
  let v306 : BitVec 32 := Scalar.addi v304 v305
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_191 : BitVec 32 := 1#32
  let v307 : BitVec 32 := Scalar.muli v9 c1_i32_191
  let v308 : BitVec 32 := Scalar.addi v306 v307
  v308.toNat
def k0_off8 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_202 : BitVec 32 := 0#32
  let c0_i32_203 : BitVec 32 := 0#32
  ![v53.toNat, 0, 0]
def k0_dev7 (d1 : Dev nD) : Nat :=
  let c0_i32_197 : BitVec 32 := 0#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let c4_i32_196 : BitVec 32 := 4#32
  let v317 : BitVec 32 := Scalar.muli v47 c4_i32_196
  let v318 : BitVec 32 := Scalar.addi c0_i32_197 v317
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let c2_i32_198 : BitVec 32 := 2#32
  let v319 : BitVec 32 := Scalar.muli v48 c2_i32_198
  let v320 : BitVec 32 := Scalar.addi v318 v319
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let c1_i32_199 : BitVec 32 := 1#32
  let v321 : BitVec 32 := Scalar.muli v49 c1_i32_199
  let v322 : BitVec 32 := Scalar.addi v320 v321
  v322.toNat
@[reducible] def k0_t1_loop : Scf.Loop 32 :=
  let c0_i32_117 : BitVec 32 := 0#32
  let c17_i32 : BitVec 32 := 17#32
  let v224 : BitVec 32 := Scalar.addi c0_i32_117 c17_i32
  let c1_i32_118 : BitVec 32 := 1#32
  ⟨c0_i32_117, v224, c1_i32_118⟩
def k0_mult1 (k0_t1 : Fin k0_t1_loop.trips) : BitVec 32 :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  v230
def k0_off9 (k0_t1 : Fin k0_t1_loop.trips) : Fin 2 → Nat :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  let v231 : BitVec 32 := v230
  let v232 : Index := Scalar.indexCast v231
  let c0_144 : Index := 0#32
  ![v232.toNat, 0]
def k0_off10 (k0_t1 : Fin k0_t1_loop.trips) : Fin 2 → Nat :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  let v231 : BitVec 32 := v230
  let v244 : Index := Scalar.indexCast v231
  let c0_151 : Index := 0#32
  ![v244.toNat, 0]
@[reducible] def k0_t2_loop : Scf.Loop 32 :=
  let c0_i32_158 : BitVec 32 := 0#32
  let c32_i32 : BitVec 32 := 32#32
  let v259 : BitVec 32 := Scalar.addi c0_i32_158 c32_i32
  let c1_i32_159 : BitVec 32 := 1#32
  ⟨c0_i32_158, v259, c1_i32_159⟩
def k0_mult2 (k0_t2 : Fin k0_t2_loop.trips) : BitVec 32 :=
  let c0_i32_205 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32 : BitVec 32 := 8#32
  let v314 : BitVec 32 := Scalar.muli v313 c8_i32
  let v315 : BitVec 32 := Scalar.addi c0_i32_205 v314
  v315
def k0_off11 (k0_t2 : Fin k0_t2_loop.trips) : Fin 2 → Nat :=
  let c0_i32_205 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32 : BitVec 32 := 8#32
  let v314 : BitVec 32 := Scalar.muli v313 c8_i32
  let v315 : BitVec 32 := Scalar.addi c0_i32_205 v314
  let v316 : BitVec 32 := v315
  let v317 : Index := Scalar.indexCast v316
  let c0_206 : Index := 0#32
  ![v317.toNat, 0]
def k0_mult3 (k0_t2 : Fin k0_t2_loop.trips) : BitVec 32 :=
  let c0_i32_217 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32_216 : BitVec 32 := 8#32
  let v373 : BitVec 32 := Scalar.muli v313 c8_i32_216
  let v374 : BitVec 32 := Scalar.addi c0_i32_217 v373
  v374
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_120 : BitVec 32 := 3#32
  let v226 : BitVec 1 := Scalar.cmpi .eq v0 c3_i32_120
  let v227 : BitVec 32 := Scalar.extui v226
  let c0_i32_143 : BitVec 32 := 0#32
  let v228 : BitVec 1 := Scalar.cmpi .ne v227 c0_i32_143
  v228

def k0_off12 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_145 : BitVec 32 := 0#32
  let c0_i32_146 : BitVec 32 := 0#32
  ![v18.toNat, 0, 0]
def k0_off13 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_158 : BitVec 32 := 0#32
  let c0_i32_159 : BitVec 32 := 0#32
  ![v23.toNat, 0, 0]
def k0_off14 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_171 : BitVec 32 := 0#32
  let c0_i32_172 : BitVec 32 := 0#32
  ![v29.toNat, 0, 0]
def k0_off15 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_184 : BitVec 32 := 0#32
  let c0_i32_185 : BitVec 32 := 0#32
  ![v34.toNat, 0, 0]
def k0_off16 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_197 : BitVec 32 := 0#32
  let c0_i32_198 : BitVec 32 := 0#32
  ![v40.toNat, 0, 0]
def k0_off17 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_210 : BitVec 32 := 0#32
  let c0_i32_211 : BitVec 32 := 0#32
  ![v46.toNat, 0, 0]
def k0_off18 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_223 : BitVec 32 := 0#32
  let c0_i32_224 : BitVec 32 := 0#32
  ![v53.toNat, 0, 0]
def k0_off19 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_237 : BitVec 32 := 0#32
  let c0_i32_238 : BitVec 32 := 0#32
  ![v13.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4352x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BackUpKernelIdeal.lean ====
abbrev S4352x512 : Shape := ⟨2, ![4352, 512]⟩
abbrev S4352x2048 : Shape := ⟨2, ![4352, 2048]⟩
abbrev S1x2048 : Shape := ⟨2, ![1, 2048]⟩
abbrev S4x128x512 : Shape := ⟨3, ![4, 128, 512]⟩
abbrev S4x512x128 : Shape := ⟨3, ![4, 512, 128]⟩
abbrev S8x2048x1408 : Shape := ⟨3, ![8, 2048, 1408]⟩
abbrev S8x2048 : Shape := ⟨2, ![8, 2048]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S8x512 : Shape := ⟨2, ![8, 512]⟩
abbrev S256x512 : Shape := ⟨2, ![256, 512]⟩
abbrev S7 : Shape := ⟨1, ![7]⟩
abbrev S_ : Shape := ⟨0, ![]⟩
abbrev S1x2048x1408 : Shape := ⟨3, ![1, 2048, 1408]⟩
abbrev S2048x1408 : Shape := ⟨2, ![2048, 1408]⟩
abbrev S1 : Shape := ⟨1, ![1]⟩
abbrev S128x512 : Shape := ⟨2, ![128, 512]⟩
abbrev S512x128 : Shape := ⟨2, ![512, 128]⟩
abbrev S256x128 : Shape := ⟨2, ![256, 128]⟩
abbrev S128x256 : Shape := ⟨2, ![128, 256]⟩

abbrev nBuf : Space → Nat
  | .hbm => 19
  | .vmem => 38
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x2048, .bf16⟩
  | .hbm, ⟨3, _⟩ => ⟨S4352x2048, .bf16⟩
  | .hbm, ⟨4, _⟩ => ⟨S1x2048, .f32⟩
  | .hbm, ⟨5, _⟩ => ⟨S1x2048, .f32⟩
  | .hbm, ⟨6, _⟩ => ⟨S4x128x512, .f32⟩
  | .hbm, ⟨7, _⟩ => ⟨S4x128x512, .f32⟩
  | .hbm, ⟨8, _⟩ => ⟨S4x512x128, .f32⟩
  | .hbm, ⟨9, _⟩ => ⟨S4x512x128, .f32⟩
  | .hbm, ⟨10, _⟩ => ⟨S8x2048x1408, .bf16⟩
  | .hbm, ⟨11, _⟩ => ⟨S4352x512, .f32⟩
  | .hbm, ⟨12, _⟩ => ⟨S8x2048, .f32⟩
  | .hbm, ⟨13, _⟩ => ⟨S8x2048, .f32⟩
  | .hbm, ⟨14, _⟩ => ⟨S4x128x512, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S8x2048x1408, .bf16⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S4352x512, .bf16⟩
  | .local _ .vmem, ⟨5, _⟩ => ⟨S4352x512, .bf16⟩
  | .local _ .vmem, ⟨6, _⟩ => ⟨S4352x512, .bf16⟩
  | .local _ .vmem, ⟨7, _⟩ => ⟨S4352x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S4352x128, .f32⟩
  | .local _ .vmem, ⟨21, _⟩ => ⟨S4352x128, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_31 : BitVec 32 := 0#32
  let v54 : BitVec 1 := Scalar.cmpi .eq v0 c0_i32_31
  let v55 : BitVec 32 := Scalar.extui v54
  let c0_i32_50 : BitVec 32 := 0#32
  let v56 : BitVec 1 := Scalar.cmpi .ne v55 c0_i32_50
  v56

def k0_off1 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_146 : BitVec 32 := 0#32
  let c0_i32_147 : BitVec 32 := 0#32
  ![v13.toNat, 0, 0]
def k0_off2 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_154 : BitVec 32 := 0#32
  let c0_i32_155 : BitVec 32 := 0#32
  ![v18.toNat, 0, 0]
def k0_dev1 (d1 : Dev nD) : Nat :=
  let c0_i32_149 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_148 : BitVec 32 := 4#32
  let v233 : BitVec 32 := Scalar.muli v3 c4_i32_148
  let v234 : BitVec 32 := Scalar.addi c0_i32_149 v233
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_150 : BitVec 32 := 2#32
  let v235 : BitVec 32 := Scalar.muli v6 c2_i32_150
  let v236 : BitVec 32 := Scalar.addi v234 v235
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let c1_i32_151 : BitVec 32 := 1#32
  let v237 : BitVec 32 := Scalar.muli v14 c1_i32_151
  let v238 : BitVec 32 := Scalar.addi v236 v237
  v238.toNat
def k0_off3 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_162 : BitVec 32 := 0#32
  let c0_i32_163 : BitVec 32 := 0#32
  ![v23.toNat, 0, 0]
def k0_dev2 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v247 : BitVec 32 := Scalar.muli v3 c4_i32_156
  let v248 : BitVec 32 := Scalar.addi c0_i32_157 v247
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let c2_i32_158 : BitVec 32 := 2#32
  let v249 : BitVec 32 := Scalar.muli v19 c2_i32_158
  let v250 : BitVec 32 := Scalar.addi v248 v249
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_159 : BitVec 32 := 1#32
  let v251 : BitVec 32 := Scalar.muli v9 c1_i32_159
  let v252 : BitVec 32 := Scalar.addi v250 v251
  v252.toNat
def k0_off4 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_170 : BitVec 32 := 0#32
  let c0_i32_171 : BitVec 32 := 0#32
  ![v29.toNat, 0, 0]
def k0_dev3 (d1 : Dev nD) : Nat :=
  let c0_i32_165 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_164 : BitVec 32 := 4#32
  let v261 : BitVec 32 := Scalar.muli v3 c4_i32_164
  let v262 : BitVec 32 := Scalar.addi c0_i32_165 v261
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let c2_i32_166 : BitVec 32 := 2#32
  let v263 : BitVec 32 := Scalar.muli v24 c2_i32_166
  let v264 : BitVec 32 := Scalar.addi v262 v263
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let c1_i32_167 : BitVec 32 := 1#32
  let v265 : BitVec 32 := Scalar.muli v25 c1_i32_167
  let v266 : BitVec 32 := Scalar.addi v264 v265
  v266.toNat
def k0_off5 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_178 : BitVec 32 := 0#32
  let c0_i32_179 : BitVec 32 := 0#32
  ![v34.toNat, 0, 0]
def k0_dev4 (d1 : Dev nD) : Nat :=
  let c0_i32_173 : BitVec 32 := 0#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let c4_i32_172 : BitVec 32 := 4#32
  let v275 : BitVec 32 := Scalar.muli v30 c4_i32_172
  let v276 : BitVec 32 := Scalar.addi c0_i32_173 v275
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_174 : BitVec 32 := 2#32
  let v277 : BitVec 32 := Scalar.muli v6 c2_i32_174
  let v278 : BitVec 32 := Scalar.addi v276 v277
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_175 : BitVec 32 := 1#32
  let v279 : BitVec 32 := Scalar.muli v9 c1_i32_175
  let v280 : BitVec 32 := Scalar.addi v278 v279
  v280.toNat
def k0_off6 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_186 : BitVec 32 := 0#32
  let c0_i32_187 : BitVec 32 := 0#32
  ![v40.toNat, 0, 0]
def k0_dev5 (d1 : Dev nD) : Nat :=
  let c0_i32_181 : BitVec 32 := 0#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let c4_i32_180 : BitVec 32 := 4#32
  let v289 : BitVec 32 := Scalar.muli v35 c4_i32_180
  let v290 : BitVec 32 := Scalar.addi c0_i32_181 v289
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_182 : BitVec 32 := 2#32
  let v291 : BitVec 32 := Scalar.muli v6 c2_i32_182
  let v292 : BitVec 32 := Scalar.addi v290 v291
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let c1_i32_183 : BitVec 32 := 1#32
  let v293 : BitVec 32 := Scalar.muli v36 c1_i32_183
  let v294 : BitVec 32 := Scalar.addi v292 v293
  v294.toNat
def k0_off7 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_194 : BitVec 32 := 0#32
  let c0_i32_195 : BitVec 32 := 0#32
  ![v46.toNat, 0, 0]
def k0_dev6 (d1 : Dev nD) : Nat :=
  let c0_i32_189 : BitVec 32 := 0#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let c4_i32_188 : BitVec 32 := 4#32
  let v303 : BitVec 32 := Scalar.muli v41 c4_i32_188
  let v304 : BitVec 32 := Scalar.addi c0_i32_189 v303
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let c2_i32_190 : BitVec 32 := 2#32
  let v305 : BitVec 32 := Scalar.muli v42 c2_i32_190
  let v306 : BitVec 32 := Scalar.addi v304 v305
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_191 : BitVec 32 := 1#32
  let v307 : BitVec 32 := Scalar.muli v9 c1_i32_191
  let v308 : BitVec 32 := Scalar.addi v306 v307
  v308.toNat
def k0_off8 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_202 : BitVec 32 := 0#32
  let c0_i32_203 : BitVec 32 := 0#32
  ![v53.toNat, 0, 0]
def k0_dev7 (d1 : Dev nD) : Nat :=
  let c0_i32_197 : BitVec 32 := 0#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let c4_i32_196 : BitVec 32 := 4#32
  let v317 : BitVec 32 := Scalar.muli v47 c4_i32_196
  let v318 : BitVec 32 := Scalar.addi c0_i32_197 v317
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let c2_i32_198 : BitVec 32 := 2#32
  let v319 : BitVec 32 := Scalar.muli v48 c2_i32_198
  let v320 : BitVec 32 := Scalar.addi v318 v319
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let c1_i32_199 : BitVec 32 := 1#32
  let v321 : BitVec 32 := Scalar.muli v49 c1_i32_199
  let v322 : BitVec 32 := Scalar.addi v320 v321
  v322.toNat
@[reducible] def k0_t1_loop : Scf.Loop 32 :=
  let c0_i32_117 : BitVec 32 := 0#32
  let c17_i32 : BitVec 32 := 17#32
  let v224 : BitVec 32 := Scalar.addi c0_i32_117 c17_i32
  let c1_i32_118 : BitVec 32 := 1#32
  ⟨c0_i32_117, v224, c1_i32_118⟩
def k0_mult1 (k0_t1 : Fin k0_t1_loop.trips) : BitVec 32 :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  v230
def k0_off9 (k0_t1 : Fin k0_t1_loop.trips) : Fin 2 → Nat :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  let v231 : BitVec 32 := v230
  let v232 : Index := Scalar.indexCast v231
  let c0_144 : Index := 0#32
  ![v232.toNat, 0]
def k0_off10 (k0_t1 : Fin k0_t1_loop.trips) : Fin 2 → Nat :=
  let c16_i32 : BitVec 32 := 16#32
  let c0_i32_117 : BitVec 32 := 0#32
  let c1_i32_118 : BitVec 32 := 1#32
  let arg27 : BitVec 32 := Scf.iv c0_i32_117 c1_i32_118 k0_t1
  let v229 : BitVec 32 := Scalar.subi c16_i32 arg27
  let c256_i32 : BitVec 32 := 256#32
  let v230 : BitVec 32 := Scalar.muli v229 c256_i32
  let v231 : BitVec 32 := v230
  let v244 : Index := Scalar.indexCast v231
  let c0_151 : Index := 0#32
  ![v244.toNat, 0]
@[reducible] def k0_t2_loop : Scf.Loop 32 :=
  let c0_i32_158 : BitVec 32 := 0#32
  let c32_i32 : BitVec 32 := 32#32
  let v259 : BitVec 32 := Scalar.addi c0_i32_158 c32_i32
  let c1_i32_159 : BitVec 32 := 1#32
  ⟨c0_i32_158, v259, c1_i32_159⟩
def k0_mult2 (k0_t2 : Fin k0_t2_loop.trips) : BitVec 32 :=
  let c0_i32_205 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32 : BitVec 32 := 8#32
  let v314 : BitVec 32 := Scalar.muli v313 c8_i32
  let v315 : BitVec 32 := Scalar.addi c0_i32_205 v314
  v315
def k0_off11 (k0_t2 : Fin k0_t2_loop.trips) : Fin 2 → Nat :=
  let c0_i32_205 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32 : BitVec 32 := 8#32
  let v314 : BitVec 32 := Scalar.muli v313 c8_i32
  let v315 : BitVec 32 := Scalar.addi c0_i32_205 v314
  let v316 : BitVec 32 := v315
  let v317 : Index := Scalar.indexCast v316
  let c0_206 : Index := 0#32
  ![v317.toNat, 0]
def k0_mult3 (k0_t2 : Fin k0_t2_loop.trips) : BitVec 32 :=
  let c0_i32_217 : BitVec 32 := 0#32
  let c31_i32 : BitVec 32 := 31#32
  let c0_i32_158 : BitVec 32 := 0#32
  let c1_i32_159 : BitVec 32 := 1#32
  let arg30 : BitVec 32 := Scf.iv c0_i32_158 c1_i32_159 k0_t2
  let v313 : BitVec 32 := Scalar.subi c31_i32 arg30
  let c8_i32_216 : BitVec 32 := 8#32
  let v373 : BitVec 32 := Scalar.muli v313 c8_i32_216
  let v374 : BitVec 32 := Scalar.addi c0_i32_217 v373
  v374
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_120 : BitVec 32 := 3#32
  let v226 : BitVec 1 := Scalar.cmpi .eq v0 c3_i32_120
  let v227 : BitVec 32 := Scalar.extui v226
  let c0_i32_143 : BitVec 32 := 0#32
  let v228 : BitVec 1 := Scalar.cmpi .ne v227 c0_i32_143
  v228

def k0_off12 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_145 : BitVec 32 := 0#32
  let c0_i32_146 : BitVec 32 := 0#32
  ![v18.toNat, 0, 0]
def k0_off13 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_158 : BitVec 32 := 0#32
  let c0_i32_159 : BitVec 32 := 0#32
  ![v23.toNat, 0, 0]
def k0_off14 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_171 : BitVec 32 := 0#32
  let c0_i32_172 : BitVec 32 := 0#32
  ![v29.toNat, 0, 0]
def k0_off15 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_184 : BitVec 32 := 0#32
  let c0_i32_185 : BitVec 32 := 0#32
  ![v34.toNat, 0, 0]
def k0_off16 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_197 : BitVec 32 := 0#32
  let c0_i32_198 : BitVec 32 := 0#32
  ![v40.toNat, 0, 0]
def k0_off17 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_210 : BitVec 32 := 0#32
  let c0_i32_211 : BitVec 32 := 0#32
  ![v46.toNat, 0, 0]
def k0_off18 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_223 : BitVec 32 := 0#32
  let c0_i32_224 : BitVec 32 := 0#32
  ![v53.toNat, 0, 0]
def k0_off19 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_237 : BitVec 32 := 0#32
  let c0_i32_238 : BitVec 32 := 0#32
  ![v13.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4352x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BackUpReferenceIdeal.lean ====
abbrev S34816x512 : Shape := ⟨2, ![34816, 512]⟩
abbrev S34816x2048 : Shape := ⟨2, ![34816, 2048]⟩
abbrev S1x2048 : Shape := ⟨2, ![1, 2048]⟩
abbrev S4x128x512 : Shape := ⟨3, ![4, 128, 512]⟩
abbrev S4x512x128 : Shape := ⟨3, ![4, 512, 128]⟩
abbrev S64x2048x1408 : Shape := ⟨3, ![64, 2048, 1408]⟩
abbrev S64 : Shape := ⟨1, ![64]⟩
abbrev S_ : Shape := ⟨0, ![]⟩
abbrev S64x1 : Shape := ⟨2, ![64, 1]⟩

abbrev nBuf : Space → Nat
  | .hbm => 21
  | .vmem => 0
  | .smem => 0
  | _ => 0

abbrev bufTy : (tb : Table) → Fin (tcTables nBuf tb) → BufTy
  | .hbm, ⟨0, _⟩ => ⟨S34816x512, .f32⟩
  | .hbm, ⟨1, _⟩ => ⟨S34816x512, .f32⟩
  | .hbm, ⟨2, _⟩ => ⟨S34816x2048, .bf16⟩
  | .hbm, ⟨3, _⟩ => ⟨S34816x2048, .bf16⟩
  | .hbm, ⟨4, _⟩ => ⟨S1x2048, .f32⟩
  | .hbm, ⟨5, _⟩ => ⟨S1x2048, .f32⟩
  | .hbm, ⟨6, _⟩ => ⟨S4x128x512, .f32⟩
  | .hbm, ⟨7, _⟩ => ⟨S4x128x512, .f32⟩
  | .hbm, ⟨8, _⟩ => ⟨S4x512x128, .f32⟩
  | .hbm, ⟨9, _⟩ => ⟨S4x512x128, .f32⟩
  | .hbm, ⟨10, _⟩ => ⟨S64x2048x1408, .bf16⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x2048x1408, .bf16⟩
  | _, _ => ⟨S34816x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== BackDownKernel.lean ====
abbrev S4352x512 : Shape := ⟨2, ![4352, 512]⟩
abbrev S4352x2048 : Shape := ⟨2, ![4352, 2048]⟩
abbrev S1x2048 : Shape := ⟨2, ![1, 2048]⟩
abbrev S4x128x512 : Shape := ⟨3, ![4, 128, 512]⟩
abbrev S4x512x128 : Shape := ⟨3, ![4, 512, 128]⟩
abbrev S8x704x2048 : Shape := ⟨3, ![8, 704, 2048]⟩
abbrev S8x2048 : Shape := ⟨2, ![8, 2048]⟩
abbrev S4352x128 : Shape := ⟨2, ![4352, 128]⟩
abbrev S1x512 : Shape := ⟨2, ![1, 512]⟩
abbrev S1x128x512 : Shape := ⟨3, ![1, 128, 512]⟩
abbrev S1x512x128 : Shape := ⟨3, ![1, 512, 128]⟩
abbrev S8x512 : Shape := ⟨2, ![8, 512]⟩
abbrev S256x512 : Shape := ⟨2, ![256, 512]⟩
abbrev S7 : Shape := ⟨1, ![7]⟩
abbrev S_ : Shape := ⟨0, ![]⟩
abbrev S1x704x2048 : Shape := ⟨3, ![1, 704, 2048]⟩
abbrev S704x2048 : Shape := ⟨2, ![704, 2048]⟩
abbrev S1 : Shape := ⟨1, ![1]⟩
abbrev S128x512 : Shape := ⟨2, ![128, 512]⟩
abbrev S512x128 : Shape := ⟨2, ![512, 128]⟩
abbrev S256x128 : Shape := ⟨2, ![256, 128]⟩
abbrev S128x256 : Shape := ⟨2, ![128, 256]⟩

abbrev nBuf : Space → Nat
  | .hbm => 19
  | .vmem => 38
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x2048, .bf16⟩
  | .hbm, ⟨3, _⟩ => ⟨S4352x2048, .bf16⟩
  | .hbm, ⟨4, _⟩ => ⟨S1x2048, .f32⟩
  | .hbm, ⟨5, _⟩ => ⟨S1x2048, .f32⟩
  | .hbm, ⟨6, _⟩ => ⟨S4x128x512, .f32⟩
  | .hbm, ⟨7, _⟩ => ⟨S4x128x512, .f32⟩
  | .hbm, ⟨8, _⟩ => ⟨S4x512x128, .f32⟩
  | .hbm, ⟨9, _⟩ => ⟨S4x512x128, .f32⟩
  | .hbm, ⟨10, _⟩ => ⟨S8x704x2048, .bf16⟩
  | .hbm, ⟨11, _⟩ => ⟨S4352x512, .f32⟩
  | .hbm, ⟨12, _⟩ => ⟨S8x2048, .f32⟩
  | .hbm, ⟨13, _⟩ => ⟨S8x2048, .f32⟩
  | .hbm, ⟨14, _⟩ => ⟨S4x128x512, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S8x704x2048, .bf16⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S4352x512, .bf16⟩
  | .local _ .vmem, ⟨5, _⟩ => ⟨S4352x512, .bf16⟩
  | .local _ .vmem, ⟨6, _⟩ => ⟨S4352x512, .bf16⟩
  | .local _ .vmem, ⟨7, _⟩ => ⟨S4352x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S4352x128, .f32⟩
  | .local _ .vmem, ⟨21, _⟩ => ⟨S4352x128, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 8
abbrev τ : Topo := Topo.v7x

variable {F : FTy → Type} [FloatOps F]

abbrev grid0 : Pipeline.Grid := ⟨1, ![4], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_31 : BitVec 32 := 0#32
  let v54 : BitVec 1 := Scalar.cmpi .eq v0 c0_i32_31
  let v55 : BitVec 32 := Scalar.extui v54
  let c0_i32_50 : BitVec 32 := 0#32
  let v56 : BitVec 1 := Scalar.cmpi .ne v55 c0_i32_50
  v56

def k0_off1 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_146 : BitVec 32 := 0#32
  let c0_i32_147 : BitVec 32 := 0#32
  ![v13.toNat, 0, 0]
def k0_off2 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_154 : BitVec 32 := 0#32
  let c0_i32_155 : BitVec 32 := 0#32
  ![v18.toNat, 0, 0]
def k0_dev1 (d1 : Dev nD) : Nat :=
  let c0_i32_149 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_148 : BitVec 32 := 4#32
  let v233 : BitVec 32 := Scalar.muli v3 c4_i32_148
  let v234 : BitVec 32 := Scalar.addi c0_i32_149 v233
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_150 : BitVec 32 := 2#32
  let v235 : BitVec 32 := Scalar.muli v6 c2_i32_150
  let v236 : BitVec 32 := Scalar.addi v234 v235
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let c1_i32_151 : BitVec 32 := 1#32
  let v237 : BitVec 32 := Scalar.muli v14 c1_i32_151
  let v238 : BitVec 32 := Scalar.addi v236 v237
  v238.toNat
def k0_off3 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_162 : BitVec 32 := 0#32
  let c0_i32_163 : BitVec 32 := 0#32
  ![v23.toNat, 0, 0]
def k0_dev2 (d1 : Dev nD) : Nat :=
  let c0_i32_157 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_156 : BitVec 32 := 4#32
  let v247 : BitVec 32 := Scalar.muli v3 c4_i32_156
  let v248 : BitVec 32 := Scalar.addi c0_i32_157 v247
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let c2_i32_158 : BitVec 32 := 2#32
  let v249 : BitVec 32 := Scalar.muli v19 c2_i32_158
  let v250 : BitVec 32 := Scalar.addi v248 v249
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_159 : BitVec 32 := 1#32
  let v251 : BitVec 32 := Scalar.muli v9 c1_i32_159
  let v252 : BitVec 32 := Scalar.addi v250 v251
  v252.toNat
def k0_off4 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_170 : BitVec 32 := 0#32
  let c0_i32_171 : BitVec 32 := 0#32
  ![v29.toNat, 0, 0]
def k0_dev3 (d1 : Dev nD) : Nat :=
  let c0_i32_165 : BitVec 32 := 0#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let c4_i32_164 : BitVec 32 := 4#32
  let v261 : BitVec 32 := Scalar.muli v3 c4_i32_164
  let v262 : BitVec 32 := Scalar.addi c0_i32_165 v261
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let c2_i32_166 : BitVec 32 := 2#32
  let v263 : BitVec 32 := Scalar.muli v24 c2_i32_166
  let v264 : BitVec 32 := Scalar.addi v262 v263
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let c1_i32_167 : BitVec 32 := 1#32
  let v265 : BitVec 32 := Scalar.muli v25 c1_i32_167
  let v266 : BitVec 32 := Scalar.addi v264 v265
  v266.toNat
def k0_off5 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_178 : BitVec 32 := 0#32
  let c0_i32_179 : BitVec 32 := 0#32
  ![v34.toNat, 0, 0]
def k0_dev4 (d1 : Dev nD) : Nat :=
  let c0_i32_173 : BitVec 32 := 0#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let c4_i32_172 : BitVec 32 := 4#32
  let v275 : BitVec 32 := Scalar.muli v30 c4_i32_172
  let v276 : BitVec 32 := Scalar.addi c0_i32_173 v275
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_174 : BitVec 32 := 2#32
  let v277 : BitVec 32 := Scalar.muli v6 c2_i32_174
  let v278 : BitVec 32 := Scalar.addi v276 v277
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_175 : BitVec 32 := 1#32
  let v279 : BitVec 32 := Scalar.muli v9 c1_i32_175
  let v280 : BitVec 32 := Scalar.addi v278 v279
  v280.toNat
def k0_off6 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_186 : BitVec 32 := 0#32
  let c0_i32_187 : BitVec 32 := 0#32
  ![v40.toNat, 0, 0]
def k0_dev5 (d1 : Dev nD) : Nat :=
  let c0_i32_181 : BitVec 32 := 0#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let c4_i32_180 : BitVec 32 := 4#32
  let v289 : BitVec 32 := Scalar.muli v35 c4_i32_180
  let v290 : BitVec 32 := Scalar.addi c0_i32_181 v289
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let c2_i32_182 : BitVec 32 := 2#32
  let v291 : BitVec 32 := Scalar.muli v6 c2_i32_182
  let v292 : BitVec 32 := Scalar.addi v290 v291
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let c1_i32_183 : BitVec 32 := 1#32
  let v293 : BitVec 32 := Scalar.muli v36 c1_i32_183
  let v294 : BitVec 32 := Scalar.addi v292 v293
  v294.toNat
def k0_off7 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_194 : BitVec 32 := 0#32
  let c0_i32_195 : BitVec 32 := 0#32
  ![v46.toNat, 0, 0]
def k0_dev6 (d1 : Dev nD) : Nat :=
  let c0_i32_189 : BitVec 32 := 0#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let c4_i32_188 : BitVec 32 := 4#32
  let v303 : BitVec 32 := Scalar.muli v41 c4_i32_188
  let v304 : BitVec 32 := Scalar.addi c0_i32_189 v303
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let c2_i32_190 : BitVec 32 := 2#32
  let v305 : BitVec 32 := Scalar.muli v42 c2_i32_190
  let v306 : BitVec 32 := Scalar.addi v304 v305
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let c1_i32_191 : BitVec 32 := 1#32
  let v307 : BitVec 32 := Scalar.muli v9 c1_i32_191
  let v308 : BitVec 32 := Scalar.addi v306 v307
  v308.toNat
def k0_off8 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_202 : BitVec 32 := 0#32
  let c0_i32_203 : BitVec 32 := 0#32
  ![v53.toNat, 0, 0]
def k0_dev7 (d1 : Dev nD) : Nat :=
  let c0_i32_197 : BitVec 32 := 0#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let c4_i32_196 : BitVec 32 := 4#32
  let v317 : BitVec 32 := Scalar.muli v47 c4_i32_196
  let v318 : BitVec 32 := Scalar.addi c0_i32_197 v317
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let c2_i32_198 : BitVec 32 := 2#32
  let v319 : BitVec 32 := Scalar.muli v48 c2_i32_198
  let v320 : BitVec 32 := Scalar.addi v318 v319
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let c1_i32_199 : BitVec 32 := 1#32
  let v321 : BitVec 32 := Scalar.muli v49 c1_i32_199
  let v322 : BitVec 32 := Scalar.addi v320 v321
  v322.toNat
@[reducible] def k0_t1_loop : Scf.Loop 32 :=
  let c0_i32_117 : BitVec 32 := 0#32
  let c17_i32 : BitVec 32 := 17#32
  let v224 : BitVec 32 := Scalar.addi c0_i32_117 c17_i32
  let c1_i32_118 : BitVec 32 := 1#32
  ⟨c0_i32_117, v224, c1_i32_118⟩
def k0_mult1 (k0_t1 : Fin k0_t1_loop.trips) : BitVec 32 :=
  let c0_i32_117 : BitVec 32 := 0#32
  let c1_i32_118 : BitVec 32 := 1#32
  let arg27 : BitVec 32 := Scf.iv c0_i32_117 c1_i32_118 k0_t1
  let c16_i32 : BitVec 32 := 16#32
  let v229 : BitVec 1 := Scalar.cmpi .eq arg27 c16_i32
  let c0_i32_145 : BitVec 32 := 0#32
  let c1_i32_144 : BitVec 32 := 1#32
  let v230 : BitVec 32 := Scalar.addi arg27 c1_i32_144
  let v231 : BitVec 32 := Scalar.select v229 c0_i32_145 v230
  let c256_i32 : BitVec 32 := 256#32
  let v232 : BitVec 32 := Scalar.muli v231 c256_i32
  v232
def k0_off9 (k0_t1 : Fin k0_t1_loop.trips) : Fin 2 → Nat :=
  let c0_i32_117 : BitVec 32 := 0#32
  let c1_i32_118 : BitVec 32 := 1#32
  let arg27 : BitVec 32 := Scf.iv c0_i32_117 c1_i32_118 k0_t1
  let c16_i32 : BitVec 32 := 16#32
  let v229 : BitVec 1 := Scalar.cmpi .eq arg27 c16_i32
  let c0_i32_145 : BitVec 32 := 0#32
  let c1_i32_144 : BitVec 32 := 1#32
  let v230 : BitVec 32 := Scalar.addi arg27 c1_i32_144
  let v231 : BitVec 32 := Scalar.select v229 c0_i32_145 v230
  let c256_i32 : BitVec 32 := 256#32
  let v232 : BitVec 32 := Scalar.muli v231 c256_i32
  let v233 : BitVec 32 := v232
  let v234 : Index := Scalar.indexCast v233
  let c0_146 : Index := 0#32
  ![v234.toNat, 0]
def k0_off10 (k0_t1 : Fin k0_t1_loop.trips) : Fin 2 → Nat :=
  let c0_i32_117 : BitVec 32 := 0#32
  let c1_i32_118 : BitVec 32 := 1#32
  let arg27 : BitVec 32 := Scf.iv c0_i32_117 c1_i32_118 k0_t1
  let c16_i32 : BitVec 32 := 16#32
  let v229 : BitVec 1 := Scalar.cmpi .eq arg27 c16_i32
  let c0_i32_145 : BitVec 32 := 0#32
  let c1_i32_144 : BitVec 32 := 1#32
  let v230 : BitVec 32 := Scalar.addi arg27 c1_i32_144
  let v231 : BitVec 32 := Scalar.select v229 c0_i32_145 v230
  let c256_i32 : BitVec 32 := 256#32
  let v232 : BitVec 32 := Scalar.muli v231 c256_i32
  let v233 : BitVec 32 := v232
  let v246 : Index := Scalar.indexCast v233
  let c0_153 : Index := 0#32
  ![v246.toNat, 0]
@[reducible] def k0_t2_loop : Scf.Loop 32 :=
  let c0_i32_160 : BitVec 32 := 0#32
  let c32_i32 : BitVec 32 := 32#32
  let v261 : BitVec 32 := Scalar.addi c0_i32_160 c32_i32
  let c1_i32_161 : BitVec 32 := 1#32
  ⟨c0_i32_160, v261, c1_i32_161⟩
def k0_mult2 (k0_t2 : Fin k0_t2_loop.trips) : BitVec 32 :=
  let c0_i32_207 : BitVec 32 := 0#32
  let c0_i32_160 : BitVec 32 := 0#32
  let c1_i32_161 : BitVec 32 := 1#32
  let arg30 : BitVec 32 := Scf.iv c0_i32_160 c1_i32_161 k0_t2
  let c8_i32 : BitVec 32 := 8#32
  let v315 : BitVec 32 := Scalar.muli arg30 c8_i32
  let v316 : BitVec 32 := Scalar.addi c0_i32_207 v315
  v316
def k0_off11 (k0_t2 : Fin k0_t2_loop.trips) : Fin 2 → Nat :=
  let c0_i32_207 : BitVec 32 := 0#32
  let c0_i32_160 : BitVec 32 := 0#32
  let c1_i32_161 : BitVec 32 := 1#32
  let arg30 : BitVec 32 := Scf.iv c0_i32_160 c1_i32_161 k0_t2
  let c8_i32 : BitVec 32 := 8#32
  let v315 : BitVec 32 := Scalar.muli arg30 c8_i32
  let v316 : BitVec 32 := Scalar.addi c0_i32_207 v315
  let v317 : BitVec 32 := v316
  let v318 : Index := Scalar.indexCast v317
  let c0_208 : Index := 0#32
  ![v318.toNat, 0]
def k0_mult3 (k0_t2 : Fin k0_t2_loop.trips) : BitVec 32 :=
  let c0_i32_219 : BitVec 32 := 0#32
  let c0_i32_160 : BitVec 32 := 0#32
  let c1_i32_161 : BitVec 32 := 1#32
  let arg30 : BitVec 32 := Scf.iv c0_i32_160 c1_i32_161 k0_t2
  let c8_i32_218 : BitVec 32 := 8#32
  let v374 : BitVec 32 := Scalar.muli arg30 c8_i32_218
  let v375 : BitVec 32 := Scalar.addi c0_i32_219 v374
  v375
def k0_cond2 (i : grid0.Coords) : BitVec 1 :=
  let c0_i32 : BitVec 32 := 0#32
  let arg0 : BitVec 32 := BitVec.ofNat 32 (i 0).val
  let v0 : BitVec 32 := Scalar.addi c0_i32 arg0
  let c3_i32_120 : BitVec 32 := 3#32
  let v226 : BitVec 1 := Scalar.cmpi .eq v0 c3_i32_120
  let v227 : BitVec 32 := Scalar.extui v226
  let c0_i32_143 : BitVec 32 := 0#32
  let v228 : BitVec 1 := Scalar.cmpi .ne v227 c0_i32_143
  v228

def k0_off12 (d1 : Dev nD) : Fin 3 → Nat :=
  let c4_i32_6 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v15 : BitVec 32 := Scalar.muli c4_i32_6 v3
  let c2_i32_7 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v16 : BitVec 32 := Scalar.muli c2_i32_7 v6
  let v17 : BitVec 32 := Scalar.addi v15 v16
  let c1_i32_5 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v14 : BitVec 32 := Scalar.subi c1_i32_5 v9
  let v18 : BitVec 32 := Scalar.addi v17 v14
  let c0_i32_145 : BitVec 32 := 0#32
  let c0_i32_146 : BitVec 32 := 0#32
  ![v18.toNat, 0, 0]
def k0_off13 (d1 : Dev nD) : Fin 3 → Nat :=
  let c4_i32_9 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v20 : BitVec 32 := Scalar.muli c4_i32_9 v3
  let c2_i32_10 : BitVec 32 := 2#32
  let c1_i32_8 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v19 : BitVec 32 := Scalar.subi c1_i32_8 v6
  let v21 : BitVec 32 := Scalar.muli c2_i32_10 v19
  let v22 : BitVec 32 := Scalar.addi v20 v21
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v23 : BitVec 32 := Scalar.addi v22 v9
  let c0_i32_158 : BitVec 32 := 0#32
  let c0_i32_159 : BitVec 32 := 0#32
  ![v23.toNat, 0, 0]
def k0_off14 (d1 : Dev nD) : Fin 3 → Nat :=
  let c4_i32_13 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v26 : BitVec 32 := Scalar.muli c4_i32_13 v3
  let c2_i32_14 : BitVec 32 := 2#32
  let c1_i32_11 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v24 : BitVec 32 := Scalar.subi c1_i32_11 v6
  let v27 : BitVec 32 := Scalar.muli c2_i32_14 v24
  let v28 : BitVec 32 := Scalar.addi v26 v27
  let c1_i32_12 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v25 : BitVec 32 := Scalar.subi c1_i32_12 v9
  let v29 : BitVec 32 := Scalar.addi v28 v25
  let c0_i32_171 : BitVec 32 := 0#32
  let c0_i32_172 : BitVec 32 := 0#32
  ![v29.toNat, 0, 0]
def k0_off15 (d1 : Dev nD) : Fin 3 → Nat :=
  let c4_i32_16 : BitVec 32 := 4#32
  let c1_i32_15 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v30 : BitVec 32 := Scalar.subi c1_i32_15 v3
  let v31 : BitVec 32 := Scalar.muli c4_i32_16 v30
  let c2_i32_17 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v32 : BitVec 32 := Scalar.muli c2_i32_17 v6
  let v33 : BitVec 32 := Scalar.addi v31 v32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v34 : BitVec 32 := Scalar.addi v33 v9
  let c0_i32_184 : BitVec 32 := 0#32
  let c0_i32_185 : BitVec 32 := 0#32
  ![v34.toNat, 0, 0]
def k0_off16 (d1 : Dev nD) : Fin 3 → Nat :=
  let c4_i32_20 : BitVec 32 := 4#32
  let c1_i32_18 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v35 : BitVec 32 := Scalar.subi c1_i32_18 v3
  let v37 : BitVec 32 := Scalar.muli c4_i32_20 v35
  let c2_i32_21 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v38 : BitVec 32 := Scalar.muli c2_i32_21 v6
  let v39 : BitVec 32 := Scalar.addi v37 v38
  let c1_i32_19 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v36 : BitVec 32 := Scalar.subi c1_i32_19 v9
  let v40 : BitVec 32 := Scalar.addi v39 v36
  let c0_i32_197 : BitVec 32 := 0#32
  let c0_i32_198 : BitVec 32 := 0#32
  ![v40.toNat, 0, 0]
def k0_off17 (d1 : Dev nD) : Fin 3 → Nat :=
  let c4_i32_24 : BitVec 32 := 4#32
  let c1_i32_22 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v41 : BitVec 32 := Scalar.subi c1_i32_22 v3
  let v43 : BitVec 32 := Scalar.muli c4_i32_24 v41
  let c2_i32_25 : BitVec 32 := 2#32
  let c1_i32_23 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v42 : BitVec 32 := Scalar.subi c1_i32_23 v6
  let v44 : BitVec 32 := Scalar.muli c2_i32_25 v42
  let v45 : BitVec 32 := Scalar.addi v43 v44
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v46 : BitVec 32 := Scalar.addi v45 v9
  let c0_i32_210 : BitVec 32 := 0#32
  let c0_i32_211 : BitVec 32 := 0#32
  ![v46.toNat, 0, 0]
def k0_off18 (d1 : Dev nD) : Fin 3 → Nat :=
  let c4_i32_29 : BitVec 32 := 4#32
  let c1_i32_26 : BitVec 32 := 1#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v47 : BitVec 32 := Scalar.subi c1_i32_26 v3
  let v50 : BitVec 32 := Scalar.muli c4_i32_29 v47
  let c2_i32_30 : BitVec 32 := 2#32
  let c1_i32_27 : BitVec 32 := 1#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v48 : BitVec 32 := Scalar.subi c1_i32_27 v6
  let v51 : BitVec 32 := Scalar.muli c2_i32_30 v48
  let v52 : BitVec 32 := Scalar.addi v50 v51
  let c1_i32_28 : BitVec 32 := 1#32
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v49 : BitVec 32 := Scalar.subi c1_i32_28 v9
  let v53 : BitVec 32 := Scalar.addi v52 v49
  let c0_i32_223 : BitVec 32 := 0#32
  let c0_i32_224 : BitVec 32 := 0#32
  ![v53.toNat, 0, 0]
def k0_off19 (d1 : Dev nD) : Fin 3 → Nat :=
  let c4_i32_3 : BitVec 32 := 4#32
  let v1 : BitVec 32 := Dev.word d1
  let c4_i32 : BitVec 32 := 4#32
  let v2 : BitVec 32 := Scalar.divsi v1 c4_i32
  let c2_i32 : BitVec 32 := 2#32
  let v3 : BitVec 32 := Scalar.remsi v2 c2_i32
  let v10 : BitVec 32 := Scalar.muli c4_i32_3 v3
  let c2_i32_4 : BitVec 32 := 2#32
  let v4 : BitVec 32 := Dev.word d1
  let c2_i32_1 : BitVec 32 := 2#32
  let v5 : BitVec 32 := Scalar.divsi v4 c2_i32_1
  let c2_i32_0 : BitVec 32 := 2#32
  let v6 : BitVec 32 := Scalar.remsi v5 c2_i32_0
  let v11 : BitVec 32 := Scalar.muli c2_i32_4 v6
  let v12 : BitVec 32 := Scalar.addi v10 v11
  let v7 : BitVec 32 := Dev.word d1
  let c1_i32 : BitVec 32 := 1#32
  let v8 : BitVec 32 := Scalar.divsi v7 c1_i32
  let c2_i32_2 : BitVec 32 := 2#32
  let v9 : BitVec 32 := Scalar.remsi v8 c2_i32_2
  let v13 : BitVec 32 := Scalar.addi v12 v9
  let c0_i32_237 : BitVec 32 := 0#32
  let c0_i32_238 : BitVec 32 := 0#32
  ![v13.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4352x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BackDownReferenceIdeal.lean ====
abbrev S34816x512 : Shape := ⟨2, ![34816, 512]⟩
abbrev S34816x2048 : Shape := ⟨2, ![34816, 2048]⟩
abbrev S1x2048 : Shape := ⟨2, ![1, 2048]⟩
abbrev S4x128x512 : Shape := ⟨3, ![4, 128, 512]⟩
abbrev S4x512x128 : Shape := ⟨3, ![4, 512, 128]⟩
abbrev S64x704x2048 : Shape := ⟨3, ![64, 704, 2048]⟩
abbrev S64 : Shape := ⟨1, ![64]⟩
abbrev S_ : Shape := ⟨0, ![]⟩
abbrev S64x1 : Shape := ⟨2, ![64, 1]⟩

abbrev nBuf : Space → Nat
  | .hbm => 21
  | .vmem => 0
  | .smem => 0
  | _ => 0

abbrev bufTy : (tb : Table) → Fin (tcTables nBuf tb) → BufTy
  | .hbm, ⟨0, _⟩ => ⟨S34816x512, .f32⟩
  | .hbm, ⟨1, _⟩ => ⟨S34816x512, .f32⟩
  | .hbm, ⟨2, _⟩ => ⟨S34816x2048, .bf16⟩
  | .hbm, ⟨3, _⟩ => ⟨S34816x2048, .bf16⟩
  | .hbm, ⟨4, _⟩ => ⟨S1x2048, .f32⟩
  | .hbm, ⟨5, _⟩ => ⟨S1x2048, .f32⟩
  | .hbm, ⟨6, _⟩ => ⟨S4x128x512, .f32⟩
  | .hbm, ⟨7, _⟩ => ⟨S4x128x512, .f32⟩
  | .hbm, ⟨8, _⟩ => ⟨S4x512x128, .f32⟩
  | .hbm, ⟨9, _⟩ => ⟨S4x512x128, .f32⟩
  | .hbm, ⟨10, _⟩ => ⟨S64x704x2048, .bf16⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x704x2048, .bf16⟩
  | _, _ => ⟨S34816x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== Proof.Wires.lean ====
/-
Copies among eight devices, each counted by a semaphore: what any such exchange shares.

Device `c` sends copy `k`, of seven, to the device at `c` under the mask `mask k`, and makes one more copy for itself. Of
every copy one semaphore of the sender counts that it has gone and one of the receiver that it has come; a last semaphore
counts the device's own copy. `pay c i` is what semaphore `i` of device `c` hands over when its copy is done, and an
exchange is told by its wires and by this `pay` alone.
-/
module

public import Idealize.ShloMosaic.Lib.Pipeline.Launch
public import Idealize.ShloMosaic.Lib.Pipeline.Kit
public import Idealize.ShloMosaic.Lib.Tactic

@[expose] public section

noncomputable section

namespace Cert.Wires

open Idealize.ShloMosaic Idealize.ShloMosaic.TcCoe
open Idealize.ShloMosaic.Rounds
open Idealize.SL Idealize.SL.RA Idealize.SL.BI
open Idealize.SL.BI.BIBase Idealize.SL.BI.Laws Idealize.SL.ProofMode Idealize.SL.Sem

set_option Elab.async false

variable {sig : RefSig} {Val : EltTy → Type}

abbrev τ₇ : Topo := Topo.v7x
/-- Device `c`'s core. -/
abbrev th (c : Fin 8) : Thread 8 τ₇ := (c, .tc)
/-- The ghost state: the pipeline's and the exchange's. -/
abbrev UU (sig : RefSig) : Type := UR sig 8 τ₇ × UR sig 8 τ₇
local notation "𝕄" => MT 8 τ₇ sig Unit Val ℕ (UU sig) ℕ

abbrev EP : Emb (UR sig 8 τ₇) (MT 8 τ₇ sig Unit Val ℕ (UU sig) ℕ) := embL
abbrev ER : Emb (UR sig 8 τ₇) (MT 8 τ₇ sig Unit Val ℕ (UU sig) ℕ) := embR

/-- The semaphores of an exchange: copy `k` gone, copy `k` come, the local copy. -/
abbrev CellId : Type := Fin 7 ⊕ Fin 7 ⊕ Unit
abbrev gone (k : Fin 7) : CellId := .inl k
abbrev come (k : Fin 7) : CellId := .inr (.inl k)
abbrev loc : CellId := .inr (.inr ())

/-- The wires of an exchange: its semaphores, where each copy goes, and how much each copy counts. -/
structure Wires (sig : RefSig) where
  /-- The semaphore that counts copy `k` gone, the one that counts copy `k` come, and the own copy's. -/
  sem : CellId → DmaSem sig
  sem_inj : Function.Injective sem
  /-- Where copy `k` goes, as a mask on the sender's number. -/
  mask : Fin 7 → Fin 8
  /-- How late copy `k` arrives: a device may wait for an arrival while it owes only later ones. -/
  tier : Fin 7 → ℕ
  /-- What one copy counts. -/
  amount : ℕ
  amount_pos : 0 < amount

/-- The device copy `k` of device `c` goes to. -/
abbrev Wires.peer (w : Wires sig) (k : Fin 7) (c : Fin 8) : Fin 8 := c ^^^ w.mask k
theorem mask_mask (c p : Fin 8) : c ^^^ p ^^^ p = c := by revert c p; decide
theorem Wires.peer_peer (w : Wires sig) (k : Fin 7) (c : Fin 8) : w.peer k (w.peer k c) = c := mask_mask c (w.mask k)
/-- The senders and receivers of copy `k`, matched. -/
def Wires.peers (w : Wires sig) (k : Fin 7) : Fin 8 ≃ Fin 8 := ⟨w.peer k, w.peer k, w.peer_peer k, w.peer_peer k⟩

variable (w : Wires sig) (pay : Fin 8 → CellId → sProp (MT 8 τ₇ sig Unit Val ℕ (UU sig) ℕ))

/-- Device `c`'s semaphore `i`. -/
def cell (ci : Fin 8 × CellId) : GSem 8 τ₇ sig := (th ci.1, .dma (w.sem ci.2))

theorem cell_inj : Function.Injective (cell w) := by
  rintro ⟨c, i⟩ ⟨c', i'⟩ h
  have h1 : c = c' := congrArg (fun g : GSem 8 τ₇ sig => g.1.1) h
  have h2 : (SemLoc.dma (w.sem i) : SemLoc sig) = .dma (w.sem i') := congrArg Prod.snd h
  have h3 : i = i' := w.sem_inj (by injection h2)
  subst h1; subst h3; rfl

/-- What may be handed over: assertions an invariant can store. -/
class Payable (pay : Fin 8 → CellId → sProp (MT 8 τ₇ sig Unit Val ℕ (UU sig) ℕ)) : Prop where
  storable : ∀ c i, BI.Storable (upEmb : UEmb _ 𝕄) (pay c i)

/-- The schedule: every semaphore expects one copy. -/
def sched : Rounds.Schedule (GSem 8 τ₇ sig) Unit 𝕄 where
  duties g r := if r = 0 ∧ g.1.2 = .tc ∧ ∃ i, g.2 = .dma (w.sem i) then {()} else ∅
  unitless _ := False
  amount _ _ _ := w.amount
  payload g _ _ := if h : ∃ i, g.2 = .dma (w.sem i) then pay g.1.1 h.choose else iprop(emp)
  amount_pos _ _ _ _ := w.amount_pos

instance sched_storable [Payable pay] (g : GSem 8 τ₇ sig) (r : ℕ) (d : Unit) : BI.Storable (upEmb : UEmb _ 𝕄) ((sched w pay).payload g r d) := by
  show BI.Storable upEmb (if h : ∃ i, g.2 = .dma (w.sem i) then pay g.1.1 h.choose else iprop(emp))
  split
  · exact Payable.storable _ _
  · infer_instance

theorem duties_cell (ci : Fin 8 × CellId) : (sched w pay).duties (cell w ci) 0 = {()} := if_pos ⟨rfl, rfl, ci.2, rfl⟩
theorem duties_later (g : GSem 8 τ₇ sig) (r : ℕ) (hr : 0 + 1 ≤ r) : (sched w pay).duties g r = ∅ := if_neg fun h => by omega
theorem amount_cell (g : GSem 8 τ₇ sig) (r : ℕ) (u : Unit) : (sched w pay).amount g r u = w.amount := rfl
theorem expect_cell (ci : Fin 8 × CellId) : (sched w pay).expect (cell w ci) 0 = w.amount := by
  unfold Schedule.expect Schedule.amountOf; rw [duties_cell, Finset.sum_singleton]; rfl
theorem payload_cell (ci : Fin 8 × CellId) (r : ℕ) (u : Unit) : (sched w pay).payload (cell w ci) r u = pay ci.1 ci.2 := by
  have hex : ∃ i, (cell w ci).2 = .dma (w.sem i) := ⟨ci.2, rfl⟩
  have hc : hex.choose = ci.2 := w.sem_inj (by have h := hex.choose_spec; unfold cell at h; injection h with h; exact h.symm)
  have : (sched w pay).payload (cell w ci) r u = pay (cell w ci).1.1 hex.choose := dif_pos hex
  rw [this, hc]; rfl
theorem rest_cell (ci : Fin 8 × CellId) :
    bigSep ((sched w pay).duties (cell w ci) 0 \ ∅) (fun u => (sched w pay).payload (cell w ci) 0 u) = pay ci.1 ci.2 := by
  rw [Finset.sdiff_empty, duties_cell, bigSep_singleton, payload_cell]

/-! ## What is owed, and in which order it may be waited for -/

/-- What device `c` owes when the copies of `l` are still to be sent. -/
def dues (l : List (Fin 7)) (c : Fin 8) : CellTallies 8 τ₇ sig Unit :=
  (l.map fun k => tallyAt (cell w (w.peer k c, come k)) () w.amount).sum

theorem dues_cons (k : Fin 7) (l : List (Fin 7)) (c : Fin 8) :
    dues w (k :: l) c = dues w l c + tallyAt (cell w (w.peer k c, come k)) () w.amount := by
  unfold dues; rw [List.map_cons, List.sum_cons, add_comm]

theorem dues_pos {l : List (Fin 7)} {c : Fin 8} {g : GSem 8 τ₇ sig} {u : Unit} (h : 0 < dues w l c g u) :
    ∃ k ∈ l, g = cell w (w.peer k c, come k) := by
  induction l with
  | nil => exact absurd h (Nat.lt_irrefl 0)
  | cons k l ih =>
    rw [dues_cons, Pi.add_apply, Finsupp.add_apply, tallyAt_apply] at h
    by_cases hg : g = cell w (w.peer k c, come k) ∧ u = ()
    · exact ⟨k, List.mem_cons_self, hg.1⟩
    · rw [if_neg hg, Nat.add_zero] at h
      obtain ⟨k', hk', e⟩ := ih h
      exact ⟨k', List.mem_cons_of_mem _ hk', e⟩

open Classical in
/-- Arrivals have their tier, everything else lies below. -/
def level (sm : SemLoc sig) : ℕ := if h : ∃ k : Fin 7, sm = .dma (w.sem (come k)) then w.tier h.choose else 0

theorem level_arrival (k : Fin 7) : level w (.dma (w.sem (come k))) = w.tier k := by
  have hex : ∃ k' : Fin 7, (SemLoc.dma (w.sem (come k)) : SemLoc sig) = .dma (w.sem (come k')) := ⟨k, rfl⟩
  have hc : hex.choose = k := by
    have h2 : come k = come hex.choose := w.sem_inj (by have h := hex.choose_spec; injection h)
    simpa [come] using h2.symm
  unfold level; rw [dif_pos hex, hc]

/-- A semaphore that counts no arrival has the lowest level. -/
theorem level_other (q : DmaSem sig) (h : ∀ k, q ≠ w.sem (come k)) : level w (.dma q) = 0 := by
  unfold level
  rw [dif_neg]
  rintro ⟨k, e⟩; exact h k (by injection e)
theorem lev_gone (k : Fin 7) : level w (.dma (w.sem (gone k))) = 0 :=
  level_other w _ fun k' h => by simpa [gone, come] using w.sem_inj h
theorem lev_loc : level w (.dma (w.sem loc)) = 0 :=
  level_other w _ fun k' h => by simpa [loc, come] using w.sem_inj h

def levIx (g : GSem 8 τ₇ sig) : Finset Unit := if g.1.2 = .tc then {()} else ∅
def lev (g : GSem 8 τ₇ sig) (_ : Unit) : ℕ := level w g.2
theorem levIx_other (g : GSem 8 τ₇ sig) (h : g.1.2 ≠ .tc) : levIx g = ∅ := if_neg h
theorem levIx_tc (c : Dev 8) (sm : SemLoc sig) : levIx (th c, sm) = {()} := if_pos rfl

/-- A device may wait on a semaphore while all it owes lies at higher levels. -/
theorem may_wait (c : Fin 8) (q : DmaSem sig) (l : List (Fin 7)) (b : ℕ) (hb : level w (.dma q) ≤ b)
    (hl : ∀ k ∈ l, b < level w (.dma (w.sem (come k)))) :
    (levAts levIx (lev w) : sProp 𝕄) ⊢ MayWait (th c) (.dma q) () (dues w l c) :=
  MayOwe.of_cut (L := levIx) (lev := lev w) b
    (fun p hp => by rw [Finset.mem_singleton.mp hp, levIx_tc]; exact Finset.mem_singleton_self _)
    (fun g u hg => by obtain ⟨k, -, rfl⟩ := dues_pos w hg; exact Finset.mem_singleton_self _)
    (fun p hp => by rw [Finset.mem_singleton.mp hp]; exact hb)
    (fun g u hg => by obtain ⟨k, hk, rfl⟩ := dues_pos w hg; exact hl k hk)

/-! ## The bundles a device holds -/

/-- Every cell's invariant, and that its first round is open. -/
def records (K : Fin 8 × CellId → ℕ) : sProp 𝕄 :=
  iprop((bigSep Finset.univ fun ci : Fin 8 × CellId => cellInv ER (sched w pay) (K ci) (cell w ci))
    ∗ bigSep Finset.univ fun ci : Fin 8 × CellId => reached ER (cell w ci) 0)
instance records_persistent (K : Fin 8 × CellId → ℕ) : BI.Persistent (records w pay K) := by unfold records; infer_instance

theorem inv_at (K : Fin 8 × CellId → ℕ) (ci : Fin 8 × CellId) :
    (bigSep Finset.univ fun ci : Fin 8 × CellId => (cellInv ER (sched w pay) (K ci) (cell w ci) : sProp 𝕄)) ⊢ cellInv ER (sched w pay) (K ci) (cell w ci) :=
  bigSep_elim (Finset.mem_univ ci)
theorem reached_at (ci : Fin 8 × CellId) :
    (bigSep Finset.univ fun ci : Fin 8 × CellId => (reached ER (cell w ci) 0 : sProp 𝕄)) ⊢ reached ER (cell w ci) 0 :=
  bigSep_elim (Finset.mem_univ ci)
theorem records_inv (K : Fin 8 × CellId → ℕ) (ci : Fin 8 × CellId) : records w pay K ⊢ cellInv ER (sched w pay) (K ci) (cell w ci) := by
  unfold records; iintro ⟨H, -⟩; iapply (inv_at w pay K ci); iexact H
theorem records_reached (K : Fin 8 × CellId → ℕ) (ci : Fin 8 × CellId) : records w pay K ⊢ reached ER (cell w ci) 0 := by
  unfold records; iintro ⟨-, H⟩; iapply (reached_at w ci); iexact H

variable (Val) in
/-- The tokens with which device `c` sends copy `k`: both semaphores'. -/
def ticket (k : Fin 7) (c : Fin 8) : sProp 𝕄 :=
  iprop(dutyTok ER (cell w (c, gone k)) 0 () ∗ dutyTok ER (cell w (w.peer k c, come k)) 0 ())
variable (Val) in
/-- Device `c` at the start of semaphore `i`. -/
def fresh (c : Fin 8) (i : CellId) : sProp 𝕄 := atPos ER (cell w (c, i)) 0 ∅ 0
variable (Val) in
/-- Device `c` with the right to wait on its semaphore `i`. -/
def await (c : Fin 8) (i : CellId) : sProp 𝕄 := iprop(cred (tallyAt (cell w (c, i)) () w.amount) ∗ fresh Val w c i)
variable (Val) in
/-- Device `c` past its wait on semaphore `i`. -/
def done (c : Fin 8) (i : CellId) : sProp 𝕄 := atPos ER (cell w (c, i)) (0 + 1) ∅ 0
variable (Val) in
/-- Device `c` owes `O`. -/
def owing (c : Fin 8) (O : CellTallies 8 τ₇ sig Unit) : sProp 𝕄 := iprop(∃ W, owes (th c) O W)

/-! ## The steps -/

theorem duty_mem (ci : Fin 8 × CellId) : () ∈ (sched w pay).duties (cell w ci) 0 := by
  rw [duties_cell]; exact Finset.mem_singleton_self _

section Steps

variable [Payable pay]
variable {Λ : Labels} {α : Type} (defs : Defs 8 τ₇ sig Val Λ) (𝒱 : Variants) (K : Fin 8 × CellId → ℕ)

/-- A copy to a peer: what it reads is handed back by the one semaphore, what it fills is handed over by the other. -/
theorem wp_send (k : Fin 7) (c n : Fin 8) (hn : n = w.peer k c)
    {sp sp' : Space} {s : Shape} {e : EltTy} {src : Memref sig .tc sp s e} {dst : Memref sig .tc sp' s e}
    {sS sR : DmaSem sig} (hS : sS = w.sem (gone k)) (hR : sR = w.sem (come k)) (hN : dst.view.dmaCredit = w.amount) (l : List (Fin 7))
    {q : PosShare TreeShare} {fs : Buf Val (src.view.loc (th c))} {fd : Buf Val (dst.view.loc (th n))}
    (hp₁ : (src.view.loc (th c) ↦[src.view.set]{q} fs : sProp 𝕄) ⊢ pay c (gone k))
    (hp₂ : (dst.view.loc (th n) ↦[dst.view.set]{fullShare} (dst.view.write Val fd (src.view.read Val fs) Finset.univ) : sProp 𝕄) ⊢ pay n (come k))
    {hsc : dst.view.ref.isScScratch = false} {h₁ : src.view.WordExact} {h₂ : dst.view.WordExact}
    {h₃ : DmaTarget.Typed sp (.dma sR) (.remote (th n) dst (.dma sS) hsc)}
    {Q : α → sProp 𝕄} {p : PUnit → Prog (TpuEff 8 τ₇ sig Val Λ .tc) α} :
    iprop(records w pay K ∗ (src.view.loc (th c) ↦[src.view.set]{q} fs) ∗ (dst.view.loc (th n) ↦[dst.view.set]{fullShare} fd)
        ∗ ticket Val w k c ∗ fresh Val w c (gone k) ∗ owing Val c (dues w (k :: l) c))
      ⊢ iprop(((await Val w c (gone k) ∗ owing Val c (dues w l c)) -∗ wp frame (wpE defs 𝒱 (th c) none) Set.univ (p ⟨⟩) Q)
          -∗ wp frame (wpE defs 𝒱 (th c) none) Set.univ (.op (.enqueueDma src (.remote (th n) dst (.dma sS) hsc) (.dma sR) h₁ h₂ h₃) p) Q) := by
  subst hn; subst hS; subst hR
  unfold ticket owing await
  iintro ⟨#Hrec, Hs, Hd, ⟨Ht1, Ht2⟩, Hat, ⟨%W, HO⟩⟩ Hk
  have e := Rounds.wp_send_pointsTo (Γ := .empty) (defs := defs) 𝒱 ER (sched w pay) (th c) none (c' := th (w.peer k c))
    (κ₁ := K (c, gone k)) (κ₂ := K (w.peer k c, come k)) (src := src) (dst := dst) (hsc := hsc) (hsrc := h₁) (hdst := h₂) (hsem := h₃)
    (sS := .dma (w.sem (gone k))) (sem := .dma (w.sem (come k))) (q := q) (fs := fs)
    (r₁ := 0) (r₂ := 0) (d₁ := ()) (d₂ := ()) (fd := fd) (k := p) (Q := Q)
    (duty_mem w pay (c, gone k)) (duty_mem w pay (w.peer k c, come k))
    () () w.amount hN rfl rfl (dues w l c) (dues_cons w k l c) (W := W) (Es := Set.univ)
    (hp₁.trans (Entails.of_eq (payload_cell w pay (c, gone k) 0 ()).symm))
    (hp₂.trans (Entails.of_eq (payload_cell w pay (w.peer k c, come k) 0 ()).symm))
  iapply e $$ [Hs Ht1 Ht2 Hd HO]
  · isplitr; · iapply (records_inv w pay K (c, gone k)); iexact Hrec
    isplitr; · iapply (records_inv w pay K (w.peer k c, come k)); iexact Hrec
    isplitl [Hs]; · iexact Hs
    isplitl [Hd]; · iexact Hd
    isplitl [HO]; · iexact HO
    isplitl [Ht1]; · iexact Ht1
    isplitr; · iapply (records_reached w pay K (c, gone k)); iexact Hrec
    isplitl [Ht2]; · iexact Ht2
    iapply (records_reached w pay K (w.peer k c, come k)); iexact Hrec
  iintro ⟨Hc, HO⟩
  iapply Hk
  isplitl [Hc Hat]
  · isplitl [Hc]; · iexact Hc
    iexact Hat
  iexists W; iexact HO

/-- The device's own copy: its semaphore hands back both ends. -/
theorem wp_own (c : Fin 8) {sp sp' : Space} {s : Shape} {e : EltTy} {src : Memref sig .tc sp s e} {dst : Memref sig .tc sp' s e}
    {sL : DmaSem sig} (hL : sL = w.sem loc) (hN : dst.view.dmaCredit = w.amount)
    {q : PosShare TreeShare} {fs : Buf Val (src.view.loc (th c))} {fd : Buf Val (dst.view.loc (th c))}
    (hp : iprop((dst.view.loc (th c) ↦[dst.view.set]{fullShare} (dst.view.write Val fd (src.view.read Val fs) Finset.univ))
        ∗ (src.view.loc (th c) ↦[src.view.set]{q} fs)) ⊢ (pay c loc : sProp 𝕄))
    {h₁ : src.view.WordExact} {h₂ : dst.view.WordExact} {h₃ : DmaTarget.Typed (nD := 8) (τ := τ₇) (p := .tc) sp (.dma sL) (.here dst)}
    {Q : α → sProp 𝕄} {p : PUnit → Prog (TpuEff 8 τ₇ sig Val Λ .tc) α} :
    iprop(records w pay K ∗ (src.view.loc (th c) ↦[src.view.set]{q} fs) ∗ (dst.view.loc (th c) ↦[dst.view.set]{fullShare} fd)
        ∗ dutyTok ER (cell w (c, loc)) 0 () ∗ fresh Val w c loc)
      ⊢ iprop((await Val w c loc -∗ wp frame (wpE defs 𝒱 (th c) none) Set.univ (p ⟨⟩) Q)
          -∗ wp frame (wpE defs 𝒱 (th c) none) Set.univ (.op (.enqueueDma src (.here dst) (.dma sL) h₁ h₂ h₃) p) Q) := by
  subst hL
  unfold await
  iintro ⟨#Hrec, Hs, Hd, Ht, Hat⟩ Hk
  have e := Rounds.wp_copy_pointsTo (Γ := .empty) (defs := defs) 𝒱 ER (sched w pay) (th c) none (κ := K (c, loc))
    (src := src) (dst := dst) (hsrc := h₁) (hdst := h₂) (hsem := h₃) (sem := .dma (w.sem loc)) (q := q)
    (fs := fs) (r := 0) (d := ()) (fd := fd) (k := p) (Q := Q)
    (duty_mem w pay (c, loc)) () w.amount hN rfl (hp.trans (Entails.of_eq (payload_cell w pay (c, loc) 0 ()).symm)) (Es := Set.univ)
  iapply e $$ [Hs Ht Hd]
  · isplitr; · iapply (records_inv w pay K (c, loc)); iexact Hrec
    isplitl [Hs]; · iexact Hs
    isplitl [Hd]; · iexact Hd
    isplitl [Ht]; · iexact Ht
    iapply (records_reached w pay K (c, loc)); iexact Hrec
  iintro Hc
  iapply Hk
  isplitl [Hc]; · iexact Hc
  iexact Hat

/-- A wait on a semaphore: what it promises comes in. -/
theorem wp_arrive (c : Fin 8) (i : CellId) {s : DmaSem sig} (hs : s = w.sem i)
    {sp sp' : Space} {sh sh' : Shape} {e e' : EltTy} {src : Memref sig .tc sp' sh' e'} {dst : Memref sig .tc sp sh e}
    (hN : dst.view.dmaCredit = w.amount) (l : List (Fin 7)) (b : ℕ) (hb : level w (.dma (w.sem i)) ≤ b)
    (hl : ∀ k ∈ l, b < level w (.dma (w.sem (come k))))
    {h₁ : src.view.WordExact} {h₂ : dst.view.WordExact}
    {Q : α → sProp 𝕄} {p : PUnit → Prog (TpuEff 8 τ₇ sig Val Λ .tc) α} :
    iprop(records w pay K ∗ levAts levIx (lev w) ∗ await Val w c i ∗ owing Val c (dues w l c))
      ⊢ iprop(((pay c i ∗ done Val w c i ∗ owing Val c (dues w l c)) -∗ wp frame (wpE defs 𝒱 (th c) none) Set.univ (p ⟨⟩) Q)
          -∗ wp frame (wpE defs 𝒱 (th c) none) Set.univ (.op (.waitDma2 s src dst h₁ h₂) p) Q) := by
  subst hs
  unfold await fresh owing done
  iintro ⟨#Hrec, #Hlev, ⟨Hc, Hat⟩, ⟨%W, HO⟩⟩ Hk
  have e := Rounds.wp_wait_rest_token (Γ := .empty) (defs := defs) 𝒱 ER (sched w pay) (th c) none (κ := K (c, i))
    (w := .waitDma2 (w.sem i) src dst h₁ h₂) (sm := .dma (w.sem i)) (k' := w.amount)
    (fun K' => (wpE_waitDma2_eq (defs := defs) 𝒱 (th c) none Set.univ K').trans (by rw [hN])) (Set.mem_univ _) (k := p) (Q := Q) () (O := dues w l c) (W := W) (R := 0) (m := 0) (T := ∅)
    (by rw [Nat.zero_add]; exact (expect_cell w pay (c, i)).symm)
  iapply e $$ [Hc Hat HO]
  · isplitr; · iapply (records_inv w pay K (c, i)); iexact Hrec
    isplitl [Hc]; · iexact Hc
    isplitl [HO]; · iexact HO
    isplitr; · iapply (may_wait w c (w.sem i) l b hb hl); iexact Hlev
    iexact Hat
  iintro ⟨HO, Hat, -, Hp⟩
  iapply Hk
  isplitl [Hp]
  · iapply (Entails.of_eq (rest_cell w pay (c, i))); iexact Hp
  isplitl [Hat]; · iexact Hat
  iexists _; iexact HO

end Steps

/-- A semaphore past its wait is taken back, at zero. -/
theorem close_cell [Payable pay] (K : Fin 8 × CellId → ℕ) (c : Fin 8) (i : CellId) :
    iprop(records w pay K ∗ done Val w c i) ⊢ (|={Set.univ}=> semVal (cell w (c, i)) 0 : sProp 𝕄) := by
  unfold done
  iintro ⟨#Hrec, Hat⟩
  iapply (Rounds.cell_close ER (sched w pay) (g := cell w (c, i)) (Set.mem_univ (K (c, i))) (fun h => h) (R := 0 + 1) (duties_later w pay (cell w (c, i))))
  isplitr; · iapply (records_inv w pay K (c, i)); iexact Hrec
  iexact Hat

end Cert.Wires

end
-- ==== Proof.Net.lean ====
/-
An all-gather among eight devices in two stages: the names and the geometry.

Device `c` holds one shard and an array of eight blocks, block `j` to hold device `j`'s shard in the end. Copy `k` of
device `c` goes to the device at `c` under the mask `toMask k`. Copies 0 to 3 carry the device's own shard; copies 4, 5
and 6 pass on the blocks that copies 1, 2 and 3 of other devices brought. On device `d` copy `k` fills the block at `d`
under the mask `inMask k`; the mask at 7 is the device's own block, which a local copy fills.
-/
module

public import proofs.«01_k».proof.Proof.Wires

@[expose] public section

noncomputable section

namespace Cert.Gather

open Idealize.ShloMosaic Idealize.ShloMosaic.TcCoe
open Cert.Wires

/-! ## Masks -/

/-- Where copy `k` goes, as a mask on the sender's number; 7 stays on the device. -/
def toMask : Fin 8 → Fin 8 := ![1, 4, 2, 6, 1, 1, 1, 0]
/-- Which block copy `k` fills, as a mask on the receiver's number; 7 fills the device's own block. -/
def inMask : Fin 8 → Fin 8 := ![1, 4, 2, 6, 5, 3, 7, 0]
/-- Which block copy `k` carries, as a mask on the sender's number. -/
def outMask : Fin 8 → Fin 8 := ![0, 0, 0, 0, 4, 2, 6, 0]

/-- The device copy `k` of device `c` goes to. -/
def goTo (k c : Fin 8) : Fin 8 := c ^^^ toMask k
/-- The block that copy `k` fills on device `d`. -/
def inn (k d : Fin 8) : Fin 8 := d ^^^ inMask k
/-- The block that copy `k` of device `c` carries. -/
def out (k c : Fin 8) : Fin 8 := c ^^^ outMask k

theorem goTo_goTo (k c : Fin 8) : goTo k (goTo k c) = c := by revert k c; decide
theorem inn_inn (k c : Fin 8) : inn k (inn k c) = c := by revert k c; decide
/-- A copy fills the block it carries. -/
theorem inn_goTo (k c : Fin 8) : inn k (goTo k c) = out k c := by revert k c; decide
theorem inn_inj (c : Fin 8) : Function.Injective fun k => inn k c := by revert c; decide
theorem goTo_seven (c : Fin 8) : goTo 7 c = c := by revert c; decide
theorem inn_seven (c : Fin 8) : inn 7 c = c := by revert c; decide
theorem out_first (c : Fin 8) : out 0 c = c ∧ out 1 c = c ∧ out 2 c = c ∧ out 3 c = c := by revert c; decide
theorem out_pass (c : Fin 8) : out 4 c = inn 1 c ∧ out 5 c = inn 2 c ∧ out 6 c = inn 3 c := by revert c; decide

/-- The senders and receivers of copy `k`, matched. -/
def toEquiv (k : Fin 8) : Fin 8 ≃ Fin 8 := ⟨goTo k, goTo k, goTo_goTo k, goTo_goTo k⟩
/-- The copies that fill device `d`'s blocks, matched with the blocks. -/
def innEquiv (d : Fin 8) : Fin 8 ≃ Fin 8 :=
  Equiv.ofBijective (fun k => inn k d) ((Finite.injective_iff_bijective).mp (inn_inj d))
@[simp] theorem innEquiv_apply (d k : Fin 8) : innEquiv d k = inn k d := rfl

/-! ## The shapes -/

/-- A block's shape. -/
abbrev BlkS (R C : Nat) : Shape := ⟨2, ![R, C]⟩
/-- The gathered array's shape. -/
abbrev OutS (R C : Nat) : Shape := ⟨3, ![8, R, C]⟩
/-- The shape of one block as a slice of the gathered array. -/
abbrev OneS (R C : Nat) : Shape := ⟨3, ![1, R, C]⟩

/-- The names one such gather uses on every device: the shard's array, the gathered array, and the semaphores. -/
structure Net (sig : RefSig) (R C : Nat) where
  /-- The shard. -/
  src : Memref sig .tc .hbm (BlkS R C) .bf16
  /-- The gathered array. -/
  arr : Memref sig .tc .hbm (OutS R C) .bf16
  /-- The semaphore that counts copy `k` gone, the one that counts copy `k` come, and the local copy's. -/
  sem : CellId → DmaSem sig
  sem_inj : Function.Injective sem
  squeezes : (OneS R C).Squeezes (BlkS R C)
  rows_pos : 0 < R
  cols_pos : 0 < C
  src_set : src.view.set = Finset.univ
  arr_set : arr.view.set = Finset.univ

variable {sig : RefSig} {R C : Nat} (net : Net sig R C)

namespace Net

theorem inb (j : Fin 8) : ∀ a, (![j.val, 0, 0] : Fin (OutS R C).rank → Nat) a + (OneS R C).size a ≤ (OutS R C).size a := by
  have := j.isLt
  intro a; fin_cases a
  · show j.val + 1 ≤ 8; omega
  · show 0 + R ≤ R; omega
  · show 0 + C ≤ C; omega

/-- The part of the gathered array at offset `off`. -/
abbrev blkAt (off : Fin 3 → Nat) (h : ∀ a, off a + (OneS R C).size a ≤ (OutS R C).size a) : Memref sig .tc .hbm (BlkS R C) .bf16 :=
  (net.arr.slice (Rect.unit (s := OutS R C) off (OneS R C).size h) (fun _ => rfl)).squeeze (BlkS R C) net.squeezes

/-- Block `j` of the gathered array. -/
abbrev blk (j : Fin 8) : Memref sig .tc .hbm (BlkS R C) .bf16 := net.blkAt ![j.val, 0, 0] (inb j)

theorem blkAt_eq {off : Fin 3 → Nat} {h} {j : Fin 8} (e : off = ![j.val, 0, 0]) : net.blkAt off h = net.blk j := by
  subst e; rfl

theorem blk_set (j : Fin 8) : (net.blk j).view.set
    = (Rect.unit (s := OutS R C) ![j.val, 0, 0] (OneS R C).size (inb j)).set.map net.arr.view.emb :=
  (View.set_reshape _ _).trans (View.set_slice _ _)

/-- The elements of block `j`. -/
def blkSet (j : Fin 8) : Finset net.arr.view.ty.Idx := (net.blk j).view.set

/-- Two blocks share no element. -/
theorem blk_disjoint (i j : Fin 8) (h : i ≠ j) : Disjoint (net.blkSet i) (net.blkSet j) := by
  unfold blkSet; rw [blk_set, blk_set, Finset.disjoint_map]
  refine Rect.unit_disjoint 0 ?_
  have hij : i.val ≠ j.val := fun e => h (Fin.ext e)
  show i.val + 1 ≤ j.val ∨ j.val + 1 ≤ i.val
  omega

/-- The eight blocks are the whole array. -/
theorem blk_cover : (Finset.univ : Finset (Fin 8)).biUnion net.blkSet = Finset.univ := by
  rw [← net.arr_set]
  refine Finset.Subset.antisymm (fun x hx => ?_) fun x hx => ?_
  · rw [net.arr_set]; exact Finset.mem_univ _
  · obtain ⟨i, -, rfl⟩ := Finset.mem_map.mp hx
    refine Finset.mem_biUnion.mpr ⟨⟨(i 0).val, (i 0).isLt⟩, Finset.mem_univ _, ?_⟩
    unfold blkSet; rw [blk_set]
    refine Finset.mem_map_of_mem _ (Rect.mem_set_unit.mpr fun a => ?_)
    fin_cases a
    · exact ⟨le_rfl, Nat.lt_succ_self _⟩
    · exact ⟨Nat.zero_le _, by show (i 1).val < 0 + R; have := (i 1).isLt; rw [Nat.zero_add]; exact this⟩
    · exact ⟨Nat.zero_le _, by show (i 2).val < 0 + C; have := (i 2).isLt; rw [Nat.zero_add]; exact this⟩

/-- What one copy counts. -/
def amount : ℕ := (net.blk 0).view.dmaCredit

theorem amount_pos : 0 < net.amount :=
  View.dmaCredit_pos _ (Shape.numel_pos fun a => by fin_cases a; exacts [net.rows_pos, net.cols_pos])

theorem blk_amount (j : Fin 8) : (net.blk j).view.dmaCredit = net.amount := rfl

/-- The gather as an exchange: the passed copies' arrivals come last. -/
abbrev wires : Wires sig where
  sem := net.sem
  sem_inj := net.sem_inj
  mask k := toMask k.castSucc
  tier k := if 4 ≤ k.val then 2 else 1
  amount := net.amount
  amount_pos := net.amount_pos

end Net

end Cert.Gather

end
-- ==== Proof.Protocol.lean ====
/-
The protocol of the two-stage all-gather: what each semaphore promises.

Every semaphore of the gather counts one copy. The one that counts copy `k` gone hands back what the copy read: a share of
the shard for copies 0 to 3, the passed block for copies 4 to 6. The one that counts copy `k` come hands over the block it
filled, holding the shard of the device the block belongs to. The local copy's hands back both ends. A device may send
before its peers have started: the right to write a peer's block is dealt to the sender at the launch.
-/
module

public import proofs.«01_k».proof.Proof.Net
public import Idealize.ShloMosaic.Lib.Pipeline.Kit

@[expose] public section

noncomputable section

namespace Cert.Gather

open Idealize.ShloMosaic Idealize.ShloMosaic.TcCoe
open Idealize.ShloMosaic.Rounds
open Cert.Wires
open Idealize.SL Idealize.SL.RA Idealize.SL.BI
open Idealize.SL.BI.BIBase Idealize.SL.BI.Laws Idealize.SL.ProofMode Idealize.SL.Sem

set_option Elab.async false

variable {sig : RefSig} {R C : Nat} {Val : EltTy → Type}

local notation "𝕄" => MT 8 τ₇ sig Unit Val ℕ (UU sig) ℕ

variable (net : Net sig R C) (m : (ℓ : Loc 8 τ₇ sig) → Buf Val ℓ)

/-! ## What is held -/

/-- Device `j`'s shard. -/
def shard (j : Fin 8) : (BlkS R C).Idx → Val .bf16 := net.src.view.read Val (m (net.src.view.loc (th j)))

/-- The share of the shard that copy `k` reads, and at 4 the local copy's. -/
def share : Fin 5 → PosShare TreeShare := ![fullShare.left, fullShare.right.left, fullShare.right.right.left,
  fullShare.right.right.right.left, fullShare.right.right.right.right]

/-- Device `c`'s shard's array at share `q`, unchanged. -/
def srcPts (c : Fin 8) (q : PosShare TreeShare) : sProp 𝕄 :=
  net.src.view.loc (th c) ↦[net.src.view.set]{q} m (net.src.view.loc (th c))
/-- Device `d`'s block `j`, holding device `j`'s shard. -/
def filled (d j : Fin 8) : sProp 𝕄 := owns (th d) (net.blk j) fullShare (shard net m j)
variable (Val) in
/-- Device `d`'s block `j` at some contents. -/
def room (d j : Fin 8) : sProp 𝕄 :=
  iprop(∃ f, (net.blk j).view.loc (th d) ↦[(net.blk j).view.set]{fullShare} f)

/-- What semaphore `i` of device `c` hands over. -/
def pay (c : Fin 8) : CellId → sProp 𝕄
  | .inl k => if h : k.val < 4 then srcPts net m c (share ⟨k.val, by omega⟩) else filled net m c (out k.castSucc c)
  | .inr (.inl k) => filled net m c (inn k.castSucc c)
  | .inr (.inr ()) => iprop(filled net m c c ∗ srcPts net m c (share 4))

theorem pay_first (c : Fin 8) (k : Fin 7) (h : k.val < 4) : pay net m c (gone k) = srcPts net m c (share ⟨k.val, by omega⟩) := dif_pos h
theorem pay_pass (c : Fin 8) (k : Fin 7) (h : ¬k.val < 4) : pay net m c (gone k) = filled net m c (out k.castSucc c) := dif_neg h
theorem pay_come (c : Fin 8) (k : Fin 7) : pay net m c (come k) = filled net m c (inn k.castSucc c) := rfl
theorem pay_loc (c : Fin 8) : pay net m c loc = iprop(filled net m c c ∗ srcPts net m c (share 4)) := rfl

instance srcPts_storable (c : Fin 8) (q : PosShare TreeShare) : BI.Storable (upEmb : UEmb _ 𝕄) (srcPts net m c q) := by
  unfold srcPts; infer_instance
instance filled_storable (d j : Fin 8) : BI.Storable (upEmb : UEmb _ 𝕄) (filled net m d j) := by unfold filled; infer_instance
instance pay_storable (c : Fin 8) (i : CellId) : BI.Storable (upEmb : UEmb _ 𝕄) (pay net m c i) := by
  rcases i with k | k | ⟨⟩
  · by_cases h : k.val < 4
    · rw [pay_first net m c k h]; infer_instance
    · rw [pay_pass net m c k h]; infer_instance
  · rw [pay_come]; infer_instance
  · rw [pay_loc]; infer_instance

instance pay_payable : Payable (pay net m) := ⟨pay_storable net m⟩

/-! ## The rights of a device -/

variable (Val) in
/-- The rights of device `c` to send copy `k`: its tokens, and the peer's block. -/
def ready (k : Fin 7) (c : Fin 8) : sProp 𝕄 :=
  iprop(ticket Val net.wires k c ∗ room Val net (goTo k.castSucc c) (out k.castSucc c))
variable (Val) in
/-- The rights of device `c` to start its local copy. -/
def readyLoc (c : Fin 8) : sProp 𝕄 := iprop(dutyTok ER (cell net.wires (c, loc)) 0 () ∗ room Val net c c)
/-! ## The steps -/

theorem out_lt (k : Fin 7) (hk : k.val < 4) (c : Fin 8) : out k.castSucc c = c := by revert k c; decide
section Steps

variable {Λ : Labels} {α : Type} (defs : Defs 8 τ₇ sig Val Λ) (𝒱 : Variants) (K : Fin 8 × CellId → ℕ)

/-- One of the copies 0 to 3: a share of the shard goes out with the right to fill the peer's block. -/
theorem wp_first (k : Fin 7) (hk : k.val < 4) (c n : Fin 8) (hn : n = goTo k.castSucc c)
    {off : Fin 3 → Nat} {h : ∀ a, off a + (OneS R C).size a ≤ (OutS R C).size a} (hoff : off = ![c.val, 0, 0])
    {sS sR : DmaSem sig} (hS : sS = net.sem (gone k)) (hR : sR = net.sem (come k)) (l : List (Fin 7))
    {hsc : (net.blkAt off h).view.ref.isScScratch = false}
    {h₁ : net.src.view.WordExact} {h₂ : (net.blkAt off h).view.WordExact}
    {h₃ : DmaTarget.Typed .hbm (.dma sR) (.remote (th n) (net.blkAt off h) (.dma sS) hsc)}
    {Q : α → sProp 𝕄} {p : PUnit → Prog (TpuEff 8 τ₇ sig Val Λ .tc) α} :
    iprop(records net.wires (pay net m) K ∗ srcPts net m c (share ⟨k.val, by omega⟩) ∗ ready Val net k c ∗ fresh Val net.wires c (gone k) ∗ owing Val c (dues net.wires (k :: l) c))
      ⊢ iprop(((await Val net.wires c (gone k) ∗ owing Val c (dues net.wires l c)) -∗ wp frame (wpE defs 𝒱 (th c) none) Set.univ (p ⟨⟩) Q)
          -∗ wp frame (wpE defs 𝒱 (th c) none) Set.univ
            (.op (.enqueueDma net.src (.remote (th n) (net.blkAt off h) (.dma sS) hsc) (.dma sR) h₁ h₂ h₃) p) Q) := by
  subst hn; subst hoff; subst hS; subst hR
  unfold ready room srcPts
  rw [out_lt k hk]
  iintro ⟨#Hrec, Hs, ⟨Ht, ⟨%f, Hd⟩⟩, Hat, HO⟩
  iapply (wp_send net.wires (pay net m) defs 𝒱 K k c (goTo k.castSucc c) rfl (src := net.src) (dst := net.blk c) rfl rfl rfl l
    (q := share ⟨k.val, by omega⟩) (fs := m (net.src.view.loc (th c))) (fd := f)
    ((Entails.of_eq (by unfold srcPts; rfl)).trans (Entails.of_eq (pay_first net m c k hk).symm))
    (BI.Entails.trans (by
      show _ ⊢ filled net m (goTo k.castSucc c) (inn k.castSucc (goTo k.castSucc c))
      rw [inn_goTo, out_lt k hk]
      unfold filled owns
      iintro H; iexists _; isplitr
      rotate_left
      · iexact H
      · ipureintro; exact View.read_write_univ _ _) (Entails.of_eq (pay_come net m (goTo k.castSucc c) k).symm)))
  isplitr; · iexact Hrec
  isplitl [Hs]; · iexact Hs
  isplitl [Hd]; · iexact Hd
  isplitl [Ht]; · iexact Ht
  isplitl [Hat]; · iexact Hat
  iexact HO

/-- One of the copies 4 to 6: a block that has come goes on with the right to fill the peer's block. -/
theorem wp_pass (k : Fin 7) (hk : ¬k.val < 4) (c n : Fin 8) (hn : n = goTo k.castSucc c)
    {off off' : Fin 3 → Nat} {h : ∀ a, off a + (OneS R C).size a ≤ (OutS R C).size a} {h' : ∀ a, off' a + (OneS R C).size a ≤ (OutS R C).size a}
    (hoff : off = ![(out k.castSucc c).val, 0, 0]) (hoff' : off' = ![(out k.castSucc c).val, 0, 0])
    {sS sR : DmaSem sig} (hS : sS = net.sem (gone k)) (hR : sR = net.sem (come k)) (l : List (Fin 7))
    {hsc : (net.blkAt off h).view.ref.isScScratch = false}
    {h₁ : (net.blkAt off' h').view.WordExact} {h₂ : (net.blkAt off h).view.WordExact}
    {h₃ : DmaTarget.Typed .hbm (.dma sR) (.remote (th n) (net.blkAt off h) (.dma sS) hsc)}
    {Q : α → sProp 𝕄} {p : PUnit → Prog (TpuEff 8 τ₇ sig Val Λ .tc) α} :
    iprop(records net.wires (pay net m) K ∗ filled net m c (out k.castSucc c) ∗ ready Val net k c ∗ fresh Val net.wires c (gone k) ∗ owing Val c (dues net.wires (k :: l) c))
      ⊢ iprop(((await Val net.wires c (gone k) ∗ owing Val c (dues net.wires l c)) -∗ wp frame (wpE defs 𝒱 (th c) none) Set.univ (p ⟨⟩) Q)
          -∗ wp frame (wpE defs 𝒱 (th c) none) Set.univ
            (.op (.enqueueDma (net.blkAt off' h') (.remote (th n) (net.blkAt off h) (.dma sS) hsc) (.dma sR) h₁ h₂ h₃) p) Q) := by
  subst hn; subst hoff; subst hoff'; subst hS; subst hR
  unfold ready room
  iintro ⟨#Hrec, Hs, ⟨Ht, ⟨%f, Hd⟩⟩, Hat, HO⟩
  unfold filled owns
  icases Hs with ⟨%g, %hg, Hs⟩
  iapply (wp_send net.wires (pay net m) defs 𝒱 K k c (goTo k.castSucc c) rfl (src := net.blk (out k.castSucc c)) (dst := net.blk (out k.castSucc c)) rfl rfl rfl l
    (q := fullShare) (fs := g) (fd := f)
    (BI.Entails.trans (by
      show _ ⊢ filled net m c (out k.castSucc c)
      unfold filled owns
      iintro H; iexists g; isplitr
      · ipureintro; exact hg
      · iexact H) (Entails.of_eq (pay_pass net m c k hk).symm))
    (BI.Entails.trans (by
      show _ ⊢ filled net m (goTo k.castSucc c) (inn k.castSucc (goTo k.castSucc c))
      rw [inn_goTo]
      unfold filled owns
      iintro H; iexists _; isplitr
      rotate_left
      · iexact H
      · ipureintro; exact (View.read_write_univ _ _).trans hg) (Entails.of_eq (pay_come net m (goTo k.castSucc c) k).symm)))
  isplitr; · iexact Hrec
  isplitl [Hs]; · iexact Hs
  isplitl [Hd]; · iexact Hd
  isplitl [Ht]; · iexact Ht
  isplitl [Hat]; · iexact Hat
  iexact HO

/-- The local copy: a share of the shard goes to the device's own block. -/
theorem wp_local (c : Fin 8)
    {off : Fin 3 → Nat} {h : ∀ a, off a + (OneS R C).size a ≤ (OutS R C).size a} (hoff : off = ![c.val, 0, 0])
    {sL : DmaSem sig} (hL : sL = net.sem loc)
    {h₁ : net.src.view.WordExact} {h₂ : (net.blkAt off h).view.WordExact}
    {h₃ : DmaTarget.Typed (nD := 8) (τ := τ₇) (p := .tc) .hbm (.dma sL) (.here (net.blkAt off h))}
    {Q : α → sProp 𝕄} {p : PUnit → Prog (TpuEff 8 τ₇ sig Val Λ .tc) α} :
    iprop(records net.wires (pay net m) K ∗ srcPts net m c (share 4) ∗ readyLoc Val net c ∗ fresh Val net.wires c loc)
      ⊢ iprop((await Val net.wires c loc -∗ wp frame (wpE defs 𝒱 (th c) none) Set.univ (p ⟨⟩) Q)
          -∗ wp frame (wpE defs 𝒱 (th c) none) Set.univ
            (.op (.enqueueDma net.src (.here (net.blkAt off h)) (.dma sL) h₁ h₂ h₃) p) Q) := by
  subst hoff; subst hL
  unfold readyLoc room srcPts
  iintro ⟨#Hrec, Hs, ⟨Ht, ⟨%f, Hd⟩⟩, Hat⟩
  iapply (wp_own net.wires (pay net m) defs 𝒱 K c (src := net.src) (dst := net.blk c) rfl rfl
    (q := share 4) (fs := m (net.src.view.loc (th c))) (fd := f)
    (BI.Entails.trans (by
      show _ ⊢ iprop(filled net m c c ∗ srcPts net m c (share 4))
      unfold filled owns srcPts
      iintro ⟨H, Hs⟩; isplitl [H]
      · iexists _; isplitr
        rotate_left
        · iexact H
        · ipureintro; exact View.read_write_univ _ _
      · iexact Hs) (Entails.of_eq (pay_loc net m c).symm)))
  isplitr; · iexact Hrec
  isplitl [Hs]; · iexact Hs
  isplitl [Hd]; · iexact Hd
  isplitl [Ht]; · iexact Ht
  iexact Hat

end Steps

end Cert.Gather

end
-- ==== Proof.Dealing.lean ====
/-
The launch of an exchange: who starts with what.

The tokens of the receive semaphores are dealt to the devices that send the copies, every device gets its place at its own
semaphores, and what each device is owed comes from what its peers owe. At the end a device's semaphores are its own again.
-/
module

public import proofs.«01_k».proof.Proof.Wires

@[expose] public section

noncomputable section

namespace Cert.Wires

open Idealize.ShloMosaic Idealize.ShloMosaic.TcCoe
open Idealize.ShloMosaic.Rounds
open Idealize.SL Idealize.SL.RA Idealize.SL.BI
open Idealize.SL.BI.BIBase Idealize.SL.BI.Laws Idealize.SL.ProofMode Idealize.SL.Sem

set_option Elab.async false

variable {sig : RefSig} {Val : EltTy → Type}
local notation "𝕄" => MT 8 τ₇ sig Unit Val ℕ (UU sig) ℕ

variable (w : Wires sig) (pay : Fin 8 → CellId → sProp (MT 8 τ₇ sig Unit Val ℕ (UU sig) ℕ))

/-! ## Dealing -/

/-- The order of two families may be exchanged. -/
theorem swap_sums {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun ab : A × B => Φ ab.1 ab.2, ← bigSep_univ_prod fun ba : B × A => Φ ba.2 ba.1,
    bigSep_univ_equiv (Equiv.prodComm B A)]
  rfl

/-- The receive semaphores' tokens, dealt to the senders. -/
theorem toks_dealt :
    (bigSep Finset.univ fun d : Fin 8 => bigSep Finset.univ fun k : Fin 7 => (dutyTok ER (cell w (d, come k)) 0 () : sProp 𝕄))
      = bigSep Finset.univ fun c : Fin 8 => bigSep Finset.univ fun k : Fin 7 => dutyTok ER (cell w (w.peer k c, come k)) 0 () := by
  rw [swap_sums,
    bigSep_congr (s := Finset.univ) (fun (k : Fin 7) _ => bigSep_univ_equiv (w.peers k) (fun d : Fin 8 => (dutyTok ER (cell w (d, come k)) 0 () : sProp 𝕄))),
    swap_sums]
  rfl

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_unit (Φ : Unit → sProp 𝕄) : bigSep Finset.univ Φ = Φ () := by
  rw [show (Finset.univ : Finset Unit) = {()} from rfl, bigSep_singleton]
theorem bigSep_cells (Φ : CellId → sProp 𝕄) :
    bigSep Finset.univ Φ = iprop((bigSep Finset.univ fun k : Fin 7 => Φ (gone k)) ∗ (bigSep Finset.univ fun k : Fin 7 => Φ (come k)) ∗ Φ loc) := by
  rw [bigSep_univ_sum, bigSep_univ_sum, bigSep_unit]; rfl

variable (Val) in
/-- The tokens of device `c` to send its seven copies and to start its own. -/
def tickets (c : Fin 8) : sProp 𝕄 := iprop((bigSep Finset.univ fun k : Fin 7 => ticket Val w k c) ∗ dutyTok ER (cell w (c, loc)) 0 ())
variable (Val) in
/-- Device `c`'s own tokens, as they come from the start of the ghost state. -/
def toks (c : Fin 8) : sProp 𝕄 := bigSep Finset.univ fun i : CellId => dutyTok ER (cell w (c, i)) 0 ()

/-- Tokens, dealt. -/
theorem deal : (bigSep Finset.univ fun c : Fin 8 => (toks Val w c : sProp 𝕄)) ⊢ bigSep Finset.univ fun c : Fin 8 => tickets Val w c := by
  have ht : (bigSep Finset.univ fun c : Fin 8 => (toks Val w c : sProp 𝕄))
      = iprop((bigSep Finset.univ fun c : Fin 8 => bigSep Finset.univ fun k : Fin 7 => dutyTok ER (cell w (c, gone k)) 0 ())
        ∗ (bigSep Finset.univ fun c : Fin 8 => bigSep Finset.univ fun k : Fin 7 => dutyTok ER (cell w (w.peer k c, come k)) 0 ())
        ∗ bigSep Finset.univ fun c : Fin 8 => dutyTok ER (cell w (c, loc)) 0 ()) := by
    rw [← toks_dealt, ← bigSep_sep', ← bigSep_sep']
    exact bigSep_congr fun c _ => by unfold toks; rw [bigSep_cells]
  have hg : (bigSep Finset.univ fun c : Fin 8 => (tickets Val w c : sProp 𝕄))
      = iprop(((bigSep Finset.univ fun c : Fin 8 => bigSep Finset.univ fun k : Fin 7 => dutyTok ER (cell w (c, gone k)) 0 ())
          ∗ (bigSep Finset.univ fun c : Fin 8 => bigSep Finset.univ fun k : Fin 7 => dutyTok ER (cell w (w.peer k c, come k)) 0 ()))
        ∗ (bigSep Finset.univ fun c : Fin 8 => dutyTok ER (cell w (c, loc)) 0 ())) := by
    unfold tickets ticket
    simp only [bigSep_sep']
  rw [ht, hg]
  iintro ⟨Hg, Hc, Hl⟩
  isplitr [Hl]
  · isplitl [Hg] <;> iassumption
  iexact Hl

section Launch

variable [Payable pay]

/-! ## The ghost state at the start -/

def allCells : Finset (GSem 8 τ₇ sig) := Finset.univ.map ⟨cell w, cell_inj w⟩
def allToks : Finset (GSem 8 τ₇ sig × ℕ × Unit) :=
  Finset.univ.map ⟨fun ci : Fin 8 × CellId => (cell w ci, 0, ()), fun _ _ h => cell_inj w (congrArg Prod.fst h)⟩

/-- What the start of the ghost state gives device `c`. -/
def ghost (c : Fin 8) : sProp 𝕄 :=
  iprop((bigSep Finset.univ fun i : CellId => roundState ER (sched w pay) (cell w (c, i)) 0)
    ∗ (bigSep Finset.univ fun i : CellId => iprop(fresh Val w c i ∗ reached ER (cell w (c, i)) 0)) ∗ toks Val w c)

theorem fund_all : BI.own (ER (initOf (allCells w) (allToks w))) ⊢ (|==> bigSep Finset.univ (ghost w pay) : sProp 𝕄) := by
  have hX (Φ : GSem 8 τ₇ sig → sProp 𝕄) : bigSep (allCells w) Φ = bigSep Finset.univ fun c : Fin 8 => bigSep Finset.univ fun i : CellId => Φ (cell w (c, i)) := by
    unfold allCells; rw [bigSep_map, bigSep_univ_prod]; rfl
  have hT : bigSep (allToks w) (fun x => (dutyTok ER x.1 x.2.1 x.2.2 : sProp 𝕄)) = bigSep Finset.univ fun c : Fin 8 => toks Val w c := by
    unfold allToks; rw [bigSep_map, bigSep_univ_prod]; rfl
  iintro HX
  imod (Rounds.fund ER (sched w pay) (allCells w) (allToks w)) $$ HX with ⟨Hst, Hr, Hat, Htok⟩
  imodintro
  ihave Hst' := (Entails.of_eq (hX fun g => roundState ER (sched w pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold ghost fresh; simp only [bigSep_sep']
  isplitl [Hst']; · iexact Hst'
  isplitl [Hat' Hr']
  · isplitl [Hat'] <;> iassumption
  iexact Htok'

/-- The semaphores of the exchange, as the launch names them. -/
abbrev osem (i : CellId) : SemLoc sig := .dma (w.sem i)

theorem ownSems0_cells (c : Fin 8) : (Pipeline.ownSems0 (Ix := Unit) (Name := ℕ) (U := UU sig) (Lvl := ℕ) (Val := Val) (τ := τ₇) (osem w) c : sProp 𝕄)
    = bigSep Finset.univ fun i : CellId => semVal (cell w (c, i)) 0 := rfl

theorem cell_alloc (c : Fin 8) :
    iprop(Pipeline.ownSems0 (Ix := Unit) (Name := ℕ) (U := UU sig) (Lvl := ℕ) (Val := Val) (τ := τ₇) (osem w) c ∗ ghost w pay c)
      ⊢ |={Set.univ}=> iprop((bigSep Finset.univ fun i : CellId => iprop(∃ κ : ℕ, cellInv ER (sched w pay) κ (cell w (c, i))))
          ∗ (bigSep Finset.univ fun i : CellId => iprop(fresh Val w c i ∗ reached ER (cell w (c, i)) 0)) ∗ toks Val w c) := by
  unfold ghost
  rw [ownSems0_cells]
  iintro ⟨Hv, Hst, Hat, Htok⟩
  imod (show iprop((bigSep Finset.univ fun i : CellId => semVal (cell w (c, i)) 0) ∗ bigSep Finset.univ fun i : CellId => roundState ER (sched w pay) (cell w (c, i)) 0)
      ⊢ (|={Set.univ}=> bigSep Finset.univ fun i : CellId => iprop(∃ κ : ℕ, cellInv ER (sched w pay) κ (cell w (c, i))) : sProp 𝕄) from by
        rw [← bigSep_sep']
        exact (bigSep_mono fun i _ => (Rounds.body_intro ER (sched w pay) (cell w (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What device `c` is dealt: the records, the tokens to send with and its place at every semaphore. -/
def placed (c : Fin 8) : sProp 𝕄 :=
  iprop(∃ K, records w pay K ∗ (bigSep Finset.univ fun i : CellId => fresh Val w c i) ∗ tickets Val w c)

/-- The whole machine's semaphores and ghost state, dealt to the devices. -/
theorem deal_all :
    (bigSep Finset.univ fun c : Fin 8 => iprop(Pipeline.ownSems0 (Ix := Unit) (Name := ℕ) (U := UU sig) (Lvl := ℕ) (Val := Val) (τ := τ₇) (osem w) c ∗ ghost w pay c))
      ⊢ |={Set.univ}=> bigSep Finset.univ (placed w pay) := by
  have ha : (bigSep Finset.univ fun c : Fin 8 => iprop(Pipeline.ownSems0 (Ix := Unit) (Name := ℕ) (U := UU sig) (Lvl := ℕ) (Val := Val) (τ := τ₇) (osem w) c ∗ ghost w pay c))
      ⊢ |={Set.univ}=> bigSep Finset.univ fun c : Fin 8 => iprop((bigSep Finset.univ fun i : CellId => iprop(∃ κ : ℕ, cellInv ER (sched w pay) κ (cell w (c, i))))
          ∗ (bigSep Finset.univ fun i : CellId => iprop(fresh Val w c i ∗ reached ER (cell w (c, i)) 0)) ∗ toks Val w c) :=
    (bigSep_mono fun (c : Fin 8) _ => cell_alloc w pay c).trans (bigSep_fupd _ _)
  iintro H
  imod ha $$ H with H
  imodintro
  have hs : (bigSep Finset.univ fun c : Fin 8 => iprop((bigSep Finset.univ fun i : CellId => iprop(∃ κ : ℕ, cellInv ER (sched w pay) κ (cell w (c, i))))
          ∗ (bigSep Finset.univ fun i : CellId => iprop(fresh Val w c i ∗ reached ER (cell w (c, i)) 0)) ∗ toks Val w c) : sProp 𝕄)
      = iprop((bigSep Finset.univ fun ci : Fin 8 × CellId => iprop(∃ κ : ℕ, cellInv ER (sched w pay) κ (cell w ci)))
        ∗ ((bigSep Finset.univ fun c : Fin 8 => bigSep Finset.univ fun i : CellId => fresh Val w c i)
          ∗ bigSep Finset.univ fun ci : Fin 8 × CellId => reached ER (cell w ci) 0)
        ∗ bigSep Finset.univ fun c : Fin 8 => toks Val w c) := by
    rw [bigSep_univ_prod, bigSep_univ_prod]
    simp only [bigSep_sep']
  ihave H := (Entails.of_eq hs) $$ H
  icases H with ⟨HI, ⟨Hat, #HR⟩, Htok⟩
  ihave HK := (BI.bigSep_exists_pi Finset.univ (fun (ci : Fin 8 × CellId) (κ : ℕ) => (cellInv ER (sched w pay) κ (cell w ci) : sProp 𝕄))) $$ HI
  icases HK with ⟨%K, #HI⟩
  ihave Ht := (deal (Val := Val) w) $$ Htok
  have hend : iprop(records w pay K ∗ bigSep Finset.univ fun c : Fin 8 => iprop((bigSep Finset.univ fun i : CellId => fresh Val w c i) ∗ tickets Val w c))
      ⊢ (bigSep Finset.univ (placed w pay) : sProp 𝕄) :=
    BI.bigSep_with_persistent fun c _ => by
      unfold placed
      iintro ⟨Hr, H⟩; iexists K
      isplitl [Hr]; · iexact Hr
      iexact H
  iapply hend
  isplitr
  · unfold records; isplitl; · iexact HI
    iexact HR
  · iapply (Entails.of_eq (bigSep_sep' Finset.univ (fun c : Fin 8 => bigSep Finset.univ fun i : CellId => (fresh Val w c i : sProp 𝕄)) (fun c => tickets Val w c)).symm)
    isplitl [Hat] <;> iassumption

end Launch

/-! ## What each device is owed -/

/-- The copies in the order they are sent. -/
def order : List (Fin 7) := [0, 1, 2, 3, 4, 5, 6]

/-- A device owes the arrival of copy `k` to the device it sends copy `k` to, once for each time it is still to be sent. -/
theorem dues_at (l : List (Fin 7)) (k : Fin 7) (d c : Fin 8) :
    dues w l d (cell w (c, come k)) () = l.count k * if d = w.peer k c then w.amount else 0 := by
  induction l with
  | nil => rw [List.count_nil, Nat.zero_mul]; rfl
  | cons k' l ih =>
    rw [dues_cons, Pi.add_apply, Finsupp.add_apply, ih, List.count_cons, Nat.add_mul, tallyAt_apply]
    congr 1
    by_cases hk : k' = k
    · subst hk
      rw [if_pos (beq_self_eq_true _), Nat.one_mul]
      by_cases hd : d = w.peer k' c
      · rw [if_pos hd, if_pos]; exact ⟨by rw [hd, w.peer_peer], rfl⟩
      · rw [if_neg hd, if_neg]
        rintro ⟨h, -⟩
        have := congrArg Prod.fst (cell_inj w h)
        exact hd (by rw [show c = w.peer k' d from this, w.peer_peer])
    · have hb : (k' == k) = false := by simpa using hk
      have hn : ¬(cell w (c, come k) = cell w (w.peer k' d, come k') ∧ () = ()) := by
        rintro ⟨h, -⟩
        have h2 : come k = come k' := congrArg Prod.snd (cell_inj w h)
        exact hk (by simpa [come] using h2.symm)
      rw [if_neg hn, hb]; simp

theorem launch_come (c : Fin 8) (k : Fin 7) :
    tallyOn (cell w (c, come k)) (launchCredit (Pipeline.owing (τ := τ₇) (dues w order)) 0 (cell w (c, come k))) = (tallyAt (cell w (c, come k)) () w.amount : CellTallies 8 τ₇ sig Unit) := by
  unfold tallyAt; refine congrArg _ (Finsupp.ext fun u => ?_); cases u
  rw [Pipeline.launchCredit_owing, Finsupp.single_eq_same, Finset.sum_congr rfl fun d _ => dues_at w order k d c]
  have hc : order.count k = 1 := by revert k; decide
  simp only [hc, Nat.one_mul]
  rw [Finset.sum_ite_eq' Finset.univ (w.peer k c) fun _ => w.amount, if_pos (Finset.mem_univ _)]

/-- Every device starts with the right to wait for its seven arrivals. -/
theorem creds (c : Fin 8) : (Pipeline.launchCred (dues w order) c : sProp 𝕄)
    ⊢ bigSep Finset.univ fun k : Fin 7 => cred (tallyAt (cell w (c, come k)) () w.amount) := by
  unfold Pipeline.launchCred
  have hinj : Function.Injective fun k : Fin 7 => (SemLoc.dma (w.sem (come k)) : SemLoc sig) := fun k k' h => by
    have h2 : come k = come k' := w.sem_inj (by injection h)
    simpa [come] using h2
  refine (bigSep_subset (t := Finset.univ.map ⟨_, hinj⟩) (Finset.subset_univ _)).trans ?_
  rw [bigSep_map]
  exact bigSep_mono fun k _ => by rw [← launch_come]; exact BI.Entails.refl _

/-- The launch of an exchange, with what each device has besides. -/
theorem launch_exchange [Payable pay] (rest : Fin 8 → sProp 𝕄) :
    (bigSep Finset.univ fun c : Fin 8 => iprop((Pipeline.ownSems0 (Ix := Unit) (Name := ℕ) (U := UU sig) (Lvl := ℕ) (Val := Val) (τ := τ₇) (osem w) c
        ∗ rest c) ∗ ghost w pay c) : sProp 𝕄)
      ⊢ |={Set.univ}=> iprop((bigSep Finset.univ fun c : Fin 8 => placed w pay c) ∗ bigSep Finset.univ rest) := by
  have e : (bigSep Finset.univ fun c : Fin 8 => iprop((Pipeline.ownSems0 (Ix := Unit) (Name := ℕ) (U := UU sig) (Lvl := ℕ) (Val := Val) (τ := τ₇) (osem w) c
        ∗ rest c) ∗ ghost w pay c) : sProp 𝕄)
      ⊢ iprop((bigSep Finset.univ fun c : Fin 8 => iprop(Pipeline.ownSems0 (Ix := Unit) (Name := ℕ) (U := UU sig) (Lvl := ℕ) (Val := Val) (τ := τ₇) (osem w) c ∗ ghost w pay c))
        ∗ bigSep Finset.univ rest) := by
    rw [← bigSep_sep']
    refine bigSep_mono fun c _ => ?_
    show iprop((Pipeline.ownSems0 (Ix := Unit) (Name := ℕ) (U := UU sig) (Lvl := ℕ) (Val := Val) (τ := τ₇) (osem w) c ∗ rest c) ∗ ghost w pay c)
      ⊢ (iprop((Pipeline.ownSems0 (Ix := Unit) (Name := ℕ) (U := UU sig) (Lvl := ℕ) (Val := Val) (τ := τ₇) (osem w) c ∗ ghost w pay c) ∗ rest c) : sProp 𝕄)
    iintro ⟨⟨Hsem, Hr⟩, Hg⟩
    isplitr [Hr]
    · isplitl [Hsem] <;> iassumption
    iexact Hr
  iintro H
  ihave H := e $$ H
  icases H with ⟨H, Hr⟩
  imod (deal_all w pay) $$ H with H
  imodintro
  isplitl [H] <;> iassumption

/-! ## The end -/

/-- Device `c` past all its waits. -/
def past (c : Fin 8) : sProp 𝕄 := bigSep Finset.univ fun i : CellId => done Val w c i

/-- Its semaphores are at zero, and its own again. -/
theorem close_all [Payable pay] (K : Fin 8 × CellId → ℕ) (c : Fin 8) :
    iprop(records w pay K ∗ past (Val := Val) w c)
      ⊢ (|={Set.univ}=> Pipeline.ownSems0 (Ix := Unit) (Name := ℕ) (U := UU sig) (Lvl := ℕ) (Val := Val) (τ := τ₇) (osem w) c : sProp 𝕄) := by
  rw [ownSems0_cells]
  have h1 : iprop(records w pay K ∗ past (Val := Val) w c)
      ⊢ (bigSep Finset.univ fun i : CellId => iprop(records w pay K ∗ done Val w c i) : sProp 𝕄) := by
    unfold past; exact bigSep_with_persistent fun i _ => .rfl
  have h2 : (bigSep Finset.univ fun i : CellId => iprop(records w pay K ∗ done Val w c i) : sProp 𝕄)
      ⊢ bigSep Finset.univ fun i : CellId => iprop(|={Set.univ}=> semVal (cell w (c, i)) 0) :=
    bigSep_mono fun i _ => close_cell w pay K c i
  exact (h1.trans h2).trans (bigSep_fupd _ _)

/-! ## From grid point to grid point -/

section Points

variable (N : ℕ) (mid : List (Fin 7)) (before midway after : Fin 8 → sProp (MT 8 τ₇ sig Unit Val ℕ (UU sig) ℕ))

/-- What device `c` holds of the exchange before grid point `n` of `N`. -/
def stageAt (n : ℕ) (c : Fin 8) : sProp 𝕄 := if n = 0 then before c else if n < N then midway c else after c
/-- The copies it still owes: all of them before the first point, those of `mid` after it, and none after the last. -/
def leftAt (n : ℕ) : List (Fin 7) := if n = 0 then order else if n < N then mid else []
/-- The two together. -/
def holding (n : ℕ) (c : Fin 8) : sProp 𝕄 := iprop(stageAt N before midway after n c ∗ owing Val c (dues w (leftAt N mid n) c))

theorem holding_zero (c : Fin 8) :
    (holding w N mid before midway after 0 c : sProp 𝕄) = iprop(before c ∗ owing Val c (dues w order c)) := by
  unfold holding stageAt leftAt; rw [if_pos rfl, if_pos rfl]
theorem holding_mid (n : ℕ) (h0 : n ≠ 0) (h : n < N) (c : Fin 8) :
    (holding w N mid before midway after n c : sProp 𝕄) = iprop(midway c ∗ owing Val c (dues w mid c)) := by
  unfold holding stageAt leftAt; rw [if_neg h0, if_pos h, if_neg h0, if_pos h]
theorem holding_end (n : ℕ) (h0 : n ≠ 0) (h : ¬n < N) (c : Fin 8) :
    (holding w N mid before midway after n c : sProp 𝕄) = iprop(after c ∗ owing Val c (dues w [] c)) := by
  unfold holding stageAt leftAt; rw [if_neg h0, if_neg h, if_neg h0, if_neg h]

section First

variable {Λ : Labels} {α β : Type} (defs : Defs 8 τ₇ sig Val Λ) (𝒱 : Variants) (c : Fin 8) {n : ℕ} {A : Prop} [Decidable A]
  {p : A → Prog (TpuEff 8 τ₇ sig Val Λ .tc) α} {p' : Prog (TpuEff 8 τ₇ sig Val Λ .tc) α} {R : sProp (MT 8 τ₇ sig Unit Val ℕ (UU sig) ℕ)}

/-- A program that starts the exchange at its first grid point, whichever point it is at: what follows the start needs proving
    once. -/
theorem at_first_of (hn : n < N) (hA : A ↔ n = 0) {Q : α → sProp 𝕄}
    (hs : ∀ h, iprop(before c ∗ owing Val c (dues w order c))
      ⊢ iprop(((midway c ∗ owing Val c (dues w mid c)) -∗ wp frame (wpE defs 𝒱 (th c) none) Set.univ p' Q)
          -∗ wp frame (wpE defs 𝒱 (th c) none) Set.univ (p h) Q))
    (hr : iprop((midway c ∗ owing Val c (dues w mid c)) ∗ R) ⊢ wp frame (wpE defs 𝒱 (th c) none) Set.univ p' Q) :
    iprop(holding w N mid before midway after n c ∗ R) ⊢ wp frame (wpE defs 𝒱 (th c) none) Set.univ (if h : A then p h else p') Q := by
  by_cases h : A
  · rw [dif_pos h, hA.mp h, holding_zero]
    iintro ⟨Hm, HR⟩
    iapply (hs h) $$ Hm
    iintro Hm
    iapply hr
    isplitl [Hm] <;> iassumption
  · rw [dif_neg h, holding_mid _ _ _ _ _ _ _ (fun e => h (hA.mpr e)) hn]; exact hr

/-- The same when a program follows. -/
theorem at_first (hn : n < N) (hA : A ↔ n = 0) {k : α → Prog (TpuEff 8 τ₇ sig Val Λ .tc) β} {Q : β → sProp 𝕄}
    (hs : ∀ h, iprop(before c ∗ owing Val c (dues w order c))
      ⊢ iprop(((midway c ∗ owing Val c (dues w mid c)) -∗ wp frame (wpE defs 𝒱 (th c) none) Set.univ (p' >>= k) Q)
          -∗ wp frame (wpE defs 𝒱 (th c) none) Set.univ (p h >>= k) Q))
    (hr : iprop((midway c ∗ owing Val c (dues w mid c)) ∗ R) ⊢ wp frame (wpE defs 𝒱 (th c) none) Set.univ (p' >>= k) Q) :
    iprop(holding w N mid before midway after n c ∗ R) ⊢ wp frame (wpE defs 𝒱 (th c) none) Set.univ ((if h : A then p h else p') >>= k) Q := by
  have e : ((if h : A then p h else p') >>= k) = (if h : A then p h >>= k else p' >>= k) := by split <;> rfl
  rw [e]
  exact at_first_of w N mid before midway after defs 𝒱 c hn hA hs hr

end First

end Points

end Cert.Wires

end
-- ==== Proof.Share.lean ====
/-
The launch of the two-stage all-gather: who starts with what.

Every device's gathered array is cut in its eight blocks, and the right to fill each block is dealt to the device whose
copy fills it; so are the tokens of the receive semaphores. At the
end the eight blocks of a device are one array again.
-/
module

public import proofs.«01_k».proof.Proof.Protocol
public import proofs.«01_k».proof.Proof.Dealing

@[expose] public section

noncomputable section

namespace Cert.Gather

open Idealize.ShloMosaic Idealize.ShloMosaic.TcCoe
open Idealize.ShloMosaic.Rounds
open Cert.Wires
open Idealize.SL Idealize.SL.RA Idealize.SL.BI
open Idealize.SL.BI.BIBase Idealize.SL.BI.Laws Idealize.SL.ProofMode Idealize.SL.Sem

set_option Elab.async false

variable {sig : RefSig} {R C : Nat} {Val : EltTy → Type}
local notation "𝕄" => MT 8 τ₇ sig Unit Val ℕ (UU sig) ℕ

variable (net : Net sig R C) (m : (ℓ : Loc 8 τ₇ sig) → Buf Val ℓ)

/-! ## The shard's shares -/

/-- A shard's array held whole is its five shares, one for each copy that reads it, and back. -/
theorem shares (c : Fin 8) :
    (srcPts net m c fullShare : sProp 𝕄)
      ⊣⊢ iprop(srcPts net m c (share 0) ∗ srcPts net m c (share 1) ∗ srcPts net m c (share 2) ∗ srcPts net m c (share 3) ∗ srcPts net m c (share 4)) := by
  have cut (q : PosShare TreeShare) : (srcPts net m c q : sProp 𝕄) ⊣⊢ iprop(srcPts net m c q.left ∗ srcPts net m c q.right) :=
    pointsTo_share (PosShare.mem_left_op_right q)
  constructor
  · iintro H
    ihave H := (cut fullShare).1 $$ H
    icases H with ⟨H0, H⟩
    isplitl [H0]; · iexact H0
    ihave H := (cut fullShare.right).1 $$ H
    icases H with ⟨H1, H⟩
    isplitl [H1]; · iexact H1
    ihave H := (cut fullShare.right.right).1 $$ H
    icases H with ⟨H2, H⟩
    isplitl [H2]; · iexact H2
    iapply (cut fullShare.right.right.right).1; iexact H
  · iintro ⟨H0, H1, H2, H⟩
    iapply (cut fullShare).2
    isplitl [H0]; · iexact H0
    iapply (cut fullShare.right).2
    isplitl [H1]; · iexact H1
    iapply (cut fullShare.right.right).2
    isplitl [H2]; · iexact H2
    iapply (cut fullShare.right.right.right).2; iexact H

/-! ## The gathered array's blocks -/

/-- A device's gathered array whole is its eight blocks, each at some contents. -/
theorem rooms (d : Fin 8) (f : Buf Val (net.arr.view.loc (th d))) :
    (net.arr.view.loc (th d) ↦{fullShare} f : sProp 𝕄) ⊢ bigSep Finset.univ fun j : Fin 8 => room Val net d j := by
  have e : (net.arr.view.loc (th d) ↦{fullShare} f : sProp 𝕄)
      = bigSep Finset.univ fun j : Fin 8 => net.arr.view.loc (th d) ↦[net.blkSet j]{fullShare} f := by
    refine Eq.trans ?_ (pointsTo_biUnion (ℓ := net.arr.view.loc (th d)) (q := fullShare) (f := f) Finset.univ net.blkSet (fun i _ j _ h => net.blk_disjoint i j h))
    rw [net.blk_cover]
  rw [e]
  exact bigSep_mono fun j _ => by
    show _ ⊢ iprop(∃ f, (net.blk j).view.loc (th d) ↦[(net.blk j).view.set]{fullShare} f)
    iintro H; iexists f; iexact H

/-- The eight blocks of a device, each holding its shard, are the gathered array whole. -/
theorem joined (d : Fin 8) :
    (bigSep Finset.univ fun j : Fin 8 => (filled net m d j : sProp 𝕄))
      ⊢ iprop(∃ g : Buf Val (net.arr.view.loc (th d)), ⌜∀ j, (net.blk j).view.read Val g = shard net m j⌝ ∗ net.arr.view.loc (th d) ↦{fullShare} g) := by
  have h0 : (bigSep Finset.univ fun j : Fin 8 => (filled net m d j : sProp 𝕄))
      ⊢ bigSep Finset.univ fun j : Fin 8 => iprop(∃ f : {f : Buf Val (net.arr.view.loc (th d)) // (net.blk j).view.read Val f = shard net m j},
          net.arr.view.loc (th d) ↦[net.blkSet j]{fullShare} f.1) :=
    bigSep_mono fun j _ => by
      show filled net m d j ⊢ iprop(∃ f : {f : Buf Val (net.arr.view.loc (th d)) // (net.blk j).view.read Val f = shard net m j},
          net.arr.view.loc (th d) ↦[net.blkSet j]{fullShare} f.1)
      unfold filled owns
      iintro ⟨%f, %hf, H⟩
      iexists ⟨f, hf⟩; iexact H
  by_cases hne : ∀ j, Nonempty {f : Buf Val (net.arr.view.loc (th d)) // (net.blk j).view.read Val f = shard net m j}
  · refine h0.trans ((BI.bigSep_exists_pi Finset.univ (fun (j : Fin 8) (f : {f : Buf Val (net.arr.view.loc (th d)) // (net.blk j).view.read Val f = shard net m j}) =>
      (net.arr.view.loc (th d) ↦[net.blkSet j]{fullShare} f.1 : sProp 𝕄))).trans ?_)
    iintro ⟨%fs, H⟩
    ihave H := (pointsTo_biUnion_join Finset.univ net.blkSet (fun j => (fs j).1) (fs 0).1 (fun i _ j _ h => net.blk_disjoint i j h)) $$ H
    icases H with ⟨%g, %hg, H⟩
    iexists g
    isplitr
    · ipureintro; intro j
      exact (View.read_congr fun i hi => hg j (Finset.mem_univ j) i hi).trans (fs j).2
    · rw [net.blk_cover]; iexact H
  · obtain ⟨j, hj⟩ := not_forall.mp hne
    refine (bigSep_elim (Φ := fun j : Fin 8 => (filled net m d j : sProp 𝕄)) (Finset.mem_univ j)).trans ?_
    show filled net m d j ⊢ iprop(∃ g : Buf Val (net.arr.view.loc (th d)), ⌜∀ j, (net.blk j).view.read Val g = shard net m j⌝ ∗ net.arr.view.loc (th d) ↦{fullShare} g)
    unfold filled owns
    iintro ⟨%f, %hf, H⟩
    exact absurd ⟨⟨f, hf⟩⟩ hj

/-! ## Dealing -/

/-- What is held per copy at its sender may be dealt to its receiver. -/
theorem around (k : Fin 8) (Φ : Fin 8 → sProp 𝕄) :
    bigSep Finset.univ Φ = bigSep Finset.univ fun c => Φ (goTo k c) := bigSep_univ_equiv (toEquiv k) Φ

/-- Every device's blocks, dealt to the devices that fill them. -/
theorem rooms_dealt :
    (bigSep Finset.univ fun d : Fin 8 => bigSep Finset.univ fun j : Fin 8 => (room Val net d j : sProp 𝕄))
      = bigSep Finset.univ fun c : Fin 8 => bigSep Finset.univ fun k : Fin 8 => room Val net (goTo k c) (out k c) := by
  rw [bigSep_congr (s := Finset.univ) (fun (d : Fin 8) _ => bigSep_univ_equiv (innEquiv d) (fun j : Fin 8 => (room Val net d j : sProp 𝕄))),
    swap_sums,
    bigSep_congr (s := Finset.univ) (fun (k : Fin 8) _ => around k (fun d : Fin 8 => (room Val net d (innEquiv d k) : sProp 𝕄))),
    swap_sums]
  exact bigSep_congr fun c _ => bigSep_congr fun k _ => by rw [innEquiv_apply, inn_goTo]

variable (Val) in
/-- The rights of device `c` to send its seven copies and to start its local one. -/
def rights (c : Fin 8) : sProp 𝕄 := iprop((bigSep Finset.univ fun k : Fin 7 => ready Val net k c) ∗ readyLoc Val net c)
theorem rooms_last (c : Fin 8) :
    (bigSep Finset.univ fun k : Fin 8 => (room Val net (goTo k c) (out k c) : sProp 𝕄))
      ⊢ iprop((bigSep Finset.univ fun k : Fin 7 => room Val net (goTo k.castSucc c) (out k.castSucc c)) ∗ room Val net c c) := by
  rw [bigSep_eight, bigSep_seven]
  have e1 : goTo 7 c = c := goTo_seven c
  have e2 : out 7 c = c := by revert c; decide
  rw [e1, e2]
  iintro ⟨H0, H1, H2, H3, H4, H5, H6, H7⟩
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexact H7

/-- The rooms of every device's gathered array, dealt, join the tokens. -/
theorem rights_of (f : (d : Fin 8) → Buf Val (net.arr.view.loc (th d))) :
    (bigSep Finset.univ fun c : Fin 8 => (net.arr.view.loc (th c) ↦{fullShare} f c : sProp 𝕄))
      ⊢ bigSep Finset.univ fun c : Fin 8 => iprop((bigSep Finset.univ fun k : Fin 7 => room Val net (goTo k.castSucc c) (out k.castSucc c)) ∗ room Val net c c) := by
  have h : (bigSep Finset.univ fun c : Fin 8 => (net.arr.view.loc (th c) ↦{fullShare} f c : sProp 𝕄))
      ⊢ bigSep Finset.univ fun d : Fin 8 => bigSep Finset.univ fun j : Fin 8 => (room Val net d j : sProp 𝕄) :=
    bigSep_mono fun (d : Fin 8) _ => rooms net d (f d)
  rw [rooms_dealt] at h
  exact h.trans (bigSep_mono fun (c : Fin 8) _ => rooms_last (Val := Val) net c)

/-- What device `c` is dealt: the records, the rights to send and its place at every semaphore. -/
def dealt (c : Fin 8) : sProp 𝕄 :=
  iprop(∃ K, records net.wires (pay net m) K ∗ (bigSep Finset.univ fun i : CellId => fresh Val net.wires c i) ∗ rights Val net c)

theorem dealt_of (c : Fin 8) :
    iprop(placed net.wires (pay net m) c ∗ ((bigSep Finset.univ fun k : Fin 7 => room Val net (goTo k.castSucc c) (out k.castSucc c)) ∗ room Val net c c))
      ⊢ (dealt net m c : sProp 𝕄) := by
  have hr : (bigSep Finset.univ fun k : Fin 7 => (ready Val net k c : sProp 𝕄))
      = iprop((bigSep Finset.univ fun k : Fin 7 => ticket Val net.wires k c) ∗ bigSep Finset.univ fun k : Fin 7 => room Val net (goTo k.castSucc c) (out k.castSucc c)) := by
    unfold ready; simp only [bigSep_sep']
  unfold placed dealt rights tickets readyLoc
  rw [hr]
  iintro ⟨⟨%K, Hrec, Hat, Ht, Hl⟩, Hr, Ho⟩
  iexists K
  isplitl [Hrec]; · iexact Hrec
  isplitl [Hat]; · iexact Hat
  isplitl [Ht Hr]
  · isplitl [Ht] <;> iassumption
  isplitl [Hl] <;> iassumption

end Cert.Gather

end
-- ==== Proof.Access.lean ====
/-
Loading and storing a memref as a whole, and the end of the gather.
-/
module

public import proofs.«01_k».proof.Proof.Share
public import Idealize.ShloMosaic.Lib.VecWindow

@[expose] public section

noncomputable section

namespace Cert.Gather

open Idealize.ShloMosaic Idealize.ShloMosaic.TcCoe
open Idealize.ShloMosaic.Rounds
open Cert.Wires
open Idealize.SL Idealize.SL.RA Idealize.SL.BI
open Idealize.SL.BI.BIBase Idealize.SL.BI.Laws Idealize.SL.ProofMode Idealize.SL.Sem

set_option Elab.async false

variable {sig : RefSig} {R C : Nat} {Val : EltTy → Type}
local notation "𝕄" => MT 8 τ₇ sig Unit Val ℕ (UU sig) ℕ
variable (net : Net sig R C) (m : (ℓ : Loc 8 τ₇ sig) → Buf Val ℓ)

section Whole

variable {Λ : Idealize.SL.Sem.Labels} (defs : Defs 8 τ₇ sig Val Λ) (𝒱 : Variants) {α : Type} (c : Fin 8)
  {cs : CoreSpace} {s : Shape} {elt : EltTy} {M : Memref sig .tc cs s elt}

/-- A load of all of a memref reads what it holds. -/
theorem load_all {off : Fin s.rank → ℕ} {inb : ∀ a, off a + s.size a ≤ s.size a}
    {hl : M.view.LoadsAt (Rect.unit off s.size inb).toLoadRect} {X : s.Idx → Val elt}
    {Q : α → sProp 𝕄} {k : (s.Idx → Val elt) → Prog (TpuEff 8 τ₇ sig Val Λ .tc) α} :
    (owns (th c) M fullShare X : sProp 𝕄)
      ⊢ iprop((owns (th c) M fullShare X -∗ wp frame (wpE defs 𝒱 (th c) none) Set.univ (k X) Q)
          -∗ wp frame (wpE defs 𝒱 (th c) none) Set.univ (.op (.load M (Rect.unit off s.size inb).toLoadRect hl) k) Q) := by
  unfold owns
  iintro ⟨%f, %hf, H⟩ Hk
  have hset : M.view.setOn (Rect.unit off s.size inb).toLoadRect.set ⊆ M.view.set := by
    unfold View.setOn View.set; exact Finset.map_subset_map.mpr (Finset.subset_univ _)
  have e := wp_load (defs := defs) (Γ := .empty) 𝒱 (th c) none Set.univ (m := M) (r := (Rect.unit off s.size inb).toLoadRect) (hl := hl) (k := k) (q := fullShare) (f := f) (S := M.view.set) (Q := Q) hset
  iapply e $$ H
  iintro H
  rw [View.readAt_full, hf]
  iapply Hk
  iexists f; isplitr; · ipureintro; exact hf
  iexact H

/-- A store over all of a memref leaves the payload. -/
theorem store_all {off : Fin s.rank → ℕ} {inb : ∀ a, off a + s.size a ≤ s.size a} {w : s.Idx → Val elt}
    {hx : (M.access (Rect.unit off s.size inb)).Stores Finset.univ}
    {hm : (Finset.univ : Finset (Rect.unit off s.size inb).shape.Idx) = Finset.univ ∨ ∀ a, (Rect.unit off s.size inb).stride a = 1} {X : s.Idx → Val elt}
    {Q : α → sProp 𝕄} {k : PUnit → Prog (TpuEff 8 τ₇ sig Val Λ .tc) α} :
    (owns (th c) M fullShare X : sProp 𝕄)
      ⊢ iprop((owns (th c) M fullShare w -∗ wp frame (wpE defs 𝒱 (th c) none) Set.univ (k ⟨⟩) Q)
          -∗ wp frame (wpE defs 𝒱 (th c) none) Set.univ (.op (.store M (Rect.unit off s.size inb) w Finset.univ hx hm) k) Q) := by
  unfold owns
  iintro ⟨%f, %hf, H⟩ Hk
  have hset : (M.access (Rect.unit off s.size inb)).setOn Finset.univ ⊆ M.view.set := by
    show (M.view.slice (Rect.unit off s.size inb)).set ⊆ M.view.set
    rw [View.set_slice]; unfold View.set; exact Finset.map_subset_map.mpr (Finset.subset_univ _)
  have e := wp_store (defs := defs) (Γ := .empty) 𝒱 (th c) none Set.univ (m := M) (r := Rect.unit off s.size inb) (w := w) (Mk := Finset.univ) (hx := hx) (hm := hm) (k := k) (f := f) (S := M.view.set) (Q := Q) hset
  iapply e $$ H
  iintro H
  iapply Hk
  iexists ((M.access (Rect.unit off s.size inb)).write Val f w Finset.univ)
  isplitr
  · ipureintro; exact View.read_writes_full M.view f inb w []
  iexact H

end Whole

/-! ## The end -/

/-- The gathered array of device `c`, whole: each block is its device's shard. -/
def gathered (c : Fin 8) : sProp 𝕄 :=
  iprop(∃ g : Buf Val (net.arr.view.loc (th c)), ⌜∀ j, (net.blk j).view.read Val g = shard net m j⌝ ∗ net.arr.view.loc (th c) ↦{fullShare} g)

/-- Device `c` before the gather: its rights, what it is owed, and its shard. -/
def before (c : Fin 8) : sProp 𝕄 :=
  iprop(dealt net m c ∗ levAts levIx (lev net.wires) ∗ (bigSep Finset.univ fun k : Fin 7 => cred (tallyAt (cell net.wires (c, come k)) () net.amount)) ∗ srcPts net m c fullShare)

/-- Device `c` while its first four copies and its local one are on their way. -/
def midway (c : Fin 8) : sProp 𝕄 :=
  iprop(∃ K, records net.wires (pay net m) K ∗ levAts levIx (lev net.wires)
    ∗ (await Val net.wires c (gone 0) ∗ await Val net.wires c (gone 1) ∗ await Val net.wires c (gone 2) ∗ await Val net.wires c (gone 3) ∗ await Val net.wires c loc)
    ∗ (ready Val net 4 c ∗ fresh Val net.wires c (gone 4)) ∗ (ready Val net 5 c ∗ fresh Val net.wires c (gone 5)) ∗ (ready Val net 6 c ∗ fresh Val net.wires c (gone 6))
    ∗ await Val net.wires c (come 0) ∗ await Val net.wires c (come 1) ∗ await Val net.wires c (come 2) ∗ await Val net.wires c (come 3) ∗ await Val net.wires c (come 4)
    ∗ await Val net.wires c (come 5) ∗ await Val net.wires c (come 6))

/-- Device `c` after the gather. -/
def after (c : Fin 8) : sProp 𝕄 :=
  iprop(srcPts net m c fullShare ∗ gathered net m c
    ∗ Pipeline.ownSems0 (Ix := Unit) (Name := ℕ) (U := UU sig) (Lvl := ℕ) (Val := Val) (τ := τ₇) (osem net.wires) c)

/-- The eight blocks in the order in which they came. -/
theorem gathered_of (c : Fin 8) :
    (bigSep Finset.univ fun k : Fin 8 => (filled net m c (inn k c) : sProp 𝕄)) ⊢ gathered net m c := by
  have h := bigSep_univ_equiv (innEquiv c) (fun j : Fin 8 => (filled net m c j : sProp 𝕄))
  exact (Entails.of_eq h.symm).trans (joined net m c)

end Cert.Gather

end
-- ==== Proof.Stages.lean ====
/-
The two stages of the gather as the kernels run them, for any kernel that holds them: the start, which sends the local copy
and the first four copies, and the finish, which waits for what comes, passes three blocks on and waits for everything sent.
-/
module

public import proofs.«01_k».proof.Proof.Access

@[expose] public section

noncomputable section

namespace Cert.Gather

open Idealize.ShloMosaic Idealize.ShloMosaic.TcCoe
open Idealize.ShloMosaic.Rounds
open Cert.Wires
open Idealize.SL Idealize.SL.RA Idealize.SL.BI
open Idealize.SL.BI.BIBase Idealize.SL.BI.Laws Idealize.SL.ProofMode Idealize.SL.Sem

set_option Elab.async false

variable {sig : RefSig} {R C : Nat} {Val : EltTy → Type}
local notation "𝕄" => MT 8 τ₇ sig Unit Val ℕ (UU sig) ℕ
variable (net : Net sig R C) (m : (ℓ : Loc 8 τ₇ sig) → Buf Val ℓ)

/-! ## What arrives, and what is passed on -/

theorem pass4 (c : Fin 8) : out (4 : Fin 7).castSucc c = inn (1 : Fin 7).castSucc c := by revert c; decide
theorem pass5 (c : Fin 8) : out (5 : Fin 7).castSucc c = inn (2 : Fin 7).castSucc c := by revert c; decide
theorem pass6 (c : Fin 8) : out (6 : Fin 7).castSucc c = inn (3 : Fin 7).castSucc c := by revert c; decide

theorem come_is_0 (c : Fin 8) : (pay net m c (come 0) : sProp 𝕄) = filled net m c (inn 0 c) := pay_come net m c 0
theorem come_is_1 (c : Fin 8) : (pay net m c (come 1) : sProp 𝕄) = filled net m c (out (4 : Fin 7).castSucc c) := by rw [pay_come, pass4]
theorem come_is_2 (c : Fin 8) : (pay net m c (come 2) : sProp 𝕄) = filled net m c (out (5 : Fin 7).castSucc c) := by rw [pay_come, pass5]
theorem come_is_3 (c : Fin 8) : (pay net m c (come 3) : sProp 𝕄) = filled net m c (out (6 : Fin 7).castSucc c) := by rw [pay_come, pass6]
theorem come_is_4 (c : Fin 8) : (pay net m c (come 4) : sProp 𝕄) = filled net m c (inn 4 c) := pay_come net m c 4
theorem come_is_5 (c : Fin 8) : (pay net m c (come 5) : sProp 𝕄) = filled net m c (inn 5 c) := pay_come net m c 5
theorem come_is_6 (c : Fin 8) : (pay net m c (come 6) : sProp 𝕄) = filled net m c (inn 6 c) := pay_come net m c 6
theorem gone_is_4 (c : Fin 8) : (pay net m c (gone 4) : sProp 𝕄) = filled net m c (inn 1 c) := by rw [pay_pass net m c 4 (by decide), pass4]; rfl
theorem gone_is_5 (c : Fin 8) : (pay net m c (gone 5) : sProp 𝕄) = filled net m c (inn 2 c) := by rw [pay_pass net m c 5 (by decide), pass5]; rfl
theorem gone_is_6 (c : Fin 8) : (pay net m c (gone 6) : sProp 𝕄) = filled net m c (inn 3 c) := by rw [pay_pass net m c 6 (by decide), pass6]; rfl

/-- The passed copies' arrivals lie above the other arrivals. -/
theorem level_come (k : Fin 7) : level net.wires (.dma (net.sem (come k))) = if 4 ≤ k.val then 2 else 1 := level_arrival net.wires k

/-- The levels of a list of arrivals lie above a bound when the numbers they come from do. -/
theorem higher {l : List (Fin 7)} {b : ℕ} (h : ∀ k ∈ l, b < if 4 ≤ k.val then 2 else 1) : ∀ k ∈ l, b < level net.wires (.dma (net.sem (come k))) :=
  fun k hk => by rw [level_come]; exact h k hk

section Stages

variable {Λ : Labels} {α : Type} (defs : Defs 8 τ₇ sig Val Λ) (𝒱 : Variants)

/-- Where a slice of the gathered array lies within it. -/
abbrev Fits (R C : Nat) (off : Fin 3 → Nat) : Prop := ∀ a, off a + (OneS R C).size a ≤ (OutS R C).size a

/-- The start. -/
theorem gather_start (c n0 n1 n2 n3 : Fin 8)
    (hn0 : n0 = goTo (0 : Fin 7).castSucc c) (hn1 : n1 = goTo (1 : Fin 7).castSucc c)
    (hn2 : n2 = goTo (2 : Fin 7).castSucc c) (hn3 : n3 = goTo (3 : Fin 7).castSucc c)
    {off : Fin 3 → Nat} (hoff : off = ![c.val, 0, 0]) {f0 f1 f2 f3 f4 : Fits R C off}
    {sL s0 r0 s1 r1 s2 r2 s3 r3 : DmaSem sig} (hL : sL = net.sem loc)
    (hs0 : s0 = net.sem (gone 0)) (hr0 : r0 = net.sem (come 0)) (hs1 : s1 = net.sem (gone 1)) (hr1 : r1 = net.sem (come 1))
    (hs2 : s2 = net.sem (gone 2)) (hr2 : r2 = net.sem (come 2)) (hs3 : s3 = net.sem (gone 3)) (hr3 : r3 = net.sem (come 3))
    {a1 b1 c1 d1 e1 : net.src.view.WordExact} {a2 : (net.blkAt off f4).view.WordExact}
    {a3 : DmaTarget.Typed (nD := 8) (τ := τ₇) (p := .tc) .hbm (.dma sL) (.here (net.blkAt off f4))}
    {b0 : (net.blkAt off f0).view.ref.isScScratch = false} {b2 : (net.blkAt off f0).view.WordExact} {b3 : DmaTarget.Typed .hbm (.dma r0) (.remote (th n0) (net.blkAt off f0) (.dma s0) b0)}
    {c0 : (net.blkAt off f1).view.ref.isScScratch = false} {c2 : (net.blkAt off f1).view.WordExact} {c3 : DmaTarget.Typed .hbm (.dma r1) (.remote (th n1) (net.blkAt off f1) (.dma s1) c0)}
    {d0 : (net.blkAt off f2).view.ref.isScScratch = false} {d2 : (net.blkAt off f2).view.WordExact} {d3 : DmaTarget.Typed .hbm (.dma r2) (.remote (th n2) (net.blkAt off f2) (.dma s2) d0)}
    {e0 : (net.blkAt off f3).view.ref.isScScratch = false} {e2 : (net.blkAt off f3).view.WordExact} {e3 : DmaTarget.Typed .hbm (.dma r3) (.remote (th n3) (net.blkAt off f3) (.dma s3) e0)} {Q : α → sProp 𝕄} {p : PUnit → Prog (TpuEff 8 τ₇ sig Val Λ .tc) α} :
    iprop(before net m c ∗ owing Val c (dues net.wires order c))
      ⊢ iprop(((midway net m c ∗ owing Val c (dues net.wires [4, 5, 6] c)) -∗ wp frame (wpE defs 𝒱 (th c) none) Set.univ (p ⟨⟩) Q)
          -∗ wp frame (wpE defs 𝒱 (th c) none) Set.univ
            (.op (.enqueueDma net.src (.here (net.blkAt off f4)) (.dma sL) a1 a2 a3) fun _ =>
              .op (.enqueueDma net.src (.remote (th n0) (net.blkAt off f0) (.dma s0) b0) (.dma r0) b1 b2 b3) fun _ =>
              .op (.enqueueDma net.src (.remote (th n1) (net.blkAt off f1) (.dma s1) c0) (.dma r1) c1 c2 c3) fun _ =>
              .op (.enqueueDma net.src (.remote (th n2) (net.blkAt off f2) (.dma s2) d0) (.dma r2) d1 d2 d3) fun _ =>
              .op (.enqueueDma net.src (.remote (th n3) (net.blkAt off f3) (.dma s3) e0) (.dma r3) e1 e2 e3) p) Q) := by
  unfold before dealt rights
  rw [bigSep_cells, bigSep_seven, bigSep_seven, bigSep_seven, bigSep_seven]
  iintro ⟨⟨⟨%K, #Hrec, ⟨⟨G0, G1, G2, G3, G4, G5, G6⟩, ⟨C0, C1, C2, C3, C4, C5, C6⟩, GL⟩, ⟨R0, R1, R2, R3, R4, R5, R6⟩, RL⟩, #Hlev, ⟨D0, D1, D2, D3, D4, D5, D6⟩, Hsrc⟩, HO⟩ Hk
  ihave Hsh := (shares net m c).1 $$ Hsrc
  icases Hsh with ⟨S0, S1, S2, S3, S4⟩
  unfold order
  iapply (wp_local net m defs 𝒱 K c hoff hL) $$ [S4 RL GL]
  · isplitr; · iexact Hrec
    isplitl [S4]; · iexact S4
    isplitl [RL] <;> iassumption
  iintro AL
  iapply (wp_first net m defs 𝒱 K 0 (by decide) c _ hn0 hoff hs0 hr0 [1, 2, 3, 4, 5, 6]) $$ [S0 R0 G0 HO]
  · isplitr; · iexact Hrec
    isplitl [S0]; · iexact S0
    isplitl [R0]; · iexact R0
    isplitl [G0] <;> iassumption
  iintro ⟨A0, HO⟩
  iapply (wp_first net m defs 𝒱 K 1 (by decide) c _ hn1 hoff hs1 hr1 [2, 3, 4, 5, 6]) $$ [S1 R1 G1 HO]
  · isplitr; · iexact Hrec
    isplitl [S1]; · iexact S1
    isplitl [R1]; · iexact R1
    isplitl [G1] <;> iassumption
  iintro ⟨A1, HO⟩
  iapply (wp_first net m defs 𝒱 K 2 (by decide) c _ hn2 hoff hs2 hr2 [3, 4, 5, 6]) $$ [S2 R2 G2 HO]
  · isplitr; · iexact Hrec
    isplitl [S2]; · iexact S2
    isplitl [R2]; · iexact R2
    isplitl [G2] <;> iassumption
  iintro ⟨A2, HO⟩
  iapply (wp_first net m defs 𝒱 K 3 (by decide) c _ hn3 hoff hs3 hr3 [4, 5, 6]) $$ [S3 R3 G3 HO]
  · isplitr; · iexact Hrec
    isplitl [S3]; · iexact S3
    isplitl [R3]; · iexact R3
    isplitl [G3] <;> iassumption
  iintro ⟨A3, HO⟩
  iapply Hk
  isplitr [HO]
  · unfold midway; iexists K
    isplitr; · iexact Hrec
    isplitr; · iexact Hlev
    isplitl [A0 A1 A2 A3 AL]
    · isplitl [A0]; · iexact A0
      isplitl [A1]; · iexact A1
      isplitl [A2]; · iexact A2
      isplitl [A3] <;> iassumption
    isplitl [R4 G4]; · isplitl [R4] <;> iassumption
    isplitl [R5 G5]; · isplitl [R5] <;> iassumption
    isplitl [R6 G6]; · isplitl [R6] <;> iassumption
    unfold await
    isplitl [C0 D0]; · isplitl [D0] <;> iassumption
    isplitl [C1 D1]; · isplitl [D1] <;> iassumption
    isplitl [C2 D2]; · isplitl [D2] <;> iassumption
    isplitl [C3 D3]; · isplitl [D3] <;> iassumption
    isplitl [C4 D4]; · isplitl [D4] <;> iassumption
    isplitl [C5 D5]; · isplitl [D5] <;> iassumption
    isplitl [D6] <;> iassumption
  iexact HO

/-- The finish. -/
theorem gather_finish (hcr : net.src.view.dmaCredit = net.amount) (c n4 n5 n6 : Fin 8) (hn4 : n4 = goTo (4 : Fin 7).castSucc c) (hn5 : n5 = goTo (5 : Fin 7).castSucc c) (hn6 : n6 = goTo (6 : Fin 7).castSucc c)
    {off4 off5 off6 offA offB offC offD offE : Fin 3 → Nat} (ho4 : off4 = ![(out (4 : Fin 7).castSucc c).val, 0, 0]) (ho5 : off5 = ![(out (5 : Fin 7).castSucc c).val, 0, 0])
    (ho6 : off6 = ![(out (6 : Fin 7).castSucc c).val, 0, 0])
    {sL s0 r0 s1 r1 s2 r2 s3 r3 s4 r4 s5 r5 s6 r6 : DmaSem sig} (hL : sL = net.sem loc)
    (hs0 : s0 = net.sem (gone 0)) (hr0 : r0 = net.sem (come 0)) (hs1 : s1 = net.sem (gone 1)) (hr1 : r1 = net.sem (come 1))
    (hs2 : s2 = net.sem (gone 2)) (hr2 : r2 = net.sem (come 2)) (hs3 : s3 = net.sem (gone 3)) (hr3 : r3 = net.sem (come 3))
    (hs4 : s4 = net.sem (gone 4)) (hr4 : r4 = net.sem (come 4)) (hs5 : s5 = net.sem (gone 5)) (hr5 : r5 = net.sem (come 5))
    (hs6 : s6 = net.sem (gone 6)) (hr6 : r6 = net.sem (come 6))
    {w1 : Fits R C off4} {x1 : Memref sig .tc .hbm (BlkS R C) .bf16} {u2 v2 : Fits R C off4} {w3 : Fits R C off5} {x3 : Memref sig .tc .hbm (BlkS R C) .bf16} {u4 v4 : Fits R C off5} {w5 : Fits R C off6} {x5 : Memref sig .tc .hbm (BlkS R C) .bf16} {u6 v6 : Fits R C off6} {w7 : Fits R C offA} {x7 : Memref sig .tc .hbm (BlkS R C) .bf16} {w8 : Fits R C offB} {x8 : Memref sig .tc .hbm (BlkS R C) .bf16} {w9 : Fits R C offC} {x9 : Memref sig .tc .hbm (BlkS R C) .bf16} {w10 : Fits R C offD} {x10 : Memref sig .tc .hbm (BlkS R C) .bf16} {x11 : Memref sig .tc .hbm (BlkS R C) .bf16} {x12 : Memref sig .tc .hbm (BlkS R C) .bf16} {x13 : Memref sig .tc .hbm (BlkS R C) .bf16} {x14 : Memref sig .tc .hbm (BlkS R C) .bf16} {w15 : Fits R C off4} {x15 : Memref sig .tc .hbm (BlkS R C) .bf16} {w16 : Fits R C off5} {x16 : Memref sig .tc .hbm (BlkS R C) .bf16} {w17 : Fits R C off6} {x17 : Memref sig .tc .hbm (BlkS R C) .bf16} {w18 : Fits R C offE} {x18 : Memref sig .tc .hbm (BlkS R C) .bf16}
    {p1 : x1.view.WordExact} {q1 : (net.blkAt off4 w1).view.WordExact}
    {y2 : (net.blkAt off4 v2).view.ref.isScScratch = false} {p2 : (net.blkAt off4 u2).view.WordExact} {q2 : (net.blkAt off4 v2).view.WordExact} {z2 : DmaTarget.Typed .hbm (.dma r4) (.remote (th n4) (net.blkAt off4 v2) (.dma s4) y2)}
    {p3 : x3.view.WordExact} {q3 : (net.blkAt off5 w3).view.WordExact}
    {y4 : (net.blkAt off5 v4).view.ref.isScScratch = false} {p4 : (net.blkAt off5 u4).view.WordExact} {q4 : (net.blkAt off5 v4).view.WordExact} {z4 : DmaTarget.Typed .hbm (.dma r5) (.remote (th n5) (net.blkAt off5 v4) (.dma s5) y4)}
    {p5 : x5.view.WordExact} {q5 : (net.blkAt off6 w5).view.WordExact}
    {y6 : (net.blkAt off6 v6).view.ref.isScScratch = false} {p6 : (net.blkAt off6 u6).view.WordExact} {q6 : (net.blkAt off6 v6).view.WordExact} {z6 : DmaTarget.Typed .hbm (.dma r6) (.remote (th n6) (net.blkAt off6 v6) (.dma s6) y6)}
    {p7 : x7.view.WordExact} {q7 : (net.blkAt offA w7).view.WordExact}
    {p8 : x8.view.WordExact} {q8 : (net.blkAt offB w8).view.WordExact}
    {p9 : x9.view.WordExact} {q9 : (net.blkAt offC w9).view.WordExact}
    {p10 : x10.view.WordExact} {q10 : (net.blkAt offD w10).view.WordExact}
    {p11 : x11.view.WordExact} {q11 : net.src.view.WordExact}
    {p12 : x12.view.WordExact} {q12 : net.src.view.WordExact}
    {p13 : x13.view.WordExact} {q13 : net.src.view.WordExact}
    {p14 : x14.view.WordExact} {q14 : net.src.view.WordExact}
    {p15 : x15.view.WordExact} {q15 : (net.blkAt off4 w15).view.WordExact}
    {p16 : x16.view.WordExact} {q16 : (net.blkAt off5 w16).view.WordExact}
    {p17 : x17.view.WordExact} {q17 : (net.blkAt off6 w17).view.WordExact}
    {p18 : x18.view.WordExact} {q18 : (net.blkAt offE w18).view.WordExact}
    {Q : α → sProp 𝕄} {p : PUnit → Prog (TpuEff 8 τ₇ sig Val Λ .tc) α} :
    iprop(midway net m c ∗ owing Val c (dues net.wires [4, 5, 6] c))
      ⊢ iprop(((after net m c ∗ owing Val c (dues net.wires [] c)) -∗ wp frame (wpE defs 𝒱 (th c) none) Set.univ (p ⟨⟩) Q)
          -∗ wp frame (wpE defs 𝒱 (th c) none) Set.univ
            (.op (.waitDma2 r1 x1 (net.blkAt off4 w1) p1 q1) fun _ =>
              .op (.enqueueDma (net.blkAt off4 u2) (.remote (th n4) (net.blkAt off4 v2) (.dma s4) y2) (.dma r4) p2 q2 z2) fun _ =>
              .op (.waitDma2 r2 x3 (net.blkAt off5 w3) p3 q3) fun _ =>
              .op (.enqueueDma (net.blkAt off5 u4) (.remote (th n5) (net.blkAt off5 v4) (.dma s5) y4) (.dma r5) p4 q4 z4) fun _ =>
              .op (.waitDma2 r3 x5 (net.blkAt off6 w5) p5 q5) fun _ =>
              .op (.enqueueDma (net.blkAt off6 u6) (.remote (th n6) (net.blkAt off6 v6) (.dma s6) y6) (.dma r6) p6 q6 z6) fun _ =>
              .op (.waitDma2 r0 x7 (net.blkAt offA w7) p7 q7) fun _ =>
              .op (.waitDma2 r4 x8 (net.blkAt offB w8) p8 q8) fun _ =>
              .op (.waitDma2 r5 x9 (net.blkAt offC w9) p9 q9) fun _ =>
              .op (.waitDma2 r6 x10 (net.blkAt offD w10) p10 q10) fun _ =>
              .op (.waitDma2 s0 x11 net.src p11 q11) fun _ =>
              .op (.waitDma2 s1 x12 net.src p12 q12) fun _ =>
              .op (.waitDma2 s2 x13 net.src p13 q13) fun _ =>
              .op (.waitDma2 s3 x14 net.src p14 q14) fun _ =>
              .op (.waitDma2 s4 x15 (net.blkAt off4 w15) p15 q15) fun _ =>
              .op (.waitDma2 s5 x16 (net.blkAt off5 w16) p16 q16) fun _ =>
              .op (.waitDma2 s6 x17 (net.blkAt off6 w17) p17 q17) fun _ =>
              .op (.waitDma2 sL x18 (net.blkAt offE w18) p18 q18) p) Q) := by
  unfold midway
  iintro ⟨⟨%K, #Hrec, #Hlev, ⟨A0, A1, A2, A3, AL⟩, ⟨R4, G4⟩, ⟨R5, G5⟩, ⟨R6, G6⟩, C0, C1, C2, C3, C4, C5, C6⟩, HO⟩ Hk
  iapply (wp_arrive net.wires (pay net m) defs 𝒱 K c (come 1) (dst := (net.blkAt off4 w1)) hr1 rfl [4, 5, 6] 1 (by rw [level_come]; decide) (higher net (by decide))) $$ [C1 HO]
  · isplitr; · iexact Hrec
    isplitr; · iexact Hlev
    isplitl [C1] <;> iassumption
  iintro ⟨P1, C1, HO⟩
  ihave P1 := (Entails.of_eq (come_is_1 net m c)) $$ P1
  iapply (wp_pass net m defs 𝒱 K 4 (by decide) c _ hn4 ho4 ho4 hs4 hr4 [5, 6]) $$ [P1 R4 G4 HO]
  · isplitr; · iexact Hrec
    isplitl [P1]; · iexact P1
    isplitl [R4]; · iexact R4
    isplitl [G4] <;> iassumption
  iintro ⟨A4, HO⟩
  iapply (wp_arrive net.wires (pay net m) defs 𝒱 K c (come 2) (dst := (net.blkAt off5 w3)) hr2 rfl [5, 6] 1 (by rw [level_come]; decide) (higher net (by decide))) $$ [C2 HO]
  · isplitr; · iexact Hrec
    isplitr; · iexact Hlev
    isplitl [C2] <;> iassumption
  iintro ⟨P2, C2, HO⟩
  ihave P2 := (Entails.of_eq (come_is_2 net m c)) $$ P2
  iapply (wp_pass net m defs 𝒱 K 5 (by decide) c _ hn5 ho5 ho5 hs5 hr5 [6]) $$ [P2 R5 G5 HO]
  · isplitr; · iexact Hrec
    isplitl [P2]; · iexact P2
    isplitl [R5]; · iexact R5
    isplitl [G5] <;> iassumption
  iintro ⟨A5, HO⟩
  iapply (wp_arrive net.wires (pay net m) defs 𝒱 K c (come 3) (dst := (net.blkAt off6 w5)) hr3 rfl [6] 1 (by rw [level_come]; decide) (higher net (by decide))) $$ [C3 HO]
  · isplitr; · iexact Hrec
    isplitr; · iexact Hlev
    isplitl [C3] <;> iassumption
  iintro ⟨P3, C3, HO⟩
  ihave P3 := (Entails.of_eq (come_is_3 net m c)) $$ P3
  iapply (wp_pass net m defs 𝒱 K 6 (by decide) c _ hn6 ho6 ho6 hs6 hr6 []) $$ [P3 R6 G6 HO]
  · isplitr; · iexact Hrec
    isplitl [P3]; · iexact P3
    isplitl [R6]; · iexact R6
    isplitl [G6] <;> iassumption
  iintro ⟨A6, HO⟩
  iapply (wp_arrive net.wires (pay net m) defs 𝒱 K c (come 0) (dst := (net.blkAt offA w7)) hr0 rfl [] 2 (by rw [level_come]; decide) (higher net (by decide))) $$ [C0 HO]
  · isplitr; · iexact Hrec
    isplitr; · iexact Hlev
    isplitl [C0] <;> iassumption
  iintro ⟨P0, C0, HO⟩
  ihave P0 := (Entails.of_eq (come_is_0 net m c)) $$ P0
  iapply (wp_arrive net.wires (pay net m) defs 𝒱 K c (come 4) (dst := (net.blkAt offB w8)) hr4 rfl [] 2 (by rw [level_come]; decide) (higher net (by decide))) $$ [C4 HO]
  · isplitr; · iexact Hrec
    isplitr; · iexact Hlev
    isplitl [C4] <;> iassumption
  iintro ⟨P4, C4, HO⟩
  ihave P4 := (Entails.of_eq (come_is_4 net m c)) $$ P4
  iapply (wp_arrive net.wires (pay net m) defs 𝒱 K c (come 5) (dst := (net.blkAt offC w9)) hr5 rfl [] 2 (by rw [level_come]; decide) (higher net (by decide))) $$ [C5 HO]
  · isplitr; · iexact Hrec
    isplitr; · iexact Hlev
    isplitl [C5] <;> iassumption
  iintro ⟨P5, C5, HO⟩
  ihave P5 := (Entails.of_eq (come_is_5 net m c)) $$ P5
  iapply (wp_arrive net.wires (pay net m) defs 𝒱 K c (come 6) (dst := (net.blkAt offD w10)) hr6 rfl [] 2 (by rw [level_come]; decide) (higher net (by decide))) $$ [C6 HO]
  · isplitr; · iexact Hrec
    isplitr; · iexact Hlev
    isplitl [C6] <;> iassumption
  iintro ⟨P6, C6, HO⟩
  ihave P6 := (Entails.of_eq (come_is_6 net m c)) $$ P6
  iapply (wp_arrive net.wires (pay net m) defs 𝒱 K c (gone 0) (dst := net.src) hs0 hcr [] 0 (lev_gone net.wires 0).le (higher net (by decide))) $$ [A0 HO]
  · isplitr; · iexact Hrec
    isplitr; · iexact Hlev
    isplitl [A0] <;> iassumption
  iintro ⟨S0, A0, HO⟩
  ihave S0 := (Entails.of_eq (pay_first net m c 0 (by decide))) $$ S0
  iapply (wp_arrive net.wires (pay net m) defs 𝒱 K c (gone 1) (dst := net.src) hs1 hcr [] 0 (lev_gone net.wires 1).le (higher net (by decide))) $$ [A1 HO]
  · isplitr; · iexact Hrec
    isplitr; · iexact Hlev
    isplitl [A1] <;> iassumption
  iintro ⟨S1, A1, HO⟩
  ihave S1 := (Entails.of_eq (pay_first net m c 1 (by decide))) $$ S1
  iapply (wp_arrive net.wires (pay net m) defs 𝒱 K c (gone 2) (dst := net.src) hs2 hcr [] 0 (lev_gone net.wires 2).le (higher net (by decide))) $$ [A2 HO]
  · isplitr; · iexact Hrec
    isplitr; · iexact Hlev
    isplitl [A2] <;> iassumption
  iintro ⟨S2, A2, HO⟩
  ihave S2 := (Entails.of_eq (pay_first net m c 2 (by decide))) $$ S2
  iapply (wp_arrive net.wires (pay net m) defs 𝒱 K c (gone 3) (dst := net.src) hs3 hcr [] 0 (lev_gone net.wires 3).le (higher net (by decide))) $$ [A3 HO]
  · isplitr; · iexact Hrec
    isplitr; · iexact Hlev
    isplitl [A3] <;> iassumption
  iintro ⟨S3, A3, HO⟩
  ihave S3 := (Entails.of_eq (pay_first net m c 3 (by decide))) $$ S3
  iapply (wp_arrive net.wires (pay net m) defs 𝒱 K c (gone 4) (dst := (net.blkAt off4 w15)) hs4 rfl [] 0 (lev_gone net.wires 4).le (higher net (by decide))) $$ [A4 HO]
  · isplitr; · iexact Hrec
    isplitr; · iexact Hlev
    isplitl [A4] <;> iassumption
  iintro ⟨P1, A4, HO⟩
  ihave P1 := (Entails.of_eq (gone_is_4 net m c)) $$ P1
  iapply (wp_arrive net.wires (pay net m) defs 𝒱 K c (gone 5) (dst := (net.blkAt off5 w16)) hs5 rfl [] 0 (lev_gone net.wires 5).le (higher net (by decide))) $$ [A5 HO]
  · isplitr; · iexact Hrec
    isplitr; · iexact Hlev
    isplitl [A5] <;> iassumption
  iintro ⟨P2, A5, HO⟩
  ihave P2 := (Entails.of_eq (gone_is_5 net m c)) $$ P2
  iapply (wp_arrive net.wires (pay net m) defs 𝒱 K c (gone 6) (dst := (net.blkAt off6 w17)) hs6 rfl [] 0 (lev_gone net.wires 6).le (higher net (by decide))) $$ [A6 HO]
  · isplitr; · iexact Hrec
    isplitr; · iexact Hlev
    isplitl [A6] <;> iassumption
  iintro ⟨P3, A6, HO⟩
  ihave P3 := (Entails.of_eq (gone_is_6 net m c)) $$ P3
  iapply (wp_arrive net.wires (pay net m) defs 𝒱 K c (loc) (dst := (net.blkAt offE w18)) hL rfl [] 0 (lev_loc net.wires).le (higher net (by decide))) $$ [AL HO]
  · isplitr; · iexact Hrec
    isplitr; · iexact Hlev
    isplitl [AL] <;> iassumption
  iintro ⟨PL, AL, HO⟩
  ihave PL := (Entails.of_eq (pay_loc net m c)) $$ PL
  icases PL with ⟨PL, S4⟩
  have hclose := close_all net.wires (pay net m) K c
  unfold past at hclose
  rw [bigSep_cells, bigSep_seven, bigSep_seven] at hclose
  imod hclose $$ [A0 A1 A2 A3 A4 A5 A6 C0 C1 C2 C3 C4 C5 C6 AL] with Hz
  · isplitr; · iexact Hrec
    isplitl [A0 A1 A2 A3 A4 A5 A6]
    · isplitl [A0]; · iexact A0
      isplitl [A1]; · iexact A1
      isplitl [A2]; · iexact A2
      isplitl [A3]; · iexact A3
      isplitl [A4]; · iexact A4
      isplitl [A5]; · iexact A5
      iexact A6
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    iexact AL
  have hall := gathered_of net m c
  rw [bigSep_eight, inn_seven] at hall
  ihave Hg := hall $$ [P0 P1 P2 P3 P4 P5 P6 PL]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact PL
  iapply Hk
  isplitr [HO]
  · unfold after
    isplitl [S0 S1 S2 S3 S4]
    · iapply (shares net m c).2
      isplitl [S0]; · iexact S0
      isplitl [S1]; · iexact S1
      isplitl [S2]; · iexact S2
      isplitl [S3]; · iexact S3
      iexact S4
    isplitl [Hg]; · iexact Hg
    iexact Hz
  iexact HO

end Stages

/-! ## From grid point to grid point -/

variable (N : ℕ)

/-- What device `c` holds of the gather before grid point `n` of `N`. -/
abbrev stateAt (n : ℕ) (c : Fin 8) : sProp 𝕄 := stageAt N (before net m) (midway net m) (after net m) n c
/-- The copies it still owes: after the first point, those that pass a block on. -/
abbrev owedAt (n : ℕ) : List (Fin 7) := leftAt N [4, 5, 6] n
/-- The two together. -/
abbrev holds (n : ℕ) (c : Fin 8) : sProp 𝕄 := holding net.wires N [4, 5, 6] (before net m) (midway net m) (after net m) n c

theorem holds_zero (c : Fin 8) : (holds net m N 0 c : sProp 𝕄) = iprop(before net m c ∗ owing Val c (dues net.wires order c)) := holding_zero ..
theorem holds_mid (n : ℕ) (h0 : n ≠ 0) (h : n < N) (c : Fin 8) :
    (holds net m N n c : sProp 𝕄) = iprop(midway net m c ∗ owing Val c (dues net.wires [4, 5, 6] c)) := holding_mid _ _ _ _ _ _ n h0 h c
theorem holds_end (n : ℕ) (h0 : n ≠ 0) (h : ¬n < N) (c : Fin 8) :
    (holds net m N n c : sProp 𝕄) = iprop(after net m c ∗ owing Val c (dues net.wires [] c)) := holding_end _ _ _ _ _ _ n h0 h c

/-! ## The launch and the end -/

/-- What the launch hands device `c`: its part of the gather, and its shard. -/
def given (c : Fin 8) : sProp 𝕄 := iprop(dealt net m c ∗ srcPts net m c fullShare)

/-- The launch, from a machine in which every device holds its shard and its gathered array whole. -/
theorem launch_gather (rest : Fin 8 → sProp 𝕄)
    (h : ∀ c, rest c ⊢ iprop((net.src.view.loc (th c) ↦{fullShare} m (net.src.view.loc (th c))) ∗ (net.arr.view.loc (th c) ↦{fullShare} m (net.arr.view.loc (th c))))) :
    (bigSep Finset.univ fun c : Fin 8 => iprop((Pipeline.ownSems0 (Ix := Unit) (Name := ℕ) (U := UU sig) (Lvl := ℕ) (Val := Val) (τ := τ₇) (osem net.wires) c
        ∗ rest c) ∗ ghost net.wires (pay net m) c) : sProp 𝕄)
      ⊢ |={Set.univ}=> bigSep Finset.univ (given net m) := by
  refine (launch_exchange net.wires (pay net m) rest).trans ?_
  have hrest : (bigSep Finset.univ rest : sProp 𝕄)
      ⊢ iprop((bigSep Finset.univ fun c : Fin 8 => srcPts net m c fullShare)
        ∗ bigSep Finset.univ fun c : Fin 8 => (net.arr.view.loc (th c) ↦{fullShare} m (net.arr.view.loc (th c)))) := by
    rw [← bigSep_sep']
    exact bigSep_mono fun c _ => by unfold srcPts; rw [net.src_set]; exact h c
  have hr := rights_of net (fun d => m (net.arr.view.loc (th d)))
  have hend : iprop((bigSep Finset.univ fun c : Fin 8 => placed net.wires (pay net m) c)
        ∗ (bigSep Finset.univ fun c : Fin 8 => iprop((bigSep Finset.univ fun k : Fin 7 => room Val net (goTo k.castSucc c) (out k.castSucc c)) ∗ room Val net c c))
        ∗ bigSep Finset.univ fun c : Fin 8 => srcPts net m c fullShare) ⊢ (bigSep Finset.univ (given net m) : sProp 𝕄) := by
    rw [← bigSep_sep', ← bigSep_sep']
    refine bigSep_mono fun c _ => ?_
    show iprop(placed net.wires (pay net m) c ∗ (((bigSep Finset.univ fun k : Fin 7 => room Val net (goTo k.castSucc c) (out k.castSucc c)) ∗ room Val net c c) ∗ srcPts net m c fullShare))
      ⊢ given net m c
    unfold given
    iintro ⟨Hp, Hr, Hs⟩
    isplitl [Hp Hr]
    · iapply (dealt_of net m c); isplitl [Hp] <;> iassumption
    iexact Hs
  refine fupd_mono ?_
  iintro ⟨Hp, Hrest⟩
  ihave Hrest := hrest $$ Hrest
  icases Hrest with ⟨Hs, Ha⟩
  ihave Ha := hr $$ Ha
  iapply hend
  isplitl [Hp]; · iexact Hp
  isplitl [Ha] <;> iassumption

/-- What device `c` holds after its region. -/
def endOf (c : Fin 8) : sProp 𝕄 := iprop(srcPts net m c fullShare ∗ gathered net m c)

theorem start_intro (c : Fin 8) :
    iprop(levAts levIx (lev net.wires) ∗ Pipeline.launchCred (dues net.wires order) c ∗ given net m c) ⊢ (before net m c : sProp 𝕄) := by
  unfold before given
  iintro ⟨Hl, Hc, Hd, Hs⟩
  isplitl [Hd]; · iexact Hd
  isplitl [Hl]; · iexact Hl
  isplitl [Hc]; · iapply (creds net.wires c); iexact Hc
  iexact Hs

theorem after_end (c : Fin 8) : (after net m c : sProp 𝕄) ⊢ iprop(endOf net m c
    ∗ Pipeline.ownSems0 (Ix := Unit) (Name := ℕ) (U := UU sig) (Lvl := ℕ) (Val := Val) (τ := τ₇) (osem net.wires) c) := by
  unfold after endOf
  iintro ⟨Hs, Hg, Hz⟩
  isplitl [Hs Hg]; · isplitl [Hs] <;> iassumption
  iexact Hz

/-- What is read of device `c` at the end: its shard is unchanged and every block of its gathered array is its device's
    shard. -/
def EndRead (c : Fin 8) (s : MemSt 8 τ₇ sig Val) : Prop :=
  s.mem (net.src.view.loc (th c)) = m (net.src.view.loc (th c))
    ∧ ∀ j : Fin 8, (net.blk j).view.read Val (s.mem (net.arr.view.loc (th c))) = shard net m j

theorem end_read (c : Fin 8) (s' : Phys 8 τ₇ sig Val) : iprop(endOf net m c ∗ SI s') ⊢ (iprop(⌜EndRead net m c s'.mem⌝ ∗ SI s') : sProp 𝕄) := by
  have hs : (srcPts net m c fullShare : sProp 𝕄) ⊢ (net.src.view.loc (th c) ↦{fullShare} m (net.src.view.loc (th c))) := by
    unfold srcPts; rw [net.src_set]
  unfold endOf gathered
  iintro ⟨⟨Hs, %g, %hg, Hg⟩, HSI⟩
  ihave Hs := hs $$ Hs
  icombine HSI Hs gives %h1
  icombine HSI Hg gives %h2
  isplitr
  · ipureintro
    have e1 := funext fun i => h1 i (Finset.mem_univ i)
    have e2 := funext fun i => h2 i (Finset.mem_univ i)
    refine ⟨e1, fun j => ?_⟩
    rw [e2]
    exact hg j
  · iexact HSI

end Cert.Gather

end
-- ==== Proof.Names.lean ====
/-
The names the fused kernel uses for the gather: its arrays, its semaphores, the blocks it addresses and the devices it
sends to.
-/
module

public import proofs.«01_k».proof.Proof.Stages
public import proofs.«01_k».proof.Proof.Gen.KernelIdeal
public import proofs.«01_k».proof.Proof.Gen.KernelIdeal.Launch

@[expose] public section

noncomputable section

namespace Cert.UpGather

open Cert.KernelIdeal Cert.KernelIdeal.Gen Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The gather fused into the product. -/
abbrev net : Net sig 2048 1408 where
  src := Memref.whole main_arg2
  arr := Memref.whole main_v1_1
  sem := semOf
  sem_inj := semOf_inj
  squeezes := squeezes_S1x2048x1408_S2048x1408
  rows_pos := by decide
  cols_pos := by decide
  src_set := View.set_whole _
  arr_set := View.set_whole _

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem off1 (c : Dev nD) : k0_off1 c = ![c.val, 0, 0] := by revert c; decide
theorem off2 (c : Dev nD) : k0_off2 c = ![(out (4 : Fin 7).castSucc c).val, 0, 0] := by revert c; decide
theorem off3 (c : Dev nD) : k0_off3 c = ![(out (5 : Fin 7).castSucc c).val, 0, 0] := by revert c; decide
theorem off4 (c : Dev nD) : k0_off4 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

/-! ## The grid points at which the gather starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 32 := by revert t; decide

end Cert.UpGather

end
-- ==== Proof.Walk.lean ====
/-
One grid point of the fused kernel: what its body does to what a device holds.

At the first point the body starts the gather, at the last it finishes it. At every point it multiplies the two blocks it was
given.
-/
module

public import proofs.«01_k».proof.Proof.Names
public import proofs.«01_k».proof.Proof.Gen.KernelIdeal.Skeleton
public import proofs.«01_k».proof.Proof.Gen.KernelIdeal.Points

@[expose] public section

noncomputable section

namespace Cert.UpGather

open Cert.KernelIdeal Cert.KernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- One grid point, whichever it is: the gather goes on, and the product's block is left. -/
theorem walk (t : Fin cfg0.N) (c : Dev nD)
    (M0 : Memref sig .tc .vmem S1088x2048 .bf16) (hM0 : M0.IsWhole) (M1 : Memref sig .tc .vmem S1x2048x1408 .bf16) (hM1 : M1.IsWhole)
    (M2 : Memref sig .tc .vmem S1088x1408 .bf16) (hM2 : M2.IsWhole)
    (X0 : S1088x2048.Idx → Elt F .bf16) (X1 : S1x2048x1408.Idx → Elt F .bf16) (X2 : S1088x1408.Idx → Elt F .bf16) (Q : PUnit → sProp 𝕄) :
    iprop(holds net m 32 t.val c ∗ owns (th c) M0 fullShare X0 ∗ owns (th c) M1 fullShare X1 ∗ owns (th c) M2 fullShare X2
        ∗ ((holds net m 32 (t.val + 1) c ∗ owns (th c) M0 fullShare X0 ∗ owns (th c) M1 fullShare X1
              ∗ owns (th c) M2 fullShare (k0_pay1 X0 X1)) -∗ Q ⟨⟩))
      ⊢ wp frame (wpE (defs₀ (F := F)) noVariants (th c) none) Set.univ
        (cc0_w_up_gather (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 32 := t.isLt
  simp only [cc0_w_up_gather_eq_skeleton, cc0_w_up_gather_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (gather_start net m (defs₀ (F := F)) noVariants c _ _ _ _ (dev1 c _) (dev2 c _) (dev3 c _) (dev4 c _) (off1 c) loc_sem
      (gone_sem 0 _) (come_sem 0 _) (gone_sem 1 _) (come_sem 1 _) (gone_sem 2 _) (come_sem 2 _) (gone_sem 3 _) (come_sem 3 _)) $$ Hm
    iexact Hk
  simp only [Prog.bind_op, Prog.bind_ret]
  iintro ⟨Hm, H0, H1, H2, Hk⟩
  iapply (load_all (defs₀ (F := F)) noVariants c) $$ H0; iintro H0
  iapply (load_all (defs₀ (F := F)) noVariants c) $$ H1; iintro H1
  iapply (load_all (defs₀ (F := F)) noVariants c) $$ H2; iintro H2
  iapply (store_all (defs₀ (F := F)) noVariants c) $$ H2; iintro H2
  by_cases h2 : k0_cond2 (grid0.coords t) = 1#1
  · rw [holds_end _ _ _ _ (Nat.succ_ne_zero _) ((finishes t).mp h2)]
    simp only [dif_pos h2, Prog.bind_op, Prog.bind_ret]
    iapply (gather_finish net m (defs₀ (F := F)) noVariants rfl c _ _ _ (dev5 c _) (dev6 c _) (dev7 c _) (off2 c) (off3 c) (off4 c) loc_sem
      (gone_sem 0 _) (come_sem 0 _) (gone_sem 1 _) (come_sem 1 _) (gone_sem 2 _) (come_sem 2 _) (gone_sem 3 _) (come_sem 3 _)
      (gone_sem 4 _) (come_sem 4 _) (gone_sem 5 _) (come_sem 5 _) (gone_sem 6 _) (come_sem 6 _)) $$ Hm
    iintro Hm
    rw [wp_ret]; imodintro
    iapply Hk
    isplitl [Hm]; · iexact Hm
    isplitl [H0]; · iexact H0
    isplitl [H1] <;> iassumption
  · rw [holds_mid _ _ _ _ (Nat.succ_ne_zero _) (not_not.mp fun h => h2 ((finishes t).mpr h))]
    simp only [dif_neg h2, Prog.bind_op, Prog.bind_ret]
    rw [wp_ret]; imodintro
    iapply Hk
    isplitl [Hm]; · iexact Hm
    isplitl [H0]; · iexact H0
    isplitl [H1] <;> iassumption

end Cert.UpGather

end
-- ==== Proof.Deal.lean ====
/-
A launch for kernels whose devices write into each other's result arrays.

The region of such a kernel starts from semaphores AND buffers that other devices already use: a device sends into a
peer's array in its first step, before the peer has said anything, so the peer's array must have been shared out before
any device runs. The launch below hands the certificate, in one step for the whole machine, every device's own
semaphores at zero together with every device's buffers that no window of the pipeline stages; what the step makes of
them (`G'`) is what each device starts from.
-/
module

public import Idealize.ShloMosaic.Lib.Pipeline.Launch

@[expose] public section

noncomputable section

namespace Cert.Deal

open Idealize.ShloMosaic Idealize.ShloMosaic.TcCoe Idealize.ShloMosaic.Pipeline
open Idealize.ShloMosaic.Rounds
open Idealize.SL Idealize.SL.RA Idealize.SL.BI
open Idealize.SL.BI.BIBase Idealize.SL.BI.Laws Idealize.SL.ProofMode Idealize.SL.Sem

set_option Elab.async false

variable {nD : Nat} {τ : Topo} {sig : RefSig} {Val : EltTy → Type}
variable {Ix : Type} [DecidableEq Ix] {Name : Type} [DecidableEq Name] {U : Type} [URA U] {Lvl : Type}
local notation "𝕄" => MT nD τ sig Ix Val Name U Lvl

/-- The rights to assign levels, held by every TensorCore, become one assignment of levels for the whole machine, when
    only TensorCore cells carry an index. -/
theorem assign_levels [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans ((BI.bigSep_bupd _ _).trans (BI.bupd_mono ?_))
  have hnone : (bigSep Finset.univ fun d : Dev nD => bigSep (Finset.univ.erase Proc.tc)
      fun q => (coreLevAts ((d, q) : Thread nD τ) L lv : sProp 𝕄)) = BI.emp := by
    have hq (d : Dev nD) (q : Proc τ) (hq : q ∈ Finset.univ.erase Proc.tc) :
        (coreLevAts ((d, q) : Thread nD τ) L lv : sProp 𝕄) = BI.emp := by
      unfold coreLevAts
      rw [bigSep_congr (Ψ := fun _ : SemLoc sig => (BI.emp : sProp 𝕄)) fun sm _ => by
        rw [hL (((d, q) : Thread nD τ), sm) (Finset.ne_of_mem_erase hq), BI.bigSep_empty], BI.bigSep_emp_const]
    rw [bigSep_congr (Ψ := fun _ : Dev nD => (BI.emp : sProp 𝕄)) fun d _ =>
      (bigSep_congr (hq d)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have hkeep : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hnone, bigSep_sep']
    iintro ⟨-, H⟩
    isplitl [H]; · iexact H
    iempintro
  exact hkeep

section Region

variable {Λ₀ : Idealize.SL.Sem.Labels} {P : Type} [Fintype P]
variable (pcs : P → PCfg sig Λ₀ Val) (a : Dev nD → (p : P) → (pcs p).Adm)
  (dats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- The scoped holdings of device `c` that stay with the region: its scoped buffers, the staging cells and the
    semaphores nothing names. -/
def kept (c : Dev nD) : sProp 𝕄 :=
  iprop(scopedBufs (c.tc : Thread nD τ) ∗ PerCore.cellsSems0 (pinD pcs a) p c ∗ PerCore.idleSems0 (pinD pcs a) phinj p (fun _ => ho) c)

/-- The windows' arrays of device `c`, whole, at contents `V`. -/
def winArrays (c : Dev nD) (V : (w : Fin (pinD pcs a c p).W) → Buf Val ((c.tc : Thread nD τ).loc (arrRef (pinD pcs a c p).spec w))) : sProp 𝕄 :=
  bigSep Finset.univ fun w => (((c.tc : Thread nD τ).loc (arrRef (pinD pcs a c p).spec w)) ↦{fullShare} V w : sProp 𝕄)

include hw in
/-- What a device is dealt at launch, sorted: what stays with the region, its own semaphores, the windows' arrays, the
    other unscoped buffers, and what it owes and is owed. -/
theorem sorted [Preorder Lvl] (hdistinct : Function.Injective (arrRef (pcs p).spec)) (O₀ : Dev nD → CellTallies nD τ sig Ix)
    (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop(kept (Name := Name) (U := U) (Lvl := Lvl) (Ix := Ix) pcs a phinj p ho c
          ∗ winArrays (Name := Name) (U := U) (Lvl := Lvl) (Ix := Ix) pcs a p c (fun w => m ((c.tc : Thread nD τ).loc (arrRef (pinD pcs a c p).spec w)))
          ∗ owes (c.tc : Thread nD τ) (O₀ c) ∅ ∗ levels0 c ∗ launchCred O₀ c
          ∗ ownSems0 osem c ∗ unscopedRest (pcs p).spec c (fun b => m ((c.tc : Thread nD τ).loc b))) := by
  refine (coreInit_boundary_owing O₀ m g c).trans ?_
  have hub := PerCore.unscopedBufs_split (pinD pcs a) p c hw.arr_unscoped hdistinct (Ix := Ix) (Name := Name) (U := U) (Lvl := Lvl)
    (fun b => m ((c.tc : Thread nD τ).loc b))
  have hss := PerCore.scopedSems0_split (pinD pcs a) phinj p (fun _ => hw) (fun _ => ho) (Ix := Ix) (Val := Val) (Name := Name) (U := U) (Lvl := Lvl) c
  unfold boundary kept winArrays
  rw [hss, hub]
  iintro ⟨⟨Hsc, ⟨⟨Hcells, Hown⟩, Hidle⟩, -⟩, ⟨Harr, Hrest⟩, -, HO, Hlv, -, Hcr⟩
  isplitl [Hsc Hcells Hidle]
  · isplitl [Hsc]; · iexact Hsc
    isplitl [Hcells] <;> iassumption
  isplitl [Harr]; · iexact Harr
  isplitl [HO]; · iexact HO
  isplitl [Hlv]; · iexact Hlv
  isplitl [Hcr]; · iexact Hcr
  isplitl [Hown]; · iexact Hown
  iexact Hrest

variable (fgt : (p : P) → (c : Dev nD) → Fin (pinD pcs a c p).W → Bool) in
/-- The proof data with nothing said of the windows in `fgt`. -/
abbrev rel (p : P) (c : Dev nD) : RDat τ Val Ix Name U Lvl (pinD pcs a c p) c := (dats p c).toRForget (fgt p c)

/-- Any family of buffers, each held at contents of which something is known, shows that of the final memory. -/
theorem some_read [Preorder Lvl] [∀ e, Nonempty (Val e)] {κ : Type} [DecidableEq κ] (S : Finset κ) (ℓ : κ → Loc nD τ sig) (A : (k : κ) → Buf Val (ℓ k) → Prop) (s' : Phys nD τ sig Val) :
    iprop((bigSep S fun k => iprop(∃ F, ⌜A k F⌝ ∗ (ℓ k ↦{fullShare} F))) ∗ SI s')
      ⊢ (iprop(⌜∀ k ∈ S, A k (s'.mem.mem (ℓ k))⌝ ∗ SI s') : sProp 𝕄) := by
  induction S using Finset.induction_on with
  | empty =>
    rw [BI.bigSep_empty]
    iintro ⟨-, H⟩
    isplitr
    · ipureintro; exact fun k h => absurd h (Finset.notMem_empty k)
    · iexact H
  | insert k S hk ih =>
    have e : (bigSep (insert k S) fun k => iprop(∃ F, ⌜A k F⌝ ∗ (ℓ k ↦{fullShare} F)))
        = (iprop((∃ F, ⌜A k F⌝ ∗ (ℓ k ↦{fullShare} F)) ∗ bigSep S fun k => iprop(∃ F, ⌜A k F⌝ ∗ (ℓ k ↦{fullShare} F))) : sProp 𝕄) := BI.bigSep_insert hk
    rw [e]
    iintro ⟨⟨⟨%F, %hF, Hk⟩, HS⟩, HSI⟩
    ihave Hr := (pointsTo_read_all {k} ℓ (fun k' => if h : k' = k then h ▸ F else s'.mem.mem (ℓ k')) s') $$ [Hk HSI]
    · rw [BI.bigSep_singleton, dif_pos rfl]; isplitl [Hk] <;> iassumption
    icases Hr with ⟨%hk', HSI⟩
    ihave Hs := ih $$ [HS HSI]
    · isplitl [HS] <;> iassumption
    icases Hs with ⟨%hS, HSI⟩
    isplitr
    · ipureintro
      intro k' hk''
      rcases Finset.mem_insert.mp hk'' with rfl | h
      · have e := hk' k' (Finset.mem_singleton_self k')
        rw [dif_pos rfl] at e
        rw [e]; exact hF
      · exact hS k' h
    · iexact HSI

/-- The windows' arrays after all points, read at the final memory. -/
theorem arrays_read [Preorder Lvl] [∀ e, Nonempty (Val e)] (rdats : (p : P) → (c : Dev nD) → RDat τ Val Ix Name U Lvl (pinD pcs a c p) c) (c : Dev nD)
    (harr : ∀ w, ((pinD pcs a c p).spec w).arr.IsWhole) (hshare : ∀ w, (rdats p c).share w = fullShare) (n : ℕ) (s' : Phys nD τ sig Val) :
    iprop((rdats p c).arraysAt n ∗ SI s')
      ⊢ (iprop(⌜∀ w, (rdats p c).ArrAt w n (s'.mem.mem (((pinD pcs a c p).spec w).arr.view.loc (c.tc : Thread nD τ)))⌝ ∗ SI s') : sProp 𝕄) := by
  rw [PerCore.RDat.arraysAt_eq pcs a rdats p c harr hshare n]
  iintro H
  ihave H := (some_read Finset.univ (fun w => (c.tc : Thread nD τ).loc (arrRef (pinD pcs a c p).spec w)) (fun w F => (rdats p c).ArrAt w n F) s') $$ H
  icases H with ⟨%h, H⟩
  isplitr
  · ipureintro; exact fun w => h w (Finset.mem_univ w)
  · iexact H

variable (fgt : (p : P) → (c : Dev nD) → Fin (pinD pcs a c p).W → Bool) in
include phinj hw ho in
/-- The launch. Every device's own semaphores at zero and every device's unstaged buffers are handed to the certificate
    together (`hglob`); each device starts its region from what that step gave it, the level facts and its launch credit
    (`hstart`), ends it with its own semaphores back at zero and `Y c` (`hout`), and `Y c` is read at the final memory
    (`hY`). Nothing is said of what the windows in `fgt` hold, at any point or at the end, but that an input's array ends as it
    started. -/
theorem run_dealt_but [DecidableEq P] [Preorder Lvl] [∀ e, Nonempty (Val e)] [Infinite Name] [EP.LandsIn (upEmb : UEmb _ 𝕄)]
    (hnone : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ (fgt p c))
    (hne : ∀ w : Fin (pcs p).W, 0 < ((pcs p).spec w).block.numel)
    (harr : ∀ w, ((pcs p).spec w).arr.IsWhole) (hstage : ∀ w s, (((pcs p).spec w).stage s).IsWhole)
    (hshare : ∀ c w, (dats p c).share w = fullShare) (hdistinct : Function.Injective (arrRef (pcs p).spec))
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits (pinD pcs a) (rel pcs a dats fgt) ι p c)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hglob : (bigSep Finset.univ fun c => iprop((ownSems0 osem c ∗ unscopedRest (pcs p).spec c (fun b => m ((c.tc : Thread nD τ).loc b))) ∗ G c) : sProp 𝕄)
      ⊢ |={Set.univ}=> bigSep Finset.univ G')
    (hA : ∀ c w, (dats p c).A w = m (((pinD pcs a c p).spec w).arr.view.loc (c.tc : Thread nD τ)))
    (X Y : Dev nD → sProp 𝕄)
    (hstart : ∀ c, iprop(levAts L lv ∗ launchCred O₀ c ∗ G' c) ⊢ X c)
    (hin : ∀ c, iprop(X c ∗ scopedRest (pinD pcs a c p).spec c) ⊢ (dats p c).Φ 0)
    (hout : ∀ c, (dats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ iprop(⌜QY c s'.mem⌝ ∗ SI s'))
    {Q : PUnit × MemSt nD τ sig Val → Prop}
    (hQ : ∀ s : MemSt nD τ sig Val,
      (∀ c : Dev nD, (∀ w, fgt p c w = false ∨ ((pinD pcs a c p).win w).isOut = false → s.mem (((pinD pcs a c p).spec w).arr.view.loc (c.tc : Thread nD τ)) = (dats p c).arrAt w (pinD pcs a c p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsb := fun c : Dev nD => PerCore.scopedBufs_split (pinD pcs a) p c hw.stage_scoped hw.stage_inj hstage (nD := nD) (τ := τ) (Ix := Ix) (Val := Val) (Name := Name) (U := U) (Lvl := Lvl)
  have hss := fun c : Dev nD => PerCore.scopedSems0_split (pinD pcs a) phinj p (fun _ => hw) (fun _ => ho) (Ix := Ix) (Val := Val) (Name := Name) (U := U) (Lvl := Lvl) c
  have htab (c : Dev nD) : (BI.emp : sProp 𝕄) ⊢ prefHeld (pcs p).pre c (fun _ => fullShare) (a c p).1 := by
    unfold prefHeld; rw [Finset.univ_eq_empty, BI.bigSep_empty]
  have harrs (c : Dev nD) (F : (w : Fin (pinD pcs a c p).W) → Buf Val (((pinD pcs a c p).spec w).arr.view.loc (c.tc : Thread nD τ))) :
      (rel pcs a dats fgt p c).arrays F = winArrays pcs a p c F := PerCore.RDat.arrays_eq pcs a (rel pcs a dats fgt) p c harr (hshare c) F
  let pre : Dev nD → sProp 𝕄 := fun c => iprop(kept pcs a phinj p ho c
    ∗ winArrays pcs a p c (fun w => m ((c.tc : Thread nD τ).loc (arrRef (pinD pcs a c p).spec w)))
    ∗ owes (c.tc : Thread nD τ) (O₀ c) ∅ ∗ levAts L lv ∗ launchCred O₀ c
    ∗ PerCore.cellsGhost (pinD pcs a) EP p c ∗ PerCore.toksInit (pinD pcs a) EP p c ∗ G' c)
  let fin : Dev nD → sProp 𝕄 := fun c => iprop((rel pcs a dats fgt p c).arraysAt (pinD pcs a c p).N
      ∗ Y c ∗ scopedSems0 (c.tc : Thread nD τ))
  refine (θ_run 𝔻 _ _).mono (Q := fun r => (∀ c : Dev nD, ((∀ w, fgt p c w = false ∨ ((pinD pcs a c p).win w).isOut = false → r.2.mem (((pinD pcs a c p).spec w).arr.view.loc (c.tc : Thread nD τ)) = (dats p c).arrAt w (pinD pcs a c p).N)
      ∧ QY c r.2) ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    have hall : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => kept pcs a phinj p ho c)
          ∗ (bigSep Finset.univ fun c : Dev nD => winArrays pcs a p c (fun w => m ((c.tc : Thread nD τ).loc (arrRef (pinD pcs a c p).spec w))))
          ∗ (bigSep Finset.univ fun c : Dev nD => owes (c.tc : Thread nD τ) (O₀ c) ∅)
          ∗ (bigSep Finset.univ fun c : Dev nD => levels0 (Ix := Ix) (Val := Val) (Name := Name) (U := U) (Lvl := Lvl) (τ := τ) (sig := sig) c)
          ∗ (bigSep Finset.univ fun c : Dev nD => launchCred (Name := Name) (U := U) (Lvl := Lvl) (Val := Val) O₀ c)
          ∗ (bigSep Finset.univ fun c : Dev nD => iprop(ownSems0 osem c ∗ unscopedRest (pcs p).spec c (fun b => m ((c.tc : Thread nD τ).loc b)))) : sProp 𝕄) := by
      refine (bigSep_mono fun c _ => sorted pcs a phinj p hw ho hdistinct O₀ m g c).trans ?_
      simp only [bigSep_sep']
      exact BI.Entails.refl _
    iintro ⟨Hcores, Hu⟩
    ihave Hc := hall $$ Hcores
    icases Hc with ⟨Hk, Harr, HO, Hlv, Hcr, Hown⟩
    imod (assign_levels L lv hL) $$ Hlv with Hla
    imod hu₀ $$ Hu with ⟨HP, HG⟩
    imod (PerCore.fund_ghost (pinD pcs a) EP phinj) $$ HP with ⟨Hg, Ht⟩
    imod hglob $$ [Hown HG] with HG'
    · iapply (Entails.of_eq (bigSep_sep' Finset.univ (fun c : Dev nD => iprop(ownSems0 osem c ∗ unscopedRest (pcs p).spec c (fun b => m ((c.tc : Thread nD τ).loc b)))) G).symm)
      isplitl [Hown] <;> iassumption
    imodintro
    iexists ()
    isplitr []
    · simp only [pre, bigSep_sep']
      isplitl [Hk]; · iexact Hk
      isplitl [Harr]; · iexact Harr
      isplitl [HO]; · iexact HO
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p' c => PerCore.cellsGhost (pinD pcs a) EP p' c); iexact Hg
      isplitl [Ht]; · iapply (hpick fun p' c => PerCore.toksInit (pinD pcs a) EP p' c); iexact Ht
      iexact HG'
    · iempintro
  · -- each device's run of @main
    have hexit : iprop((dats p c).Φ (Fin.last (pinD pcs a c p).N) ∗ PerCore.cellsSems0 (pinD pcs a) p c ∗ Dat.staging (pinD pcs a c p) c
          ∗ PerCore.idleSems0 (pinD pcs a) phinj p (fun _ => ho) c)
        ⊢ iprop(Y c ∗ scopedSems0 (c.tc : Thread nD τ) ∗ scopedBufs (c.tc : Thread nD τ)) := by
      rw [hss c, hsb c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    have hpost : PerCore.RDat.EntryPost (pinD pcs a) (rel pcs a dats fgt) ι p c
        ⊢ iprop((rel pcs a dats fgt p c).arraysAt (pinD pcs a c p).N ∗ ∃ W, owes (c.tc : Thread nD τ) (0 : CellTallies nD τ sig Ix) W) := by
      have hN : (rel pcs a dats fgt p c).owed (Fin.last _) = 0 := howedN c
      unfold PerCore.RDat.EntryPost RDat.owesAt owesWithin
      rw [hN]
      iintro ⟨Ha, ⟨%W, -, HW⟩⟩
      isplitl [Ha]; · iexact Ha
      iexists W; iexact HW
    have hzero : (rel pcs a dats fgt p c).A = fun w => m ((c.tc : Thread nD τ).loc (arrRef (pinD pcs a c p).spec w)) :=
      funext fun w => (hA c w)
    simp only [pre]
    unfold kept
    rw [hmain c]
    iintro ⟨⟨Hsc, Hcells, Hidle⟩, Harr, HO, #Hla, Hcr, Hg, Ht, HG⟩
    ihave Hw := (hwaits c) $$ Hla
    iapply (fupd_wp frame (wpE 𝔻 𝕍 (c.tc : Thread nD τ) none) Set.univ _ _)
    imod (PerCore.RDat.cellsInit_alloc (pinD pcs a) (rel pcs a dats fgt) EP phinj p c) $$ [Hcells Hg] with ⟨%κ, -, Hinit⟩
    · isplitl [Hcells] <;> iassumption
    ihave HX := (hstart c) $$ [Hcr HG]
    · isplitr; · iexact Hla
      isplitl [Hcr]; · iexact Hcr
      iexact HG
    imodintro
    iapply (PerCore.RDat.wp_customCall_entry_frame pcs a (rel pcs a dats fgt) ι EP κ phinj p defs₀ 𝒱₀ (fun _ => fullShare) c Set.univ (fun _ _ => Set.mem_univ _)
        ((hbody c).toRForget (dats p c)) hne none (fun u h => nomatch h) (X := X c) (Y := Y c) (R := scopedRest (pinD pcs a c p).spec c)
        (I := PerCore.idleSems0 (pinD pcs a) phinj p (fun _ => ho) c)
        (Entails.of_eq (hsb c))
        ((sep_mono_right (by iintro ⟨-, H⟩; iexact H)).trans (hin c)) hexit
        (k := fun _ => .ret ⟨⟩) (Q := fun _ => post (liftTc fin BI.emp) (c.tc : Thread nD τ))) $$ [Harr HO Hinit Ht HX Hidle Hsc Hw]
    · isplitl [Harr HO Hinit Ht Hw]
      · have h0 : (rel pcs a dats fgt p c).owed 0 = O₀ c := howed₀ c
        unfold PerCore.RDat.EntryPre RDat.owesAt owesWithin
        rw [h0, harrs c, hzero]
        isplitl [Harr]; · iexact Harr
        isplitl [HO]
        · iexists ∅; isplitr; · ipureintro; rw [Finset.coe_empty]; exact Set.empty_subset _
          iexact HO
        isplitl [Hw]; · iexact Hw
        isplitl [Hinit] <;> iassumption
      isplitr; · iapply (htab c); iempintro
      isplitl [HX]; · iexact HX
      isplitl [Hidle]; · iexact Hidle
      iexact Hsc
    iintro ⟨Hpost, HY, Hss2, -⟩
    rw [wp_ret]; imodintro
    unfold post; simp only [liftTc_tc, fin]
    ihave Hp := hpost $$ Hpost
    icases Hp with ⟨Ha, HW⟩
    isplitr [HW]
    · isplitl [Ha]; · iexact Ha
      isplitl [HY] <;> iassumption
    · iexact HW
  · -- what the devices end with, read at the final memory
    have hread (c : Dev nD) (s' : Phys nD τ sig Val) : iprop(fin c ∗ SI s') ⊢ |={Set.univ}=>
        iprop(⌜((∀ w, fgt p c w = false ∨ ((pinD pcs a c p).win w).isOut = false → s'.mem.mem (((pinD pcs a c p).spec w).arr.view.loc (c.tc : Thread nD τ)) = (dats p c).arrAt w (pinD pcs a c p).N)
          ∧ QY c s'.mem) ∧ ∀ sm : SemLoc sig, sm.isScoped .tc = true → s'.mem.sem ((c.tc : Thread nD τ), sm) = 0⌝ ∗ SI s') := by
      simp only [fin]
      iintro ⟨⟨Ha, HY, Hss⟩, HSI⟩
      ihave %hz := (tcScoped_read_pers c s') $$ [Hss HSI]
      · isplitl [Hss] <;> iassumption
      ihave Hr := (arrays_read pcs a p (rel pcs a dats fgt) c harr (hshare c) (pinD pcs a c p).N s') $$ [Ha HSI]
      · isplitl [Ha] <;> iassumption
      icases Hr with ⟨%ha, HSI⟩
      ihave Hq := (hY c s') $$ [HY HSI]
      · isplitl [HY] <;> iassumption
      icases Hq with ⟨%hy, HSI⟩
      imodintro
      isplitr
      · ipureintro; refine ⟨⟨fun w hw => ?_, hy⟩, hz⟩
        rcases hw with hw | hw
        · exact (Dat.toRForget_arrAt_iff (dats p c) hw _ _).mp (ha w)
        · have h := ha w
          rw [RDat.ArrAt_in (rel pcs a dats fgt p c) w hw] at h
          exact h.trans ((dats p c).arrAt_in w hw _).symm
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

include phinj hw ho in
/-- The same launch with every window's contents given by the proof data. -/
theorem run_dealt [DecidableEq P] [Preorder Lvl] [∀ e, Nonempty (Val e)] [Infinite Name] [EP.LandsIn (upEmb : UEmb _ 𝕄)]
    (hnone : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (dats p c).share w = fullShare) (hdistinct : Function.Injective (arrRef (pcs p).spec))
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.cellsWaits (pinD pcs a) dats ι p c)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hglob : (bigSep Finset.univ fun c => iprop((ownSems0 osem c ∗ unscopedRest (pcs p).spec c (fun b => m ((c.tc : Thread nD τ).loc b))) ∗ G c) : sProp 𝕄)
      ⊢ |={Set.univ}=> bigSep Finset.univ G')
    (hA : ∀ c w, (dats p c).A w = m (((pinD pcs a c p).spec w).arr.view.loc (c.tc : Thread nD τ)))
    (X Y : Dev nD → sProp 𝕄)
    (hstart : ∀ c, iprop(levAts L lv ∗ launchCred O₀ c ∗ G' c) ⊢ X c)
    (hin : ∀ c, iprop(X c ∗ scopedRest (pinD pcs a c p).spec c) ⊢ (dats p c).Φ 0)
    (hout : ∀ c, (dats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ iprop(⌜QY c s'.mem⌝ ∗ SI s'))
    {Q : PUnit × MemSt nD τ sig Val → Prop}
    (hQ : ∀ s : MemSt nD τ sig Val,
      (∀ c : Dev nD, (∀ w, s.mem (((pinD pcs a c p).spec w).arr.view.loc (c.tc : Thread nD τ)) = (dats p c).arrAt w (pinD pcs a c p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q :=
  run_dealt_but pcs a dats ι phinj p hw ho EP defs₀ 𝒱₀ (fgt := fun _ _ _ => false) hnone m g main hmain hbody hne harr hstage hshare hdistinct
    O₀ howed₀ howedN L lv hL hwaits G G' u₀ hu₀ hglob hA X Y hstart hin hout QY hY
    (hQ := fun s h hz => hQ s (fun c => ⟨fun w => (h c).1 w (Or.inl rfl), (h c).2⟩) hz)

end Region

end Cert.Deal
-- ==== Proof.Begin.lean ====
/-
What every exchange's launch has in common: what a device owes at a grid point, and the ghost state of the start.
-/
module

public import proofs.«01_k».proof.Proof.Dealing
public import proofs.«01_k».proof.Proof.Deal

@[expose] public section

noncomputable section

namespace Cert.Wires

open Idealize.ShloMosaic Idealize.ShloMosaic.TcCoe
open Idealize.ShloMosaic.Rounds
open Idealize.SL Idealize.SL.RA Idealize.SL.BI
open Idealize.SL.BI.BIBase Idealize.SL.BI.Laws Idealize.SL.ProofMode Idealize.SL.Sem
open Idealize.ShloMosaic.Pipeline (Dat Cfg BodyObligation BodyObligationLoose)

set_option Elab.async false

variable {sig : RefSig} {Val : EltTy → Type} {Λ₀ : Idealize.SL.Sem.Labels}
local notation "𝕄" => MT 8 τ₇ sig Unit Val ℕ (UU sig) ℕ

variable {cfg : Cfg sig Λ₀} {c : Dev 8} (D : Dat τ₇ Val Unit ℕ (UU sig) ℕ cfg c) (n : Fin (cfg.N + 1))

/-- What the pipeline says is owed at a grid point is owed. -/
theorem owes_at : (D.owesAt () n : sProp 𝕄) ⊢ owing Val c (D.owed n) := by
  unfold Dat.owesAt Pipeline.owesWithin owing
  iintro ⟨%W, %hW, HO⟩
  iexists W; iexact HO

/-- And back: any record of waits will do, since there is one index. -/
theorem at_owes (h : ∀ x, x ∈ D.recorded n) : (owing Val c (D.owed n) : sProp 𝕄) ⊢ D.owesAt () n := by
  unfold Dat.owesAt Pipeline.owesWithin owing
  iintro ⟨%W, HO⟩
  iexists W; isplitr
  · ipureintro; exact fun x _ => Or.inl (h x)
  · iexact HO

/-- The ghost state of a start pays for the pipelines' cells and for everything the exchange needs. -/
theorem funded {P : Type} [Fintype P] (cfgs : P → Cfg sig Λ₀) (inj : Function.Injective (Pipeline.cellOf (nD := 8) (τ := τ₇) cfgs))
    (w : Wires sig) (pay : Fin 8 → CellId → sProp 𝕄) [Payable pay] :
    (ownU ((initOf (Pipeline.cells cfgs inj) (Pipeline.launchToks cfgs inj), initOf (allCells w) (allToks w)) : UU sig) : sProp 𝕄)
      ⊢ |={Set.univ}=> iprop(BI.own (EP (initOf (Pipeline.cells cfgs inj) (Pipeline.launchToks cfgs inj))) ∗ bigSep Finset.univ (ghost w pay)) := by
  iintro Hu
  ihave H := (ownU_pair _ _) $$ Hu
  icases H with ⟨HP, HX⟩
  imod (fund_all w pay) $$ HX with HG
  imodintro
  isplitl [HP] <;> iassumption

/-! ## The run -/

/-- A buffer found at one of several contents, all the same. -/
theorem found {δ : Type} {c : Fin 8} {sp : Space} {sh : Shape} {e : EltTy} (M : Memref sig .tc sp sh e) (f : δ → sh.Idx → Val e) (Y : sh.Idx → Val e) (h : ∀ d, f d = Y) :
    iprop(∃ d, owns (th c) M fullShare (f d)) ⊢ (owns (th c) M fullShare Y : sProp 𝕄) := by
  iintro ⟨%d, H⟩; rw [h d]; iexact H

/-- The semaphores of an exchange, at zero. -/
abbrev zeros (Val : EltTy → Type) (w : Wires sig) (c : Fin 8) : sProp (MT 8 τ₇ sig Unit Val ℕ (UU sig) ℕ) := Pipeline.ownSems0 (osem w) c

/-- A wait on a semaphore of the lowest level is below everything owed. -/
theorem below (w : Wires sig) (c : Fin 8) (O : CellTallies 8 τ₇ sig Unit) (hl : ∃ l, O = dues w l c) (q : DmaSem sig) (hq : level w (.dma q) = 0)
    (htier : ∀ k, 0 < w.tier k) : (levAts levIx (lev w) : sProp 𝕄) ⊢ MayWait (th c) (.dma q) () O := by
  obtain ⟨l, rfl⟩ := hl
  exact may_wait w c q l 0 hq.le fun k _ => by rw [level_arrival]; exact htier k

/-- The run of a kernel whose only exchange is the one `w` names: its body's obligation, what the launch hands out, what each device starts from and ends with, and what is read of it. -/
theorem run_exchange [∀ e, Nonempty (Val e)] {cfgs : Fin 1 → Cfg sig Λ₀} (inj : Function.Injective (Pipeline.cellOf (nD := 8) (τ := τ₇) cfgs))
    (dats : (p : Fin 1) → (c : Dev 8) → Dat τ₇ Val Unit ℕ (UU sig) ℕ (cfgs p) c) (hw : Pipeline.WinFacts (cfgs 0).spec)
    (w : Wires sig) (ho : Pipeline.OwnSemFacts (cfgs 0).spec (osem w)) {pay : Fin 8 → CellId → sProp 𝕄} [Payable pay]
    {defs₀ : Defs 8 τ₇ sig Val Λ₀} (m : (ℓ : Loc 8 τ₇ sig) → Buf Val ℓ) (g : Dev 8 → PrngReg)
    (main : Dev 8 → Prog (TpuEff 8 τ₇ sig Val (Pipeline.Sig Λ₀ (Fin 1) fun p => ((cfgs p).toPCfg (Val := Val)).Adm) .tc) PUnit)
    (hmain : ∀ c, main c = .op (.customCall (Pipeline.entry 0) ()) fun _ => .ret ⟨⟩)
    (hbody : ∀ c, BodyObligation (dats 0 c) defs₀ Variants.none () Set.univ)
    (hne : ∀ i, 0 < ((cfgs 0).spec i).block.numel) (harr : ∀ i, ((cfgs 0).spec i).arr.IsWhole) (hstage : ∀ i s, (((cfgs 0).spec i).stage s).IsWhole)
    (hq : ∀ c i, (dats 0 c).q i = fullShare) {l : List (Fin 7)} (h0 : ∀ c, (dats 0 c).owed 0 = dues w l c) (hN : ∀ c, (dats 0 c).owed (Fin.last _) = 0)
    (hl : ∀ c t, ∃ l', (dats 0 c).owed t = dues w l' c) (hlow : ∀ i s, level w (.dma (((cfgs 0).win i).sem s)) = 0) (htier : ∀ k, 0 < w.tier k)
    {G' X Y : Dev 8 → sProp 𝕄}
    (hglob : (bigSep Finset.univ fun c => iprop((Pipeline.ownSems0 (osem w) c ∗ Pipeline.unscopedRest (cfgs 0).spec c (fun b => m ((th c).loc b))) ∗ ghost w pay c) : sProp 𝕄)
      ⊢ |={Set.univ}=> bigSep Finset.univ G')
    (hA : ∀ c i, (dats 0 c).A i = m (((cfgs 0).spec i).arr.view.loc (th c)))
    (hstart : ∀ c, iprop(levAts levIx (lev w) ∗ Pipeline.launchCred (dues w l) c ∗ G' c) ⊢ X c)
    (hin : ∀ c, iprop(X c ∗ Pipeline.scopedRest (cfgs 0).spec c) ⊢ (dats 0 c).Φ 0)
    (hout : ∀ c, (dats 0 c).Φ (Fin.last _) ⊢ iprop(Y c ∗ zeros Val w c ∗ Pipeline.scopedRest (cfgs 0).spec c))
    {QY : Dev 8 → MemSt 8 τ₇ sig Val → Prop} (hY : ∀ c (s' : Phys 8 τ₇ sig Val), iprop(Y c ∗ SI s') ⊢ iprop(⌜QY c s'.mem⌝ ∗ SI s'))
    {Q : PUnit × MemSt 8 τ₇ sig Val → Prop}
    (hQ : ∀ s : MemSt 8 τ₇ sig Val, (∀ c : Dev 8, (∀ i, s.mem (((cfgs 0).spec i).arr.view.loc (th c)) = (dats 0 c).arrAt i (cfgs 0).N) ∧ QY c s) →
      (∀ g' : GSem 8 τ₇ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q :=
  Cert.Deal.run_dealt (fun p => (cfgs p).toPCfg) (fun _ p => (cfgs p).toPCfg_adm) dats () inj (0 : Fin 1) hw.to₀ ho EP defs₀ Variants.none
    (inferInstanceAs (IsEmpty (Fin 0))) m g main hmain (fun c => (hbody c).loose) hne harr hstage (fun c i => by unfold Dat.share; split; exacts [rfl, hq c i])
    hw.arr_inj (dues w l) h0 hN levIx (lev w) (fun g h => levIx_other g h)
    (fun c => Pipeline.cellsWaits_intro cfgs dats () 0 c fun i s t => below w c _ (hl c t) _ (hlow i s) htier) (ghost w pay) G' _ (funded cfgs inj w pay) hglob hA X Y hstart hin hout QY hY hQ

/-- The same with the windows `fgt` marks left open: nothing is said of what they hold, but that an input ends as it started. -/
theorem run_open [∀ e, Nonempty (Val e)] {cfgs : Fin 1 → Cfg sig Λ₀} (inj : Function.Injective (Pipeline.cellOf (nD := 8) (τ := τ₇) cfgs))
    (dats : (p : Fin 1) → (c : Dev 8) → Dat τ₇ Val Unit ℕ (UU sig) ℕ (cfgs p) c) (fgt : (p : Fin 1) → Dev 8 → Fin (cfgs p).W → Bool) (hw : Pipeline.WinFacts (cfgs 0).spec)
    (w : Wires sig) (ho : Pipeline.OwnSemFacts (cfgs 0).spec (osem w)) {pay : Fin 8 → CellId → sProp 𝕄} [Payable pay]
    {defs₀ : Defs 8 τ₇ sig Val Λ₀} (m : (ℓ : Loc 8 τ₇ sig) → Buf Val ℓ) (g : Dev 8 → PrngReg)
    (main : Dev 8 → Prog (TpuEff 8 τ₇ sig Val (Pipeline.Sig Λ₀ (Fin 1) fun p => ((cfgs p).toPCfg (Val := Val)).Adm) .tc) PUnit)
    (hmain : ∀ c, main c = .op (.customCall (Pipeline.entry 0) ()) fun _ => .ret ⟨⟩)
    (hbody : ∀ c, BodyObligationLoose (dats 0 c) defs₀ Variants.none () Set.univ (fgt 0 c))
    (hne : ∀ i, 0 < ((cfgs 0).spec i).block.numel) (harr : ∀ i, ((cfgs 0).spec i).arr.IsWhole) (hstage : ∀ i s, (((cfgs 0).spec i).stage s).IsWhole)
    (hq : ∀ c i, (dats 0 c).q i = fullShare) {l : List (Fin 7)} (h0 : ∀ c, (dats 0 c).owed 0 = dues w l c) (hN : ∀ c, (dats 0 c).owed (Fin.last _) = 0)
    (hl : ∀ c t, ∃ l', (dats 0 c).owed t = dues w l' c) (hlow : ∀ i s, level w (.dma (((cfgs 0).win i).sem s)) = 0) (htier : ∀ k, 0 < w.tier k)
    {G' X Y : Dev 8 → sProp 𝕄}
    (hglob : (bigSep Finset.univ fun c => iprop((Pipeline.ownSems0 (osem w) c ∗ Pipeline.unscopedRest (cfgs 0).spec c (fun b => m ((th c).loc b))) ∗ ghost w pay c) : sProp 𝕄)
      ⊢ |={Set.univ}=> bigSep Finset.univ G')
    (hA : ∀ c i, (dats 0 c).A i = m (((cfgs 0).spec i).arr.view.loc (th c)))
    (hstart : ∀ c, iprop(levAts levIx (lev w) ∗ Pipeline.launchCred (dues w l) c ∗ G' c) ⊢ X c)
    (hin : ∀ c, iprop(X c ∗ Pipeline.scopedRest (cfgs 0).spec c) ⊢ (dats 0 c).Φ 0)
    (hout : ∀ c, (dats 0 c).Φ (Fin.last _) ⊢ iprop(Y c ∗ zeros Val w c ∗ Pipeline.scopedRest (cfgs 0).spec c))
    {QY : Dev 8 → MemSt 8 τ₇ sig Val → Prop} (hY : ∀ c (s' : Phys 8 τ₇ sig Val), iprop(Y c ∗ SI s') ⊢ iprop(⌜QY c s'.mem⌝ ∗ SI s'))
    {Q : PUnit × MemSt 8 τ₇ sig Val → Prop}
    (hQ : ∀ s : MemSt 8 τ₇ sig Val, (∀ c : Dev 8, (∀ i, fgt 0 c i = false ∨ ((cfgs 0).win i).isOut = false → s.mem (((cfgs 0).spec i).arr.view.loc (th c)) = (dats 0 c).arrAt i (cfgs 0).N) ∧ QY c s) →
      (∀ g' : GSem 8 τ₇ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q :=
  Cert.Deal.run_dealt_but (fun p => (cfgs p).toPCfg) (fun _ p => (cfgs p).toPCfg_adm) dats () inj (0 : Fin 1) hw.to₀ ho EP defs₀ Variants.none fgt
    (inferInstanceAs (IsEmpty (Fin 0))) m g main hmain hbody hne harr hstage (fun c i => by unfold Dat.share; split; exacts [rfl, hq c i])
    hw.arr_inj (dues w l) h0 hN levIx (lev w) (fun g h => levIx_other g h)
    (fun c => Pipeline.PerCore.RDat.cellsWaits_intro (fun _ => cfgs) (fun p c => (dats p c).toRForget (fgt p c)) () 0 c fun i s t => below w c _ (hl c t) _ (hlow i s) htier) (ghost w pay) G' _ (funded cfgs inj w pay) hglob hA X Y hstart hin hout QY hY hQ

end Cert.Wires

end
-- ==== Proof.Run.lean ====
/-
The run of the fused kernel on the eight devices, for any float values: what each device holds from grid point to grid
point, the launch, and the arrays at the end.
-/
module

public import proofs.«01_k».proof.Proof.Walk
public import proofs.«01_k».proof.Proof.Begin
public import proofs.«01_k».proof.Proof.Gen.KernelIdeal.Frame

@[expose] public section

noncomputable section

namespace Cert.UpGather

open Cert.KernelIdeal Cert.KernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the gather, and the scratch the product does not use. -/
def phi (n : ℕ) (c : Dev nD) : sProp 𝕄 :=
  iprop(stateAt net m 32 n c ∗ ∃ f : Buf (Elt F) ((c : Thread nD τ).loc cc0_scratch0), ((c : Thread nD τ).loc cc0_scratch0) ↦{fullShare} f)

/-- The product of the two blocks of grid point `t`, rounded. -/
def tile (c : Dev nD) (t : Fin cfg0.N) : S1088x1408.Idx → Elt F .bf16 := k0_pay1 (iblk m c 0 t) (iblk m c 1 t)

/-- The proof data: the inputs' blocks stay, the output's block is the product. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => tile m c t
  Φ t := phi m t.val c
  q _ := fullShare
  owed t := dues net.wires (owedAt 32 t.val) c

/-- The body at each grid point. -/
theorem body_obligation (c : Dev nD) : BodyObligation (dats m 0 c) (defs₀ (F := F)) noVariants () Set.univ := fun t => by
  rw [bigSep_W0, bigSep_W0]
  show iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t)
        ∗ owns (th c) (st0_2 t) fullShare (tile m c t))
  unfold phi
  iintro ⟨⟨Hs, Hscr⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2))
  unfold holds holding
  isplitl [Hs HO]
  · isplitl [Hs]; · iexact Hs
    iexact HO
  isplitl [H0]; · iexact H0
  isplitl [H1]; · iexact H1
  isplitl [H2]; · iexact H2
  iintro ⟨⟨Hs, HO⟩, H0, H1, H2⟩
  isplitl [Hs Hscr]; · isplitl [Hs] <;> iassumption
  isplitl [HO]; · iapply (at_owes (dats m 0 c) t.succ fun _ => trivial); iexact HO
  isplitl [H0]; · iexact H0
  isplitl [H1]; · iexact H1
  iexact H2

/-! ## The launch -/

theorem phi_start (c : Dev nD) : iprop(before net m c ∗ Pipeline.scopedRest spec0 c) ⊢ (phi m 0 c : sProp 𝕄) := by
  rw [scopedRest0_eq]; unfold phi
  rw [show stateAt net m 32 0 c = before net m c from if_pos rfl]

theorem phi_end (c : Dev nD) : (phi m 32 c : sProp 𝕄) ⊢ iprop(endOf net m c
    ∗ zeros (Elt F) net.wires c ∗ Pipeline.scopedRest spec0 c) := by
  rw [scopedRest0_eq]; unfold phi
  rw [show stateAt net m 32 32 c = after net m c from (if_neg (by decide)).trans (if_neg (by decide))]
  iintro ⟨H, Hr⟩
  ihave H := (after_end net m c) $$ H
  icases H with ⟨H, Hz⟩
  isplitl [H]; · iexact H
  isplitl [Hz] <;> iassumption

/-- What the run says: on every device the inputs are unchanged, the product's array holds every grid point's tile, each
    block of the gathered array is its device's shard; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ j : Fin 8, (net.blk j).view.read (Elt F) (r.2.mem ((c : Thread nD τ).loc main_v1_1)) = shard net m j)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_gather net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.UpGather

end
-- ==== Proof.Product.lean ====
/-
The array the product ends in, over the extended reals: every element is the sum, over the contracted axis, of the products
of a row of the activations with a column of the gathered weights.
-/
module

public import proofs.«01_k».proof.Proof.Run
public import Idealize.ShloMosaic.Lib.Pipeline.ValueKit

@[expose] public section

noncomputable section

namespace Cert.UpGather

open Cert.KernelIdeal Cert.KernelIdeal.Gen
open Idealize.ShloMosaic Idealize.ShloMosaic.TcCoe

/-- Row `r` of `a` times column `l` of the eight blocks of `w` laid side by side. -/
def entry {n : ℕ} (a : (⟨2, ![n, 2048]⟩ : Shape).Idx → EReal) (w : (⟨3, ![8, 2048, 1408]⟩ : Shape).Idx → EReal) (r : Fin n) (l : Fin 11264) : EReal :=
  ∑ k : Fin 2048, a (ix2 r k) * w (ix3 ⟨l.val / 1408, by have := l.isLt; omega⟩ k ⟨l.val % 1408, Nat.mod_lt _ (by decide)⟩)

/-- A tile of the product, at an index. -/
theorem tile_apply (X : S1088x2048.Idx → EReal) (W : S1x2048x1408.Idx → EReal) (y : S1088x1408.Idx) :
    k0_pay1 (F := Ideal) X W y = ∑ k : Fin 2048, X (ix2 (y 0) k) * W (ix3 0 k (y 1)) := by
  pointwise [k0_pay1]

variable (m : (ℓ : Loc nD τ sig) → Buf (Elt Ideal) ℓ)

theorem index0 : ∀ t : Fin cfg0.N, win0_0.index t = ![t.val / 8, 0] := (by decide +kernel : ∀ t : Fin grid0.N, _)
theorem index1 : ∀ t : Fin cfg0.N, win0_1.index t = ![t.val % 8, 0, 0] := (by decide +kernel : ∀ t : Fin grid0.N, _)
theorem index2 : ∀ t : Fin cfg0.N, win0_2.index t = ![t.val / 8, t.val % 8] := (by decide +kernel : ∀ t : Fin grid0.N, _)

set_option maxHeartbeats 1000000 in
/-- The product's array after the last grid point. -/
theorem product_array (c : Dev nD) : (dats m 0 c).arrAt 2 cfg0.N
    = fun j : S4352x11264.Idx => entry (m ((c : Thread nD τ).loc main_arg0)) (m ((c : Thread nD τ).loc main_arg1)) (j 0) (j 1) := by
  refine (dats m 0 c).arrAt_eq_of_covers 2 _ (by decide +kernel) fun t hf y => ?_
  blk_simp
  show k0_pay1 (F := Ideal) (iblk m c 0 t) (iblk m c 1 t) y = _
  rw [tile_apply]
  unfold entry
  blk_point [iblk, V, index0 t, index1 t, index2 t]

end Cert.UpGather

end
-- ==== Proof.Reference.lean ====
/-
The reference's two results at an index, over the extended reals.
-/
module

public import proofs.«01_k».proof.Proof.Product
public import proofs.«01_k».proof.Proof.Gen.ReferenceIdeal.Run

@[expose] public section

noncomputable section

namespace Cert.UpGather.Reference

open Cert.ReferenceIdeal Cert.ReferenceIdeal.Gen
open Idealize.ShloMosaic Idealize.ShloMosaic.TcCoe Idealize.SL.Sem

variable (m : (ℓ : Loc nD τ sig) → Buf (Elt Ideal) ℓ)

/-- The product of the reference: the activations times the eight blocks laid side by side. -/
def product : S34816x11264.Idx → EReal := fun j => entry (m ((0 : Dev nD).tc.loc main_arg0)) (m ((0 : Dev nD).tc.loc main_arg1)) (j 0) (j 1)
/-- The gathered array of the reference: block `j` is the columns from `1408 j` on. -/
def gathered : S8x2048x1408.Idx → EReal := fun j =>
  m ((0 : Dev nD).tc.loc main_arg2) (ix2 (j 1) ⟨(j 0).val * 1408 + (j 2).val, by
    have h0 : (j 0).val < 8 := (j 0).isLt
    have h2 : (j 2).val < 1408 := (j 2).isLt
    omega⟩)

set_option maxHeartbeats 1000000 in
/-- The reference's first result at an index. -/
theorem product_eq (a : S34816x2048.Idx → EReal) (w : S8x2048x1408.Idx → EReal) (j : S34816x11264.Idx) :
    truncf (F := Ideal) .bf16 (Host.dotGeneral dot_S34816x2048_S2048x11264_S34816x11264_1_0_0_1_n_n none (extf (F := Ideal) (φ := .bf16) .f32 a bitsLt_bf16_f32) (extf (F := Ideal) (φ := .bf16) .f32 (shapeCast S2048x11264 (transpose S2048x8x1408 [1, 0, 2] w transposes_S8x2048x1408_S2048x8x1408_1_0_2) shapeCasts_S2048x8x1408_S2048x11264) bitsLt_bf16_f32)) bitsLt_bf16_f32 j
      = entry a w (j 0) (j 1) := by
  pointwise [entry]

set_option maxHeartbeats 1000000 in
/-- The reference's second result at an index. -/
theorem gathered_eq (w : S2048x11264.Idx → EReal) (j : S8x2048x1408.Idx) :
    transpose S8x2048x1408 [1, 0, 2] (shapeCast S2048x8x1408 w shapeCasts_S2048x11264_S2048x8x1408) transposes_S2048x8x1408_S8x2048x1408_1_0_2 j
      = w (ix2 (j 1) ⟨(j 0).val * 1408 + (j 2).val, by
    have h0 : (j 0).val < 8 := (j 0).isLt
    have h2 : (j 2).val < 1408 := (j 2).isLt
    omega⟩) := by
  pointwise

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v5) = product m
    ∧ r.2.mem ((0 : Dev nD).tc.loc main_v7) = gathered m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (funext fun j => gathered_eq _ j), (h 0).2.2⟩)
    (Cert.ReferenceIdeal.Value.run (F := Ideal) m ρ)

end Cert.UpGather.Reference

end
-- ==== Proof.Blocks.lean ====
/-
The gathered array at an index: block `j` is the array's part at leading coordinate `j`.
-/
module

public import proofs.«01_k».proof.Proof.Net
public import Idealize.ShloMosaic.Lib.Pointwise

@[expose] public section

noncomputable section

namespace Cert.Gather

open Idealize.ShloMosaic

variable {sig : RefSig} {R C : ℕ} {Val : EltTy → Type} (net : Net sig R C)

/-- Block `j` at row `k` and column `l` is the array at `(j, k, l)`. -/
theorem read_blk (j : Fin 8) (f : net.arr.view.ty.Contents Val) (k : Fin R) (l : Fin C) :
    (net.blk j).view.read Val f (ix2 k l) = net.arr.view.read Val f (ix3 j k l) := by
  have h1 : (net.blk j).view.read Val f (ix2 k l)
      = net.arr.view.read Val f ((Rect.unit (s := OutS R C) ![j.val, 0, 0] (OneS R C).size (Net.inb j)).emb (Shape.reshapeEquiv net.squeezes.numel_eq (ix2 k l))) := rfl
  have h2 : Shape.reshapeEquiv net.squeezes.numel_eq (ix2 k l) = (ix3 (0 : Fin 1) k l : (OneS R C).Idx) :=
    ((Shape.reshapeEquiv_cons_one net.squeezes.numel_eq (ix2 k l)).trans (by funext a; match a with | ⟨0, _⟩ => rfl | ⟨1, _⟩ => rfl | ⟨2, _⟩ => rfl))
  rw [h1, h2]
  congr 1
  funext a
  apply Fin.ext
  rw [Rect.emb_apply]
  match a with
  | ⟨0, _⟩ => show j.val + 1 * 0 = j.val; omega
  | ⟨1, _⟩ => show 0 + 1 * k.val = k.val; omega
  | ⟨2, _⟩ => show 0 + 1 * l.val = l.val; omega

end Cert.Gather

end
-- ==== Proof.Agree.lean ====
/-
The fused kernel against the reference: each device ends with its rows of the reference's product and with the whole of the
reference's gathered array.
-/
module

public import proofs.«01_k».proof.Defs
public import proofs.«01_k».proof.Proof.Reference
public import proofs.«01_k».proof.Proof.Blocks
public import proofs.«01_k».proof.Proof.Gen.Kernel

@[expose] public section

noncomputable section

namespace Cert.UpGather

open Idealize.ShloMosaic Idealize.ShloMosaic.TcCoe Idealize.SL.Sem

/-- A buffer whose eight blocks are the devices' shards, the shards the columns of one array, is the reference's gathered
    array. -/
theorem gathered_array (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : ∀ c : Dev KernelIdeal.nD, m (c.tc.loc KernelIdeal.main_arg2)
      = Layout.block ⟨2, ![2048, 1408]⟩ ⟨2, ![2048, 11264]⟩ 1 8 c (m' ((0 : Dev ReferenceIdeal.nD).tc.loc ReferenceIdeal.main_arg2)))
    (g : (⟨3, ![8, 2048, 1408]⟩ : Shape).Idx → EReal) (hg : ∀ j : Fin 8, (net.blk j).view.read (Elt Ideal) g = Gather.shard net m j) :
    g = Reference.gathered m' := by
  have key : ∀ (j : Fin 8) (k : Fin 2048) (l : Fin 1408), g (ix3 j k l) = Reference.gathered m' (ix3 j k l) := fun j k l => by
    have h1 : g (ix3 j k l) = (net.blk j).view.read (Elt Ideal) g (ix2 k l) := (Gather.read_blk (Val := Elt Ideal) net j g k l).symm
    have h2 : Gather.shard net m j (ix2 k l) = m ((Wires.th j).loc KernelIdeal.main_arg2) (ix2 k l) := rfl
    rw [h1, hg, h2, h]
    unfold Reference.gathered
    rw [Layout.block_apply]
    congr 1
    funext a
    match a with | ⟨0, _⟩ => rfl | ⟨1, _⟩ => rfl
  funext i
  have e : i = ix3 (i 0) (i 1) (i 2) := by funext a; match a with | ⟨0, _⟩ => rfl | ⟨1, _⟩ => rfl | ⟨2, _⟩ => rfl
  rw [e]
  exact key _ _ _

/-- A device's product is its rows of the reference's. -/
theorem product_block (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m (c.tc.loc KernelIdeal.main_arg0)
      = Layout.block ⟨2, ![4352, 2048]⟩ ⟨2, ![34816, 2048]⟩ 0 8 c (m' ((0 : Dev ReferenceIdeal.nD).tc.loc ReferenceIdeal.main_arg0)))
    (h1 : m (c.tc.loc KernelIdeal.main_arg1) = m' ((0 : Dev ReferenceIdeal.nD).tc.loc ReferenceIdeal.main_arg1)) :
    (fun j : KernelIdeal.S4352x11264.Idx => entry (m (c.tc.loc KernelIdeal.main_arg0)) (m (c.tc.loc KernelIdeal.main_arg1)) (j 0) (j 1))
      = Layout.block ⟨2, ![4352, 11264]⟩ ⟨2, ![34816, 11264]⟩ 0 8 c (Reference.product m') := by
  funext j
  rw [Layout.block_apply, h0, h1]
  unfold Reference.product entry
  refine Finset.sum_congr rfl fun k _ => ?_
  congr 1
  rw [Layout.block_apply]
  congr 1
  funext a
  match a with | ⟨0, _⟩ => rfl | ⟨1, _⟩ => rfl

theorem algebraic : @algebraic_KernelIdeal_ReferenceIdeal Cert.KernelIdeal.Gen.facts Cert.ReferenceIdeal.Gen.facts := by
  intro m g m' g' _ hin
  refine ⟨Reference.product m', Reference.gathered m', ?_, Reference.run m' g'⟩
  refine (θ_run _ _ _).mono (fun r h c => ?_) (run_main (F := Ideal) m g)
  obtain ⟨a0, a1, a2, hp, hg⟩ := h.1 c
  refine ⟨?_, gathered_array m m' (fun d => (hin d).2.2) _ hg, a0, a1, a2⟩
  rw [hp, product_array]
  exact product_block m m' c (hin c).1 (hin c).2.1

/-- The kernel over the extended reals terminates with its arguments unchanged and every counter at zero. -/
theorem frame_ideal : @quiescent_KernelIdeal Cert.KernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.Kernel.Gen.facts Cert.KernelIdeal.Gen.facts in
/-- The two printed programs have the same kernel body. -/
theorem bodies_eq : Kernel.defs₀ (F := Bits) = KernelIdeal.defs₀ (F := Bits) := by
  unfold Kernel.defs₀ KernelIdeal.defs₀
  refine congrArg Defs.onTc (funext fun ℓ => funext fun x => ?_)
  match ℓ, x with
  | 0, (t, s) => rfl

attribute [local instance] Cert.Kernel.Gen.facts Cert.KernelIdeal.Gen.facts in
/-- So they have the same table of bodies. -/
theorem tables_eq : Kernel.defs (F := Bits) = KernelIdeal.defs (F := Bits) :=
  congrArg (Pipeline.defs (KernelIdeal.pcfgs (F := Bits))) bodies_eq

/-- The kernel on bits does too: its program is the same text. -/
theorem frame_bits : @quiescent_Kernel Cert.Kernel.Gen.facts := fun m g _ => by
  show θ_run (Kernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_ReferenceIdeal Cert.ReferenceIdeal.Gen.facts := fun m g _ =>
  (θ_run _ _ _).mono (fun r h => ⟨fun c => (h c).2.2, sem_eq_zero_of_no_sems (by decide) r.2⟩) (Cert.ReferenceIdeal.Value.run (F := Ideal) m g)

end Cert.UpGather

end
-- ==== Proof.In.Names.lean ====
/-
The names the kernel of w_in and w_out uses for the gather: its arrays, its semaphores, the blocks it addresses and the devices it
sends to.
-/
module

public import proofs.«01_k».proof.Proof.Stages
public import proofs.«01_k».proof.Proof.Gen.InKernelIdeal
public import proofs.«01_k».proof.Proof.Gen.InKernelIdeal.Launch

@[expose] public section

noncomputable section

namespace Cert.InGather

open Cert.InKernelIdeal Cert.InKernelIdeal.Gen Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The gather of the next w_in or w_out, fused into the product. -/
abbrev net : Net sig 256 2048 where
  src := Memref.whole main_arg2
  arr := Memref.whole main_v1_1
  sem := semOf
  sem_inj := semOf_inj
  squeezes := squeezes_S1x256x2048_S256x2048
  rows_pos := by decide
  cols_pos := by decide
  src_set := View.set_whole _
  arr_set := View.set_whole _

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem off1 (c : Dev nD) : k0_off1 c = ![c.val, 0, 0] := by revert c; decide
theorem off2 (c : Dev nD) : k0_off2 c = ![(out (4 : Fin 7).castSucc c).val, 0, 0] := by revert c; decide
theorem off3 (c : Dev nD) : k0_off3 c = ![(out (5 : Fin 7).castSucc c).val, 0, 0] := by revert c; decide
theorem off4 (c : Dev nD) : k0_off4 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

/-! ## The grid points at which the gather starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 8 := by revert t; decide

end Cert.InGather

end
-- ==== Proof.In.Walk.lean ====
/-
One grid point of the fused kernel: what its body does to what a device holds.

At the first point the body starts the gather, at the last it finishes it. At every point it multiplies the two blocks it was
given.
-/
module

public import proofs.«01_k».proof.Proof.In.Names
public import proofs.«01_k».proof.Proof.Gen.InKernelIdeal.Skeleton
public import proofs.«01_k».proof.Proof.Gen.InKernelIdeal.Points

@[expose] public section

noncomputable section

namespace Cert.InGather

open Cert.InKernelIdeal Cert.InKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- One grid point, whichever it is: the gather goes on, and the product's block is left. -/
theorem walk (t : Fin cfg0.N) (c : Dev nD)
    (M0 : Memref sig .tc .vmem S1088x2048 .bf16) (hM0 : M0.IsWhole) (M1 : Memref sig .tc .vmem S2048x1024 .bf16) (hM1 : M1.IsWhole)
    (M2 : Memref sig .tc .vmem S1088x1024 .f32) (hM2 : M2.IsWhole)
    (X0 : S1088x2048.Idx → Elt F .bf16) (X1 : S2048x1024.Idx → Elt F .bf16) (X2 : S1088x1024.Idx → Elt F .f32) (Q : PUnit → sProp 𝕄) :
    iprop(holds net m 8 t.val c ∗ owns (th c) M0 fullShare X0 ∗ owns (th c) M1 fullShare X1 ∗ owns (th c) M2 fullShare X2
        ∗ ((holds net m 8 (t.val + 1) c ∗ owns (th c) M0 fullShare X0 ∗ owns (th c) M1 fullShare X1
              ∗ owns (th c) M2 fullShare (k0_pay1 X0 X1)) -∗ Q ⟨⟩))
      ⊢ wp frame (wpE (defs₀ (F := F)) noVariants (th c) none) Set.univ
        (cc0_w_in_gather (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 8 := t.isLt
  simp only [cc0_w_in_gather_eq_skeleton, cc0_w_in_gather_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (gather_start net m (defs₀ (F := F)) noVariants c _ _ _ _ (dev1 c _) (dev2 c _) (dev3 c _) (dev4 c _) (off1 c) loc_sem
      (gone_sem 0 _) (come_sem 0 _) (gone_sem 1 _) (come_sem 1 _) (gone_sem 2 _) (come_sem 2 _) (gone_sem 3 _) (come_sem 3 _)) $$ Hm
    iexact Hk
  simp only [Prog.bind_op, Prog.bind_ret]
  iintro ⟨Hm, H0, H1, H2, Hk⟩
  iapply (load_all (defs₀ (F := F)) noVariants c) $$ H0; iintro H0
  iapply (load_all (defs₀ (F := F)) noVariants c) $$ H1; iintro H1
  iapply (load_all (defs₀ (F := F)) noVariants c) $$ H2; iintro H2
  iapply (store_all (defs₀ (F := F)) noVariants c) $$ H2; iintro H2
  by_cases h2 : k0_cond2 (grid0.coords t) = 1#1
  · rw [holds_end _ _ _ _ (Nat.succ_ne_zero _) ((finishes t).mp h2)]
    simp only [dif_pos h2, Prog.bind_op, Prog.bind_ret]
    iapply (gather_finish net m (defs₀ (F := F)) noVariants rfl c _ _ _ (dev5 c _) (dev6 c _) (dev7 c _) (off2 c) (off3 c) (off4 c) loc_sem
      (gone_sem 0 _) (come_sem 0 _) (gone_sem 1 _) (come_sem 1 _) (gone_sem 2 _) (come_sem 2 _) (gone_sem 3 _) (come_sem 3 _)
      (gone_sem 4 _) (come_sem 4 _) (gone_sem 5 _) (come_sem 5 _) (gone_sem 6 _) (come_sem 6 _)) $$ Hm
    iintro Hm
    rw [wp_ret]; imodintro
    iapply Hk
    isplitl [Hm]; · iexact Hm
    isplitl [H0]; · iexact H0
    isplitl [H1] <;> iassumption
  · rw [holds_mid _ _ _ _ (Nat.succ_ne_zero _) (not_not.mp fun h => h2 ((finishes t).mpr h))]
    simp only [dif_neg h2, Prog.bind_op, Prog.bind_ret]
    rw [wp_ret]; imodintro
    iapply Hk
    isplitl [Hm]; · iexact Hm
    isplitl [H0]; · iexact H0
    isplitl [H1] <;> iassumption

end Cert.InGather

end
-- ==== Proof.In.Run.lean ====
/-
The run of the fused kernel on the eight devices, for any float values: what each device holds from grid point to grid
point, the launch, and the arrays at the end.
-/
module

public import proofs.«01_k».proof.Proof.In.Walk
public import proofs.«01_k».proof.Proof.Begin
public import proofs.«01_k».proof.Proof.Gen.InKernelIdeal.Frame

@[expose] public section

noncomputable section

namespace Cert.InGather

open Cert.InKernelIdeal Cert.InKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the gather, and the scratch the product does not use. -/
def phi (n : ℕ) (c : Dev nD) : sProp 𝕄 :=
  iprop(stateAt net m 8 n c ∗ ∃ f : Buf (Elt F) ((c : Thread nD τ).loc cc0_scratch0), ((c : Thread nD τ).loc cc0_scratch0) ↦{fullShare} f)

/-- The product of the two blocks of grid point `t`, rounded. -/
def tile (c : Dev nD) (t : Fin cfg0.N) : S1088x1024.Idx → Elt F .f32 := k0_pay1 (iblk m c 0 t) (iblk m c 1 t)

/-- The proof data: the inputs' blocks stay, the output's block is the product. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => tile m c t
  Φ t := phi m t.val c
  q _ := fullShare
  owed t := dues net.wires (owedAt 8 t.val) c

/-- The body at each grid point. -/
theorem body_obligation (c : Dev nD) : BodyObligation (dats m 0 c) (defs₀ (F := F)) noVariants () Set.univ := fun t => by
  rw [bigSep_W0, bigSep_W0]
  show iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t)
        ∗ owns (th c) (st0_2 t) fullShare (tile m c t))
  unfold phi
  iintro ⟨⟨Hs, Hscr⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2))
  unfold holds holding
  isplitl [Hs HO]
  · isplitl [Hs]; · iexact Hs
    iexact HO
  isplitl [H0]; · iexact H0
  isplitl [H1]; · iexact H1
  isplitl [H2]; · iexact H2
  iintro ⟨⟨Hs, HO⟩, H0, H1, H2⟩
  isplitl [Hs Hscr]; · isplitl [Hs] <;> iassumption
  isplitl [HO]; · iapply (at_owes (dats m 0 c) t.succ fun _ => trivial); iexact HO
  isplitl [H0]; · iexact H0
  isplitl [H1]; · iexact H1
  iexact H2

/-! ## The launch -/

theorem phi_start (c : Dev nD) : iprop(before net m c ∗ Pipeline.scopedRest spec0 c) ⊢ (phi m 0 c : sProp 𝕄) := by
  rw [scopedRest0_eq]; unfold phi
  rw [show stateAt net m 8 0 c = before net m c from if_pos rfl]

theorem phi_end (c : Dev nD) : (phi m 8 c : sProp 𝕄) ⊢ iprop(endOf net m c
    ∗ zeros (Elt F) net.wires c ∗ Pipeline.scopedRest spec0 c) := by
  rw [scopedRest0_eq]; unfold phi
  rw [show stateAt net m 8 8 c = after net m c from (if_neg (by decide)).trans (if_neg (by decide))]
  iintro ⟨H, Hr⟩
  ihave H := (after_end net m c) $$ H
  icases H with ⟨H, Hz⟩
  isplitl [H]; · iexact H
  isplitl [Hz] <;> iassumption

/-- What the run says: on every device the inputs are unchanged, the product's array holds every grid point's tile, each
    block of the gathered array is its device's shard; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ j : Fin 8, (net.blk j).view.read (Elt F) (r.2.mem ((c : Thread nD τ).loc main_v1_1)) = shard net m j)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_gather net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.InGather

end
-- ==== Proof.Rows.lean ====
/-
Matrices over the extended reals and arrays gathered from the devices, at an index: a product by its entries and by the rows
a device holds of it, and a gathered array from its eight blocks.
-/
module

public import proofs.«01_k».proof.Proof.Blocks
public import proofs.«01_k».proof.Proof.Access
public import Idealize.ShloMosaic.Lib.Layout

@[expose] public section

noncomputable section

namespace Cert.Gather

open Idealize.ShloMosaic Idealize.ShloMosaic.TcCoe

/-- Row `r` of `a` times column `l` of `w`. -/
def rowTimes {n K N : ℕ} (a : (⟨2, ![n, K]⟩ : Shape).Idx → EReal) (w : (⟨2, ![K, N]⟩ : Shape).Idx → EReal) (r : Fin n) (l : Fin N) : EReal :=
  ∑ k : Fin K, a (ix2 r k) * w (ix2 k l)

/-- The rows a device holds, times a matrix, are the device's rows of the whole product. -/
theorem rows_times {n n' K N : ℕ} (c : Fin 8) (w : (⟨2, ![K, N]⟩ : Shape).Idx → EReal) (A : (⟨2, ![n', K]⟩ : Shape).Idx → EReal)
    (h : Layout.Tiles ⟨2, ![n, K]⟩ ⟨2, ![n', K]⟩ 0 8) (h' : Layout.Tiles ⟨2, ![n, N]⟩ ⟨2, ![n', N]⟩ 0 8) :
    (fun j : (⟨2, ![n, N]⟩ : Shape).Idx => rowTimes (Layout.block ⟨2, ![n, K]⟩ ⟨2, ![n', K]⟩ 0 8 c A h) w (j 0) (j 1))
      = Layout.block ⟨2, ![n, N]⟩ ⟨2, ![n', N]⟩ 0 8 c (fun j => rowTimes A w (j 0) (j 1)) h' := by
  funext j
  rw [Layout.block_apply]
  unfold rowTimes
  refine Finset.sum_congr rfl fun k _ => ?_
  congr 1
  rw [Layout.block_apply]
  congr 1
  funext a
  match a with | ⟨0, _⟩ => rfl | ⟨1, _⟩ => rfl

/-- An array is what it is at its three coordinates. -/
theorem ext3 {A B C : ℕ} {f g : (⟨3, ![A, B, C]⟩ : Shape).Idx → EReal} (h : ∀ a b c, f (ix3 a b c) = g (ix3 a b c)) : f = g := by
  funext i
  have e : i = ix3 (i 0) (i 1) (i 2) := by funext a; match a with | ⟨0, _⟩ => rfl | ⟨1, _⟩ => rfl | ⟨2, _⟩ => rfl
  rw [e]
  exact h _ _ _

/-- A matrix cut into eight blocks of rows. -/
def byRows {R C n : ℕ} (hn : n = 8 * R) (w : (⟨2, ![n, C]⟩ : Shape).Idx → EReal) : (OutS R C).Idx → EReal := fun j =>
  w (ix2 ⟨(j 0).val * R + (j 1).val, by
    have h0 : (j 0).val ≤ 7 := Nat.le_of_lt_succ (j 0).isLt
    have h1 : (j 1).val < R := (j 1).isLt
    have h2 := Nat.mul_le_mul_right R h0
    omega⟩ (j 2))

/-- An array whose eight blocks are the rows the devices hold of a matrix is that matrix cut into eight. -/
theorem byRows_of_blocks {sig : RefSig} {R C n : ℕ} (net : Net sig R C) (hn : n = 8 * R) (W : (⟨2, ![n, C]⟩ : Shape).Idx → EReal)
    (ht : Layout.Tiles ⟨2, ![R, C]⟩ ⟨2, ![n, C]⟩ 0 8) (S : Fin 8 → (BlkS R C).Idx → EReal)
    (hS : ∀ c : Fin 8, S c = Layout.block ⟨2, ![R, C]⟩ ⟨2, ![n, C]⟩ 0 8 c W ht)
    (g : net.arr.view.ty.Contents (Elt Ideal)) (hg : ∀ j, (net.blk j).view.read (Elt Ideal) g = S j)
    (G : (OutS R C).Idx → EReal) (hG : ∀ i, net.arr.view.read (Elt Ideal) g i = G i) : G = byRows hn W := by
  refine ext3 fun j k l => ?_
  rw [← hG, ← read_blk (Val := Elt Ideal) net j g k l, hg, hS, Layout.block_apply]
  unfold byRows
  congr 1
  funext a
  match a with | ⟨0, _⟩ => rfl | ⟨1, _⟩ => rfl

/-- A matrix cut into eight blocks of columns. -/
def byCols {R C n : ℕ} (hn : n = 8 * C) (w : (⟨2, ![R, n]⟩ : Shape).Idx → EReal) : (OutS R C).Idx → EReal := fun j =>
  w (ix2 (j 1) ⟨(j 0).val * C + (j 2).val, by
    have h0 : (j 0).val ≤ 7 := Nat.le_of_lt_succ (j 0).isLt
    have h1 : (j 2).val < C := (j 2).isLt
    have h2 := Nat.mul_le_mul_right C h0
    omega⟩)

/-- An array whose eight blocks are the columns the devices hold of a matrix is that matrix cut into eight. -/
theorem byCols_of_blocks {sig : RefSig} {R C n : ℕ} (net : Net sig R C) (hn : n = 8 * C) (W : (⟨2, ![R, n]⟩ : Shape).Idx → EReal)
    (ht : Layout.Tiles ⟨2, ![R, C]⟩ ⟨2, ![R, n]⟩ 1 8) (S : Fin 8 → (BlkS R C).Idx → EReal)
    (hS : ∀ c : Fin 8, S c = Layout.block ⟨2, ![R, C]⟩ ⟨2, ![R, n]⟩ 1 8 c W ht)
    (g : net.arr.view.ty.Contents (Elt Ideal)) (hg : ∀ j, (net.blk j).view.read (Elt Ideal) g = S j)
    (G : (OutS R C).Idx → EReal) (hG : ∀ i, net.arr.view.read (Elt Ideal) g i = G i) : G = byCols hn W := by
  refine ext3 fun j k l => ?_
  rw [← hG, ← read_blk (Val := Elt Ideal) net j g k l, hg, hS, Layout.block_apply]
  unfold byCols
  congr 1
  funext a
  match a with | ⟨0, _⟩ => rfl | ⟨1, _⟩ => rfl

end Cert.Gather

end
-- ==== Proof.In.Product.lean ====
/-
The array the product of w_in or w_out ends in, over the extended reals: the rows of the activations times the weights.
-/
module

public import proofs.«01_k».proof.Proof.In.Run
public import proofs.«01_k».proof.Proof.Rows
public import Idealize.ShloMosaic.Lib.Pipeline.ValueKit

@[expose] public section

noncomputable section

namespace Cert.InGather

open Cert.InKernelIdeal Cert.InKernelIdeal.Gen Cert.Gather Cert.Wires
open Idealize.ShloMosaic Idealize.ShloMosaic.TcCoe

/-- A tile of the product, at an index. -/
theorem tile_apply (X : S1088x2048.Idx → EReal) (W : S2048x1024.Idx → EReal) (y : S1088x1024.Idx) :
    k0_pay1 (F := Ideal) X W y = ∑ k : Fin 2048, X (ix2 (y 0) k) * W (ix2 k (y 1)) := by
  pointwise [k0_pay1]

variable (m : (ℓ : Loc nD τ sig) → Buf (Elt Ideal) ℓ)

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

set_option maxHeartbeats 1000000 in
/-- The product's array after the last grid point. -/
theorem product_array (c : Dev nD) : (dats m 0 c).arrAt 2 cfg0.N
    = fun j : S4352x2048.Idx => rowTimes (m ((c : Thread nD τ).loc main_arg0)) (m ((c : Thread nD τ).loc main_arg1)) (j 0) (j 1) := by
  refine (dats m 0 c).arrAt_eq_of_covers 2 _ (by decide +kernel) fun t hf y => ?_
  blk_simp
  show k0_pay1 (F := Ideal) (iblk m c 0 t) (iblk m c 1 t) y = _
  rw [tile_apply]
  unfold rowTimes
  blk_point [iblk, V, index0 t, index1 t, index2 t]

end Cert.InGather

end
-- ==== Proof.In.Reference.lean ====
/-
The two results of the reference of w_in and w_out at an index, over the extended reals.
-/
module

public import proofs.«01_k».proof.Proof.Rows
public import proofs.«01_k».proof.Proof.Gen.InReferenceIdeal.Run

@[expose] public section

noncomputable section

namespace Cert.InGather.Reference

open Cert.InReferenceIdeal Cert.InReferenceIdeal.Gen Cert.Gather
open Idealize.ShloMosaic Idealize.ShloMosaic.TcCoe Idealize.SL.Sem

variable (m : (ℓ : Loc nD τ sig) → Buf (Elt Ideal) ℓ)

/-- The product of the reference. -/
def product : S34816x2048.Idx → EReal := fun j => rowTimes (m ((0 : Dev nD).tc.loc main_arg0)) (m ((0 : Dev nD).tc.loc main_arg1)) (j 0) (j 1)
/-- The gathered array of the reference: the next weights cut into eight blocks of rows. -/
def gathered : S8x256x2048.Idx → EReal := byRows (R := 256) (n := 2048) rfl (m ((0 : Dev nD).tc.loc main_arg2))

set_option maxHeartbeats 1000000 in
/-- The reference's first result at an index. -/
theorem product_eq (a : S34816x2048.Idx → EReal) (w : S2048x2048.Idx → EReal) (j : S34816x2048.Idx) :
    Host.dotGeneral dot_S34816x2048_S2048x2048_S34816x2048_1_0_0_1_n_n none (extf (F := Ideal) (φ := .bf16) .f32 a bitsLt_bf16_f32) (extf (F := Ideal) (φ := .bf16) .f32 w bitsLt_bf16_f32) j
      = rowTimes a w (j 0) (j 1) := by
  pointwise [rowTimes]

set_option maxHeartbeats 1000000 in
/-- The reference's second result at an index. -/
theorem gathered_eq (w : S2048x2048.Idx → EReal) (j : S8x256x2048.Idx) :
    shapeCast S8x256x2048 w shapeCasts_S2048x2048_S8x256x2048 j = byRows (R := 256) (n := 2048) rfl w j := by
  pointwise [byRows]

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v2) = product m
    ∧ r.2.mem ((0 : Dev nD).tc.loc main_v3) = gathered m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (funext fun j => gathered_eq _ j), (h 0).2.2⟩)
    (Cert.InReferenceIdeal.Value.run (F := Ideal) m ρ)

end Cert.InGather.Reference

end
-- ==== Proof.In.Agree.lean ====
/-
The kernel of w_in and w_out against its reference: each device ends with its rows of the reference's product and with the
whole of the reference's gathered array.
-/
module

public import proofs.«01_k».proof.Defs
public import proofs.«01_k».proof.Proof.In.Product
public import proofs.«01_k».proof.Proof.In.Reference
public import proofs.«01_k».proof.Proof.Gen.InKernel

@[expose] public section

noncomputable section

namespace Cert.InGather

open Cert.Gather Idealize.ShloMosaic Idealize.ShloMosaic.TcCoe Idealize.SL.Sem

theorem algebraic : @algebraic_InKernelIdeal_InReferenceIdeal Cert.InKernelIdeal.Gen.facts Cert.InReferenceIdeal.Gen.facts := by
  intro m g m' g' _ hin
  refine ⟨Reference.product m', Reference.gathered m', ?_, Reference.run m' g'⟩
  refine (θ_run _ _ _).mono (fun r h c => ?_) (run_main (F := Ideal) m g)
  obtain ⟨a0, a1, a2, hp, hg⟩ := h.1 c
  refine ⟨?_, byRows_of_blocks net rfl _ (by decide) _ (fun d => (hin d).2.2) _ hg _ fun _ => rfl, a0, a1, a2⟩
  rw [hp, product_array, (hin c).1, (hin c).2.1]
  exact rows_times c _ _ (by decide) (by decide)

/-- The kernel over the extended reals terminates with its arguments unchanged and every counter at zero. -/
theorem frame_ideal : @quiescent_InKernelIdeal Cert.InKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.InKernel.Gen.facts Cert.InKernelIdeal.Gen.facts in
/-- The two printed programs have the same kernel body. -/
theorem bodies_eq : InKernel.defs₀ (F := Bits) = InKernelIdeal.defs₀ (F := Bits) := by
  unfold InKernel.defs₀ InKernelIdeal.defs₀
  refine congrArg Defs.onTc (funext fun ℓ => funext fun x => ?_)
  match ℓ, x with
  | 0, (t, s) => rfl

attribute [local instance] Cert.InKernel.Gen.facts Cert.InKernelIdeal.Gen.facts in
/-- So they have the same table of bodies. -/
theorem tables_eq : InKernel.defs (F := Bits) = InKernelIdeal.defs (F := Bits) :=
  congrArg (Pipeline.defs (InKernelIdeal.pcfgs (F := Bits))) bodies_eq

/-- The kernel on bits does too: its program is the same text. -/
theorem frame_bits : @quiescent_InKernel Cert.InKernel.Gen.facts := fun m g _ => by
  show θ_run (InKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_InReferenceIdeal Cert.InReferenceIdeal.Gen.facts := fun m g _ =>
  (θ_run _ _ _).mono (fun r h => ⟨fun c => (h c).2.2, sem_eq_zero_of_no_sems (by decide) r.2⟩) (Cert.InReferenceIdeal.Value.run (F := Ideal) m g)

end Cert.InGather

end
-- ==== Proof.Down.Names.lean ====
/-
The names the kernel of w_down uses for the gather: its arrays, its semaphores, the blocks it addresses and the devices it
sends to.
-/
module

public import proofs.«01_k».proof.Proof.Stages
public import proofs.«01_k».proof.Proof.Gen.DownKernelIdeal
public import proofs.«01_k».proof.Proof.Gen.DownKernelIdeal.Launch

@[expose] public section

noncomputable section

namespace Cert.DownGather

open Cert.DownKernelIdeal Cert.DownKernelIdeal.Gen Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The gather of the next w_down, fused into the product. -/
abbrev net : Net sig 704 2048 where
  src := Memref.whole main_arg2
  arr := Memref.whole main_v1_1
  sem := semOf
  sem_inj := semOf_inj
  squeezes := squeezes_S1x704x2048_S704x2048
  rows_pos := by decide
  cols_pos := by decide
  src_set := View.set_whole _
  arr_set := View.set_whole _

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem off1 (c : Dev nD) : k0_off1 c = ![c.val, 0, 0] := by revert c; decide
theorem off2 (c : Dev nD) : k0_off2 c = ![(out (4 : Fin 7).castSucc c).val, 0, 0] := by revert c; decide
theorem off3 (c : Dev nD) : k0_off3 c = ![(out (5 : Fin 7).castSucc c).val, 0, 0] := by revert c; decide
theorem off4 (c : Dev nD) : k0_off4 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

/-! ## The grid points at which the gather starts and at which it finishes -/

theorem starts (t : Fin cfg0.N) : k0_cond1 (grid0.coords t) = 1#1 ↔ t.val = 0 := by revert t; decide
theorem finishes (t : Fin cfg0.N) : k0_cond5 (grid0.coords t) = 1#1 ↔ ¬t.val + 1 < 32 := by revert t; decide

/-! ## The position of a grid point along the contracted axis -/

theorem opens (t : Fin cfg0.N) : Scalar.cmpi .ne (Scalar.extui (Scalar.cmpi .eq (BitVec.ofNat 32 (grid0.coords t 2).val) 0#32)) 0#32 = 1#1 ↔ t.val % 4 = 0 := by
  revert t; decide
theorem adds (t : Fin cfg0.N) : Scalar.cmpi .ne (Scalar.extui (Scalar.cmpi .sgt (BitVec.ofNat 32 (grid0.coords t 2).val) 0#32)) 0#32 = 1#1 ↔ ¬t.val % 4 = 0 := by
  revert t; decide
theorem closes (t : Fin cfg0.N) : k0_cond4 (grid0.coords t) = 1#1 ↔ t.val % 4 = 3 := by revert t; decide

end Cert.DownGather

end
-- ==== Proof.Down.Walk.lean ====
/-
One grid point of the kernel of w_down: what its body does to what a device holds.

At the first point the body starts the gather, at the last it finishes it. At every point it multiplies the two blocks it was
given into the accumulator: a new sum at the first point along the contracted axis, the sum so far at the others. At the last
point along that axis it stores the sum.
-/
module

public import proofs.«01_k».proof.Proof.Down.Names
public import proofs.«01_k».proof.Proof.Gen.DownKernelIdeal.Skeleton
public import proofs.«01_k».proof.Proof.Gen.DownKernelIdeal.Points

@[expose] public section

noncomputable section

namespace Cert.DownGather

open Cert.DownKernelIdeal Cert.DownKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

/-- The accumulator after grid point `n`, from the two blocks and what it held. -/
def summed (n : ℕ) (X0 : S1088x1408.Idx → Elt F .bf16) (X1 : S1408x1024.Idx → Elt F .bf16) (A : S1088x1024.Idx → Elt F .f32) : S1088x1024.Idx → Elt F .f32 :=
  if n % 4 = 0 then k0_pay2 X0 X1 else k0_pay3 X0 X1 A

/-- The output's buffer after grid point `n`: the sum at the last point along the contracted axis, otherwise what it was. -/
def stored (n : ℕ) (S X2 : S1088x1024.Idx → Elt F .f32) : S1088x1024.Idx → Elt F .f32 := if n % 4 = 3 then S else X2

set_option maxRecDepth 65536 in
/-- One grid point, whichever it is: the gather goes on, and the product's block is added up. -/
theorem walk (t : Fin cfg0.N) (c : Dev nD)
    (M0 : Memref sig .tc .vmem S1088x1408 .bf16) (hM0 : M0.IsWhole) (M1 : Memref sig .tc .vmem S1408x1024 .bf16) (hM1 : M1.IsWhole)
    (M2 : Memref sig .tc .vmem S1088x1024 .f32) (hM2 : M2.IsWhole)
    (X0 : S1088x1408.Idx → Elt F .bf16) (X1 : S1408x1024.Idx → Elt F .bf16) (X2 A : S1088x1024.Idx → Elt F .f32) (Q : PUnit → sProp 𝕄) :
    iprop(holds net m 32 t.val c ∗ owns (th c) M0 fullShare X0 ∗ owns (th c) M1 fullShare X1 ∗ owns (th c) M2 fullShare X2
        ∗ owns (th c) (Memref.whole cc0_scratch0) fullShare A
        ∗ ((holds net m 32 (t.val + 1) c ∗ owns (th c) M0 fullShare X0 ∗ owns (th c) M1 fullShare X1
              ∗ owns (th c) M2 fullShare (stored t.val (summed t.val X0 X1 A) X2)
              ∗ owns (th c) (Memref.whole cc0_scratch0) fullShare (summed t.val X0 X1 A)) -∗ Q ⟨⟩))
      ⊢ wp frame (wpE (defs₀ (F := F)) noVariants (th c) none) Set.univ
        (cc0_w_down_gather (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 32 := t.isLt
  simp only [cc0_w_down_gather_eq_skeleton, cc0_w_down_gather_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (gather_start net m (defs₀ (F := F)) noVariants c _ _ _ _ (dev1 c _) (dev2 c _) (dev3 c _) (dev4 c _) (off1 c) loc_sem
      (gone_sem 0 _) (come_sem 0 _) (gone_sem 1 _) (come_sem 1 _) (gone_sem 2 _) (come_sem 2 _) (gone_sem 3 _) (come_sem 3 _)) $$ Hm
    iexact Hk
  by_cases k0 : t.val % 4 = 0
  · have k3 : ¬t.val % 4 = 3 := by omega
    have h2 : ¬k0_cond5 (grid0.coords t) = 1#1 := fun h => by have := (finishes t).mp h; omega
    rw [holds_mid _ _ _ _ (Nat.succ_ne_zero _) (by omega)]
    simp only [dif_neg h2, dif_pos ((opens t).mpr k0), dif_neg (fun h => (adds t).mp h k0), dif_neg (fun h => k3 ((closes t).mp h)), summed, if_pos k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption
  by_cases k3 : t.val % 4 = 3
  · simp only [dif_neg (fun h => k0 ((opens t).mp h)), dif_pos ((adds t).mpr k0), dif_pos ((closes t).mpr k3), summed, if_neg k0, stored, if_pos k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    iapply (load_all (defs₀ (F := F)) noVariants c) $$ HA; iintro HA
    iapply (load_all (defs₀ (F := F)) noVariants c) $$ H2; iintro H2
    iapply (store_all (defs₀ (F := F)) noVariants c) $$ H2; iintro H2
    by_cases h2 : k0_cond5 (grid0.coords t) = 1#1
    · rw [holds_end _ _ _ _ (Nat.succ_ne_zero _) ((finishes t).mp h2)]
      simp only [dif_pos h2, Prog.bind_op, Prog.bind_ret]
      iapply (gather_finish net m (defs₀ (F := F)) noVariants rfl c _ _ _ (dev5 c _) (dev6 c _) (dev7 c _) (off2 c) (off3 c) (off4 c) loc_sem
        (gone_sem 0 _) (come_sem 0 _) (gone_sem 1 _) (come_sem 1 _) (gone_sem 2 _) (come_sem 2 _) (gone_sem 3 _) (come_sem 3 _)
        (gone_sem 4 _) (come_sem 4 _) (gone_sem 5 _) (come_sem 5 _) (gone_sem 6 _) (come_sem 6 _)) $$ Hm
      iintro Hm
      rw [wp_ret]; imodintro
      iapply Hk
      isplitl [Hm]; · iexact Hm
      isplitl [H0]; · iexact H0
      isplitl [H1]; · iexact H1
      isplitl [H2] <;> iassumption
    · rw [holds_mid _ _ _ _ (Nat.succ_ne_zero _) (not_not.mp fun h => h2 ((finishes t).mpr h))]
      simp only [dif_neg h2, Prog.bind_op, Prog.bind_ret]
      rw [wp_ret]; imodintro
      iapply Hk
      isplitl [Hm]; · iexact Hm
      isplitl [H0]; · iexact H0
      isplitl [H1]; · iexact H1
      isplitl [H2] <;> iassumption
  · have h2 : ¬k0_cond5 (grid0.coords t) = 1#1 := fun h => by have := (finishes t).mp h; omega
    rw [holds_mid _ _ _ _ (Nat.succ_ne_zero _) (by omega)]
    simp only [dif_neg h2, dif_neg (fun h => k0 ((opens t).mp h)), dif_pos ((adds t).mpr k0), dif_neg (fun h => k3 ((closes t).mp h)), summed, if_neg k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption

end Cert.DownGather

end
-- ==== Proof.Accum.lean ====
/-
An accumulator that is carried from grid point to grid point: what it holds, and what it ends in when each point along the
contracted axis adds its block's product.
-/
module

public import proofs.«01_k».proof.Proof.Access
public import Idealize.ShloMosaic.Lib.Pointwise

@[expose] public section

noncomputable section

namespace Cert.Gather

open Idealize.ShloMosaic Idealize.ShloMosaic.TcCoe
open Cert.Wires
open Idealize.SL Idealize.SL.RA Idealize.SL.BI
open Idealize.SL.BI.BIBase Idealize.SL.BI.Laws Idealize.SL.ProofMode Idealize.SL.Sem

set_option Elab.async false

/-- What is accumulated after grid point `n`, from what each point makes of what was there. -/
def running {C : Type} (f : ℕ → C → C) (A : C) : ℕ → C
  | 0 => f 0 A
  | n + 1 => f (n + 1) (running f A n)

/-- The first point makes the same of anything, and every later one goes on from what was accumulated. -/
theorem running_step {C : Type} (f : ℕ → C → C) (A : C) (h0 : ∀ X, f 0 X = f 0 A) (n : ℕ) (X : C) (hX : ∀ k, n = k + 1 → X = running f A k) :
    f n X = running f A n := by
  match n, hX with
  | 0, _ => exact h0 X
  | n + 1, hX => rw [hX n rfl]; rfl

/-- A new sum every `nk` points: what is accumulated is the sum since the last new one. -/
theorem running_sum {I : Type} {nk : ℕ} (hk : 0 < nk) (f : ℕ → (I → EReal) → I → EReal) (A : I → EReal) (P : ℕ → I → EReal)
    (h0 : ∀ n, n % nk = 0 → ∀ X x, f n X x = P n x) (h1 : ∀ n, ¬n % nk = 0 → ∀ X x, f n X x = X x + P n x) (q : ℕ) (x : I) :
    ∀ k, k < nk → running f A (nk * q + k) x = ∑ j ∈ Finset.range (k + 1), P (nk * q + j) x
  | 0, _ => by
    have h : (nk * q + 0) % nk = 0 := by rw [Nat.add_zero]; exact Nat.mul_mod_right _ _
    rw [Finset.sum_range_one]
    generalize nk * q + 0 = n at h ⊢
    match n, h with
    | 0, h => exact h0 _ h _ _
    | n + 1, h => exact h0 _ h _ _
  | k + 1, hlt => by
    have h : ¬(nk * q + k + 1) % nk = 0 := by
      rw [Nat.add_assoc, Nat.mul_add_mod, Nat.mod_eq_of_lt hlt]; exact Nat.succ_ne_zero _
    rw [Finset.sum_range_succ, ← running_sum hk f A P h0 h1 q x k (Nat.lt_of_succ_lt hlt)]
    exact h1 _ h _ _

/-- A sum taken block by block is the sum. -/
theorem sum_blocks {nk tk K : ℕ} (h : K = nk * tk) (G : Fin K → EReal) (Q : ℕ → EReal)
    (hQ : ∀ (j : Fin nk), Q j.val = ∑ k : Fin tk, G (Fin.cast h.symm (finProdFinEquiv (j, k)))) : ∑ j ∈ Finset.range nk, Q j = ∑ i, G i := by
  subst h
  rw [Finset.sum_range, ← Equiv.sum_comp finProdFinEquiv, Fintype.sum_prod_type]
  exact Finset.sum_congr rfl fun j _ => hQ j

/-! ## The accumulator's buffer -/

section Held

variable {sig : RefSig} {Val : EltTy → Type}
local notation "𝕄" => MT 8 τ₇ sig Unit Val ℕ (UU sig) ℕ
variable {cs : CoreSpace} {s : Shape} {e : EltTy} (M : Memref sig .tc cs s e)

/-- The accumulator before grid point `n`. -/
def carried (c : Fin 8) (f : ℕ → (s.Idx → Val e) → s.Idx → Val e) (A : s.Idx → Val e) (n : ℕ) : sProp 𝕄 :=
  iprop(∃ X, ⌜∀ k, n = k + 1 → X = running f A k⌝ ∗ owns (th c) M fullShare X)

theorem carried_start (h : M.view.set = Finset.univ) (c : Fin 8) (f : ℕ → (s.Idx → Val e) → s.Idx → Val e) (A : s.Idx → Val e) :
    iprop(∃ X : Buf Val (M.view.loc (th c)), M.view.loc (th c) ↦{fullShare} X) ⊢ (carried M c f A 0 : sProp 𝕄) := by
  unfold carried owns
  rw [h]
  iintro ⟨%X, H⟩
  iexists M.view.read Val X
  isplitr; · ipureintro; intro k h; exact absurd h (Nat.succ_ne_zero k).symm
  iexists X
  isplitr; · ipureintro; rfl
  iexact H

theorem carried_end (h : M.view.set = Finset.univ) (c : Fin 8) (f : ℕ → (s.Idx → Val e) → s.Idx → Val e) (A : s.Idx → Val e) (n : ℕ) :
    (carried M c f A n : sProp 𝕄) ⊢ iprop(∃ X : Buf Val (M.view.loc (th c)), M.view.loc (th c) ↦{fullShare} X) := by
  unfold carried owns
  rw [h]
  iintro ⟨%X, %hX, %Y, %hY, H⟩
  iexists Y
  iexact H

end Held

end Cert.Gather

end
-- ==== Proof.Down.Run.lean ====
/-
The run of the fused kernel on the eight devices, for any float values: what each device holds from grid point to grid
point, the launch, and the arrays at the end.
-/
module

public import proofs.«01_k».proof.Proof.Down.Walk
public import proofs.«01_k».proof.Proof.Begin
public import proofs.«01_k».proof.Proof.Accum
public import proofs.«01_k».proof.Proof.Gen.DownKernelIdeal.Frame

@[expose] public section

noncomputable section

namespace Cert.DownGather

open Cert.DownKernelIdeal Cert.DownKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- Grid point `n`. -/
def pt (n : ℕ) : Fin cfg0.N := ⟨n % 32, Nat.mod_lt _ (by decide)⟩
theorem pt_val (t : Fin cfg0.N) : pt t.val = t := Fin.ext (Nat.mod_eq_of_lt t.isLt)

/-- What grid point `n` makes of the accumulator. -/
def step (c : Dev nD) (n : ℕ) (A : S1088x1024.Idx → Elt F .f32) : S1088x1024.Idx → Elt F .f32 :=
  summed n (iblk m c 0 (pt n)) (iblk m c 1 (pt n)) A

/-- What the accumulator starts from: anything would do. -/
def blank (c : Dev nD) : S1088x1024.Idx → Elt F .f32 := k0_pay2 (iblk m c 0 (pt 0)) (iblk m c 1 (pt 0))

/-- The accumulator after grid point `n`. -/
def total (c : Dev nD) (n : ℕ) : S1088x1024.Idx → Elt F .f32 := running (step m c) (blank m c) n

theorem total_step (c : Dev nD) (t : Fin cfg0.N) (A : S1088x1024.Idx → Elt F .f32) (hA : ∀ k, t.val = k + 1 → A = running (step m c) (blank m c) k) :
    summed t.val (iblk m c 0 t) (iblk m c 1 t) A = total m c t.val := by
  have h := running_step (step m c) (blank m c) (fun _ => rfl) t.val A hA
  unfold step at h
  rw [pt_val] at h
  exact h

/-- What device `c` holds before grid point `n`: its part of the gather, and the accumulator. -/
def phi (n : ℕ) (c : Dev nD) : sProp 𝕄 :=
  iprop(stateAt net m 32 n c ∗ carried (Memref.whole cc0_scratch0) c (step m c) (blank m c) n)

/-- The proof data: the inputs' blocks stay, the output's block is the sum so far. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => total m c t.val
  Φ t := phi m t.val c
  q _ := fullShare
  owed t := dues net.wires (owedAt 32 t.val) c

/-- What the body leaves in the output's buffer: the sum at the last point along the contracted axis, and what was there at
    the others. -/
def leaves (c : Dev nD) (t : Fin cfg0.N) : sProp 𝕄 :=
  if t.val % 4 = 3 then owns (th c) (st0_2 t) fullShare (total m c t.val)
  else iprop(∃ d, owns (th c) (st0_2 t) fullShare ((dats m 0 c).before 2 t d))

theorem leaves_stored (c : Dev nD) (t : Fin cfg0.N) (d) :
    (owns (th c) (st0_2 t) fullShare (stored t.val (total m c t.val) ((dats m 0 c).before 2 t d)) : sProp 𝕄) ⊢ leaves m c t := by
  unfold leaves stored
  split
  · exact .rfl
  · iintro H; iexists d; iexact H

/-- The body at each grid point. -/
theorem body (c : Dev nD) (t : Fin cfg0.N) :
    iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t) ∗ leaves m c t) := by
  unfold phi carried
  iintro ⟨⟨Hs, %A, %hA, HA⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2) A)
  rw [total_step m c t A hA]
  unfold holds holding
  isplitl [Hs HO]
  · isplitl [Hs]; · iexact Hs
    iexact HO
  isplitl [H0]; · iexact H0
  isplitl [H1]; · iexact H1
  isplitl [H2]; · iexact H2
  isplitl [HA]; · iexact HA
  iintro ⟨⟨Hs, HO⟩, H0, H1, H2, HA⟩
  isplitl [Hs HA]
  · isplitl [Hs]; · iexact Hs
    iexists (total m c t.val)
    isplitr; · ipureintro; intro k hk; rw [Nat.succ.inj hk]; rfl
    iexact HA
  isplitl [HO]; · iapply (at_owes (dats m 0 c) t.succ fun _ => trivial); iexact HO
  isplitl [H0]; · iexact H0
  isplitl [H1]; · iexact H1
  iapply (leaves_stored m c t d2)
  iexact H2

theorem leaves_exact (c : Dev nD) (t : Fin cfg0.N) : leaves m c t ⊢ ((dats m 0 c).leavesExact 2 t : sProp 𝕄) := by
  unfold leaves Dat.leavesExact
  by_cases k3 : t.val % 4 = 3
  · have hi : cfg0.idle 2 (cfg0.grid.coords t) = false := by
      show (!(k0_cond4 (grid0.coords t) == 1#1)) = false
      rw [(closes t).mpr k3]; rfl
    rw [if_pos k3, hi]
    exact .rfl
  · have hi : cfg0.idle 2 (cfg0.grid.coords t) = true := by
      show (!(k0_cond4 (grid0.coords t) == 1#1)) = true
      rw [beq_eq_false_iff_ne.mpr fun e => k3 ((closes t).mp e)]; rfl
    have hf : (cfg0.win 2).flush t = false := Bool.eq_false_iff.mpr fun e => k3 ((flush0_2 t).mp e)
    rw [if_neg k3, hi, hf]

theorem body_obligation (c : Dev nD) : BodyObligation (dats m 0 c) (defs₀ (F := F)) noVariants () Set.univ := fun t => by
  rw [bigSep_W0]
  refine (body m c t).trans (wp_mono _ _ _ fun _ => sep_mono .rfl (sep_mono .rfl ?_))
  show _ ⊢ bigSep Finset.univ fun w : Fin 3 => (dats m 0 c).leavesExact w t
  rw [bigSep_W0]
  exact sep_mono .rfl (sep_mono .rfl (leaves_exact m c t))

/-! ## The launch -/

theorem phi_start (c : Dev nD) : iprop(before net m c ∗ Pipeline.scopedRest spec0 c) ⊢ (phi m 0 c : sProp 𝕄) := by
  rw [scopedRest0_eq]; unfold phi
  rw [show stateAt net m 32 0 c = before net m c from if_pos rfl]
  iintro ⟨H, Hr⟩
  isplitl [H]; · iexact H
  iapply (carried_start (Memref.whole cc0_scratch0) (View.set_whole _) c)
  iexact Hr

theorem phi_end (c : Dev nD) : (phi m 32 c : sProp 𝕄) ⊢ iprop(endOf net m c
    ∗ zeros (Elt F) net.wires c ∗ Pipeline.scopedRest spec0 c) := by
  rw [scopedRest0_eq]; unfold phi
  rw [show stateAt net m 32 32 c = after net m c from (if_neg (by decide)).trans (if_neg (by decide))]
  iintro ⟨H, Hr⟩
  ihave H := (after_end net m c) $$ H
  icases H with ⟨H, Hz⟩
  isplitl [H]; · iexact H
  isplitl [Hz]; · iexact Hz
  iapply (carried_end (Memref.whole cc0_scratch0) (View.set_whole _) c)
  iexact Hr

/-- What the run says: on every device the inputs are unchanged, the product's array holds the sums stored, each
    block of the gathered array is its device's shard; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ j : Fin 8, (net.blk j).view.read (Elt F) (r.2.mem ((c : Thread nD τ).loc main_v1_1)) = shard net m j)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_gather net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.DownGather

end
-- ==== Proof.Down.Product.lean ====
/-
The array the product of w_down ends in, over the extended reals: the rows of the activations times the weights, the four
partial sums along the contracted axis added up.
-/
module

public import proofs.«01_k».proof.Proof.Down.Run
public import proofs.«01_k».proof.Proof.Rows
public import Idealize.ShloMosaic.Lib.Pipeline.ValueKit

@[expose] public section

noncomputable section

namespace Cert.DownGather

open Cert.DownKernelIdeal Cert.DownKernelIdeal.Gen Cert.Gather Cert.Wires
open Idealize.ShloMosaic Idealize.ShloMosaic.TcCoe

/-- The product of two blocks, at an index. -/
def part (X : S1088x1408.Idx → EReal) (W : S1408x1024.Idx → EReal) (y : S1088x1024.Idx) : EReal :=
  ∑ k : Fin 1408, X (ix2 (y 0) k) * W (ix2 k (y 1))

theorem first_apply (X : S1088x1408.Idx → EReal) (W : S1408x1024.Idx → EReal) (y : S1088x1024.Idx) :
    k0_pay2 (F := Ideal) X W y = part X W y := by
  pointwise [k0_pay2, k0_pay1, part]

theorem next_apply (X : S1088x1408.Idx → EReal) (W : S1408x1024.Idx → EReal) (A : S1088x1024.Idx → EReal) (y : S1088x1024.Idx) :
    k0_pay3 (F := Ideal) X W A y = A y + part X W y := by
  pointwise [k0_pay3, k0_pay1, part]

variable (m : (ℓ : Loc nD τ sig) → Buf (Elt Ideal) ℓ)

theorem index0 : ∀ t : Fin cfg0.N, win0_0.index t = ![t.val / 8, t.val % 4] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)

/-- The accumulator at the last point along the contracted axis is the sum of the four partial products. -/
theorem total_sum (c : Dev nD) (q : ℕ) (y : S1088x1024.Idx) :
    total (F := Ideal) m c (4 * q + 3) y = ∑ j ∈ Finset.range 4, part (iblk m c 0 (pt (4 * q + j))) (iblk m c 1 (pt (4 * q + j))) y :=
  running_sum (by decide) (step m c) (blank m c) (fun n => part (iblk m c 0 (pt n)) (iblk m c 1 (pt n)))
    (fun n h X x => by
      show summed (F := Ideal) n _ _ X x = _
      rw [show summed (F := Ideal) n (iblk m c 0 (pt n)) (iblk m c 1 (pt n)) X = k0_pay2 (iblk m c 0 (pt n)) (iblk m c 1 (pt n)) from if_pos h]; exact first_apply _ _ _)
    (fun n h X x => by
      show summed (F := Ideal) n _ _ X x = _
      rw [show summed (F := Ideal) n (iblk m c 0 (pt n)) (iblk m c 1 (pt n)) X = k0_pay3 (iblk m c 0 (pt n)) (iblk m c 1 (pt n)) X from if_neg h]; exact next_apply _ _ _ _)
    q y 3 (by decide)

set_option maxHeartbeats 1000000 in
/-- The product's array after the last grid point. -/
theorem product_array (c : Dev nD) : (dats m 0 c).arrAt 2 cfg0.N
    = fun j : S4352x2048.Idx => rowTimes (m ((c : Thread nD τ).loc main_arg0)) (m ((c : Thread nD τ).loc main_arg1)) (j 0) (j 1) := by
  refine (dats m 0 c).arrAt_eq_of_covers 2 _ (by decide +kernel) fun t hf y => ?_
  have k3 : t.val % 4 = 3 := (flush0_2 t).mp hf
  blk_simp
  show total m c t.val y = _
  rw [show t.val = 4 * (t.val / 4) + 3 by omega, total_sum]
  unfold rowTimes
  refine sum_blocks (tk := 1408) rfl _ _ fun j => Finset.sum_congr rfl fun k _ => ?_
  have hs : (pt (4 * (t.val / 4) + j.val)).val = 4 * (t.val / 4) + j.val := Nat.mod_eq_of_lt (by have h : t.val < 32 := t.isLt; have := j.isLt; show 4 * (t.val / 4) + j.val < 32; omega)
  generalize pt (4 * (t.val / 4) + j.val) = s at hs ⊢
  blk_point [iblk, V, index0 s, index1 s, index2 t]
  all_goals
    show s.val % 4 * 1408 + k.val = k.val + 1408 * j.val
    omega

end Cert.DownGather

end
-- ==== Proof.Down.Reference.lean ====
/-
The two results of the reference of w_down at an index, over the extended reals.
-/
module

public import proofs.«01_k».proof.Proof.Rows
public import proofs.«01_k».proof.Proof.Gen.DownReferenceIdeal.Run

@[expose] public section

noncomputable section

namespace Cert.DownGather.Reference

open Cert.DownReferenceIdeal Cert.DownReferenceIdeal.Gen Cert.Gather
open Idealize.ShloMosaic Idealize.ShloMosaic.TcCoe Idealize.SL.Sem

variable (m : (ℓ : Loc nD τ sig) → Buf (Elt Ideal) ℓ)

/-- The product of the reference. -/
def product : S34816x2048.Idx → EReal := fun j => rowTimes (m ((0 : Dev nD).tc.loc main_arg0)) (m ((0 : Dev nD).tc.loc main_arg1)) (j 0) (j 1)
/-- The gathered array of the reference: the next weights cut into eight blocks of rows. -/
def gathered : S8x704x2048.Idx → EReal := byRows (R := 704) (n := 5632) rfl (m ((0 : Dev nD).tc.loc main_arg2))

set_option maxHeartbeats 1000000 in
/-- The reference's first result at an index. -/
theorem product_eq (a : S34816x5632.Idx → EReal) (w : S5632x2048.Idx → EReal) (j : S34816x2048.Idx) :
    Host.dotGeneral dot_S34816x5632_S5632x2048_S34816x2048_1_0_0_1_n_n none (extf (F := Ideal) (φ := .bf16) .f32 a bitsLt_bf16_f32) (extf (F := Ideal) (φ := .bf16) .f32 w bitsLt_bf16_f32) j
      = rowTimes a w (j 0) (j 1) := by
  pointwise [rowTimes]

set_option maxHeartbeats 1000000 in
/-- The reference's second result at an index. -/
theorem gathered_eq (w : S5632x2048.Idx → EReal) (j : S8x704x2048.Idx) :
    shapeCast S8x704x2048 w shapeCasts_S5632x2048_S8x704x2048 j = byRows (R := 704) (n := 5632) rfl w j := by
  pointwise [byRows]

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v2) = product m
    ∧ r.2.mem ((0 : Dev nD).tc.loc main_v3) = gathered m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (funext fun j => gathered_eq _ j), (h 0).2.2⟩)
    (Cert.DownReferenceIdeal.Value.run (F := Ideal) m ρ)

end Cert.DownGather.Reference

end
-- ==== Proof.Down.Agree.lean ====
/-
The kernel of w_down against its reference: each device ends with its rows of the reference's product and with the
whole of the reference's gathered array.
-/
module

public import proofs.«01_k».proof.Defs
public import proofs.«01_k».proof.Proof.Down.Product
public import proofs.«01_k».proof.Proof.Down.Reference
public import proofs.«01_k».proof.Proof.Gen.DownKernel

@[expose] public section

noncomputable section

namespace Cert.DownGather

open Cert.Gather Idealize.ShloMosaic Idealize.ShloMosaic.TcCoe Idealize.SL.Sem

theorem algebraic : @algebraic_DownKernelIdeal_DownReferenceIdeal Cert.DownKernelIdeal.Gen.facts Cert.DownReferenceIdeal.Gen.facts := by
  intro m g m' g' _ hin
  refine ⟨Reference.product m', Reference.gathered m', ?_, Reference.run m' g'⟩
  refine (θ_run _ _ _).mono (fun r h c => ?_) (run_main (F := Ideal) m g)
  obtain ⟨a0, a1, a2, hp, hg⟩ := h.1 c
  refine ⟨?_, byRows_of_blocks net rfl _ (by decide) _ (fun d => (hin d).2.2) _ hg _ fun _ => rfl, a0, a1, a2⟩
  rw [hp, product_array, (hin c).1, (hin c).2.1]
  exact rows_times c _ _ (by decide) (by decide)

/-- The kernel over the extended reals terminates with its arguments unchanged and every counter at zero. -/
theorem frame_ideal : @quiescent_DownKernelIdeal Cert.DownKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.DownKernel.Gen.facts Cert.DownKernelIdeal.Gen.facts in
/-- The two printed programs have the same kernel body. -/
theorem bodies_eq : DownKernel.defs₀ (F := Bits) = DownKernelIdeal.defs₀ (F := Bits) := by
  unfold DownKernel.defs₀ DownKernelIdeal.defs₀
  refine congrArg Defs.onTc (funext fun ℓ => funext fun x => ?_)
  match ℓ, x with
  | 0, (t, s) => rfl

attribute [local instance] Cert.DownKernel.Gen.facts Cert.DownKernelIdeal.Gen.facts in
/-- So they have the same table of bodies. -/
theorem tables_eq : DownKernel.defs (F := Bits) = DownKernelIdeal.defs (F := Bits) :=
  congrArg (Pipeline.defs (DownKernelIdeal.pcfgs (F := Bits))) bodies_eq

/-- The kernel on bits does too: its program is the same text. -/
theorem frame_bits : @quiescent_DownKernel Cert.DownKernel.Gen.facts := fun m g _ => by
  show θ_run (DownKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_DownReferenceIdeal Cert.DownReferenceIdeal.Gen.facts := fun m g _ =>
  (θ_run _ _ _).mono (fun r h => ⟨fun c => (h c).2.2, sem_eq_zero_of_no_sems (by decide) r.2⟩) (Cert.DownReferenceIdeal.Value.run (F := Ideal) m g)

end Cert.DownGather

end
-- ==== Proof.Pieces.lean ====
/-
An array of eight slabs, and in each slab the same rows: the eight pieces those rows are. The array held whole is its
eight pieces and what lies outside them, and the pieces may be held, filled and joined one by one.
-/
module

public import proofs.«01_k».proof.Proof.Net
public import Idealize.ShloMosaic.Lib.Pipeline.Kit
public import Idealize.ShloMosaic.Lib.Pointwise

@[expose] public section

noncomputable section

namespace Cert.Scatter

open Idealize.ShloMosaic Idealize.ShloMosaic.TcCoe
open Cert.Wires Cert.Gather
open Idealize.SL Idealize.SL.RA Idealize.SL.BI
open Idealize.SL.BI.BIBase Idealize.SL.BI.Laws Idealize.SL.ProofMode Idealize.SL.Sem

set_option Elab.async false

/-- Eight slabs of `P` rows, of which `R` rows count from row `first` on. -/
structure Stack (sig : RefSig) (P R C : Nat) where
  arr : Memref sig .tc .hbm (OutS P C) .bf16
  /-- The first row that counts. -/
  first : ℕ
  fits : first + R ≤ P
  squeezes : (OneS R C).Squeezes (BlkS R C)
  arr_set : arr.view.set = Finset.univ

variable {sig : RefSig} {P R C : Nat} (st : Stack sig P R C) {Val : EltTy → Type}
local notation "𝕄" => MT 8 τ₇ sig Unit Val ℕ (UU sig) ℕ

/-- Where a piece fits. -/
abbrev Within (P R C : Nat) (off : Fin 3 → Nat) : Prop := ∀ a, off a + (OneS R C).size a ≤ (OutS P C).size a

namespace Stack

theorem inb (j : Fin 8) : Within P R C ![j.val, st.first, 0] := by
  have := j.isLt
  intro a; fin_cases a
  · show j.val + 1 ≤ 8; omega
  · show st.first + R ≤ P; exact st.fits
  · show 0 + C ≤ C; omega

/-- The piece at offset `off`. -/
abbrev pieceAt (off : Fin 3 → Nat) (h : Within P R C off) : Memref sig .tc .hbm (BlkS R C) .bf16 :=
  (st.arr.slice (Rect.unit (s := OutS P C) off (OneS R C).size h) (fun _ => rfl)).squeeze (BlkS R C) st.squeezes

/-- Piece `j`. -/
abbrev piece (j : Fin 8) : Memref sig .tc .hbm (BlkS R C) .bf16 := st.pieceAt ![j.val, st.first, 0] (st.inb j)

theorem piece_set (j : Fin 8) : (st.piece j).view.set
    = (Rect.unit (s := OutS P C) ![j.val, st.first, 0] (OneS R C).size (st.inb j)).set.map st.arr.view.emb :=
  (View.set_reshape _ _).trans (View.set_slice _ _)

/-- The elements of piece `j`. -/
def pieceSet (j : Fin 8) : Finset st.arr.view.ty.Idx := (st.piece j).view.set

/-- Two pieces share no element. -/
theorem piece_disjoint (i j : Fin 8) (h : i ≠ j) : Disjoint (st.pieceSet i) (st.pieceSet j) := by
  unfold pieceSet; rw [piece_set, piece_set, Finset.disjoint_map]
  refine Rect.unit_disjoint 0 ?_
  have hij : i.val ≠ j.val := fun e => h (Fin.ext e)
  show i.val + 1 ≤ j.val ∨ j.val + 1 ≤ i.val
  omega

/-- The elements of the eight pieces. -/
def pieces : Finset st.arr.view.ty.Idx := (Finset.univ : Finset (Fin 8)).biUnion st.pieceSet

theorem pieceSet_subset (j : Fin 8) : st.pieceSet j ⊆ st.pieces := Finset.subset_biUnion_of_mem st.pieceSet (Finset.mem_univ j)

/-- Piece `j` at row `k` and column `l` is the array at slab `j`, row `first + k` and column `l`. -/
theorem read_piece (j : Fin 8) (f : st.arr.view.ty.Contents Val) (k : Fin R) (l : Fin C) :
    (st.piece j).view.read Val f (ix2 k l)
      = st.arr.view.read Val f (ix3 j ⟨st.first + k.val, Nat.lt_of_lt_of_le (Nat.add_lt_add_left k.isLt _) st.fits⟩ l) := by
  have h1 : (st.piece j).view.read Val f (ix2 k l)
      = st.arr.view.read Val f ((Rect.unit (s := OutS P C) ![j.val, st.first, 0] (OneS R C).size (st.inb j)).emb (Shape.reshapeEquiv st.squeezes.numel_eq (ix2 k l))) := rfl
  have h2 : Shape.reshapeEquiv st.squeezes.numel_eq (ix2 k l) = (ix3 (0 : Fin 1) k l : (OneS R C).Idx) :=
    ((Shape.reshapeEquiv_cons_one st.squeezes.numel_eq (ix2 k l)).trans (by funext a; match a with | ⟨0, _⟩ => rfl | ⟨1, _⟩ => rfl | ⟨2, _⟩ => rfl))
  rw [h1, h2]
  congr 1
  funext a
  apply Fin.ext
  rw [Rect.emb_apply]
  match a with
  | ⟨0, _⟩ => show j.val + 1 * 0 = j.val; omega
  | ⟨1, _⟩ => show st.first + 1 * k.val = st.first + k.val; omega
  | ⟨2, _⟩ => show 0 + 1 * l.val = l.val; omega

end Stack

/-! ## The array held in pieces -/

/-- What lies outside the pieces, on device `d`. -/
def others (d : Fin 8) (f : Buf Val (st.arr.view.loc (th d))) : sProp 𝕄 :=
  st.arr.view.loc (th d) ↦[Finset.univ \ st.pieces]{fullShare} f
/-- Device `d`'s piece `j`, with the contents `f` has there. -/
def pieceOf (d j : Fin 8) (f : Buf Val (st.arr.view.loc (th d))) : sProp 𝕄 :=
  (st.piece j).view.loc (th d) ↦[(st.piece j).view.set]{fullShare} f
variable (Val) in
/-- Device `d`'s piece `j` at some contents. -/
def room (d j : Fin 8) : sProp 𝕄 := iprop(∃ f, pieceOf st d j f)

/-- The array whole is its pieces and the rest. -/
theorem whole_pieces (d : Fin 8) (f : Buf Val (st.arr.view.loc (th d))) :
    (st.arr.view.loc (th d) ↦{fullShare} f : sProp 𝕄) ⊣⊢ iprop((bigSep Finset.univ fun j : Fin 8 => pieceOf st d j f) ∗ others st d f) := by
  have e : (bigSep Finset.univ fun j : Fin 8 => (pieceOf st d j f : sProp 𝕄)) = (st.arr.view.loc (th d) ↦[st.pieces]{fullShare} f) :=
    (pointsTo_biUnion (ℓ := st.arr.view.loc (th d)) (q := fullShare) (f := f) Finset.univ st.pieceSet (fun i _ j _ h => st.piece_disjoint i j h)).symm
  rw [e]
  exact pointsTo_split_subset (Finset.subset_univ _)

theorem whole_rooms (d : Fin 8) (f : Buf Val (st.arr.view.loc (th d))) :
    (st.arr.view.loc (th d) ↦{fullShare} f : sProp 𝕄) ⊢ iprop((bigSep Finset.univ fun j : Fin 8 => room st Val d j) ∗ others st d f) :=
  (whole_pieces st d f).1.trans (sep_mono (bigSep_mono fun j _ => by
    show pieceOf st d j f ⊢ iprop(∃ f, pieceOf st d j f)
    iintro H; iexists f; iexact H) .rfl)

/-- Pieces that hold `X`, joined with the rest. -/
theorem joined (d : Fin 8) (X : Fin 8 → (BlkS R C).Idx → Val .bf16) (f₀ : Buf Val (st.arr.view.loc (th d))) :
    iprop((bigSep Finset.univ fun j : Fin 8 => owns (th d) (st.piece j) fullShare (X j)) ∗ others st d f₀)
      ⊢ (iprop(∃ g : Buf Val (st.arr.view.loc (th d)), ⌜∀ j, (st.piece j).view.read Val g = X j⌝ ∗ st.arr.view.loc (th d) ↦{fullShare} g) : sProp 𝕄) := by
  have h0 : (bigSep Finset.univ fun j : Fin 8 => (owns (th d) (st.piece j) fullShare (X j) : sProp 𝕄))
      ⊢ bigSep Finset.univ fun j : Fin 8 => iprop(∃ f : {f : Buf Val (st.arr.view.loc (th d)) // (st.piece j).view.read Val f = X j},
          st.arr.view.loc (th d) ↦[st.pieceSet j]{fullShare} f.1) :=
    bigSep_mono fun j _ => by
      show owns (th d) (st.piece j) fullShare (X j) ⊢ iprop(∃ f : {f : Buf Val (st.arr.view.loc (th d)) // (st.piece j).view.read Val f = X j},
          st.arr.view.loc (th d) ↦[st.pieceSet j]{fullShare} f.1)
      unfold owns
      iintro ⟨%f, %hf, H⟩
      iexists ⟨f, hf⟩; iexact H
  by_cases hne : ∀ j, Nonempty {f : Buf Val (st.arr.view.loc (th d)) // (st.piece j).view.read Val f = X j}
  · have h1 := h0.trans (BI.bigSep_exists_pi Finset.univ (fun (j : Fin 8) (f : {f : Buf Val (st.arr.view.loc (th d)) // (st.piece j).view.read Val f = X j}) =>
      (st.arr.view.loc (th d) ↦[st.pieceSet j]{fullShare} f.1 : sProp 𝕄)))
    iintro ⟨H, Ho⟩
    ihave H := h1 $$ H
    icases H with ⟨%fs, H⟩
    ihave H := (pointsTo_biUnion_join Finset.univ st.pieceSet (fun j => (fs j).1) (fs 0).1 (fun i _ j _ h => st.piece_disjoint i j h)) $$ H
    icases H with ⟨%g, %hg, H⟩
    iexists (st.pieces.piecewise g f₀)
    isplitr
    · ipureintro; intro j
      refine (View.read_congr fun i hi => ?_).trans (fs j).2
      rw [Finset.piecewise_eq_of_mem _ _ _ (st.pieceSet_subset j hi)]
      exact hg j (Finset.mem_univ j) i hi
    · iapply (pointsTo_join_subset (S := Finset.univ) (I := st.pieces) (Finset.subset_univ _))
      unfold others
      isplitl [H]
      · iexact H
      · iexact Ho
  · obtain ⟨j, hj⟩ := not_forall.mp hne
    refine (sep_mono (bigSep_elim (Φ := fun j : Fin 8 => (owns (th d) (st.piece j) fullShare (X j) : sProp 𝕄)) (Finset.mem_univ j)) .rfl).trans ?_
    unfold owns
    iintro ⟨⟨%f, %hf, H⟩, Ho⟩
    exact absurd ⟨⟨f, hf⟩⟩ hj

end Cert.Scatter

end
-- ==== Proof.Scatter.lean ====
/-
A scatter among eight devices, in one stage: the names and what each semaphore promises.

Device `c` holds eight pieces, one for each device, and an array of eight pieces for what it is sent. Copy `k` of device `c`
carries the piece of the device at `c` under the mask `k + 1` and fills that device's piece `k + 1`; the device's own piece
goes to its own piece 0. The semaphore that counts a copy gone hands back the piece it read, the one that counts it come hands
over the piece it filled.
-/
module

public import proofs.«01_k».proof.Proof.Pieces
public import proofs.«01_k».proof.Proof.Dealing

@[expose] public section

noncomputable section

namespace Cert.Scatter

open Idealize.ShloMosaic Idealize.ShloMosaic.TcCoe
open Idealize.ShloMosaic.Rounds
open Cert.Wires Cert.Gather
open Idealize.SL Idealize.SL.RA Idealize.SL.BI
open Idealize.SL.BI.BIBase Idealize.SL.BI.Laws Idealize.SL.ProofMode Idealize.SL.Sem

set_option Elab.async false

/-- The names one such scatter uses on every device: the pieces to be sent, the pieces received, and the semaphores. -/
structure Scat (sig : RefSig) (P R C : Nat) where
  src : Stack sig P R C
  dst : Stack sig R R C
  /-- The semaphore that counts copy `k` gone, the one that counts copy `k` come, and the own copy's. -/
  sem : CellId → DmaSem sig
  sem_inj : Function.Injective sem
  /-- What one copy counts. -/
  amount : ℕ
  amount_pos : 0 < amount
  src_amount : ∀ off h, (src.pieceAt off h).view.dmaCredit = amount
  dst_amount : ∀ off h, (dst.pieceAt off h).view.dmaCredit = amount

variable {sig : RefSig} {P R C : Nat} {Val : EltTy → Type} (net : Scat sig P R C)

/-- The scatter as an exchange: all copies arrive at once. -/
abbrev Scat.wires : Wires sig where
  sem := net.sem
  sem_inj := net.sem_inj
  mask k := k.succ
  tier _ := 1
  amount := net.amount
  amount_pos := net.amount_pos

local notation "𝕄" => MT 8 τ₇ sig Unit Val ℕ (UU sig) ℕ

variable (m : (ℓ : Loc 8 τ₇ sig) → Buf Val ℓ)

/-! ## What is held -/

/-- What device `p` has for device `q`. -/
def part (p q : Fin 8) : (BlkS R C).Idx → Val .bf16 := (net.src.piece q).view.read Val (m (net.src.arr.view.loc (th p)))
/-- Device `c`'s piece for device `q`, unchanged. -/
def mine (c q : Fin 8) : sProp 𝕄 := pieceOf net.src c q (m (net.src.arr.view.loc (th c)))
/-- Device `c`'s piece `j`, holding what device `p` had for it. -/
def filled (c j p : Fin 8) : sProp 𝕄 := owns (th c) (net.dst.piece j) fullShare (part net m p c)

/-- What semaphore `i` of device `c` hands over. -/
def pay (c : Fin 8) : CellId → sProp 𝕄
  | .inl k => mine net m c (net.wires.peer k c)
  | .inr (.inl k) => filled net m c k.succ (net.wires.peer k c)
  | .inr (.inr ()) => iprop(filled net m c 0 c ∗ mine net m c c)

theorem pay_gone (c : Fin 8) (k : Fin 7) : pay net m c (gone k) = mine net m c (net.wires.peer k c) := rfl
theorem pay_come (c : Fin 8) (k : Fin 7) : pay net m c (come k) = filled net m c k.succ (net.wires.peer k c) := rfl
theorem pay_loc (c : Fin 8) : pay net m c loc = iprop(filled net m c 0 c ∗ mine net m c c) := rfl

instance mine_storable (c q : Fin 8) : BI.Storable (upEmb : UEmb _ 𝕄) (mine net m c q) := by unfold mine pieceOf; infer_instance
instance filled_storable (c j p : Fin 8) : BI.Storable (upEmb : UEmb _ 𝕄) (filled net m c j p) := by unfold filled; infer_instance
instance pay_payable : Payable (pay net m) := ⟨fun c i => by
  rcases i with k | k | ⟨⟩
  · rw [pay_gone]; infer_instance
  · rw [pay_come]; infer_instance
  · rw [pay_loc]; infer_instance⟩

/-- The arrivals lie above everything else. -/
theorem level_come (k : Fin 7) : level net.wires (.dma (net.sem (come k))) = 1 := level_arrival net.wires k

/-! ## One copy, from the launch to its arrival -/

/-- Copy `k` of device `c` before it is sent, with the right to wait for what the peer sends. -/
def unsent (c : Fin 8) (k : Fin 7) : sProp 𝕄 :=
  iprop(ticket Val net.wires k c ∗ room net.dst Val (net.wires.peer k c) k.succ ∗ mine net m c (net.wires.peer k c)
    ∗ fresh Val net.wires c (gone k) ∗ await Val net.wires c (come k))
variable (Val) in
/-- Copy `k` on its way. -/
def flying (c : Fin 8) (k : Fin 7) : sProp 𝕄 := iprop(await Val net.wires c (gone k) ∗ await Val net.wires c (come k))
/-- Copy `k` gone, and the peer's come. -/
def landed (c : Fin 8) (k : Fin 7) : sProp 𝕄 :=
  iprop((mine net m c (net.wires.peer k c) ∗ done Val net.wires c (gone k)) ∗ (filled net m c k.succ (net.wires.peer k c) ∗ done Val net.wires c (come k)))

/-- The copies before copy `n` are at `Ψ`, the others still at `Φ`. -/
def mixed (Φ Ψ : Fin 7 → sProp 𝕄) (n : ℕ) : sProp 𝕄 := bigSep Finset.univ fun k : Fin 7 => if k.val < n then Ψ k else Φ k

theorem mixed_first (Φ Ψ : Fin 7 → sProp 𝕄) : mixed Φ Ψ 0 = bigSep Finset.univ Φ :=
  bigSep_congr fun k _ => if_neg (Nat.not_lt_zero _)
theorem mixed_last (Φ Ψ : Fin 7 → sProp 𝕄) : mixed Φ Ψ 7 = bigSep Finset.univ Ψ :=
  bigSep_congr fun k _ => if_pos k.isLt

/-- The next copy is taken out at `Φ` and put back at `Ψ`. -/
theorem mixed_next (Φ Ψ : Fin 7 → sProp 𝕄) (k : Fin 7) : mixed Φ Ψ k.val ⊢ iprop(Φ k ∗ (Ψ k -∗ mixed Φ Ψ (k.val + 1))) := by
  have hr : (bigSep (Finset.univ.erase k) fun j : Fin 7 => if j.val < k.val then Ψ j else Φ j)
      = bigSep (Finset.univ.erase k) fun j : Fin 7 => if j.val < k.val + 1 then Ψ j else Φ j :=
    bigSep_congr fun j hj => by
      have hne : j.val ≠ k.val := fun e => Finset.ne_of_mem_erase hj (Fin.ext e)
      by_cases h : j.val < k.val
      · rw [if_pos h, if_pos (by omega)]
      · rw [if_neg h, if_neg (by omega)]
  have h₁ : mixed Φ Ψ k.val = iprop(Φ k ∗ bigSep (Finset.univ.erase k) fun j : Fin 7 => if j.val < k.val + 1 then Ψ j else Φ j) := by
    unfold mixed
    rw [BI.bigSep_univ_split k, hr, if_neg (Nat.lt_irrefl _)]; rfl
  have h₂ : mixed Φ Ψ (k.val + 1) = iprop(Ψ k ∗ bigSep (Finset.univ.erase k) fun j : Fin 7 => if j.val < k.val + 1 then Ψ j else Φ j) := by
    unfold mixed
    rw [BI.bigSep_univ_split k, if_pos (Nat.lt_succ_self _)]; rfl
  rw [h₁, h₂]
  iintro ⟨H, Hr⟩
  isplitl [H]; · iexact H
  iintro Hk
  isplitl [Hk] <;> iassumption

/-! ## The stages -/

/-- Device `c` before the scatter. -/
def before (c : Fin 8) : sProp 𝕄 :=
  iprop(∃ K, records net.wires (pay net m) K ∗ levAts levIx (lev net.wires) ∗ (bigSep Finset.univ (unsent net m c))
    ∗ (dutyTok ER (cell net.wires (c, loc)) 0 () ∗ fresh Val net.wires c loc ∗ room net.dst Val c 0 ∗ mine net m c c)
    ∗ others net.src c (m (net.src.arr.view.loc (th c))) ∗ others net.dst c (m (net.dst.arr.view.loc (th c))))
/-- Device `c` when its own copy and the first `n` copies to peers are on their way, those of `l` owed. -/
def sending (c : Fin 8) (n : ℕ) (l : List (Fin 7)) : sProp 𝕄 :=
  iprop(∃ K, records net.wires (pay net m) K ∗ levAts levIx (lev net.wires) ∗ mixed (unsent net m c) (flying Val net c) n
    ∗ await Val net.wires c loc
    ∗ (others net.src c (m (net.src.arr.view.loc (th c))) ∗ others net.dst c (m (net.dst.arr.view.loc (th c))))
    ∗ owing Val c (dues net.wires l c))
/-- Device `c` while all copies are on their way. -/
def midway (c : Fin 8) : sProp 𝕄 :=
  iprop(∃ K, records net.wires (pay net m) K ∗ levAts levIx (lev net.wires) ∗ (bigSep Finset.univ (flying Val net c))
    ∗ await Val net.wires c loc
    ∗ others net.src c (m (net.src.arr.view.loc (th c))) ∗ others net.dst c (m (net.dst.arr.view.loc (th c))))
/-- Device `c` when the first `n` copies have gone and come. -/
def landing (c : Fin 8) (n : ℕ) : sProp 𝕄 :=
  iprop(∃ K, records net.wires (pay net m) K ∗ levAts levIx (lev net.wires) ∗ mixed (flying Val net c) (landed net m c) n
    ∗ await Val net.wires c loc
    ∗ (others net.src c (m (net.src.arr.view.loc (th c))) ∗ others net.dst c (m (net.dst.arr.view.loc (th c))))
    ∗ owing Val c (dues net.wires [] c))
/-- The pieces device `c` was sent: piece `k` holds what the device at `c` under the mask `k` had for it. -/
def gathered (c : Fin 8) : sProp 𝕄 :=
  iprop(∃ g : Buf Val (net.dst.arr.view.loc (th c)), ⌜∀ k, (net.dst.piece k).view.read Val g = part net m (c ^^^ k) c⌝ ∗ net.dst.arr.view.loc (th c) ↦{fullShare} g)
/-- What device `c` holds after its region. -/
def endOf (c : Fin 8) : sProp 𝕄 := iprop((net.src.arr.view.loc (th c) ↦{fullShare} m (net.src.arr.view.loc (th c))) ∗ gathered net m c)
/-- Device `c` after the scatter. -/
def after (c : Fin 8) : sProp 𝕄 :=
  iprop(endOf net m c ∗ Pipeline.ownSems0 (Ix := Unit) (Name := ℕ) (U := UU sig) (Lvl := ℕ) (Val := Val) (τ := τ₇) (osem net.wires) c)

theorem bigSep_first (Φ : Fin 8 → sProp 𝕄) : bigSep Finset.univ Φ = iprop(Φ 0 ∗ bigSep Finset.univ fun k : Fin 7 => Φ k.succ) := by
  rw [bigSep_eight, bigSep_seven]; rfl

theorem mask_zero (c : Fin 8) : c ^^^ 0 = c := by revert c; decide

/-- The devices at `c` under the eight masks are all devices. -/
def masks (c : Fin 8) : Fin 8 ≃ Fin 8 :=
  Equiv.ofBijective (fun k => c ^^^ k) (Finite.injective_iff_bijective.mp (by revert c; decide))
@[simp] theorem masks_apply (c k : Fin 8) : masks c k = c ^^^ k := rfl

/-- Device `c`'s pieces: its own, and the one each copy carries. -/
theorem mine_all (c : Fin 8) : (bigSep Finset.univ fun j : Fin 8 => mine net m c j)
    = iprop(mine net m c c ∗ bigSep Finset.univ fun k : Fin 7 => mine net m c (net.wires.peer k c)) := by
  rw [bigSep_univ_equiv (masks c), bigSep_first]
  show iprop(mine net m c (c ^^^ 0) ∗ bigSep Finset.univ fun k : Fin 7 => mine net m c (c ^^^ k.succ)) = _
  rw [mask_zero]

/-- The pieces device `c` read are handed back: its array is whole. -/
theorem whole_again (c : Fin 8) :
    iprop((mine net m c c ∗ bigSep Finset.univ fun k : Fin 7 => mine net m c (net.wires.peer k c)) ∗ others net.src c (m (net.src.arr.view.loc (th c))))
      ⊢ (net.src.arr.view.loc (th c) ↦{fullShare} m (net.src.arr.view.loc (th c)) : sProp 𝕄) := by
  rw [← mine_all]
  exact (whole_pieces net.src c (m (net.src.arr.view.loc (th c)))).2

/-- The pieces device `c` was sent, joined. -/
theorem gathered_of (c : Fin 8) :
    iprop((filled net m c 0 c ∗ bigSep Finset.univ fun k : Fin 7 => filled net m c k.succ (net.wires.peer k c)) ∗ others net.dst c (m (net.dst.arr.view.loc (th c))))
      ⊢ (gathered net m c : sProp 𝕄) := by
  have he : (bigSep Finset.univ fun k : Fin 8 => filled net m c k (c ^^^ k))
      = iprop(filled net m c 0 c ∗ bigSep Finset.univ fun k : Fin 7 => filled net m c k.succ (net.wires.peer k c)) := by
    rw [bigSep_first]
    show iprop(filled net m c 0 (c ^^^ 0) ∗ bigSep Finset.univ fun k : Fin 7 => filled net m c k.succ (c ^^^ k.succ)) = _
    rw [mask_zero]
  rw [← he]
  exact joined net.dst c (fun k => part net m (c ^^^ k) c) (m (net.dst.arr.view.loc (th c)))

/-! ## The steps -/

section Steps

variable {Λ : Labels} {α : Type} (defs : Defs 8 τ₇ sig Val Λ) (𝒱 : Variants)

theorem filled_written (c j p : Fin 8) (f : Buf Val (net.dst.arr.view.loc (th c))) :
    ((net.dst.piece j).view.loc (th c) ↦[(net.dst.piece j).view.set]{fullShare}
        ((net.dst.piece j).view.write Val f ((net.src.piece c).view.read Val (m (net.src.arr.view.loc (th p)))) Finset.univ) : sProp 𝕄) ⊢ filled net m c j p := by
  unfold filled owns
  iintro H; iexists _; isplitr
  rotate_left
  · iexact H
  · ipureintro; exact View.read_write_univ _ _

/-- The device's own copy. -/
theorem scatter_own (c : Fin 8)
    {off : Fin 3 → Nat} {h : Within P R C off} {h' : Within R R C ![0, 0, 0]} (hoff : off = ![c.val, net.src.first, 0]) (h0 : net.dst.first = 0)
    {sL : DmaSem sig} (hL : sL = net.sem loc)
    {h₁ : (net.src.pieceAt off h).view.WordExact} {h₂ : (net.dst.pieceAt ![0, 0, 0] h').view.WordExact}
    {h₃ : DmaTarget.Typed (nD := 8) (τ := τ₇) (p := .tc) .hbm (.dma sL) (.here (net.dst.pieceAt ![0, 0, 0] h'))}
    {Q : α → sProp 𝕄} {p : PUnit → Prog (TpuEff 8 τ₇ sig Val Λ .tc) α} :
    iprop(before net m c ∗ owing Val c (dues net.wires order c))
      ⊢ iprop((sending net m c 0 [0, 1, 2, 3, 4, 5, 6] -∗ wp frame (wpE defs 𝒱 (th c) none) Set.univ (p ⟨⟩) Q)
          -∗ wp frame (wpE defs 𝒱 (th c) none) Set.univ
            (.op (.enqueueDma (net.src.pieceAt off h) (.here (net.dst.pieceAt ![0, 0, 0] h')) (.dma sL) h₁ h₂ h₃) p) Q) := by
  subst hoff
  have e0 : net.dst.pieceAt ![0, 0, 0] h' = net.dst.piece 0 := by
    have : ∀ (off : Fin 3 → Nat) (h : Within R R C off) (e : off = ![0, net.dst.first, 0]), net.dst.pieceAt off h = net.dst.piece 0 := by
      intro off h e; subst e; rfl
    exact this _ _ (by rw [h0])
  revert h₂ h₃
  generalize net.dst.pieceAt ![0, 0, 0] h' = M at e0 ⊢
  subst e0
  intro h₂ h₃
  unfold before room mine
  iintro ⟨⟨%K, #Hrec, #Hlev, Hu, ⟨Ht, Hat, ⟨%f, Hd⟩, Hs⟩, Ho⟩, HO⟩ Hk
  unfold pieceOf
  iapply (wp_own net.wires (pay net m) defs 𝒱 K c (src := net.src.piece c) (dst := net.dst.piece 0) hL (net.dst_amount _ _)
    (q := fullShare) (fs := m (net.src.arr.view.loc (th c))) (fd := f)
    (BI.Entails.trans (sep_mono (filled_written net m c 0 c f) (Entails.of_eq rfl)) (Entails.of_eq (pay_loc net m c).symm))) $$ [Hs Hd Ht Hat]
  · isplitr; · iexact Hrec
    isplitl [Hs]; · iexact Hs
    isplitl [Hd]; · iexact Hd
    isplitl [Ht]; · iexact Ht
    iexact Hat
  iintro HL
  iapply Hk
  unfold sending
  iexists K
  isplitr; · iexact Hrec
  isplitr; · iexact Hlev
  isplitl [Hu]; · rw [mixed_first]; iexact Hu
  isplitl [HL]; · iexact HL
  isplitl [Ho]; · iexact Ho
  iexact HO

/-- A copy to a peer. -/
theorem scatter_send (k : Fin 7) (i : ℕ) (hi : k.val = i) (l : List (Fin 7)) (c n : Fin 8) (hn : n = net.wires.peer k c)
    {off off' : Fin 3 → Nat} {h : Within P R C off} {h' : Within R R C off'} (hoff : off = ![(net.wires.peer k c).val, net.src.first, 0])
    (hoff' : off' = ![k.succ.val, net.dst.first, 0])
    {sS sR : DmaSem sig} (hS : sS = net.sem (gone k)) (hR : sR = net.sem (come k))
    {hsc : (net.dst.pieceAt off' h').view.ref.isScScratch = false}
    {h₁ : (net.src.pieceAt off h).view.WordExact} {h₂ : (net.dst.pieceAt off' h').view.WordExact}
    {h₃ : DmaTarget.Typed .hbm (.dma sR) (.remote (th n) (net.dst.pieceAt off' h') (.dma sS) hsc)}
    {Q : α → sProp 𝕄} {p : PUnit → Prog (TpuEff 8 τ₇ sig Val Λ .tc) α} :
    (sending net m c i (k :: l))
      ⊢ iprop((sending net m c (i + 1) l -∗ wp frame (wpE defs 𝒱 (th c) none) Set.univ (p ⟨⟩) Q)
          -∗ wp frame (wpE defs 𝒱 (th c) none) Set.univ
            (.op (.enqueueDma (net.src.pieceAt off h) (.remote (th n) (net.dst.pieceAt off' h') (.dma sS) hsc) (.dma sR) h₁ h₂ h₃) p) Q) := by
  subst hn; subst hoff; subst hoff'; subst hi
  have hp : filled net m (net.wires.peer k c) k.succ c = pay net m (net.wires.peer k c) (come k) := by
    rw [pay_come, net.wires.peer_peer]
  unfold sending
  iintro ⟨%K, #Hrec, #Hlev, Hu, HL, Ho, HO⟩ Hk
  ihave Hu := (mixed_next (unsent net m c) (flying Val net c) k) $$ Hu
  icases Hu with ⟨Hu, Hr⟩
  unfold unsent room mine
  icases Hu with ⟨Ht, ⟨%f, Hd⟩, Hs, Hat, HC⟩
  unfold pieceOf
  iapply (wp_send net.wires (pay net m) defs 𝒱 K k c (net.wires.peer k c) rfl (src := net.src.piece (net.wires.peer k c)) (dst := net.dst.piece k.succ) hS hR (net.dst_amount _ _) l
    (q := fullShare) (fs := m (net.src.arr.view.loc (th c))) (fd := f)
    (Entails.of_eq rfl)
    (BI.Entails.trans (filled_written net m (net.wires.peer k c) k.succ c f) (Entails.of_eq hp))) $$ [Hs Hd Ht Hat HO]
  · isplitr; · iexact Hrec
    isplitl [Hs]; · iexact Hs
    isplitl [Hd]; · iexact Hd
    isplitl [Ht]; · iexact Ht
    isplitl [Hat]; · iexact Hat
    iexact HO
  iintro ⟨HA, HO⟩
  iapply Hk
  iexists K
  isplitr; · iexact Hrec
  isplitr; · iexact Hlev
  isplitl [HA HC Hr]
  · iapply Hr
    unfold flying
    isplitl [HA] <;> iassumption
  isplitl [HL]; · iexact HL
  isplitl [Ho]; · iexact Ho
  iexact HO

theorem sending_end (c : Fin 8) : (sending net m c 7 [] : sProp 𝕄) ⊢ iprop(midway net m c ∗ owing Val c (dues net.wires [] c)) := by
  unfold sending midway
  rw [mixed_last]
  iintro ⟨%K, Hrec, Hlev, Hu, HL, Ho, HO⟩
  isplitr [HO]
  · iexists K
    isplitl [Hrec]; · iexact Hrec
    isplitl [Hlev]; · iexact Hlev
    isplitl [Hu]; · iexact Hu
    isplitl [HL]; · iexact HL
    iexact Ho
  iexact HO

theorem landing_start (c : Fin 8) : iprop(midway net m c ∗ owing Val c (dues net.wires [] c)) ⊢ (landing net m c 0 : sProp 𝕄) := by
  unfold landing midway
  rw [mixed_first]
  iintro ⟨⟨%K, Hrec, Hlev, Hu, HL, Ho⟩, HO⟩
  iexists K
  isplitl [Hrec]; · iexact Hrec
  isplitl [Hlev]; · iexact Hlev
  isplitl [Hu]; · iexact Hu
  isplitl [HL]; · iexact HL
  isplitl [Ho]; · iexact Ho
  iexact HO

/-- The waits for a copy gone and for the peer's come. -/
theorem scatter_arrive (k : Fin 7) (i : ℕ) (hi : k.val = i) (c : Fin 8) {off off' : Fin 3 → Nat} {h : Within P R C off} {h' : Within R R C off'}
    {sS sR : DmaSem sig} (hS : sS = net.sem (gone k)) (hR : sR = net.sem (come k))
    {sp sp' : Space} {sh sh' : Shape} {e e' : EltTy} {x : Memref sig .tc sp sh e} {x' : Memref sig .tc sp' sh' e'}
    {h₁ : x.view.WordExact} {h₂ : (net.src.pieceAt off h).view.WordExact} {h₃ : x'.view.WordExact} {h₄ : (net.dst.pieceAt off' h').view.WordExact}
    {Q : α → sProp 𝕄} {p : PUnit → Prog (TpuEff 8 τ₇ sig Val Λ .tc) α} :
    (landing net m c i)
      ⊢ iprop((landing net m c (i + 1) -∗ wp frame (wpE defs 𝒱 (th c) none) Set.univ (p ⟨⟩) Q)
          -∗ wp frame (wpE defs 𝒱 (th c) none) Set.univ
            (.op (.waitDma2 sS x (net.src.pieceAt off h) h₁ h₂) fun _ => .op (.waitDma2 sR x' (net.dst.pieceAt off' h') h₃ h₄) p) Q) := by
  subst hi
  unfold landing
  iintro ⟨%K, #Hrec, #Hlev, Hu, HL, Ho, HO⟩ Hk
  ihave Hu := (mixed_next (flying Val net c) (landed net m c) k) $$ Hu
  icases Hu with ⟨Hu, Hr⟩
  unfold flying
  icases Hu with ⟨HG, HC⟩
  iapply (wp_arrive net.wires (pay net m) defs 𝒱 K c (gone k) (dst := net.src.pieceAt off h) hS (net.src_amount _ _) [] 1 (by rw [lev_gone]; decide) (by simp)) $$ [HG HO]
  · isplitr; · iexact Hrec
    isplitr; · iexact Hlev
    isplitl [HG] <;> iassumption
  iintro ⟨PG, HG, HO⟩
  iapply (wp_arrive net.wires (pay net m) defs 𝒱 K c (come k) (dst := net.dst.pieceAt off' h') hR (net.dst_amount _ _) [] 1 (level_come net k).le (by simp)) $$ [HC HO]
  · isplitr; · iexact Hrec
    isplitr; · iexact Hlev
    isplitl [HC] <;> iassumption
  iintro ⟨PC, HC, HO⟩
  ihave PG := (Entails.of_eq (pay_gone net m c k)) $$ PG
  ihave PC := (Entails.of_eq (pay_come net m c k)) $$ PC
  iapply Hk
  iexists K
  isplitr; · iexact Hrec
  isplitr; · iexact Hlev
  isplitl [PG HG PC HC Hr]
  · iapply Hr
    unfold landed
    isplitl [PG HG]
    · isplitl [PG] <;> iassumption
    isplitl [PC] <;> iassumption
  isplitl [HL]; · iexact HL
  isplitl [Ho]; · iexact Ho
  iexact HO

/-- The wait for the device's own copy, the last. -/
theorem scatter_close (c : Fin 8) {off : Fin 3 → Nat} {h : Within R R C off} {sL : DmaSem sig} (hL : sL = net.sem loc)
    {sp : Space} {sh : Shape} {e : EltTy} {x : Memref sig .tc sp sh e}
    {h₁ : x.view.WordExact} {h₂ : (net.dst.pieceAt off h).view.WordExact}
    {Q : α → sProp 𝕄} {p : PUnit → Prog (TpuEff 8 τ₇ sig Val Λ .tc) α} :
    (landing net m c 7)
      ⊢ iprop(((after net m c ∗ owing Val c (dues net.wires [] c)) -∗ wp frame (wpE defs 𝒱 (th c) none) Set.univ (p ⟨⟩) Q)
          -∗ wp frame (wpE defs 𝒱 (th c) none) Set.univ (.op (.waitDma2 sL x (net.dst.pieceAt off h) h₁ h₂) p) Q) := by
  unfold landing
  rw [mixed_last]
  iintro ⟨%K, #Hrec, #Hlev, Hu, HL, ⟨Hos, Hod⟩, HO⟩ Hk
  iapply (wp_arrive net.wires (pay net m) defs 𝒱 K c loc (dst := net.dst.pieceAt off h) hL (net.dst_amount _ _) [] 1 (by rw [lev_loc]; decide) (by simp)) $$ [HL HO]
  · isplitr; · iexact Hrec
    isplitr; · iexact Hlev
    isplitl [HL] <;> iassumption
  iintro ⟨PL, HL, HO⟩
  ihave PL := (Entails.of_eq (pay_loc net m c)) $$ PL
  icases PL with ⟨PF, PM⟩
  have hu : (bigSep Finset.univ (landed net m c) : sProp 𝕄)
      = iprop(((bigSep Finset.univ fun k : Fin 7 => mine net m c (net.wires.peer k c)) ∗ bigSep Finset.univ fun k : Fin 7 => done Val net.wires c (gone k))
        ∗ (bigSep Finset.univ fun k : Fin 7 => filled net m c k.succ (net.wires.peer k c)) ∗ bigSep Finset.univ fun k : Fin 7 => done Val net.wires c (come k)) := by
    rw [← bigSep_sep', ← bigSep_sep', ← bigSep_sep']; rfl
  ihave Hu := (Entails.of_eq hu) $$ Hu
  icases Hu with ⟨⟨HM, HG⟩, HF, HC⟩
  imod (close_all net.wires (pay net m) K c) $$ [HG HC HL] with Hz
  · isplitr; · iexact Hrec
    unfold past
    rw [bigSep_cells]
    isplitl [HG]; · iexact HG
    isplitl [HC] <;> iassumption
  iapply Hk
  unfold after endOf
  isplitr [HO]
  · isplitr [Hz]
    · isplitl [PM HM Hos]
      · iapply (whole_again net m c)
        isplitr [Hos]
        · isplitl [PM] <;> iassumption
        iexact Hos
      · iapply (gathered_of net m c)
        isplitr [Hod]
        · isplitl [PF] <;> iassumption
        iexact Hod
    iexact Hz
  iexact HO

end Steps

end Cert.Scatter

end
-- ==== Proof.ScatterStages.lean ====
/-
A scatter from the launch to the end of the region, for any kernel that starts it at its first grid point and waits for it at
its last.
-/
module

public import proofs.«01_k».proof.Proof.Scatter

@[expose] public section

noncomputable section

namespace Cert.Scatter

open Idealize.ShloMosaic Idealize.ShloMosaic.TcCoe
open Idealize.ShloMosaic.Rounds
open Cert.Wires Cert.Gather
open Idealize.SL Idealize.SL.RA Idealize.SL.BI
open Idealize.SL.BI.BIBase Idealize.SL.BI.Laws Idealize.SL.ProofMode Idealize.SL.Sem

set_option Elab.async false

variable {sig : RefSig} {P R C : Nat} {Val : EltTy → Type} (net : Scat sig P R C)
local notation "𝕄" => MT 8 τ₇ sig Unit Val ℕ (UU sig) ℕ
variable (m : (ℓ : Loc 8 τ₇ sig) → Buf Val ℓ)

/-! ## From grid point to grid point -/

section Points

variable (N : ℕ)

/-- What device `c` holds of the scatter before grid point `n` of `N`. -/
abbrev stateAt (n : ℕ) (c : Fin 8) : sProp 𝕄 := stageAt N (before net m) (midway net m) (after net m) n c
/-- The copies it still owes: after the first point, none. -/
abbrev owedAt (n : ℕ) : List (Fin 7) := leftAt N [] n
/-- The two together. -/
abbrev holds (n : ℕ) (c : Fin 8) : sProp 𝕄 := holding net.wires N [] (before net m) (midway net m) (after net m) n c

theorem holds_zero (c : Fin 8) : (holds net m N 0 c : sProp 𝕄) = iprop(before net m c ∗ owing Val c (dues net.wires order c)) := holding_zero ..
theorem holds_mid (n : ℕ) (h0 : n ≠ 0) (h : n < N) (c : Fin 8) :
    (holds net m N n c : sProp 𝕄) = iprop(midway net m c ∗ owing Val c (dues net.wires [] c)) := holding_mid _ _ _ _ _ _ n h0 h c
theorem holds_end (n : ℕ) (h0 : n ≠ 0) (h : ¬n < N) (c : Fin 8) :
    (holds net m N n c : sProp 𝕄) = iprop(after net m c ∗ owing Val c (dues net.wires [] c)) := holding_end _ _ _ _ _ _ n h0 h c

end Points

/-! ## The steps, all together -/

section Together

variable {Λ : Labels} {α : Type} (defs : Defs 8 τ₇ sig Val Λ) (𝒱 : Variants)

/-- A program that starts a copy of a piece of the device's own array to another device, and goes on. -/
abbrev sendThen {off off' : Fin 3 → Nat} (h : Within P R C off) (h' : Within R R C off') (n : Fin 8) (sS sR : DmaSem sig)
    (hsc : (net.dst.pieceAt off' h').view.ref.isScScratch = false)
    (h₁ : (net.src.pieceAt off h).view.WordExact) (h₂ : (net.dst.pieceAt off' h').view.WordExact)
    (h₃ : DmaTarget.Typed (p := .tc) .hbm (.dma sR) (.remote (th n) (net.dst.pieceAt off' h') (.dma sS) hsc))
    (p : Prog (TpuEff 8 τ₇ sig Val Λ .tc) α) : Prog (TpuEff 8 τ₇ sig Val Λ .tc) α :=
  .op (.enqueueDma (net.src.pieceAt off h) (.remote (th n) (net.dst.pieceAt off' h') (.dma sS) hsc) (.dma sR) h₁ h₂ h₃) fun _ => p

/-- A program that waits for a copy to have gone and for one to have come, and goes on. -/
abbrev arriveThen {off off' : Fin 3 → Nat} (h : Within P R C off) (h' : Within R R C off') (sS sR : DmaSem sig)
    {sp sp' : Space} {sh sh' : Shape} {e e' : EltTy} (x : Memref sig .tc sp sh e) (x' : Memref sig .tc sp' sh' e')
    (h₁ : x.view.WordExact) (h₂ : (net.src.pieceAt off h).view.WordExact) (h₃ : x'.view.WordExact) (h₄ : (net.dst.pieceAt off' h').view.WordExact)
    (p : Prog (TpuEff 8 τ₇ sig Val Λ .tc) α) : Prog (TpuEff 8 τ₇ sig Val Λ .tc) α :=
  .op (.waitDma2 sS x (net.src.pieceAt off h) h₁ h₂) fun _ => .op (.waitDma2 sR x' (net.dst.pieceAt off' h') h₃ h₄) fun _ => p

/-- The device's own copy and the seven to its peers, one after the other. -/
theorem scatter_start (c : Fin 8) (h0 : net.dst.first = 0) {p : Prog (TpuEff 8 τ₇ sig Val Λ .tc) α} {Q : α → sProp 𝕄}
    {off o0 o1 o2 o3 o4 o5 o6 : Fin 3 → Nat} {d0 d1 d2 d3 d4 d5 d6 : ℕ}
    (hoff : off = ![c.val, net.src.first, 0] ∧ o0 = ![(net.wires.peer 0 c).val, net.src.first, 0] ∧ o1 = ![(net.wires.peer 1 c).val, net.src.first, 0] ∧ o2 = ![(net.wires.peer 2 c).val, net.src.first, 0] ∧ o3 = ![(net.wires.peer 3 c).val, net.src.first, 0] ∧ o4 = ![(net.wires.peer 4 c).val, net.src.first, 0] ∧ o5 = ![(net.wires.peer 5 c).val, net.src.first, 0] ∧ o6 = ![(net.wires.peer 6 c).val, net.src.first, 0])
    (hdev : d0 = (net.wires.peer 0 c).val ∧ d1 = (net.wires.peer 1 c).val ∧ d2 = (net.wires.peer 2 c).val ∧ d3 = (net.wires.peer 3 c).val ∧ d4 = (net.wires.peer 4 c).val ∧ d5 = (net.wires.peer 5 c).val ∧ d6 = (net.wires.peer 6 c).val)
    {h : Within P R C off} {h' : Within R R C ![0, 0, 0]} {w0 : Within P R C o0} {w1 : Within P R C o1} {w2 : Within P R C o2} {w3 : Within P R C o3} {w4 : Within P R C o4} {w5 : Within P R C o5} {w6 : Within P R C o6}
    {v0 : Within R R C ![1, 0, 0]} {v1 : Within R R C ![2, 0, 0]} {v2 : Within R R C ![3, 0, 0]} {v3 : Within R R C ![4, 0, 0]} {v4 : Within R R C ![5, 0, 0]} {v5 : Within R R C ![6, 0, 0]} {v6 : Within R R C ![7, 0, 0]} {n0 : d0 < 8} {n1 : d1 < 8} {n2 : d2 < 8} {n3 : d3 < 8} {n4 : d4 < 8} {n5 : d5 < 8} {n6 : d6 < 8}
    {sL s0 s1 s2 s3 s4 s5 s6 r0 r1 r2 r3 r4 r5 r6 : DmaSem sig} (hL : sL = net.sem loc)
    (hS : s0 = net.sem (gone 0) ∧ s1 = net.sem (gone 1) ∧ s2 = net.sem (gone 2) ∧ s3 = net.sem (gone 3) ∧ s4 = net.sem (gone 4) ∧ s5 = net.sem (gone 5) ∧ s6 = net.sem (gone 6))
    (hR : r0 = net.sem (come 0) ∧ r1 = net.sem (come 1) ∧ r2 = net.sem (come 2) ∧ r3 = net.sem (come 3) ∧ r4 = net.sem (come 4) ∧ r5 = net.sem (come 5) ∧ r6 = net.sem (come 6))
    {a b e} {x0 a0 b0 e0} {x1 a1 b1 e1} {x2 a2 b2 e2} {x3 a3 b3 e3} {x4 a4 b4 e4} {x5 a5 b5 e5} {x6 a6 b6 e6} :
    iprop(before net m c ∗ owing Val c (dues net.wires order c))
      ⊢ iprop(((midway net m c ∗ owing Val c (dues net.wires [] c)) -∗ wp frame (wpE defs 𝒱 (th c) none) Set.univ p Q)
          -∗ wp frame (wpE defs 𝒱 (th c) none) Set.univ
            (.op (.enqueueDma (net.src.pieceAt off h) (.here (net.dst.pieceAt ![0, 0, 0] h')) (.dma sL) a b e) fun _ =>
              sendThen net w0 v0 ⟨d0, n0⟩ s0 r0 x0 a0 b0 e0 <|
              sendThen net w1 v1 ⟨d1, n1⟩ s1 r1 x1 a1 b1 e1 <|
              sendThen net w2 v2 ⟨d2, n2⟩ s2 r2 x2 a2 b2 e2 <|
              sendThen net w3 v3 ⟨d3, n3⟩ s3 r3 x3 a3 b3 e3 <|
              sendThen net w4 v4 ⟨d4, n4⟩ s4 r4 x4 a4 b4 e4 <|
              sendThen net w5 v5 ⟨d5, n5⟩ s5 r5 x5 a5 b5 e5 <|
              sendThen net w6 v6 ⟨d6, n6⟩ s6 r6 x6 a6 b6 e6 <| p) Q) := by
  obtain ⟨hoff, f0, f1, f2, f3, f4, f5, f6⟩ := hoff; obtain ⟨g0, g1, g2, g3, g4, g5, g6⟩ := hdev; obtain ⟨S0, S1, S2, S3, S4, S5, S6⟩ := hS; obtain ⟨R0, R1, R2, R3, R4, R5, R6⟩ := hR
  have he : ∀ k : Fin 7, ![k.succ.val, 0, 0] = ![k.succ.val, net.dst.first, 0] := fun k => by rw [h0]
  iintro Hm Hk
  iapply (scatter_own net m defs 𝒱 c hoff h0 hL) $$ Hm; iintro Hm
  iapply (scatter_send net m defs 𝒱 0 0 rfl [1, 2, 3, 4, 5, 6] c _ (Fin.ext g0) f0 (he 0) S0 R0) $$ Hm; iintro Hm
  iapply (scatter_send net m defs 𝒱 1 1 rfl [2, 3, 4, 5, 6] c _ (Fin.ext g1) f1 (he 1) S1 R1) $$ Hm; iintro Hm
  iapply (scatter_send net m defs 𝒱 2 2 rfl [3, 4, 5, 6] c _ (Fin.ext g2) f2 (he 2) S2 R2) $$ Hm; iintro Hm
  iapply (scatter_send net m defs 𝒱 3 3 rfl [4, 5, 6] c _ (Fin.ext g3) f3 (he 3) S3 R3) $$ Hm; iintro Hm
  iapply (scatter_send net m defs 𝒱 4 4 rfl [5, 6] c _ (Fin.ext g4) f4 (he 4) S4 R4) $$ Hm; iintro Hm
  iapply (scatter_send net m defs 𝒱 5 5 rfl [6] c _ (Fin.ext g5) f5 (he 5) S5 R5) $$ Hm; iintro Hm
  iapply (scatter_send net m defs 𝒱 6 6 rfl [] c _ (Fin.ext g6) f6 (he 6) S6 R6) $$ Hm; iintro Hm
  ihave Hm := (sending_end net m c) $$ Hm
  iapply Hk; iexact Hm

/-- The waits for the seven copies and for the device's own, one after the other. -/
theorem scatter_finish (c : Fin 8) {p : PUnit → Prog (TpuEff 8 τ₇ sig Val Λ .tc) α} {Q : α → sProp 𝕄}
    {off o0 o1 o2 o3 o4 o5 o6 q0 q1 q2 q3 q4 q5 q6 : Fin 3 → Nat} {h : Within R R C off}
    {w0 : Within P R C o0} {v0 : Within R R C q0} {w1 : Within P R C o1} {v1 : Within R R C q1} {w2 : Within P R C o2} {v2 : Within R R C q2} {w3 : Within P R C o3} {v3 : Within R R C q3} {w4 : Within P R C o4} {v4 : Within R R C q4} {w5 : Within P R C o5} {v5 : Within R R C q5} {w6 : Within P R C o6} {v6 : Within R R C q6}
    {sL s0 s1 s2 s3 s4 s5 s6 r0 r1 r2 r3 r4 r5 r6 : DmaSem sig} (hL : sL = net.sem loc)
    (hS : s0 = net.sem (gone 0) ∧ s1 = net.sem (gone 1) ∧ s2 = net.sem (gone 2) ∧ s3 = net.sem (gone 3) ∧ s4 = net.sem (gone 4) ∧ s5 = net.sem (gone 5) ∧ s6 = net.sem (gone 6))
    (hR : r0 = net.sem (come 0) ∧ r1 = net.sem (come 1) ∧ r2 = net.sem (come 2) ∧ r3 = net.sem (come 3) ∧ r4 = net.sem (come 4) ∧ r5 = net.sem (come 5) ∧ r6 = net.sem (come 6))
    {sp sh e} {x : Memref sig .tc sp sh e} {a b}
    {sp0 sp0' sh0 sh0' e0 e0'} {x0 : Memref sig .tc sp0 sh0 e0} {x0' : Memref sig .tc sp0' sh0' e0'} {a0 b0 c0 d0}
    {sp1 sp1' sh1 sh1' e1 e1'} {x1 : Memref sig .tc sp1 sh1 e1} {x1' : Memref sig .tc sp1' sh1' e1'} {a1 b1 c1 d1}
    {sp2 sp2' sh2 sh2' e2 e2'} {x2 : Memref sig .tc sp2 sh2 e2} {x2' : Memref sig .tc sp2' sh2' e2'} {a2 b2 c2 d2}
    {sp3 sp3' sh3 sh3' e3 e3'} {x3 : Memref sig .tc sp3 sh3 e3} {x3' : Memref sig .tc sp3' sh3' e3'} {a3 b3 c3 d3}
    {sp4 sp4' sh4 sh4' e4 e4'} {x4 : Memref sig .tc sp4 sh4 e4} {x4' : Memref sig .tc sp4' sh4' e4'} {a4 b4 c4 d4}
    {sp5 sp5' sh5 sh5' e5 e5'} {x5 : Memref sig .tc sp5 sh5 e5} {x5' : Memref sig .tc sp5' sh5' e5'} {a5 b5 c5 d5}
    {sp6 sp6' sh6 sh6' e6 e6'} {x6 : Memref sig .tc sp6 sh6 e6} {x6' : Memref sig .tc sp6' sh6' e6'} {a6 b6 c6 d6} :
    iprop(midway net m c ∗ owing Val c (dues net.wires [] c))
      ⊢ iprop(((after net m c ∗ owing Val c (dues net.wires [] c)) -∗ wp frame (wpE defs 𝒱 (th c) none) Set.univ (p ⟨⟩) Q)
          -∗ wp frame (wpE defs 𝒱 (th c) none) Set.univ
            (arriveThen net w0 v0 s0 r0 x0 x0' a0 b0 c0 d0 <|
              arriveThen net w1 v1 s1 r1 x1 x1' a1 b1 c1 d1 <|
              arriveThen net w2 v2 s2 r2 x2 x2' a2 b2 c2 d2 <|
              arriveThen net w3 v3 s3 r3 x3 x3' a3 b3 c3 d3 <|
              arriveThen net w4 v4 s4 r4 x4 x4' a4 b4 c4 d4 <|
              arriveThen net w5 v5 s5 r5 x5 x5' a5 b5 c5 d5 <|
              arriveThen net w6 v6 s6 r6 x6 x6' a6 b6 c6 d6 <| .op (.waitDma2 sL x (net.dst.pieceAt off h) a b) p) Q) := by
  obtain ⟨S0, S1, S2, S3, S4, S5, S6⟩ := hS; obtain ⟨R0, R1, R2, R3, R4, R5, R6⟩ := hR
  iintro Hm Hk
  ihave Hm := (landing_start net m c) $$ Hm
  iapply (scatter_arrive net m defs 𝒱 0 0 rfl c S0 R0) $$ Hm; iintro Hm
  iapply (scatter_arrive net m defs 𝒱 1 1 rfl c S1 R1) $$ Hm; iintro Hm
  iapply (scatter_arrive net m defs 𝒱 2 2 rfl c S2 R2) $$ Hm; iintro Hm
  iapply (scatter_arrive net m defs 𝒱 3 3 rfl c S3 R3) $$ Hm; iintro Hm
  iapply (scatter_arrive net m defs 𝒱 4 4 rfl c S4 R4) $$ Hm; iintro Hm
  iapply (scatter_arrive net m defs 𝒱 5 5 rfl c S5 R5) $$ Hm; iintro Hm
  iapply (scatter_arrive net m defs 𝒱 6 6 rfl c S6 R6) $$ Hm; iintro Hm
  iapply (scatter_close net m defs 𝒱 c hL) $$ Hm; iintro Hm
  iapply Hk; iexact Hm

end Together

/-! ## The launch -/

/-- Device `c`'s arrays, its own and the one it is sent, before the launch. -/
def arrays (c : Fin 8) : sProp 𝕄 :=
  iprop((net.src.arr.view.loc (th c) ↦{fullShare} m (net.src.arr.view.loc (th c))) ∗ (net.dst.arr.view.loc (th c) ↦{fullShare} m (net.dst.arr.view.loc (th c))))

/-- The pieces every device is to be sent, dealt to the senders. -/
theorem rooms_dealt :
    (bigSep Finset.univ fun d : Fin 8 => bigSep Finset.univ fun k : Fin 7 => (room net.dst Val d k.succ : sProp 𝕄))
      = bigSep Finset.univ fun c : Fin 8 => bigSep Finset.univ fun k : Fin 7 => room net.dst Val (net.wires.peer k c) k.succ := by
  rw [swap_sums,
    bigSep_congr (s := Finset.univ) (fun (k : Fin 7) _ => bigSep_univ_equiv (net.wires.peers k) (fun d : Fin 8 => (room net.dst Val d k.succ : sProp 𝕄))),
    swap_sums]
  rfl

/-- What the launch hands device `c` of the arrays: its own, and the pieces it fills. -/
def share (c : Fin 8) : sProp 𝕄 :=
  iprop((mine net m c c ∗ bigSep Finset.univ fun k : Fin 7 => mine net m c (net.wires.peer k c))
    ∗ others net.src c (m (net.src.arr.view.loc (th c)))
    ∗ (room net.dst Val c 0 ∗ bigSep Finset.univ fun k : Fin 7 => room net.dst Val (net.wires.peer k c) k.succ)
    ∗ others net.dst c (m (net.dst.arr.view.loc (th c))))

/-- Device `c`'s own array, piece by piece. -/
theorem mine_split (c : Fin 8) :
    (net.src.arr.view.loc (th c) ↦{fullShare} m (net.src.arr.view.loc (th c)) : sProp 𝕄)
      ⊢ iprop((mine net m c c ∗ bigSep Finset.univ fun k : Fin 7 => mine net m c (net.wires.peer k c)) ∗ others net.src c (m (net.src.arr.view.loc (th c)))) := by
  rw [← mine_all]
  exact (whole_pieces net.src c (m (net.src.arr.view.loc (th c)))).1

/-- All arrays, dealt. -/
theorem shares : (bigSep Finset.univ (arrays net m) : sProp 𝕄) ⊢ bigSep Finset.univ (share net m) := by
  have h1 : (bigSep Finset.univ (arrays net m) : sProp 𝕄)
      ⊢ bigSep Finset.univ fun c : Fin 8 => iprop((iprop((mine net m c c ∗ bigSep Finset.univ fun k : Fin 7 => mine net m c (net.wires.peer k c))
            ∗ others net.src c (m (net.src.arr.view.loc (th c)))) ∗ iprop(room net.dst Val c 0 ∗ others net.dst c (m (net.dst.arr.view.loc (th c)))))
          ∗ bigSep Finset.univ fun k : Fin 7 => room net.dst Val c k.succ) := by
    refine bigSep_mono fun c _ => ?_
    show arrays net m c ⊢ iprop((iprop((mine net m c c ∗ bigSep Finset.univ fun k : Fin 7 => mine net m c (net.wires.peer k c))
            ∗ others net.src c (m (net.src.arr.view.loc (th c)))) ∗ iprop(room net.dst Val c 0 ∗ others net.dst c (m (net.dst.arr.view.loc (th c)))))
          ∗ bigSep Finset.univ fun k : Fin 7 => room net.dst Val c k.succ)
    unfold arrays
    have hr := whole_rooms net.dst c (m (net.dst.arr.view.loc (th c)))
    rw [bigSep_first] at hr
    iintro ⟨Hs, Hd⟩
    ihave Hs := (mine_split net m c) $$ Hs
    ihave Hd := hr $$ Hd
    icases Hd with ⟨⟨H0, Hk⟩, Ho⟩
    isplitr [Hk]
    · isplitl [Hs]; · iexact Hs
      isplitl [H0] <;> iassumption
    iexact Hk
  refine h1.trans ?_
  rw [bigSep_sep', rooms_dealt, ← bigSep_sep']
  refine bigSep_mono fun c _ => ?_
  show iprop((iprop((mine net m c c ∗ bigSep Finset.univ fun k : Fin 7 => mine net m c (net.wires.peer k c))
            ∗ others net.src c (m (net.src.arr.view.loc (th c)))) ∗ iprop(room net.dst Val c 0 ∗ others net.dst c (m (net.dst.arr.view.loc (th c)))))
          ∗ bigSep Finset.univ fun k : Fin 7 => room net.dst Val (net.wires.peer k c) k.succ) ⊢ share net m c
  unfold share
  iintro ⟨⟨⟨Hm, Hos⟩, H0, Hod⟩, Hk⟩
  isplitl [Hm]; · iexact Hm
  isplitl [Hos]; · iexact Hos
  isplitl [H0 Hk]
  · isplitl [H0] <;> iassumption
  iexact Hod

/-- What the launch hands device `c`. -/
def given (c : Fin 8) : sProp 𝕄 := iprop(placed net.wires (pay net m) c ∗ share net m c)

/-- The launch, from a machine in which every device holds its two arrays whole. -/
theorem launch_scatter (rest : Fin 8 → sProp 𝕄) (h : ∀ c, rest c ⊢ arrays net m c) :
    (bigSep Finset.univ fun c : Fin 8 => iprop((Pipeline.ownSems0 (Ix := Unit) (Name := ℕ) (U := UU sig) (Lvl := ℕ) (Val := Val) (τ := τ₇) (osem net.wires) c
        ∗ rest c) ∗ ghost net.wires (pay net m) c) : sProp 𝕄)
      ⊢ |={Set.univ}=> bigSep Finset.univ (given net m) := by
  refine (launch_exchange net.wires (pay net m) rest).trans (fupd_mono ?_)
  have hs : (bigSep Finset.univ rest : sProp 𝕄) ⊢ bigSep Finset.univ (share net m) := (bigSep_mono fun c _ => h c).trans (shares net m)
  have he : iprop((bigSep Finset.univ fun c : Fin 8 => placed net.wires (pay net m) c) ∗ bigSep Finset.univ (share net m))
      ⊢ (bigSep Finset.univ (given net m) : sProp 𝕄) := by
    rw [← bigSep_sep']; exact .rfl
  iintro ⟨Hp, Hr⟩
  ihave Hr := hs $$ Hr
  iapply he
  isplitl [Hp] <;> iassumption

/-- Device `c` starts with its seven copies unsent. -/
theorem start_intro (c : Fin 8) :
    iprop(levAts levIx (lev net.wires) ∗ Pipeline.launchCred (dues net.wires order) c ∗ given net m c) ⊢ (before net m c : sProp 𝕄) := by
  have hu : (bigSep Finset.univ (unsent net m c) : sProp 𝕄)
      = iprop((bigSep Finset.univ fun k : Fin 7 => ticket Val net.wires k c) ∗ (bigSep Finset.univ fun k : Fin 7 => room net.dst Val (net.wires.peer k c) k.succ)
        ∗ (bigSep Finset.univ fun k : Fin 7 => mine net m c (net.wires.peer k c)) ∗ (bigSep Finset.univ fun k : Fin 7 => fresh Val net.wires c (gone k))
        ∗ (bigSep Finset.univ fun k : Fin 7 => cred (tallyAt (cell net.wires (c, come k)) () net.amount)) ∗ bigSep Finset.univ fun k : Fin 7 => fresh Val net.wires c (come k)) := by
    simp only [← bigSep_sep']; rfl
  unfold before given placed share tickets
  rw [hu, bigSep_cells]
  iintro ⟨Hl, Hc, ⟨%K, Hrec, ⟨Hg, Hm, Hloc⟩, Ht, Htl⟩, ⟨Hmc, Hmk⟩, Hos, ⟨H0, Hr⟩, Hod⟩
  ihave Hc := (creds net.wires c) $$ Hc
  iexists K
  isplitl [Hrec]; · iexact Hrec
  isplitl [Hl]; · iexact Hl
  isplitl [Ht Hr Hmk Hg Hc Hm]
  · isplitl [Ht]; · iexact Ht
    isplitl [Hr]; · iexact Hr
    isplitl [Hmk]; · iexact Hmk
    isplitl [Hg]; · iexact Hg
    isplitl [Hc]; · iexact Hc
    iexact Hm
  isplitl [Htl Hloc H0 Hmc]
  · isplitl [Htl]; · iexact Htl
    isplitl [Hloc]; · iexact Hloc
    isplitl [H0] <;> iassumption
  isplitl [Hos] <;> iassumption

/-! ## The end -/

/-- What is read of device `c` at the end: its own array is unchanged, and piece `k` of what it was sent is what the device at
    `c` under the mask `k` had for it. -/
def EndRead (c : Fin 8) (s : MemSt 8 τ₇ sig Val) : Prop :=
  s.mem (net.src.arr.view.loc (th c)) = m (net.src.arr.view.loc (th c))
    ∧ ∀ k : Fin 8, (net.dst.piece k).view.read Val (s.mem (net.dst.arr.view.loc (th c))) = part net m (c ^^^ k) c

theorem end_read (c : Fin 8) (s' : Phys 8 τ₇ sig Val) : iprop(endOf net m c ∗ SI s') ⊢ (iprop(⌜EndRead net m c s'.mem⌝ ∗ SI s') : sProp 𝕄) := by
  unfold endOf gathered
  iintro ⟨⟨Hs, %g, %hg, Hg⟩, HSI⟩
  icombine HSI Hs gives %h1
  icombine HSI Hg gives %h2
  isplitr
  · ipureintro
    have e1 := funext fun i => h1 i (Finset.mem_univ i)
    have e2 := funext fun i => h2 i (Finset.mem_univ i)
    refine ⟨e1, fun j => ?_⟩
    rw [e2]
    exact hg j
  · iexact HSI

end Cert.Scatter

end
-- ==== Proof.UpDw.Names.lean ====
/-
The names the kernel of w_up's gradient uses for the scatter: its arrays, its semaphores, the pieces it addresses and the
devices it sends to.
-/
module

public import proofs.«01_k».proof.Proof.ScatterStages
public import proofs.«01_k».proof.Proof.Gen.UpDwKernelIdeal
public import proofs.«01_k».proof.Proof.Gen.UpDwKernelIdeal.Launch

@[expose] public section

noncomputable section

namespace Cert.UpDwScatter

open Cert.UpDwKernelIdeal Cert.UpDwKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 0 are scattered. -/
abbrev srcStack : Stack sig 2048 1024 1408 where
  arr := Memref.whole main_arg2
  first := 0
  fits := by decide
  squeezes := squeezes_S1x1024x1408_S1024x1408
  arr_set := View.set_whole _

/-- The pieces received. -/
abbrev dstStack : Stack sig 1024 1024 1408 where
  arr := Memref.whole main_v1_1
  first := 0
  fits := by decide
  squeezes := squeezes_S1x1024x1408_S1024x1408
  arr_set := View.set_whole _

/-- The scatter of half the next gradient, fused into the product. -/
abbrev net : Scat sig 2048 1024 1408 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond5 (grid0.coords t) = 1#1 ↔ ¬t.val + 1 < 32 := by revert t; decide

/-! ## The position of a grid point along the contracted axis -/

theorem opens (t : Fin cfg0.N) : Scalar.cmpi .ne (Scalar.extui (Scalar.cmpi .eq (BitVec.ofNat 32 (grid0.coords t 2).val) 0#32)) 0#32 = 1#1 ↔ t.val % 2 = 0 := by
  revert t; decide
theorem adds (t : Fin cfg0.N) : Scalar.cmpi .ne (Scalar.extui (Scalar.cmpi .sgt (BitVec.ofNat 32 (grid0.coords t 2).val) 0#32)) 0#32 = 1#1 ↔ ¬t.val % 2 = 0 := by
  revert t; decide
theorem closes (t : Fin cfg0.N) : k0_cond4 (grid0.coords t) = 1#1 ↔ t.val % 2 = 1 := by revert t; decide

end Cert.UpDwScatter

end
-- ==== Proof.UpDw.Walk.lean ====
/-
One grid point of the kernel of w_up's gradient: what its body does to what a device holds.

At the first point the body starts the scatter, at the last it finishes it. At every point it multiplies the two blocks it was
given into the accumulator: a new sum at the first point along the contracted axis, the sum so far at the other. At the last
point along that axis it rounds the sum and stores it.
-/
module

public import proofs.«01_k».proof.Proof.UpDw.Names
public import proofs.«01_k».proof.Proof.Access
public import proofs.«01_k».proof.Proof.Gen.UpDwKernelIdeal.Skeleton
public import proofs.«01_k».proof.Proof.Gen.UpDwKernelIdeal.Points

@[expose] public section

noncomputable section

namespace Cert.UpDwScatter

open Cert.UpDwKernelIdeal Cert.UpDwKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

/-- The accumulator after grid point `n`, from the two blocks and what it held. -/
def summed (n : ℕ) (X0 : S1024x2176.Idx → Elt F .bf16) (X1 : S2176x1408.Idx → Elt F .bf16) (A : S1024x1408.Idx → Elt F .f32) : S1024x1408.Idx → Elt F .f32 :=
  if n % 2 = 0 then k0_pay2 X0 X1 else k0_pay3 X0 X1 A

/-- The output's buffer after grid point `n`: the rounded sum at the last point along the contracted axis, otherwise what it
    was. -/
def stored (n : ℕ) (S : S1024x1408.Idx → Elt F .f32) (X2 : S1x1024x1408.Idx → Elt F .bf16) : S1x1024x1408.Idx → Elt F .bf16 :=
  if n % 2 = 1 then k0_pay4 S else X2

set_option maxRecDepth 65536 in
/-- One grid point, whichever it is: the scatter goes on, and the product's block is added up. -/
theorem walk (t : Fin cfg0.N) (c : Dev nD)
    (M0 : Memref sig .tc .vmem S1024x2176 .bf16) (hM0 : M0.IsWhole) (M1 : Memref sig .tc .vmem S2176x1408 .bf16) (hM1 : M1.IsWhole)
    (M2 : Memref sig .tc .vmem S1x1024x1408 .bf16) (hM2 : M2.IsWhole)
    (X0 : S1024x2176.Idx → Elt F .bf16) (X1 : S2176x1408.Idx → Elt F .bf16) (X2 : S1x1024x1408.Idx → Elt F .bf16) (A : S1024x1408.Idx → Elt F .f32)
    (Q : PUnit → sProp 𝕄) :
    iprop(holds net m 32 t.val c ∗ owns (th c) M0 fullShare X0 ∗ owns (th c) M1 fullShare X1 ∗ owns (th c) M2 fullShare X2
        ∗ owns (th c) (Memref.whole cc0_scratch0) fullShare A
        ∗ ((holds net m 32 (t.val + 1) c ∗ owns (th c) M0 fullShare X0 ∗ owns (th c) M1 fullShare X1
              ∗ owns (th c) M2 fullShare (stored t.val (summed t.val X0 X1 A) X2)
              ∗ owns (th c) (Memref.whole cc0_scratch0) fullShare (summed t.val X0 X1 A)) -∗ Q ⟨⟩))
      ⊢ wp frame (wpE (defs₀ (F := F)) noVariants (th c) none) Set.univ
        (cc0_w_up_dw_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 32 := t.isLt
  simp only [cc0_w_up_dw_scatter_eq_skeleton, cc0_w_up_dw_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  by_cases k0 : t.val % 2 = 0
  · have k3 : ¬t.val % 2 = 1 := by omega
    have h2 : ¬k0_cond5 (grid0.coords t) = 1#1 := fun h => by have := (finishes t).mp h; omega
    rw [holds_mid _ _ _ _ (Nat.succ_ne_zero _) (by omega)]
    simp only [dif_neg h2, dif_pos ((opens t).mpr k0), dif_neg (fun h => (adds t).mp h k0), dif_neg (fun h => k3 ((closes t).mp h)), summed, if_pos k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption
  · have k3 : t.val % 2 = 1 := by omega
    simp only [dif_neg (fun h => k0 ((opens t).mp h)), dif_pos ((adds t).mpr k0), dif_pos ((closes t).mpr k3), summed, if_neg k0, stored, if_pos k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    iapply (load_all (defs₀ (F := F)) noVariants c) $$ HA; iintro HA
    iapply (load_all (defs₀ (F := F)) noVariants c) $$ H2; iintro H2
    iapply (store_all (defs₀ (F := F)) noVariants c) $$ H2; iintro H2
    by_cases h2 : k0_cond5 (grid0.coords t) = 1#1
    · rw [holds_end _ _ _ _ (Nat.succ_ne_zero _) ((finishes t).mp h2)]
      simp only [dif_pos h2, Prog.bind_op, Prog.bind_ret]
      iapply (scatter_finish net m (defs₀ (F := F)) noVariants c loc_sem
        ⟨gone_sem 0 _, gone_sem 1 _, gone_sem 2 _, gone_sem 3 _, gone_sem 4 _, gone_sem 5 _, gone_sem 6 _⟩
        ⟨come_sem 0 _, come_sem 1 _, come_sem 2 _, come_sem 3 _, come_sem 4 _, come_sem 5 _, come_sem 6 _⟩) $$ Hm; iintro Hm
      rw [wp_ret]; imodintro
      iapply Hk
      isplitl [Hm]; · iexact Hm
      isplitl [H0]; · iexact H0
      isplitl [H1]; · iexact H1
      isplitl [H2] <;> iassumption
    · rw [holds_mid _ _ _ _ (Nat.succ_ne_zero _) (not_not.mp fun h => h2 ((finishes t).mpr h))]
      simp only [dif_neg h2, Prog.bind_op, Prog.bind_ret]
      rw [wp_ret]; imodintro
      iapply Hk
      isplitl [Hm]; · iexact Hm
      isplitl [H0]; · iexact H0
      isplitl [H1]; · iexact H1
      isplitl [H2] <;> iassumption

end Cert.UpDwScatter

end
-- ==== Proof.UpDw.Run.lean ====
/-
The run of the fused kernel on the eight devices, for any float values: what each device holds from grid point to grid
point, the launch, and the arrays at the end.
-/
module

public import proofs.«01_k».proof.Proof.UpDw.Walk
public import proofs.«01_k».proof.Proof.Begin
public import proofs.«01_k».proof.Proof.Accum
public import proofs.«01_k».proof.Proof.Gen.UpDwKernelIdeal.Frame

@[expose] public section

noncomputable section

namespace Cert.UpDwScatter

open Cert.UpDwKernelIdeal Cert.UpDwKernelIdeal.Gen Cert.Scatter Cert.Wires
open Cert.Gather (running running_step carried carried_start carried_end)
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- Grid point `n`. -/
def pt (n : ℕ) : Fin cfg0.N := ⟨n % 32, Nat.mod_lt _ (by decide)⟩
theorem pt_val (t : Fin cfg0.N) : pt t.val = t := Fin.ext (Nat.mod_eq_of_lt t.isLt)

/-- What grid point `n` makes of the accumulator. -/
def step (c : Dev nD) (n : ℕ) (A : S1024x1408.Idx → Elt F .f32) : S1024x1408.Idx → Elt F .f32 :=
  summed n (iblk m c 0 (pt n)) (iblk m c 1 (pt n)) A

/-- What the accumulator starts from: anything would do. -/
def blank (c : Dev nD) : S1024x1408.Idx → Elt F .f32 := k0_pay2 (iblk m c 0 (pt 0)) (iblk m c 1 (pt 0))

/-- The accumulator after grid point `n`. -/
def total (c : Dev nD) (n : ℕ) : S1024x1408.Idx → Elt F .f32 := running (step m c) (blank m c) n

theorem total_step (c : Dev nD) (t : Fin cfg0.N) (A : S1024x1408.Idx → Elt F .f32) (hA : ∀ k, t.val = k + 1 → A = running (step m c) (blank m c) k) :
    summed t.val (iblk m c 0 t) (iblk m c 1 t) A = total m c t.val := by
  have h := running_step (step m c) (blank m c) (fun _ => rfl) t.val A hA
  unfold step at h
  rw [pt_val] at h
  exact h

/-- What device `c` holds before grid point `n`: its part of the scatter, and the accumulator. -/
def phi (n : ℕ) (c : Dev nD) : sProp 𝕄 :=
  iprop(stateAt net m 32 n c ∗ carried (Memref.whole cc0_scratch0) c (step m c) (blank m c) n)

/-- The proof data: the inputs' blocks stay, the output's block is the sum so far, rounded. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => k0_pay4 (total m c t.val)
  Φ t := phi m t.val c
  q _ := fullShare
  owed t := dues net.wires (owedAt 32 t.val) c

/-- What the body leaves in the output's buffer: the sum at the last point along the contracted axis, and what was there at
    the others. -/
def leaves (c : Dev nD) (t : Fin cfg0.N) : sProp 𝕄 :=
  if t.val % 2 = 1 then owns (th c) (st0_2 t) fullShare (k0_pay4 (total m c t.val))
  else iprop(∃ d, owns (th c) (st0_2 t) fullShare ((dats m 0 c).before 2 t d))

theorem leaves_stored (c : Dev nD) (t : Fin cfg0.N) (d) :
    (owns (th c) (st0_2 t) fullShare (stored t.val (total m c t.val) ((dats m 0 c).before 2 t d)) : sProp 𝕄) ⊢ leaves m c t := by
  unfold leaves stored
  split
  · exact .rfl
  · iintro H; iexists d; iexact H

/-- The body at each grid point. -/
theorem body (c : Dev nD) (t : Fin cfg0.N) :
    iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t) ∗ leaves m c t) := by
  unfold phi carried
  iintro ⟨⟨Hs, %A, %hA, HA⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2) A)
  rw [total_step m c t A hA]
  unfold holds holding
  isplitl [Hs HO]
  · isplitl [Hs]; · iexact Hs
    iexact HO
  isplitl [H0]; · iexact H0
  isplitl [H1]; · iexact H1
  isplitl [H2]; · iexact H2
  isplitl [HA]; · iexact HA
  iintro ⟨⟨Hs, HO⟩, H0, H1, H2, HA⟩
  isplitl [Hs HA]
  · isplitl [Hs]; · iexact Hs
    iexists (total m c t.val)
    isplitr; · ipureintro; intro k hk; rw [Nat.succ.inj hk]; rfl
    iexact HA
  isplitl [HO]; · iapply (at_owes (dats m 0 c) t.succ fun _ => trivial); iexact HO
  isplitl [H0]; · iexact H0
  isplitl [H1]; · iexact H1
  iapply (leaves_stored m c t d2)
  iexact H2

theorem leaves_exact (c : Dev nD) (t : Fin cfg0.N) : leaves m c t ⊢ ((dats m 0 c).leavesExact 2 t : sProp 𝕄) := by
  unfold leaves Dat.leavesExact
  by_cases k3 : t.val % 2 = 1
  · have hi : cfg0.idle 2 (cfg0.grid.coords t) = false := by
      show (!(k0_cond4 (grid0.coords t) == 1#1)) = false
      rw [(closes t).mpr k3]; rfl
    rw [if_pos k3, hi]
    exact .rfl
  · have hi : cfg0.idle 2 (cfg0.grid.coords t) = true := by
      show (!(k0_cond4 (grid0.coords t) == 1#1)) = true
      rw [beq_eq_false_iff_ne.mpr fun e => k3 ((closes t).mp e)]; rfl
    have hf : (cfg0.win 2).flush t = false := Bool.eq_false_iff.mpr fun e => k3 ((flush0_2 t).mp e)
    rw [if_neg k3, hi, hf]

theorem body_obligation (c : Dev nD) : BodyObligation (dats m 0 c) (defs₀ (F := F)) noVariants () Set.univ := fun t => by
  rw [bigSep_W0]
  refine (body m c t).trans (wp_mono _ _ _ fun _ => sep_mono .rfl (sep_mono .rfl ?_))
  show _ ⊢ bigSep Finset.univ fun w : Fin 3 => (dats m 0 c).leavesExact w t
  rw [bigSep_W0]
  exact sep_mono .rfl (sep_mono .rfl (leaves_exact m c t))

/-! ## The launch -/

theorem phi_start (c : Dev nD) : iprop(before net m c ∗ Pipeline.scopedRest spec0 c) ⊢ (phi m 0 c : sProp 𝕄) := by
  rw [scopedRest0_eq]; unfold phi
  rw [show stateAt net m 32 0 c = before net m c from if_pos rfl]
  iintro ⟨H, Hr⟩
  isplitl [H]; · iexact H
  iapply (carried_start (Memref.whole cc0_scratch0) (View.set_whole _) c)
  iexact Hr

theorem phi_end (c : Dev nD) : (phi m 32 c : sProp 𝕄) ⊢ iprop(endOf net m c
    ∗ zeros (Elt F) net.wires c ∗ Pipeline.scopedRest spec0 c) := by
  rw [scopedRest0_eq]; unfold phi
  rw [show stateAt net m 32 32 c = after net m c from (if_neg (by decide)).trans (if_neg (by decide))]
  unfold after
  iintro ⟨⟨H, Hz⟩, Hr⟩
  isplitl [H]; · iexact H
  isplitl [Hz]; · iexact Hz
  iapply (carried_end (Memref.whole cc0_scratch0) (View.set_whole _) c)
  iexact Hr

/-- What the run says: on every device the inputs are unchanged, the product's array holds the rounded sums
    stored, piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.UpDwScatter

end
-- ==== Proof.Grad.lean ====
/-
The gradient of a weight at an index: on every device its activations times its gradient, over each of eight blocks of
columns; sixty-four parts in all, eight for each device. And the gradient of an input at an index: rows of a gradient times the transposed weight, whose
columns are held as eight blocks.
-/
module

public import proofs.«01_k».proof.Proof.Rows
public import Idealize.ShloMosaic.Lib.Pointwise

@[expose] public section

noncomputable section

namespace Cert.Scatter

open Idealize.ShloMosaic Idealize.ShloMosaic.TcCoe
open Cert.Gather

/-- Element `r` of block `i` of eight is an element of the whole. -/
theorem in_block {n R i r : ℕ} (hn : n = 8 * R) (hi : i < 8) (hr : r < R) : i * R + r < n := by
  have h : (i + 1) * R ≤ 8 * R := Nat.mul_le_mul_right R hi
  rw [Nat.succ_mul] at h
  omega

/-- Element `r` of block `i` of an axis cut into eight. -/
abbrev inBlock {n R : ℕ} (hn : n = 8 * R) (i : Fin 8) (r : Fin R) : Fin n := ⟨i.val * R + r.val, in_block hn i.isLt r.isLt⟩

/-- The device whose part is number `i`, and the block of columns it is. -/
abbrev ownerOf (i : Fin 64) : Fin 8 := ⟨i.val / 8, by omega⟩
abbrev columnsOf (i : Fin 64) : Fin 8 := ⟨i.val % 8, by omega⟩

/-- All the parts of the gradient, from the activations and the gradients of all devices. -/
def gradParts {P P' K K' C C' : ℕ} (hP : P' = 8 * P) (hK : K' = 8 * K) (hC : C' = 8 * C)
    (a : (⟨2, ![P', K]⟩ : Shape).Idx → EReal) (dy : (⟨2, ![K', C']⟩ : Shape).Idx → EReal) : (⟨3, ![64, P, C]⟩ : Shape).Idx → EReal := fun j =>
  ∑ k : Fin K, a (ix2 (inBlock hP (ownerOf (j 0)) (j 1)) k) * dy (ix2 (inBlock hK (ownerOf (j 0)) k) (inBlock hC (columnsOf (j 0)) (j 2)))

/-- A device's product, cut into eight blocks of columns, is its parts of the gradient. -/
theorem device_parts {P P' K K' C C' : ℕ} (hP : P' = 8 * P) (hK : K' = 8 * K) (hC : C' = 8 * C) (c : Fin 8)
    (a : (⟨2, ![P', K]⟩ : Shape).Idx → EReal) (dy : (⟨2, ![K', C']⟩ : Shape).Idx → EReal)
    (ha : Layout.Tiles ⟨2, ![P, K]⟩ ⟨2, ![P', K]⟩ 0 8) (hd : Layout.Tiles ⟨2, ![K, C']⟩ ⟨2, ![K', C']⟩ 0 8)
    (ho : Layout.Tiles ⟨3, ![8, P, C]⟩ ⟨3, ![64, P, C]⟩ 0 8) :
    (fun j : (⟨3, ![8, P, C]⟩ : Shape).Idx => rowTimes (Layout.block ⟨2, ![P, K]⟩ ⟨2, ![P', K]⟩ 0 8 c a ha)
        (Layout.block ⟨2, ![K, C']⟩ ⟨2, ![K', C']⟩ 0 8 c dy hd) (j 1) (inBlock hC (j 0) (j 2)))
      = Layout.block ⟨3, ![8, P, C]⟩ ⟨3, ![64, P, C]⟩ 0 8 c (gradParts hP hK hC a dy) ho := by
  refine ext3 fun b r l => ?_
  have hb := b.isLt
  have h1 : (c.val * 8 + b.val) / 8 = c.val := by omega
  have h2 : (c.val * 8 + b.val) % 8 = b.val := by omega
  rw [Layout.block_apply]
  unfold rowTimes gradParts
  refine Finset.sum_congr rfl fun k _ => ?_
  rw [Layout.block_apply, Layout.block_apply]
  refine congrArg₂ (· * ·) (congrArg a (funext fun x => Fin.ext ?_)) (congrArg dy (funext fun x => Fin.ext ?_))
  · match x with
    | ⟨0, _⟩ => exact congrArg (· * P + r.val) h1.symm
    | ⟨1, _⟩ => rfl
  · match x with
    | ⟨0, _⟩ => exact congrArg (· * K + k.val) h1.symm
    | ⟨1, _⟩ => exact congrArg (· * C + l.val) h2.symm

/-- Block and place of element `k` of an axis cut into eight. -/
abbrev blockOf {n R : ℕ} (hn : n = 8 * R) (k : Fin n) : Fin 8 := ⟨k.val / R, Nat.div_lt_of_lt_mul (by have := k.isLt; rw [Nat.mul_comm]; omega)⟩
abbrev placeIn {n R : ℕ} (hn : n = 8 * R) (k : Fin n) : Fin R := ⟨k.val % R, Nat.mod_lt _ (by have := k.isLt; omega)⟩

/-- The gradient of the input, from the gradient and the weight. -/
def inputGrad {N P C C' : ℕ} (hC : C' = 8 * C) (dy : (⟨2, ![N, C']⟩ : Shape).Idx → EReal) (w : (⟨3, ![8, P, C]⟩ : Shape).Idx → EReal) :
    (⟨2, ![N, P]⟩ : Shape).Idx → EReal := fun j =>
  ∑ k : Fin C', dy (ix2 (j 0) k) * w (ix3 (blockOf hC k) (j 1) (placeIn hC k))

/-- A device's gradient of its input is its rows of the whole gradient. -/
theorem device_rows {N N' P C C' : ℕ} (hC : C' = 8 * C) (c : Fin 8) (dy : (⟨2, ![N', C']⟩ : Shape).Idx → EReal)
    (w : (⟨3, ![8, P, C]⟩ : Shape).Idx → EReal) (hd : Layout.Tiles ⟨2, ![N, C']⟩ ⟨2, ![N', C']⟩ 0 8) (ho : Layout.Tiles ⟨2, ![N, P]⟩ ⟨2, ![N', P]⟩ 0 8) :
    inputGrad hC (Layout.block ⟨2, ![N, C']⟩ ⟨2, ![N', C']⟩ 0 8 c dy hd) w = Layout.block ⟨2, ![N, P]⟩ ⟨2, ![N', P]⟩ 0 8 c (inputGrad hC dy w) ho := by
  funext j
  rw [Layout.block_apply]
  unfold inputGrad
  refine Finset.sum_congr rfl fun k _ => ?_
  rw [Layout.block_apply]
  refine congrArg₂ (· * ·) (congrArg dy (funext fun x => ?_)) rfl
  match x with
  | ⟨0, _⟩ => rfl
  | ⟨1, _⟩ => rfl

/-- The gradient of a weight with a block of rows for each device, from the activations and the gradients of all devices. -/
def gradRows {P P' K K' C : ℕ} (hP : P' = 8 * P) (hK : K' = 8 * K)
    (a : (⟨2, ![P', K]⟩ : Shape).Idx → EReal) (dy : (⟨2, ![K', C]⟩ : Shape).Idx → EReal) : (⟨2, ![P', C]⟩ : Shape).Idx → EReal := fun j =>
  ∑ k : Fin K, a (ix2 (j 0) k) * dy (ix2 (inBlock hK (blockOf hP (j 0)) k) (j 1))

/-- A device's product is its block of rows of the gradient. -/
theorem device_gradRows {P P' K K' C : ℕ} (hP : P' = 8 * P) (hK : K' = 8 * K) (c : Fin 8)
    (a : (⟨2, ![P', K]⟩ : Shape).Idx → EReal) (dy : (⟨2, ![K', C]⟩ : Shape).Idx → EReal)
    (ha : Layout.Tiles ⟨2, ![P, K]⟩ ⟨2, ![P', K]⟩ 0 8) (hd : Layout.Tiles ⟨2, ![K, C]⟩ ⟨2, ![K', C]⟩ 0 8)
    (ho : Layout.Tiles ⟨2, ![P, C]⟩ ⟨2, ![P', C]⟩ 0 8) :
    (fun j : (⟨2, ![P, C]⟩ : Shape).Idx => rowTimes (Layout.block ⟨2, ![P, K]⟩ ⟨2, ![P', K]⟩ 0 8 c a ha)
        (Layout.block ⟨2, ![K, C]⟩ ⟨2, ![K', C]⟩ 0 8 c dy hd) (j 0) (j 1))
      = Layout.block ⟨2, ![P, C]⟩ ⟨2, ![P', C]⟩ 0 8 c (gradRows hP hK a dy) ho := by
  funext j
  have hj : (j 0).val < P := (j 0).isLt
  have hb : (c.val * P + (j 0).val) / P = c.val := by
    rw [Nat.mul_comm, Nat.mul_add_div (by omega), Nat.div_eq_of_lt hj, Nat.add_zero]
  rw [Layout.block_apply]
  unfold rowTimes gradRows
  refine Finset.sum_congr rfl fun k _ => ?_
  rw [Layout.block_apply, Layout.block_apply]
  refine congrArg₂ (· * ·) (congrArg a (funext fun x => Fin.ext ?_)) (congrArg dy (funext fun x => Fin.ext ?_))
  · match x with
    | ⟨0, _⟩ => rfl
    | ⟨1, _⟩ => rfl
  · match x with
    | ⟨0, _⟩ => exact congrArg (· * K + k.val) hb.symm
    | ⟨1, _⟩ => rfl

/-- A row of one array times a row of the other. -/
def rowsBoth {N P C : ℕ} (dy : (⟨2, ![N, C]⟩ : Shape).Idx → EReal) (w : (⟨2, ![P, C]⟩ : Shape).Idx → EReal) (i : Fin N) (l : Fin P) : EReal :=
  ∑ k : Fin C, dy (ix2 i k) * w (ix2 l k)

/-- A device's rows times the rows of the whole weight are its rows of the product. -/
theorem device_rowsBoth {N N' P C : ℕ} (c : Fin 8) (dy : (⟨2, ![N', C]⟩ : Shape).Idx → EReal)
    (w : (⟨2, ![P, C]⟩ : Shape).Idx → EReal) (hd : Layout.Tiles ⟨2, ![N, C]⟩ ⟨2, ![N', C]⟩ 0 8) (ho : Layout.Tiles ⟨2, ![N, P]⟩ ⟨2, ![N', P]⟩ 0 8) :
    (fun j : (⟨2, ![N, P]⟩ : Shape).Idx => rowsBoth (Layout.block ⟨2, ![N, C]⟩ ⟨2, ![N', C]⟩ 0 8 c dy hd) w (j 0) (j 1))
      = Layout.block ⟨2, ![N, P]⟩ ⟨2, ![N', P]⟩ 0 8 c (fun j => rowsBoth dy w (j 0) (j 1)) ho := by
  funext j
  rw [Layout.block_apply]
  unfold rowsBoth
  refine Finset.sum_congr rfl fun k _ => ?_
  rw [Layout.block_apply]
  refine congrArg₂ (· * ·) (congrArg dy (funext fun x => ?_)) rfl
  match x with
  | ⟨0, _⟩ => rfl
  | ⟨1, _⟩ => rfl

end Cert.Scatter

end
-- ==== Proof.UpDw.Product.lean ====
/-
The array the product of w_up's gradient ends in, over the extended reals: the rows of the activations times the gradient,
block by block of columns, the two partial sums along the contracted axis added up.
-/
module

public import proofs.«01_k».proof.Proof.UpDw.Run
public import proofs.«01_k».proof.Proof.Grad
public import Idealize.ShloMosaic.Lib.Pipeline.ValueKit

@[expose] public section

noncomputable section

namespace Cert.UpDwScatter

open Cert.UpDwKernelIdeal Cert.UpDwKernelIdeal.Gen Cert.Gather Cert.Wires
open Idealize.ShloMosaic Idealize.ShloMosaic.TcCoe

/-- The product of two blocks, at an index. -/
def times (X : S1024x2176.Idx → EReal) (W : S2176x1408.Idx → EReal) (y : S1024x1408.Idx) : EReal :=
  ∑ k : Fin 2176, X (ix2 (y 0) k) * W (ix2 k (y 1))

theorem first_apply (X : S1024x2176.Idx → EReal) (W : S2176x1408.Idx → EReal) (y : S1024x1408.Idx) :
    k0_pay2 (F := Ideal) X W y = times X W y := by
  pointwise [k0_pay2, k0_pay1, times]

theorem next_apply (X : S1024x2176.Idx → EReal) (W : S2176x1408.Idx → EReal) (A : S1024x1408.Idx → EReal) (y : S1024x1408.Idx) :
    k0_pay3 (F := Ideal) X W A y = A y + times X W y := by
  pointwise [k0_pay3, k0_pay1, times]

theorem round_apply (A : S1024x1408.Idx → EReal) (y : S1x1024x1408.Idx) : k0_pay4 (F := Ideal) A y = A (ix2 (y 1) (y 2)) := by
  pointwise [k0_pay4]

variable (m : (ℓ : Loc nD τ sig) → Buf (Elt Ideal) ℓ)

theorem index0 : ∀ t : Fin cfg0.N, win0_0.index t = ![t.val / 16, t.val % 2] := (by decide +kernel : ∀ t : Fin grid0.N, _)
theorem index1 : ∀ t : Fin cfg0.N, win0_1.index t = ![t.val % 2, t.val / 2 % 8] := (by decide +kernel : ∀ t : Fin grid0.N, _)
theorem index2 : ∀ t : Fin cfg0.N, win0_2.index t = ![t.val / 2 % 8, t.val / 16, 0] := (by decide +kernel : ∀ t : Fin grid0.N, _)

/-- The accumulator at the last point along the contracted axis is the sum of the two partial products. -/
theorem total_sum (c : Dev nD) (q : ℕ) (y : S1024x1408.Idx) :
    total (F := Ideal) m c (2 * q + 1) y = ∑ j ∈ Finset.range 2, times (iblk m c 0 (pt (2 * q + j))) (iblk m c 1 (pt (2 * q + j))) y :=
  running_sum (by decide) (step m c) (blank m c) (fun n => times (iblk m c 0 (pt n)) (iblk m c 1 (pt n)))
    (fun n h X x => by
      show summed (F := Ideal) n _ _ X x = _
      rw [show summed (F := Ideal) n (iblk m c 0 (pt n)) (iblk m c 1 (pt n)) X = k0_pay2 (iblk m c 0 (pt n)) (iblk m c 1 (pt n)) from if_pos h]; exact first_apply _ _ _)
    (fun n h X x => by
      show summed (F := Ideal) n _ _ X x = _
      rw [show summed (F := Ideal) n (iblk m c 0 (pt n)) (iblk m c 1 (pt n)) X = k0_pay3 (iblk m c 0 (pt n)) (iblk m c 1 (pt n)) X from if_neg h]; exact next_apply _ _ _ _)
    q y 1 (by decide)

set_option maxHeartbeats 1000000 in
/-- The product's array after the last grid point. -/
theorem product_array (c : Dev nD) : (dats m 0 c).arrAt 2 cfg0.N
    = fun j : S8x2048x1408.Idx => rowTimes (m ((c : Thread nD τ).loc main_arg0)) (m ((c : Thread nD τ).loc main_arg1)) (j 1) (Cert.Scatter.inBlock (R := 1408) (n := 11264) rfl (j 0) (j 2)) := by
  refine (dats m 0 c).arrAt_eq_of_covers 2 _ (by decide +kernel) fun t hf y => ?_
  have k3 : t.val % 2 = 1 := (flush0_2 t).mp hf
  blk_simp
  show k0_pay4 (F := Ideal) (total m c t.val) y = _
  rw [round_apply, show t.val = 2 * (t.val / 2) + 1 by omega, total_sum]
  unfold rowTimes
  refine sum_blocks (tk := 2176) rfl _ _ fun j => Finset.sum_congr rfl fun k _ => ?_
  have hs : (pt (2 * (t.val / 2) + j.val)).val = 2 * (t.val / 2) + j.val := Nat.mod_eq_of_lt (by have h : t.val < 32 := t.isLt; have := j.isLt; show 2 * (t.val / 2) + j.val < 32; omega)
  generalize pt (2 * (t.val / 2) + j.val) = s at hs ⊢
  blk_point [iblk, V, index0 s, index1 s, index2 t, Cert.Scatter.inBlock]
  all_goals
    show s.val % 2 * 2176 + k.val = k.val + 2176 * j.val
    omega

end Cert.UpDwScatter

end
-- ==== Proof.Sent.lean ====
/-
What a scatter leaves, at an index over whole arrays: on every device piece `k` is what the device at its number under the
mask `k` had for it, and the eight devices' pieces together are rows of the whole array in that order.
-/
module

public import proofs.«01_k».proof.Proof.Scatter
public import proofs.«01_k».proof.Proof.Rows
public import Idealize.ShloMosaic.Lib.Pointwise
public import Idealize.ShloMosaic.Lib.Pipeline.Value

@[expose] public section

noncomputable section

namespace Cert.Scatter

open Idealize.ShloMosaic Idealize.ShloMosaic.TcCoe
open Cert.Wires Cert.Gather

/-! ## A gather along the leading coordinate, at an index -/

section Lead

variable {α : Type} {N B R C w : ℕ}

/-- A gather of whole parts of `[N, R, C]` along its leading coordinate, one for each of `B` indices. -/
abbrev leadDims (N B R C : ℕ) (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Its part `b` is the operand's at index `b`. -/
theorem gather_lead (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (b : Fin B) (r : Fin R) (l : Fin C) (n : Fin N)
    (hn : (idx (ix2 b 0)).toInt.toNat = n.val) :
    Host.gather (leadDims N B R C wf) x idx (ix3 b r l) = x (ix3 n r l) := by
  unfold Host.gather
  congr 1
  funext a
  refine Fin.ext ?_
  show (leadDims N B R C wf).start (ix3 b r l) idx a + (leadDims N B R C wf).batchCoord (ix3 b r l) a + (leadDims N B R C wf).offCoord (ix3 b r l) a = _
  rw [GatherDims.batchCoord_eq_zero _ _ _ List.not_mem_nil, Nat.add_zero]
  match a with
  | ⟨0, _⟩ =>
    have ho : (leadDims N B R C wf).offCoord (ix3 b r l) 0 = 0 :=
      GatherDims.offCoord_eq_zero _ _ _ (fun h => ((GatherDims.mem_sKept _ _).mp h).1 (List.mem_singleton.mpr rfl))
    have hs : (leadDims N B R C wf).start (ix3 b r l) idx 0 = n.val := by
      unfold GatherDims.start
      rw [dif_pos (show (0 : Fin 3) ∈ (leadDims N B R C wf).startIndexMap from List.mem_singleton.mpr rfl)]
      have hsi : (leadDims N B R C wf).siIdx (ix3 b r l) ⟨List.idxOf (0 : Fin 3) (leadDims N B R C wf).startIndexMap,
          List.idxOf_lt_length_iff.2 (List.mem_singleton.mpr rfl)⟩ = ix2 b 0 := by
        funext e; refine Fin.ext ?_
        match e with
        | ⟨0, _⟩ => rfl
        | ⟨1, _⟩ => rfl
      rw [hsi, hn]
      exact Nat.min_eq_left (Nat.le_sub_one_of_lt n.isLt)
    exact (congrArg₂ (· + ·) hs ho).trans (Nat.add_zero _)
  | ⟨1, _⟩ =>
    have hs : (leadDims N B R C wf).start (ix3 b r l) idx 1 = 0 := dif_neg (show ¬(1 : Fin 3) ∈ ([0] : List (Fin 3)) by decide)
    exact (congrArg (· + _) hs).trans (Nat.zero_add _)
  | ⟨2, _⟩ =>
    have hs : (leadDims N B R C wf).start (ix3 b r l) idx 2 = 0 := dif_neg (show ¬(2 : Fin 3) ∈ ([0] : List (Fin 3)) by decide)
    exact (congrArg (· + _) hs).trans (Nat.zero_add _)

end Lead

/-! ## The order in which the pieces lie -/

/-- The part that lies at place `i` of the received arrays: place `8 * c + k` holds what the device at `c` under the mask `k`
    has for device `c`. -/
def placeOf (i : Fin 64) : Fin 64 :=
  ⟨8 * ((⟨i.val / 8, by omega⟩ : Fin 8) ^^^ (⟨i.val % 8, by omega⟩ : Fin 8)).val + i.val / 8, by
    have := ((⟨i.val / 8, by omega⟩ : Fin 8) ^^^ (⟨i.val % 8, by omega⟩ : Fin 8)).isLt
    have := i.isLt
    omega⟩

/-- The received arrays of all devices, one after the other, from the arrays sent. -/
def sentArray {P R C : ℕ} (first : ℕ) (fits : first + R ≤ P) (D : (⟨3, ![64, P, C]⟩ : Shape).Idx → EReal) : (⟨3, ![64, R, C]⟩ : Shape).Idx → EReal :=
  fun j => D (ix3 (placeOf (j 0)) ⟨first + (j 1).val, by have h : (j 1).val < R := (j 1).isLt; omega⟩ (j 2))

/-- Reading the places' parts out of a cut of the arrays sent gives the received arrays. -/
theorem sent_lead {R C P first w : ℕ} (wf : GatherDims.WF ⟨3, ![64, R, C]⟩ ⟨2, ![64, 1]⟩ ⟨3, ![64, R, C]⟩ [1, 2] [0] [] [0] [] 1 ![1, R, C])
    (D : (⟨3, ![64, P, C]⟩ : Shape).Idx → EReal) (fits : first + R ≤ P)
    (h : (⟨3, ![64, P, C]⟩ : Shape).Slices ![0, first, 0] ⟨3, ![64, R, C]⟩) (idx : IVec ⟨2, ![64, 1]⟩ w)
    (hi : ∀ b : Fin 64, (idx (ix2 b 0)).toInt.toNat = (placeOf b).val) :
    Host.gather (leadDims 64 64 R C wf) (extractStridedSlice ⟨3, ![64, R, C]⟩ ![0, first, 0] D h) idx = sentArray first fits D := by
  refine ext3 fun b r l => ?_
  rw [gather_lead wf _ idx b r l (placeOf b) (hi b)]
  refine extractStridedSlice_apply _ D h _ _ fun a => ?_
  match a with
  | ⟨0, _⟩ => exact (Nat.zero_add _).symm
  | ⟨1, _⟩ => rfl
  | ⟨2, _⟩ => exact (Nat.zero_add _).symm

/-- Reading the places' parts out of the arrays sent, uncut. -/
theorem sent_whole {R C w : ℕ} (wf : GatherDims.WF ⟨3, ![64, R, C]⟩ ⟨2, ![64, 1]⟩ ⟨3, ![64, R, C]⟩ [1, 2] [0] [] [0] [] 1 ![1, R, C])
    (D : (⟨3, ![64, R, C]⟩ : Shape).Idx → EReal) (idx : IVec ⟨2, ![64, 1]⟩ w) (hi : ∀ b : Fin 64, (idx (ix2 b 0)).toInt.toNat = (placeOf b).val) :
    Host.gather (leadDims 64 64 R C wf) D idx = sentArray 0 (Nat.zero_add R).le D := by
  refine ext3 fun b r l => ?_
  rw [gather_lead wf _ idx b r l (placeOf b) (hi b)]
  unfold sentArray
  exact congrArg (fun s => D (ix3 (placeOf b) s l)) (Fin.ext (Nat.zero_add _).symm)

theorem place_at (c k : Fin 8) (h : c.val * 8 + k.val < 64) : (placeOf ⟨c.val * 8 + k.val, h⟩).val = (c ^^^ k).val * 8 + c.val := by
  revert h; revert c k; decide

/-- A received array is the device's part of the received arrays. -/
theorem block_of_pieces {sig : RefSig} {P R C : ℕ} (net : Scat sig P R C) (h0 : net.dst.first = 0) (D : (⟨3, ![64, P, C]⟩ : Shape).Idx → EReal)
    (ht : Layout.Tiles ⟨3, ![8, P, C]⟩ ⟨3, ![64, P, C]⟩ 0 8) (ht' : Layout.Tiles ⟨3, ![8, R, C]⟩ ⟨3, ![64, R, C]⟩ 0 8)
    (m : (ℓ : Loc 8 τ₇ sig) → Buf (Elt Ideal) ℓ)
    (hm : ∀ p : Fin 8, net.src.arr.view.read (Elt Ideal) (m (net.src.arr.view.loc (th p))) = Layout.block ⟨3, ![8, P, C]⟩ ⟨3, ![64, P, C]⟩ 0 8 p D ht)
    (c : Fin 8) (g : net.dst.arr.view.ty.Contents (Elt Ideal)) (hg : ∀ k, (net.dst.piece k).view.read (Elt Ideal) g = part net m (c ^^^ k) c)
    (G : (OutS R C).Idx → EReal) (hG : ∀ i, net.dst.arr.view.read (Elt Ideal) g i = G i) :
    G = Layout.block ⟨3, ![8, R, C]⟩ ⟨3, ![64, R, C]⟩ 0 8 c (sentArray net.src.first net.src.fits D) ht' := by
  refine ext3 fun k r l => ?_
  have e1 := net.dst.read_piece (Val := Elt Ideal) k g r l
  have e2 := net.src.read_piece (Val := Elt Ideal) c (m (net.src.arr.view.loc (th (c ^^^ k)))) r l
  have e0 : (⟨net.dst.first + r.val, by have := net.dst.fits; have := r.isLt; omega⟩ : Fin R) = r := Fin.ext (by simp [h0])
  rw [e0, hG] at e1
  rw [hm, Layout.block_apply] at e2
  rw [← e1, hg, Layout.block_apply]
  unfold part
  rw [e2]
  unfold sentArray
  congr 1
  funext a
  apply Fin.ext
  match a with
  | ⟨0, _⟩ =>
    exact (place_at c k _).symm
  | ⟨1, _⟩ => rfl
  | ⟨2, _⟩ => rfl

end Cert.Scatter

end
-- ==== Proof.UpDw.Reference.lean ====
/-
The two results of the reference of w_up's gradient at an index, over the extended reals.
-/
module

public import proofs.«01_k».proof.Proof.Grad
public import proofs.«01_k».proof.Proof.Sent
public import proofs.«01_k».proof.Proof.Gen.UpDwReferenceIdeal.Run

@[expose] public section

noncomputable section

namespace Cert.UpDwScatter.Reference

open Cert.UpDwReferenceIdeal Cert.UpDwReferenceIdeal.Gen Cert.Gather Cert.Scatter
open Idealize.ShloMosaic Idealize.ShloMosaic.TcCoe Idealize.SL.Sem

variable (m : (ℓ : Loc nD τ sig) → Buf (Elt Ideal) ℓ)

/-- The parts of the gradient, from the whole activations and gradients. -/
abbrev productOf (a : S16384x4352.Idx → EReal) (dy : S34816x11264.Idx → EReal) : S64x2048x1408.Idx → EReal :=
  gradParts (P := 2048) (K := 4352) (C := 1408) rfl rfl rfl a dy

/-- The products of the reference. -/
def product : S64x2048x1408.Idx → EReal := productOf (m ((0 : Dev nD).tc.loc main_arg0)) (m ((0 : Dev nD).tc.loc main_arg1))
/-- The received arrays of the reference. -/
def received : S64x1024x1408.Idx → EReal := sentArray (R := 1024) 0 (by decide) (m ((0 : Dev nD).tc.loc main_arg2))

set_option maxHeartbeats 1000000 in
/-- The reference's first result at an index. -/
theorem product_eq (a : S16384x4352.Idx → EReal) (dy : S34816x11264.Idx → EReal) (j : S64x2048x1408.Idx) :
    shapeCast S64x2048x1408 (truncf (F := Ideal) (φ := .f32) .bf16 (transpose S8x8x2048x1408 [0, 1, 3, 2]
      (Host.dotGeneral dot_S8x4352x8x1408_S8x2048x4352_S8x8x1408x2048_1_2_23_1_0_0 none
        (shapeCast S8x4352x8x1408 (extf (F := Ideal) (φ := .bf16) .f32 dy bitsLt_bf16_f32) shapeCasts_S34816x11264_S8x4352x8x1408)
        (shapeCast S8x2048x4352 (extf (F := Ideal) (φ := .bf16) .f32 a bitsLt_bf16_f32) shapeCasts_S16384x4352_S8x2048x4352))
      transposes_S8x8x1408x2048_S8x8x2048x1408_0_1_3_2) bitsLt_bf16_f32) shapeCasts_S8x8x2048x1408_S64x2048x1408 j
      = productOf a dy j := by
  have e : productOf a dy j = ∑ k : Fin 4352, dy (ix2 (inBlock (R := 4352) (n := 34816) rfl (ownerOf (j 0)) k) (inBlock (R := 1408) (n := 11264) rfl (columnsOf (j 0)) (j 2)))
      * a (ix2 (inBlock (R := 2048) (n := 16384) rfl (ownerOf (j 0)) (j 1)) k) := Finset.sum_congr rfl fun k _ => mul_comm _ _
  rw [e]
  pointwise [inBlock, ownerOf, columnsOf]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v7) = product m
    ∧ r.2.mem ((0 : Dev nD).tc.loc main_v15) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.UpDwReferenceIdeal.Value.run (F := Ideal) m ρ)

end Cert.UpDwScatter.Reference

end
-- ==== Proof.UpDw.Agree.lean ====
/-
The kernel of w_up's gradient against its reference: each device ends with its parts of the reference's gradient and with
the rows the others sent it.
-/
module

public import proofs.«01_k».proof.Defs
public import proofs.«01_k».proof.Proof.UpDw.Product
public import proofs.«01_k».proof.Proof.UpDw.Reference
public import proofs.«01_k».proof.Proof.Gen.UpDwKernel

@[expose] public section

noncomputable section

namespace Cert.UpDwScatter

open Cert.Gather Cert.Scatter Idealize.ShloMosaic Idealize.ShloMosaic.TcCoe Idealize.SL.Sem

theorem algebraic : @algebraic_UpDwKernelIdeal_UpDwReferenceIdeal Cert.UpDwKernelIdeal.Gen.facts Cert.UpDwReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_parts rfl rfl rfl c _ _ _ _ _

/-- The kernel over the extended reals terminates with its arguments unchanged and every counter at zero. -/
theorem frame_ideal : @quiescent_UpDwKernelIdeal Cert.UpDwKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.UpDwKernel.Gen.facts Cert.UpDwKernelIdeal.Gen.facts in
/-- The two printed programs have the same kernel body. -/
theorem bodies_eq : UpDwKernel.defs₀ (F := Bits) = UpDwKernelIdeal.defs₀ (F := Bits) := by
  unfold UpDwKernel.defs₀ UpDwKernelIdeal.defs₀
  refine congrArg Defs.onTc (funext fun ℓ => funext fun x => ?_)
  match ℓ, x with
  | 0, (t, s) => rfl

attribute [local instance] Cert.UpDwKernel.Gen.facts Cert.UpDwKernelIdeal.Gen.facts in
/-- So they have the same table of bodies. -/
theorem tables_eq : UpDwKernel.defs (F := Bits) = UpDwKernelIdeal.defs (F := Bits) :=
  congrArg (Pipeline.defs (UpDwKernelIdeal.pcfgs (F := Bits))) bodies_eq

/-- The kernel on bits does too: its program is the same text. -/
theorem frame_bits : @quiescent_UpDwKernel Cert.UpDwKernel.Gen.facts := fun m g _ => by
  show θ_run (UpDwKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_UpDwReferenceIdeal Cert.UpDwReferenceIdeal.Gen.facts := fun m g _ =>
  (θ_run _ _ _).mono (fun r h => ⟨fun c => (h c).2.2, sem_eq_zero_of_no_sems (by decide) r.2⟩) (Cert.UpDwReferenceIdeal.Value.run (F := Ideal) m g)

end Cert.UpDwScatter

end
-- ==== Proof.UpDa.Names.lean ====
/-
The names the kernel of the gradient of w_up's input uses for the scatter: its arrays, its semaphores, the pieces it addresses and the
devices it sends to.
-/
module

public import proofs.«01_k».proof.Proof.ScatterStages
public import proofs.«01_k».proof.Proof.Gen.UpDaKernelIdeal
public import proofs.«01_k».proof.Proof.Gen.UpDaKernelIdeal.Launch

@[expose] public section

noncomputable section

namespace Cert.UpDaScatter

open Cert.UpDaKernelIdeal Cert.UpDaKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 1024 are scattered. -/
abbrev srcStack : Stack sig 2048 1024 1408 where
  arr := Memref.whole main_arg2
  first := 1024
  fits := by decide
  squeezes := squeezes_S1x1024x1408_S1024x1408
  arr_set := View.set_whole _

/-- The pieces received. -/
abbrev dstStack : Stack sig 1024 1024 1408 where
  arr := Memref.whole main_v1_1
  first := 0
  fits := by decide
  squeezes := squeezes_S1x1024x1408_S1024x1408
  arr_set := View.set_whole _

/-- The scatter of the other half of the next gradient, fused into the product. -/
abbrev net : Scat sig 2048 1024 1408 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 1024, 0] ∧ k0_off2 c = ![(net.wires.peer 0 c).val, 1024, 0] ∧ k0_off3 c = ![(net.wires.peer 1 c).val, 1024, 0] ∧ k0_off4 c = ![(net.wires.peer 2 c).val, 1024, 0]
    ∧ k0_off5 c = ![(net.wires.peer 3 c).val, 1024, 0] ∧ k0_off6 c = ![(net.wires.peer 4 c).val, 1024, 0] ∧ k0_off7 c = ![(net.wires.peer 5 c).val, 1024, 0] ∧ k0_off8 c = ![(net.wires.peer 6 c).val, 1024, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond5 (grid0.coords t) = 1#1 ↔ ¬t.val + 1 < 64 := by revert t; decide

/-! ## The position of a grid point along the contracted axis -/

theorem opens (t : Fin cfg0.N) : Scalar.cmpi .ne (Scalar.extui (Scalar.cmpi .eq (BitVec.ofNat 32 (grid0.coords t 2).val) 0#32)) 0#32 = 1#1 ↔ t.val % 8 = 0 := by
  revert t; decide
theorem adds (t : Fin cfg0.N) : Scalar.cmpi .ne (Scalar.extui (Scalar.cmpi .sgt (BitVec.ofNat 32 (grid0.coords t 2).val) 0#32)) 0#32 = 1#1 ↔ ¬t.val % 8 = 0 := by
  revert t; decide
theorem closes (t : Fin cfg0.N) : k0_cond4 (grid0.coords t) = 1#1 ↔ t.val % 8 = 7 := by revert t; decide

end Cert.UpDaScatter

end
-- ==== Proof.UpDa.Walk.lean ====
/-
One grid point of the kernel of the gradient of w_up's input: what its body does to what a device holds.

At the first point the body starts the scatter, at the last it finishes it. At every point it multiplies the two blocks it was
given into the accumulator: a new sum at the first point along the contracted axis, the sum so far at the others. At the last
point along that axis it rounds the sum and stores it.
-/
module

public import proofs.«01_k».proof.Proof.UpDa.Names
public import proofs.«01_k».proof.Proof.Access
public import proofs.«01_k».proof.Proof.Gen.UpDaKernelIdeal.Skeleton
public import proofs.«01_k».proof.Proof.Gen.UpDaKernelIdeal.Points

@[expose] public section

noncomputable section

namespace Cert.UpDaScatter

open Cert.UpDaKernelIdeal Cert.UpDaKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

/-- The accumulator after grid point `n`, from the two blocks and what it held. -/
def summed (n : ℕ) (X0 : S1088x1408.Idx → Elt F .bf16) (X1 : S1x1024x1408.Idx → Elt F .bf16) (A : S1088x1024.Idx → Elt F .f32) : S1088x1024.Idx → Elt F .f32 :=
  if n % 8 = 0 then k0_pay2 X0 X1 else k0_pay3 X0 X1 A

/-- The output's buffer after grid point `n`: the rounded sum at the last point along the contracted axis, otherwise what it
    was. -/
def stored (n : ℕ) (S : S1088x1024.Idx → Elt F .f32) (X2 : S1088x1024.Idx → Elt F .bf16) : S1088x1024.Idx → Elt F .bf16 :=
  if n % 8 = 7 then k0_pay4 S else X2

set_option maxRecDepth 65536 in
/-- One grid point, whichever it is: the scatter goes on, and the product's block is added up. -/
theorem walk (t : Fin cfg0.N) (c : Dev nD)
    (M0 : Memref sig .tc .vmem S1088x1408 .bf16) (hM0 : M0.IsWhole) (M1 : Memref sig .tc .vmem S1x1024x1408 .bf16) (hM1 : M1.IsWhole)
    (M2 : Memref sig .tc .vmem S1088x1024 .bf16) (hM2 : M2.IsWhole)
    (X0 : S1088x1408.Idx → Elt F .bf16) (X1 : S1x1024x1408.Idx → Elt F .bf16) (X2 : S1088x1024.Idx → Elt F .bf16) (A : S1088x1024.Idx → Elt F .f32)
    (Q : PUnit → sProp 𝕄) :
    iprop(holds net m 64 t.val c ∗ owns (th c) M0 fullShare X0 ∗ owns (th c) M1 fullShare X1 ∗ owns (th c) M2 fullShare X2
        ∗ owns (th c) (Memref.whole cc0_scratch0) fullShare A
        ∗ ((holds net m 64 (t.val + 1) c ∗ owns (th c) M0 fullShare X0 ∗ owns (th c) M1 fullShare X1
              ∗ owns (th c) M2 fullShare (stored t.val (summed t.val X0 X1 A) X2)
              ∗ owns (th c) (Memref.whole cc0_scratch0) fullShare (summed t.val X0 X1 A)) -∗ Q ⟨⟩))
      ⊢ wp frame (wpE (defs₀ (F := F)) noVariants (th c) none) Set.univ
        (cc0_w_up_da_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 64 := t.isLt
  simp only [cc0_w_up_da_scatter_eq_skeleton, cc0_w_up_da_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  by_cases k0 : t.val % 8 = 0
  · have k3 : ¬t.val % 8 = 7 := by omega
    have h2 : ¬k0_cond5 (grid0.coords t) = 1#1 := fun h => by have := (finishes t).mp h; omega
    rw [holds_mid _ _ _ _ (Nat.succ_ne_zero _) (by omega)]
    simp only [dif_neg h2, dif_pos ((opens t).mpr k0), dif_neg (fun h => (adds t).mp h k0), dif_neg (fun h => k3 ((closes t).mp h)), summed, if_pos k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption
  by_cases k3 : t.val % 8 = 7
  · simp only [dif_neg (fun h => k0 ((opens t).mp h)), dif_pos ((adds t).mpr k0), dif_pos ((closes t).mpr k3), summed, if_neg k0, stored, if_pos k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    iapply (load_all (defs₀ (F := F)) noVariants c) $$ HA; iintro HA
    iapply (load_all (defs₀ (F := F)) noVariants c) $$ H2; iintro H2
    iapply (store_all (defs₀ (F := F)) noVariants c) $$ H2; iintro H2
    by_cases h2 : k0_cond5 (grid0.coords t) = 1#1
    · rw [holds_end _ _ _ _ (Nat.succ_ne_zero _) ((finishes t).mp h2)]
      simp only [dif_pos h2, Prog.bind_op, Prog.bind_ret]
      iapply (scatter_finish net m (defs₀ (F := F)) noVariants c loc_sem
        ⟨gone_sem 0 _, gone_sem 1 _, gone_sem 2 _, gone_sem 3 _, gone_sem 4 _, gone_sem 5 _, gone_sem 6 _⟩
        ⟨come_sem 0 _, come_sem 1 _, come_sem 2 _, come_sem 3 _, come_sem 4 _, come_sem 5 _, come_sem 6 _⟩) $$ Hm; iintro Hm
      rw [wp_ret]; imodintro
      iapply Hk
      isplitl [Hm]; · iexact Hm
      isplitl [H0]; · iexact H0
      isplitl [H1]; · iexact H1
      isplitl [H2] <;> iassumption
    · rw [holds_mid _ _ _ _ (Nat.succ_ne_zero _) (not_not.mp fun h => h2 ((finishes t).mpr h))]
      simp only [dif_neg h2, Prog.bind_op, Prog.bind_ret]
      rw [wp_ret]; imodintro
      iapply Hk
      isplitl [Hm]; · iexact Hm
      isplitl [H0]; · iexact H0
      isplitl [H1]; · iexact H1
      isplitl [H2] <;> iassumption
  · have h2 : ¬k0_cond5 (grid0.coords t) = 1#1 := fun h => by have := (finishes t).mp h; omega
    rw [holds_mid _ _ _ _ (Nat.succ_ne_zero _) (by omega)]
    simp only [dif_neg h2, dif_neg (fun h => k0 ((opens t).mp h)), dif_pos ((adds t).mpr k0), dif_neg (fun h => k3 ((closes t).mp h)), summed, if_neg k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption

end Cert.UpDaScatter

end
-- ==== Proof.UpDa.Run.lean ====
/-
The run of the fused kernel on the eight devices, for any float values: what each device holds from grid point to grid
point, the launch, and the arrays at the end.
-/
module

public import proofs.«01_k».proof.Proof.UpDa.Walk
public import proofs.«01_k».proof.Proof.Begin
public import proofs.«01_k».proof.Proof.Accum
public import proofs.«01_k».proof.Proof.Gen.UpDaKernelIdeal.Frame

@[expose] public section

noncomputable section

namespace Cert.UpDaScatter

open Cert.UpDaKernelIdeal Cert.UpDaKernelIdeal.Gen Cert.Scatter Cert.Wires
open Cert.Gather (running running_step carried carried_start carried_end)
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- Grid point `n`. -/
def pt (n : ℕ) : Fin cfg0.N := ⟨n % 64, Nat.mod_lt _ (by decide)⟩
theorem pt_val (t : Fin cfg0.N) : pt t.val = t := Fin.ext (Nat.mod_eq_of_lt t.isLt)

/-- What grid point `n` makes of the accumulator. -/
def step (c : Dev nD) (n : ℕ) (A : S1088x1024.Idx → Elt F .f32) : S1088x1024.Idx → Elt F .f32 :=
  summed n (iblk m c 0 (pt n)) (iblk m c 1 (pt n)) A

/-- What the accumulator starts from: anything would do. -/
def blank (c : Dev nD) : S1088x1024.Idx → Elt F .f32 := k0_pay2 (iblk m c 0 (pt 0)) (iblk m c 1 (pt 0))

/-- The accumulator after grid point `n`. -/
def total (c : Dev nD) (n : ℕ) : S1088x1024.Idx → Elt F .f32 := running (step m c) (blank m c) n

theorem total_step (c : Dev nD) (t : Fin cfg0.N) (A : S1088x1024.Idx → Elt F .f32) (hA : ∀ k, t.val = k + 1 → A = running (step m c) (blank m c) k) :
    summed t.val (iblk m c 0 t) (iblk m c 1 t) A = total m c t.val := by
  have h := running_step (step m c) (blank m c) (fun _ => rfl) t.val A hA
  unfold step at h
  rw [pt_val] at h
  exact h

/-- What device `c` holds before grid point `n`: its part of the scatter, and the accumulator. -/
def phi (n : ℕ) (c : Dev nD) : sProp 𝕄 :=
  iprop(stateAt net m 64 n c ∗ carried (Memref.whole cc0_scratch0) c (step m c) (blank m c) n)

/-- The proof data: the inputs' blocks stay, the output's block is the sum so far, rounded. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => k0_pay4 (total m c t.val)
  Φ t := phi m t.val c
  q _ := fullShare
  owed t := dues net.wires (owedAt 64 t.val) c

/-- What the body leaves in the output's buffer: the sum at the last point along the contracted axis, and what was there at
    the others. -/
def leaves (c : Dev nD) (t : Fin cfg0.N) : sProp 𝕄 :=
  if t.val % 8 = 7 then owns (th c) (st0_2 t) fullShare (k0_pay4 (total m c t.val))
  else iprop(∃ d, owns (th c) (st0_2 t) fullShare ((dats m 0 c).before 2 t d))

theorem leaves_stored (c : Dev nD) (t : Fin cfg0.N) (d) :
    (owns (th c) (st0_2 t) fullShare (stored t.val (total m c t.val) ((dats m 0 c).before 2 t d)) : sProp 𝕄) ⊢ leaves m c t := by
  unfold leaves stored
  split
  · exact .rfl
  · iintro H; iexists d; iexact H

/-- The body at each grid point. -/
theorem body (c : Dev nD) (t : Fin cfg0.N) :
    iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t) ∗ leaves m c t) := by
  unfold phi carried
  iintro ⟨⟨Hs, %A, %hA, HA⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2) A)
  rw [total_step m c t A hA]
  unfold holds holding
  isplitl [Hs HO]
  · isplitl [Hs]; · iexact Hs
    iexact HO
  isplitl [H0]; · iexact H0
  isplitl [H1]; · iexact H1
  isplitl [H2]; · iexact H2
  isplitl [HA]; · iexact HA
  iintro ⟨⟨Hs, HO⟩, H0, H1, H2, HA⟩
  isplitl [Hs HA]
  · isplitl [Hs]; · iexact Hs
    iexists (total m c t.val)
    isplitr; · ipureintro; intro k hk; rw [Nat.succ.inj hk]; rfl
    iexact HA
  isplitl [HO]; · iapply (at_owes (dats m 0 c) t.succ fun _ => trivial); iexact HO
  isplitl [H0]; · iexact H0
  isplitl [H1]; · iexact H1
  iapply (leaves_stored m c t d2)
  iexact H2

theorem leaves_exact (c : Dev nD) (t : Fin cfg0.N) : leaves m c t ⊢ ((dats m 0 c).leavesExact 2 t : sProp 𝕄) := by
  unfold leaves Dat.leavesExact
  by_cases k3 : t.val % 8 = 7
  · have hi : cfg0.idle 2 (cfg0.grid.coords t) = false := by
      show (!(k0_cond4 (grid0.coords t) == 1#1)) = false
      rw [(closes t).mpr k3]; rfl
    rw [if_pos k3, hi]
    exact .rfl
  · have hi : cfg0.idle 2 (cfg0.grid.coords t) = true := by
      show (!(k0_cond4 (grid0.coords t) == 1#1)) = true
      rw [beq_eq_false_iff_ne.mpr fun e => k3 ((closes t).mp e)]; rfl
    have hf : (cfg0.win 2).flush t = false := Bool.eq_false_iff.mpr fun e => k3 ((flush0_2 t).mp e)
    rw [if_neg k3, hi, hf]

theorem body_obligation (c : Dev nD) : BodyObligation (dats m 0 c) (defs₀ (F := F)) noVariants () Set.univ := fun t => by
  rw [bigSep_W0]
  refine (body m c t).trans (wp_mono _ _ _ fun _ => sep_mono .rfl (sep_mono .rfl ?_))
  show _ ⊢ bigSep Finset.univ fun w : Fin 3 => (dats m 0 c).leavesExact w t
  rw [bigSep_W0]
  exact sep_mono .rfl (sep_mono .rfl (leaves_exact m c t))

/-! ## The launch -/

theorem phi_start (c : Dev nD) : iprop(before net m c ∗ Pipeline.scopedRest spec0 c) ⊢ (phi m 0 c : sProp 𝕄) := by
  rw [scopedRest0_eq]; unfold phi
  rw [show stateAt net m 64 0 c = before net m c from if_pos rfl]
  iintro ⟨H, Hr⟩
  isplitl [H]; · iexact H
  iapply (carried_start (Memref.whole cc0_scratch0) (View.set_whole _) c)
  iexact Hr

theorem phi_end (c : Dev nD) : (phi m 64 c : sProp 𝕄) ⊢ iprop(endOf net m c
    ∗ zeros (Elt F) net.wires c ∗ Pipeline.scopedRest spec0 c) := by
  rw [scopedRest0_eq]; unfold phi
  rw [show stateAt net m 64 64 c = after net m c from (if_neg (by decide)).trans (if_neg (by decide))]
  unfold after
  iintro ⟨⟨H, Hz⟩, Hr⟩
  isplitl [H]; · iexact H
  isplitl [Hz]; · iexact Hz
  iapply (carried_end (Memref.whole cc0_scratch0) (View.set_whole _) c)
  iexact Hr

/-- What the run says: on every device the inputs are unchanged, the product's array holds the rounded sums
    stored, piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.UpDaScatter

end
-- ==== Proof.UpDa.Product.lean ====
/-
The array the product of w_up's input's gradient ends in, over the extended reals: the rows of the gradient times the
transposed weight, the eight partial sums along the contracted axis added up.
-/
module

public import proofs.«01_k».proof.Proof.UpDa.Run
public import proofs.«01_k».proof.Proof.Grad
public import Idealize.ShloMosaic.Lib.Pipeline.ValueKit

@[expose] public section

noncomputable section

namespace Cert.UpDaScatter

open Cert.UpDaKernelIdeal Cert.UpDaKernelIdeal.Gen Cert.Gather Cert.Wires
open Idealize.ShloMosaic Idealize.ShloMosaic.TcCoe

/-- The product of two blocks, at an index. -/
def times (X : S1088x1408.Idx → EReal) (W : S1x1024x1408.Idx → EReal) (y : S1088x1024.Idx) : EReal :=
  ∑ k : Fin 1408, X (ix2 (y 0) k) * W (ix3 0 (y 1) k)

theorem first_apply (X : S1088x1408.Idx → EReal) (W : S1x1024x1408.Idx → EReal) (y : S1088x1024.Idx) :
    k0_pay2 (F := Ideal) X W y = times X W y := by
  pointwise [k0_pay2, k0_pay1, times]

theorem next_apply (X : S1088x1408.Idx → EReal) (W : S1x1024x1408.Idx → EReal) (A : S1088x1024.Idx → EReal) (y : S1088x1024.Idx) :
    k0_pay3 (F := Ideal) X W A y = A y + times X W y := by
  pointwise [k0_pay3, k0_pay1, times]

theorem round_apply (A : S1088x1024.Idx → EReal) (y : S1088x1024.Idx) : k0_pay4 (F := Ideal) A y = A y := by
  pointwise [k0_pay4]

variable (m : (ℓ : Loc nD τ sig) → Buf (Elt Ideal) ℓ)

theorem index0 : ∀ t : Fin cfg0.N, win0_0.index t = ![t.val / 16, t.val % 8] := (by decide +kernel : ∀ t : Fin grid0.N, _)
theorem index1 : ∀ t : Fin cfg0.N, win0_1.index t = ![t.val % 8, t.val / 8 % 2, 0] := (by decide +kernel : ∀ t : Fin grid0.N, _)
theorem index2 : ∀ t : Fin cfg0.N, win0_2.index t = ![t.val / 16, t.val / 8 % 2] := (by decide +kernel : ∀ t : Fin grid0.N, _)

/-- The accumulator at the last point along the contracted axis is the sum of the eight partial products. -/
theorem total_sum (c : Dev nD) (q : ℕ) (y : S1088x1024.Idx) :
    total (F := Ideal) m c (8 * q + 7) y = ∑ j ∈ Finset.range 8, times (iblk m c 0 (pt (8 * q + j))) (iblk m c 1 (pt (8 * q + j))) y :=
  running_sum (by decide) (step m c) (blank m c) (fun n => times (iblk m c 0 (pt n)) (iblk m c 1 (pt n)))
    (fun n h X x => by
      show summed (F := Ideal) n _ _ X x = _
      rw [show summed (F := Ideal) n (iblk m c 0 (pt n)) (iblk m c 1 (pt n)) X = k0_pay2 (iblk m c 0 (pt n)) (iblk m c 1 (pt n)) from if_pos h]; exact first_apply _ _ _)
    (fun n h X x => by
      show summed (F := Ideal) n _ _ X x = _
      rw [show summed (F := Ideal) n (iblk m c 0 (pt n)) (iblk m c 1 (pt n)) X = k0_pay3 (iblk m c 0 (pt n)) (iblk m c 1 (pt n)) X from if_neg h]; exact next_apply _ _ _ _)
    q y 7 (by decide)

set_option maxHeartbeats 1000000 in
/-- The product's array after the last grid point. -/
theorem product_array (c : Dev nD) : (dats m 0 c).arrAt 2 cfg0.N
    = Cert.Scatter.inputGrad (N := 4352) (P := 2048) (C := 1408) (C' := 11264) rfl (m ((c : Thread nD τ).loc main_arg0)) (m ((c : Thread nD τ).loc main_arg1)) := by
  refine (dats m 0 c).arrAt_eq_of_covers 2 _ (by decide +kernel) fun t hf y => ?_
  have k3 : t.val % 8 = 7 := (flush0_2 t).mp hf
  blk_simp
  show k0_pay4 (F := Ideal) (total m c t.val) y = _
  rw [round_apply, show t.val = 8 * (t.val / 8) + 7 by omega, total_sum]
  unfold Cert.Scatter.inputGrad
  refine sum_blocks (tk := 1408) rfl _ _ fun j => Finset.sum_congr rfl fun k _ => ?_
  have hs : (pt (8 * (t.val / 8) + j.val)).val = 8 * (t.val / 8) + j.val := Nat.mod_eq_of_lt (by have h : t.val < 64 := t.isLt; have := j.isLt; show 8 * (t.val / 8) + j.val < 64; omega)
  generalize pt (8 * (t.val / 8) + j.val) = s at hs ⊢
  blk_point [iblk, V, index0 s, index1 s, index2 t, Cert.Scatter.blockOf, Cert.Scatter.placeIn]
  all_goals
    first
      | show s.val % 8 * 1408 + k.val = k.val + 1408 * j.val
        omega
      | show s.val % 8 + 0 = (k.val + 1408 * j.val) / 1408
        omega
      | show k.val = (k.val + 1408 * j.val) % 1408
        omega

end Cert.UpDaScatter

end
-- ==== Proof.UpDa.Reference.lean ====
/-
The two results of the reference of the gradient of w_up's input at an index, over the extended reals.
-/
module

public import proofs.«01_k».proof.Proof.Grad
public import proofs.«01_k».proof.Proof.Sent
public import proofs.«01_k».proof.Proof.Gen.UpDaReferenceIdeal.Run

@[expose] public section

noncomputable section

namespace Cert.UpDaScatter.Reference

open Cert.UpDaReferenceIdeal Cert.UpDaReferenceIdeal.Gen Cert.Gather Cert.Scatter
open Idealize.ShloMosaic Idealize.ShloMosaic.TcCoe Idealize.SL.Sem

variable (m : (ℓ : Loc nD τ sig) → Buf (Elt Ideal) ℓ)

/-- The gradient of the input, from the whole gradient and the weight. -/
abbrev productOf (dy : S34816x11264.Idx → EReal) (w : S8x2048x1408.Idx → EReal) : S34816x2048.Idx → EReal :=
  inputGrad (N := 34816) (P := 2048) (C := 1408) rfl dy w

/-- The gradient of the reference. -/
def product : S34816x2048.Idx → EReal := productOf (m ((0 : Dev nD).tc.loc main_arg0)) (m ((0 : Dev nD).tc.loc main_arg1))
/-- The received arrays of the reference. -/
def received : S64x1024x1408.Idx → EReal := sentArray (R := 1024) 1024 (by decide) (m ((0 : Dev nD).tc.loc main_arg2))

set_option maxHeartbeats 1000000 in
/-- The reference's first result at an index. -/
theorem product_eq (dy : S34816x11264.Idx → EReal) (w : S8x2048x1408.Idx → EReal) (j : S34816x2048.Idx) :
    truncf (F := Ideal) (φ := .f32) .bf16 (Host.dotGeneral dot_S34816x11264_S11264x2048_S34816x2048_1_0_0_1_n_n none
        (extf (F := Ideal) (φ := .bf16) .f32 dy bitsLt_bf16_f32)
        (transpose S11264x2048 [1, 0] (extf (F := Ideal) (φ := .bf16) .f32
          (shapeCast S2048x11264 (transpose S2048x8x1408 [1, 0, 2] w transposes_S8x2048x1408_S2048x8x1408_1_0_2) shapeCasts_S2048x8x1408_S2048x11264)
          bitsLt_bf16_f32) transposes_S2048x11264_S11264x2048_1_0)) bitsLt_bf16_f32 j
      = productOf dy w j := by
  pointwise [inputGrad, blockOf, placeIn]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v6) = product m
    ∧ r.2.mem ((0 : Dev nD).tc.loc main_v14) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.UpDaReferenceIdeal.Value.run (F := Ideal) m ρ)

end Cert.UpDaScatter.Reference

end
-- ==== Proof.UpDa.Agree.lean ====
/-
The kernel of the gradient of w_up's input against its reference: each device ends with its rows of the reference's gradient and with
the rows the others sent it.
-/
module

public import proofs.«01_k».proof.Defs
public import proofs.«01_k».proof.Proof.UpDa.Product
public import proofs.«01_k».proof.Proof.UpDa.Reference
public import proofs.«01_k».proof.Proof.Gen.UpDaKernel

@[expose] public section

noncomputable section

namespace Cert.UpDaScatter

open Cert.Gather Cert.Scatter Idealize.ShloMosaic Idealize.ShloMosaic.TcCoe Idealize.SL.Sem

theorem algebraic : @algebraic_UpDaKernelIdeal_UpDaReferenceIdeal Cert.UpDaKernelIdeal.Gen.facts Cert.UpDaReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_rows rfl c _ _ _ _

/-- The kernel over the extended reals terminates with its arguments unchanged and every counter at zero. -/
theorem frame_ideal : @quiescent_UpDaKernelIdeal Cert.UpDaKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.UpDaKernel.Gen.facts Cert.UpDaKernelIdeal.Gen.facts in
/-- The two printed programs have the same kernel body. -/
theorem bodies_eq : UpDaKernel.defs₀ (F := Bits) = UpDaKernelIdeal.defs₀ (F := Bits) := by
  unfold UpDaKernel.defs₀ UpDaKernelIdeal.defs₀
  refine congrArg Defs.onTc (funext fun ℓ => funext fun x => ?_)
  match ℓ, x with
  | 0, (t, s) => rfl

attribute [local instance] Cert.UpDaKernel.Gen.facts Cert.UpDaKernelIdeal.Gen.facts in
/-- So they have the same table of bodies. -/
theorem tables_eq : UpDaKernel.defs (F := Bits) = UpDaKernelIdeal.defs (F := Bits) :=
  congrArg (Pipeline.defs (UpDaKernelIdeal.pcfgs (F := Bits))) bodies_eq

/-- The kernel on bits does too: its program is the same text. -/
theorem frame_bits : @quiescent_UpDaKernel Cert.UpDaKernel.Gen.facts := fun m g _ => by
  show θ_run (UpDaKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_UpDaReferenceIdeal Cert.UpDaReferenceIdeal.Gen.facts := fun m g _ =>
  (θ_run _ _ _).mono (fun r h => ⟨fun c => (h c).2.2, sem_eq_zero_of_no_sems (by decide) r.2⟩) (Cert.UpDaReferenceIdeal.Value.run (F := Ideal) m g)

end Cert.UpDaScatter

end
-- ==== Proof.DownDw.Names.lean ====
/-
The names the kernel of w_down's gradient uses for the scatter: its arrays, its semaphores, the pieces it addresses and the
devices it sends to.
-/
module

public import proofs.«01_k».proof.Proof.ScatterStages
public import proofs.«01_k».proof.Proof.Gen.DownDwKernelIdeal
public import proofs.«01_k».proof.Proof.Gen.DownDwKernelIdeal.Launch

@[expose] public section

noncomputable section

namespace Cert.DownDwScatter

open Cert.DownDwKernelIdeal Cert.DownDwKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 0 are scattered. -/
abbrev srcStack : Stack sig 704 352 2048 where
  arr := Memref.whole main_arg2
  first := 0
  fits := by decide
  squeezes := squeezes_S1x352x2048_S352x2048
  arr_set := View.set_whole _

/-- The pieces received. -/
abbrev dstStack : Stack sig 352 352 2048 where
  arr := Memref.whole main_v1_1
  first := 0
  fits := by decide
  squeezes := squeezes_S1x352x2048_S352x2048
  arr_set := View.set_whole _

/-- The scatter of half the next gradient, fused into the product. -/
abbrev net : Scat sig 704 352 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond5 (grid0.coords t) = 1#1 ↔ ¬t.val + 1 < 16 := by revert t; decide

/-! ## The position of a grid point along the contracted axis -/

theorem opens (t : Fin cfg0.N) : Scalar.cmpi .ne (Scalar.extui (Scalar.cmpi .eq (BitVec.ofNat 32 (grid0.coords t 2).val) 0#32)) 0#32 = 1#1 ↔ t.val % 2 = 0 := by
  revert t; decide
theorem adds (t : Fin cfg0.N) : Scalar.cmpi .ne (Scalar.extui (Scalar.cmpi .sgt (BitVec.ofNat 32 (grid0.coords t 2).val) 0#32)) 0#32 = 1#1 ↔ ¬t.val % 2 = 0 := by
  revert t; decide
theorem closes (t : Fin cfg0.N) : k0_cond4 (grid0.coords t) = 1#1 ↔ t.val % 2 = 1 := by revert t; decide

end Cert.DownDwScatter

end
-- ==== Proof.DownDw.Walk.lean ====
/-
One grid point of the kernel of w_down's gradient: what its body does to what a device holds.

At the first point the body starts the scatter, at the last it finishes it. At every point it multiplies the two blocks it was
given into the accumulator: a new sum at the first point along the contracted axis, the sum so far at the other. At the last
point along that axis it rounds the sum and stores it.
-/
module

public import proofs.«01_k».proof.Proof.DownDw.Names
public import proofs.«01_k».proof.Proof.Access
public import proofs.«01_k».proof.Proof.Gen.DownDwKernelIdeal.Skeleton
public import proofs.«01_k».proof.Proof.Gen.DownDwKernelIdeal.Points

@[expose] public section

noncomputable section

namespace Cert.DownDwScatter

open Cert.DownDwKernelIdeal Cert.DownDwKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

/-- The accumulator after grid point `n`, from the two blocks and what it held. -/
def summed (n : ℕ) (X0 : S1408x2176.Idx → Elt F .bf16) (X1 : S2176x1024.Idx → Elt F .f32) (A : S1408x1024.Idx → Elt F .f32) : S1408x1024.Idx → Elt F .f32 :=
  if n % 2 = 0 then k0_pay2 X0 X1 else k0_pay3 X0 X1 A

/-- The output's buffer after grid point `n`: the rounded sum at the last point along the contracted axis, otherwise what it
    was. -/
def stored (n : ℕ) (S : S1408x1024.Idx → Elt F .f32) (X2 : S1408x1024.Idx → Elt F .bf16) : S1408x1024.Idx → Elt F .bf16 :=
  if n % 2 = 1 then k0_pay4 S else X2

set_option maxRecDepth 65536 in
/-- One grid point, whichever it is: the scatter goes on, and the product's block is added up. -/
theorem walk (t : Fin cfg0.N) (c : Dev nD)
    (M0 : Memref sig .tc .vmem S1408x2176 .bf16) (hM0 : M0.IsWhole) (M1 : Memref sig .tc .vmem S2176x1024 .f32) (hM1 : M1.IsWhole)
    (M2 : Memref sig .tc .vmem S1408x1024 .bf16) (hM2 : M2.IsWhole)
    (X0 : S1408x2176.Idx → Elt F .bf16) (X1 : S2176x1024.Idx → Elt F .f32) (X2 : S1408x1024.Idx → Elt F .bf16) (A : S1408x1024.Idx → Elt F .f32)
    (Q : PUnit → sProp 𝕄) :
    iprop(holds net m 16 t.val c ∗ owns (th c) M0 fullShare X0 ∗ owns (th c) M1 fullShare X1 ∗ owns (th c) M2 fullShare X2
        ∗ owns (th c) (Memref.whole cc0_scratch0) fullShare A
        ∗ ((holds net m 16 (t.val + 1) c ∗ owns (th c) M0 fullShare X0 ∗ owns (th c) M1 fullShare X1
              ∗ owns (th c) M2 fullShare (stored t.val (summed t.val X0 X1 A) X2)
              ∗ owns (th c) (Memref.whole cc0_scratch0) fullShare (summed t.val X0 X1 A)) -∗ Q ⟨⟩))
      ⊢ wp frame (wpE (defs₀ (F := F)) noVariants (th c) none) Set.univ
        (cc0_w_down_dw_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 16 := t.isLt
  simp only [cc0_w_down_dw_scatter_eq_skeleton, cc0_w_down_dw_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  by_cases k0 : t.val % 2 = 0
  · have k3 : ¬t.val % 2 = 1 := by omega
    have h2 : ¬k0_cond5 (grid0.coords t) = 1#1 := fun h => by have := (finishes t).mp h; omega
    rw [holds_mid _ _ _ _ (Nat.succ_ne_zero _) (by omega)]
    simp only [dif_neg h2, dif_pos ((opens t).mpr k0), dif_neg (fun h => (adds t).mp h k0), dif_neg (fun h => k3 ((closes t).mp h)), summed, if_pos k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption
  · have k3 : t.val % 2 = 1 := by omega
    simp only [dif_neg (fun h => k0 ((opens t).mp h)), dif_pos ((adds t).mpr k0), dif_pos ((closes t).mpr k3), summed, if_neg k0, stored, if_pos k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    iapply (load_all (defs₀ (F := F)) noVariants c) $$ HA; iintro HA
    iapply (load_all (defs₀ (F := F)) noVariants c) $$ H2; iintro H2
    iapply (store_all (defs₀ (F := F)) noVariants c) $$ H2; iintro H2
    by_cases h2 : k0_cond5 (grid0.coords t) = 1#1
    · rw [holds_end _ _ _ _ (Nat.succ_ne_zero _) ((finishes t).mp h2)]
      simp only [dif_pos h2, Prog.bind_op, Prog.bind_ret]
      iapply (scatter_finish net m (defs₀ (F := F)) noVariants c loc_sem
        ⟨gone_sem 0 _, gone_sem 1 _, gone_sem 2 _, gone_sem 3 _, gone_sem 4 _, gone_sem 5 _, gone_sem 6 _⟩
        ⟨come_sem 0 _, come_sem 1 _, come_sem 2 _, come_sem 3 _, come_sem 4 _, come_sem 5 _, come_sem 6 _⟩) $$ Hm; iintro Hm
      rw [wp_ret]; imodintro
      iapply Hk
      isplitl [Hm]; · iexact Hm
      isplitl [H0]; · iexact H0
      isplitl [H1]; · iexact H1
      isplitl [H2] <;> iassumption
    · rw [holds_mid _ _ _ _ (Nat.succ_ne_zero _) (not_not.mp fun h => h2 ((finishes t).mpr h))]
      simp only [dif_neg h2, Prog.bind_op, Prog.bind_ret]
      rw [wp_ret]; imodintro
      iapply Hk
      isplitl [Hm]; · iexact Hm
      isplitl [H0]; · iexact H0
      isplitl [H1]; · iexact H1
      isplitl [H2] <;> iassumption

end Cert.DownDwScatter

end
-- ==== Proof.DownDw.Run.lean ====
/-
The run of the fused kernel on the eight devices, for any float values: what each device holds from grid point to grid
point, the launch, and the arrays at the end.
-/
module

public import proofs.«01_k».proof.Proof.DownDw.Walk
public import proofs.«01_k».proof.Proof.Begin
public import proofs.«01_k».proof.Proof.Accum
public import proofs.«01_k».proof.Proof.Gen.DownDwKernelIdeal.Frame

@[expose] public section

noncomputable section

namespace Cert.DownDwScatter

open Cert.DownDwKernelIdeal Cert.DownDwKernelIdeal.Gen Cert.Scatter Cert.Wires
open Cert.Gather (running running_step carried carried_start carried_end)
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- Grid point `n`. -/
def pt (n : ℕ) : Fin cfg0.N := ⟨n % 16, Nat.mod_lt _ (by decide)⟩
theorem pt_val (t : Fin cfg0.N) : pt t.val = t := Fin.ext (Nat.mod_eq_of_lt t.isLt)

/-- What grid point `n` makes of the accumulator. -/
def step (c : Dev nD) (n : ℕ) (A : S1408x1024.Idx → Elt F .f32) : S1408x1024.Idx → Elt F .f32 :=
  summed n (iblk m c 0 (pt n)) (iblk m c 1 (pt n)) A

/-- What the accumulator starts from: anything would do. -/
def blank (c : Dev nD) : S1408x1024.Idx → Elt F .f32 := k0_pay2 (iblk m c 0 (pt 0)) (iblk m c 1 (pt 0))

/-- The accumulator after grid point `n`. -/
def total (c : Dev nD) (n : ℕ) : S1408x1024.Idx → Elt F .f32 := running (step m c) (blank m c) n

theorem total_step (c : Dev nD) (t : Fin cfg0.N) (A : S1408x1024.Idx → Elt F .f32) (hA : ∀ k, t.val = k + 1 → A = running (step m c) (blank m c) k) :
    summed t.val (iblk m c 0 t) (iblk m c 1 t) A = total m c t.val := by
  have h := running_step (step m c) (blank m c) (fun _ => rfl) t.val A hA
  unfold step at h
  rw [pt_val] at h
  exact h

/-- What device `c` holds before grid point `n`: its part of the scatter, and the accumulator. -/
def phi (n : ℕ) (c : Dev nD) : sProp 𝕄 :=
  iprop(stateAt net m 16 n c ∗ carried (Memref.whole cc0_scratch0) c (step m c) (blank m c) n)

/-- The proof data: the inputs' blocks stay, the output's block is the sum so far, rounded. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => k0_pay4 (total m c t.val)
  Φ t := phi m t.val c
  q _ := fullShare
  owed t := dues net.wires (owedAt 16 t.val) c

/-- What the body leaves in the output's buffer: the sum at the last point along the contracted axis, and what was there at
    the others. -/
def leaves (c : Dev nD) (t : Fin cfg0.N) : sProp 𝕄 :=
  if t.val % 2 = 1 then owns (th c) (st0_2 t) fullShare (k0_pay4 (total m c t.val))
  else iprop(∃ d, owns (th c) (st0_2 t) fullShare ((dats m 0 c).before 2 t d))

theorem leaves_stored (c : Dev nD) (t : Fin cfg0.N) (d) :
    (owns (th c) (st0_2 t) fullShare (stored t.val (total m c t.val) ((dats m 0 c).before 2 t d)) : sProp 𝕄) ⊢ leaves m c t := by
  unfold leaves stored
  split
  · exact .rfl
  · iintro H; iexists d; iexact H

/-- The body at each grid point. -/
theorem body (c : Dev nD) (t : Fin cfg0.N) :
    iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t) ∗ leaves m c t) := by
  unfold phi carried
  iintro ⟨⟨Hs, %A, %hA, HA⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2) A)
  rw [total_step m c t A hA]
  unfold holds holding
  isplitl [Hs HO]
  · isplitl [Hs]; · iexact Hs
    iexact HO
  isplitl [H0]; · iexact H0
  isplitl [H1]; · iexact H1
  isplitl [H2]; · iexact H2
  isplitl [HA]; · iexact HA
  iintro ⟨⟨Hs, HO⟩, H0, H1, H2, HA⟩
  isplitl [Hs HA]
  · isplitl [Hs]; · iexact Hs
    iexists (total m c t.val)
    isplitr; · ipureintro; intro k hk; rw [Nat.succ.inj hk]; rfl
    iexact HA
  isplitl [HO]; · iapply (at_owes (dats m 0 c) t.succ fun _ => trivial); iexact HO
  isplitl [H0]; · iexact H0
  isplitl [H1]; · iexact H1
  iapply (leaves_stored m c t d2)
  iexact H2

theorem leaves_exact (c : Dev nD) (t : Fin cfg0.N) : leaves m c t ⊢ ((dats m 0 c).leavesExact 2 t : sProp 𝕄) := by
  unfold leaves Dat.leavesExact
  by_cases k3 : t.val % 2 = 1
  · have hi : cfg0.idle 2 (cfg0.grid.coords t) = false := by
      show (!(k0_cond4 (grid0.coords t) == 1#1)) = false
      rw [(closes t).mpr k3]; rfl
    rw [if_pos k3, hi]
    exact .rfl
  · have hi : cfg0.idle 2 (cfg0.grid.coords t) = true := by
      show (!(k0_cond4 (grid0.coords t) == 1#1)) = true
      rw [beq_eq_false_iff_ne.mpr fun e => k3 ((closes t).mp e)]; rfl
    have hf : (cfg0.win 2).flush t = false := Bool.eq_false_iff.mpr fun e => k3 ((flush0_2 t).mp e)
    rw [if_neg k3, hi, hf]

theorem body_obligation (c : Dev nD) : BodyObligation (dats m 0 c) (defs₀ (F := F)) noVariants () Set.univ := fun t => by
  rw [bigSep_W0]
  refine (body m c t).trans (wp_mono _ _ _ fun _ => sep_mono .rfl (sep_mono .rfl ?_))
  show _ ⊢ bigSep Finset.univ fun w : Fin 3 => (dats m 0 c).leavesExact w t
  rw [bigSep_W0]
  exact sep_mono .rfl (sep_mono .rfl (leaves_exact m c t))

/-! ## The launch -/

theorem phi_start (c : Dev nD) : iprop(before net m c ∗ Pipeline.scopedRest spec0 c) ⊢ (phi m 0 c : sProp 𝕄) := by
  rw [scopedRest0_eq]; unfold phi
  rw [show stateAt net m 16 0 c = before net m c from if_pos rfl]
  iintro ⟨H, Hr⟩
  isplitl [H]; · iexact H
  iapply (carried_start (Memref.whole cc0_scratch0) (View.set_whole _) c)
  iexact Hr

theorem phi_end (c : Dev nD) : (phi m 16 c : sProp 𝕄) ⊢ iprop(endOf net m c
    ∗ zeros (Elt F) net.wires c ∗ Pipeline.scopedRest spec0 c) := by
  rw [scopedRest0_eq]; unfold phi
  rw [show stateAt net m 16 16 c = after net m c from (if_neg (by decide)).trans (if_neg (by decide))]
  unfold after
  iintro ⟨⟨H, Hz⟩, Hr⟩
  isplitl [H]; · iexact H
  isplitl [Hz]; · iexact Hz
  iapply (carried_end (Memref.whole cc0_scratch0) (View.set_whole _) c)
  iexact Hr

/-- What the run says: on every device the inputs are unchanged, the product's array holds the rounded sums
    stored, piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.DownDwScatter

end
-- ==== Proof.DownDw.Product.lean ====
/-
The array the product of w_down's gradient ends in, over the extended reals: the rows of the activations times the gradient,
the two partial sums along the contracted axis added up.
-/
module

public import proofs.«01_k».proof.Proof.DownDw.Run
public import proofs.«01_k».proof.Proof.Grad
public import Idealize.ShloMosaic.Lib.Pipeline.ValueKit

@[expose] public section

noncomputable section

namespace Cert.DownDwScatter

open Cert.DownDwKernelIdeal Cert.DownDwKernelIdeal.Gen Cert.Gather Cert.Wires
open Idealize.ShloMosaic Idealize.ShloMosaic.TcCoe

/-- The product of two blocks, at an index. -/
def times (X : S1408x2176.Idx → EReal) (W : S2176x1024.Idx → EReal) (y : S1408x1024.Idx) : EReal :=
  ∑ k : Fin 2176, X (ix2 (y 0) k) * W (ix2 k (y 1))

theorem first_apply (X : S1408x2176.Idx → EReal) (W : S2176x1024.Idx → EReal) (y : S1408x1024.Idx) :
    k0_pay2 (F := Ideal) X W y = times X W y := by
  pointwise [k0_pay2, k0_pay1, times]

theorem next_apply (X : S1408x2176.Idx → EReal) (W : S2176x1024.Idx → EReal) (A : S1408x1024.Idx → EReal) (y : S1408x1024.Idx) :
    k0_pay3 (F := Ideal) X W A y = A y + times X W y := by
  pointwise [k0_pay3, k0_pay1, times]

theorem round_apply (A : S1408x1024.Idx → EReal) (y : S1408x1024.Idx) : k0_pay4 (F := Ideal) A y = A y := by
  pointwise [k0_pay4]

variable (m : (ℓ : Loc nD τ sig) → Buf (Elt Ideal) ℓ)

theorem index0 : ∀ t : Fin cfg0.N, win0_0.index t = ![t.val / 4, t.val % 2] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The accumulator at the last point along the contracted axis is the sum of the two partial products. -/
theorem total_sum (c : Dev nD) (q : ℕ) (y : S1408x1024.Idx) :
    total (F := Ideal) m c (2 * q + 1) y = ∑ j ∈ Finset.range 2, times (iblk m c 0 (pt (2 * q + j))) (iblk m c 1 (pt (2 * q + j))) y :=
  running_sum (by decide) (step m c) (blank m c) (fun n => times (iblk m c 0 (pt n)) (iblk m c 1 (pt n)))
    (fun n h X x => by
      show summed (F := Ideal) n _ _ X x = _
      rw [show summed (F := Ideal) n (iblk m c 0 (pt n)) (iblk m c 1 (pt n)) X = k0_pay2 (iblk m c 0 (pt n)) (iblk m c 1 (pt n)) from if_pos h]; exact first_apply _ _ _)
    (fun n h X x => by
      show summed (F := Ideal) n _ _ X x = _
      rw [show summed (F := Ideal) n (iblk m c 0 (pt n)) (iblk m c 1 (pt n)) X = k0_pay3 (iblk m c 0 (pt n)) (iblk m c 1 (pt n)) X from if_neg h]; exact next_apply _ _ _ _)
    q y 1 (by decide)

set_option maxHeartbeats 1000000 in
/-- The product's array after the last grid point. -/
theorem product_array (c : Dev nD) : (dats m 0 c).arrAt 2 cfg0.N
    = fun j : S5632x2048.Idx => rowTimes (m ((c : Thread nD τ).loc main_arg0)) (m ((c : Thread nD τ).loc main_arg1)) (j 0) (j 1) := by
  refine (dats m 0 c).arrAt_eq_of_covers 2 _ (by decide +kernel) fun t hf y => ?_
  have k3 : t.val % 2 = 1 := (flush0_2 t).mp hf
  blk_simp
  show k0_pay4 (F := Ideal) (total m c t.val) y = _
  rw [round_apply, show t.val = 2 * (t.val / 2) + 1 by omega, total_sum]
  unfold rowTimes
  refine sum_blocks (tk := 2176) rfl _ _ fun j => Finset.sum_congr rfl fun k _ => ?_
  have hs : (pt (2 * (t.val / 2) + j.val)).val = 2 * (t.val / 2) + j.val := Nat.mod_eq_of_lt (by have h : t.val < 16 := t.isLt; have := j.isLt; show 2 * (t.val / 2) + j.val < 16; omega)
  generalize pt (2 * (t.val / 2) + j.val) = s at hs ⊢
  blk_point [iblk, V, index0 s, index1 s, index2 t]
  all_goals
    show s.val % 2 * 2176 + k.val = k.val + 2176 * j.val
    omega

end Cert.DownDwScatter

end
-- ==== Proof.DownDw.Reference.lean ====
/-
The two results of the reference of w_down's gradient at an index, over the extended reals.
-/
module

public import proofs.«01_k».proof.Proof.Grad
public import proofs.«01_k».proof.Proof.Sent
public import proofs.«01_k».proof.Proof.Gen.DownDwReferenceIdeal.Run

@[expose] public section

noncomputable section

namespace Cert.DownDwScatter.Reference

open Cert.DownDwReferenceIdeal Cert.DownDwReferenceIdeal.Gen Cert.Gather Cert.Scatter
open Idealize.ShloMosaic Idealize.ShloMosaic.TcCoe Idealize.SL.Sem

variable (m : (ℓ : Loc nD τ sig) → Buf (Elt Ideal) ℓ)

/-- The gradient of the weight, a block of rows for each device, from the whole activations and gradients. -/
abbrev productOf (a : S45056x4352.Idx → EReal) (dy : S34816x2048.Idx → EReal) : S45056x2048.Idx → EReal :=
  gradRows (P := 5632) (K := 4352) (C := 2048) rfl rfl a dy

/-- The gradient of the reference. -/
def product : S45056x2048.Idx → EReal := productOf (m ((0 : Dev nD).tc.loc main_arg0)) (m ((0 : Dev nD).tc.loc main_arg1))
/-- The received arrays of the reference. -/
def received : S64x352x2048.Idx → EReal := sentArray (R := 352) 0 (by decide) (m ((0 : Dev nD).tc.loc main_arg2))

set_option maxHeartbeats 1000000 in
/-- The reference's first result at an index. -/
theorem product_eq (a : S45056x4352.Idx → EReal) (dy : S34816x2048.Idx → EReal) (j : S45056x2048.Idx) :
    shapeCast S45056x2048 (truncf (F := Ideal) (φ := .f32) .bf16
      (Host.dotGeneral dot_S8x5632x4352_S8x4352x2048_S8x5632x2048_2_1_1_2_0_0 none
        (shapeCast S8x5632x4352 (extf (F := Ideal) (φ := .bf16) .f32 a bitsLt_bf16_f32) shapeCasts_S45056x4352_S8x5632x4352)
        (shapeCast S8x4352x2048 (extf (F := Ideal) (φ := .bf16) .f32 (truncf (F := Ideal) (φ := .f32) .bf16 dy bitsLt_bf16_f32) bitsLt_bf16_f32)
          shapeCasts_S34816x2048_S8x4352x2048)) bitsLt_bf16_f32) shapeCasts_S8x5632x2048_S45056x2048 j
      = productOf a dy j := by
  pointwise [gradRows, inBlock, blockOf]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v7) = product m
    ∧ r.2.mem ((0 : Dev nD).tc.loc main_v15) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.DownDwReferenceIdeal.Value.run (F := Ideal) m ρ)

end Cert.DownDwScatter.Reference

end
-- ==== Proof.DownDw.Agree.lean ====
/-
The kernel of w_down's gradient against its reference: each device ends with its block of the reference's gradient and with
the rows the others sent it.
-/
module

public import proofs.«01_k».proof.Defs
public import proofs.«01_k».proof.Proof.DownDw.Product
public import proofs.«01_k».proof.Proof.DownDw.Reference
public import proofs.«01_k».proof.Proof.Gen.DownDwKernel

@[expose] public section

noncomputable section

namespace Cert.DownDwScatter

open Cert.Gather Cert.Scatter Idealize.ShloMosaic Idealize.ShloMosaic.TcCoe Idealize.SL.Sem

theorem algebraic : @algebraic_DownDwKernelIdeal_DownDwReferenceIdeal Cert.DownDwKernelIdeal.Gen.facts Cert.DownDwReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_gradRows rfl rfl c _ _ _ _ _

/-- The kernel over the extended reals terminates with its arguments unchanged and every counter at zero. -/
theorem frame_ideal : @quiescent_DownDwKernelIdeal Cert.DownDwKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.DownDwKernel.Gen.facts Cert.DownDwKernelIdeal.Gen.facts in
/-- The two printed programs have the same kernel body. -/
theorem bodies_eq : DownDwKernel.defs₀ (F := Bits) = DownDwKernelIdeal.defs₀ (F := Bits) := by
  unfold DownDwKernel.defs₀ DownDwKernelIdeal.defs₀
  refine congrArg Defs.onTc (funext fun ℓ => funext fun x => ?_)
  match ℓ, x with
  | 0, (t, s) => rfl

attribute [local instance] Cert.DownDwKernel.Gen.facts Cert.DownDwKernelIdeal.Gen.facts in
/-- So they have the same table of bodies. -/
theorem tables_eq : DownDwKernel.defs (F := Bits) = DownDwKernelIdeal.defs (F := Bits) :=
  congrArg (Pipeline.defs (DownDwKernelIdeal.pcfgs (F := Bits))) bodies_eq

/-- The kernel on bits does too: its program is the same text. -/
theorem frame_bits : @quiescent_DownDwKernel Cert.DownDwKernel.Gen.facts := fun m g _ => by
  show θ_run (DownDwKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_DownDwReferenceIdeal Cert.DownDwReferenceIdeal.Gen.facts := fun m g _ =>
  (θ_run _ _ _).mono (fun r h => ⟨fun c => (h c).2.2, sem_eq_zero_of_no_sems (by decide) r.2⟩) (Cert.DownDwReferenceIdeal.Value.run (F := Ideal) m g)

end Cert.DownDwScatter

end
-- ==== Proof.DownDa.Names.lean ====
/-
The names the kernel of the gradient of w_down's input uses for the scatter: its arrays, its semaphores, the pieces it addresses and the
devices it sends to.
-/
module

public import proofs.«01_k».proof.Proof.ScatterStages
public import proofs.«01_k».proof.Proof.Gen.DownDaKernelIdeal
public import proofs.«01_k».proof.Proof.Gen.DownDaKernelIdeal.Launch

@[expose] public section

noncomputable section

namespace Cert.DownDaScatter

open Cert.DownDaKernelIdeal Cert.DownDaKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 352 are scattered. -/
abbrev srcStack : Stack sig 704 352 2048 where
  arr := Memref.whole main_arg2
  first := 352
  fits := by decide
  squeezes := squeezes_S1x352x2048_S352x2048
  arr_set := View.set_whole _

/-- The pieces received. -/
abbrev dstStack : Stack sig 352 352 2048 where
  arr := Memref.whole main_v1_1
  first := 0
  fits := by decide
  squeezes := squeezes_S1x352x2048_S352x2048
  arr_set := View.set_whole _

/-- The scatter of the other half of the next gradient, fused into the product. -/
abbrev net : Scat sig 704 352 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 352, 0] ∧ k0_off2 c = ![(net.wires.peer 0 c).val, 352, 0] ∧ k0_off3 c = ![(net.wires.peer 1 c).val, 352, 0] ∧ k0_off4 c = ![(net.wires.peer 2 c).val, 352, 0]
    ∧ k0_off5 c = ![(net.wires.peer 3 c).val, 352, 0] ∧ k0_off6 c = ![(net.wires.peer 4 c).val, 352, 0] ∧ k0_off7 c = ![(net.wires.peer 5 c).val, 352, 0] ∧ k0_off8 c = ![(net.wires.peer 6 c).val, 352, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 44 := by revert t; decide

end Cert.DownDaScatter

end
-- ==== Proof.DownDa.Walk.lean ====
/-
One grid point of the kernel of the gradient of w_down's input: what its body does to what a device holds.

At the first point the body starts the scatter, at the last it finishes it. At every point it multiplies the two blocks it was
given.
-/
module

public import proofs.«01_k».proof.Proof.DownDa.Names
public import proofs.«01_k».proof.Proof.Access
public import proofs.«01_k».proof.Proof.Gen.DownDaKernelIdeal.Skeleton
public import proofs.«01_k».proof.Proof.Gen.DownDaKernelIdeal.Points

@[expose] public section

noncomputable section

namespace Cert.DownDaScatter

open Cert.DownDaKernelIdeal Cert.DownDaKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- One grid point, whichever it is: the scatter goes on, and the product's block is left. -/
theorem walk (t : Fin cfg0.N) (c : Dev nD)
    (M0 : Memref sig .tc .vmem S1088x2048 .f32) (hM0 : M0.IsWhole) (M1 : Memref sig .tc .vmem S512x2048 .bf16) (hM1 : M1.IsWhole)
    (M2 : Memref sig .tc .vmem S1088x512 .bf16) (hM2 : M2.IsWhole)
    (X0 : S1088x2048.Idx → Elt F .f32) (X1 : S512x2048.Idx → Elt F .bf16) (X2 : S1088x512.Idx → Elt F .bf16) (Q : PUnit → sProp 𝕄) :
    iprop(holds net m 44 t.val c ∗ owns (th c) M0 fullShare X0 ∗ owns (th c) M1 fullShare X1 ∗ owns (th c) M2 fullShare X2
        ∗ ((holds net m 44 (t.val + 1) c ∗ owns (th c) M0 fullShare X0 ∗ owns (th c) M1 fullShare X1
              ∗ owns (th c) M2 fullShare (k0_pay1 X0 X1)) -∗ Q ⟨⟩))
      ⊢ wp frame (wpE (defs₀ (F := F)) noVariants (th c) none) Set.univ
        (cc0_w_down_da_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 44 := t.isLt
  simp only [cc0_w_down_da_scatter_eq_skeleton, cc0_w_down_da_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel,
      Prog.lift, Prog.bind_op, Prog.bind_ret, Prog.pure_eq_ret, wp_deviceId]
  refine at_first_of _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  simp only [Prog.bind_op, Prog.bind_ret]
  iintro ⟨Hm, H0, H1, H2, Hk⟩
  iapply (load_all (defs₀ (F := F)) noVariants c) $$ H0; iintro H0
  iapply (load_all (defs₀ (F := F)) noVariants c) $$ H1; iintro H1
  iapply (load_all (defs₀ (F := F)) noVariants c) $$ H2; iintro H2
  iapply (store_all (defs₀ (F := F)) noVariants c) $$ H2; iintro H2
  by_cases h2 : k0_cond2 (grid0.coords t) = 1#1
  · rw [holds_end _ _ _ _ (Nat.succ_ne_zero _) ((finishes t).mp h2)]
    simp only [dif_pos h2, Prog.bind_op, Prog.bind_ret]
    iapply (scatter_finish net m (defs₀ (F := F)) noVariants c loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    rw [wp_ret]; imodintro
    iapply Hk
    isplitl [Hm]; · iexact Hm
    isplitl [H0]; · iexact H0
    isplitl [H1] <;> iassumption
  · rw [holds_mid _ _ _ _ (Nat.succ_ne_zero _) (not_not.mp fun h => h2 ((finishes t).mpr h))]
    simp only [dif_neg h2, Prog.bind_op, Prog.bind_ret]
    rw [wp_ret]; imodintro
    iapply Hk
    isplitl [Hm]; · iexact Hm
    isplitl [H0]; · iexact H0
    isplitl [H1] <;> iassumption

end Cert.DownDaScatter

end
-- ==== Proof.DownDa.Run.lean ====
/-
The run of the fused kernel on the eight devices, for any float values: what each device holds from grid point to grid
point, the launch, and the arrays at the end.
-/
module

public import proofs.«01_k».proof.Proof.DownDa.Walk
public import proofs.«01_k».proof.Proof.Begin
public import proofs.«01_k».proof.Proof.Gen.DownDaKernelIdeal.Frame

@[expose] public section

noncomputable section

namespace Cert.DownDaScatter

open Cert.DownDaKernelIdeal Cert.DownDaKernelIdeal.Gen Cert.Scatter Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the scatter, and the scratch the product does not use. -/
def phi (n : ℕ) (c : Dev nD) : sProp 𝕄 :=
  iprop(stateAt net m 44 n c ∗ ∃ f : Buf (Elt F) ((c : Thread nD τ).loc cc0_scratch0), ((c : Thread nD τ).loc cc0_scratch0) ↦{fullShare} f)

/-- The product of the two blocks of grid point `t`, rounded. -/
def tile (c : Dev nD) (t : Fin cfg0.N) : S1088x512.Idx → Elt F .bf16 := k0_pay1 (iblk m c 0 t) (iblk m c 1 t)

/-- The proof data: the inputs' blocks stay, the output's block is the product. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => tile m c t
  Φ t := phi m t.val c
  q _ := fullShare
  owed t := dues net.wires (owedAt 44 t.val) c

/-- The body at each grid point. -/
theorem body_obligation (c : Dev nD) : BodyObligation (dats m 0 c) (defs₀ (F := F)) noVariants () Set.univ := fun t => by
  rw [bigSep_W0, bigSep_W0]
  show iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t)
        ∗ owns (th c) (st0_2 t) fullShare (tile m c t))
  unfold phi
  iintro ⟨⟨Hs, Hscr⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2))
  unfold holds holding
  isplitl [Hs HO]
  · isplitl [Hs]; · iexact Hs
    iexact HO
  isplitl [H0]; · iexact H0
  isplitl [H1]; · iexact H1
  isplitl [H2]; · iexact H2
  iintro ⟨⟨Hs, HO⟩, H0, H1, H2⟩
  isplitl [Hs Hscr]; · isplitl [Hs] <;> iassumption
  isplitl [HO]; · iapply (at_owes (dats m 0 c) t.succ fun _ => trivial); iexact HO
  isplitl [H0]; · iexact H0
  isplitl [H1]; · iexact H1
  iexact H2

/-! ## The launch -/

theorem phi_start (c : Dev nD) : iprop(before net m c ∗ Pipeline.scopedRest spec0 c) ⊢ (phi m 0 c : sProp 𝕄) := by
  rw [scopedRest0_eq]; unfold phi
  rw [show stateAt net m 44 0 c = before net m c from if_pos rfl]

theorem phi_end (c : Dev nD) : (phi m 44 c : sProp 𝕄) ⊢ iprop(endOf net m c
    ∗ zeros (Elt F) net.wires c ∗ Pipeline.scopedRest spec0 c) := by
  rw [scopedRest0_eq]; unfold phi
  rw [show stateAt net m 44 44 c = after net m c from (if_neg (by decide)).trans (if_neg (by decide))]
  unfold after
  iintro ⟨⟨H, Hz⟩, Hr⟩
  isplitl [H]; · iexact H
  isplitl [Hz] <;> iassumption

/-- What the run says: on every device the inputs are unchanged, the product's array holds every grid point's tile,
    piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.DownDaScatter

end
-- ==== Proof.DownDa.Product.lean ====
/-
The array the gradient of w_down's input ends in, over the extended reals: the rows of the gradient times the
rows of the weight.
-/
module

public import proofs.«01_k».proof.Proof.DownDa.Run
public import proofs.«01_k».proof.Proof.Grad
public import Idealize.ShloMosaic.Lib.Pipeline.ValueKit

@[expose] public section

noncomputable section

namespace Cert.DownDaScatter

open Cert.DownDaKernelIdeal Cert.DownDaKernelIdeal.Gen Cert.Gather Cert.Scatter Cert.Wires
open Idealize.ShloMosaic Idealize.ShloMosaic.TcCoe

/-- The product of two blocks, at an index. -/
theorem tile_apply (X : S1088x2048.Idx → EReal) (W : S512x2048.Idx → EReal) (y : S1088x512.Idx) :
    k0_pay1 (F := Ideal) X W y = ∑ k : Fin 2048, X (ix2 (y 0) k) * W (ix2 (y 1) k) := by
  pointwise [k0_pay1]

variable (m : (ℓ : Loc nD τ sig) → Buf (Elt Ideal) ℓ)

theorem index0 : ∀ t : Fin cfg0.N, win0_0.index t = ![t.val / 11, 0] := (by decide +kernel : ∀ t : Fin grid0.N, _)
theorem index1 : ∀ t : Fin cfg0.N, win0_1.index t = ![t.val % 11, 0] := (by decide +kernel : ∀ t : Fin grid0.N, _)
theorem index2 : ∀ t : Fin cfg0.N, win0_2.index t = ![t.val / 11, t.val % 11] := (by decide +kernel : ∀ t : Fin grid0.N, _)

set_option maxHeartbeats 1000000 in
/-- The product's array after the last grid point. -/
theorem product_array (c : Dev nD) : (dats m 0 c).arrAt 2 cfg0.N
    = fun j : S4352x5632.Idx => rowsBoth (m ((c : Thread nD τ).loc main_arg0)) (m ((c : Thread nD τ).loc main_arg1)) (j 0) (j 1) := by
  refine (dats m 0 c).arrAt_eq_of_covers 2 _ (by decide +kernel) fun t hf y => ?_
  blk_simp
  show k0_pay1 (F := Ideal) (iblk m c 0 t) (iblk m c 1 t) y = _
  rw [tile_apply]
  unfold rowsBoth
  blk_point [iblk, V, index0 t, index1 t, index2 t]

end Cert.DownDaScatter

end
-- ==== Proof.DownDa.Reference.lean ====
/-
The two results of the reference of the gradient of w_down's input at an index, over the extended reals.
-/
module

public import proofs.«01_k».proof.Proof.Grad
public import proofs.«01_k».proof.Proof.Sent
public import proofs.«01_k».proof.Proof.Gen.DownDaReferenceIdeal.Run

@[expose] public section

noncomputable section

namespace Cert.DownDaScatter.Reference

open Cert.DownDaReferenceIdeal Cert.DownDaReferenceIdeal.Gen Cert.Gather Cert.Scatter
open Idealize.ShloMosaic Idealize.ShloMosaic.TcCoe Idealize.SL.Sem

variable (m : (ℓ : Loc nD τ sig) → Buf (Elt Ideal) ℓ)

/-- The gradient of the input, from the whole gradient and the weight. -/
abbrev productOf (dy : S34816x2048.Idx → EReal) (w : S5632x2048.Idx → EReal) : S34816x5632.Idx → EReal := fun j => rowsBoth dy w (j 0) (j 1)

/-- The gradient of the reference. -/
def product : S34816x5632.Idx → EReal := productOf (m ((0 : Dev nD).tc.loc main_arg0)) (m ((0 : Dev nD).tc.loc main_arg1))
/-- The received arrays of the reference. -/
def received : S64x352x2048.Idx → EReal := sentArray (R := 352) 352 (by decide) (m ((0 : Dev nD).tc.loc main_arg2))

set_option maxHeartbeats 1000000 in
/-- The reference's first result at an index. -/
theorem product_eq (dy : S34816x2048.Idx → EReal) (w : S5632x2048.Idx → EReal) (j : S34816x5632.Idx) :
    truncf (F := Ideal) (φ := .f32) .bf16 (Host.dotGeneral dot_S34816x2048_S2048x5632_S34816x5632_1_0_0_1_n_n none
        (extf (F := Ideal) (φ := .bf16) .f32 (truncf (F := Ideal) (φ := .f32) .bf16 dy bitsLt_bf16_f32) bitsLt_bf16_f32)
        (transpose S2048x5632 [1, 0] (extf (F := Ideal) (φ := .bf16) .f32 w bitsLt_bf16_f32) transposes_S5632x2048_S2048x5632_1_0)) bitsLt_bf16_f32 j
      = productOf dy w j := by
  pointwise [rowsBoth]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v5) = product m
    ∧ r.2.mem ((0 : Dev nD).tc.loc main_v13) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.DownDaReferenceIdeal.Value.run (F := Ideal) m ρ)

end Cert.DownDaScatter.Reference

end
-- ==== Proof.DownDa.Agree.lean ====
/-
The kernel of the gradient of w_down's input against its reference: each device ends with its rows of the reference's gradient and with
the rows the others sent it.
-/
module

public import proofs.«01_k».proof.Defs
public import proofs.«01_k».proof.Proof.DownDa.Product
public import proofs.«01_k».proof.Proof.DownDa.Reference
public import proofs.«01_k».proof.Proof.Gen.DownDaKernel

@[expose] public section

noncomputable section

namespace Cert.DownDaScatter

open Cert.Gather Cert.Scatter Idealize.ShloMosaic Idealize.ShloMosaic.TcCoe Idealize.SL.Sem

theorem algebraic : @algebraic_DownDaKernelIdeal_DownDaReferenceIdeal Cert.DownDaKernelIdeal.Gen.facts Cert.DownDaReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_rowsBoth c _ _ _ _

/-- The kernel over the extended reals terminates with its arguments unchanged and every counter at zero. -/
theorem frame_ideal : @quiescent_DownDaKernelIdeal Cert.DownDaKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.DownDaKernel.Gen.facts Cert.DownDaKernelIdeal.Gen.facts in
/-- The two printed programs have the same kernel body. -/
theorem bodies_eq : DownDaKernel.defs₀ (F := Bits) = DownDaKernelIdeal.defs₀ (F := Bits) := by
  unfold DownDaKernel.defs₀ DownDaKernelIdeal.defs₀
  refine congrArg Defs.onTc (funext fun ℓ => funext fun x => ?_)
  match ℓ, x with
  | 0, (t, s) => rfl

attribute [local instance] Cert.DownDaKernel.Gen.facts Cert.DownDaKernelIdeal.Gen.facts in
/-- So they have the same table of bodies. -/
theorem tables_eq : DownDaKernel.defs (F := Bits) = DownDaKernelIdeal.defs (F := Bits) :=
  congrArg (Pipeline.defs (DownDaKernelIdeal.pcfgs (F := Bits))) bodies_eq

/-- The kernel on bits does too: its program is the same text. -/
theorem frame_bits : @quiescent_DownDaKernel Cert.DownDaKernel.Gen.facts := fun m g _ => by
  show θ_run (DownDaKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_DownDaReferenceIdeal Cert.DownDaReferenceIdeal.Gen.facts := fun m g _ =>
  (θ_run _ _ _).mono (fun r h => ⟨fun c => (h c).2.2, sem_eq_zero_of_no_sems (by decide) r.2⟩) (Cert.DownDaReferenceIdeal.Value.run (F := Ideal) m g)

end Cert.DownDaScatter

end
-- ==== Proof.InDw.Names.lean ====
/-
The names the kernel of w_in's or w_out's gradient uses for the scatter: its arrays, its semaphores, the pieces it addresses and the
devices it sends to.
-/
module

public import proofs.«01_k».proof.Proof.ScatterStages
public import proofs.«01_k».proof.Proof.Gen.InDwKernelIdeal
public import proofs.«01_k».proof.Proof.Gen.InDwKernelIdeal.Launch

@[expose] public section

noncomputable section

namespace Cert.InDwScatter

open Cert.InDwKernelIdeal Cert.InDwKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 0 are scattered. -/
abbrev srcStack : Stack sig 256 128 2048 where
  arr := Memref.whole main_arg2
  first := 0
  fits := by decide
  squeezes := squeezes_S1x128x2048_S128x2048
  arr_set := View.set_whole _

/-- The pieces received. -/
abbrev dstStack : Stack sig 128 128 2048 where
  arr := Memref.whole main_v1_1
  first := 0
  fits := by decide
  squeezes := squeezes_S1x128x2048_S128x2048
  arr_set := View.set_whole _

/-- The scatter of half the next gradient, fused into the product. -/
abbrev net : Scat sig 256 128 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond5 (grid0.coords t) = 1#1 ↔ ¬t.val + 1 < 8 := by revert t; decide

/-! ## The position of a grid point along the contracted axis -/

theorem opens (t : Fin cfg0.N) : Scalar.cmpi .ne (Scalar.extui (Scalar.cmpi .eq (BitVec.ofNat 32 (grid0.coords t 2).val) 0#32)) 0#32 = 1#1 ↔ t.val % 2 = 0 := by
  revert t; decide
theorem adds (t : Fin cfg0.N) : Scalar.cmpi .ne (Scalar.extui (Scalar.cmpi .sgt (BitVec.ofNat 32 (grid0.coords t 2).val) 0#32)) 0#32 = 1#1 ↔ ¬t.val % 2 = 0 := by
  revert t; decide
theorem closes (t : Fin cfg0.N) : k0_cond4 (grid0.coords t) = 1#1 ↔ t.val % 2 = 1 := by revert t; decide

end Cert.InDwScatter

end
-- ==== Proof.InDw.Walk.lean ====
/-
One grid point of the kernel of w_in's or w_out's gradient: what its body does to what a device holds.

At the first point the body starts the scatter, at the last it finishes it. At every point it multiplies the two blocks it was
given into the accumulator: a new sum at the first point along the contracted axis, the sum so far at the other. At the last
point along that axis it rounds the sum and stores it.
-/
module

public import proofs.«01_k».proof.Proof.InDw.Names
public import proofs.«01_k».proof.Proof.Access
public import proofs.«01_k».proof.Proof.Gen.InDwKernelIdeal.Skeleton
public import proofs.«01_k».proof.Proof.Gen.InDwKernelIdeal.Points

@[expose] public section

noncomputable section

namespace Cert.InDwScatter

open Cert.InDwKernelIdeal Cert.InDwKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

/-- The accumulator after grid point `n`, from the two blocks and what it held. -/
def summed (n : ℕ) (X0 : S1024x2176.Idx → Elt F .bf16) (X1 : S2176x1024.Idx → Elt F .f32) (A : S1024x1024.Idx → Elt F .f32) : S1024x1024.Idx → Elt F .f32 :=
  if n % 2 = 0 then k0_pay2 X0 X1 else k0_pay3 X0 X1 A

/-- The output's buffer after grid point `n`: the rounded sum at the last point along the contracted axis, otherwise what it
    was. -/
def stored (n : ℕ) (S : S1024x1024.Idx → Elt F .f32) (X2 : S1024x1024.Idx → Elt F .bf16) : S1024x1024.Idx → Elt F .bf16 :=
  if n % 2 = 1 then k0_pay4 S else X2

set_option maxRecDepth 65536 in
/-- One grid point, whichever it is: the scatter goes on, and the product's block is added up. -/
theorem walk (t : Fin cfg0.N) (c : Dev nD)
    (M0 : Memref sig .tc .vmem S1024x2176 .bf16) (hM0 : M0.IsWhole) (M1 : Memref sig .tc .vmem S2176x1024 .f32) (hM1 : M1.IsWhole)
    (M2 : Memref sig .tc .vmem S1024x1024 .bf16) (hM2 : M2.IsWhole)
    (X0 : S1024x2176.Idx → Elt F .bf16) (X1 : S2176x1024.Idx → Elt F .f32) (X2 : S1024x1024.Idx → Elt F .bf16) (A : S1024x1024.Idx → Elt F .f32)
    (Q : PUnit → sProp 𝕄) :
    iprop(holds net m 8 t.val c ∗ owns (th c) M0 fullShare X0 ∗ owns (th c) M1 fullShare X1 ∗ owns (th c) M2 fullShare X2
        ∗ owns (th c) (Memref.whole cc0_scratch0) fullShare A
        ∗ ((holds net m 8 (t.val + 1) c ∗ owns (th c) M0 fullShare X0 ∗ owns (th c) M1 fullShare X1
              ∗ owns (th c) M2 fullShare (stored t.val (summed t.val X0 X1 A) X2)
              ∗ owns (th c) (Memref.whole cc0_scratch0) fullShare (summed t.val X0 X1 A)) -∗ Q ⟨⟩))
      ⊢ wp frame (wpE (defs₀ (F := F)) noVariants (th c) none) Set.univ
        (cc0_w_in_dw_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 8 := t.isLt
  simp only [cc0_w_in_dw_scatter_eq_skeleton, cc0_w_in_dw_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  by_cases k0 : t.val % 2 = 0
  · have k3 : ¬t.val % 2 = 1 := by omega
    have h2 : ¬k0_cond5 (grid0.coords t) = 1#1 := fun h => by have := (finishes t).mp h; omega
    rw [holds_mid _ _ _ _ (Nat.succ_ne_zero _) (by omega)]
    simp only [dif_neg h2, dif_pos ((opens t).mpr k0), dif_neg (fun h => (adds t).mp h k0), dif_neg (fun h => k3 ((closes t).mp h)), summed, if_pos k0, stored, if_neg k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (store_all (defs₀ (F := F)) noVariants c) $$ HA; iintro HA
    rw [wp_ret]; imodintro
    iapply Hk
    isplitl [Hm]; · iexact Hm
    isplitl [H0]; · iexact H0
    isplitl [H1]; · iexact H1
    isplitl [H2] <;> iassumption
  · have k3 : t.val % 2 = 1 := by omega
    simp only [dif_neg (fun h => k0 ((opens t).mp h)), dif_pos ((adds t).mpr k0), dif_pos ((closes t).mpr k3), summed, if_neg k0, stored, if_pos k3, Prog.bind_op, Prog.bind_ret]
    iintro ⟨Hm, H0, H1, H2, HA, Hk⟩
    iapply (load_all (defs₀ (F := F)) noVariants c) $$ H0; iintro H0
    iapply (load_all (defs₀ (F := F)) noVariants c) $$ H1; iintro H1
    iapply (load_all (defs₀ (F := F)) noVariants c) $$ HA; iintro HA
    iapply (load_all (defs₀ (F := F)) noVariants c) $$ HA; iintro HA
    iapply (store_all (defs₀ (F := F)) noVariants c) $$ HA; iintro HA
    iapply (load_all (defs₀ (F := F)) noVariants c) $$ HA; iintro HA
    iapply (load_all (defs₀ (F := F)) noVariants c) $$ H2; iintro H2
    iapply (store_all (defs₀ (F := F)) noVariants c) $$ H2; iintro H2
    by_cases h2 : k0_cond5 (grid0.coords t) = 1#1
    · rw [holds_end _ _ _ _ (Nat.succ_ne_zero _) ((finishes t).mp h2)]
      simp only [dif_pos h2, Prog.bind_op, Prog.bind_ret]
      iapply (scatter_finish net m (defs₀ (F := F)) noVariants c loc_sem
        ⟨gone_sem 0 _, gone_sem 1 _, gone_sem 2 _, gone_sem 3 _, gone_sem 4 _, gone_sem 5 _, gone_sem 6 _⟩
        ⟨come_sem 0 _, come_sem 1 _, come_sem 2 _, come_sem 3 _, come_sem 4 _, come_sem 5 _, come_sem 6 _⟩) $$ Hm; iintro Hm
      rw [wp_ret]; imodintro
      iapply Hk
      isplitl [Hm]; · iexact Hm
      isplitl [H0]; · iexact H0
      isplitl [H1]; · iexact H1
      isplitl [H2] <;> iassumption
    · rw [holds_mid _ _ _ _ (Nat.succ_ne_zero _) (not_not.mp fun h => h2 ((finishes t).mpr h))]
      simp only [dif_neg h2, Prog.bind_op, Prog.bind_ret]
      rw [wp_ret]; imodintro
      iapply Hk
      isplitl [Hm]; · iexact Hm
      isplitl [H0]; · iexact H0
      isplitl [H1]; · iexact H1
      isplitl [H2] <;> iassumption

end Cert.InDwScatter

end
-- ==== Proof.InDw.Run.lean ====
/-
The run of the fused kernel on the eight devices, for any float values: what each device holds from grid point to grid
point, the launch, and the arrays at the end.
-/
module

public import proofs.«01_k».proof.Proof.InDw.Walk
public import proofs.«01_k».proof.Proof.Begin
public import proofs.«01_k».proof.Proof.Accum
public import proofs.«01_k».proof.Proof.Gen.InDwKernelIdeal.Frame

@[expose] public section

noncomputable section

namespace Cert.InDwScatter

open Cert.InDwKernelIdeal Cert.InDwKernelIdeal.Gen Cert.Scatter Cert.Wires
open Cert.Gather (running running_step carried carried_start carried_end)
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- Grid point `n`. -/
def pt (n : ℕ) : Fin cfg0.N := ⟨n % 8, Nat.mod_lt _ (by decide)⟩
theorem pt_val (t : Fin cfg0.N) : pt t.val = t := Fin.ext (Nat.mod_eq_of_lt t.isLt)

/-- What grid point `n` makes of the accumulator. -/
def step (c : Dev nD) (n : ℕ) (A : S1024x1024.Idx → Elt F .f32) : S1024x1024.Idx → Elt F .f32 :=
  summed n (iblk m c 0 (pt n)) (iblk m c 1 (pt n)) A

/-- What the accumulator starts from: anything would do. -/
def blank (c : Dev nD) : S1024x1024.Idx → Elt F .f32 := k0_pay2 (iblk m c 0 (pt 0)) (iblk m c 1 (pt 0))

/-- The accumulator after grid point `n`. -/
def total (c : Dev nD) (n : ℕ) : S1024x1024.Idx → Elt F .f32 := running (step m c) (blank m c) n

theorem total_step (c : Dev nD) (t : Fin cfg0.N) (A : S1024x1024.Idx → Elt F .f32) (hA : ∀ k, t.val = k + 1 → A = running (step m c) (blank m c) k) :
    summed t.val (iblk m c 0 t) (iblk m c 1 t) A = total m c t.val := by
  have h := running_step (step m c) (blank m c) (fun _ => rfl) t.val A hA
  unfold step at h
  rw [pt_val] at h
  exact h

/-- What device `c` holds before grid point `n`: its part of the scatter, and the accumulator. -/
def phi (n : ℕ) (c : Dev nD) : sProp 𝕄 :=
  iprop(stateAt net m 8 n c ∗ carried (Memref.whole cc0_scratch0) c (step m c) (blank m c) n)

/-- The proof data: the inputs' blocks stay, the output's block is the sum so far, rounded. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => k0_pay4 (total m c t.val)
  Φ t := phi m t.val c
  q _ := fullShare
  owed t := dues net.wires (owedAt 8 t.val) c

/-- What the body leaves in the output's buffer: the sum at the last point along the contracted axis, and what was there at
    the others. -/
def leaves (c : Dev nD) (t : Fin cfg0.N) : sProp 𝕄 :=
  if t.val % 2 = 1 then owns (th c) (st0_2 t) fullShare (k0_pay4 (total m c t.val))
  else iprop(∃ d, owns (th c) (st0_2 t) fullShare ((dats m 0 c).before 2 t d))

theorem leaves_stored (c : Dev nD) (t : Fin cfg0.N) (d) :
    (owns (th c) (st0_2 t) fullShare (stored t.val (total m c t.val) ((dats m 0 c).before 2 t d)) : sProp 𝕄) ⊢ leaves m c t := by
  unfold leaves stored
  split
  · exact .rfl
  · iintro H; iexists d; iexact H

/-- The body at each grid point. -/
theorem body (c : Dev nD) (t : Fin cfg0.N) :
    iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t) ∗ leaves m c t) := by
  unfold phi carried
  iintro ⟨⟨Hs, %A, %hA, HA⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2) A)
  rw [total_step m c t A hA]
  unfold holds holding
  isplitl [Hs HO]
  · isplitl [Hs]; · iexact Hs
    iexact HO
  isplitl [H0]; · iexact H0
  isplitl [H1]; · iexact H1
  isplitl [H2]; · iexact H2
  isplitl [HA]; · iexact HA
  iintro ⟨⟨Hs, HO⟩, H0, H1, H2, HA⟩
  isplitl [Hs HA]
  · isplitl [Hs]; · iexact Hs
    iexists (total m c t.val)
    isplitr; · ipureintro; intro k hk; rw [Nat.succ.inj hk]; rfl
    iexact HA
  isplitl [HO]; · iapply (at_owes (dats m 0 c) t.succ fun _ => trivial); iexact HO
  isplitl [H0]; · iexact H0
  isplitl [H1]; · iexact H1
  iapply (leaves_stored m c t d2)
  iexact H2

theorem leaves_exact (c : Dev nD) (t : Fin cfg0.N) : leaves m c t ⊢ ((dats m 0 c).leavesExact 2 t : sProp 𝕄) := by
  unfold leaves Dat.leavesExact
  by_cases k3 : t.val % 2 = 1
  · have hi : cfg0.idle 2 (cfg0.grid.coords t) = false := by
      show (!(k0_cond4 (grid0.coords t) == 1#1)) = false
      rw [(closes t).mpr k3]; rfl
    rw [if_pos k3, hi]
    exact .rfl
  · have hi : cfg0.idle 2 (cfg0.grid.coords t) = true := by
      show (!(k0_cond4 (grid0.coords t) == 1#1)) = true
      rw [beq_eq_false_iff_ne.mpr fun e => k3 ((closes t).mp e)]; rfl
    have hf : (cfg0.win 2).flush t = false := Bool.eq_false_iff.mpr fun e => k3 ((flush0_2 t).mp e)
    rw [if_neg k3, hi, hf]

theorem body_obligation (c : Dev nD) : BodyObligation (dats m 0 c) (defs₀ (F := F)) noVariants () Set.univ := fun t => by
  rw [bigSep_W0]
  refine (body m c t).trans (wp_mono _ _ _ fun _ => sep_mono .rfl (sep_mono .rfl ?_))
  show _ ⊢ bigSep Finset.univ fun w : Fin 3 => (dats m 0 c).leavesExact w t
  rw [bigSep_W0]
  exact sep_mono .rfl (sep_mono .rfl (leaves_exact m c t))

/-! ## The launch -/

theorem phi_start (c : Dev nD) : iprop(before net m c ∗ Pipeline.scopedRest spec0 c) ⊢ (phi m 0 c : sProp 𝕄) := by
  rw [scopedRest0_eq]; unfold phi
  rw [show stateAt net m 8 0 c = before net m c from if_pos rfl]
  iintro ⟨H, Hr⟩
  isplitl [H]; · iexact H
  iapply (carried_start (Memref.whole cc0_scratch0) (View.set_whole _) c)
  iexact Hr

theorem phi_end (c : Dev nD) : (phi m 8 c : sProp 𝕄) ⊢ iprop(endOf net m c
    ∗ zeros (Elt F) net.wires c ∗ Pipeline.scopedRest spec0 c) := by
  rw [scopedRest0_eq]; unfold phi
  rw [show stateAt net m 8 8 c = after net m c from (if_neg (by decide)).trans (if_neg (by decide))]
  unfold after
  iintro ⟨⟨H, Hz⟩, Hr⟩
  isplitl [H]; · iexact H
  isplitl [Hz]; · iexact Hz
  iapply (carried_end (Memref.whole cc0_scratch0) (View.set_whole _) c)
  iexact Hr

/-- What the run says: on every device the inputs are unchanged, the product's array holds the rounded sums
    stored, piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.InDwScatter

end
-- ==== Proof.InDw.Product.lean ====
/-
The array the product of w_in's or w_out's gradient ends in, over the extended reals: the rows of the activations times the gradient,
the two partial sums along the contracted axis added up.
-/
module

public import proofs.«01_k».proof.Proof.InDw.Run
public import proofs.«01_k».proof.Proof.Grad
public import Idealize.ShloMosaic.Lib.Pipeline.ValueKit

@[expose] public section

noncomputable section

namespace Cert.InDwScatter

open Cert.InDwKernelIdeal Cert.InDwKernelIdeal.Gen Cert.Gather Cert.Wires
open Idealize.ShloMosaic Idealize.ShloMosaic.TcCoe

/-- The product of two blocks, at an index. -/
def times (X : S1024x2176.Idx → EReal) (W : S2176x1024.Idx → EReal) (y : S1024x1024.Idx) : EReal :=
  ∑ k : Fin 2176, X (ix2 (y 0) k) * W (ix2 k (y 1))

theorem first_apply (X : S1024x2176.Idx → EReal) (W : S2176x1024.Idx → EReal) (y : S1024x1024.Idx) :
    k0_pay2 (F := Ideal) X W y = times X W y := by
  pointwise [k0_pay2, k0_pay1, times]

theorem next_apply (X : S1024x2176.Idx → EReal) (W : S2176x1024.Idx → EReal) (A : S1024x1024.Idx → EReal) (y : S1024x1024.Idx) :
    k0_pay3 (F := Ideal) X W A y = A y + times X W y := by
  pointwise [k0_pay3, k0_pay1, times]

theorem round_apply (A : S1024x1024.Idx → EReal) (y : S1024x1024.Idx) : k0_pay4 (F := Ideal) A y = A y := by
  pointwise [k0_pay4]

variable (m : (ℓ : Loc nD τ sig) → Buf (Elt Ideal) ℓ)

theorem index0 : ∀ t : Fin cfg0.N, win0_0.index t = ![t.val / 4, t.val % 2] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The accumulator at the last point along the contracted axis is the sum of the two partial products. -/
theorem total_sum (c : Dev nD) (q : ℕ) (y : S1024x1024.Idx) :
    total (F := Ideal) m c (2 * q + 1) y = ∑ j ∈ Finset.range 2, times (iblk m c 0 (pt (2 * q + j))) (iblk m c 1 (pt (2 * q + j))) y :=
  running_sum (by decide) (step m c) (blank m c) (fun n => times (iblk m c 0 (pt n)) (iblk m c 1 (pt n)))
    (fun n h X x => by
      show summed (F := Ideal) n _ _ X x = _
      rw [show summed (F := Ideal) n (iblk m c 0 (pt n)) (iblk m c 1 (pt n)) X = k0_pay2 (iblk m c 0 (pt n)) (iblk m c 1 (pt n)) from if_pos h]; exact first_apply _ _ _)
    (fun n h X x => by
      show summed (F := Ideal) n _ _ X x = _
      rw [show summed (F := Ideal) n (iblk m c 0 (pt n)) (iblk m c 1 (pt n)) X = k0_pay3 (iblk m c 0 (pt n)) (iblk m c 1 (pt n)) X from if_neg h]; exact next_apply _ _ _ _)
    q y 1 (by decide)

set_option maxHeartbeats 1000000 in
/-- The product's array after the last grid point. -/
theorem product_array (c : Dev nD) : (dats m 0 c).arrAt 2 cfg0.N
    = fun j : S2048x2048.Idx => rowTimes (m ((c : Thread nD τ).loc main_arg0)) (m ((c : Thread nD τ).loc main_arg1)) (j 0) (j 1) := by
  refine (dats m 0 c).arrAt_eq_of_covers 2 _ (by decide +kernel) fun t hf y => ?_
  have k3 : t.val % 2 = 1 := (flush0_2 t).mp hf
  blk_simp
  show k0_pay4 (F := Ideal) (total m c t.val) y = _
  rw [round_apply, show t.val = 2 * (t.val / 2) + 1 by omega, total_sum]
  unfold rowTimes
  refine sum_blocks (tk := 2176) rfl _ _ fun j => Finset.sum_congr rfl fun k _ => ?_
  have hs : (pt (2 * (t.val / 2) + j.val)).val = 2 * (t.val / 2) + j.val := Nat.mod_eq_of_lt (by have h : t.val < 8 := t.isLt; have := j.isLt; show 2 * (t.val / 2) + j.val < 8; omega)
  generalize pt (2 * (t.val / 2) + j.val) = s at hs ⊢
  blk_point [iblk, V, index0 s, index1 s, index2 t]
  all_goals
    show s.val % 2 * 2176 + k.val = k.val + 2176 * j.val
    omega

end Cert.InDwScatter

end
-- ==== Proof.InDw.Reference.lean ====
/-
The two results of the reference of w_in's or w_out's gradient at an index, over the extended reals.
-/
module

public import proofs.«01_k».proof.Proof.Grad
public import proofs.«01_k».proof.Proof.Sent
public import proofs.«01_k».proof.Proof.Gen.InDwReferenceIdeal.Run

@[expose] public section

noncomputable section

namespace Cert.InDwScatter.Reference

open Cert.InDwReferenceIdeal Cert.InDwReferenceIdeal.Gen Cert.Gather Cert.Scatter
open Idealize.ShloMosaic Idealize.ShloMosaic.TcCoe Idealize.SL.Sem

variable (m : (ℓ : Loc nD τ sig) → Buf (Elt Ideal) ℓ)

/-- The gradient of the weight, a block of rows for each device, from the whole activations and gradients. -/
abbrev productOf (a : S16384x4352.Idx → EReal) (dy : S34816x2048.Idx → EReal) : S16384x2048.Idx → EReal :=
  gradRows (P := 2048) (K := 4352) (C := 2048) rfl rfl a dy

/-- The gradient of the reference. -/
def product : S16384x2048.Idx → EReal := productOf (m ((0 : Dev nD).tc.loc main_arg0)) (m ((0 : Dev nD).tc.loc main_arg1))
/-- The received arrays of the reference. -/
def received : S64x128x2048.Idx → EReal := sentArray (R := 128) 0 (by decide) (m ((0 : Dev nD).tc.loc main_arg2))

set_option maxHeartbeats 1000000 in
/-- The reference's first result at an index. -/
theorem product_eq (a : S16384x4352.Idx → EReal) (dy : S34816x2048.Idx → EReal) (j : S16384x2048.Idx) :
    shapeCast S16384x2048 (truncf (F := Ideal) (φ := .f32) .bf16
      (Host.dotGeneral dot_S8x2048x4352_S8x4352x2048_S8x2048x2048_2_1_1_2_0_0 none
        (shapeCast S8x2048x4352 (extf (F := Ideal) (φ := .bf16) .f32 a bitsLt_bf16_f32) shapeCasts_S16384x4352_S8x2048x4352)
        (shapeCast S8x4352x2048 (extf (F := Ideal) (φ := .bf16) .f32 (truncf (F := Ideal) (φ := .f32) .bf16 dy bitsLt_bf16_f32) bitsLt_bf16_f32)
          shapeCasts_S34816x2048_S8x4352x2048)) bitsLt_bf16_f32) shapeCasts_S8x2048x2048_S16384x2048 j
      = productOf a dy j := by
  pointwise [gradRows, inBlock, blockOf]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v7) = product m
    ∧ r.2.mem ((0 : Dev nD).tc.loc main_v15) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.InDwReferenceIdeal.Value.run (F := Ideal) m ρ)

end Cert.InDwScatter.Reference

end
-- ==== Proof.InDw.Agree.lean ====
/-
The kernel of w_in's or w_out's gradient against its reference: each device ends with its block of the reference's gradient and with
the rows the others sent it.
-/
module

public import proofs.«01_k».proof.Defs
public import proofs.«01_k».proof.Proof.InDw.Product
public import proofs.«01_k».proof.Proof.InDw.Reference
public import proofs.«01_k».proof.Proof.Gen.InDwKernel

@[expose] public section

noncomputable section

namespace Cert.InDwScatter

open Cert.Gather Cert.Scatter Idealize.ShloMosaic Idealize.ShloMosaic.TcCoe Idealize.SL.Sem

theorem algebraic : @algebraic_InDwKernelIdeal_InDwReferenceIdeal Cert.InDwKernelIdeal.Gen.facts Cert.InDwReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_gradRows rfl rfl c _ _ _ _ _

/-- The kernel over the extended reals terminates with its arguments unchanged and every counter at zero. -/
theorem frame_ideal : @quiescent_InDwKernelIdeal Cert.InDwKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.InDwKernel.Gen.facts Cert.InDwKernelIdeal.Gen.facts in
/-- The two printed programs have the same kernel body. -/
theorem bodies_eq : InDwKernel.defs₀ (F := Bits) = InDwKernelIdeal.defs₀ (F := Bits) := by
  unfold InDwKernel.defs₀ InDwKernelIdeal.defs₀
  refine congrArg Defs.onTc (funext fun ℓ => funext fun x => ?_)
  match ℓ, x with
  | 0, (t, s) => rfl

attribute [local instance] Cert.InDwKernel.Gen.facts Cert.InDwKernelIdeal.Gen.facts in
/-- So they have the same table of bodies. -/
theorem tables_eq : InDwKernel.defs (F := Bits) = InDwKernelIdeal.defs (F := Bits) :=
  congrArg (Pipeline.defs (InDwKernelIdeal.pcfgs (F := Bits))) bodies_eq

/-- The kernel on bits does too: its program is the same text. -/
theorem frame_bits : @quiescent_InDwKernel Cert.InDwKernel.Gen.facts := fun m g _ => by
  show θ_run (InDwKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_InDwReferenceIdeal Cert.InDwReferenceIdeal.Gen.facts := fun m g _ =>
  (θ_run _ _ _).mono (fun r h => ⟨fun c => (h c).2.2, sem_eq_zero_of_no_sems (by decide) r.2⟩) (Cert.InDwReferenceIdeal.Value.run (F := Ideal) m g)

end Cert.InDwScatter

end
-- ==== Proof.InDa.Names.lean ====
/-
The names the kernel of the gradient of w_in's or w_out's input uses for the scatter: its arrays, its semaphores, the pieces it addresses and the
devices it sends to.
-/
module

public import proofs.«01_k».proof.Proof.ScatterStages
public import proofs.«01_k».proof.Proof.Gen.InDaKernelIdeal
public import proofs.«01_k».proof.Proof.Gen.InDaKernelIdeal.Launch

@[expose] public section

noncomputable section

namespace Cert.InDaScatter

open Cert.InDaKernelIdeal Cert.InDaKernelIdeal.Gen Cert.Scatter Cert.Gather Cert.Wires
open Idealize.ShloMosaic Idealize.ShloMosaic.TcCoe

/-- The program has no loop that is not counted. -/
abbrev noVariants : Variants := Variants.none

/-- Semaphores 6 to 12 count copies gone, 13 to 19 copies come, 20 the local copy. -/
def semOf : CellId → DmaSem sig
  | .inl k => ⟨6 + k.val, by have := k.isLt; show 6 + k.val < 21; omega⟩
  | .inr (.inl k) => ⟨13 + k.val, by have := k.isLt; show 13 + k.val < 21; omega⟩
  | .inr (.inr ()) => ⟨20, by decide⟩

theorem semOf_inj : Function.Injective semOf := by
  intro i j h
  revert i j
  decide

/-- The next layer's gradient: its rows from 128 are scattered. -/
abbrev srcStack : Stack sig 256 128 2048 where
  arr := Memref.whole main_arg2
  first := 128
  fits := by decide
  squeezes := squeezes_S1x128x2048_S128x2048
  arr_set := View.set_whole _

/-- The pieces received. -/
abbrev dstStack : Stack sig 128 128 2048 where
  arr := Memref.whole main_v1_1
  first := 0
  fits := by decide
  squeezes := squeezes_S1x128x2048_S128x2048
  arr_set := View.set_whole _

/-- The scatter of the other half of the next gradient, fused into the product. -/
abbrev net : Scat sig 256 128 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch1.slice (Rect.unit (s := S7) ![k.val] S1.size h)).squeeze S_ squeezes_S1_S_).sem = net.sem (gone k) := by
  revert h; revert k; decide
theorem come_sem (k : Fin 7) (h) : ((cc0_scratch2.slice (Rect.unit (s := S7) ![k.val] S1.size h)).squeeze S_ squeezes_S1_S_).sem = net.sem (come k) := by
  revert h; revert k; decide
theorem loc_sem : cc0_scratch3.sem = net.sem loc := by decide

/-! ## The offsets and the devices -/

theorem offs (c : Dev nD) : k0_off1 c = ![c.val, 128, 0] ∧ k0_off2 c = ![(net.wires.peer 0 c).val, 128, 0] ∧ k0_off3 c = ![(net.wires.peer 1 c).val, 128, 0] ∧ k0_off4 c = ![(net.wires.peer 2 c).val, 128, 0]
    ∧ k0_off5 c = ![(net.wires.peer 3 c).val, 128, 0] ∧ k0_off6 c = ![(net.wires.peer 4 c).val, 128, 0] ∧ k0_off7 c = ![(net.wires.peer 5 c).val, 128, 0] ∧ k0_off8 c = ![(net.wires.peer 6 c).val, 128, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 8 := by revert t; decide

end Cert.InDaScatter

end
-- ==== Proof.InDa.Walk.lean ====
/-
One grid point of the kernel of the gradient of w_in's or w_out's input: what its body does to what a device holds.

At the first point the body starts the scatter, at the last it finishes it. At every point it multiplies the two blocks it was
given.
-/
module

public import proofs.«01_k».proof.Proof.InDa.Names
public import proofs.«01_k».proof.Proof.Access
public import proofs.«01_k».proof.Proof.Gen.InDaKernelIdeal.Skeleton
public import proofs.«01_k».proof.Proof.Gen.InDaKernelIdeal.Points

@[expose] public section

noncomputable section

namespace Cert.InDaScatter

open Cert.InDaKernelIdeal Cert.InDaKernelIdeal.Gen Cert.Scatter Cert.Wires
open Cert.Gather (load_all store_all)
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- One grid point, whichever it is: the scatter goes on, and the product's block is left. -/
theorem walk (t : Fin cfg0.N) (c : Dev nD)
    (M0 : Memref sig .tc .vmem S1088x2048 .f32) (hM0 : M0.IsWhole) (M1 : Memref sig .tc .vmem S1024x2048 .bf16) (hM1 : M1.IsWhole)
    (M2 : Memref sig .tc .vmem S1088x1024 .bf16) (hM2 : M2.IsWhole)
    (X0 : S1088x2048.Idx → Elt F .f32) (X1 : S1024x2048.Idx → Elt F .bf16) (X2 : S1088x1024.Idx → Elt F .bf16) (Q : PUnit → sProp 𝕄) :
    iprop(holds net m 8 t.val c ∗ owns (th c) M0 fullShare X0 ∗ owns (th c) M1 fullShare X1 ∗ owns (th c) M2 fullShare X2
        ∗ ((holds net m 8 (t.val + 1) c ∗ owns (th c) M0 fullShare X0 ∗ owns (th c) M1 fullShare X1
              ∗ owns (th c) M2 fullShare (k0_pay1 X0 X1)) -∗ Q ⟨⟩))
      ⊢ wp frame (wpE (defs₀ (F := F)) noVariants (th c) none) Set.univ
        (cc0_w_in_da_scatter (grid0.coords t) M0 hM0 M1 hM1 (Memref.whole main_arg2) (Memref.isWhole_whole _) M2 hM2 (Memref.whole main_v1_1) (Memref.isWhole_whole _)
          (Memref.whole cc0_scratch0) (Memref.isWhole_whole _) cc0_scratch1 cc0_scratch2 cc0_scratch3) Q := by
  have ht : t.val < 8 := t.isLt
  simp only [cc0_w_in_da_scatter_eq_skeleton, cc0_w_in_da_scatter_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel,
      Prog.lift, Prog.bind_op, Prog.bind_ret, Prog.pure_eq_ret, wp_deviceId]
  refine at_first_of _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  simp only [Prog.bind_op, Prog.bind_ret]
  iintro ⟨Hm, H0, H1, H2, Hk⟩
  iapply (load_all (defs₀ (F := F)) noVariants c) $$ H0; iintro H0
  iapply (load_all (defs₀ (F := F)) noVariants c) $$ H1; iintro H1
  iapply (load_all (defs₀ (F := F)) noVariants c) $$ H2; iintro H2
  iapply (store_all (defs₀ (F := F)) noVariants c) $$ H2; iintro H2
  by_cases h2 : k0_cond2 (grid0.coords t) = 1#1
  · rw [holds_end _ _ _ _ (Nat.succ_ne_zero _) ((finishes t).mp h2)]
    simp only [dif_pos h2, Prog.bind_op, Prog.bind_ret]
    iapply (scatter_finish net m (defs₀ (F := F)) noVariants c loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    rw [wp_ret]; imodintro
    iapply Hk
    isplitl [Hm]; · iexact Hm
    isplitl [H0]; · iexact H0
    isplitl [H1] <;> iassumption
  · rw [holds_mid _ _ _ _ (Nat.succ_ne_zero _) (not_not.mp fun h => h2 ((finishes t).mpr h))]
    simp only [dif_neg h2, Prog.bind_op, Prog.bind_ret]
    rw [wp_ret]; imodintro
    iapply Hk
    isplitl [Hm]; · iexact Hm
    isplitl [H0]; · iexact H0
    isplitl [H1] <;> iassumption

end Cert.InDaScatter

end
-- ==== Proof.InDa.Run.lean ====
/-
The run of the fused kernel on the eight devices, for any float values: what each device holds from grid point to grid
point, the launch, and the arrays at the end.
-/
module

public import proofs.«01_k».proof.Proof.InDa.Walk
public import proofs.«01_k».proof.Proof.Begin
public import proofs.«01_k».proof.Proof.Gen.InDaKernelIdeal.Frame

@[expose] public section

noncomputable section

namespace Cert.InDaScatter

open Cert.InDaKernelIdeal Cert.InDaKernelIdeal.Gen Cert.Scatter Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the scatter, and the scratch the product does not use. -/
def phi (n : ℕ) (c : Dev nD) : sProp 𝕄 :=
  iprop(stateAt net m 8 n c ∗ ∃ f : Buf (Elt F) ((c : Thread nD τ).loc cc0_scratch0), ((c : Thread nD τ).loc cc0_scratch0) ↦{fullShare} f)

/-- The product of the two blocks of grid point `t`, rounded. -/
def tile (c : Dev nD) (t : Fin cfg0.N) : S1088x1024.Idx → Elt F .bf16 := k0_pay1 (iblk m c 0 t) (iblk m c 1 t)

/-- The proof data: the inputs' blocks stay, the output's block is the product. -/
def dats (_ : Fin 1) (c : Dev nD) : Dat τ (Elt F) Unit ℕ (UU sig) ℕ cfg0 c where
  A w := m ((cfg0.win w).arr.view.loc (c : Thread nD τ))
  after w t := match w with
    | ⟨0, _⟩ => iblk m c 0 t
    | ⟨1, _⟩ => iblk m c 1 t
    | ⟨2, _⟩ => tile m c t
  Φ t := phi m t.val c
  q _ := fullShare
  owed t := dues net.wires (owedAt 8 t.val) c

/-- The body at each grid point. -/
theorem body_obligation (c : Dev nD) : BodyObligation (dats m 0 c) (defs₀ (F := F)) noVariants () Set.univ := fun t => by
  rw [bigSep_W0, bigSep_W0]
  show iprop(phi m t.val c ∗ (dats m 0 c).owesAt () t.castSucc
      ∗ (∃ d, owns (th c) (st0_0 t) fullShare ((dats m 0 c).before 0 t d))
      ∗ (∃ d, owns (th c) (st0_1 t) fullShare ((dats m 0 c).before 1 t d))
      ∗ (∃ d, owns (th c) (st0_2 t) fullShare ((dats m 0 c).before 2 t d)))
    ⊢ wp frame (wpE (defs₀ (F := F)) noVariants (th c) none) Set.univ (bodyAt0 t) fun _ =>
      iprop(phi m (t.val + 1) c ∗ (dats m 0 c).owesAt () t.succ
        ∗ owns (th c) (st0_0 t) fullShare (iblk m c 0 t) ∗ owns (th c) (st0_1 t) fullShare (iblk m c 1 t)
        ∗ owns (th c) (st0_2 t) fullShare (tile m c t))
  unfold phi
  iintro ⟨⟨Hs, Hscr⟩, HO, H0, H1, ⟨%d2, H2⟩⟩
  ihave H0 := (found (st0_0 t) ((dats m 0 c).before 0 t) (iblk m c 0 t)
    fun d => ((dats m 0 c).before_in_eq_fetched 0 rfl (fun _ => rfl) (fun _ _ _ => rfl) (fun t => rfl) t d).trans rfl) $$ H0
  ihave H1 := (found (st0_1 t) ((dats m 0 c).before 1 t) (iblk m c 1 t)
    fun d => ((dats m 0 c).before_in_eq_fetched 1 rfl (fun _ => rfl) (fun _ _ _ => rfl) (fun t => rfl) t d).trans rfl) $$ H1
  ihave HO := (owes_at (dats m 0 c) t.castSucc) $$ HO
  iapply (walk m t c _ _ _ _ _ _ _ _ ((dats m 0 c).before 2 t d2))
  unfold holds holding
  isplitl [Hs HO]
  · isplitl [Hs]; · iexact Hs
    iexact HO
  isplitl [H0]; · iexact H0
  isplitl [H1]; · iexact H1
  isplitl [H2]; · iexact H2
  iintro ⟨⟨Hs, HO⟩, H0, H1, H2⟩
  isplitl [Hs Hscr]; · isplitl [Hs] <;> iassumption
  isplitl [HO]; · iapply (at_owes (dats m 0 c) t.succ fun _ => trivial); iexact HO
  isplitl [H0]; · iexact H0
  isplitl [H1]; · iexact H1
  iexact H2

/-! ## The launch -/

theorem phi_start (c : Dev nD) : iprop(before net m c ∗ Pipeline.scopedRest spec0 c) ⊢ (phi m 0 c : sProp 𝕄) := by
  rw [scopedRest0_eq]; unfold phi
  rw [show stateAt net m 8 0 c = before net m c from if_pos rfl]

theorem phi_end (c : Dev nD) : (phi m 8 c : sProp 𝕄) ⊢ iprop(endOf net m c
    ∗ zeros (Elt F) net.wires c ∗ Pipeline.scopedRest spec0 c) := by
  rw [scopedRest0_eq]; unfold phi
  rw [show stateAt net m 8 8 c = after net m c from (if_neg (by decide)).trans (if_neg (by decide))]
  unfold after
  iintro ⟨⟨H, Hz⟩, Hr⟩
  isplitl [H]; · iexact H
  isplitl [Hz] <;> iassumption

/-- What the run says: on every device the inputs are unchanged, the product's array holds every grid point's tile,
    piece `k` of the received array is what the device at `c` under the mask `k` had for `c`; and every counter is zero. -/
def Ran (r : PUnit × MemSt nD τ sig (Elt F)) : Prop :=
  (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ ∀ k : Fin 8, (net.dst.piece k).view.read (Elt F) (r.2.mem ((c : Thread nD τ).loc main_v1_1)) = part net m (c ^^^ k) c)
  ∧ r.2.sem = fun _ => 0

/-- The fused kernel on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ⟨fun c => ⟨((h c).1 0).trans ((dats m 0 c).arrAt_in 0 rfl _), ((h c).1 1).trans ((dats m 0 c).arrAt_in 1 rfl _), (h c).2.1, (h c).1 2, (h c).2.2⟩,
      sem_eq_zero_of_scoped (by decide) hs⟩)

end Cert.InDaScatter

end
-- ==== Proof.InDa.Product.lean ====
/-
The array the gradient of w_in's or w_out's input ends in, over the extended reals: the rows of the gradient times the
rows of the weight.
-/
module

public import proofs.«01_k».proof.Proof.InDa.Run
public import proofs.«01_k».proof.Proof.Grad
public import Idealize.ShloMosaic.Lib.Pipeline.ValueKit

@[expose] public section

noncomputable section

namespace Cert.InDaScatter

open Cert.InDaKernelIdeal Cert.InDaKernelIdeal.Gen Cert.Gather Cert.Scatter Cert.Wires
open Idealize.ShloMosaic Idealize.ShloMosaic.TcCoe

/-- The product of two blocks, at an index. -/
theorem tile_apply (X : S1088x2048.Idx → EReal) (W : S1024x2048.Idx → EReal) (y : S1088x1024.Idx) :
    k0_pay1 (F := Ideal) X W y = ∑ k : Fin 2048, X (ix2 (y 0) k) * W (ix2 (y 1) k) := by
  pointwise [k0_pay1]

variable (m : (ℓ : Loc nD τ sig) → Buf (Elt Ideal) ℓ)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

set_option maxHeartbeats 1000000 in
/-- The product's array after the last grid point. -/
theorem product_array (c : Dev nD) : (dats m 0 c).arrAt 2 cfg0.N
    = fun j : S4352x2048.Idx => rowsBoth (m ((c : Thread nD τ).loc main_arg0)) (m ((c : Thread nD τ).loc main_arg1)) (j 0) (j 1) := by
  refine (dats m 0 c).arrAt_eq_of_covers 2 _ (by decide +kernel) fun t hf y => ?_
  blk_simp
  show k0_pay1 (F := Ideal) (iblk m c 0 t) (iblk m c 1 t) y = _
  rw [tile_apply]
  unfold rowsBoth
  blk_point [iblk, V, index0 t, index1 t, index2 t]

end Cert.InDaScatter

end
-- ==== Proof.InDa.Reference.lean ====
/-
The two results of the reference of the gradient of w_in's or w_out's input at an index, over the extended reals.
-/
module

public import proofs.«01_k».proof.Proof.Grad
public import proofs.«01_k».proof.Proof.Sent
public import proofs.«01_k».proof.Proof.Gen.InDaReferenceIdeal.Run

@[expose] public section

noncomputable section

namespace Cert.InDaScatter.Reference

open Cert.InDaReferenceIdeal Cert.InDaReferenceIdeal.Gen Cert.Gather Cert.Scatter
open Idealize.ShloMosaic Idealize.ShloMosaic.TcCoe Idealize.SL.Sem

variable (m : (ℓ : Loc nD τ sig) → Buf (Elt Ideal) ℓ)

/-- The gradient of the input, from the whole gradient and the weight. -/
abbrev productOf (dy : S34816x2048.Idx → EReal) (w : S2048x2048.Idx → EReal) : S34816x2048.Idx → EReal := fun j => rowsBoth dy w (j 0) (j 1)

/-- The gradient of the reference. -/
def product : S34816x2048.Idx → EReal := productOf (m ((0 : Dev nD).tc.loc main_arg0)) (m ((0 : Dev nD).tc.loc main_arg1))
/-- The received arrays of the reference. -/
def received : S64x128x2048.Idx → EReal := sentArray (R := 128) 128 (by decide) (m ((0 : Dev nD).tc.loc main_arg2))

set_option maxHeartbeats 1000000 in
/-- The reference's first result at an index. -/
theorem product_eq (dy : S34816x2048.Idx → EReal) (w : S2048x2048.Idx → EReal) (j : S34816x2048.Idx) :
    truncf (F := Ideal) (φ := .f32) .bf16 (Host.dotGeneral dot_S34816x2048_S2048x2048_S34816x2048_1_0_0_1_n_n none
        (extf (F := Ideal) (φ := .bf16) .f32 (truncf (F := Ideal) (φ := .f32) .bf16 dy bitsLt_bf16_f32) bitsLt_bf16_f32)
        (transpose S2048x2048 [1, 0] (extf (F := Ideal) (φ := .bf16) .f32 w bitsLt_bf16_f32) transposes_S2048x2048_S2048x2048_1_0)) bitsLt_bf16_f32 j
      = productOf dy w j := by
  pointwise [rowsBoth]

/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

variable (ρ : Dev nD → PrngReg)

/-- The reference terminates with its two results as named, its arguments unchanged. -/
theorem run : θ_run (defs (F := Ideal)) (onTc (τ := τ) (main (F := Ideal))) ⟨m, fun _ => 0, ρ⟩ fun r =>
    r.2.mem ((0 : Dev nD).tc.loc main_v5) = product m
    ∧ r.2.mem ((0 : Dev nD).tc.loc main_v13) = received m
    ∧ r.2.mem ((0 : Dev nD).tc.loc main_arg0) = m ((0 : Dev nD).tc.loc main_arg0)
    ∧ r.2.mem ((0 : Dev nD).tc.loc main_arg1) = m ((0 : Dev nD).tc.loc main_arg1)
    ∧ r.2.mem ((0 : Dev nD).tc.loc main_arg2) = m ((0 : Dev nD).tc.loc main_arg2) :=
  (θ_run _ _ _).mono (fun _ h => ⟨(h 0).1.trans (funext fun j => product_eq _ _ j), (h 0).2.1.trans (sent_lead _ _ _ _ _ places), (h 0).2.2⟩)
    (Cert.InDaReferenceIdeal.Value.run (F := Ideal) m ρ)

end Cert.InDaScatter.Reference

end
-- ==== Proof.InDa.Agree.lean ====
/-
The kernel of the gradient of w_in's or w_out's input against its reference: each device ends with its rows of the reference's gradient and with
the rows the others sent it.
-/
module

public import proofs.«01_k».proof.Defs
public import proofs.«01_k».proof.Proof.InDa.Product
public import proofs.«01_k».proof.Proof.InDa.Reference
public import proofs.«01_k».proof.Proof.Gen.InDaKernel

@[expose] public section

noncomputable section

namespace Cert.InDaScatter

open Cert.Gather Cert.Scatter Idealize.ShloMosaic Idealize.ShloMosaic.TcCoe Idealize.SL.Sem

theorem algebraic : @algebraic_InDaKernelIdeal_InDaReferenceIdeal Cert.InDaKernelIdeal.Gen.facts Cert.InDaReferenceIdeal.Gen.facts := by
  intro m g m' g' _ hin
  refine ⟨Reference.product m', Reference.received m', ?_, Reference.run m' g'⟩
  refine (θ_run _ _ _).mono (fun r h c => ?_) (run_main (F := Ideal) m g)
  obtain ⟨a0, a1, a2, hp, hg⟩ := h.1 c
  refine ⟨?_, block_of_pieces net rfl _ (by decide) _ m (fun d => (hin d).2.2) c _ hg _ fun _ => rfl, a0, a1, a2⟩
  rw [hp, product_array, (hin c).1, (hin c).2.1]
  exact device_rowsBoth c _ _ _ _

/-- The kernel over the extended reals terminates with its arguments unchanged and every counter at zero. -/
theorem frame_ideal : @quiescent_InDaKernelIdeal Cert.InDaKernelIdeal.Gen.facts := fun m g _ =>
  (θ_run _ _ _).mono (fun _ h => ⟨fun c => ⟨(h.1 c).1, (h.1 c).2.1, (h.1 c).2.2.1⟩, h.2⟩) (run_main (F := Ideal) m g)

attribute [local instance] Cert.InDaKernel.Gen.facts Cert.InDaKernelIdeal.Gen.facts in
/-- The two printed programs have the same kernel body. -/
theorem bodies_eq : InDaKernel.defs₀ (F := Bits) = InDaKernelIdeal.defs₀ (F := Bits) := by
  unfold InDaKernel.defs₀ InDaKernelIdeal.defs₀
  refine congrArg Defs.onTc (funext fun ℓ => funext fun x => ?_)
  match ℓ, x with
  | 0, (t, s) => rfl

attribute [local instance] Cert.InDaKernel.Gen.facts Cert.InDaKernelIdeal.Gen.facts in
/-- So they have the same table of bodies. -/
theorem tables_eq : InDaKernel.defs (F := Bits) = InDaKernelIdeal.defs (F := Bits) :=
  congrArg (Pipeline.defs (InDaKernelIdeal.pcfgs (F := Bits))) bodies_eq

/-- The kernel on bits does too: its program is the same text. -/
theorem frame_bits : @quiescent_InDaKernel Cert.InDaKernel.Gen.facts := fun m g _ => by
  show θ_run (InDaKernel.defs (F := Bits)) _ _ _
  rw [tables_eq]
  exact (θ_run _ _ _).mono (fun _ h => ⟨fun c => ⟨(h.1 c).1, (h.1 c).2.1, (h.1 c).2.2.1⟩, h.2⟩) (run_main (F := Bits) m g)

/-- The reference terminates with its arguments unchanged; it has no counter. -/
theorem frame_reference : @quiescent_InDaReferenceIdeal Cert.InDaReferenceIdeal.Gen.facts := fun m g _ =>
  (θ_run _ _ _).mono (fun r h => ⟨fun c => (h c).2.2, sem_eq_zero_of_no_sems (by decide) r.2⟩) (Cert.InDaReferenceIdeal.Value.run (F := Ideal) m g)

end Cert.InDaScatter

end
-- ==== Proof.GatherIn.Names.lean ====
/-
The names the gather of the first w_in or w_out uses, which runs by itself: its arrays, its semaphores, the blocks it addresses
and the devices it sends to.
-/
module

public import proofs.«01_k».proof.Proof.Stages
public import proofs.«01_k».proof.Proof.Gen.GatherKernelIdeal
public import proofs.«01_k».proof.Proof.Gen.GatherKernelIdeal.Launch

@[expose] public section

noncomputable section

namespace Cert.GatherIn

open Cert.GatherKernelIdeal Cert.GatherKernelIdeal.Gen Cert.Gather Cert.Wires
open Idealize.ShloMosaic Idealize.ShloMosaic.TcCoe

/-- The program has no loop that is not counted. -/
abbrev noVariants : Variants := Variants.none

/-- Semaphores 0 to 6 count copies gone, 7 to 13 copies come, 14 the local copy. -/
def semOf : CellId → DmaSem sig
  | .inl k => ⟨k.val, by have := k.isLt; show k.val < 15; omega⟩
  | .inr (.inl k) => ⟨7 + k.val, by have := k.isLt; show 7 + k.val < 15; omega⟩
  | .inr (.inr ()) => ⟨14, by decide⟩

theorem semOf_inj : Function.Injective semOf := by
  intro i j h
  revert i j
  decide

/-- The gather of w_in or w_out, by itself. -/
abbrev net : Net sig 256 2048 where
  src := Memref.whole main_arg0
  arr := Memref.whole main_v1
  sem := semOf
  sem_inj := semOf_inj
  squeezes := squeezes_S1x256x2048_S256x2048
  rows_pos := by decide
  cols_pos := by decide
  src_set := View.set_whole _
  arr_set := View.set_whole _

theorem gone_sem (k : Fin 7) (h) : ((cc0_scratch0.slice (Rect.unit (s := S7) ![k.val] S1.size h)).squeeze S_ squeezes_S1_S_).sem = net.sem (gone k) := by
  revert h; revert k; decide
theorem come_sem (k : Fin 7) (h) : ((cc0_scratch1.slice (Rect.unit (s := S7) ![k.val] S1.size h)).squeeze S_ squeezes_S1_S_).sem = net.sem (come k) := by
  revert h; revert k; decide
theorem loc_sem : cc0_scratch2.sem = net.sem loc := by decide

/-! ## The offsets and the devices -/

theorem off1 (c : Dev nD) : k0_off1 c = ![c.val, 0, 0] := by revert c; decide
theorem off2 (c : Dev nD) : k0_off2 c = ![(out (4 : Fin 7).castSucc c).val, 0, 0] := by revert c; decide
theorem off3 (c : Dev nD) : k0_off3 c = ![(out (5 : Fin 7).castSucc c).val, 0, 0] := by revert c; decide
theorem off4 (c : Dev nD) : k0_off4 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

end Cert.GatherIn

end
-- ==== Proof.GatherIn.Walk.lean ====
/-
The body of the gather that runs by itself: it starts the gather and finishes it.
-/
module

public import proofs.«01_k».proof.Proof.GatherIn.Names
public import proofs.«01_k».proof.Proof.Gen.GatherKernelIdeal.Skeleton
public import proofs.«01_k».proof.Proof.Gen.GatherKernelIdeal.Points

@[expose] public section

noncomputable section

namespace Cert.GatherIn

open Cert.GatherKernelIdeal Cert.GatherKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- The body, from a device's part of the gather at its start to that at its end. -/
theorem walk (c : Dev nD) (Q : PUnit → sProp 𝕄) :
    iprop(holds net m 1 0 c ∗ (holds net m 1 1 c -∗ Q ⟨⟩))
      ⊢ wp frame (wpE (defs₀ (F := F)) noVariants (th c) none) Set.univ
        (cc0_gather_w_in (Memref.whole main_arg0) (Memref.isWhole_whole _) (Memref.whole main_v1) (Memref.isWhole_whole _)
          cc0_scratch0 cc0_scratch1 cc0_scratch2) Q := by
  simp only [cc0_gather_w_in_eq_skeleton, cc0_gather_w_in_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel, k0_part10_eq_skeleton, k0_part10_skel,
      Prog.lift, Prog.bind_op, Prog.bind_ret, Prog.pure_eq_ret, wp_deviceId]
  rw [holds_zero, holds_end _ _ _ 1 (by decide) (by decide)]
  iintro ⟨Hm, Hk⟩
  iapply (gather_start net m (defs₀ (F := F)) noVariants c _ _ _ _ (dev1 c _) (dev2 c _) (dev3 c _) (dev4 c _) (off1 c) loc_sem
    (gone_sem 0 _) (come_sem 0 _) (gone_sem 1 _) (come_sem 1 _) (gone_sem 2 _) (come_sem 2 _) (gone_sem 3 _) (come_sem 3 _)) $$ Hm
  iintro Hm
  iapply (gather_finish net m (defs₀ (F := F)) noVariants rfl c _ _ _ (dev5 c _) (dev6 c _) (dev7 c _) (off2 c) (off3 c) (off4 c) loc_sem
    (gone_sem 0 _) (come_sem 0 _) (gone_sem 1 _) (come_sem 1 _) (gone_sem 2 _) (come_sem 2 _) (gone_sem 3 _) (come_sem 3 _)
    (gone_sem 4 _) (come_sem 4 _) (gone_sem 5 _) (come_sem 5 _) (gone_sem 6 _) (come_sem 6 _)) $$ Hm
  iintro Hm
  rw [wp_ret]; imodintro
  iapply Hk
  iexact Hm

end Cert.GatherIn

end
-- ==== Proof.GatherIn.Run.lean ====
/-
The run on the eight devices of the gather that runs by itself, for any float values: the launch, and the arrays at the end.
-/
module

public import proofs.«01_k».proof.Proof.GatherIn.Walk
public import proofs.«01_k».proof.Proof.Begin
public import proofs.«01_k».proof.Proof.Gen.GatherKernelIdeal.Frame

@[expose] public section

noncomputable section

namespace Cert.GatherIn

open Cert.GatherKernelIdeal Cert.GatherKernelIdeal.Gen Cert.Gather Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-- The proof data: the call has no window and one grid point; a device holds its part of the gather. -/
def dats (_ : Fin 1) (c : Dev nD) : Dat τ (Elt F) Unit ℕ (UU sig) ℕ cfg0 c where
  A w := m ((cfg0.win w).arr.view.loc (c : Thread nD τ))
  after w t := w.elim0
  Φ t := stateAt net m 1 t.val c
  q _ := fullShare
  owed t := dues net.wires (owedAt 1 t.val) c

/-- The body at its one grid point. -/
theorem body_obligation (c : Dev nD) : BodyObligation (dats m 0 c) (defs₀ (F := F)) noVariants () Set.univ := fun t => by
  have h0 : t = t0_0 := fin_N0 t
  subst h0
  show iprop(stateAt net m 1 0 c ∗ (dats m 0 c).owesAt () (t0_0 : Fin cfg0.N).castSucc ∗ BI.emp)
    ⊢ wp frame (wpE (defs₀ (F := F)) noVariants (th c) none) Set.univ (bodyAt0 t0_0) fun _ =>
      iprop(stateAt net m 1 1 c ∗ (dats m 0 c).owesAt () (t0_0 : Fin cfg0.N).succ ∗ BI.emp)
  iintro ⟨Hs, HO, He⟩
  ihave HO := (owes_at (dats m 0 c) (t0_0 : Fin cfg0.N).castSucc) $$ HO
  iapply (walk m c)
  unfold holds holding
  isplitl [Hs HO]
  · isplitl [Hs]; · iexact Hs
    iexact HO
  iintro ⟨Hs, HO⟩
  isplitl [Hs]; · iexact Hs
  isplitl [HO]; · iapply (at_owes (dats m 0 c) (t0_0 : Fin cfg0.N).succ fun _ => trivial); iexact HO
  iexact He

/-! ## The launch -/

theorem phi_start (c : Dev nD) : iprop(before net m c ∗ Pipeline.scopedRest (cfg0.spec) c) ⊢ (stateAt net m 1 0 c : sProp 𝕄) := by
  rw [scopedRest0_eq, show stateAt net m 1 0 c = before net m c from if_pos rfl]
  iintro ⟨H, _⟩
  iexact H

theorem phi_end (c : Dev nD) : (stateAt net m 1 1 c : sProp 𝕄) ⊢ iprop(endOf net m c
    ∗ zeros (Elt F) net.wires c ∗ Pipeline.scopedRest (cfg0.spec) c) := by
  rw [scopedRest0_eq, show stateAt net m 1 1 c = after net m c from (if_neg (by decide)).trans (if_neg (by decide))]
  iintro H
  ihave H := (after_end net m c) $$ H
  icases H with ⟨H, Hz⟩
  isplitl [H]; · iexact H
  isplitl [Hz]; · iexact Hz
  iempintro

/-- What the run says: on every device the shard is unchanged and each block of the gathered array is its device's shard; and
    every counter is zero. -/
def Ran (r : PUnit × MemSt nD τ sig (Elt F)) : Prop := (∀ c : Dev nD, EndRead net m c r.2) ∧ r.2.sem = fun _ => 0

/-- The gather on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w => w.elim0) (by decide)
    (launch_gather net m _ fun c => Entails.of_eq (unscopedRest0_eq ..)) (fun _ _ => rfl) (start_intro net m) (phi_start m) (phi_end m) (end_read net m)
    (fun _ h hs => ⟨fun c => (h c).2, sem_eq_zero_of_scoped (by decide) hs⟩)

end Cert.GatherIn

end
-- ==== Proof.GatherIn.Agree.lean ====
/-
The gather that runs by itself against its reference: each device ends with the whole weight.
-/
module

public import proofs.«01_k».proof.Defs
public import proofs.«01_k».proof.Proof.Rows
public import proofs.«01_k».proof.Proof.GatherIn.Run
public import proofs.«01_k».proof.Proof.Gen.GatherKernel
public import proofs.«01_k».proof.Proof.Gen.GatherReferenceIdeal.Run

@[expose] public section

noncomputable section

namespace Cert.GatherIn

open Cert.Gather Idealize.ShloMosaic Idealize.ShloMosaic.TcCoe Idealize.SL.Sem

/-- The reference's result at an index. -/
theorem gathered_eq (w : GatherReferenceIdeal.S2048x2048.Idx → EReal) (j : GatherReferenceIdeal.S8x256x2048.Idx) :
    shapeCast GatherReferenceIdeal.S8x256x2048 w GatherReferenceIdeal.Gen.shapeCasts_S2048x2048_S8x256x2048 j = byRows (R := 256) (n := 2048) rfl w j := by
  pointwise [byRows]

theorem algebraic : @algebraic_GatherKernelIdeal_GatherReferenceIdeal Cert.GatherKernelIdeal.Gen.facts Cert.GatherReferenceIdeal.Gen.facts := by
  intro m g m' g' _ hin
  refine ⟨byRows (R := 256) (n := 2048) rfl (m' ((0 : Dev GatherReferenceIdeal.nD).tc.loc GatherReferenceIdeal.main_arg0)), ?_,
    (θ_run _ _ _).mono (fun _ h => ⟨(h 0).1.trans (funext fun j => gathered_eq _ j), (h 0).2⟩) (Cert.GatherReferenceIdeal.Value.run (F := Ideal) m' g')⟩
  refine (θ_run _ _ _).mono (fun r h c => ?_) (run_main (F := Ideal) m g)
  exact ⟨byRows_of_blocks net rfl _ (by decide) _ hin _ (h.1 c).2 _ fun _ => rfl, (h.1 c).1⟩

/-- The kernel over the extended reals terminates with its argument unchanged and every counter at zero. -/
theorem frame_ideal : @quiescent_GatherKernelIdeal Cert.GatherKernelIdeal.Gen.facts := fun m g _ =>
  (θ_run _ _ _).mono (fun _ h => ⟨fun c => (h.1 c).1, h.2⟩) (run_main (F := Ideal) m g)

attribute [local instance] Cert.GatherKernel.Gen.facts Cert.GatherKernelIdeal.Gen.facts in
/-- The two printed programs have the same kernel body. -/
theorem bodies_eq : GatherKernel.defs₀ (F := Bits) = GatherKernelIdeal.defs₀ (F := Bits) := by
  unfold GatherKernel.defs₀ GatherKernelIdeal.defs₀
  refine congrArg Defs.onTc (funext fun ℓ => funext fun x => ?_)
  match ℓ, x with
  | 0, (t, s) => rfl

attribute [local instance] Cert.GatherKernel.Gen.facts Cert.GatherKernelIdeal.Gen.facts in
/-- So they have the same table of bodies. -/
theorem tables_eq : GatherKernel.defs (F := Bits) = GatherKernelIdeal.defs (F := Bits) :=
  congrArg (Pipeline.defs (GatherKernelIdeal.pcfgs (F := Bits))) bodies_eq

/-- The kernel on bits does too: its program is the same text. -/
theorem frame_bits : @quiescent_GatherKernel Cert.GatherKernel.Gen.facts := fun m g _ => by
  show θ_run (GatherKernel.defs (F := Bits)) _ _ _
  rw [tables_eq]
  exact (θ_run _ _ _).mono (fun _ h => ⟨fun c => (h.1 c).1, h.2⟩) (run_main (F := Bits) m g)

/-- The reference terminates with its argument unchanged; it has no counter. -/
theorem frame_reference : @quiescent_GatherReferenceIdeal Cert.GatherReferenceIdeal.Gen.facts := fun m g _ =>
  (θ_run _ _ _).mono (fun r h => ⟨fun c => (h c).2, sem_eq_zero_of_no_sems (by decide) r.2⟩) (Cert.GatherReferenceIdeal.Value.run (F := Ideal) m g)

end Cert.GatherIn

end
-- ==== Proof.ScatterIn.Names.lean ====
/-
The names the scatter that runs by itself uses: its arrays, its semaphores, the pieces it addresses and the devices it sends to.
-/
module

public import proofs.«01_k».proof.Proof.ScatterStages
public import proofs.«01_k».proof.Proof.Gen.ScatterKernelIdeal
public import proofs.«01_k».proof.Proof.Gen.ScatterKernelIdeal.Launch

@[expose] public section

noncomputable section

namespace Cert.ScatterIn

open Cert.ScatterKernelIdeal Cert.ScatterKernelIdeal.Gen Cert.Scatter Cert.Gather Cert.Wires
open Idealize.ShloMosaic Idealize.ShloMosaic.TcCoe

/-- The program has no loop that is not counted. -/
abbrev noVariants : Variants := Variants.none

/-- Semaphores 0 to 6 count copies gone, 7 to 13 copies come, 14 the local copy. -/
def semOf : CellId → DmaSem sig
  | .inl k => ⟨k.val, by have := k.isLt; show k.val < 15; omega⟩
  | .inr (.inl k) => ⟨7 + k.val, by have := k.isLt; show 7 + k.val < 15; omega⟩
  | .inr (.inr ()) => ⟨14, by decide⟩

theorem semOf_inj : Function.Injective semOf := by
  intro i j h
  revert i j
  decide

/-- The gradient: each device's block of it is sent to that device. -/
abbrev srcStack : Stack sig 256 256 2048 where
  arr := Memref.whole main_arg0
  first := 0
  fits := by decide
  squeezes := squeezes_S1x256x2048_S256x2048
  arr_set := View.set_whole _

/-- The pieces received. -/
abbrev dstStack : Stack sig 256 256 2048 where
  arr := Memref.whole main_v1
  first := 0
  fits := by decide
  squeezes := squeezes_S1x256x2048_S256x2048
  arr_set := View.set_whole _

/-- The scatter of the gradient of w_in or w_out, by itself. -/
abbrev net : Scat sig 256 256 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch0.slice (Rect.unit (s := S7) ![k.val] S1.size h)).squeeze S_ squeezes_S1_S_).sem = net.sem (gone k) := by
  revert h; revert k; decide
theorem come_sem (k : Fin 7) (h) : ((cc0_scratch1.slice (Rect.unit (s := S7) ![k.val] S1.size h)).squeeze S_ squeezes_S1_S_).sem = net.sem (come k) := by
  revert h; revert k; decide
theorem loc_sem : cc0_scratch2.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

end Cert.ScatterIn

end
-- ==== Proof.ScatterIn.Walk.lean ====
/-
The body of the scatter that runs by itself: it starts the scatter and finishes it.
-/
module

public import proofs.«01_k».proof.Proof.ScatterIn.Names
public import proofs.«01_k».proof.Proof.Gen.ScatterKernelIdeal.Skeleton
public import proofs.«01_k».proof.Proof.Gen.ScatterKernelIdeal.Points

@[expose] public section

noncomputable section

namespace Cert.ScatterIn

open Cert.ScatterKernelIdeal Cert.ScatterKernelIdeal.Gen Cert.Scatter Cert.Wires
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)

set_option maxRecDepth 65536 in
/-- The body, from a device's part of the scatter at its start to that at its end. -/
theorem walk (c : Dev nD) (Q : PUnit → sProp 𝕄) :
    iprop(holds net m 1 0 c ∗ (holds net m 1 1 c -∗ Q ⟨⟩))
      ⊢ wp frame (wpE (defs₀ (F := F)) noVariants (th c) none) Set.univ
        (cc0_gather_w_in_rs (Memref.whole main_arg0) (Memref.isWhole_whole _) (Memref.whole main_v1) (Memref.isWhole_whole _)
          cc0_scratch0 cc0_scratch1 cc0_scratch2) Q := by
  simp only [cc0_gather_w_in_rs_eq_skeleton, cc0_gather_w_in_rs_skel, k0_part1_eq_skeleton, k0_part1_skel, k0_part2_eq_skeleton, k0_part2_skel,
      k0_part3_eq_skeleton, k0_part3_skel, k0_part4_eq_skeleton, k0_part4_skel, k0_part5_eq_skeleton, k0_part5_skel, k0_part6_eq_skeleton, k0_part6_skel,
      k0_part7_eq_skeleton, k0_part7_skel, k0_part8_eq_skeleton, k0_part8_skel, k0_part9_eq_skeleton, k0_part9_skel,
      Prog.lift, Prog.bind_op, Prog.bind_ret, Prog.pure_eq_ret, wp_deviceId]
  rw [holds_zero, holds_end _ _ _ 1 (by decide) (by decide)]
  iintro ⟨Hm, Hk⟩
  iapply (scatter_start net m (defs₀ (F := F)) noVariants c rfl (offs c) (devs c) loc_sem
    ⟨gone_sem 0 _, gone_sem 1 _, gone_sem 2 _, gone_sem 3 _, gone_sem 4 _, gone_sem 5 _, gone_sem 6 _⟩
    ⟨come_sem 0 _, come_sem 1 _, come_sem 2 _, come_sem 3 _, come_sem 4 _, come_sem 5 _, come_sem 6 _⟩) $$ Hm; iintro Hm
  iapply (scatter_finish net m (defs₀ (F := F)) noVariants c loc_sem
    ⟨gone_sem 0 _, gone_sem 1 _, gone_sem 2 _, gone_sem 3 _, gone_sem 4 _, gone_sem 5 _, gone_sem 6 _⟩
    ⟨come_sem 0 _, come_sem 1 _, come_sem 2 _, come_sem 3 _, come_sem 4 _, come_sem 5 _, come_sem 6 _⟩) $$ Hm; iintro Hm
  rw [wp_ret]; imodintro
  iapply Hk
  iexact Hm

end Cert.ScatterIn

end
-- ==== Proof.ScatterIn.Run.lean ====
/-
The run on the eight devices of the scatter that runs by itself, for any float values: the launch, and the arrays at the end.
-/
module

public import proofs.«01_k».proof.Proof.ScatterIn.Walk
public import proofs.«01_k».proof.Proof.Begin
public import proofs.«01_k».proof.Proof.Gen.ScatterKernelIdeal.Frame

@[expose] public section

noncomputable section

namespace Cert.ScatterIn

open Cert.ScatterKernelIdeal Cert.ScatterKernelIdeal.Gen Cert.Scatter Cert.Wires
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-- The proof data: the call has no window and one grid point; a device holds its part of the scatter. -/
def dats (_ : Fin 1) (c : Dev nD) : Dat τ (Elt F) Unit ℕ (UU sig) ℕ cfg0 c where
  A w := m ((cfg0.win w).arr.view.loc (c : Thread nD τ))
  after w t := w.elim0
  Φ t := stateAt net m 1 t.val c
  q _ := fullShare
  owed t := dues net.wires (owedAt 1 t.val) c

/-- The body at its one grid point. -/
theorem body_obligation (c : Dev nD) : BodyObligation (dats m 0 c) (defs₀ (F := F)) noVariants () Set.univ := fun t => by
  have h0 : t = t0_0 := fin_N0 t
  subst h0
  show iprop(stateAt net m 1 0 c ∗ (dats m 0 c).owesAt () (t0_0 : Fin cfg0.N).castSucc ∗ BI.emp)
    ⊢ wp frame (wpE (defs₀ (F := F)) noVariants (th c) none) Set.univ (bodyAt0 t0_0) fun _ =>
      iprop(stateAt net m 1 1 c ∗ (dats m 0 c).owesAt () (t0_0 : Fin cfg0.N).succ ∗ BI.emp)
  iintro ⟨Hs, HO, He⟩
  ihave HO := (owes_at (dats m 0 c) (t0_0 : Fin cfg0.N).castSucc) $$ HO
  iapply (walk m c)
  unfold holds holding
  isplitl [Hs HO]
  · isplitl [Hs]; · iexact Hs
    iexact HO
  iintro ⟨Hs, HO⟩
  isplitl [Hs]; · iexact Hs
  isplitl [HO]; · iapply (at_owes (dats m 0 c) (t0_0 : Fin cfg0.N).succ fun _ => trivial); iexact HO
  iexact He

/-! ## The launch -/

theorem phi_start (c : Dev nD) : iprop(before net m c ∗ Pipeline.scopedRest (cfg0.spec) c) ⊢ (stateAt net m 1 0 c : sProp 𝕄) := by
  rw [scopedRest0_eq, show stateAt net m 1 0 c = before net m c from if_pos rfl]
  iintro ⟨H, _⟩
  iexact H

theorem phi_end (c : Dev nD) : (stateAt net m 1 1 c : sProp 𝕄) ⊢ iprop(endOf net m c
    ∗ zeros (Elt F) net.wires c ∗ Pipeline.scopedRest (cfg0.spec) c) := by
  rw [scopedRest0_eq, show stateAt net m 1 1 c = after net m c from (if_neg (by decide)).trans (if_neg (by decide))]
  unfold after
  iintro ⟨H, Hz⟩
  isplitl [H]; · iexact H
  isplitl [Hz]; · iexact Hz
  iempintro

/-- What the run says: on every device the gradient is unchanged and piece `k` of the received array is what the device at
    `c` under the mask `k` had for `c`; and every counter is zero. -/
def Ran (r : PUnit × MemSt nD τ sig (Elt F)) : Prop := (∀ c : Dev nD, EndRead net m c r.2) ∧ r.2.sem = fun _ => 0

/-- The scatter on the eight devices, for any float values: it terminates from any memory, and ends as `Ran` says. -/
theorem run_main : θ_run (defs (F := F)) (onTc (τ := τ) (main (F := F))) ⟨m, fun _ => 0, ρ⟩ (Ran m) :=
  run_exchange cellOf_inj (dats m) winFacts0 net.wires (by decide) m ρ main (fun _ => rfl) (body_obligation m) block_pos0 arr_whole0 stage_whole0
    (fun _ _ => rfl) (fun _ => rfl) (fun _ => rfl) (fun _ _ => ⟨_, rfl⟩) (fun w => w.elim0) (by decide)
    (launch_scatter net m _ fun c => Entails.of_eq (unscopedRest0_eq ..)) (fun _ _ => rfl) (start_intro net m) (phi_start m) (phi_end m) (end_read net m)
    (fun _ h hs => ⟨fun c => (h c).2, sem_eq_zero_of_scoped (by decide) hs⟩)

end Cert.ScatterIn

end
-- ==== Proof.ScatterIn.Agree.lean ====
/-
The scatter that runs by itself against its reference: each device ends with the parts the others had for it.
-/
module

public import proofs.«01_k».proof.Defs
public import proofs.«01_k».proof.Proof.Sent
public import proofs.«01_k».proof.Proof.ScatterIn.Run
public import proofs.«01_k».proof.Proof.Gen.ScatterKernel
public import proofs.«01_k».proof.Proof.Gen.ScatterReferenceIdeal.Run

@[expose] public section

noncomputable section

namespace Cert.ScatterIn

open Cert.Scatter Cert.Gather Idealize.ShloMosaic Idealize.ShloMosaic.TcCoe Idealize.SL.Sem

/-- The received arrays, from the whole arrays sent. -/
abbrev received (D : ScatterReferenceIdeal.S64x256x2048.Idx → EReal) : ScatterReferenceIdeal.S64x256x2048.Idx → EReal :=
  sentArray (P := 256) (R := 256) 0 (by decide) D

section
open Cert.ScatterReferenceIdeal Cert.ScatterReferenceIdeal.Gen
/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

end

theorem algebraic : @algebraic_ScatterKernelIdeal_ScatterReferenceIdeal Cert.ScatterKernelIdeal.Gen.facts Cert.ScatterReferenceIdeal.Gen.facts := by
  intro m g m' g' _ hin
  refine ⟨received (m' ((0 : Dev ScatterReferenceIdeal.nD).tc.loc ScatterReferenceIdeal.main_arg0)), ?_,
    (θ_run _ _ _).mono (fun _ h => ⟨(h 0).1.trans (sent_whole _ _ _ places), (h 0).2⟩) (Cert.ScatterReferenceIdeal.Value.run (F := Ideal) m' g')⟩
  refine (θ_run _ _ _).mono (fun r h c => ?_) (run_main (F := Ideal) m g)
  exact ⟨block_of_pieces net rfl _ (by decide) _ m hin c _ (h.1 c).2 _ fun _ => rfl, (h.1 c).1⟩

/-- The kernel over the extended reals terminates with its argument unchanged and every counter at zero. -/
theorem frame_ideal : @quiescent_ScatterKernelIdeal Cert.ScatterKernelIdeal.Gen.facts := fun m g _ =>
  (θ_run _ _ _).mono (fun _ h => ⟨fun c => (h.1 c).1, h.2⟩) (run_main (F := Ideal) m g)

attribute [local instance] Cert.ScatterKernel.Gen.facts Cert.ScatterKernelIdeal.Gen.facts in
/-- The two printed programs have the same kernel body. -/
theorem bodies_eq : ScatterKernel.defs₀ (F := Bits) = ScatterKernelIdeal.defs₀ (F := Bits) := by
  unfold ScatterKernel.defs₀ ScatterKernelIdeal.defs₀
  refine congrArg Defs.onTc (funext fun ℓ => funext fun x => ?_)
  match ℓ, x with
  | 0, (t, s) => rfl

attribute [local instance] Cert.ScatterKernel.Gen.facts Cert.ScatterKernelIdeal.Gen.facts in
/-- So they have the same table of bodies. -/
theorem tables_eq : ScatterKernel.defs (F := Bits) = ScatterKernelIdeal.defs (F := Bits) :=
  congrArg (Pipeline.defs (ScatterKernelIdeal.pcfgs (F := Bits))) bodies_eq

/-- The kernel on bits does too: its program is the same text. -/
theorem frame_bits : @quiescent_ScatterKernel Cert.ScatterKernel.Gen.facts := fun m g _ => by
  show θ_run (ScatterKernel.defs (F := Bits)) _ _ _
  rw [tables_eq]
  exact (θ_run _ _ _).mono (fun _ h => ⟨fun c => (h.1 c).1, h.2⟩) (run_main (F := Bits) m g)

/-- The reference terminates with its argument unchanged; it has no counter. -/
theorem frame_reference : @quiescent_ScatterReferenceIdeal Cert.ScatterReferenceIdeal.Gen.facts := fun m g _ =>
  (θ_run _ _ _).mono (fun r h => ⟨fun c => (h c).2, sem_eq_zero_of_no_sems (by decide) r.2⟩) (Cert.ScatterReferenceIdeal.Value.run (F := Ideal) m g)

end Cert.ScatterIn

end
-- ==== Proof.Adam.In.lean ====
/-
The optimizer's update of w_in and of w_out against its reference.
-/
module

public import proofs.«01_k».proof.Defs
public import proofs.«01_k».proof.Proof.Gen.AdamInKernel
public import proofs.«01_k».proof.Proof.Gen.AdamInKernelIdeal.Value
public import proofs.«01_k».proof.Proof.Gen.AdamInReferenceIdeal.Run
public import Idealize.ShloMosaic.Lib.Pointwise

@[expose] public section

noncomputable section

namespace Cert.AdamIn

open Idealize.ShloMosaic Idealize.ShloMosaic.TcCoe Idealize.SL.Sem

/-- From equal arguments the kernel and the reference end with equal updates and moments. -/
theorem algebraic : @algebraic_AdamInKernelIdeal_AdamInReferenceIdeal Cert.AdamInKernelIdeal.Gen.facts Cert.AdamInReferenceIdeal.Gen.facts := by
  intro m g m' g' _ hin
  refine ⟨_, _, _, Cert.AdamInKernelIdeal.Value.run (F := Ideal) m g, (θ_run _ _ _).mono (fun r h c => ?_) (Cert.AdamInReferenceIdeal.Value.run (F := Ideal) m' g')⟩
  obtain ⟨h0, h1, h2, a⟩ := h c
  obtain ⟨e0, e1, e2, e3⟩ := hin c
  refine ⟨h0.trans ?_, h1.trans ?_, h2.trans ?_, a⟩
  · rw [e0, e1, e2, e3]; rfl
  · rw [e1, e2]; rfl
  · rw [e1, e3]; rfl

/-- The kernel over the extended reals terminates with its arguments unchanged and every counter at zero. -/
theorem frame_ideal : @quiescent_AdamInKernelIdeal Cert.AdamInKernelIdeal.Gen.facts := fun m g _ => Cert.AdamInKernelIdeal.Gen.frame m g

attribute [local instance] Cert.AdamInKernel.Gen.facts Cert.AdamInKernelIdeal.Gen.facts in
/-- The two printed programs have the same kernel body. -/
theorem bodies_eq : AdamInKernel.defs₀ (F := Bits) = AdamInKernelIdeal.defs₀ (F := Bits) := by
  unfold AdamInKernel.defs₀ AdamInKernelIdeal.defs₀
  refine congrArg Defs.onTc (funext fun ℓ => funext fun x => ?_)
  match ℓ, x with
  | 0, (t, s) => rfl

attribute [local instance] Cert.AdamInKernel.Gen.facts Cert.AdamInKernelIdeal.Gen.facts in
/-- So they have the same table of bodies. -/
theorem tables_eq : AdamInKernel.defs (F := Bits) = AdamInKernelIdeal.defs (F := Bits) :=
  congrArg (Pipeline.defs (AdamInKernelIdeal.pcfgs (F := Bits))) bodies_eq

/-- The kernel on bits does too: its program is the same text. -/
theorem frame_bits : @quiescent_AdamInKernel Cert.AdamInKernel.Gen.facts := fun m g _ => by
  show θ_run (AdamInKernel.defs (F := Bits)) _ _ _
  rw [tables_eq]
  exact Cert.AdamInKernelIdeal.Gen.frame (F := Bits) m g

/-- The reference terminates with its arguments unchanged; it has no counter. -/
theorem frame_reference : @quiescent_AdamInReferenceIdeal Cert.AdamInReferenceIdeal.Gen.facts := fun m g _ =>
  (θ_run _ _ _).mono (fun r h => ⟨fun c => (h c).2.2.2, sem_eq_zero_of_no_sems (by decide) r.2⟩) (Cert.AdamInReferenceIdeal.Value.run (F := Ideal) m g)

end Cert.AdamIn

end
-- ==== Proof.ScanUp.Names.lean ====
/-
The names the scan kernel that gathers w_up uses for the gather: its arrays, its semaphores, the blocks it addresses and the
devices it sends to.
-/
module

public import proofs.«01_k».proof.Proof.Stages
public import proofs.«01_k».proof.Proof.Gen.ScanUpKernelIdeal
public import proofs.«01_k».proof.Proof.Gen.ScanUpKernelIdeal.Launch

@[expose] public section

noncomputable section

namespace Cert.ScanUp

open Cert.ScanUpKernelIdeal Cert.ScanUpKernelIdeal.Gen Cert.Gather Cert.Wires
open Idealize.ShloMosaic Idealize.ShloMosaic.TcCoe

/-- The program has no loop that is not counted. -/
abbrev noVariants : Variants := Variants.none

/-- Semaphores 20 to 26 count copies gone, 27 to 33 copies come, 34 the local copy. -/
def semOf : CellId → DmaSem sig
  | .inl k => ⟨20 + k.val, by have := k.isLt; show 20 + k.val < 35; omega⟩
  | .inr (.inl k) => ⟨27 + k.val, by have := k.isLt; show 27 + k.val < 35; omega⟩
  | .inr (.inr ()) => ⟨34, by decide⟩

theorem semOf_inj : Function.Injective semOf := by
  intro i j h
  revert i j
  decide

/-- The gather fused into the scan. -/
abbrev net : Net sig 2048 1408 where
  src := Memref.whole main_arg7
  arr := Memref.whole main_v1_3
  sem := semOf
  sem_inj := semOf_inj
  squeezes := squeezes_S1x2048x1408_S2048x1408
  rows_pos := by decide
  cols_pos := by decide
  src_set := View.set_whole _
  arr_set := View.set_whole _

theorem gone_sem (k : Fin 7) (h) : ((cc0_scratch2.slice (Rect.unit (s := S7) ![k.val] S1.size h)).squeeze S_ squeezes_S1_S_).sem = net.sem (gone k) := by
  revert h; revert k; decide
theorem come_sem (k : Fin 7) (h) : ((cc0_scratch3.slice (Rect.unit (s := S7) ![k.val] S1.size h)).squeeze S_ squeezes_S1_S_).sem = net.sem (come k) := by
  revert h; revert k; decide
theorem loc_sem : cc0_scratch4.sem = net.sem loc := by decide

/-! ## The offsets and the devices -/

theorem off1 (c : Dev nD) : k0_off1 c = ![c.val, 0, 0] := by revert c; decide
theorem off5 (c : Dev nD) : k0_off5 c = ![(out (4 : Fin 7).castSucc c).val, 0, 0] := by revert c; decide
theorem off6 (c : Dev nD) : k0_off6 c = ![(out (5 : Fin 7).castSucc c).val, 0, 0] := by revert c; decide
theorem off7 (c : Dev nD) : k0_off7 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

/-! ## The grid points at which the gather starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 4 := by revert t; decide

end Cert.ScanUp

end
-- ==== Proof.Keeps.lean ====
/-
Programs that only load and store within buffers they hold: whatever values they meet, they end holding the same buffers.

A kernel that computes beside an exchange is walked by these rules: the buffers it computes in are held at contents of which
nothing is said.
-/
module

public import proofs.«01_k».proof.Proof.Share
public import Idealize.ShloMosaic.Lib.Scf

@[expose] public section

noncomputable section

namespace Cert.Keeps

open Idealize.ShloMosaic Idealize.ShloMosaic.TcCoe
open Cert.Wires
open Idealize.SL Idealize.SL.RA Idealize.SL.BI
open Idealize.SL.BI.BIBase Idealize.SL.BI.Laws Idealize.SL.ProofMode Idealize.SL.Sem

set_option Elab.async false

variable {sig : RefSig} {Val : EltTy → Type}
local notation "𝕄" => MT 8 τ₇ sig Unit Val ℕ (UU sig) ℕ

variable (Val) in
/-- Device `c` holds the memref, at some contents. -/
def some_of (c : Fin 8) {sp : Space} {s : Shape} {elt : EltTy} (M : Memref sig .tc sp s elt) : sProp 𝕄 :=
  iprop(∃ X, owns (th c) M fullShare X)

/-- A whole buffer held at some contents. -/
theorem some_whole (c : Fin 8) (b : Ref sig .tc) : (some_of Val c (Memref.whole b) : sProp 𝕄) = iprop(∃ f, (th c).loc b ↦{fullShare} f) := by
  unfold some_of; simp only [owns_whole]

/-- The memref is among what `P` holds: it can be taken out and put back. -/
class Has (c : Fin 8) (P : sProp 𝕄) {cs : CoreSpace} {s : Shape} {elt : EltTy} (M : Memref sig .tc cs s elt) : Prop where
  split : P ⊢ iprop(some_of Val c M ∗ (some_of Val c M -∗ P))

variable (c : Fin 8) {cs : CoreSpace} {s : Shape} {elt : EltTy} (M : Memref sig .tc cs s elt)

instance has_self : Has c (some_of Val c M) M := ⟨by
  iintro H; isplitl [H]; · iexact H
  iintro H; iexact H⟩

instance has_left (P R : sProp 𝕄) [h : Has c P M] : Has c iprop(P ∗ R) M := ⟨by
  iintro ⟨HP, HR⟩
  ihave H := h.split $$ HP
  icases H with ⟨HM, Hk⟩
  isplitl [HM]; · iexact HM
  iintro HM
  isplitl [Hk HM]; · iapply Hk; iexact HM
  iexact HR⟩

instance has_right (P R : sProp 𝕄) [h : Has c R M] : Has c iprop(P ∗ R) M := ⟨by
  iintro ⟨HP, HR⟩
  ihave H := h.split $$ HR
  icases H with ⟨HM, Hk⟩
  isplitl [HM]; · iexact HM
  iintro HM
  isplitl [HP]; · iexact HP
  iapply Hk; iexact HM⟩

variable {Λ : Idealize.SL.Sem.Labels} (defs : Defs 8 τ₇ sig Val Λ) (𝒱 : Variants) {α : Type}

/-- A load within a held memref. -/
theorem load_within (P : sProp 𝕄) [hP : Has c P M] {r : LoadRect s} {hl : M.view.LoadsAt r} {Q : α → sProp 𝕄}
    {k : (r.shape.Idx → Val elt) → Prog (TpuEff 8 τ₇ sig Val Λ .tc) α} :
    P ⊢ iprop((∀ v, P -∗ wp frame (wpE defs 𝒱 (th c) none) Set.univ (k v) Q)
        -∗ wp frame (wpE defs 𝒱 (th c) none) Set.univ (.op (.load M r hl) k) Q) := by
  refine hP.split.trans ?_
  unfold some_of owns
  iintro ⟨⟨%X, %f, %hf, H⟩, Hback⟩ Hk
  have hset : M.view.setOn r.set ⊆ M.view.set := by
    unfold View.setOn View.set; exact Finset.map_subset_map.mpr (Finset.subset_univ _)
  have e := wp_load (defs := defs) (Γ := .empty) 𝒱 (th c) none Set.univ (m := M) (r := r) (hl := hl) (k := k) (q := fullShare) (f := f) (S := M.view.set) (Q := Q) hset
  iapply e $$ H
  iintro H
  iapply Hk
  iapply Hback
  iexists X; iexists f; isplitr; · ipureintro; exact hf
  iexact H

/-- A store within a held memref. -/
theorem store_within (P : sProp 𝕄) [hP : Has c P M] {r : Rect s} {w : r.shape.Idx → Val elt} {Mk : Finset r.shape.Idx}
    {hx : (M.access r).Stores Mk} {hm : Mk = Finset.univ ∨ ∀ a, r.stride a = 1} {Q : α → sProp 𝕄} {k : PUnit → Prog (TpuEff 8 τ₇ sig Val Λ .tc) α} :
    P ⊢ iprop((P -∗ wp frame (wpE defs 𝒱 (th c) none) Set.univ (k ⟨⟩) Q)
        -∗ wp frame (wpE defs 𝒱 (th c) none) Set.univ (.op (.store M r w Mk hx hm) k) Q) := by
  refine hP.split.trans ?_
  unfold some_of owns
  iintro ⟨⟨%X, %f, %hf, H⟩, Hback⟩ Hk
  have hset : (M.access r).setOn Mk ⊆ M.view.set := by
    refine (Finset.Subset.trans ?_ (show (M.view.slice r).set ⊆ M.view.set from ?_))
    · unfold View.setOn View.set; exact Finset.map_subset_map.mpr (Finset.subset_univ _)
    · rw [View.set_slice]; unfold View.set; exact Finset.map_subset_map.mpr (Finset.subset_univ _)
  have e := wp_store (defs := defs) (Γ := .empty) 𝒱 (th c) none Set.univ (m := M) (r := r) (w := w) (Mk := Mk) (hx := hx) (hm := hm) (k := k) (f := f) (S := M.view.set) (Q := Q) hset
  iapply e $$ H
  iintro H
  iapply Hk
  iapply Hback
  iexists (M.view.read Val ((M.access r).write Val f w Mk)); iexists ((M.access r).write Val f w Mk)
  isplitr
  · ipureintro; rfl
  iexact H

/-- The program, run by device `c` from `P`, ends with `P`. -/
def Keeps (P : sProp 𝕄) (p : Prog (TpuEff 8 τ₇ sig Val Λ .tc) α) : Prop :=
  P ⊢ wp frame (wpE defs 𝒱 (th c) none) Set.univ p fun _ => P

variable {c}

theorem keeps_ret (P : sProp 𝕄) (a : α) : Keeps c defs 𝒱 P (.ret a) := by
  unfold Keeps
  iintro H
  rw [wp_ret]; imodintro
  iexact H

theorem keeps_load (P : sProp 𝕄) {M : Memref sig .tc cs s elt} [Has c P M] {r : LoadRect s} {hl : M.view.LoadsAt r}
    {k : (r.shape.Idx → Val elt) → Prog (TpuEff 8 τ₇ sig Val Λ .tc) α} (h : ∀ v, Keeps c defs 𝒱 P (k v)) :
    Keeps c defs 𝒱 P (.op (.load M r hl) k) := by
  unfold Keeps at h ⊢
  iintro H
  iapply (load_within c M defs 𝒱 P) $$ H
  iintro %v H
  iapply (h v)
  iexact H

theorem keeps_store (P : sProp 𝕄) {M : Memref sig .tc cs s elt} [Has c P M] {r : Rect s} {w : r.shape.Idx → Val elt} {Mk : Finset r.shape.Idx}
    {hx : (M.access r).Stores Mk} {hm : Mk = Finset.univ ∨ ∀ a, r.stride a = 1} {k : PUnit → Prog (TpuEff 8 τ₇ sig Val Λ .tc) α}
    (h : Keeps c defs 𝒱 P (k ⟨⟩)) : Keeps c defs 𝒱 P (.op (.store M r w Mk hx hm) k) := by
  unfold Keeps at h ⊢
  iintro H
  iapply (store_within c M defs 𝒱 P) $$ H
  iintro H
  iapply h
  iexact H

/-- A counted loop whose trips each keep `P`, and what follows it. -/
theorem loop_within (P : sProp 𝕄) {β : Type} {w : ℕ} {lb ub st : BitVec w} {hok : Scf.OK lb ub st} {init : α} {body : Fin (Scf.trips lb ub st) → α → Prog (TpuEff 8 τ₇ sig Val Λ .tc) α}
    (h : ∀ k a, Keeps c defs 𝒱 P (body k a)) {kk : α → Prog (TpuEff 8 τ₇ sig Val Λ .tc) β} {Q : β → sProp 𝕄} :
    P ⊢ iprop((∀ a, P -∗ wp frame (wpE defs 𝒱 (th c) none) Set.univ (kk a) Q)
        -∗ wp frame (wpE defs 𝒱 (th c) none) Set.univ (Scf.for lb ub st hok init body >>= kk) Q) :=
  Scf.wp_for_bind frame (wpE defs 𝒱 (th c) none) Set.univ lb ub st hok init body (fun _ _ => P) (fun k a => h k a)

theorem keeps_loop (P : sProp 𝕄) {β : Type} {w : ℕ} {lb ub st : BitVec w} {hok : Scf.OK lb ub st} {init : α} {body : Fin (Scf.trips lb ub st) → α → Prog (TpuEff 8 τ₇ sig Val Λ .tc) α}
    (h : ∀ k a, Keeps c defs 𝒱 P (body k a)) {kk : α → Prog (TpuEff 8 τ₇ sig Val Λ .tc) β} (hk : ∀ a, Keeps c defs 𝒱 P (kk a)) :
    Keeps c defs 𝒱 P (Scf.for lb ub st hok init body >>= kk) := by
  unfold Keeps at hk ⊢
  iintro H
  iapply (loop_within defs 𝒱 P h) $$ H
  iintro %a H
  iapply (hk a)
  iexact H

end Cert.Keeps

end
-- ==== Proof.ScanUp.Walk.lean ====
/-
One grid point of the scan kernel that gathers w_up: what its body does to what a device holds.

At the first point the body starts the gather, at the last it finishes it. At every point it scans the chunks of its block,
within the buffers it was given; of their contents nothing is said.
-/
module

public import proofs.«01_k».proof.Proof.ScanUp.Names
public import proofs.«01_k».proof.Proof.Keeps
public import proofs.«01_k».proof.Proof.Gen.ScanUpKernelIdeal.Skeleton
public import proofs.«01_k».proof.Proof.Gen.ScanUpKernelIdeal.Points

@[expose] public section

noncomputable section

namespace Cert.ScanUp

open Cert.ScanUpKernelIdeal Cert.ScanUpKernelIdeal.Gen Cert.Gather Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)
  (c : Dev nD) (M1 : Memref sig .tc .vmem S4352x128 .f32) (h1 : M1.IsWhole) (M2 : Memref sig .tc .vmem S1x512 .f32) (h2 : M2.IsWhole)
  (M3 : Memref sig .tc .vmem S1x512 .f32) (h3 : M3.IsWhole) (M4 : Memref sig .tc .vmem S1x128x512 .f32) (h4 : M4.IsWhole)
  (M5 : Memref sig .tc .vmem S1x128x512 .f32) (h5 : M5.IsWhole) (M6 : Memref sig .tc .vmem S1x512x128 .f32) (h6 : M6.IsWhole)
  (M7 : Memref sig .tc .vmem S1x512x128 .f32) (h7 : M7.IsWhole) (M9 : Memref sig .tc .vmem S4352x128 .f32) (h9 : M9.IsWhole)
  (M10 : Memref sig .tc .vmem S4352x512 .bf16) (h10 : M10.IsWhole) (M11 : Memref sig .tc .vmem S4352x512 .bf16) (h11 : M11.IsWhole)
  (M13 : Memref sig .tc .vmem S256x512 .f32) (h13 : M13.IsWhole) (M14 : Memref sig .tc .vmem S256x512 .f32) (h14 : M14.IsWhole)

/-- The buffers the scan computes in, at some contents. -/
abbrev bufs : sProp 𝕄 :=
  iprop((some_of (Elt F) c M1 ∗ some_of (Elt F) c M2 ∗ some_of (Elt F) c M3 ∗ some_of (Elt F) c M4 ∗ some_of (Elt F) c M5 ∗ some_of (Elt F) c M6
    ∗ some_of (Elt F) c M7 ∗ some_of (Elt F) c M9 ∗ some_of (Elt F) c M10 ∗ some_of (Elt F) c M11) ∗ some_of (Elt F) c M13 ∗ some_of (Elt F) c M14)

/-- Eight rows of a chunk. -/
theorem rows_keep (i : grid0.Coords) (v171 v174 v178 v180 v184 v186 v190 v192) (k) (a) :
    Keeps c (defs₀ (F := F)) noVariants (bufs (F := F) c M1 M2 M3 M4 M5 M6 M7 M9 M10 M11 M13 M14)
      (k0_t2_body (F := F) i M1 h1 M2 h2 M3 h3 M4 h4 M5 h5 M6 h6 M7 h7 (Memref.whole main_arg7) (Memref.isWhole_whole _) M9 h9 M10 h10 M11 h11
        (Memref.whole main_v1_3) (Memref.isWhole_whole _) M13 h13 M14 h14 cc0_scratch2 cc0_scratch3 cc0_scratch4 v171 v174 v178 v180 v184 v186 v190 v192 k a) := by
  unfold k0_t2_body
  simp only [k0_part2_eq_skeleton, k0_part2_skel, Prog.lift, Prog.bind_op, Prog.bind_ret, Prog.pure_eq_ret]
  refine keeps_load _ _ _ fun _ => keeps_load _ _ _ fun _ => ?_
  refine keeps_load _ _ _ fun _ => keeps_store _ _ _ (keeps_load _ _ _ fun _ => keeps_store _ _ _ (keeps_ret _ _ _ _))

/-- A chunk. -/
theorem chunk_keep (i : grid0.Coords) (v171 v174 v178 v180 v184 v186 v190 v192 v195 v198 v201 v204) (k) (a) :
    Keeps c (defs₀ (F := F)) noVariants (bufs (F := F) c M1 M2 M3 M4 M5 M6 M7 M9 M10 M11 M13 M14)
      (k0_t1_body (F := F) i M1 h1 M2 h2 M3 h3 M4 h4 M5 h5 M6 h6 M7 h7 (Memref.whole main_arg7) (Memref.isWhole_whole _) M9 h9 M10 h10 M11 h11
        (Memref.whole main_v1_3) (Memref.isWhole_whole _) M13 h13 M14 h14 cc0_scratch2 cc0_scratch3 cc0_scratch4 v171 v174 v178 v180 v184 v186 v190 v192
        v195 v198 v201 v204 k a) := by
  unfold k0_t1_body
  simp only [Prog.lift, Prog.bind_op, Prog.bind_ret, Prog.pure_eq_ret]
  refine keeps_load _ _ _ fun _ => keeps_load _ _ _ fun _ => keeps_store _ _ _ (keeps_load _ _ _ fun _ => keeps_store _ _ _ ?_)
  refine keeps_loop _ _ _ (fun k a => rows_keep c M1 h1 M2 h2 M3 h3 M4 h4 M5 h5 M6 h6 M7 h7 M9 h9 M10 h10 M11 h11 M13 h13 M14 h14 i _ _ _ _ _ _ _ _ k a) fun _ => ?_
  refine keeps_load _ _ _ fun _ => keeps_load _ _ _ fun _ => keeps_load _ _ _ fun _ => keeps_store _ _ _ ?_
  refine keeps_load _ _ _ fun _ => keeps_store _ _ _ (keeps_load _ _ _ fun _ => keeps_store _ _ _ (keeps_ret _ _ _ _))

set_option maxRecDepth 65536 in
/-- One grid point, whichever it is: the gather goes on, and the buffers are still held. -/
theorem walk (t : Fin cfg0.N) (Q : PUnit → sProp 𝕄) :
    iprop(holds net m 4 t.val c ∗ bufs (F := F) c M1 M2 M3 M4 M5 M6 M7 M9 M10 M11 M13 M14
        ∗ ((holds net m 4 (t.val + 1) c ∗ bufs (F := F) c M1 M2 M3 M4 M5 M6 M7 M9 M10 M11 M13 M14) -∗ Q ⟨⟩))
      ⊢ wp frame (wpE (defs₀ (F := F)) noVariants (th c) none) Set.univ
        (cc0_s5_head (F := F) (grid0.coords t) M1 h1 M2 h2 M3 h3 M4 h4 M5 h5 M6 h6 M7 h7 (Memref.whole main_arg7) (Memref.isWhole_whole _) M9 h9 M10 h10 M11 h11
          (Memref.whole main_v1_3) (Memref.isWhole_whole _) M13 h13 M14 h14 cc0_scratch2 cc0_scratch3 cc0_scratch4) Q := by
  have ht : t.val < 4 := t.isLt
  let B : sProp 𝕄 := bufs (F := F) c M1 M2 M3 M4 M5 M6 M7 M9 M10 M11 M13 M14
  simp only [cc0_s5_head_eq_skeleton, cc0_s5_head_skel, k0_part1_eq_skeleton, k0_part1_skel, k0_part3_eq_skeleton, k0_part3_skel,
      k0_part4_eq_skeleton, k0_part4_skel, k0_part5_eq_skeleton, k0_part5_skel, k0_part6_eq_skeleton, k0_part6_skel, k0_part7_eq_skeleton, k0_part7_skel,
      k0_part8_eq_skeleton, k0_part8_skel, k0_part9_eq_skeleton, k0_part9_skel, k0_part10_eq_skeleton, k0_part10_skel, k0_part11_eq_skeleton, k0_part11_skel,
      k0_part12_eq_skeleton, k0_part12_skel, k0_part13_eq_skeleton, k0_part13_skel,
      Prog.lift, Prog.bind_op, Prog.bind_ret, Prog.pure_eq_ret, wp_deviceId]
  refine at_first _ _ _ _ _ _ _ _ c ht (starts t) (fun g1 => ?_) ?_
  · simp only [Prog.bind_op, Prog.bind_ret]
    iintro Hm Hk
    iapply (gather_start net m (defs₀ (F := F)) noVariants c _ _ _ _ (dev1 c _) (dev2 c _) (dev3 c _) (dev4 c _) (off1 c) loc_sem
      (gone_sem 0 _) (come_sem 0 _) (gone_sem 1 _) (come_sem 1 _) (gone_sem 2 _) (come_sem 2 _) (gone_sem 3 _) (come_sem 3 _)) $$ Hm
    iexact Hk
  simp only [Prog.bind_op, Prog.bind_ret]
  iintro ⟨Hm, HB, Hk⟩
  iapply (load_within c M3 (defs₀ (F := F)) noVariants B) $$ HB; iintro %v3 HB
  iapply (load_within c M2 (defs₀ (F := F)) noVariants B) $$ HB; iintro %v2 HB
  iapply (load_within c M4 (defs₀ (F := F)) noVariants B) $$ HB; iintro %v4 HB
  iapply (load_within c M5 (defs₀ (F := F)) noVariants B) $$ HB; iintro %v5 HB
  iapply (load_within c M6 (defs₀ (F := F)) noVariants B) $$ HB; iintro %v6 HB
  iapply (load_within c M7 (defs₀ (F := F)) noVariants B) $$ HB; iintro %v7 HB
  iapply (loop_within (defs₀ (F := F)) noVariants B fun k a => chunk_keep c M1 h1 M2 h2 M3 h3 M4 h4 M5 h5 M6 h6 M7 h7 M9 h9 M10 h10 M11 h11 M13 h13 M14 h14
    (grid0.coords t) _ _ _ _ _ _ _ _ _ _ _ _ k a) $$ HB
  iintro %a HB
  by_cases g2 : k0_cond2 (grid0.coords t) = 1#1
  · rw [holds_end _ _ _ _ (Nat.succ_ne_zero _) ((finishes t).mp g2)]
    simp only [dif_pos g2]
    iapply (gather_finish net m (defs₀ (F := F)) noVariants rfl c _ _ _ (dev5 c _) (dev6 c _) (dev7 c _) (off5 c) (off6 c) (off7 c) loc_sem
      (gone_sem 0 _) (come_sem 0 _) (gone_sem 1 _) (come_sem 1 _) (gone_sem 2 _) (come_sem 2 _) (gone_sem 3 _) (come_sem 3 _)
      (gone_sem 4 _) (come_sem 4 _) (gone_sem 5 _) (come_sem 5 _) (gone_sem 6 _) (come_sem 6 _)) $$ Hm
    iintro Hm
    rw [wp_ret]; imodintro
    iapply Hk
    isplitl [Hm] <;> iassumption
  · rw [holds_mid _ _ _ _ (Nat.succ_ne_zero _) (not_not.mp fun h => g2 ((finishes t).mpr h))]
    simp only [dif_neg g2]
    rw [wp_ret]; imodintro
    iapply Hk
    isplitl [Hm] <;> iassumption

end Cert.ScanUp

end
-- ==== Proof.ScanUp.Run.lean ====
/-
The run of the scan kernel that gathers w_up on the eight devices, for any float values: what each device holds from grid point to grid
point, the launch, and the arrays at the end. Nothing is said of what the scan leaves in its own results.
-/
module

public import proofs.«01_k».proof.Proof.ScanUp.Walk
public import proofs.«01_k».proof.Proof.Begin
public import proofs.«01_k».proof.Proof.Gen.ScanUpKernelIdeal.Frame

@[expose] public section

noncomputable section

namespace Cert.ScanUp

open Cert.ScanUpKernelIdeal Cert.ScanUpKernelIdeal.Gen Cert.Gather Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the gather, and the scan's scratch at some contents. -/
def phi (n : ℕ) (c : Dev nD) : sProp 𝕄 :=
  iprop(stateAt net m 4 n c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- The proof data: what a window's buffers hold is left open, so the contents named here are not used. -/
def dats (_ : Fin 1) (c : Dev nD) : Dat τ (Elt F) Unit ℕ (UU sig) ℕ cfg0 c where
  A w := m ((cfg0.win w).arr.view.loc (c : Thread nD τ))
  after _ _ := fun _ => Classical.choice inferInstance
  Φ t := phi m t.val c
  q _ := fullShare
  owed t := dues net.wires (owedAt 4 t.val) c

/-- Every window is left open. -/
abbrev left_open (_ : Fin 1) (c : Dev nD) : Fin cfg0.W → Bool := fun _ => true

/-- The body at each grid point. -/
theorem body_obligation (c : Dev nD) : BodyObligationLoose (dats m 0 c) (defs₀ (F := F)) noVariants () Set.univ (left_open 0 c) := fun t => by
  have e := bigSep_W0 (fun w => (some_of (Elt F) c ((cfg0.win w).stage (cfg0.slots t w)) : sProp 𝕄))
  show iprop(phi m t.val c ∗ (dats m 0 c).owesAt () t.castSucc ∗ bigSep Finset.univ fun w => some_of (Elt F) c ((cfg0.win w).stage (cfg0.slots t w)))
    ⊢ wp frame (wpE (defs₀ (F := F)) noVariants (th c) none) Set.univ (bodyAt0 t) fun _ =>
      iprop(phi m (t.val + 1) c ∗ (dats m 0 c).owesAt () t.succ ∗ bigSep Finset.univ fun w => some_of (Elt F) c ((cfg0.win w).stage (cfg0.slots t w)))
  rw [e]
  unfold phi
  iintro ⟨⟨Hs, HA, HB⟩, HO, HW⟩
  ihave HA := (Entails.of_eq (some_whole (Val := Elt F) c cc0_scratch0).symm) $$ HA
  ihave HB := (Entails.of_eq (some_whole (Val := Elt F) c cc0_scratch1).symm) $$ HB
  ihave HO := (owes_at (dats m 0 c) t.castSucc) $$ HO
  iapply (walk m c (st0_0 t) _ (st0_1 t) _ (st0_2 t) _ (st0_3 t) _ (st0_4 t) _ (st0_5 t) _ (st0_6 t) _ (st0_7 t) _ (st0_8 t) _ (st0_9 t) _
    (Memref.whole cc0_scratch0) (Memref.isWhole_whole _) (Memref.whole cc0_scratch1) (Memref.isWhole_whole _) t)
  unfold holds holding
  isplitl [Hs HO]
  · isplitl [Hs]; · iexact Hs
    iexact HO
  isplitl [HA HB HW]
  · isplitl [HW]; · iexact HW
    isplitl [HA]; · iexact HA
    iexact HB
  iintro ⟨⟨Hs, HO⟩, HW, HA, HB⟩
  ihave HA := (Entails.of_eq (some_whole (Val := Elt F) c cc0_scratch0)) $$ HA
  ihave HB := (Entails.of_eq (some_whole (Val := Elt F) c cc0_scratch1)) $$ HB
  isplitl [Hs HA HB]
  · isplitl [Hs]; · iexact Hs
    isplitl [HA]; · iexact HA
    iexact HB
  isplitl [HO]; · iapply (at_owes (dats m 0 c) t.succ fun _ => trivial); iexact HO
  iexact HW

/-! ## The launch -/

theorem phi_start (c : Dev nD) : iprop(before net m c ∗ Pipeline.scopedRest spec0 c) ⊢ (phi m 0 c : sProp 𝕄) := by
  rw [scopedRest0_eq]; unfold phi
  rw [show stateAt net m 4 0 c = before net m c from if_pos rfl]

theorem phi_end (c : Dev nD) : (phi m 4 c : sProp 𝕄) ⊢ iprop(endOf net m c
    ∗ zeros (Elt F) net.wires c ∗ Pipeline.scopedRest spec0 c) := by
  rw [scopedRest0_eq]; unfold phi
  rw [show stateAt net m 4 4 c = after net m c from (if_neg (by decide)).trans (if_neg (by decide))]
  iintro ⟨H, Hr⟩
  ihave H := (after_end net m c) $$ H
  icases H with ⟨H, Hz⟩
  isplitl [H]; · iexact H
  isplitl [Hz] <;> iassumption

/-- What the run says: on every device the inputs are unchanged and each block of the gathered array is its device's shard; and
    every counter is zero. -/
def Ran (r : PUnit × MemSt nD τ sig (Elt F)) : Prop :=
  (∀ c : Dev nD,
      (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7))
    ∧ ∀ j : Fin 8, (net.blk j).view.read (Elt F) (r.2.mem ((c : Thread nD τ).loc main_v1_3)) = shard net m j)
  ∧ r.2.sem = fun _ => 0

theorem ran_of {s : MemSt nD τ sig (Elt F)}
    (h : ∀ c : Dev nD, (∀ w, left_open 0 c w = false ∨ (cfg0.win w).isOut = false → s.mem ((cfg0.win w).arr.view.loc (c : Thread nD τ)) = (dats m 0 c).arrAt w cfg0.N) ∧ EndRead net m c s)
    (hz : s.sem = fun _ => 0) : Ran m (⟨⟩, s) := by
  have hin (c : Dev nD) (w) (hw : (cfg0.win w).isOut = false) : s.mem ((cfg0.win w).arr.view.loc (c : Thread nD τ)) = m ((cfg0.win w).arr.view.loc (c : Thread nD τ)) :=
    ((h c).1 w (Or.inr hw)).trans ((dats m 0 c).arrAt_in w hw _)
  exact ⟨fun c => ⟨⟨hin c 0 rfl, hin c 1 rfl, hin c 2 rfl, hin c 3 rfl, hin c 4 rfl, hin c 5 rfl, hin c 6 rfl, (h c).2.1⟩, (h c).2.2⟩, hz⟩

/-- The scan kernel on the eight devices, for any float values: it terminates from any memory, and ends as `Ran` says. -/
theorem run_main : θ_run (defs (F := F)) (onTc (τ := τ) (main (F := F))) ⟨m, fun _ => 0, ρ⟩ (Ran m) :=
  run_open cellOf_inj (dats m) left_open winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_gather net m _ fun c => Entails.of_eq (unscopedRest0_eq ..)) (fun _ _ => rfl) (start_intro net m) (phi_start m) (phi_end m) (end_read net m)
    (fun _ h hs => ran_of m h (sem_eq_zero_of_scoped (by decide) hs))

end Cert.ScanUp

end
-- ==== Proof.ScanUp.Agree.lean ====
/-
The gather of w_up that the scan kernel carries, against its reference: each device ends with the whole weight.
-/
module

public import proofs.«01_k».proof.Defs
public import proofs.«01_k».proof.Proof.Rows
public import proofs.«01_k».proof.Proof.ScanUp.Run
public import proofs.«01_k».proof.Proof.Gen.ScanUpKernel
public import proofs.«01_k».proof.Proof.Gen.ScanUpReferenceIdeal.Run

@[expose] public section

noncomputable section

namespace Cert.ScanUp

open Cert.Gather Idealize.ShloMosaic Idealize.ShloMosaic.TcCoe Idealize.SL.Sem

/-- The reference's result at an index. -/
theorem gathered_eq (w : ScanUpReferenceIdeal.S2048x11264.Idx → EReal) (j : ScanUpReferenceIdeal.S8x2048x1408.Idx) :
    transpose ScanUpReferenceIdeal.S8x2048x1408 [1, 0, 2] (shapeCast ScanUpReferenceIdeal.S2048x8x1408 w ScanUpReferenceIdeal.Gen.shapeCasts_S2048x11264_S2048x8x1408)
      ScanUpReferenceIdeal.Gen.transposes_S2048x8x1408_S8x2048x1408_1_0_2 j = byCols (C := 1408) (n := 11264) rfl w j := by
  pointwise [byCols]

theorem algebraic : @algebraic_ScanUpKernelIdeal_ScanUpReferenceIdeal Cert.ScanUpKernelIdeal.Gen.facts Cert.ScanUpReferenceIdeal.Gen.facts := by
  intro m g m' g' _ hin
  refine ⟨byCols (C := 1408) (n := 11264) rfl (m' ((0 : Dev ScanUpReferenceIdeal.nD).tc.loc ScanUpReferenceIdeal.main_arg7)), ?_,
    (θ_run _ _ _).mono (fun _ h => ⟨(h 0).1.trans (funext fun j => gathered_eq _ j), (h 0).2⟩) (Cert.ScanUpReferenceIdeal.Value.run (F := Ideal) m' g')⟩
  refine (θ_run _ _ _).mono (fun r h c => ?_) (run_main (F := Ideal) m g)
  exact ⟨byCols_of_blocks net rfl _ (by decide) _ (fun d => (hin d).2.2.2.2.2.2.2) _ (h.1 c).2 _ fun _ => rfl, (h.1 c).1⟩

/-- The kernel over the extended reals terminates with its arguments unchanged and every counter at zero. -/
theorem frame_ideal : @quiescent_ScanUpKernelIdeal Cert.ScanUpKernelIdeal.Gen.facts := fun m g _ =>
  (θ_run _ _ _).mono (fun _ h => ⟨fun c => (h.1 c).1, h.2⟩) (run_main (F := Ideal) m g)

attribute [local instance] Cert.ScanUpKernel.Gen.facts Cert.ScanUpKernelIdeal.Gen.facts in
/-- The two printed programs have the same kernel body. -/
theorem bodies_eq : ScanUpKernel.defs₀ (F := Bits) = ScanUpKernelIdeal.defs₀ (F := Bits) := by
  unfold ScanUpKernel.defs₀ ScanUpKernelIdeal.defs₀
  refine congrArg Defs.onTc (funext fun ℓ => funext fun x => ?_)
  match ℓ, x with
  | 0, (t, s) => rfl

attribute [local instance] Cert.ScanUpKernel.Gen.facts Cert.ScanUpKernelIdeal.Gen.facts in
/-- So they have the same table of bodies. -/
theorem tables_eq : ScanUpKernel.defs (F := Bits) = ScanUpKernelIdeal.defs (F := Bits) :=
  congrArg (Pipeline.defs (ScanUpKernelIdeal.pcfgs (F := Bits))) bodies_eq

/-- The kernel on bits does too: its program is the same text. -/
theorem frame_bits : @quiescent_ScanUpKernel Cert.ScanUpKernel.Gen.facts := fun m g _ => by
  show θ_run (ScanUpKernel.defs (F := Bits)) _ _ _
  rw [tables_eq]
  exact (θ_run _ _ _).mono (fun _ h => ⟨fun c => (h.1 c).1, h.2⟩) (run_main (F := Bits) m g)

/-- The reference terminates with its arguments unchanged; it has no counter. -/
theorem frame_reference : @quiescent_ScanUpReferenceIdeal Cert.ScanUpReferenceIdeal.Gen.facts := fun m g _ =>
  (θ_run _ _ _).mono (fun r h => ⟨fun c => (h c).2, sem_eq_zero_of_no_sems (by decide) r.2⟩) (Cert.ScanUpReferenceIdeal.Value.run (F := Ideal) m g)

end Cert.ScanUp

end
-- ==== Proof.ScanDown.Names.lean ====
/-
The names the scan kernel that gathers w_down uses for the gather: its arrays, its semaphores, the blocks it addresses and the
devices it sends to.
-/
module

public import proofs.«01_k».proof.Proof.Stages
public import proofs.«01_k».proof.Proof.Gen.ScanDownKernelIdeal
public import proofs.«01_k».proof.Proof.Gen.ScanDownKernelIdeal.Launch

@[expose] public section

noncomputable section

namespace Cert.ScanDown

open Cert.ScanDownKernelIdeal Cert.ScanDownKernelIdeal.Gen Cert.Gather Cert.Wires
open Idealize.ShloMosaic Idealize.ShloMosaic.TcCoe

/-- The program has no loop that is not counted. -/
abbrev noVariants : Variants := Variants.none

/-- Semaphores 20 to 26 count copies gone, 27 to 33 copies come, 34 the local copy. -/
def semOf : CellId → DmaSem sig
  | .inl k => ⟨20 + k.val, by have := k.isLt; show 20 + k.val < 35; omega⟩
  | .inr (.inl k) => ⟨27 + k.val, by have := k.isLt; show 27 + k.val < 35; omega⟩
  | .inr (.inr ()) => ⟨34, by decide⟩

theorem semOf_inj : Function.Injective semOf := by
  intro i j h
  revert i j
  decide

/-- The gather fused into the scan. -/
abbrev net : Net sig 704 2048 where
  src := Memref.whole main_arg7
  arr := Memref.whole main_v1_3
  sem := semOf
  sem_inj := semOf_inj
  squeezes := squeezes_S1x704x2048_S704x2048
  rows_pos := by decide
  cols_pos := by decide
  src_set := View.set_whole _
  arr_set := View.set_whole _

theorem gone_sem (k : Fin 7) (h) : ((cc0_scratch2.slice (Rect.unit (s := S7) ![k.val] S1.size h)).squeeze S_ squeezes_S1_S_).sem = net.sem (gone k) := by
  revert h; revert k; decide
theorem come_sem (k : Fin 7) (h) : ((cc0_scratch3.slice (Rect.unit (s := S7) ![k.val] S1.size h)).squeeze S_ squeezes_S1_S_).sem = net.sem (come k) := by
  revert h; revert k; decide
theorem loc_sem : cc0_scratch4.sem = net.sem loc := by decide

/-! ## The offsets and the devices -/

theorem off1 (c : Dev nD) : k0_off1 c = ![c.val, 0, 0] := by revert c; decide
theorem off5 (c : Dev nD) : k0_off5 c = ![(out (4 : Fin 7).castSucc c).val, 0, 0] := by revert c; decide
theorem off6 (c : Dev nD) : k0_off6 c = ![(out (5 : Fin 7).castSucc c).val, 0, 0] := by revert c; decide
theorem off7 (c : Dev nD) : k0_off7 c = ![(out (6 : Fin 7).castSucc c).val, 0, 0] := by revert c; decide
theorem dev1 (c : Dev nD) (h) : (⟨k0_dev1 c, h⟩ : Dev nD) = goTo (0 : Fin 7).castSucc c := by revert h; revert c; decide
theorem dev2 (c : Dev nD) (h) : (⟨k0_dev2 c, h⟩ : Dev nD) = goTo (1 : Fin 7).castSucc c := by revert h; revert c; decide
theorem dev3 (c : Dev nD) (h) : (⟨k0_dev3 c, h⟩ : Dev nD) = goTo (2 : Fin 7).castSucc c := by revert h; revert c; decide
theorem dev4 (c : Dev nD) (h) : (⟨k0_dev4 c, h⟩ : Dev nD) = goTo (3 : Fin 7).castSucc c := by revert h; revert c; decide
theorem dev5 (c : Dev nD) (h) : (⟨k0_dev5 c, h⟩ : Dev nD) = goTo (4 : Fin 7).castSucc c := by revert h; revert c; decide
theorem dev6 (c : Dev nD) (h) : (⟨k0_dev6 c, h⟩ : Dev nD) = goTo (5 : Fin 7).castSucc c := by revert h; revert c; decide
theorem dev7 (c : Dev nD) (h) : (⟨k0_dev7 c, h⟩ : Dev nD) = goTo (6 : Fin 7).castSucc c := by revert h; revert c; decide

/-! ## The grid points at which the gather starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 4 := by revert t; decide

end Cert.ScanDown

end
-- ==== Proof.ScanDown.Walk.lean ====
/-
One grid point of the scan kernel that gathers w_down: what its body does to what a device holds.

At the first point the body starts the gather, at the last it finishes it. At every point it scans the chunks of its block,
within the buffers it was given; of their contents nothing is said.
-/
module

public import proofs.«01_k».proof.Proof.ScanDown.Names
public import proofs.«01_k».proof.Proof.Keeps
public import proofs.«01_k».proof.Proof.Gen.ScanDownKernelIdeal.Skeleton
public import proofs.«01_k».proof.Proof.Gen.ScanDownKernelIdeal.Points

@[expose] public section

noncomputable section

namespace Cert.ScanDown

open Cert.ScanDownKernelIdeal Cert.ScanDownKernelIdeal.Gen Cert.Gather Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)
  (c : Dev nD) (M1 : Memref sig .tc .vmem S4352x128 .f32) (h1 : M1.IsWhole) (M2 : Memref sig .tc .vmem S1x512 .f32) (h2 : M2.IsWhole)
  (M3 : Memref sig .tc .vmem S1x512 .f32) (h3 : M3.IsWhole) (M4 : Memref sig .tc .vmem S1x128x512 .f32) (h4 : M4.IsWhole)
  (M5 : Memref sig .tc .vmem S1x128x512 .f32) (h5 : M5.IsWhole) (M6 : Memref sig .tc .vmem S1x512x128 .f32) (h6 : M6.IsWhole)
  (M7 : Memref sig .tc .vmem S1x512x128 .f32) (h7 : M7.IsWhole) (M9 : Memref sig .tc .vmem S4352x128 .f32) (h9 : M9.IsWhole)
  (M10 : Memref sig .tc .vmem S4352x512 .bf16) (h10 : M10.IsWhole) (M11 : Memref sig .tc .vmem S4352x512 .bf16) (h11 : M11.IsWhole)
  (M13 : Memref sig .tc .vmem S256x512 .f32) (h13 : M13.IsWhole) (M14 : Memref sig .tc .vmem S256x512 .f32) (h14 : M14.IsWhole)

/-- The buffers the scan computes in, at some contents. -/
abbrev bufs : sProp 𝕄 :=
  iprop((some_of (Elt F) c M1 ∗ some_of (Elt F) c M2 ∗ some_of (Elt F) c M3 ∗ some_of (Elt F) c M4 ∗ some_of (Elt F) c M5 ∗ some_of (Elt F) c M6
    ∗ some_of (Elt F) c M7 ∗ some_of (Elt F) c M9 ∗ some_of (Elt F) c M10 ∗ some_of (Elt F) c M11) ∗ some_of (Elt F) c M13 ∗ some_of (Elt F) c M14)

/-- Eight rows of a chunk. -/
theorem rows_keep (i : grid0.Coords) (v171 v174 v178 v180 v184 v186 v190 v192 v195 v198 v201 v204 x y k1 a1 a2) (k) (a) :
    Keeps c (defs₀ (F := F)) noVariants (bufs (F := F) c M1 M2 M3 M4 M5 M6 M7 M9 M10 M11 M13 M14)
      (k0_t2_body (F := F) i M1 h1 M2 h2 M3 h3 M4 h4 M5 h5 M6 h6 M7 h7 (Memref.whole main_arg7) (Memref.isWhole_whole _) M9 h9 M10 h10 M11 h11
        (Memref.whole main_v1_3) (Memref.isWhole_whole _) M13 h13 M14 h14 cc0_scratch2 cc0_scratch3 cc0_scratch4 v171 v174 v178 v180 v184 v186 v190 v192
        v195 v198 v201 v204 x y k1 a1 a2 k a) := by
  unfold k0_t2_body
  simp only [k0_part2_eq_skeleton, k0_part2_skel, Prog.lift, Prog.bind_op, Prog.bind_ret, Prog.pure_eq_ret]
  refine keeps_load _ _ _ fun _ => keeps_load _ _ _ fun _ => ?_
  refine keeps_load _ _ _ fun _ => keeps_store _ _ _ (keeps_load _ _ _ fun _ => keeps_store _ _ _ (keeps_ret _ _ _ _))

/-- A chunk. -/
theorem chunk_keep (i : grid0.Coords) (v171 v174 v178 v180 v184 v186 v190 v192 v195 v198 v201 v204 x) (k) (a) :
    Keeps c (defs₀ (F := F)) noVariants (bufs (F := F) c M1 M2 M3 M4 M5 M6 M7 M9 M10 M11 M13 M14)
      (k0_t1_body (F := F) i M1 h1 M2 h2 M3 h3 M4 h4 M5 h5 M6 h6 M7 h7 (Memref.whole main_arg7) (Memref.isWhole_whole _) M9 h9 M10 h10 M11 h11
        (Memref.whole main_v1_3) (Memref.isWhole_whole _) M13 h13 M14 h14 cc0_scratch2 cc0_scratch3 cc0_scratch4 v171 v174 v178 v180 v184 v186 v190 v192
        v195 v198 v201 v204 x k a) := by
  unfold k0_t1_body
  simp only [k0_part3_eq_skeleton, k0_part3_skel, Prog.lift, Prog.bind_op, Prog.bind_ret, Prog.pure_eq_ret, bind_assoc]
  refine keeps_load _ _ _ fun _ => keeps_load _ _ _ fun _ => keeps_store _ _ _ (keeps_load _ _ _ fun _ => keeps_store _ _ _ ?_)
  refine keeps_loop _ _ _ (fun k a => rows_keep c M1 h1 M2 h2 M3 h3 M4 h4 M5 h5 M6 h6 M7 h7 M9 h9 M10 h10 M11 h11 M13 h13 M14 h14 i _ _ _ _ _ _ _ _ _ _ _ _ _ _ _ _ _ k a) fun _ => ?_
  refine keeps_load _ _ _ fun _ => keeps_load _ _ _ fun _ => keeps_load _ _ _ fun _ => keeps_store _ _ _ ?_
  refine keeps_load _ _ _ fun _ => keeps_store _ _ _ (keeps_load _ _ _ fun _ => keeps_store _ _ _ (keeps_ret _ _ _ _))

set_option maxRecDepth 65536 in
/-- One grid point, whichever it is: the gather goes on, and the buffers are still held. -/
theorem walk (t : Fin cfg0.N) (Q : PUnit → sProp 𝕄) :
    iprop(holds net m 4 t.val c ∗ bufs (F := F) c M1 M2 M3 M4 M5 M6 M7 M9 M10 M11 M13 M14
        ∗ ((holds net m 4 (t.val + 1) c ∗ bufs (F := F) c M1 M2 M3 M4 M5 M6 M7 M9 M10 M11 M13 M14) -∗ Q ⟨⟩))
      ⊢ wp frame (wpE (defs₀ (F := F)) noVariants (th c) none) Set.univ
        (cc0_s5_head (F := F) (grid0.coords t) M1 h1 M2 h2 M3 h3 M4 h4 M5 h5 M6 h6 M7 h7 (Memref.whole main_arg7) (Memref.isWhole_whole _) M9 h9 M10 h10 M11 h11
          (Memref.whole main_v1_3) (Memref.isWhole_whole _) M13 h13 M14 h14 cc0_scratch2 cc0_scratch3 cc0_scratch4) Q := by
  have ht : t.val < 4 := t.isLt
  let B : sProp 𝕄 := bufs (F := F) c M1 M2 M3 M4 M5 M6 M7 M9 M10 M11 M13 M14
  simp only [cc0_s5_head_eq_skeleton, cc0_s5_head_skel, k0_part1_eq_skeleton, k0_part1_skel, k0_part14_eq_skeleton, k0_part14_skel,
      k0_part4_eq_skeleton, k0_part4_skel, k0_part5_eq_skeleton, k0_part5_skel, k0_part6_eq_skeleton, k0_part6_skel, k0_part7_eq_skeleton, k0_part7_skel,
      k0_part8_eq_skeleton, k0_part8_skel, k0_part9_eq_skeleton, k0_part9_skel, k0_part10_eq_skeleton, k0_part10_skel, k0_part11_eq_skeleton, k0_part11_skel,
      k0_part12_eq_skeleton, k0_part12_skel, k0_part13_eq_skeleton, k0_part13_skel,
      Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (gather_start net m (defs₀ (F := F)) noVariants c _ _ _ _ (dev1 c _) (dev2 c _) (dev3 c _) (dev4 c _) (off1 c) loc_sem
      (gone_sem 0 _) (come_sem 0 _) (gone_sem 1 _) (come_sem 1 _) (gone_sem 2 _) (come_sem 2 _) (gone_sem 3 _) (come_sem 3 _)) $$ Hm
    iexact Hk
  simp only [Prog.bind_op, Prog.bind_ret]
  iintro ⟨Hm, HB, Hk⟩
  iapply (load_within c M3 (defs₀ (F := F)) noVariants B) $$ HB; iintro %v3 HB
  iapply (load_within c M2 (defs₀ (F := F)) noVariants B) $$ HB; iintro %v2 HB
  iapply (load_within c M4 (defs₀ (F := F)) noVariants B) $$ HB; iintro %v4 HB
  iapply (load_within c M5 (defs₀ (F := F)) noVariants B) $$ HB; iintro %v5 HB
  iapply (load_within c M6 (defs₀ (F := F)) noVariants B) $$ HB; iintro %v6 HB
  iapply (load_within c M7 (defs₀ (F := F)) noVariants B) $$ HB; iintro %v7 HB
  iapply (loop_within (defs₀ (F := F)) noVariants B fun k a => chunk_keep c M1 h1 M2 h2 M3 h3 M4 h4 M5 h5 M6 h6 M7 h7 M9 h9 M10 h10 M11 h11 M13 h13 M14 h14
    (grid0.coords t) _ _ _ _ _ _ _ _ _ _ _ _ _ k a) $$ HB
  iintro %a HB
  by_cases g2 : k0_cond2 (grid0.coords t) = 1#1
  · rw [holds_end _ _ _ _ (Nat.succ_ne_zero _) ((finishes t).mp g2)]
    simp only [dif_pos g2, Prog.bind_op, Prog.bind_ret]
    iapply (gather_finish net m (defs₀ (F := F)) noVariants rfl c _ _ _ (dev5 c _) (dev6 c _) (dev7 c _) (off5 c) (off6 c) (off7 c) loc_sem
      (gone_sem 0 _) (come_sem 0 _) (gone_sem 1 _) (come_sem 1 _) (gone_sem 2 _) (come_sem 2 _) (gone_sem 3 _) (come_sem 3 _)
      (gone_sem 4 _) (come_sem 4 _) (gone_sem 5 _) (come_sem 5 _) (gone_sem 6 _) (come_sem 6 _)) $$ Hm
    iintro Hm
    rw [wp_ret]; imodintro
    iapply Hk
    isplitl [Hm] <;> iassumption
  · rw [holds_mid _ _ _ _ (Nat.succ_ne_zero _) (not_not.mp fun h => g2 ((finishes t).mpr h))]
    simp only [dif_neg g2, Prog.bind_op, Prog.bind_ret]
    rw [wp_ret]; imodintro
    iapply Hk
    isplitl [Hm] <;> iassumption

end Cert.ScanDown

end
-- ==== Proof.ScanDown.Run.lean ====
/-
The run of the scan kernel that gathers w_down on the eight devices, for any float values: what each device holds from grid point to grid
point, the launch, and the arrays at the end. Nothing is said of what the scan leaves in its own results.
-/
module

public import proofs.«01_k».proof.Proof.ScanDown.Walk
public import proofs.«01_k».proof.Proof.Begin
public import proofs.«01_k».proof.Proof.Gen.ScanDownKernelIdeal.Frame

@[expose] public section

noncomputable section

namespace Cert.ScanDown

open Cert.ScanDownKernelIdeal Cert.ScanDownKernelIdeal.Gen Cert.Gather Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the gather, and the scan's scratch at some contents. -/
def phi (n : ℕ) (c : Dev nD) : sProp 𝕄 :=
  iprop(stateAt net m 4 n c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- The proof data: what a window's buffers hold is left open, so the contents named here are not used. -/
def dats (_ : Fin 1) (c : Dev nD) : Dat τ (Elt F) Unit ℕ (UU sig) ℕ cfg0 c where
  A w := m ((cfg0.win w).arr.view.loc (c : Thread nD τ))
  after _ _ := fun _ => Classical.choice inferInstance
  Φ t := phi m t.val c
  q _ := fullShare
  owed t := dues net.wires (owedAt 4 t.val) c

/-- Every window is left open. -/
abbrev left_open (_ : Fin 1) (c : Dev nD) : Fin cfg0.W → Bool := fun _ => true

/-- The body at each grid point. -/
theorem body_obligation (c : Dev nD) : BodyObligationLoose (dats m 0 c) (defs₀ (F := F)) noVariants () Set.univ (left_open 0 c) := fun t => by
  have e := bigSep_W0 (fun w => (some_of (Elt F) c ((cfg0.win w).stage (cfg0.slots t w)) : sProp 𝕄))
  show iprop(phi m t.val c ∗ (dats m 0 c).owesAt () t.castSucc ∗ bigSep Finset.univ fun w => some_of (Elt F) c ((cfg0.win w).stage (cfg0.slots t w)))
    ⊢ wp frame (wpE (defs₀ (F := F)) noVariants (th c) none) Set.univ (bodyAt0 t) fun _ =>
      iprop(phi m (t.val + 1) c ∗ (dats m 0 c).owesAt () t.succ ∗ bigSep Finset.univ fun w => some_of (Elt F) c ((cfg0.win w).stage (cfg0.slots t w)))
  rw [e]
  unfold phi
  iintro ⟨⟨Hs, HA, HB⟩, HO, HW⟩
  ihave HA := (Entails.of_eq (some_whole (Val := Elt F) c cc0_scratch0).symm) $$ HA
  ihave HB := (Entails.of_eq (some_whole (Val := Elt F) c cc0_scratch1).symm) $$ HB
  ihave HO := (owes_at (dats m 0 c) t.castSucc) $$ HO
  iapply (walk m c (st0_0 t) _ (st0_1 t) _ (st0_2 t) _ (st0_3 t) _ (st0_4 t) _ (st0_5 t) _ (st0_6 t) _ (st0_7 t) _ (st0_8 t) _ (st0_9 t) _
    (Memref.whole cc0_scratch0) (Memref.isWhole_whole _) (Memref.whole cc0_scratch1) (Memref.isWhole_whole _) t)
  unfold holds holding
  isplitl [Hs HO]
  · isplitl [Hs]; · iexact Hs
    iexact HO
  isplitl [HA HB HW]
  · isplitl [HW]; · iexact HW
    isplitl [HA]; · iexact HA
    iexact HB
  iintro ⟨⟨Hs, HO⟩, HW, HA, HB⟩
  ihave HA := (Entails.of_eq (some_whole (Val := Elt F) c cc0_scratch0)) $$ HA
  ihave HB := (Entails.of_eq (some_whole (Val := Elt F) c cc0_scratch1)) $$ HB
  isplitl [Hs HA HB]
  · isplitl [Hs]; · iexact Hs
    isplitl [HA]; · iexact HA
    iexact HB
  isplitl [HO]; · iapply (at_owes (dats m 0 c) t.succ fun _ => trivial); iexact HO
  iexact HW

/-! ## The launch -/

theorem phi_start (c : Dev nD) : iprop(before net m c ∗ Pipeline.scopedRest spec0 c) ⊢ (phi m 0 c : sProp 𝕄) := by
  rw [scopedRest0_eq]; unfold phi
  rw [show stateAt net m 4 0 c = before net m c from if_pos rfl]

theorem phi_end (c : Dev nD) : (phi m 4 c : sProp 𝕄) ⊢ iprop(endOf net m c
    ∗ zeros (Elt F) net.wires c ∗ Pipeline.scopedRest spec0 c) := by
  rw [scopedRest0_eq]; unfold phi
  rw [show stateAt net m 4 4 c = after net m c from (if_neg (by decide)).trans (if_neg (by decide))]
  iintro ⟨H, Hr⟩
  ihave H := (after_end net m c) $$ H
  icases H with ⟨H, Hz⟩
  isplitl [H]; · iexact H
  isplitl [Hz] <;> iassumption

/-- What the run says: on every device the inputs are unchanged and each block of the gathered array is its device's shard; and
    every counter is zero. -/
def Ran (r : PUnit × MemSt nD τ sig (Elt F)) : Prop :=
  (∀ c : Dev nD,
      (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7))
    ∧ ∀ j : Fin 8, (net.blk j).view.read (Elt F) (r.2.mem ((c : Thread nD τ).loc main_v1_3)) = shard net m j)
  ∧ r.2.sem = fun _ => 0

theorem ran_of {s : MemSt nD τ sig (Elt F)}
    (h : ∀ c : Dev nD, (∀ w, left_open 0 c w = false ∨ (cfg0.win w).isOut = false → s.mem ((cfg0.win w).arr.view.loc (c : Thread nD τ)) = (dats m 0 c).arrAt w cfg0.N) ∧ EndRead net m c s)
    (hz : s.sem = fun _ => 0) : Ran m (⟨⟩, s) := by
  have hin (c : Dev nD) (w) (hw : (cfg0.win w).isOut = false) : s.mem ((cfg0.win w).arr.view.loc (c : Thread nD τ)) = m ((cfg0.win w).arr.view.loc (c : Thread nD τ)) :=
    ((h c).1 w (Or.inr hw)).trans ((dats m 0 c).arrAt_in w hw _)
  exact ⟨fun c => ⟨⟨hin c 0 rfl, hin c 1 rfl, hin c 2 rfl, hin c 3 rfl, hin c 4 rfl, hin c 5 rfl, hin c 6 rfl, (h c).2.1⟩, (h c).2.2⟩, hz⟩

/-- The scan kernel on the eight devices, for any float values: it terminates from any memory, and ends as `Ran` says. -/
theorem run_main : θ_run (defs (F := F)) (onTc (τ := τ) (main (F := F))) ⟨m, fun _ => 0, ρ⟩ (Ran m) :=
  run_open cellOf_inj (dats m) left_open winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_gather net m _ fun c => Entails.of_eq (unscopedRest0_eq ..)) (fun _ _ => rfl) (start_intro net m) (phi_start m) (phi_end m) (end_read net m)
    (fun _ h hs => ran_of m h (sem_eq_zero_of_scoped (by decide) hs))

end Cert.ScanDown

end
-- ==== Proof.ScanDown.Agree.lean ====
/-
The gather of w_down that the scan kernel carries, against its reference: each device ends with the whole weight.
-/
module

public import proofs.«01_k».proof.Defs
public import proofs.«01_k».proof.Proof.Rows
public import proofs.«01_k».proof.Proof.ScanDown.Run
public import proofs.«01_k».proof.Proof.Gen.ScanDownKernel
public import proofs.«01_k».proof.Proof.Gen.ScanDownReferenceIdeal.Run

@[expose] public section

noncomputable section

namespace Cert.ScanDown

open Cert.Gather Idealize.ShloMosaic Idealize.ShloMosaic.TcCoe Idealize.SL.Sem

/-- The reference's result at an index. -/
theorem gathered_eq (w : ScanDownReferenceIdeal.S5632x2048.Idx → EReal) (j : ScanDownReferenceIdeal.S8x704x2048.Idx) :
    shapeCast ScanDownReferenceIdeal.S8x704x2048 w ScanDownReferenceIdeal.Gen.shapeCasts_S5632x2048_S8x704x2048 j = byRows (R := 704) (n := 5632) rfl w j := by
  pointwise [byRows]

theorem algebraic : @algebraic_ScanDownKernelIdeal_ScanDownReferenceIdeal Cert.ScanDownKernelIdeal.Gen.facts Cert.ScanDownReferenceIdeal.Gen.facts := by
  intro m g m' g' _ hin
  refine ⟨byRows (R := 704) (n := 5632) rfl (m' ((0 : Dev ScanDownReferenceIdeal.nD).tc.loc ScanDownReferenceIdeal.main_arg7)), ?_,
    (θ_run _ _ _).mono (fun _ h => ⟨(h 0).1.trans (funext fun j => gathered_eq _ j), (h 0).2⟩) (Cert.ScanDownReferenceIdeal.Value.run (F := Ideal) m' g')⟩
  refine (θ_run _ _ _).mono (fun r h c => ?_) (run_main (F := Ideal) m g)
  exact ⟨byRows_of_blocks net rfl _ (by decide) _ (fun d => (hin d).2.2.2.2.2.2.2) _ (h.1 c).2 _ fun _ => rfl, (h.1 c).1⟩

/-- The kernel over the extended reals terminates with its arguments unchanged and every counter at zero. -/
theorem frame_ideal : @quiescent_ScanDownKernelIdeal Cert.ScanDownKernelIdeal.Gen.facts := fun m g _ =>
  (θ_run _ _ _).mono (fun _ h => ⟨fun c => (h.1 c).1, h.2⟩) (run_main (F := Ideal) m g)

attribute [local instance] Cert.ScanDownKernel.Gen.facts Cert.ScanDownKernelIdeal.Gen.facts in
/-- The two printed programs have the same kernel body. -/
theorem bodies_eq : ScanDownKernel.defs₀ (F := Bits) = ScanDownKernelIdeal.defs₀ (F := Bits) := by
  unfold ScanDownKernel.defs₀ ScanDownKernelIdeal.defs₀
  refine congrArg Defs.onTc (funext fun ℓ => funext fun x => ?_)
  match ℓ, x with
  | 0, (t, s) => rfl

attribute [local instance] Cert.ScanDownKernel.Gen.facts Cert.ScanDownKernelIdeal.Gen.facts in
/-- So they have the same table of bodies. -/
theorem tables_eq : ScanDownKernel.defs (F := Bits) = ScanDownKernelIdeal.defs (F := Bits) :=
  congrArg (Pipeline.defs (ScanDownKernelIdeal.pcfgs (F := Bits))) bodies_eq

/-- The kernel on bits does too: its program is the same text. -/
theorem frame_bits : @quiescent_ScanDownKernel Cert.ScanDownKernel.Gen.facts := fun m g _ => by
  show θ_run (ScanDownKernel.defs (F := Bits)) _ _ _
  rw [tables_eq]
  exact (θ_run _ _ _).mono (fun _ h => ⟨fun c => (h.1 c).1, h.2⟩) (run_main (F := Bits) m g)

/-- The reference terminates with its arguments unchanged; it has no counter. -/
theorem frame_reference : @quiescent_ScanDownReferenceIdeal Cert.ScanDownReferenceIdeal.Gen.facts := fun m g _ =>
  (θ_run _ _ _).mono (fun r h => ⟨fun c => (h c).2, sem_eq_zero_of_no_sems (by decide) r.2⟩) (Cert.ScanDownReferenceIdeal.Value.run (F := Ideal) m g)

end Cert.ScanDown

end
-- ==== Proof.BackUp.Names.lean ====
/-
The names the backward scan kernel that scatters w_up's gradient uses for the scatter: its arrays, its semaphores, the pieces it
addresses and the devices it sends to.
-/
module

public import proofs.«01_k».proof.Proof.ScatterStages
public import proofs.«01_k».proof.Proof.Gen.BackUpKernelIdeal
public import proofs.«01_k».proof.Proof.Gen.BackUpKernelIdeal.Launch

@[expose] public section

noncomputable section

namespace Cert.BackUp

open Cert.BackUpKernelIdeal Cert.BackUpKernelIdeal.Gen Cert.Scatter Cert.Gather Cert.Wires
open Idealize.ShloMosaic Idealize.ShloMosaic.TcCoe

/-- The program has no loop that is not counted. -/
abbrev noVariants : Variants := Variants.none

/-- Semaphores 34 to 40 count copies gone, 41 to 47 copies come, 48 the local copy. -/
def semOf : CellId → DmaSem sig
  | .inl k => ⟨34 + k.val, by have := k.isLt; show 34 + k.val < 49; omega⟩
  | .inr (.inl k) => ⟨41 + k.val, by have := k.isLt; show 41 + k.val < 49; omega⟩
  | .inr (.inr ()) => ⟨48, by decide⟩

theorem semOf_inj : Function.Injective semOf := by
  intro i j h
  revert i j
  decide

/-- The gradient: each device's block of it is sent to that device. -/
abbrev srcStack : Stack sig 2048 2048 1408 where
  arr := Memref.whole main_arg10
  first := 0
  fits := by decide
  squeezes := squeezes_S1x2048x1408_S2048x1408
  arr_set := View.set_whole _

/-- The pieces received. -/
abbrev dstStack : Stack sig 2048 2048 1408 where
  arr := Memref.whole main_v1_7
  first := 0
  fits := by decide
  squeezes := squeezes_S1x2048x1408_S2048x1408
  arr_set := View.set_whole _

/-- The scatter fused into the backward scan. -/
abbrev net : Scat sig 2048 2048 1408 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch4.slice (Rect.unit (s := S7) ![k.val] S1.size h)).squeeze S_ squeezes_S1_S_).sem = net.sem (gone k) := by
  revert h; revert k; decide
theorem come_sem (k : Fin 7) (h) : ((cc0_scratch5.slice (Rect.unit (s := S7) ![k.val] S1.size h)).squeeze S_ squeezes_S1_S_).sem = net.sem (come k) := by
  revert h; revert k; decide
theorem loc_sem : cc0_scratch6.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 4 := by revert t; decide

end Cert.BackUp

end
-- ==== Proof.BackUp.Walk.lean ====
/-
One grid point of the backward scan kernel that scatters w_up's gradient: what its body does to what a device holds.

At the first point the body starts the scatter, at the last it finishes it. At every point it scans the chunks of its block,
within the buffers it was given; of their contents nothing is said.
-/
module

public import proofs.«01_k».proof.Proof.BackUp.Names
public import proofs.«01_k».proof.Proof.Keeps
public import proofs.«01_k».proof.Proof.Gen.BackUpKernelIdeal.Skeleton
public import proofs.«01_k».proof.Proof.Gen.BackUpKernelIdeal.Points

@[expose] public section

noncomputable section

namespace Cert.BackUp

open Cert.BackUpKernelIdeal Cert.BackUpKernelIdeal.Gen Cert.Scatter Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)
  (c : Dev nD)
  (M1 : Memref sig .tc .vmem S4352x128 .f32) (h1 : M1.IsWhole) (M2 : Memref sig .tc .vmem S4352x128 .f32) (h2 : M2.IsWhole)
  (M3 : Memref sig .tc .vmem S4352x512 .bf16) (h3 : M3.IsWhole) (M4 : Memref sig .tc .vmem S4352x512 .bf16) (h4 : M4.IsWhole)
  (M5 : Memref sig .tc .vmem S1x512 .f32) (h5 : M5.IsWhole) (M6 : Memref sig .tc .vmem S1x512 .f32) (h6 : M6.IsWhole)
  (M7 : Memref sig .tc .vmem S1x128x512 .f32) (h7 : M7.IsWhole) (M8 : Memref sig .tc .vmem S1x128x512 .f32) (h8 : M8.IsWhole)
  (M9 : Memref sig .tc .vmem S1x512x128 .f32) (h9 : M9.IsWhole) (M10 : Memref sig .tc .vmem S1x512x128 .f32) (h10 : M10.IsWhole)
  (M12 : Memref sig .tc .vmem S4352x128 .f32) (h12 : M12.IsWhole) (M13 : Memref sig .tc .vmem S8x512 .f32) (h13 : M13.IsWhole)
  (M14 : Memref sig .tc .vmem S8x512 .f32) (h14 : M14.IsWhole) (M15 : Memref sig .tc .vmem S1x128x512 .f32) (h15 : M15.IsWhole)
  (M16 : Memref sig .tc .vmem S1x128x512 .f32) (h16 : M16.IsWhole) (M17 : Memref sig .tc .vmem S1x128x512 .f32) (h17 : M17.IsWhole)
  (M18 : Memref sig .tc .vmem S1x128x512 .f32) (h18 : M18.IsWhole) (M20 : Memref sig .tc .vmem S256x512 .f32) (h20 : M20.IsWhole)
  (M21 : Memref sig .tc .vmem S256x512 .f32) (h21 : M21.IsWhole) (M22 : Memref sig .tc .vmem S256x512 .f32) (h22 : M22.IsWhole)
  (M23 : Memref sig .tc .vmem S256x512 .f32) (h23 : M23.IsWhole)

/-- The buffers the scan computes in, at some contents. -/
abbrev bufs : sProp 𝕄 :=
  iprop((some_of (Elt F) c M1 ∗ some_of (Elt F) c M2 ∗ some_of (Elt F) c M3 ∗ some_of (Elt F) c M4 ∗ some_of (Elt F) c M5 ∗ some_of (Elt F) c M6
      ∗ some_of (Elt F) c M7 ∗ some_of (Elt F) c M8 ∗ some_of (Elt F) c M9 ∗ some_of (Elt F) c M10 ∗ some_of (Elt F) c M12 ∗ some_of (Elt F) c M13
      ∗ some_of (Elt F) c M14 ∗ some_of (Elt F) c M15 ∗ some_of (Elt F) c M16 ∗ some_of (Elt F) c M17 ∗ some_of (Elt F) c M18)
    ∗ some_of (Elt F) c M20 ∗ some_of (Elt F) c M21 ∗ some_of (Elt F) c M22 ∗ some_of (Elt F) c M23)

/-- Eight rows of a chunk. -/
theorem rows_keep (i : grid0.Coords) (v65 v68 v180 v183 v187 v189 v193 v195 v199 v201 x y k1 a1 a2) (k) (a) :
    Keeps c (defs₀ (F := F)) noVariants (bufs (F := F) c M1 M2 M3 M4 M5 M6 M7 M8 M9 M10 M12 M13 M14 M15 M16 M17 M18 M20 M21 M22 M23)
      (k0_t2_body (F := F) i M1 h1 M2 h2 M3 h3 M4 h4 M5 h5 M6 h6 M7 h7 M8 h8 M9 h9 M10 h10
        (Memref.whole main_arg10) (Memref.isWhole_whole _) M12 h12 M13 h13 M14 h14 M15 h15 M16 h16 M17 h17 M18 h18
        (Memref.whole main_v1_7) (Memref.isWhole_whole _) M20 h20 M21 h21 M22 h22 M23 h23 cc0_scratch4 cc0_scratch5 cc0_scratch6
        v65 v68 v180 v183 v187 v189 v193 v195 v199 v201 x y k1 a1 a2 k a) := by
  unfold k0_t2_body
  simp only [k0_part3_eq_skeleton, k0_part3_skel, Prog.lift, Prog.bind_op, Prog.bind_ret, Prog.pure_eq_ret]
  refine keeps_load _ _ _ fun _ => keeps_load _ _ _ fun _ => ?_
  refine keeps_load _ _ _ fun _ => keeps_store _ _ _ (keeps_load _ _ _ fun _ => keeps_store _ _ _ ?_)
  refine keeps_load _ _ _ fun _ => keeps_load _ _ _ fun _ => keeps_ret _ _ _ _

/-- A chunk. -/
theorem chunk_keep (i : grid0.Coords) (v59 v62 v65 v68 v180 v183 v187 v189 v193 v195 v199 v201) (k) (a) :
    Keeps c (defs₀ (F := F)) noVariants (bufs (F := F) c M1 M2 M3 M4 M5 M6 M7 M8 M9 M10 M12 M13 M14 M15 M16 M17 M18 M20 M21 M22 M23)
      (k0_t1_body (F := F) i M1 h1 M2 h2 M3 h3 M4 h4 M5 h5 M6 h6 M7 h7 M8 h8 M9 h9 M10 h10
        (Memref.whole main_arg10) (Memref.isWhole_whole _) M12 h12 M13 h13 M14 h14 M15 h15 M16 h16 M17 h17 M18 h18
        (Memref.whole main_v1_7) (Memref.isWhole_whole _) M20 h20 M21 h21 M22 h22 M23 h23 cc0_scratch4 cc0_scratch5 cc0_scratch6
        v59 v62 v65 v68 v180 v183 v187 v189 v193 v195 v199 v201 k a) := by
  unfold k0_t1_body
  simp only [k0_part4_eq_skeleton, k0_part4_skel, k0_part5_eq_skeleton, k0_part5_skel, Prog.lift, Prog.bind_op, Prog.bind_ret, Prog.pure_eq_ret, bind_assoc]
  refine keeps_load _ _ _ fun _ => keeps_load _ _ _ fun _ => keeps_store _ _ _ (keeps_load _ _ _ fun _ => keeps_store _ _ _ ?_)
  refine keeps_load _ _ _ fun _ => keeps_load _ _ _ fun _ => ?_
  refine keeps_load _ _ _ fun _ => keeps_store _ _ _ (keeps_load _ _ _ fun _ => keeps_store _ _ _ ?_)
  refine keeps_loop _ _ _ (fun k a => rows_keep c M1 h1 M2 h2 M3 h3 M4 h4 M5 h5 M6 h6 M7 h7 M8 h8 M9 h9 M10 h10 M12 h12 M13 h13 M14 h14 M15 h15 M16 h16 M17 h17 M18 h18 M20 h20 M21 h21 M22 h22 M23 h23 i _ _ _ _ _ _ _ _ _ _ _ _ _ _ _ k a) fun _ => ?_
  refine keeps_load _ _ _ fun _ => keeps_load _ _ _ fun _ => keeps_store _ _ _ (keeps_load _ _ _ fun _ => keeps_load _ _ _ fun _ => keeps_store _ _ _ ?_)
  refine keeps_load _ _ _ fun _ => keeps_load _ _ _ fun _ => keeps_load _ _ _ fun _ => keeps_store _ _ _ (keeps_load _ _ _ fun _ => ?_)
  refine keeps_load _ _ _ fun _ => keeps_load _ _ _ fun _ => keeps_store _ _ _ (keeps_load _ _ _ fun _ => keeps_load _ _ _ fun _ => keeps_store _ _ _ ?_)
  refine keeps_load _ _ _ fun _ => keeps_load _ _ _ fun _ => keeps_store _ _ _ (keeps_load _ _ _ fun _ => keeps_load _ _ _ fun _ => keeps_store _ _ _ (keeps_ret _ _ _ _))

set_option maxRecDepth 65536 in
/-- One grid point, whichever it is: the scatter goes on, and the buffers are still held. -/
theorem walk (t : Fin cfg0.N) (Q : PUnit → sProp 𝕄) :
    iprop(holds net m 4 t.val c ∗ bufs (F := F) c M1 M2 M3 M4 M5 M6 M7 M8 M9 M10 M12 M13 M14 M15 M16 M17 M18 M20 M21 M22 M23
        ∗ ((holds net m 4 (t.val + 1) c ∗ bufs (F := F) c M1 M2 M3 M4 M5 M6 M7 M8 M9 M10 M12 M13 M14 M15 M16 M17 M18 M20 M21 M22 M23) -∗ Q ⟨⟩))
      ⊢ wp frame (wpE (defs₀ (F := F)) noVariants (th c) none) Set.univ
        (cc0_s5_head_bwd (F := F) (grid0.coords t) M1 h1 M2 h2 M3 h3 M4 h4 M5 h5 M6 h6 M7 h7 M8 h8 M9 h9 M10 h10
          (Memref.whole main_arg10) (Memref.isWhole_whole _) M12 h12 M13 h13 M14 h14 M15 h15 M16 h16 M17 h17 M18 h18
          (Memref.whole main_v1_7) (Memref.isWhole_whole _) M20 h20 M21 h21 M22 h22 M23 h23 cc0_scratch4 cc0_scratch5 cc0_scratch6) Q := by
  have ht : t.val < 4 := t.isLt
  let B : sProp 𝕄 := bufs (F := F) c M1 M2 M3 M4 M5 M6 M7 M8 M9 M10 M12 M13 M14 M15 M16 M17 M18 M20 M21 M22 M23
  simp only [cc0_s5_head_bwd_eq_skeleton, cc0_s5_head_bwd_skel,
    k0_part1_eq_skeleton, k0_part1_skel, k0_part2_eq_skeleton, k0_part2_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  simp only [Prog.bind_op, Prog.bind_ret]
  iintro ⟨Hm, HB, Hk⟩
  iapply (load_within c M7 (defs₀ (F := F)) noVariants B) $$ HB; iintro %v7 HB
  iapply (load_within c M8 (defs₀ (F := F)) noVariants B) $$ HB; iintro %v8 HB
  iapply (load_within c M9 (defs₀ (F := F)) noVariants B) $$ HB; iintro %v9 HB
  iapply (load_within c M10 (defs₀ (F := F)) noVariants B) $$ HB; iintro %v10 HB
  iapply (load_within c M6 (defs₀ (F := F)) noVariants B) $$ HB; iintro %v6 HB
  iapply (load_within c M5 (defs₀ (F := F)) noVariants B) $$ HB; iintro %v5 HB
  iapply (load_within c M13 (defs₀ (F := F)) noVariants B) $$ HB; iintro %v13 HB
  iapply (store_within c M13 (defs₀ (F := F)) noVariants B) $$ HB; iintro HB
  iapply (load_within c M14 (defs₀ (F := F)) noVariants B) $$ HB; iintro %v14 HB
  iapply (store_within c M14 (defs₀ (F := F)) noVariants B) $$ HB; iintro HB
  iapply (load_within c M15 (defs₀ (F := F)) noVariants B) $$ HB; iintro %v15 HB
  iapply (store_within c M15 (defs₀ (F := F)) noVariants B) $$ HB; iintro HB
  iapply (load_within c M16 (defs₀ (F := F)) noVariants B) $$ HB; iintro %v16 HB
  iapply (store_within c M16 (defs₀ (F := F)) noVariants B) $$ HB; iintro HB
  iapply (load_within c M17 (defs₀ (F := F)) noVariants B) $$ HB; iintro %v17 HB
  iapply (store_within c M17 (defs₀ (F := F)) noVariants B) $$ HB; iintro HB
  iapply (load_within c M18 (defs₀ (F := F)) noVariants B) $$ HB; iintro %v18 HB
  iapply (store_within c M18 (defs₀ (F := F)) noVariants B) $$ HB; iintro HB
  iapply (loop_within (defs₀ (F := F)) noVariants B fun k a => chunk_keep c M1 h1 M2 h2 M3 h3 M4 h4 M5 h5 M6 h6 M7 h7 M8 h8 M9 h9 M10 h10 M12 h12 M13 h13 M14 h14 M15 h15 M16 h16 M17 h17 M18 h18 M20 h20 M21 h21 M22 h22 M23 h23
    (grid0.coords t) _ _ _ _ _ _ _ _ _ _ _ _ k a) $$ HB
  iintro %a HB
  by_cases g2 : k0_cond2 (grid0.coords t) = 1#1
  · rw [holds_end _ _ _ _ (Nat.succ_ne_zero _) ((finishes t).mp g2)]
    simp only [dif_pos g2, Prog.bind_op, Prog.bind_ret]
    iapply (scatter_finish net m (defs₀ (F := F)) noVariants c loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    rw [wp_ret]; imodintro
    iapply Hk
    isplitl [Hm] <;> iassumption
  · rw [holds_mid _ _ _ _ (Nat.succ_ne_zero _) (not_not.mp fun h => g2 ((finishes t).mpr h))]
    simp only [dif_neg g2, Prog.bind_op, Prog.bind_ret]
    rw [wp_ret]; imodintro
    iapply Hk
    isplitl [Hm] <;> iassumption

end Cert.BackUp

end
-- ==== Proof.BackUp.Run.lean ====
/-
The run of the backward scan kernel that scatters w_up's gradient on the eight devices, for any float values: what each device holds from grid point to grid
point, the launch, and the arrays at the end. Nothing is said of what the scan leaves in its own results.
-/
module

public import proofs.«01_k».proof.Proof.BackUp.Walk
public import proofs.«01_k».proof.Proof.Begin
public import proofs.«01_k».proof.Proof.Gen.BackUpKernelIdeal.Frame

@[expose] public section

noncomputable section

namespace Cert.BackUp

open Cert.BackUpKernelIdeal Cert.BackUpKernelIdeal.Gen Cert.Scatter Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the scatter, and the scan's scratch at some contents. -/
def phi (n : ℕ) (c : Dev nD) : sProp 𝕄 :=
  iprop(stateAt net m 4 n c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

/-- The proof data: what a window's buffers hold is left open, so the contents named here are not used. -/
def dats (_ : Fin 1) (c : Dev nD) : Dat τ (Elt F) Unit ℕ (UU sig) ℕ cfg0 c where
  A w := m ((cfg0.win w).arr.view.loc (c : Thread nD τ))
  after _ _ := fun _ => Classical.choice inferInstance
  Φ t := phi m t.val c
  q _ := fullShare
  owed t := dues net.wires (owedAt 4 t.val) c

/-- Every window is left open. -/
abbrev left_open (_ : Fin 1) (c : Dev nD) : Fin cfg0.W → Bool := fun _ => true

set_option maxHeartbeats 2000000 in
/-- The body at each grid point. -/
theorem body_obligation (c : Dev nD) : BodyObligationLoose (dats m 0 c) (defs₀ (F := F)) noVariants () Set.univ (left_open 0 c) := fun t => by
  have e := bigSep_W0 (fun w => (some_of (Elt F) c ((cfg0.win w).stage (cfg0.slots t w)) : sProp 𝕄))
  show iprop(phi m t.val c ∗ (dats m 0 c).owesAt () t.castSucc ∗ bigSep Finset.univ fun w => some_of (Elt F) c ((cfg0.win w).stage (cfg0.slots t w)))
    ⊢ wp frame (wpE (defs₀ (F := F)) noVariants (th c) none) Set.univ (bodyAt0 t) fun _ =>
      iprop(phi m (t.val + 1) c ∗ (dats m 0 c).owesAt () t.succ ∗ bigSep Finset.univ fun w => some_of (Elt F) c ((cfg0.win w).stage (cfg0.slots t w)))
  rw [e]
  unfold phi
  iintro ⟨⟨Hs, HA, HB, HC, HD⟩, HO, HW⟩
  ihave HA := (Entails.of_eq (some_whole (Val := Elt F) c cc0_scratch0).symm) $$ HA
  ihave HB := (Entails.of_eq (some_whole (Val := Elt F) c cc0_scratch1).symm) $$ HB
  ihave HC := (Entails.of_eq (some_whole (Val := Elt F) c cc0_scratch2).symm) $$ HC
  ihave HD := (Entails.of_eq (some_whole (Val := Elt F) c cc0_scratch3).symm) $$ HD
  ihave HO := (owes_at (dats m 0 c) t.castSucc) $$ HO
  iapply (walk m c (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _
    (Memref.whole cc0_scratch0) (Memref.isWhole_whole _) (Memref.whole cc0_scratch1) (Memref.isWhole_whole _) (Memref.whole cc0_scratch2) (Memref.isWhole_whole _) (Memref.whole cc0_scratch3) (Memref.isWhole_whole _) t)
  unfold holds holding
  isplitl [Hs HO]
  · isplitl [Hs]; · iexact Hs
    iexact HO
  isplitl [HA HB HC HD HW]
  · isplitl [HW]; · iexact HW
    isplitl [HA]; · iexact HA
    isplitl [HB]; · iexact HB
    isplitl [HC]; · iexact HC
    iexact HD
  iintro ⟨⟨Hs, HO⟩, HW, HA, HB, HC, HD⟩
  ihave HA := (Entails.of_eq (some_whole (Val := Elt F) c cc0_scratch0)) $$ HA
  ihave HB := (Entails.of_eq (some_whole (Val := Elt F) c cc0_scratch1)) $$ HB
  ihave HC := (Entails.of_eq (some_whole (Val := Elt F) c cc0_scratch2)) $$ HC
  ihave HD := (Entails.of_eq (some_whole (Val := Elt F) c cc0_scratch3)) $$ HD
  isplitl [Hs HA HB HC HD]
  · isplitl [Hs]; · iexact Hs
    isplitl [HA]; · iexact HA
    isplitl [HB]; · iexact HB
    isplitl [HC]; · iexact HC
    iexact HD
  isplitl [HO]; · iapply (at_owes (dats m 0 c) t.succ fun _ => trivial); iexact HO
  iexact HW

/-! ## The launch -/

theorem phi_start (c : Dev nD) : iprop(before net m c ∗ Pipeline.scopedRest spec0 c) ⊢ (phi m 0 c : sProp 𝕄) := by
  rw [scopedRest0_eq]; unfold phi
  rw [show stateAt net m 4 0 c = before net m c from if_pos rfl]

theorem phi_end (c : Dev nD) : (phi m 4 c : sProp 𝕄) ⊢ iprop(endOf net m c
    ∗ zeros (Elt F) net.wires c ∗ Pipeline.scopedRest spec0 c) := by
  rw [scopedRest0_eq]; unfold phi
  rw [show stateAt net m 4 4 c = after net m c from (if_neg (by decide)).trans (if_neg (by decide))]
  unfold after
  iintro ⟨⟨H, Hz⟩, Hr⟩
  isplitl [H]; · iexact H
  isplitl [Hz] <;> iassumption

/-- What the run says: on every device the inputs are unchanged and piece `k` of the received array is what the device at `c`
    under the mask `k` had for `c`; and every counter is zero. -/
def Ran (r : PUnit × MemSt nD τ sig (Elt F)) : Prop :=
  (∀ c : Dev nD,
      (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10))
    ∧ ∀ k : Fin 8, (net.dst.piece k).view.read (Elt F) (r.2.mem ((c : Thread nD τ).loc main_v1_7)) = part net m (c ^^^ k) c)
  ∧ r.2.sem = fun _ => 0

theorem ran_of {s : MemSt nD τ sig (Elt F)}
    (h : ∀ c : Dev nD, (∀ w, left_open 0 c w = false ∨ (cfg0.win w).isOut = false → s.mem ((cfg0.win w).arr.view.loc (c : Thread nD τ)) = (dats m 0 c).arrAt w cfg0.N) ∧ EndRead net m c s)
    (hz : s.sem = fun _ => 0) : Ran m (⟨⟩, s) := by
  have hin (c : Dev nD) (w) (hw : (cfg0.win w).isOut = false) : s.mem ((cfg0.win w).arr.view.loc (c : Thread nD τ)) = m ((cfg0.win w).arr.view.loc (c : Thread nD τ)) :=
    ((h c).1 w (Or.inr hw)).trans ((dats m 0 c).arrAt_in w hw _)
  exact ⟨fun c => ⟨⟨hin c 0 rfl, hin c 1 rfl, hin c 2 rfl, hin c 3 rfl, hin c 4 rfl, hin c 5 rfl, hin c 6 rfl, hin c 7 rfl, hin c 8 rfl, hin c 9 rfl, (h c).2.1⟩, (h c).2.2⟩, hz⟩

/-- The backward scan kernel on the eight devices, for any float values: it terminates from any memory, and ends as `Ran` says. -/
theorem run_main : θ_run (defs (F := F)) (onTc (τ := τ) (main (F := F))) ⟨m, fun _ => 0, ρ⟩ (Ran m) :=
  run_open cellOf_inj (dats m) left_open winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ran_of m h (sem_eq_zero_of_scoped (by decide) hs))

end Cert.BackUp

end
-- ==== Proof.BackUp.Agree.lean ====
/-
The scatter of w_up's gradient that the backward scan kernel carries, against its reference: each device ends with the parts the
others had for it.
-/
module

public import proofs.«01_k».proof.Defs
public import proofs.«01_k».proof.Proof.Sent
public import proofs.«01_k».proof.Proof.BackUp.Run
public import proofs.«01_k».proof.Proof.Gen.BackUpKernel
public import proofs.«01_k».proof.Proof.Gen.BackUpReferenceIdeal.Run

@[expose] public section

noncomputable section

namespace Cert.BackUp

open Cert.Scatter Cert.Gather Idealize.ShloMosaic Idealize.ShloMosaic.TcCoe Idealize.SL.Sem

/-- The received arrays, from the whole arrays sent. -/
abbrev received (D : BackUpReferenceIdeal.S64x2048x1408.Idx → EReal) : BackUpReferenceIdeal.S64x2048x1408.Idx → EReal :=
  sentArray (P := 2048) (R := 2048) 0 (by decide) D

section
open Cert.BackUpReferenceIdeal Cert.BackUpReferenceIdeal.Gen
/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

end

theorem algebraic : @algebraic_BackUpKernelIdeal_BackUpReferenceIdeal Cert.BackUpKernelIdeal.Gen.facts Cert.BackUpReferenceIdeal.Gen.facts := by
  intro m g m' g' _ hin
  refine ⟨received (m' ((0 : Dev BackUpReferenceIdeal.nD).tc.loc BackUpReferenceIdeal.main_arg10)), ?_,
    (θ_run _ _ _).mono (fun _ h => ⟨(h 0).1.trans (sent_whole _ _ _ places), (h 0).2⟩) (Cert.BackUpReferenceIdeal.Value.run (F := Ideal) m' g')⟩
  refine (θ_run _ _ _).mono (fun r h c => ?_) (run_main (F := Ideal) m g)
  exact ⟨block_of_pieces net rfl _ (by decide) _ m (fun d => (hin d).2.2.2.2.2.2.2.2.2.2) c _ (h.1 c).2 _ fun _ => rfl, (h.1 c).1⟩

/-- The kernel over the extended reals terminates with its arguments unchanged and every counter at zero. -/
theorem frame_ideal : @quiescent_BackUpKernelIdeal Cert.BackUpKernelIdeal.Gen.facts := fun m g _ =>
  (θ_run _ _ _).mono (fun _ h => ⟨fun c => (h.1 c).1, h.2⟩) (run_main (F := Ideal) m g)

set_option maxHeartbeats 4000000 in
attribute [local instance] Cert.BackUpKernel.Gen.facts Cert.BackUpKernelIdeal.Gen.facts in
/-- The two printed programs have the same kernel body. -/
theorem bodies_eq : BackUpKernel.defs₀ (F := Bits) = BackUpKernelIdeal.defs₀ (F := Bits) := by
  unfold BackUpKernel.defs₀ BackUpKernelIdeal.defs₀
  refine congrArg Defs.onTc (funext fun ℓ => funext fun x => ?_)
  match ℓ, x with
  | 0, (t, s) => rfl

attribute [local instance] Cert.BackUpKernel.Gen.facts Cert.BackUpKernelIdeal.Gen.facts in
/-- So they have the same table of bodies. -/
theorem tables_eq : BackUpKernel.defs (F := Bits) = BackUpKernelIdeal.defs (F := Bits) :=
  congrArg (Pipeline.defs (BackUpKernelIdeal.pcfgs (F := Bits))) bodies_eq

/-- The kernel on bits does too: its program is the same text. -/
theorem frame_bits : @quiescent_BackUpKernel Cert.BackUpKernel.Gen.facts := fun m g _ => by
  show θ_run (BackUpKernel.defs (F := Bits)) _ _ _
  rw [tables_eq]
  exact (θ_run _ _ _).mono (fun _ h => ⟨fun c => (h.1 c).1, h.2⟩) (run_main (F := Bits) m g)

/-- The reference terminates with its arguments unchanged; it has no counter. -/
theorem frame_reference : @quiescent_BackUpReferenceIdeal Cert.BackUpReferenceIdeal.Gen.facts := fun m g _ =>
  (θ_run _ _ _).mono (fun r h => ⟨fun c => (h c).2, sem_eq_zero_of_no_sems (by decide) r.2⟩) (Cert.BackUpReferenceIdeal.Value.run (F := Ideal) m g)

end Cert.BackUp

end
-- ==== Proof.BackDown.Names.lean ====
/-
The names the backward scan kernel that scatters w_down's gradient uses for the scatter: its arrays, its semaphores, the pieces it
addresses and the devices it sends to.
-/
module

public import proofs.«01_k».proof.Proof.ScatterStages
public import proofs.«01_k».proof.Proof.Gen.BackDownKernelIdeal
public import proofs.«01_k».proof.Proof.Gen.BackDownKernelIdeal.Launch

@[expose] public section

noncomputable section

namespace Cert.BackDown

open Cert.BackDownKernelIdeal Cert.BackDownKernelIdeal.Gen Cert.Scatter Cert.Gather Cert.Wires
open Idealize.ShloMosaic Idealize.ShloMosaic.TcCoe

/-- The program has no loop that is not counted. -/
abbrev noVariants : Variants := Variants.none

/-- Semaphores 34 to 40 count copies gone, 41 to 47 copies come, 48 the local copy. -/
def semOf : CellId → DmaSem sig
  | .inl k => ⟨34 + k.val, by have := k.isLt; show 34 + k.val < 49; omega⟩
  | .inr (.inl k) => ⟨41 + k.val, by have := k.isLt; show 41 + k.val < 49; omega⟩
  | .inr (.inr ()) => ⟨48, by decide⟩

theorem semOf_inj : Function.Injective semOf := by
  intro i j h
  revert i j
  decide

/-- The gradient: each device's block of it is sent to that device. -/
abbrev srcStack : Stack sig 704 704 2048 where
  arr := Memref.whole main_arg10
  first := 0
  fits := by decide
  squeezes := squeezes_S1x704x2048_S704x2048
  arr_set := View.set_whole _

/-- The pieces received. -/
abbrev dstStack : Stack sig 704 704 2048 where
  arr := Memref.whole main_v1_7
  first := 0
  fits := by decide
  squeezes := squeezes_S1x704x2048_S704x2048
  arr_set := View.set_whole _

/-- The scatter fused into the backward scan. -/
abbrev net : Scat sig 704 704 2048 where
  src := srcStack
  dst := dstStack
  sem := semOf
  sem_inj := semOf_inj
  amount := (dstStack.piece 0).view.dmaCredit
  amount_pos := by decide
  src_amount _ _ := rfl
  dst_amount _ _ := rfl

theorem gone_sem (k : Fin 7) (h) : ((cc0_scratch4.slice (Rect.unit (s := S7) ![k.val] S1.size h)).squeeze S_ squeezes_S1_S_).sem = net.sem (gone k) := by
  revert h; revert k; decide
theorem come_sem (k : Fin 7) (h) : ((cc0_scratch5.slice (Rect.unit (s := S7) ![k.val] S1.size h)).squeeze S_ squeezes_S1_S_).sem = net.sem (come k) := by
  revert h; revert k; decide
theorem loc_sem : cc0_scratch6.sem = net.sem loc := by decide

/-! ## The offsets and the devices -/

theorem offs (c : Dev nD) : k0_off1 c = ![c.val, 0, 0] ∧ k0_off2 c = ![(net.wires.peer 0 c).val, 0, 0] ∧ k0_off3 c = ![(net.wires.peer 1 c).val, 0, 0] ∧ k0_off4 c = ![(net.wires.peer 2 c).val, 0, 0]
    ∧ k0_off5 c = ![(net.wires.peer 3 c).val, 0, 0] ∧ k0_off6 c = ![(net.wires.peer 4 c).val, 0, 0] ∧ k0_off7 c = ![(net.wires.peer 5 c).val, 0, 0] ∧ k0_off8 c = ![(net.wires.peer 6 c).val, 0, 0] := by revert c; decide
theorem devs (c : Dev nD) : k0_dev1 c = (net.wires.peer 0 c).val ∧ k0_dev2 c = (net.wires.peer 1 c).val ∧ k0_dev3 c = (net.wires.peer 2 c).val ∧ k0_dev4 c = (net.wires.peer 3 c).val
    ∧ k0_dev5 c = (net.wires.peer 4 c).val ∧ k0_dev6 c = (net.wires.peer 5 c).val ∧ k0_dev7 c = (net.wires.peer 6 c).val := by revert c; decide

/-! ## The grid points at which the scatter starts and at which it finishes -/

theorem starts (t : Fin cfg0.N) : k0_cond1 (grid0.coords t) = 1#1 ↔ t.val = 0 := by revert t; decide
theorem finishes (t : Fin cfg0.N) : k0_cond2 (grid0.coords t) = 1#1 ↔ ¬t.val + 1 < 4 := by revert t; decide

end Cert.BackDown

end
-- ==== Proof.BackDown.Walk.lean ====
/-
One grid point of the backward scan kernel that scatters w_down's gradient: what its body does to what a device holds.

At the first point the body starts the scatter, at the last it finishes it. At every point it scans the chunks of its block,
within the buffers it was given; of their contents nothing is said.
-/
module

public import proofs.«01_k».proof.Proof.BackDown.Names
public import proofs.«01_k».proof.Proof.Keeps
public import proofs.«01_k».proof.Proof.Gen.BackDownKernelIdeal.Skeleton
public import proofs.«01_k».proof.Proof.Gen.BackDownKernelIdeal.Points

@[expose] public section

noncomputable section

namespace Cert.BackDown

open Cert.BackDownKernelIdeal Cert.BackDownKernelIdeal.Gen Cert.Scatter Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem

set_option Elab.async false

variable {F : FTy → Type} [FloatOps F]
local notation "𝕄" => MT 8 τ₇ sig Unit (Elt F) ℕ (UU sig) ℕ

variable (m : (ℓ : Loc 8 τ₇ sig) → Buf (Elt F) ℓ)
  (c : Dev nD)
  (M1 : Memref sig .tc .vmem S4352x128 .f32) (h1 : M1.IsWhole) (M2 : Memref sig .tc .vmem S4352x128 .f32) (h2 : M2.IsWhole)
  (M3 : Memref sig .tc .vmem S4352x512 .bf16) (h3 : M3.IsWhole) (M4 : Memref sig .tc .vmem S4352x512 .bf16) (h4 : M4.IsWhole)
  (M5 : Memref sig .tc .vmem S1x512 .f32) (h5 : M5.IsWhole) (M6 : Memref sig .tc .vmem S1x512 .f32) (h6 : M6.IsWhole)
  (M7 : Memref sig .tc .vmem S1x128x512 .f32) (h7 : M7.IsWhole) (M8 : Memref sig .tc .vmem S1x128x512 .f32) (h8 : M8.IsWhole)
  (M9 : Memref sig .tc .vmem S1x512x128 .f32) (h9 : M9.IsWhole) (M10 : Memref sig .tc .vmem S1x512x128 .f32) (h10 : M10.IsWhole)
  (M12 : Memref sig .tc .vmem S4352x128 .f32) (h12 : M12.IsWhole) (M13 : Memref sig .tc .vmem S8x512 .f32) (h13 : M13.IsWhole)
  (M14 : Memref sig .tc .vmem S8x512 .f32) (h14 : M14.IsWhole) (M15 : Memref sig .tc .vmem S1x128x512 .f32) (h15 : M15.IsWhole)
  (M16 : Memref sig .tc .vmem S1x128x512 .f32) (h16 : M16.IsWhole) (M17 : Memref sig .tc .vmem S1x128x512 .f32) (h17 : M17.IsWhole)
  (M18 : Memref sig .tc .vmem S1x128x512 .f32) (h18 : M18.IsWhole) (M20 : Memref sig .tc .vmem S256x512 .f32) (h20 : M20.IsWhole)
  (M21 : Memref sig .tc .vmem S256x512 .f32) (h21 : M21.IsWhole) (M22 : Memref sig .tc .vmem S256x512 .f32) (h22 : M22.IsWhole)
  (M23 : Memref sig .tc .vmem S256x512 .f32) (h23 : M23.IsWhole)

/-- The buffers the scan computes in, at some contents. -/
abbrev bufs : sProp 𝕄 :=
  iprop((some_of (Elt F) c M1 ∗ some_of (Elt F) c M2 ∗ some_of (Elt F) c M3 ∗ some_of (Elt F) c M4 ∗ some_of (Elt F) c M5 ∗ some_of (Elt F) c M6
      ∗ some_of (Elt F) c M7 ∗ some_of (Elt F) c M8 ∗ some_of (Elt F) c M9 ∗ some_of (Elt F) c M10 ∗ some_of (Elt F) c M12 ∗ some_of (Elt F) c M13
      ∗ some_of (Elt F) c M14 ∗ some_of (Elt F) c M15 ∗ some_of (Elt F) c M16 ∗ some_of (Elt F) c M17 ∗ some_of (Elt F) c M18)
    ∗ some_of (Elt F) c M20 ∗ some_of (Elt F) c M21 ∗ some_of (Elt F) c M22 ∗ some_of (Elt F) c M23)

/-- Eight rows of a chunk. -/
theorem rows_keep (i : grid0.Coords) (v65 v68 v180 v183 v187 v189 v193 v195 v199 v201 x y k1 a1 a2) (k) (a) :
    Keeps c (defs₀ (F := F)) noVariants (bufs (F := F) c M1 M2 M3 M4 M5 M6 M7 M8 M9 M10 M12 M13 M14 M15 M16 M17 M18 M20 M21 M22 M23)
      (k0_t2_body (F := F) i M1 h1 M2 h2 M3 h3 M4 h4 M5 h5 M6 h6 M7 h7 M8 h8 M9 h9 M10 h10
        (Memref.whole main_arg10) (Memref.isWhole_whole _) M12 h12 M13 h13 M14 h14 M15 h15 M16 h16 M17 h17 M18 h18
        (Memref.whole main_v1_7) (Memref.isWhole_whole _) M20 h20 M21 h21 M22 h22 M23 h23 cc0_scratch4 cc0_scratch5 cc0_scratch6
        v65 v68 v180 v183 v187 v189 v193 v195 v199 v201 x y k1 a1 a2 k a) := by
  unfold k0_t2_body
  simp only [k0_part3_eq_skeleton, k0_part3_skel, Prog.lift, Prog.bind_op, Prog.bind_ret, Prog.pure_eq_ret]
  refine keeps_load _ _ _ fun _ => keeps_load _ _ _ fun _ => ?_
  refine keeps_load _ _ _ fun _ => keeps_store _ _ _ (keeps_load _ _ _ fun _ => keeps_store _ _ _ ?_)
  refine keeps_load _ _ _ fun _ => keeps_load _ _ _ fun _ => keeps_ret _ _ _ _

/-- A chunk. -/
theorem chunk_keep (i : grid0.Coords) (v59 v62 v65 v68 v180 v183 v187 v189 v193 v195 v199 v201) (k) (a) :
    Keeps c (defs₀ (F := F)) noVariants (bufs (F := F) c M1 M2 M3 M4 M5 M6 M7 M8 M9 M10 M12 M13 M14 M15 M16 M17 M18 M20 M21 M22 M23)
      (k0_t1_body (F := F) i M1 h1 M2 h2 M3 h3 M4 h4 M5 h5 M6 h6 M7 h7 M8 h8 M9 h9 M10 h10
        (Memref.whole main_arg10) (Memref.isWhole_whole _) M12 h12 M13 h13 M14 h14 M15 h15 M16 h16 M17 h17 M18 h18
        (Memref.whole main_v1_7) (Memref.isWhole_whole _) M20 h20 M21 h21 M22 h22 M23 h23 cc0_scratch4 cc0_scratch5 cc0_scratch6
        v59 v62 v65 v68 v180 v183 v187 v189 v193 v195 v199 v201 k a) := by
  unfold k0_t1_body
  simp only [k0_part4_eq_skeleton, k0_part4_skel, k0_part5_eq_skeleton, k0_part5_skel, Prog.lift, Prog.bind_op, Prog.bind_ret, Prog.pure_eq_ret, bind_assoc]
  refine keeps_load _ _ _ fun _ => keeps_load _ _ _ fun _ => keeps_store _ _ _ (keeps_load _ _ _ fun _ => keeps_store _ _ _ ?_)
  refine keeps_load _ _ _ fun _ => keeps_load _ _ _ fun _ => ?_
  refine keeps_load _ _ _ fun _ => keeps_store _ _ _ (keeps_load _ _ _ fun _ => keeps_store _ _ _ ?_)
  refine keeps_loop _ _ _ (fun k a => rows_keep c M1 h1 M2 h2 M3 h3 M4 h4 M5 h5 M6 h6 M7 h7 M8 h8 M9 h9 M10 h10 M12 h12 M13 h13 M14 h14 M15 h15 M16 h16 M17 h17 M18 h18 M20 h20 M21 h21 M22 h22 M23 h23 i _ _ _ _ _ _ _ _ _ _ _ _ _ _ _ k a) fun _ => ?_
  refine keeps_load _ _ _ fun _ => keeps_load _ _ _ fun _ => keeps_store _ _ _ (keeps_load _ _ _ fun _ => keeps_load _ _ _ fun _ => keeps_store _ _ _ ?_)
  refine keeps_load _ _ _ fun _ => keeps_load _ _ _ fun _ => keeps_load _ _ _ fun _ => keeps_store _ _ _ (keeps_load _ _ _ fun _ => ?_)
  refine keeps_load _ _ _ fun _ => keeps_load _ _ _ fun _ => keeps_store _ _ _ (keeps_load _ _ _ fun _ => keeps_load _ _ _ fun _ => keeps_store _ _ _ ?_)
  refine keeps_load _ _ _ fun _ => keeps_load _ _ _ fun _ => keeps_store _ _ _ (keeps_load _ _ _ fun _ => keeps_load _ _ _ fun _ => keeps_store _ _ _ (keeps_ret _ _ _ _))

set_option maxRecDepth 65536 in
/-- One grid point, whichever it is: the scatter goes on, and the buffers are still held. -/
theorem walk (t : Fin cfg0.N) (Q : PUnit → sProp 𝕄) :
    iprop(holds net m 4 t.val c ∗ bufs (F := F) c M1 M2 M3 M4 M5 M6 M7 M8 M9 M10 M12 M13 M14 M15 M16 M17 M18 M20 M21 M22 M23
        ∗ ((holds net m 4 (t.val + 1) c ∗ bufs (F := F) c M1 M2 M3 M4 M5 M6 M7 M8 M9 M10 M12 M13 M14 M15 M16 M17 M18 M20 M21 M22 M23) -∗ Q ⟨⟩))
      ⊢ wp frame (wpE (defs₀ (F := F)) noVariants (th c) none) Set.univ
        (cc0_s5_head_bwd (F := F) (grid0.coords t) M1 h1 M2 h2 M3 h3 M4 h4 M5 h5 M6 h6 M7 h7 M8 h8 M9 h9 M10 h10
          (Memref.whole main_arg10) (Memref.isWhole_whole _) M12 h12 M13 h13 M14 h14 M15 h15 M16 h16 M17 h17 M18 h18
          (Memref.whole main_v1_7) (Memref.isWhole_whole _) M20 h20 M21 h21 M22 h22 M23 h23 cc0_scratch4 cc0_scratch5 cc0_scratch6) Q := by
  have ht : t.val < 4 := t.isLt
  let B : sProp 𝕄 := bufs (F := F) c M1 M2 M3 M4 M5 M6 M7 M8 M9 M10 M12 M13 M14 M15 M16 M17 M18 M20 M21 M22 M23
  simp only [cc0_s5_head_bwd_eq_skeleton, cc0_s5_head_bwd_skel,
    k0_part1_eq_skeleton, k0_part1_skel, k0_part2_eq_skeleton, k0_part2_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    Prog.lift, Prog.bind_op, Prog.bind_ret, Prog.pure_eq_ret, wp_deviceId]
  refine at_first _ _ _ _ _ _ _ _ c ht (starts t) (fun h => ?_) ?_
  · simp only [Prog.bind_op, Prog.bind_ret]
    iintro Hm Hk
    iapply (scatter_start net m (defs₀ (F := F)) noVariants c rfl (offs c) (devs c) loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    iapply Hk; iexact Hm
  simp only [Prog.bind_op, Prog.bind_ret]
  iintro ⟨Hm, HB, Hk⟩
  iapply (load_within c M7 (defs₀ (F := F)) noVariants B) $$ HB; iintro %v7 HB
  iapply (load_within c M8 (defs₀ (F := F)) noVariants B) $$ HB; iintro %v8 HB
  iapply (load_within c M9 (defs₀ (F := F)) noVariants B) $$ HB; iintro %v9 HB
  iapply (load_within c M10 (defs₀ (F := F)) noVariants B) $$ HB; iintro %v10 HB
  iapply (load_within c M6 (defs₀ (F := F)) noVariants B) $$ HB; iintro %v6 HB
  iapply (load_within c M5 (defs₀ (F := F)) noVariants B) $$ HB; iintro %v5 HB
  iapply (load_within c M13 (defs₀ (F := F)) noVariants B) $$ HB; iintro %v13 HB
  iapply (store_within c M13 (defs₀ (F := F)) noVariants B) $$ HB; iintro HB
  iapply (load_within c M14 (defs₀ (F := F)) noVariants B) $$ HB; iintro %v14 HB
  iapply (store_within c M14 (defs₀ (F := F)) noVariants B) $$ HB; iintro HB
  iapply (load_within c M15 (defs₀ (F := F)) noVariants B) $$ HB; iintro %v15 HB
  iapply (store_within c M15 (defs₀ (F := F)) noVariants B) $$ HB; iintro HB
  iapply (load_within c M16 (defs₀ (F := F)) noVariants B) $$ HB; iintro %v16 HB
  iapply (store_within c M16 (defs₀ (F := F)) noVariants B) $$ HB; iintro HB
  iapply (load_within c M17 (defs₀ (F := F)) noVariants B) $$ HB; iintro %v17 HB
  iapply (store_within c M17 (defs₀ (F := F)) noVariants B) $$ HB; iintro HB
  iapply (load_within c M18 (defs₀ (F := F)) noVariants B) $$ HB; iintro %v18 HB
  iapply (store_within c M18 (defs₀ (F := F)) noVariants B) $$ HB; iintro HB
  iapply (loop_within (defs₀ (F := F)) noVariants B fun k a => chunk_keep c M1 h1 M2 h2 M3 h3 M4 h4 M5 h5 M6 h6 M7 h7 M8 h8 M9 h9 M10 h10 M12 h12 M13 h13 M14 h14 M15 h15 M16 h16 M17 h17 M18 h18 M20 h20 M21 h21 M22 h22 M23 h23
    (grid0.coords t) _ _ _ _ _ _ _ _ _ _ _ _ k a) $$ HB
  iintro %a HB
  by_cases g2 : k0_cond2 (grid0.coords t) = 1#1
  · rw [holds_end _ _ _ _ (Nat.succ_ne_zero _) ((finishes t).mp g2)]
    simp only [dif_pos g2, Prog.bind_op, Prog.bind_ret]
    iapply (scatter_finish net m (defs₀ (F := F)) noVariants c loc_sem
      ⟨gone_sem 0 _, gone_sem 1 _, gone_sem 2 _, gone_sem 3 _, gone_sem 4 _, gone_sem 5 _, gone_sem 6 _⟩
      ⟨come_sem 0 _, come_sem 1 _, come_sem 2 _, come_sem 3 _, come_sem 4 _, come_sem 5 _, come_sem 6 _⟩) $$ Hm; iintro Hm
    rw [wp_ret]; imodintro
    iapply Hk
    isplitl [Hm] <;> iassumption
  · rw [holds_mid _ _ _ _ (Nat.succ_ne_zero _) (not_not.mp fun h => g2 ((finishes t).mpr h))]
    simp only [dif_neg g2, Prog.bind_op, Prog.bind_ret]
    rw [wp_ret]; imodintro
    iapply Hk
    isplitl [Hm] <;> iassumption

end Cert.BackDown

end
-- ==== Proof.BackDown.Run.lean ====
/-
The run of the backward scan kernel that scatters w_down's gradient on the eight devices, for any float values: what each device holds from grid point to grid
point, the launch, and the arrays at the end. Nothing is said of what the scan leaves in its own results.
-/
module

public import proofs.«01_k».proof.Proof.BackDown.Walk
public import proofs.«01_k».proof.Proof.Begin
public import proofs.«01_k».proof.Proof.Gen.BackDownKernelIdeal.Frame

@[expose] public section

noncomputable section

namespace Cert.BackDown

open Cert.BackDownKernelIdeal Cert.BackDownKernelIdeal.Gen Cert.Scatter Cert.Wires Cert.Keeps
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

set_option Elab.async false

variable {F : FTy → Type} [FloatOps F]
local notation "𝕄" => MT nD τ sig Unit (Elt F) ℕ (UU sig) ℕ

variable (m : (ℓ : Loc nD τ sig) → Buf (Elt F) ℓ) (ρ : Dev nD → PrngReg)

/-! ## From grid point to grid point -/

/-- What device `c` holds before grid point `n`: its part of the scatter, and the scan's scratch at some contents. -/
def phi (n : ℕ) (c : Dev nD) : sProp 𝕄 :=
  iprop(stateAt net m 4 n c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ∃ f : Buf (Elt F) ((c : Thread nD τ).loc cc0_scratch3), ((c : Thread nD τ).loc cc0_scratch3) ↦{fullShare} f)

/-- The proof data: what a window's buffers hold is left open, so the contents named here are not used. -/
def dats (_ : Fin 1) (c : Dev nD) : Dat τ (Elt F) Unit ℕ (UU sig) ℕ cfg0 c where
  A w := m ((cfg0.win w).arr.view.loc (c : Thread nD τ))
  after _ _ := fun _ => Classical.choice inferInstance
  Φ t := phi m t.val c
  q _ := fullShare
  owed t := dues net.wires (owedAt 4 t.val) c

/-- Every window is left open. -/
abbrev left_open (_ : Fin 1) (c : Dev nD) : Fin cfg0.W → Bool := fun _ => true

set_option maxHeartbeats 2000000 in
/-- The body at each grid point. -/
theorem body_obligation (c : Dev nD) : BodyObligationLoose (dats m 0 c) (defs₀ (F := F)) noVariants () Set.univ (left_open 0 c) := fun t => by
  have e := bigSep_W0 (fun w => (some_of (Elt F) c ((cfg0.win w).stage (cfg0.slots t w)) : sProp 𝕄))
  show iprop(phi m t.val c ∗ (dats m 0 c).owesAt () t.castSucc ∗ bigSep Finset.univ fun w => some_of (Elt F) c ((cfg0.win w).stage (cfg0.slots t w)))
    ⊢ wp frame (wpE (defs₀ (F := F)) noVariants (th c) none) Set.univ (bodyAt0 t) fun _ =>
      iprop(phi m (t.val + 1) c ∗ (dats m 0 c).owesAt () t.succ ∗ bigSep Finset.univ fun w => some_of (Elt F) c ((cfg0.win w).stage (cfg0.slots t w)))
  rw [e]
  unfold phi
  iintro ⟨⟨Hs, HA, HB, HC, HD⟩, HO, HW⟩
  ihave HA := (Entails.of_eq (some_whole (Val := Elt F) c cc0_scratch0).symm) $$ HA
  ihave HB := (Entails.of_eq (some_whole (Val := Elt F) c cc0_scratch1).symm) $$ HB
  ihave HC := (Entails.of_eq (some_whole (Val := Elt F) c cc0_scratch2).symm) $$ HC
  ihave HD := (Entails.of_eq (some_whole (Val := Elt F) c cc0_scratch3).symm) $$ HD
  ihave HO := (owes_at (dats m 0 c) t.castSucc) $$ HO
  iapply (walk m c (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _
    (Memref.whole cc0_scratch0) (Memref.isWhole_whole _) (Memref.whole cc0_scratch1) (Memref.isWhole_whole _) (Memref.whole cc0_scratch2) (Memref.isWhole_whole _) (Memref.whole cc0_scratch3) (Memref.isWhole_whole _) t)
  unfold holds holding
  isplitl [Hs HO]
  · isplitl [Hs]; · iexact Hs
    iexact HO
  isplitl [HA HB HC HD HW]
  · isplitl [HW]; · iexact HW
    isplitl [HA]; · iexact HA
    isplitl [HB]; · iexact HB
    isplitl [HC]; · iexact HC
    iexact HD
  iintro ⟨⟨Hs, HO⟩, HW, HA, HB, HC, HD⟩
  ihave HA := (Entails.of_eq (some_whole (Val := Elt F) c cc0_scratch0)) $$ HA
  ihave HB := (Entails.of_eq (some_whole (Val := Elt F) c cc0_scratch1)) $$ HB
  ihave HC := (Entails.of_eq (some_whole (Val := Elt F) c cc0_scratch2)) $$ HC
  ihave HD := (Entails.of_eq (some_whole (Val := Elt F) c cc0_scratch3)) $$ HD
  isplitl [Hs HA HB HC HD]
  · isplitl [Hs]; · iexact Hs
    isplitl [HA]; · iexact HA
    isplitl [HB]; · iexact HB
    isplitl [HC]; · iexact HC
    iexact HD
  isplitl [HO]; · iapply (at_owes (dats m 0 c) t.succ fun _ => trivial); iexact HO
  iexact HW

/-! ## The launch -/

theorem phi_start (c : Dev nD) : iprop(before net m c ∗ Pipeline.scopedRest spec0 c) ⊢ (phi m 0 c : sProp 𝕄) := by
  rw [scopedRest0_eq]; unfold phi
  rw [show stateAt net m 4 0 c = before net m c from if_pos rfl]

theorem phi_end (c : Dev nD) : (phi m 4 c : sProp 𝕄) ⊢ iprop(endOf net m c
    ∗ zeros (Elt F) net.wires c ∗ Pipeline.scopedRest spec0 c) := by
  rw [scopedRest0_eq]; unfold phi
  rw [show stateAt net m 4 4 c = after net m c from (if_neg (by decide)).trans (if_neg (by decide))]
  unfold after
  iintro ⟨⟨H, Hz⟩, Hr⟩
  isplitl [H]; · iexact H
  isplitl [Hz] <;> iassumption

/-- What the run says: on every device the inputs are unchanged and piece `k` of the received array is what the device at `c`
    under the mask `k` had for `c`; and every counter is zero. -/
def Ran (r : PUnit × MemSt nD τ sig (Elt F)) : Prop :=
  (∀ c : Dev nD,
      (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10))
    ∧ ∀ k : Fin 8, (net.dst.piece k).view.read (Elt F) (r.2.mem ((c : Thread nD τ).loc main_v1_7)) = part net m (c ^^^ k) c)
  ∧ r.2.sem = fun _ => 0

theorem ran_of {s : MemSt nD τ sig (Elt F)}
    (h : ∀ c : Dev nD, (∀ w, left_open 0 c w = false ∨ (cfg0.win w).isOut = false → s.mem ((cfg0.win w).arr.view.loc (c : Thread nD τ)) = (dats m 0 c).arrAt w cfg0.N) ∧ EndRead net m c s)
    (hz : s.sem = fun _ => 0) : Ran m (⟨⟩, s) := by
  have hin (c : Dev nD) (w) (hw : (cfg0.win w).isOut = false) : s.mem ((cfg0.win w).arr.view.loc (c : Thread nD τ)) = m ((cfg0.win w).arr.view.loc (c : Thread nD τ)) :=
    ((h c).1 w (Or.inr hw)).trans ((dats m 0 c).arrAt_in w hw _)
  exact ⟨fun c => ⟨⟨hin c 0 rfl, hin c 1 rfl, hin c 2 rfl, hin c 3 rfl, hin c 4 rfl, hin c 5 rfl, hin c 6 rfl, hin c 7 rfl, hin c 8 rfl, hin c 9 rfl, (h c).2.1⟩, (h c).2.2⟩, hz⟩

/-- The backward scan kernel on the eight devices, for any float values: it terminates from any memory, and ends as `Ran` says. -/
theorem run_main : θ_run (defs (F := F)) (onTc (τ := τ) (main (F := F))) ⟨m, fun _ => 0, ρ⟩ (Ran m) :=
  run_open cellOf_inj (dats m) left_open winFacts0 net.wires (by decide) m ρ main (fun _ => rfl) (body_obligation m) block_pos0 arr_whole0 stage_whole0
    (fun _ _ => rfl) (fun _ => rfl) (fun _ => rfl) (fun _ _ => ⟨_, rfl⟩) (fun w s => level_other net.wires _ (by fin_cases w <;> fin_cases s <;> decide)) (by decide)
    (launch_scatter net m _ fun c => Entails.of_eq (unscopedRest0_eq ..)) (fun _ _ => rfl) (start_intro net m) (phi_start m) (phi_end m) (end_read net m)
    (fun _ h hs => ran_of m h (sem_eq_zero_of_scoped (by decide) hs))

end Cert.BackDown

end
-- ==== Proof.BackDown.Agree.lean ====
/-
The scatter of w_down's gradient that the backward scan kernel carries, against its reference: each device ends with the parts the
others had for it.
-/
module

public import proofs.«01_k».proof.Defs
public import proofs.«01_k».proof.Proof.Sent
public import proofs.«01_k».proof.Proof.BackDown.Run
public import proofs.«01_k».proof.Proof.Gen.BackDownKernel
public import proofs.«01_k».proof.Proof.Gen.BackDownReferenceIdeal.Run

@[expose] public section

noncomputable section

namespace Cert.BackDown

open Cert.Scatter Cert.Gather Idealize.ShloMosaic Idealize.ShloMosaic.TcCoe Idealize.SL.Sem

/-- The received arrays, from the whole arrays sent. -/
abbrev received (D : BackDownReferenceIdeal.S64x704x2048.Idx → EReal) : BackDownReferenceIdeal.S64x704x2048.Idx → EReal :=
  sentArray (P := 704) (R := 704) 0 (by decide) D

section
open Cert.BackDownReferenceIdeal Cert.BackDownReferenceIdeal.Gen
/-- The list of places the reference gathers from is the order in which the pieces lie. -/
theorem places (b : Fin 64) : ((broadcastInDim S64x1 ![0] bcast_S64_S64x1_0 (select (cmpi .slt ((fun i => lit0 (S64.rowMajor i))) (broadcastInDim S64 ![] bcast_S_S64 (constantI S_ 32 0#32)))
      (addi ((fun i => lit0 (S64.rowMajor i))) (broadcastInDim S64 ![] bcast_S_S64 (constantI S_ 32 64#32))) ((fun i => lit0 (S64.rowMajor i))))) (ix2 b 0)).toInt.toNat = (placeOf b).val := by
  revert b
  decide +kernel

end

theorem algebraic : @algebraic_BackDownKernelIdeal_BackDownReferenceIdeal Cert.BackDownKernelIdeal.Gen.facts Cert.BackDownReferenceIdeal.Gen.facts := by
  intro m g m' g' _ hin
  refine ⟨received (m' ((0 : Dev BackDownReferenceIdeal.nD).tc.loc BackDownReferenceIdeal.main_arg10)), ?_,
    (θ_run _ _ _).mono (fun _ h => ⟨(h 0).1.trans (sent_whole _ _ _ places), (h 0).2⟩) (Cert.BackDownReferenceIdeal.Value.run (F := Ideal) m' g')⟩
  refine (θ_run _ _ _).mono (fun r h c => ?_) (run_main (F := Ideal) m g)
  exact ⟨block_of_pieces net rfl _ (by decide) _ m (fun d => (hin d).2.2.2.2.2.2.2.2.2.2) c _ (h.1 c).2 _ fun _ => rfl, (h.1 c).1⟩

/-- The kernel over the extended reals terminates with its arguments unchanged and every counter at zero. -/
theorem frame_ideal : @quiescent_BackDownKernelIdeal Cert.BackDownKernelIdeal.Gen.facts := fun m g _ =>
  (θ_run _ _ _).mono (fun _ h => ⟨fun c => (h.1 c).1, h.2⟩) (run_main (F := Ideal) m g)

set_option maxHeartbeats 4000000 in
attribute [local instance] Cert.BackDownKernel.Gen.facts Cert.BackDownKernelIdeal.Gen.facts in
/-- The two printed programs have the same kernel body. -/
theorem bodies_eq : BackDownKernel.defs₀ (F := Bits) = BackDownKernelIdeal.defs₀ (F := Bits) := by
  unfold BackDownKernel.defs₀ BackDownKernelIdeal.defs₀
  refine congrArg Defs.onTc (funext fun ℓ => funext fun x => ?_)
  match ℓ, x with
  | 0, (t, s) => rfl

attribute [local instance] Cert.BackDownKernel.Gen.facts Cert.BackDownKernelIdeal.Gen.facts in
/-- So they have the same table of bodies. -/
theorem tables_eq : BackDownKernel.defs (F := Bits) = BackDownKernelIdeal.defs (F := Bits) :=
  congrArg (Pipeline.defs (BackDownKernelIdeal.pcfgs (F := Bits))) bodies_eq

/-- The kernel on bits does too: its program is the same text. -/
theorem frame_bits : @quiescent_BackDownKernel Cert.BackDownKernel.Gen.facts := fun m g _ => by
  show θ_run (BackDownKernel.defs (F := Bits)) _ _ _
  rw [tables_eq]
  exact (θ_run _ _ _).mono (fun _ h => ⟨fun c => (h.1 c).1, h.2⟩) (run_main (F := Bits) m g)

/-- The reference terminates with its arguments unchanged; it has no counter. -/
theorem frame_reference : @quiescent_BackDownReferenceIdeal Cert.BackDownReferenceIdeal.Gen.facts := fun m g _ =>
  (θ_run _ _ _).mono (fun r h => ⟨fun c => (h c).2, sem_eq_zero_of_no_sems (by decide) r.2⟩) (Cert.BackDownReferenceIdeal.Value.run (F := Ideal) m g)

end Cert.BackDown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernel
public import proofs.«01_k».proof.Proof.Gen.InReferenceIdeal
public import proofs.«01_k».proof.Proof.Gen.InReferenceIdeal.Run
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernel
public import proofs.«01_k».proof.Proof.Gen.DownReferenceIdeal
public import proofs.«01_k».proof.Proof.Gen.DownReferenceIdeal.Run
public import proofs.«01_k».proof.Proof.Gen.UpDwKernelIdeal
public import proofs.«01_k».proof.Proof.Gen.UpDwKernelIdeal.Skeleton
public import proofs.«01_k».proof.Proof.Gen.UpDwKernelIdeal.Launch
public import proofs.«01_k».proof.Proof.Gen.UpDwKernelIdeal.Points
public import proofs.«01_k».proof.Proof.Gen.UpDwKernelIdeal.Frame
public import proofs.«01_k».proof.Proof.Gen.UpDwKernel
public import proofs.«01_k».proof.Proof.Gen.UpDwReferenceIdeal
public import proofs.«01_k».proof.Proof.Gen.UpDwReferenceIdeal.Run
public import proofs.«01_k».proof.Proof.Gen.UpDaKernelIdeal
public import proofs.«01_k».proof.Proof.Gen.UpDaKernelIdeal.Skeleton
public import proofs.«01_k».proof.Proof.Gen.UpDaKernelIdeal.Launch
public import proofs.«01_k».proof.Proof.Gen.UpDaKernelIdeal.Points
public import proofs.«01_k».proof.Proof.Gen.UpDaKernelIdeal.Frame
public import proofs.«01_k».proof.Proof.Gen.UpDaKernel
public import proofs.«01_k».proof.Proof.Gen.UpDaReferenceIdeal
public import proofs.«01_k».proof.Proof.Gen.UpDaReferenceIdeal.Run
public import proofs.«01_k».proof.Proof.Gen.DownDwKernelIdeal
public import proofs.«01_k».proof.Proof.Gen.DownDwKernelIdeal.Skeleton
public import proofs.«01_k».proof.Proof.Gen.DownDwKernelIdeal.Launch
public import proofs.«01_k».proof.Proof.Gen.DownDwKernelIdeal.Points
public import proofs.«01_k».proof.Proof.Gen.DownDwKernelIdeal.Frame
public import proofs.«01_k».proof.Proof.Gen.DownDwKernel
public import proofs.«01_k».proof.Proof.Gen.DownDwReferenceIdeal
public import proofs.«01_k».proof.Proof.Gen.DownDwReferenceIdeal.Run
public import proofs.«01_k».proof.Proof.Gen.DownDaKernelIdeal
public import proofs.«01_k».proof.Proof.Gen.DownDaKernelIdeal.Skeleton
public import proofs.«01_k».proof.Proof.Gen.DownDaKernelIdeal.Launch
public import proofs.«01_k».proof.Proof.Gen.DownDaKernelIdeal.Points
public import proofs.«01_k».proof.Proof.Gen.DownDaKernelIdeal.Frame
public import proofs.«01_k».proof.Proof.Gen.DownDaKernel
public import proofs.«01_k».proof.Proof.Gen.DownDaReferenceIdeal
public import proofs.«01_k».proof.Proof.Gen.DownDaReferenceIdeal.Run
public import proofs.«01_k».proof.Proof.Gen.InDwKernelIdeal
public import proofs.«01_k».proof.Proof.Gen.InDwKernelIdeal.Skeleton
public import proofs.«01_k».proof.Proof.Gen.InDwKernelIdeal.Launch
public import proofs.«01_k».proof.Proof.Gen.InDwKernelIdeal.Points
public import proofs.«01_k».proof.Proof.Gen.InDwKernelIdeal.Frame
public import proofs.«01_k».proof.Proof.Gen.InDwKernel
public import proofs.«01_k».proof.Proof.Gen.InDwReferenceIdeal
public import proofs.«01_k».proof.Proof.Gen.InDwReferenceIdeal.Run
public import proofs.«01_k».proof.Proof.Gen.InDaKernelIdeal
public import proofs.«01_k».proof.Proof.Gen.InDaKernelIdeal.Skeleton
public import proofs.«01_k».proof.Proof.Gen.InDaKernelIdeal.Launch
public import proofs.«01_k».proof.Proof.Gen.InDaKernelIdeal.Points
public import proofs.«01_k».proof.Proof.Gen.InDaKernelIdeal.Frame
public import proofs.«01_k».proof.Proof.Gen.InDaKernel
public import proofs.«01_k».proof.Proof.Gen.InDaReferenceIdeal
public import proofs.«01_k».proof.Proof.Gen.InDaReferenceIdeal.Run
public import proofs.«01_k».proof.Proof.Gen.GatherKernelIdeal
public import proofs.«01_k».proof.Proof.Gen.GatherKernelIdeal.Skeleton
public import proofs.«01_k».proof.Proof.Gen.GatherKernelIdeal.Launch
public import proofs.«01_k».proof.Proof.Gen.GatherKernelIdeal.Points
public import proofs.«01_k».proof.Proof.Gen.GatherKernelIdeal.Frame
public import proofs.«01_k».proof.Proof.Gen.GatherKernel
public import proofs.«01_k».proof.Proof.Gen.GatherReferenceIdeal
public import proofs.«01_k».proof.Proof.Gen.GatherReferenceIdeal.Run
public import proofs.«01_k».proof.Proof.Gen.ScatterKernelIdeal
public import proofs.«01_k».proof.Proof.Gen.ScatterKernelIdeal.Skeleton
public import proofs.«01_k».proof.Proof.Gen.ScatterKernelIdeal.Launch
public import proofs.«01_k».proof.Proof.Gen.ScatterKernelIdeal.Points
public import proofs.«01_k».proof.Proof.Gen.ScatterKernelIdeal.Frame
public import proofs.«01_k».proof.Proof.Gen.ScatterKernel
public import proofs.«01_k».proof.Proof.Gen.ScatterReferenceIdeal
public import proofs.«01_k».proof.Proof.Gen.ScatterReferenceIdeal.Run
public import proofs.«01_k».proof.Proof.Gen.AdamInKernelIdeal
public import proofs.«01_k».proof.Proof.Gen.AdamInKernelIdeal.Skeleton
public import proofs.«01_k».proof.Proof.Gen.AdamInKernelIdeal.Launch
public import proofs.«01_k».proof.Proof.Gen.AdamInKernelIdeal.Points
public import proofs.«01_k».proof.Proof.Gen.AdamInKernelIdeal.Frame
public import proofs.«01_k».proof.Proof.Gen.AdamInKernelIdeal.Value
public import proofs.«01_k».proof.Proof.Gen.AdamInKernel
public import proofs.«01_k».proof.Proof.Gen.AdamInReferenceIdeal
public import proofs.«01_k».proof.Proof.Gen.AdamInReferenceIdeal.Run
public import proofs.«01_k».proof.Proof.Gen.ScanUpKernelIdeal
public import proofs.«01_k».proof.Proof.Gen.ScanUpKernelIdeal.Skeleton
public import proofs.«01_k».proof.Proof.Gen.ScanUpKernelIdeal.Launch
public import proofs.«01_k».proof.Proof.Gen.ScanUpKernelIdeal.Points
public import proofs.«01_k».proof.Proof.Gen.ScanUpKernelIdeal.Frame
public import proofs.«01_k».proof.Proof.Gen.ScanUpKernel
public import proofs.«01_k».proof.Proof.Gen.ScanUpReferenceIdeal
public import proofs.«01_k».proof.Proof.Gen.ScanUpReferenceIdeal.Run
public import proofs.«01_k».proof.Proof.Gen.ScanDownKernelIdeal
public import proofs.«01_k».proof.Proof.Gen.ScanDownKernelIdeal.Skeleton
public import proofs.«01_k».proof.Proof.Gen.ScanDownKernelIdeal.Launch
public import proofs.«01_k».proof.Proof.Gen.ScanDownKernelIdeal.Points
public import proofs.«01_k».proof.Proof.Gen.ScanDownKernelIdeal.Frame
public import proofs.«01_k».proof.Proof.Gen.ScanDownKernel
public import proofs.«01_k».proof.Proof.Gen.ScanDownReferenceIdeal
public import proofs.«01_k».proof.Proof.Gen.ScanDownReferenceIdeal.Run
public import proofs.«01_k».proof.Proof.Gen.BackUpKernelIdeal
public import proofs.«01_k».proof.Proof.Gen.BackUpKernelIdeal.Skeleton
public import proofs.«01_k».proof.Proof.Gen.BackUpKernelIdeal.Launch
public import proofs.«01_k».proof.Proof.Gen.BackUpKernelIdeal.Points
public import proofs.«01_k».proof.Proof.Gen.BackUpKernelIdeal.Frame
public import proofs.«01_k».proof.Proof.Gen.BackUpKernel
public import proofs.«01_k».proof.Proof.Gen.BackUpReferenceIdeal
public import proofs.«01_k».proof.Proof.Gen.BackUpReferenceIdeal.Run
public import proofs.«01_k».proof.Proof.Gen.BackDownKernelIdeal
public import proofs.«01_k».proof.Proof.Gen.BackDownKernelIdeal.Skeleton
public import proofs.«01_k».proof.Proof.Gen.BackDownKernelIdeal.Launch
public import proofs.«01_k».proof.Proof.Gen.BackDownKernelIdeal.Points
public import proofs.«01_k».proof.Proof.Gen.BackDownKernelIdeal.Frame
public import proofs.«01_k».proof.Proof.Gen.BackDownKernel
public import proofs.«01_k».proof.Proof.Gen.BackDownReferenceIdeal
public import proofs.«01_k».proof.Proof.Gen.BackDownReferenceIdeal.Run
public import proofs.«01_k».proof.Proof.Agree
public import proofs.«01_k».proof.Proof.In.Agree
public import proofs.«01_k».proof.Proof.Down.Agree
public import proofs.«01_k».proof.Proof.UpDw.Agree
public import proofs.«01_k».proof.Proof.UpDa.Agree
public import proofs.«01_k».proof.Proof.DownDw.Agree
public import proofs.«01_k».proof.Proof.DownDa.Agree
public import proofs.«01_k».proof.Proof.InDw.Agree
public import proofs.«01_k».proof.Proof.InDa.Agree
public import proofs.«01_k».proof.Proof.GatherIn.Agree
public import proofs.«01_k».proof.Proof.ScatterIn.Agree
public import proofs.«01_k».proof.Proof.Adam.In
public import proofs.«01_k».proof.Proof.ScanUp.Agree
public import proofs.«01_k».proof.Proof.ScanDown.Agree
public import proofs.«01_k».proof.Proof.BackUp.Agree
public import proofs.«01_k».proof.Proof.BackDown.Agree

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.DownKernel.Gen.facts, Cert.DownKernelIdeal.Gen.facts, Cert.DownReferenceIdeal.Gen.facts,
  Cert.UpDwKernel.Gen.facts, Cert.UpDwKernelIdeal.Gen.facts, Cert.UpDwReferenceIdeal.Gen.facts,
  Cert.UpDaKernel.Gen.facts, Cert.UpDaKernelIdeal.Gen.facts, Cert.UpDaReferenceIdeal.Gen.facts,
  Cert.DownDwKernel.Gen.facts, Cert.DownDwKernelIdeal.Gen.facts, Cert.DownDwReferenceIdeal.Gen.facts,
  Cert.DownDaKernel.Gen.facts, Cert.DownDaKernelIdeal.Gen.facts, Cert.DownDaReferenceIdeal.Gen.facts,
  Cert.InDwKernel.Gen.facts, Cert.InDwKernelIdeal.Gen.facts, Cert.InDwReferenceIdeal.Gen.facts,
  Cert.InDaKernel.Gen.facts, Cert.InDaKernelIdeal.Gen.facts, Cert.InDaReferenceIdeal.Gen.facts,
  Cert.GatherKernel.Gen.facts, Cert.GatherKernelIdeal.Gen.facts, Cert.GatherReferenceIdeal.Gen.facts,
  Cert.ScatterKernel.Gen.facts, Cert.ScatterKernelIdeal.Gen.facts, Cert.ScatterReferenceIdeal.Gen.facts,
  Cert.AdamInKernel.Gen.facts, Cert.AdamInKernelIdeal.Gen.facts, Cert.AdamInReferenceIdeal.Gen.facts,
  Cert.ScanUpKernel.Gen.facts, Cert.ScanUpKernelIdeal.Gen.facts, Cert.ScanUpReferenceIdeal.Gen.facts,
  Cert.ScanDownKernel.Gen.facts, Cert.ScanDownKernelIdeal.Gen.facts, Cert.ScanDownReferenceIdeal.Gen.facts,
  Cert.BackUpKernel.Gen.facts, Cert.BackUpKernelIdeal.Gen.facts, Cert.BackUpReferenceIdeal.Gen.facts,
  Cert.BackDownKernel.Gen.facts, Cert.BackDownKernelIdeal.Gen.facts, Cert.BackDownReferenceIdeal.Gen.facts,
  Cert.UpGather.frame_bits, Cert.UpGather.frame_ideal, Cert.UpGather.frame_reference,
  Cert.InGather.frame_bits, Cert.InGather.frame_ideal, Cert.InGather.frame_reference,
  Cert.DownGather.frame_bits, Cert.DownGather.frame_ideal, Cert.DownGather.frame_reference,
  Cert.UpDwScatter.frame_bits, Cert.UpDwScatter.frame_ideal, Cert.UpDwScatter.frame_reference,
  Cert.UpDaScatter.frame_bits, Cert.UpDaScatter.frame_ideal, Cert.UpDaScatter.frame_reference,
  Cert.DownDwScatter.frame_bits, Cert.DownDwScatter.frame_ideal, Cert.DownDwScatter.frame_reference,
  Cert.DownDaScatter.frame_bits, Cert.DownDaScatter.frame_ideal, Cert.DownDaScatter.frame_reference,
  Cert.InDwScatter.frame_bits, Cert.InDwScatter.frame_ideal, Cert.InDwScatter.frame_reference,
  Cert.InDaScatter.frame_bits, Cert.InDaScatter.frame_ideal, Cert.InDaScatter.frame_reference,
  Cert.GatherIn.frame_bits, Cert.GatherIn.frame_ideal, Cert.GatherIn.frame_reference,
  Cert.ScatterIn.frame_bits, Cert.ScatterIn.frame_ideal, Cert.ScatterIn.frame_reference,
  Cert.AdamIn.frame_bits, Cert.AdamIn.frame_ideal, Cert.AdamIn.frame_reference,
  Cert.ScanUp.frame_bits, Cert.ScanUp.frame_ideal, Cert.ScanUp.frame_reference,
  Cert.ScanDown.frame_bits, Cert.ScanDown.frame_ideal, Cert.ScanDown.frame_reference,
  Cert.BackUp.frame_bits, Cert.BackUp.frame_ideal, Cert.BackUp.frame_reference,
  Cert.BackDown.frame_bits, Cert.BackDown.frame_ideal, Cert.BackDown.frame_reference,
  trivial, Cert.UpGather.algebraic, trivial, Cert.InGather.algebraic, trivial, Cert.DownGather.algebraic,
  trivial, Cert.UpDwScatter.algebraic, trivial, Cert.UpDaScatter.algebraic,
  trivial, Cert.DownDwScatter.algebraic, trivial, Cert.DownDaScatter.algebraic, trivial, Cert.InDwScatter.algebraic, trivial, Cert.InDaScatter.algebraic,
  trivial, Cert.GatherIn.algebraic,
  trivial, Cert.ScatterIn.algebraic,
  trivial, Cert.AdamIn.algebraic,
  trivial, Cert.ScanUp.algebraic,
  trivial, Cert.ScanDown.algebraic,
  trivial, Cert.BackUp.algebraic,
  trivial, Cert.BackDown.algebraic⟩

end Cert.Proof

end
